-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2 = (fun _ => 1#1)

def Pre_AttnProj (m : (ℓ : Loc Cert.AttnProj.nD Cert.AttnProj.τ Cert.AttnProj.sig) → Buf (Elt Bits) ℓ) : Prop :=
  True

def Pre_AttnProjIdeal (m : (ℓ : Loc Cert.AttnProjIdeal.nD Cert.AttnProjIdeal.τ Cert.AttnProjIdeal.sig) → Buf (Elt Ideal) ℓ) : Prop :=
  True

def Pre_AttnProjRefIdeal (m : (ℓ : Loc Cert.AttnProjRefIdeal.nD Cert.AttnProjRefIdeal.τ Cert.AttnProjRefIdeal.sig) → Buf (Elt Ideal) ℓ) : Prop :=
  True

def Pre_RwkvProj (m : (ℓ : Loc Cert.RwkvProj.nD Cert.RwkvProj.τ Cert.RwkvProj.sig) → Buf (Elt Bits) ℓ) : Prop :=
  True

def Pre_RwkvProjIdeal (m : (ℓ : Loc Cert.RwkvProjIdeal.nD Cert.RwkvProjIdeal.τ Cert.RwkvProjIdeal.sig) → Buf (Elt Ideal) ℓ) : Prop :=
  True

def Pre_RwkvProjRefIdeal (m : (ℓ : Loc Cert.RwkvProjRefIdeal.nD Cert.RwkvProjRefIdeal.τ Cert.RwkvProjRefIdeal.sig) → Buf (Elt Ideal) ℓ) : Prop :=
  True

def Pre_RwkvOut (m : (ℓ : Loc Cert.RwkvOut.nD Cert.RwkvOut.τ Cert.RwkvOut.sig) → Buf (Elt Bits) ℓ) : Prop :=
  True

def Pre_RwkvOutIdeal (m : (ℓ : Loc Cert.RwkvOutIdeal.nD Cert.RwkvOutIdeal.τ Cert.RwkvOutIdeal.sig) → Buf (Elt Ideal) ℓ) : Prop :=
  True

def Pre_RwkvOutRefIdeal (m : (ℓ : Loc Cert.RwkvOutRefIdeal.nD Cert.RwkvOutRefIdeal.τ Cert.RwkvOutRefIdeal.sig) → Buf (Elt Ideal) ℓ) : Prop :=
  True

def Pre_SampleOut (m : (ℓ : Loc Cert.SampleOut.nD Cert.SampleOut.τ Cert.SampleOut.sig) → Buf (Elt Bits) ℓ) : Prop :=
  True

def Pre_SampleOutIdeal (m : (ℓ : Loc Cert.SampleOutIdeal.nD Cert.SampleOutIdeal.τ Cert.SampleOutIdeal.sig) → Buf (Elt Ideal) ℓ) : Prop :=
  True

def Pre_SampleOutRefIdeal (m : (ℓ : Loc Cert.SampleOutRefIdeal.nD Cert.SampleOutRefIdeal.τ Cert.SampleOutRefIdeal.sig) → Buf (Elt Ideal) ℓ) : Prop :=
  True

def Pre_SampleProj (m : (ℓ : Loc Cert.SampleProj.nD Cert.SampleProj.τ Cert.SampleProj.sig) → Buf (Elt Bits) ℓ) : Prop :=
  True

def Pre_SampleProjIdeal (m : (ℓ : Loc Cert.SampleProjIdeal.nD Cert.SampleProjIdeal.τ Cert.SampleProjIdeal.sig) → Buf (Elt Ideal) ℓ) : Prop :=
  True

def Pre_SampleProjRefIdeal (m : (ℓ : Loc Cert.SampleProjRefIdeal.nD Cert.SampleProjRefIdeal.τ Cert.SampleProjRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_AttnProj [hAttnProj : Cert.AttnProj.Facts] : Prop :=
  ∀ (m : (ℓ : Loc Cert.AttnProj.nD Cert.AttnProj.τ Cert.AttnProj.sig) → Buf (Elt Bits) ℓ) (g : Dev Cert.AttnProj.nD → PrngReg), Pre_AttnProj m →
    θ_run (Cert.AttnProj.defs (F := Bits)) (onTc (τ := Cert.AttnProj.τ) (Cert.AttnProj.main (F := Bits))) ⟨m, fun _ => 0, g⟩ (fun r => (∀ c : Dev Cert.AttnProj.nD,
      r.2.mem ((c.tc : Thread Cert.AttnProj.nD Cert.AttnProj.τ).loc Cert.AttnProj.main_arg0) = m ((c.tc : Thread Cert.AttnProj.nD Cert.AttnProj.τ).loc Cert.AttnProj.main_arg0)
      ∧ r.2.mem ((c.tc : Thread Cert.AttnProj.nD Cert.AttnProj.τ).loc Cert.AttnProj.main_arg1) = m ((c.tc : Thread Cert.AttnProj.nD Cert.AttnProj.τ).loc Cert.AttnProj.main_arg1)
      ∧ r.2.mem ((c.tc : Thread Cert.AttnProj.nD Cert.AttnProj.τ).loc Cert.AttnProj.main_arg2) = m ((c.tc : Thread Cert.AttnProj.nD Cert.AttnProj.τ).loc Cert.AttnProj.main_arg2)
      ∧ r.2.mem ((c.tc : Thread Cert.AttnProj.nD Cert.AttnProj.τ).loc Cert.AttnProj.main_arg3) = m ((c.tc : Thread Cert.AttnProj.nD Cert.AttnProj.τ).loc Cert.AttnProj.main_arg3))
      ∧ r.2.sem = fun _ => 0)

def quiescent_AttnProjIdeal [hAttnProjIdeal : Cert.AttnProjIdeal.Facts] : Prop :=
  ∀ (m : (ℓ : Loc Cert.AttnProjIdeal.nD Cert.AttnProjIdeal.τ Cert.AttnProjIdeal.sig) → Buf (Elt Ideal) ℓ) (g : Dev Cert.AttnProjIdeal.nD → PrngReg), Pre_AttnProjIdeal m →
    θ_run (Cert.AttnProjIdeal.defs (F := Ideal)) (onTc (τ := Cert.AttnProjIdeal.τ) (Cert.AttnProjIdeal.main (F := Ideal))) ⟨m, fun _ => 0, g⟩ (fun r => (∀ c : Dev Cert.AttnProjIdeal.nD,
      r.2.mem ((c.tc : Thread Cert.AttnProjIdeal.nD Cert.AttnProjIdeal.τ).loc Cert.AttnProjIdeal.main_arg0) = m ((c.tc : Thread Cert.AttnProjIdeal.nD Cert.AttnProjIdeal.τ).loc Cert.AttnProjIdeal.main_arg0)
      ∧ r.2.mem ((c.tc : Thread Cert.AttnProjIdeal.nD Cert.AttnProjIdeal.τ).loc Cert.AttnProjIdeal.main_arg1) = m ((c.tc : Thread Cert.AttnProjIdeal.nD Cert.AttnProjIdeal.τ).loc Cert.AttnProjIdeal.main_arg1)
      ∧ r.2.mem ((c.tc : Thread Cert.AttnProjIdeal.nD Cert.AttnProjIdeal.τ).loc Cert.AttnProjIdeal.main_arg2) = m ((c.tc : Thread Cert.AttnProjIdeal.nD Cert.AttnProjIdeal.τ).loc Cert.AttnProjIdeal.main_arg2)
      ∧ r.2.mem ((c.tc : Thread Cert.AttnProjIdeal.nD Cert.AttnProjIdeal.τ).loc Cert.AttnProjIdeal.main_arg3) = m ((c.tc : Thread Cert.AttnProjIdeal.nD Cert.AttnProjIdeal.τ).loc Cert.AttnProjIdeal.main_arg3))
      ∧ r.2.sem = fun _ => 0)

def quiescent_AttnProjRefIdeal [hAttnProjRefIdeal : Cert.AttnProjRefIdeal.Facts] : Prop :=
  ∀ (m : (ℓ : Loc Cert.AttnProjRefIdeal.nD Cert.AttnProjRefIdeal.τ Cert.AttnProjRefIdeal.sig) → Buf (Elt Ideal) ℓ) (g : Dev Cert.AttnProjRefIdeal.nD → PrngReg), Pre_AttnProjRefIdeal m →
    θ_run (Cert.AttnProjRefIdeal.defs (F := Ideal)) (onTc (τ := Cert.AttnProjRefIdeal.τ) (Cert.AttnProjRefIdeal.main (F := Ideal))) ⟨m, fun _ => 0, g⟩ (fun r => (∀ c : Dev Cert.AttnProjRefIdeal.nD,
      r.2.mem ((c.tc : Thread Cert.AttnProjRefIdeal.nD Cert.AttnProjRefIdeal.τ).loc Cert.AttnProjRefIdeal.main_arg0) = m ((c.tc : Thread Cert.AttnProjRefIdeal.nD Cert.AttnProjRefIdeal.τ).loc Cert.AttnProjRefIdeal.main_arg0)
      ∧ r.2.mem ((c.tc : Thread Cert.AttnProjRefIdeal.nD Cert.AttnProjRefIdeal.τ).loc Cert.AttnProjRefIdeal.main_arg1) = m ((c.tc : Thread Cert.AttnProjRefIdeal.nD Cert.AttnProjRefIdeal.τ).loc Cert.AttnProjRefIdeal.main_arg1)
      ∧ r.2.mem ((c.tc : Thread Cert.AttnProjRefIdeal.nD Cert.AttnProjRefIdeal.τ).loc Cert.AttnProjRefIdeal.main_arg2) = m ((c.tc : Thread Cert.AttnProjRefIdeal.nD Cert.AttnProjRefIdeal.τ).loc Cert.AttnProjRefIdeal.main_arg2)
      ∧ r.2.mem ((c.tc : Thread Cert.AttnProjRefIdeal.nD Cert.AttnProjRefIdeal.τ).loc Cert.AttnProjRefIdeal.main_arg3) = m ((c.tc : Thread Cert.AttnProjRefIdeal.nD Cert.AttnProjRefIdeal.τ).loc Cert.AttnProjRefIdeal.main_arg3))
      ∧ r.2.sem = fun _ => 0)

def quiescent_RwkvProj [hRwkvProj : Cert.RwkvProj.Facts] : Prop :=
  ∀ (m : (ℓ : Loc Cert.RwkvProj.nD Cert.RwkvProj.τ Cert.RwkvProj.sig) → Buf (Elt Bits) ℓ) (g : Dev Cert.RwkvProj.nD → PrngReg), Pre_RwkvProj m →
    θ_run (Cert.RwkvProj.defs (F := Bits)) (onTc (τ := Cert.RwkvProj.τ) (Cert.RwkvProj.main (F := Bits))) ⟨m, fun _ => 0, g⟩ (fun r => (∀ c : Dev Cert.RwkvProj.nD,
      r.2.mem ((c.tc : Thread Cert.RwkvProj.nD Cert.RwkvProj.τ).loc Cert.RwkvProj.main_arg0) = m ((c.tc : Thread Cert.RwkvProj.nD Cert.RwkvProj.τ).loc Cert.RwkvProj.main_arg0)
      ∧ r.2.mem ((c.tc : Thread Cert.RwkvProj.nD Cert.RwkvProj.τ).loc Cert.RwkvProj.main_arg1) = m ((c.tc : Thread Cert.RwkvProj.nD Cert.RwkvProj.τ).loc Cert.RwkvProj.main_arg1)
      ∧ r.2.mem ((c.tc : Thread Cert.RwkvProj.nD Cert.RwkvProj.τ).loc Cert.RwkvProj.main_arg2) = m ((c.tc : Thread Cert.RwkvProj.nD Cert.RwkvProj.τ).loc Cert.RwkvProj.main_arg2)
      ∧ r.2.mem ((c.tc : Thread Cert.RwkvProj.nD Cert.RwkvProj.τ).loc Cert.RwkvProj.main_arg3) = m ((c.tc : Thread Cert.RwkvProj.nD Cert.RwkvProj.τ).loc Cert.RwkvProj.main_arg3)
      ∧ r.2.mem ((c.tc : Thread Cert.RwkvProj.nD Cert.RwkvProj.τ).loc Cert.RwkvProj.main_arg4) = m ((c.tc : Thread Cert.RwkvProj.nD Cert.RwkvProj.τ).loc Cert.RwkvProj.main_arg4)
      ∧ r.2.mem ((c.tc : Thread Cert.RwkvProj.nD Cert.RwkvProj.τ).loc Cert.RwkvProj.main_arg5) = m ((c.tc : Thread Cert.RwkvProj.nD Cert.RwkvProj.τ).loc Cert.RwkvProj.main_arg5)
      ∧ r.2.mem ((c.tc : Thread Cert.RwkvProj.nD Cert.RwkvProj.τ).loc Cert.RwkvProj.main_arg6) = m ((c.tc : Thread Cert.RwkvProj.nD Cert.RwkvProj.τ).loc Cert.RwkvProj.main_arg6)
      ∧ r.2.mem ((c.tc : Thread Cert.RwkvProj.nD Cert.RwkvProj.τ).loc Cert.RwkvProj.main_arg7) = m ((c.tc : Thread Cert.RwkvProj.nD Cert.RwkvProj.τ).loc Cert.RwkvProj.main_arg7)
      ∧ r.2.mem ((c.tc : Thread Cert.RwkvProj.nD Cert.RwkvProj.τ).loc Cert.RwkvProj.main_arg8) = m ((c.tc : Thread Cert.RwkvProj.nD Cert.RwkvProj.τ).loc Cert.RwkvProj.main_arg8)
      ∧ r.2.mem ((c.tc : Thread Cert.RwkvProj.nD Cert.RwkvProj.τ).loc Cert.RwkvProj.main_arg9) = m ((c.tc : Thread Cert.RwkvProj.nD Cert.RwkvProj.τ).loc Cert.RwkvProj.main_arg9))
      ∧ r.2.sem = fun _ => 0)

def quiescent_RwkvProjIdeal [hRwkvProjIdeal : Cert.RwkvProjIdeal.Facts] : Prop :=
  ∀ (m : (ℓ : Loc Cert.RwkvProjIdeal.nD Cert.RwkvProjIdeal.τ Cert.RwkvProjIdeal.sig) → Buf (Elt Ideal) ℓ) (g : Dev Cert.RwkvProjIdeal.nD → PrngReg), Pre_RwkvProjIdeal m →
    θ_run (Cert.RwkvProjIdeal.defs (F := Ideal)) (onTc (τ := Cert.RwkvProjIdeal.τ) (Cert.RwkvProjIdeal.main (F := Ideal))) ⟨m, fun _ => 0, g⟩ (fun r => (∀ c : Dev Cert.RwkvProjIdeal.nD,
      r.2.mem ((c.tc : Thread Cert.RwkvProjIdeal.nD Cert.RwkvProjIdeal.τ).loc Cert.RwkvProjIdeal.main_arg0) = m ((c.tc : Thread Cert.RwkvProjIdeal.nD Cert.RwkvProjIdeal.τ).loc Cert.RwkvProjIdeal.main_arg0)
      ∧ r.2.mem ((c.tc : Thread Cert.RwkvProjIdeal.nD Cert.RwkvProjIdeal.τ).loc Cert.RwkvProjIdeal.main_arg1) = m ((c.tc : Thread Cert.RwkvProjIdeal.nD Cert.RwkvProjIdeal.τ).loc Cert.RwkvProjIdeal.main_arg1)
      ∧ r.2.mem ((c.tc : Thread Cert.RwkvProjIdeal.nD Cert.RwkvProjIdeal.τ).loc Cert.RwkvProjIdeal.main_arg2) = m ((c.tc : Thread Cert.RwkvProjIdeal.nD Cert.RwkvProjIdeal.τ).loc Cert.RwkvProjIdeal.main_arg2)
      ∧ r.2.mem ((c.tc : Thread Cert.RwkvProjIdeal.nD Cert.RwkvProjIdeal.τ).loc Cert.RwkvProjIdeal.main_arg3) = m ((c.tc : Thread Cert.RwkvProjIdeal.nD Cert.RwkvProjIdeal.τ).loc Cert.RwkvProjIdeal.main_arg3)
      ∧ r.2.mem ((c.tc : Thread Cert.RwkvProjIdeal.nD Cert.RwkvProjIdeal.τ).loc Cert.RwkvProjIdeal.main_arg4) = m ((c.tc : Thread Cert.RwkvProjIdeal.nD Cert.RwkvProjIdeal.τ).loc Cert.RwkvProjIdeal.main_arg4)
      ∧ r.2.mem ((c.tc : Thread Cert.RwkvProjIdeal.nD Cert.RwkvProjIdeal.τ).loc Cert.RwkvProjIdeal.main_arg5) = m ((c.tc : Thread Cert.RwkvProjIdeal.nD Cert.RwkvProjIdeal.τ).loc Cert.RwkvProjIdeal.main_arg5)
      ∧ r.2.mem ((c.tc : Thread Cert.RwkvProjIdeal.nD Cert.RwkvProjIdeal.τ).loc Cert.RwkvProjIdeal.main_arg6) = m ((c.tc : Thread Cert.RwkvProjIdeal.nD Cert.RwkvProjIdeal.τ).loc Cert.RwkvProjIdeal.main_arg6)
      ∧ r.2.mem ((c.tc : Thread Cert.RwkvProjIdeal.nD Cert.RwkvProjIdeal.τ).loc Cert.RwkvProjIdeal.main_arg7) = m ((c.tc : Thread Cert.RwkvProjIdeal.nD Cert.RwkvProjIdeal.τ).loc Cert.RwkvProjIdeal.main_arg7)
      ∧ r.2.mem ((c.tc : Thread Cert.RwkvProjIdeal.nD Cert.RwkvProjIdeal.τ).loc Cert.RwkvProjIdeal.main_arg8) = m ((c.tc : Thread Cert.RwkvProjIdeal.nD Cert.RwkvProjIdeal.τ).loc Cert.RwkvProjIdeal.main_arg8)
      ∧ r.2.mem ((c.tc : Thread Cert.RwkvProjIdeal.nD Cert.RwkvProjIdeal.τ).loc Cert.RwkvProjIdeal.main_arg9) = m ((c.tc : Thread Cert.RwkvProjIdeal.nD Cert.RwkvProjIdeal.τ).loc Cert.RwkvProjIdeal.main_arg9))
      ∧ r.2.sem = fun _ => 0)

def quiescent_RwkvProjRefIdeal [hRwkvProjRefIdeal : Cert.RwkvProjRefIdeal.Facts] : Prop :=
  ∀ (m : (ℓ : Loc Cert.RwkvProjRefIdeal.nD Cert.RwkvProjRefIdeal.τ Cert.RwkvProjRefIdeal.sig) → Buf (Elt Ideal) ℓ) (g : Dev Cert.RwkvProjRefIdeal.nD → PrngReg), Pre_RwkvProjRefIdeal m →
    θ_run (Cert.RwkvProjRefIdeal.defs (F := Ideal)) (onTc (τ := Cert.RwkvProjRefIdeal.τ) (Cert.RwkvProjRefIdeal.main (F := Ideal))) ⟨m, fun _ => 0, g⟩ (fun r => (∀ c : Dev Cert.RwkvProjRefIdeal.nD,
      r.2.mem ((c.tc : Thread Cert.RwkvProjRefIdeal.nD Cert.RwkvProjRefIdeal.τ).loc Cert.RwkvProjRefIdeal.main_arg0) = m ((c.tc : Thread Cert.RwkvProjRefIdeal.nD Cert.RwkvProjRefIdeal.τ).loc Cert.RwkvProjRefIdeal.main_arg0)
      ∧ r.2.mem ((c.tc : Thread Cert.RwkvProjRefIdeal.nD Cert.RwkvProjRefIdeal.τ).loc Cert.RwkvProjRefIdeal.main_arg1) = m ((c.tc : Thread Cert.RwkvProjRefIdeal.nD Cert.RwkvProjRefIdeal.τ).loc Cert.RwkvProjRefIdeal.main_arg1)
      ∧ r.2.mem ((c.tc : Thread Cert.RwkvProjRefIdeal.nD Cert.RwkvProjRefIdeal.τ).loc Cert.RwkvProjRefIdeal.main_arg2) = m ((c.tc : Thread Cert.RwkvProjRefIdeal.nD Cert.RwkvProjRefIdeal.τ).loc Cert.RwkvProjRefIdeal.main_arg2)
      ∧ r.2.mem ((c.tc : Thread Cert.RwkvProjRefIdeal.nD Cert.RwkvProjRefIdeal.τ).loc Cert.RwkvProjRefIdeal.main_arg3) = m ((c.tc : Thread Cert.RwkvProjRefIdeal.nD Cert.RwkvProjRefIdeal.τ).loc Cert.RwkvProjRefIdeal.main_arg3)
      ∧ r.2.mem ((c.tc : Thread Cert.RwkvProjRefIdeal.nD Cert.RwkvProjRefIdeal.τ).loc Cert.RwkvProjRefIdeal.main_arg4) = m ((c.tc : Thread Cert.RwkvProjRefIdeal.nD Cert.RwkvProjRefIdeal.τ).loc Cert.RwkvProjRefIdeal.main_arg4)
      ∧ r.2.mem ((c.tc : Thread Cert.RwkvProjRefIdeal.nD Cert.RwkvProjRefIdeal.τ).loc Cert.RwkvProjRefIdeal.main_arg5) = m ((c.tc : Thread Cert.RwkvProjRefIdeal.nD Cert.RwkvProjRefIdeal.τ).loc Cert.RwkvProjRefIdeal.main_arg5)
      ∧ r.2.mem ((c.tc : Thread Cert.RwkvProjRefIdeal.nD Cert.RwkvProjRefIdeal.τ).loc Cert.RwkvProjRefIdeal.main_arg6) = m ((c.tc : Thread Cert.RwkvProjRefIdeal.nD Cert.RwkvProjRefIdeal.τ).loc Cert.RwkvProjRefIdeal.main_arg6)
      ∧ r.2.mem ((c.tc : Thread Cert.RwkvProjRefIdeal.nD Cert.RwkvProjRefIdeal.τ).loc Cert.RwkvProjRefIdeal.main_arg7) = m ((c.tc : Thread Cert.RwkvProjRefIdeal.nD Cert.RwkvProjRefIdeal.τ).loc Cert.RwkvProjRefIdeal.main_arg7)
      ∧ r.2.mem ((c.tc : Thread Cert.RwkvProjRefIdeal.nD Cert.RwkvProjRefIdeal.τ).loc Cert.RwkvProjRefIdeal.main_arg8) = m ((c.tc : Thread Cert.RwkvProjRefIdeal.nD Cert.RwkvProjRefIdeal.τ).loc Cert.RwkvProjRefIdeal.main_arg8)
      ∧ r.2.mem ((c.tc : Thread Cert.RwkvProjRefIdeal.nD Cert.RwkvProjRefIdeal.τ).loc Cert.RwkvProjRefIdeal.main_arg9) = m ((c.tc : Thread Cert.RwkvProjRefIdeal.nD Cert.RwkvProjRefIdeal.τ).loc Cert.RwkvProjRefIdeal.main_arg9))
      ∧ r.2.sem = fun _ => 0)

def quiescent_RwkvOut [hRwkvOut : Cert.RwkvOut.Facts] : Prop :=
  ∀ (m : (ℓ : Loc Cert.RwkvOut.nD Cert.RwkvOut.τ Cert.RwkvOut.sig) → Buf (Elt Bits) ℓ) (g : Dev Cert.RwkvOut.nD → PrngReg), Pre_RwkvOut m →
    θ_run (Cert.RwkvOut.defs (F := Bits)) (onTc (τ := Cert.RwkvOut.τ) (Cert.RwkvOut.main (F := Bits))) ⟨m, fun _ => 0, g⟩ (fun r => (∀ c : Dev Cert.RwkvOut.nD,
      r.2.mem ((c.tc : Thread Cert.RwkvOut.nD Cert.RwkvOut.τ).loc Cert.RwkvOut.main_arg0) = m ((c.tc : Thread Cert.RwkvOut.nD Cert.RwkvOut.τ).loc Cert.RwkvOut.main_arg0)
      ∧ r.2.mem ((c.tc : Thread Cert.RwkvOut.nD Cert.RwkvOut.τ).loc Cert.RwkvOut.main_arg1) = m ((c.tc : Thread Cert.RwkvOut.nD Cert.RwkvOut.τ).loc Cert.RwkvOut.main_arg1)
      ∧ r.2.mem ((c.tc : Thread Cert.RwkvOut.nD Cert.RwkvOut.τ).loc Cert.RwkvOut.main_arg2) = m ((c.tc : Thread Cert.RwkvOut.nD Cert.RwkvOut.τ).loc Cert.RwkvOut.main_arg2)
      ∧ r.2.mem ((c.tc : Thread Cert.RwkvOut.nD Cert.RwkvOut.τ).loc Cert.RwkvOut.main_arg3) = m ((c.tc : Thread Cert.RwkvOut.nD Cert.RwkvOut.τ).loc Cert.RwkvOut.main_arg3))
      ∧ r.2.sem = fun _ => 0)

def quiescent_RwkvOutIdeal [hRwkvOutIdeal : Cert.RwkvOutIdeal.Facts] : Prop :=
  ∀ (m : (ℓ : Loc Cert.RwkvOutIdeal.nD Cert.RwkvOutIdeal.τ Cert.RwkvOutIdeal.sig) → Buf (Elt Ideal) ℓ) (g : Dev Cert.RwkvOutIdeal.nD → PrngReg), Pre_RwkvOutIdeal m →
    θ_run (Cert.RwkvOutIdeal.defs (F := Ideal)) (onTc (τ := Cert.RwkvOutIdeal.τ) (Cert.RwkvOutIdeal.main (F := Ideal))) ⟨m, fun _ => 0, g⟩ (fun r => (∀ c : Dev Cert.RwkvOutIdeal.nD,
      r.2.mem ((c.tc : Thread Cert.RwkvOutIdeal.nD Cert.RwkvOutIdeal.τ).loc Cert.RwkvOutIdeal.main_arg0) = m ((c.tc : Thread Cert.RwkvOutIdeal.nD Cert.RwkvOutIdeal.τ).loc Cert.RwkvOutIdeal.main_arg0)
      ∧ r.2.mem ((c.tc : Thread Cert.RwkvOutIdeal.nD Cert.RwkvOutIdeal.τ).loc Cert.RwkvOutIdeal.main_arg1) = m ((c.tc : Thread Cert.RwkvOutIdeal.nD Cert.RwkvOutIdeal.τ).loc Cert.RwkvOutIdeal.main_arg1)
      ∧ r.2.mem ((c.tc : Thread Cert.RwkvOutIdeal.nD Cert.RwkvOutIdeal.τ).loc Cert.RwkvOutIdeal.main_arg2) = m ((c.tc : Thread Cert.RwkvOutIdeal.nD Cert.RwkvOutIdeal.τ).loc Cert.RwkvOutIdeal.main_arg2)
      ∧ r.2.mem ((c.tc : Thread Cert.RwkvOutIdeal.nD Cert.RwkvOutIdeal.τ).loc Cert.RwkvOutIdeal.main_arg3) = m ((c.tc : Thread Cert.RwkvOutIdeal.nD Cert.RwkvOutIdeal.τ).loc Cert.RwkvOutIdeal.main_arg3))
      ∧ r.2.sem = fun _ => 0)

def quiescent_RwkvOutRefIdeal [hRwkvOutRefIdeal : Cert.RwkvOutRefIdeal.Facts] : Prop :=
  ∀ (m : (ℓ : Loc Cert.RwkvOutRefIdeal.nD Cert.RwkvOutRefIdeal.τ Cert.RwkvOutRefIdeal.sig) → Buf (Elt Ideal) ℓ) (g : Dev Cert.RwkvOutRefIdeal.nD → PrngReg), Pre_RwkvOutRefIdeal m →
    θ_run (Cert.RwkvOutRefIdeal.defs (F := Ideal)) (onTc (τ := Cert.RwkvOutRefIdeal.τ) (Cert.RwkvOutRefIdeal.main (F := Ideal))) ⟨m, fun _ => 0, g⟩ (fun r => (∀ c : Dev Cert.RwkvOutRefIdeal.nD,
      r.2.mem ((c.tc : Thread Cert.RwkvOutRefIdeal.nD Cert.RwkvOutRefIdeal.τ).loc Cert.RwkvOutRefIdeal.main_arg0) = m ((c.tc : Thread Cert.RwkvOutRefIdeal.nD Cert.RwkvOutRefIdeal.τ).loc Cert.RwkvOutRefIdeal.main_arg0)
      ∧ r.2.mem ((c.tc : Thread Cert.RwkvOutRefIdeal.nD Cert.RwkvOutRefIdeal.τ).loc Cert.RwkvOutRefIdeal.main_arg1) = m ((c.tc : Thread Cert.RwkvOutRefIdeal.nD Cert.RwkvOutRefIdeal.τ).loc Cert.RwkvOutRefIdeal.main_arg1)
      ∧ r.2.mem ((c.tc : Thread Cert.RwkvOutRefIdeal.nD Cert.RwkvOutRefIdeal.τ).loc Cert.RwkvOutRefIdeal.main_arg2) = m ((c.tc : Thread Cert.RwkvOutRefIdeal.nD Cert.RwkvOutRefIdeal.τ).loc Cert.RwkvOutRefIdeal.main_arg2)
      ∧ r.2.mem ((c.tc : Thread Cert.RwkvOutRefIdeal.nD Cert.RwkvOutRefIdeal.τ).loc Cert.RwkvOutRefIdeal.main_arg3) = m ((c.tc : Thread Cert.RwkvOutRefIdeal.nD Cert.RwkvOutRefIdeal.τ).loc Cert.RwkvOutRefIdeal.main_arg3))
      ∧ r.2.sem = fun _ => 0)

def quiescent_SampleOut [hSampleOut : Cert.SampleOut.Facts] : Prop :=
  ∀ (m : (ℓ : Loc Cert.SampleOut.nD Cert.SampleOut.τ Cert.SampleOut.sig) → Buf (Elt Bits) ℓ) (g : Dev Cert.SampleOut.nD → PrngReg), Pre_SampleOut m →
    θ_run (Cert.SampleOut.defs (F := Bits)) (onTc (τ := Cert.SampleOut.τ) (Cert.SampleOut.main (F := Bits))) ⟨m, fun _ => 0, g⟩ (fun r => (∀ c : Dev Cert.SampleOut.nD,
      r.2.mem ((c.tc : Thread Cert.SampleOut.nD Cert.SampleOut.τ).loc Cert.SampleOut.main_arg0) = m ((c.tc : Thread Cert.SampleOut.nD Cert.SampleOut.τ).loc Cert.SampleOut.main_arg0)
      ∧ r.2.mem ((c.tc : Thread Cert.SampleOut.nD Cert.SampleOut.τ).loc Cert.SampleOut.main_arg1) = m ((c.tc : Thread Cert.SampleOut.nD Cert.SampleOut.τ).loc Cert.SampleOut.main_arg1)
      ∧ r.2.mem ((c.tc : Thread Cert.SampleOut.nD Cert.SampleOut.τ).loc Cert.SampleOut.main_arg2) = m ((c.tc : Thread Cert.SampleOut.nD Cert.SampleOut.τ).loc Cert.SampleOut.main_arg2)
      ∧ r.2.mem ((c.tc : Thread Cert.SampleOut.nD Cert.SampleOut.τ).loc Cert.SampleOut.main_arg3) = m ((c.tc : Thread Cert.SampleOut.nD Cert.SampleOut.τ).loc Cert.SampleOut.main_arg3))
      ∧ r.2.sem = fun _ => 0)

def quiescent_SampleOutIdeal [hSampleOutIdeal : Cert.SampleOutIdeal.Facts] : Prop :=
  ∀ (m : (ℓ : Loc Cert.SampleOutIdeal.nD Cert.SampleOutIdeal.τ Cert.SampleOutIdeal.sig) → Buf (Elt Ideal) ℓ) (g : Dev Cert.SampleOutIdeal.nD → PrngReg), Pre_SampleOutIdeal m →
    θ_run (Cert.SampleOutIdeal.defs (F := Ideal)) (onTc (τ := Cert.SampleOutIdeal.τ) (Cert.SampleOutIdeal.main (F := Ideal))) ⟨m, fun _ => 0, g⟩ (fun r => (∀ c : Dev Cert.SampleOutIdeal.nD,
      r.2.mem ((c.tc : Thread Cert.SampleOutIdeal.nD Cert.SampleOutIdeal.τ).loc Cert.SampleOutIdeal.main_arg0) = m ((c.tc : Thread Cert.SampleOutIdeal.nD Cert.SampleOutIdeal.τ).loc Cert.SampleOutIdeal.main_arg0)
      ∧ r.2.mem ((c.tc : Thread Cert.SampleOutIdeal.nD Cert.SampleOutIdeal.τ).loc Cert.SampleOutIdeal.main_arg1) = m ((c.tc : Thread Cert.SampleOutIdeal.nD Cert.SampleOutIdeal.τ).loc Cert.SampleOutIdeal.main_arg1)
      ∧ r.2.mem ((c.tc : Thread Cert.SampleOutIdeal.nD Cert.SampleOutIdeal.τ).loc Cert.SampleOutIdeal.main_arg2) = m ((c.tc : Thread Cert.SampleOutIdeal.nD Cert.SampleOutIdeal.τ).loc Cert.SampleOutIdeal.main_arg2)
      ∧ r.2.mem ((c.tc : Thread Cert.SampleOutIdeal.nD Cert.SampleOutIdeal.τ).loc Cert.SampleOutIdeal.main_arg3) = m ((c.tc : Thread Cert.SampleOutIdeal.nD Cert.SampleOutIdeal.τ).loc Cert.SampleOutIdeal.main_arg3))
      ∧ r.2.sem = fun _ => 0)

def quiescent_SampleOutRefIdeal [hSampleOutRefIdeal : Cert.SampleOutRefIdeal.Facts] : Prop :=
  ∀ (m : (ℓ : Loc Cert.SampleOutRefIdeal.nD Cert.SampleOutRefIdeal.τ Cert.SampleOutRefIdeal.sig) → Buf (Elt Ideal) ℓ) (g : Dev Cert.SampleOutRefIdeal.nD → PrngReg), Pre_SampleOutRefIdeal m →
    θ_run (Cert.SampleOutRefIdeal.defs (F := Ideal)) (onTc (τ := Cert.SampleOutRefIdeal.τ) (Cert.SampleOutRefIdeal.main (F := Ideal))) ⟨m, fun _ => 0, g⟩ (fun r => (∀ c : Dev Cert.SampleOutRefIdeal.nD,
      r.2.mem ((c.tc : Thread Cert.SampleOutRefIdeal.nD Cert.SampleOutRefIdeal.τ).loc Cert.SampleOutRefIdeal.main_arg0) = m ((c.tc : Thread Cert.SampleOutRefIdeal.nD Cert.SampleOutRefIdeal.τ).loc Cert.SampleOutRefIdeal.main_arg0)
      ∧ r.2.mem ((c.tc : Thread Cert.SampleOutRefIdeal.nD Cert.SampleOutRefIdeal.τ).loc Cert.SampleOutRefIdeal.main_arg1) = m ((c.tc : Thread Cert.SampleOutRefIdeal.nD Cert.SampleOutRefIdeal.τ).loc Cert.SampleOutRefIdeal.main_arg1)
      ∧ r.2.mem ((c.tc : Thread Cert.SampleOutRefIdeal.nD Cert.SampleOutRefIdeal.τ).loc Cert.SampleOutRefIdeal.main_arg2) = m ((c.tc : Thread Cert.SampleOutRefIdeal.nD Cert.SampleOutRefIdeal.τ).loc Cert.SampleOutRefIdeal.main_arg2)
      ∧ r.2.mem ((c.tc : Thread Cert.SampleOutRefIdeal.nD Cert.SampleOutRefIdeal.τ).loc Cert.SampleOutRefIdeal.main_arg3) = m ((c.tc : Thread Cert.SampleOutRefIdeal.nD Cert.SampleOutRefIdeal.τ).loc Cert.SampleOutRefIdeal.main_arg3))
      ∧ r.2.sem = fun _ => 0)

def quiescent_SampleProj [hSampleProj : Cert.SampleProj.Facts] : Prop :=
  ∀ (m : (ℓ : Loc Cert.SampleProj.nD Cert.SampleProj.τ Cert.SampleProj.sig) → Buf (Elt Bits) ℓ) (g : Dev Cert.SampleProj.nD → PrngReg), Pre_SampleProj m →
    θ_run (Cert.SampleProj.defs (F := Bits)) (onTc (τ := Cert.SampleProj.τ) (Cert.SampleProj.main (F := Bits))) ⟨m, fun _ => 0, g⟩ (fun r => (∀ c : Dev Cert.SampleProj.nD,
      r.2.mem ((c.tc : Thread Cert.SampleProj.nD Cert.SampleProj.τ).loc Cert.SampleProj.main_arg0) = m ((c.tc : Thread Cert.SampleProj.nD Cert.SampleProj.τ).loc Cert.SampleProj.main_arg0)
      ∧ r.2.mem ((c.tc : Thread Cert.SampleProj.nD Cert.SampleProj.τ).loc Cert.SampleProj.main_arg1) = m ((c.tc : Thread Cert.SampleProj.nD Cert.SampleProj.τ).loc Cert.SampleProj.main_arg1)
      ∧ r.2.mem ((c.tc : Thread Cert.SampleProj.nD Cert.SampleProj.τ).loc Cert.SampleProj.main_arg2) = m ((c.tc : Thread Cert.SampleProj.nD Cert.SampleProj.τ).loc Cert.SampleProj.main_arg2)
      ∧ r.2.mem ((c.tc : Thread Cert.SampleProj.nD Cert.SampleProj.τ).loc Cert.SampleProj.main_arg3) = m ((c.tc : Thread Cert.SampleProj.nD Cert.SampleProj.τ).loc Cert.SampleProj.main_arg3)
      ∧ r.2.mem ((c.tc : Thread Cert.SampleProj.nD Cert.SampleProj.τ).loc Cert.SampleProj.main_arg4) = m ((c.tc : Thread Cert.SampleProj.nD Cert.SampleProj.τ).loc Cert.SampleProj.main_arg4)
      ∧ r.2.mem ((c.tc : Thread Cert.SampleProj.nD Cert.SampleProj.τ).loc Cert.SampleProj.main_arg5) = m ((c.tc : Thread Cert.SampleProj.nD Cert.SampleProj.τ).loc Cert.SampleProj.main_arg5)
      ∧ r.2.mem ((c.tc : Thread Cert.SampleProj.nD Cert.SampleProj.τ).loc Cert.SampleProj.main_arg6) = m ((c.tc : Thread Cert.SampleProj.nD Cert.SampleProj.τ).loc Cert.SampleProj.main_arg6)
      ∧ r.2.mem ((c.tc : Thread Cert.SampleProj.nD Cert.SampleProj.τ).loc Cert.SampleProj.main_arg7) = m ((c.tc : Thread Cert.SampleProj.nD Cert.SampleProj.τ).loc Cert.SampleProj.main_arg7)
      ∧ r.2.mem ((c.tc : Thread Cert.SampleProj.nD Cert.SampleProj.τ).loc Cert.SampleProj.main_arg8) = m ((c.tc : Thread Cert.SampleProj.nD Cert.SampleProj.τ).loc Cert.SampleProj.main_arg8)
      ∧ r.2.mem ((c.tc : Thread Cert.SampleProj.nD Cert.SampleProj.τ).loc Cert.SampleProj.main_arg9) = m ((c.tc : Thread Cert.SampleProj.nD Cert.SampleProj.τ).loc Cert.SampleProj.main_arg9)
      ∧ r.2.mem ((c.tc : Thread Cert.SampleProj.nD Cert.SampleProj.τ).loc Cert.SampleProj.main_arg10) = m ((c.tc : Thread Cert.SampleProj.nD Cert.SampleProj.τ).loc Cert.SampleProj.main_arg10))
      ∧ r.2.sem = fun _ => 0)

def quiescent_SampleProjIdeal [hSampleProjIdeal : Cert.SampleProjIdeal.Facts] : Prop :=
  ∀ (m : (ℓ : Loc Cert.SampleProjIdeal.nD Cert.SampleProjIdeal.τ Cert.SampleProjIdeal.sig) → Buf (Elt Ideal) ℓ) (g : Dev Cert.SampleProjIdeal.nD → PrngReg), Pre_SampleProjIdeal m →
    θ_run (Cert.SampleProjIdeal.defs (F := Ideal)) (onTc (τ := Cert.SampleProjIdeal.τ) (Cert.SampleProjIdeal.main (F := Ideal))) ⟨m, fun _ => 0, g⟩ (fun r => (∀ c : Dev Cert.SampleProjIdeal.nD,
      r.2.mem ((c.tc : Thread Cert.SampleProjIdeal.nD Cert.SampleProjIdeal.τ).loc Cert.SampleProjIdeal.main_arg0) = m ((c.tc : Thread Cert.SampleProjIdeal.nD Cert.SampleProjIdeal.τ).loc Cert.SampleProjIdeal.main_arg0)
      ∧ r.2.mem ((c.tc : Thread Cert.SampleProjIdeal.nD Cert.SampleProjIdeal.τ).loc Cert.SampleProjIdeal.main_arg1) = m ((c.tc : Thread Cert.SampleProjIdeal.nD Cert.SampleProjIdeal.τ).loc Cert.SampleProjIdeal.main_arg1)
      ∧ r.2.mem ((c.tc : Thread Cert.SampleProjIdeal.nD Cert.SampleProjIdeal.τ).loc Cert.SampleProjIdeal.main_arg2) = m ((c.tc : Thread Cert.SampleProjIdeal.nD Cert.SampleProjIdeal.τ).loc Cert.SampleProjIdeal.main_arg2)
      ∧ r.2.mem ((c.tc : Thread Cert.SampleProjIdeal.nD Cert.SampleProjIdeal.τ).loc Cert.SampleProjIdeal.main_arg3) = m ((c.tc : Thread Cert.SampleProjIdeal.nD Cert.SampleProjIdeal.τ).loc Cert.SampleProjIdeal.main_arg3)
      ∧ r.2.mem ((c.tc : Thread Cert.SampleProjIdeal.nD Cert.SampleProjIdeal.τ).loc Cert.SampleProjIdeal.main_arg4) = m ((c.tc : Thread Cert.SampleProjIdeal.nD Cert.SampleProjIdeal.τ).loc Cert.SampleProjIdeal.main_arg4)
      ∧ r.2.mem ((c.tc : Thread Cert.SampleProjIdeal.nD Cert.SampleProjIdeal.τ).loc Cert.SampleProjIdeal.main_arg5) = m ((c.tc : Thread Cert.SampleProjIdeal.nD Cert.SampleProjIdeal.τ).loc Cert.SampleProjIdeal.main_arg5)
      ∧ r.2.mem ((c.tc : Thread Cert.SampleProjIdeal.nD Cert.SampleProjIdeal.τ).loc Cert.SampleProjIdeal.main_arg6) = m ((c.tc : Thread Cert.SampleProjIdeal.nD Cert.SampleProjIdeal.τ).loc Cert.SampleProjIdeal.main_arg6)
      ∧ r.2.mem ((c.tc : Thread Cert.SampleProjIdeal.nD Cert.SampleProjIdeal.τ).loc Cert.SampleProjIdeal.main_arg7) = m ((c.tc : Thread Cert.SampleProjIdeal.nD Cert.SampleProjIdeal.τ).loc Cert.SampleProjIdeal.main_arg7)
      ∧ r.2.mem ((c.tc : Thread Cert.SampleProjIdeal.nD Cert.SampleProjIdeal.τ).loc Cert.SampleProjIdeal.main_arg8) = m ((c.tc : Thread Cert.SampleProjIdeal.nD Cert.SampleProjIdeal.τ).loc Cert.SampleProjIdeal.main_arg8)
      ∧ r.2.mem ((c.tc : Thread Cert.SampleProjIdeal.nD Cert.SampleProjIdeal.τ).loc Cert.SampleProjIdeal.main_arg9) = m ((c.tc : Thread Cert.SampleProjIdeal.nD Cert.SampleProjIdeal.τ).loc Cert.SampleProjIdeal.main_arg9)
      ∧ r.2.mem ((c.tc : Thread Cert.SampleProjIdeal.nD Cert.SampleProjIdeal.τ).loc Cert.SampleProjIdeal.main_arg10) = m ((c.tc : Thread Cert.SampleProjIdeal.nD Cert.SampleProjIdeal.τ).loc Cert.SampleProjIdeal.main_arg10))
      ∧ r.2.sem = fun _ => 0)

def quiescent_SampleProjRefIdeal [hSampleProjRefIdeal : Cert.SampleProjRefIdeal.Facts] : Prop :=
  ∀ (m : (ℓ : Loc Cert.SampleProjRefIdeal.nD Cert.SampleProjRefIdeal.τ Cert.SampleProjRefIdeal.sig) → Buf (Elt Ideal) ℓ) (g : Dev Cert.SampleProjRefIdeal.nD → PrngReg), Pre_SampleProjRefIdeal m →
    θ_run (Cert.SampleProjRefIdeal.defs (F := Ideal)) (onTc (τ := Cert.SampleProjRefIdeal.τ) (Cert.SampleProjRefIdeal.main (F := Ideal))) ⟨m, fun _ => 0, g⟩ (fun r => (∀ c : Dev Cert.SampleProjRefIdeal.nD,
      r.2.mem ((c.tc : Thread Cert.SampleProjRefIdeal.nD Cert.SampleProjRefIdeal.τ).loc Cert.SampleProjRefIdeal.main_arg0) = m ((c.tc : Thread Cert.SampleProjRefIdeal.nD Cert.SampleProjRefIdeal.τ).loc Cert.SampleProjRefIdeal.main_arg0)
      ∧ r.2.mem ((c.tc : Thread Cert.SampleProjRefIdeal.nD Cert.SampleProjRefIdeal.τ).loc Cert.SampleProjRefIdeal.main_arg1) = m ((c.tc : Thread Cert.SampleProjRefIdeal.nD Cert.SampleProjRefIdeal.τ).loc Cert.SampleProjRefIdeal.main_arg1)
      ∧ r.2.mem ((c.tc : Thread Cert.SampleProjRefIdeal.nD Cert.SampleProjRefIdeal.τ).loc Cert.SampleProjRefIdeal.main_arg2) = m ((c.tc : Thread Cert.SampleProjRefIdeal.nD Cert.SampleProjRefIdeal.τ).loc Cert.SampleProjRefIdeal.main_arg2)
      ∧ r.2.mem ((c.tc : Thread Cert.SampleProjRefIdeal.nD Cert.SampleProjRefIdeal.τ).loc Cert.SampleProjRefIdeal.main_arg3) = m ((c.tc : Thread Cert.SampleProjRefIdeal.nD Cert.SampleProjRefIdeal.τ).loc Cert.SampleProjRefIdeal.main_arg3)
      ∧ r.2.mem ((c.tc : Thread Cert.SampleProjRefIdeal.nD Cert.SampleProjRefIdeal.τ).loc Cert.SampleProjRefIdeal.main_arg4) = m ((c.tc : Thread Cert.SampleProjRefIdeal.nD Cert.SampleProjRefIdeal.τ).loc Cert.SampleProjRefIdeal.main_arg4)
      ∧ r.2.mem ((c.tc : Thread Cert.SampleProjRefIdeal.nD Cert.SampleProjRefIdeal.τ).loc Cert.SampleProjRefIdeal.main_arg5) = m ((c.tc : Thread Cert.SampleProjRefIdeal.nD Cert.SampleProjRefIdeal.τ).loc Cert.SampleProjRefIdeal.main_arg5)
      ∧ r.2.mem ((c.tc : Thread Cert.SampleProjRefIdeal.nD Cert.SampleProjRefIdeal.τ).loc Cert.SampleProjRefIdeal.main_arg6) = m ((c.tc : Thread Cert.SampleProjRefIdeal.nD Cert.SampleProjRefIdeal.τ).loc Cert.SampleProjRefIdeal.main_arg6)
      ∧ r.2.mem ((c.tc : Thread Cert.SampleProjRefIdeal.nD Cert.SampleProjRefIdeal.τ).loc Cert.SampleProjRefIdeal.main_arg7) = m ((c.tc : Thread Cert.SampleProjRefIdeal.nD Cert.SampleProjRefIdeal.τ).loc Cert.SampleProjRefIdeal.main_arg7)
      ∧ r.2.mem ((c.tc : Thread Cert.SampleProjRefIdeal.nD Cert.SampleProjRefIdeal.τ).loc Cert.SampleProjRefIdeal.main_arg8) = m ((c.tc : Thread Cert.SampleProjRefIdeal.nD Cert.SampleProjRefIdeal.τ).loc Cert.SampleProjRefIdeal.main_arg8)
      ∧ r.2.mem ((c.tc : Thread Cert.SampleProjRefIdeal.nD Cert.SampleProjRefIdeal.τ).loc Cert.SampleProjRefIdeal.main_arg9) = m ((c.tc : Thread Cert.SampleProjRefIdeal.nD Cert.SampleProjRefIdeal.τ).loc Cert.SampleProjRefIdeal.main_arg9)
      ∧ r.2.mem ((c.tc : Thread Cert.SampleProjRefIdeal.nD Cert.SampleProjRefIdeal.τ).loc Cert.SampleProjRefIdeal.main_arg10) = m ((c.tc : Thread Cert.SampleProjRefIdeal.nD Cert.SampleProjRefIdeal.τ).loc Cert.SampleProjRefIdeal.main_arg10))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v115) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def algebraic_AttnProjIdeal_AttnProjRefIdeal [hAttnProjIdeal : Cert.AttnProjIdeal.Facts] [hAttnProjRefIdeal : Cert.AttnProjRefIdeal.Facts] : Prop :=
  ∀ (m : (ℓ : Loc Cert.AttnProjIdeal.nD Cert.AttnProjIdeal.τ Cert.AttnProjIdeal.sig) → Buf (Elt Ideal) ℓ) (g : Dev Cert.AttnProjIdeal.nD → PrngReg)
    (m' : (ℓ : Loc Cert.AttnProjRefIdeal.nD Cert.AttnProjRefIdeal.τ Cert.AttnProjRefIdeal.sig) → Buf (Elt Ideal) ℓ) (g' : Dev Cert.AttnProjRefIdeal.nD → PrngReg), Pre_AttnProjIdeal m →
    (∀ c : Dev Cert.AttnProjIdeal.nD,
      m' ((c.tc : Thread Cert.AttnProjRefIdeal.nD Cert.AttnProjRefIdeal.τ).loc Cert.AttnProjRefIdeal.main_arg0) = m ((c.tc : Thread Cert.AttnProjIdeal.nD Cert.AttnProjIdeal.τ).loc Cert.AttnProjIdeal.main_arg0)
      ∧ m' ((c.tc : Thread Cert.AttnProjRefIdeal.nD Cert.AttnProjRefIdeal.τ).loc Cert.AttnProjRefIdeal.main_arg1) = m ((c.tc : Thread Cert.AttnProjIdeal.nD Cert.AttnProjIdeal.τ).loc Cert.AttnProjIdeal.main_arg1)
      ∧ m' ((c.tc : Thread Cert.AttnProjRefIdeal.nD Cert.AttnProjRefIdeal.τ).loc Cert.AttnProjRefIdeal.main_arg2) = m ((c.tc : Thread Cert.AttnProjIdeal.nD Cert.AttnProjIdeal.τ).loc Cert.AttnProjIdeal.main_arg2)
      ∧ m' ((c.tc : Thread Cert.AttnProjRefIdeal.nD Cert.AttnProjRefIdeal.τ).loc Cert.AttnProjRefIdeal.main_arg3) = m ((c.tc : Thread Cert.AttnProjIdeal.nD Cert.AttnProjIdeal.τ).loc Cert.AttnProjIdeal.main_arg3)) →
    ∃ (v0 : (c : Dev Cert.AttnProjIdeal.nD) → Buf (Elt Ideal) ((c.tc : Thread Cert.AttnProjIdeal.nD Cert.AttnProjIdeal.τ).loc Cert.AttnProjIdeal.main_v8_0)) (v1 : (c : Dev Cert.AttnProjIdeal.nD) → Buf (Elt Ideal) ((c.tc : Thread Cert.AttnProjIdeal.nD Cert.AttnProjIdeal.τ).loc Cert.AttnProjIdeal.main_v8_1)) (v2 : (c : Dev Cert.AttnProjIdeal.nD) → Buf (Elt Ideal) ((c.tc : Thread Cert.AttnProjIdeal.nD Cert.AttnProjIdeal.τ).loc Cert.AttnProjIdeal.main_v8_2)) (v3 : (c : Dev Cert.AttnProjIdeal.nD) → Buf (Elt Ideal) ((c.tc : Thread Cert.AttnProjIdeal.nD Cert.AttnProjIdeal.τ).loc Cert.AttnProjIdeal.main_v8_3)),
      θ_run (Cert.AttnProjIdeal.defs (F := Ideal)) (onTc (τ := Cert.AttnProjIdeal.τ) (Cert.AttnProjIdeal.main (F := Ideal))) ⟨m, fun _ => 0, g⟩ (fun r => ∀ c : Dev Cert.AttnProjIdeal.nD,
          r.2.mem ((c.tc : Thread Cert.AttnProjIdeal.nD Cert.AttnProjIdeal.τ).loc Cert.AttnProjIdeal.main_v8_0) = v0 c
          ∧ r.2.mem ((c.tc : Thread Cert.AttnProjIdeal.nD Cert.AttnProjIdeal.τ).loc Cert.AttnProjIdeal.main_v8_1) = v1 c
          ∧ r.2.mem ((c.tc : Thread Cert.AttnProjIdeal.nD Cert.AttnProjIdeal.τ).loc Cert.AttnProjIdeal.main_v8_2) = v2 c
          ∧ r.2.mem ((c.tc : Thread Cert.AttnProjIdeal.nD Cert.AttnProjIdeal.τ).loc Cert.AttnProjIdeal.main_v8_3) = v3 c
          ∧ r.2.mem ((c.tc : Thread Cert.AttnProjIdeal.nD Cert.AttnProjIdeal.τ).loc Cert.AttnProjIdeal.main_arg0) = m ((c.tc : Thread Cert.AttnProjIdeal.nD Cert.AttnProjIdeal.τ).loc Cert.AttnProjIdeal.main_arg0)
          ∧ r.2.mem ((c.tc : Thread Cert.AttnProjIdeal.nD Cert.AttnProjIdeal.τ).loc Cert.AttnProjIdeal.main_arg1) = m ((c.tc : Thread Cert.AttnProjIdeal.nD Cert.AttnProjIdeal.τ).loc Cert.AttnProjIdeal.main_arg1)
          ∧ r.2.mem ((c.tc : Thread Cert.AttnProjIdeal.nD Cert.AttnProjIdeal.τ).loc Cert.AttnProjIdeal.main_arg2) = m ((c.tc : Thread Cert.AttnProjIdeal.nD Cert.AttnProjIdeal.τ).loc Cert.AttnProjIdeal.main_arg2)
          ∧ r.2.mem ((c.tc : Thread Cert.AttnProjIdeal.nD Cert.AttnProjIdeal.τ).loc Cert.AttnProjIdeal.main_arg3) = m ((c.tc : Thread Cert.AttnProjIdeal.nD Cert.AttnProjIdeal.τ).loc Cert.AttnProjIdeal.main_arg3))
      ∧ θ_run (Cert.AttnProjRefIdeal.defs (F := Ideal)) (onTc (τ := Cert.AttnProjRefIdeal.τ) (Cert.AttnProjRefIdeal.main (F := Ideal))) ⟨m', fun _ => 0, g'⟩ (fun r => ∀ c : Dev Cert.AttnProjRefIdeal.nD,
          r.2.mem ((c.tc : Thread Cert.AttnProjRefIdeal.nD Cert.AttnProjRefIdeal.τ).loc Cert.AttnProjRefIdeal.main_v32) = v0 c
          ∧ r.2.mem ((c.tc : Thread Cert.AttnProjRefIdeal.nD Cert.AttnProjRefIdeal.τ).loc Cert.AttnProjRefIdeal.main_v34) = v1 c
          ∧ r.2.mem ((c.tc : Thread Cert.AttnProjRefIdeal.nD Cert.AttnProjRefIdeal.τ).loc Cert.AttnProjRefIdeal.main_v36) = v2 c
          ∧ r.2.mem ((c.tc : Thread Cert.AttnProjRefIdeal.nD Cert.AttnProjRefIdeal.τ).loc Cert.AttnProjRefIdeal.main_v40) = v3 c
          ∧ r.2.mem ((c.tc : Thread Cert.AttnProjRefIdeal.nD Cert.AttnProjRefIdeal.τ).loc Cert.AttnProjRefIdeal.main_arg0) = m' ((c.tc : Thread Cert.AttnProjRefIdeal.nD Cert.AttnProjRefIdeal.τ).loc Cert.AttnProjRefIdeal.main_arg0)
          ∧ r.2.mem ((c.tc : Thread Cert.AttnProjRefIdeal.nD Cert.AttnProjRefIdeal.τ).loc Cert.AttnProjRefIdeal.main_arg1) = m' ((c.tc : Thread Cert.AttnProjRefIdeal.nD Cert.AttnProjRefIdeal.τ).loc Cert.AttnProjRefIdeal.main_arg1)
          ∧ r.2.mem ((c.tc : Thread Cert.AttnProjRefIdeal.nD Cert.AttnProjRefIdeal.τ).loc Cert.AttnProjRefIdeal.main_arg2) = m' ((c.tc : Thread Cert.AttnProjRefIdeal.nD Cert.AttnProjRefIdeal.τ).loc Cert.AttnProjRefIdeal.main_arg2)
          ∧ r.2.mem ((c.tc : Thread Cert.AttnProjRefIdeal.nD Cert.AttnProjRefIdeal.τ).loc Cert.AttnProjRefIdeal.main_arg3) = m' ((c.tc : Thread Cert.AttnProjRefIdeal.nD Cert.AttnProjRefIdeal.τ).loc Cert.AttnProjRefIdeal.main_arg3))

def algebraic_RwkvProjIdeal_RwkvProjRefIdeal [hRwkvProjIdeal : Cert.RwkvProjIdeal.Facts] [hRwkvProjRefIdeal : Cert.RwkvProjRefIdeal.Facts] : Prop :=
  ∀ (m : (ℓ : Loc Cert.RwkvProjIdeal.nD Cert.RwkvProjIdeal.τ Cert.RwkvProjIdeal.sig) → Buf (Elt Ideal) ℓ) (g : Dev Cert.RwkvProjIdeal.nD → PrngReg)
    (m' : (ℓ : Loc Cert.RwkvProjRefIdeal.nD Cert.RwkvProjRefIdeal.τ Cert.RwkvProjRefIdeal.sig) → Buf (Elt Ideal) ℓ) (g' : Dev Cert.RwkvProjRefIdeal.nD → PrngReg), Pre_RwkvProjIdeal m →
    (∀ c : Dev Cert.RwkvProjIdeal.nD,
      m' ((c.tc : Thread Cert.RwkvProjRefIdeal.nD Cert.RwkvProjRefIdeal.τ).loc Cert.RwkvProjRefIdeal.main_arg0) = m ((c.tc : Thread Cert.RwkvProjIdeal.nD Cert.RwkvProjIdeal.τ).loc Cert.RwkvProjIdeal.main_arg0)
      ∧ m' ((c.tc : Thread Cert.RwkvProjRefIdeal.nD Cert.RwkvProjRefIdeal.τ).loc Cert.RwkvProjRefIdeal.main_arg1) = m ((c.tc : Thread Cert.RwkvProjIdeal.nD Cert.RwkvProjIdeal.τ).loc Cert.RwkvProjIdeal.main_arg1)
      ∧ m' ((c.tc : Thread Cert.RwkvProjRefIdeal.nD Cert.RwkvProjRefIdeal.τ).loc Cert.RwkvProjRefIdeal.main_arg2) = m ((c.tc : Thread Cert.RwkvProjIdeal.nD Cert.RwkvProjIdeal.τ).loc Cert.RwkvProjIdeal.main_arg2)
      ∧ m' ((c.tc : Thread Cert.RwkvProjRefIdeal.nD Cert.RwkvProjRefIdeal.τ).loc Cert.RwkvProjRefIdeal.main_arg3) = m ((c.tc : Thread Cert.RwkvProjIdeal.nD Cert.RwkvProjIdeal.τ).loc Cert.RwkvProjIdeal.main_arg3)
      ∧ m' ((c.tc : Thread Cert.RwkvProjRefIdeal.nD Cert.RwkvProjRefIdeal.τ).loc Cert.RwkvProjRefIdeal.main_arg4) = m ((c.tc : Thread Cert.RwkvProjIdeal.nD Cert.RwkvProjIdeal.τ).loc Cert.RwkvProjIdeal.main_arg4)
      ∧ m' ((c.tc : Thread Cert.RwkvProjRefIdeal.nD Cert.RwkvProjRefIdeal.τ).loc Cert.RwkvProjRefIdeal.main_arg5) = m ((c.tc : Thread Cert.RwkvProjIdeal.nD Cert.RwkvProjIdeal.τ).loc Cert.RwkvProjIdeal.main_arg5)
      ∧ m' ((c.tc : Thread Cert.RwkvProjRefIdeal.nD Cert.RwkvProjRefIdeal.τ).loc Cert.RwkvProjRefIdeal.main_arg6) = m ((c.tc : Thread Cert.RwkvProjIdeal.nD Cert.RwkvProjIdeal.τ).loc Cert.RwkvProjIdeal.main_arg6)
      ∧ m' ((c.tc : Thread Cert.RwkvProjRefIdeal.nD Cert.RwkvProjRefIdeal.τ).loc Cert.RwkvProjRefIdeal.main_arg7) = m ((c.tc : Thread Cert.RwkvProjIdeal.nD Cert.RwkvProjIdeal.τ).loc Cert.RwkvProjIdeal.main_arg7)
      ∧ m' ((c.tc : Thread Cert.RwkvProjRefIdeal.nD Cert.RwkvProjRefIdeal.τ).loc Cert.RwkvProjRefIdeal.main_arg8) = m ((c.tc : Thread Cert.RwkvProjIdeal.nD Cert.RwkvProjIdeal.τ).loc Cert.RwkvProjIdeal.main_arg8)
      ∧ m' ((c.tc : Thread Cert.RwkvProjRefIdeal.nD Cert.RwkvProjRefIdeal.τ).loc Cert.RwkvProjRefIdeal.main_arg9) = m ((c.tc : Thread Cert.RwkvProjIdeal.nD Cert.RwkvProjIdeal.τ).loc Cert.RwkvProjIdeal.main_arg9)) →
    ∃ (v0 : (c : Dev Cert.RwkvProjIdeal.nD) → Buf (Elt Ideal) ((c.tc : Thread Cert.RwkvProjIdeal.nD Cert.RwkvProjIdeal.τ).loc Cert.RwkvProjIdeal.main_v20_0)) (v1 : (c : Dev Cert.RwkvProjIdeal.nD) → Buf (Elt Ideal) ((c.tc : Thread Cert.RwkvProjIdeal.nD Cert.RwkvProjIdeal.τ).loc Cert.RwkvProjIdeal.main_v20_1)) (v2 : (c : Dev Cert.RwkvProjIdeal.nD) → Buf (Elt Ideal) ((c.tc : Thread Cert.RwkvProjIdeal.nD Cert.RwkvProjIdeal.τ).loc Cert.RwkvProjIdeal.main_v20_2)) (v3 : (c : Dev Cert.RwkvProjIdeal.nD) → Buf (Elt Ideal) ((c.tc : Thread Cert.RwkvProjIdeal.nD Cert.RwkvProjIdeal.τ).loc Cert.RwkvProjIdeal.main_v20_3)) (v4 : (c : Dev Cert.RwkvProjIdeal.nD) → Buf (Elt Ideal) ((c.tc : Thread Cert.RwkvProjIdeal.nD Cert.RwkvProjIdeal.τ).loc Cert.RwkvProjIdeal.main_v20_4)) (v5 : (c : Dev Cert.RwkvProjIdeal.nD) → Buf (Elt Ideal) ((c.tc : Thread Cert.RwkvProjIdeal.nD Cert.RwkvProjIdeal.τ).loc Cert.RwkvProjIdeal.main_v20_5)) (v6 : (c : Dev Cert.RwkvProjIdeal.nD) → Buf (Elt Ideal) ((c.tc : Thread Cert.RwkvProjIdeal.nD Cert.RwkvProjIdeal.τ).loc Cert.RwkvProjIdeal.main_v20_6)),
      θ_run (Cert.RwkvProjIdeal.defs (F := Ideal)) (onTc (τ := Cert.RwkvProjIdeal.τ) (Cert.RwkvProjIdeal.main (F := Ideal))) ⟨m, fun _ => 0, g⟩ (fun r => ∀ c : Dev Cert.RwkvProjIdeal.nD,
          r.2.mem ((c.tc : Thread Cert.RwkvProjIdeal.nD Cert.RwkvProjIdeal.τ).loc Cert.RwkvProjIdeal.main_v20_0) = v0 c
          ∧ r.2.mem ((c.tc : Thread Cert.RwkvProjIdeal.nD Cert.RwkvProjIdeal.τ).loc Cert.RwkvProjIdeal.main_v20_1) = v1 c
          ∧ r.2.mem ((c.tc : Thread Cert.RwkvProjIdeal.nD Cert.RwkvProjIdeal.τ).loc Cert.RwkvProjIdeal.main_v20_2) = v2 c
          ∧ r.2.mem ((c.tc : Thread Cert.RwkvProjIdeal.nD Cert.RwkvProjIdeal.τ).loc Cert.RwkvProjIdeal.main_v20_3) = v3 c
          ∧ r.2.mem ((c.tc : Thread Cert.RwkvProjIdeal.nD Cert.RwkvProjIdeal.τ).loc Cert.RwkvProjIdeal.main_v20_4) = v4 c
          ∧ r.2.mem ((c.tc : Thread Cert.RwkvProjIdeal.nD Cert.RwkvProjIdeal.τ).loc Cert.RwkvProjIdeal.main_v20_5) = v5 c
          ∧ r.2.mem ((c.tc : Thread Cert.RwkvProjIdeal.nD Cert.RwkvProjIdeal.τ).loc Cert.RwkvProjIdeal.main_v20_6) = v6 c
          ∧ r.2.mem ((c.tc : Thread Cert.RwkvProjIdeal.nD Cert.RwkvProjIdeal.τ).loc Cert.RwkvProjIdeal.main_arg0) = m ((c.tc : Thread Cert.RwkvProjIdeal.nD Cert.RwkvProjIdeal.τ).loc Cert.RwkvProjIdeal.main_arg0)
          ∧ r.2.mem ((c.tc : Thread Cert.RwkvProjIdeal.nD Cert.RwkvProjIdeal.τ).loc Cert.RwkvProjIdeal.main_arg1) = m ((c.tc : Thread Cert.RwkvProjIdeal.nD Cert.RwkvProjIdeal.τ).loc Cert.RwkvProjIdeal.main_arg1)
          ∧ r.2.mem ((c.tc : Thread Cert.RwkvProjIdeal.nD Cert.RwkvProjIdeal.τ).loc Cert.RwkvProjIdeal.main_arg2) = m ((c.tc : Thread Cert.RwkvProjIdeal.nD Cert.RwkvProjIdeal.τ).loc Cert.RwkvProjIdeal.main_arg2)
          ∧ r.2.mem ((c.tc : Thread Cert.RwkvProjIdeal.nD Cert.RwkvProjIdeal.τ).loc Cert.RwkvProjIdeal.main_arg3) = m ((c.tc : Thread Cert.RwkvProjIdeal.nD Cert.RwkvProjIdeal.τ).loc Cert.RwkvProjIdeal.main_arg3)
          ∧ r.2.mem ((c.tc : Thread Cert.RwkvProjIdeal.nD Cert.RwkvProjIdeal.τ).loc Cert.RwkvProjIdeal.main_arg4) = m ((c.tc : Thread Cert.RwkvProjIdeal.nD Cert.RwkvProjIdeal.τ).loc Cert.RwkvProjIdeal.main_arg4)
          ∧ r.2.mem ((c.tc : Thread Cert.RwkvProjIdeal.nD Cert.RwkvProjIdeal.τ).loc Cert.RwkvProjIdeal.main_arg5) = m ((c.tc : Thread Cert.RwkvProjIdeal.nD Cert.RwkvProjIdeal.τ).loc Cert.RwkvProjIdeal.main_arg5)
          ∧ r.2.mem ((c.tc : Thread Cert.RwkvProjIdeal.nD Cert.RwkvProjIdeal.τ).loc Cert.RwkvProjIdeal.main_arg6) = m ((c.tc : Thread Cert.RwkvProjIdeal.nD Cert.RwkvProjIdeal.τ).loc Cert.RwkvProjIdeal.main_arg6)
          ∧ r.2.mem ((c.tc : Thread Cert.RwkvProjIdeal.nD Cert.RwkvProjIdeal.τ).loc Cert.RwkvProjIdeal.main_arg7) = m ((c.tc : Thread Cert.RwkvProjIdeal.nD Cert.RwkvProjIdeal.τ).loc Cert.RwkvProjIdeal.main_arg7)
          ∧ r.2.mem ((c.tc : Thread Cert.RwkvProjIdeal.nD Cert.RwkvProjIdeal.τ).loc Cert.RwkvProjIdeal.main_arg8) = m ((c.tc : Thread Cert.RwkvProjIdeal.nD Cert.RwkvProjIdeal.τ).loc Cert.RwkvProjIdeal.main_arg8)
          ∧ r.2.mem ((c.tc : Thread Cert.RwkvProjIdeal.nD Cert.RwkvProjIdeal.τ).loc Cert.RwkvProjIdeal.main_arg9) = m ((c.tc : Thread Cert.RwkvProjIdeal.nD Cert.RwkvProjIdeal.τ).loc Cert.RwkvProjIdeal.main_arg9))
      ∧ θ_run (Cert.RwkvProjRefIdeal.defs (F := Ideal)) (onTc (τ := Cert.RwkvProjRefIdeal.τ) (Cert.RwkvProjRefIdeal.main (F := Ideal))) ⟨m', fun _ => 0, g'⟩ (fun r => ∀ c : Dev Cert.RwkvProjRefIdeal.nD,
          r.2.mem ((c.tc : Thread Cert.RwkvProjRefIdeal.nD Cert.RwkvProjRefIdeal.τ).loc Cert.RwkvProjRefIdeal.main_v75) = v0 c
          ∧ r.2.mem ((c.tc : Thread Cert.RwkvProjRefIdeal.nD Cert.RwkvProjRefIdeal.τ).loc Cert.RwkvProjRefIdeal.main_v76) = v1 c
          ∧ r.2.mem ((c.tc : Thread Cert.RwkvProjRefIdeal.nD Cert.RwkvProjRefIdeal.τ).loc Cert.RwkvProjRefIdeal.main_v77) = v2 c
          ∧ r.2.mem ((c.tc : Thread Cert.RwkvProjRefIdeal.nD Cert.RwkvProjRefIdeal.τ).loc Cert.RwkvProjRefIdeal.main_v78) = v3 c
          ∧ r.2.mem ((c.tc : Thread Cert.RwkvProjRefIdeal.nD Cert.RwkvProjRefIdeal.τ).loc Cert.RwkvProjRefIdeal.main_v79) = v4 c
          ∧ r.2.mem ((c.tc : Thread Cert.RwkvProjRefIdeal.nD Cert.RwkvProjRefIdeal.τ).loc Cert.RwkvProjRefIdeal.main_v80) = v5 c
          ∧ r.2.mem ((c.tc : Thread Cert.RwkvProjRefIdeal.nD Cert.RwkvProjRefIdeal.τ).loc Cert.RwkvProjRefIdeal.main_v81) = v6 c
          ∧ r.2.mem ((c.tc : Thread Cert.RwkvProjRefIdeal.nD Cert.RwkvProjRefIdeal.τ).loc Cert.RwkvProjRefIdeal.main_arg0) = m' ((c.tc : Thread Cert.RwkvProjRefIdeal.nD Cert.RwkvProjRefIdeal.τ).loc Cert.RwkvProjRefIdeal.main_arg0)
          ∧ r.2.mem ((c.tc : Thread Cert.RwkvProjRefIdeal.nD Cert.RwkvProjRefIdeal.τ).loc Cert.RwkvProjRefIdeal.main_arg1) = m' ((c.tc : Thread Cert.RwkvProjRefIdeal.nD Cert.RwkvProjRefIdeal.τ).loc Cert.RwkvProjRefIdeal.main_arg1)
          ∧ r.2.mem ((c.tc : Thread Cert.RwkvProjRefIdeal.nD Cert.RwkvProjRefIdeal.τ).loc Cert.RwkvProjRefIdeal.main_arg2) = m' ((c.tc : Thread Cert.RwkvProjRefIdeal.nD Cert.RwkvProjRefIdeal.τ).loc Cert.RwkvProjRefIdeal.main_arg2)
          ∧ r.2.mem ((c.tc : Thread Cert.RwkvProjRefIdeal.nD Cert.RwkvProjRefIdeal.τ).loc Cert.RwkvProjRefIdeal.main_arg3) = m' ((c.tc : Thread Cert.RwkvProjRefIdeal.nD Cert.RwkvProjRefIdeal.τ).loc Cert.RwkvProjRefIdeal.main_arg3)
          ∧ r.2.mem ((c.tc : Thread Cert.RwkvProjRefIdeal.nD Cert.RwkvProjRefIdeal.τ).loc Cert.RwkvProjRefIdeal.main_arg4) = m' ((c.tc : Thread Cert.RwkvProjRefIdeal.nD Cert.RwkvProjRefIdeal.τ).loc Cert.RwkvProjRefIdeal.main_arg4)
          ∧ r.2.mem ((c.tc : Thread Cert.RwkvProjRefIdeal.nD Cert.RwkvProjRefIdeal.τ).loc Cert.RwkvProjRefIdeal.main_arg5) = m' ((c.tc : Thread Cert.RwkvProjRefIdeal.nD Cert.RwkvProjRefIdeal.τ).loc Cert.RwkvProjRefIdeal.main_arg5)
          ∧ r.2.mem ((c.tc : Thread Cert.RwkvProjRefIdeal.nD Cert.RwkvProjRefIdeal.τ).loc Cert.RwkvProjRefIdeal.main_arg6) = m' ((c.tc : Thread Cert.RwkvProjRefIdeal.nD Cert.RwkvProjRefIdeal.τ).loc Cert.RwkvProjRefIdeal.main_arg6)
          ∧ r.2.mem ((c.tc : Thread Cert.RwkvProjRefIdeal.nD Cert.RwkvProjRefIdeal.τ).loc Cert.RwkvProjRefIdeal.main_arg7) = m' ((c.tc : Thread Cert.RwkvProjRefIdeal.nD Cert.RwkvProjRefIdeal.τ).loc Cert.RwkvProjRefIdeal.main_arg7)
          ∧ r.2.mem ((c.tc : Thread Cert.RwkvProjRefIdeal.nD Cert.RwkvProjRefIdeal.τ).loc Cert.RwkvProjRefIdeal.main_arg8) = m' ((c.tc : Thread Cert.RwkvProjRefIdeal.nD Cert.RwkvProjRefIdeal.τ).loc Cert.RwkvProjRefIdeal.main_arg8)
          ∧ r.2.mem ((c.tc : Thread Cert.RwkvProjRefIdeal.nD Cert.RwkvProjRefIdeal.τ).loc Cert.RwkvProjRefIdeal.main_arg9) = m' ((c.tc : Thread Cert.RwkvProjRefIdeal.nD Cert.RwkvProjRefIdeal.τ).loc Cert.RwkvProjRefIdeal.main_arg9))

def algebraic_RwkvOutIdeal_RwkvOutRefIdeal [hRwkvOutIdeal : Cert.RwkvOutIdeal.Facts] [hRwkvOutRefIdeal : Cert.RwkvOutRefIdeal.Facts] : Prop :=
  ∀ (m : (ℓ : Loc Cert.RwkvOutIdeal.nD Cert.RwkvOutIdeal.τ Cert.RwkvOutIdeal.sig) → Buf (Elt Ideal) ℓ) (g : Dev Cert.RwkvOutIdeal.nD → PrngReg)
    (m' : (ℓ : Loc Cert.RwkvOutRefIdeal.nD Cert.RwkvOutRefIdeal.τ Cert.RwkvOutRefIdeal.sig) → Buf (Elt Ideal) ℓ) (g' : Dev Cert.RwkvOutRefIdeal.nD → PrngReg), Pre_RwkvOutIdeal m →
    (∀ c : Dev Cert.RwkvOutIdeal.nD,
      m' ((c.tc : Thread Cert.RwkvOutRefIdeal.nD Cert.RwkvOutRefIdeal.τ).loc Cert.RwkvOutRefIdeal.main_arg0) = m ((c.tc : Thread Cert.RwkvOutIdeal.nD Cert.RwkvOutIdeal.τ).loc Cert.RwkvOutIdeal.main_arg0)
      ∧ m' ((c.tc : Thread Cert.RwkvOutRefIdeal.nD Cert.RwkvOutRefIdeal.τ).loc Cert.RwkvOutRefIdeal.main_arg1) = m ((c.tc : Thread Cert.RwkvOutIdeal.nD Cert.RwkvOutIdeal.τ).loc Cert.RwkvOutIdeal.main_arg1)
      ∧ m' ((c.tc : Thread Cert.RwkvOutRefIdeal.nD Cert.RwkvOutRefIdeal.τ).loc Cert.RwkvOutRefIdeal.main_arg2) = m ((c.tc : Thread Cert.RwkvOutIdeal.nD Cert.RwkvOutIdeal.τ).loc Cert.RwkvOutIdeal.main_arg2)
      ∧ m' ((c.tc : Thread Cert.RwkvOutRefIdeal.nD Cert.RwkvOutRefIdeal.τ).loc Cert.RwkvOutRefIdeal.main_arg3) = m ((c.tc : Thread Cert.RwkvOutIdeal.nD Cert.RwkvOutIdeal.τ).loc Cert.RwkvOutIdeal.main_arg3)) →
    ∃ (v0 : (c : Dev Cert.RwkvOutIdeal.nD) → Buf (Elt Ideal) ((c.tc : Thread Cert.RwkvOutIdeal.nD Cert.RwkvOutIdeal.τ).loc Cert.RwkvOutIdeal.main_v5)),
      θ_run (Cert.RwkvOutIdeal.defs (F := Ideal)) (onTc (τ := Cert.RwkvOutIdeal.τ) (Cert.RwkvOutIdeal.main (F := Ideal))) ⟨m, fun _ => 0, g⟩ (fun r => ∀ c : Dev Cert.RwkvOutIdeal.nD,
          r.2.mem ((c.tc : Thread Cert.RwkvOutIdeal.nD Cert.RwkvOutIdeal.τ).loc Cert.RwkvOutIdeal.main_v5) = v0 c
          ∧ r.2.mem ((c.tc : Thread Cert.RwkvOutIdeal.nD Cert.RwkvOutIdeal.τ).loc Cert.RwkvOutIdeal.main_arg0) = m ((c.tc : Thread Cert.RwkvOutIdeal.nD Cert.RwkvOutIdeal.τ).loc Cert.RwkvOutIdeal.main_arg0)
          ∧ r.2.mem ((c.tc : Thread Cert.RwkvOutIdeal.nD Cert.RwkvOutIdeal.τ).loc Cert.RwkvOutIdeal.main_arg1) = m ((c.tc : Thread Cert.RwkvOutIdeal.nD Cert.RwkvOutIdeal.τ).loc Cert.RwkvOutIdeal.main_arg1)
          ∧ r.2.mem ((c.tc : Thread Cert.RwkvOutIdeal.nD Cert.RwkvOutIdeal.τ).loc Cert.RwkvOutIdeal.main_arg2) = m ((c.tc : Thread Cert.RwkvOutIdeal.nD Cert.RwkvOutIdeal.τ).loc Cert.RwkvOutIdeal.main_arg2)
          ∧ r.2.mem ((c.tc : Thread Cert.RwkvOutIdeal.nD Cert.RwkvOutIdeal.τ).loc Cert.RwkvOutIdeal.main_arg3) = m ((c.tc : Thread Cert.RwkvOutIdeal.nD Cert.RwkvOutIdeal.τ).loc Cert.RwkvOutIdeal.main_arg3))
      ∧ θ_run (Cert.RwkvOutRefIdeal.defs (F := Ideal)) (onTc (τ := Cert.RwkvOutRefIdeal.τ) (Cert.RwkvOutRefIdeal.main (F := Ideal))) ⟨m', fun _ => 0, g'⟩ (fun r => ∀ c : Dev Cert.RwkvOutRefIdeal.nD,
          r.2.mem ((c.tc : Thread Cert.RwkvOutRefIdeal.nD Cert.RwkvOutRefIdeal.τ).loc Cert.RwkvOutRefIdeal.main_v17) = v0 c
          ∧ r.2.mem ((c.tc : Thread Cert.RwkvOutRefIdeal.nD Cert.RwkvOutRefIdeal.τ).loc Cert.RwkvOutRefIdeal.main_arg0) = m' ((c.tc : Thread Cert.RwkvOutRefIdeal.nD Cert.RwkvOutRefIdeal.τ).loc Cert.RwkvOutRefIdeal.main_arg0)
          ∧ r.2.mem ((c.tc : Thread Cert.RwkvOutRefIdeal.nD Cert.RwkvOutRefIdeal.τ).loc Cert.RwkvOutRefIdeal.main_arg1) = m' ((c.tc : Thread Cert.RwkvOutRefIdeal.nD Cert.RwkvOutRefIdeal.τ).loc Cert.RwkvOutRefIdeal.main_arg1)
          ∧ r.2.mem ((c.tc : Thread Cert.RwkvOutRefIdeal.nD Cert.RwkvOutRefIdeal.τ).loc Cert.RwkvOutRefIdeal.main_arg2) = m' ((c.tc : Thread Cert.RwkvOutRefIdeal.nD Cert.RwkvOutRefIdeal.τ).loc Cert.RwkvOutRefIdeal.main_arg2)
          ∧ r.2.mem ((c.tc : Thread Cert.RwkvOutRefIdeal.nD Cert.RwkvOutRefIdeal.τ).loc Cert.RwkvOutRefIdeal.main_arg3) = m' ((c.tc : Thread Cert.RwkvOutRefIdeal.nD Cert.RwkvOutRefIdeal.τ).loc Cert.RwkvOutRefIdeal.main_arg3))

def algebraic_SampleOutIdeal_SampleOutRefIdeal [hSampleOutIdeal : Cert.SampleOutIdeal.Facts] [hSampleOutRefIdeal : Cert.SampleOutRefIdeal.Facts] : Prop :=
  ∀ (m : (ℓ : Loc Cert.SampleOutIdeal.nD Cert.SampleOutIdeal.τ Cert.SampleOutIdeal.sig) → Buf (Elt Ideal) ℓ) (g : Dev Cert.SampleOutIdeal.nD → PrngReg)
    (m' : (ℓ : Loc Cert.SampleOutRefIdeal.nD Cert.SampleOutRefIdeal.τ Cert.SampleOutRefIdeal.sig) → Buf (Elt Ideal) ℓ) (g' : Dev Cert.SampleOutRefIdeal.nD → PrngReg), Pre_SampleOutIdeal m →
    (∀ c : Dev Cert.SampleOutIdeal.nD,
      m' ((c.tc : Thread Cert.SampleOutRefIdeal.nD Cert.SampleOutRefIdeal.τ).loc Cert.SampleOutRefIdeal.main_arg0) = m ((c.tc : Thread Cert.SampleOutIdeal.nD Cert.SampleOutIdeal.τ).loc Cert.SampleOutIdeal.main_arg0)
      ∧ m' ((c.tc : Thread Cert.SampleOutRefIdeal.nD Cert.SampleOutRefIdeal.τ).loc Cert.SampleOutRefIdeal.main_arg1) = m ((c.tc : Thread Cert.SampleOutIdeal.nD Cert.SampleOutIdeal.τ).loc Cert.SampleOutIdeal.main_arg1)
      ∧ m' ((c.tc : Thread Cert.SampleOutRefIdeal.nD Cert.SampleOutRefIdeal.τ).loc Cert.SampleOutRefIdeal.main_arg2) = m ((c.tc : Thread Cert.SampleOutIdeal.nD Cert.SampleOutIdeal.τ).loc Cert.SampleOutIdeal.main_arg2)
      ∧ m' ((c.tc : Thread Cert.SampleOutRefIdeal.nD Cert.SampleOutRefIdeal.τ).loc Cert.SampleOutRefIdeal.main_arg3) = m ((c.tc : Thread Cert.SampleOutIdeal.nD Cert.SampleOutIdeal.τ).loc Cert.SampleOutIdeal.main_arg3)) →
    ∃ (v0 : (c : Dev Cert.SampleOutIdeal.nD) → Buf (Elt Ideal) ((c.tc : Thread Cert.SampleOutIdeal.nD Cert.SampleOutIdeal.τ).loc Cert.SampleOutIdeal.main_v5)),
      θ_run (Cert.SampleOutIdeal.defs (F := Ideal)) (onTc (τ := Cert.SampleOutIdeal.τ) (Cert.SampleOutIdeal.main (F := Ideal))) ⟨m, fun _ => 0, g⟩ (fun r => ∀ c : Dev Cert.SampleOutIdeal.nD,
          r.2.mem ((c.tc : Thread Cert.SampleOutIdeal.nD Cert.SampleOutIdeal.τ).loc Cert.SampleOutIdeal.main_v5) = v0 c
          ∧ r.2.mem ((c.tc : Thread Cert.SampleOutIdeal.nD Cert.SampleOutIdeal.τ).loc Cert.SampleOutIdeal.main_arg0) = m ((c.tc : Thread Cert.SampleOutIdeal.nD Cert.SampleOutIdeal.τ).loc Cert.SampleOutIdeal.main_arg0)
          ∧ r.2.mem ((c.tc : Thread Cert.SampleOutIdeal.nD Cert.SampleOutIdeal.τ).loc Cert.SampleOutIdeal.main_arg1) = m ((c.tc : Thread Cert.SampleOutIdeal.nD Cert.SampleOutIdeal.τ).loc Cert.SampleOutIdeal.main_arg1)
          ∧ r.2.mem ((c.tc : Thread Cert.SampleOutIdeal.nD Cert.SampleOutIdeal.τ).loc Cert.SampleOutIdeal.main_arg2) = m ((c.tc : Thread Cert.SampleOutIdeal.nD Cert.SampleOutIdeal.τ).loc Cert.SampleOutIdeal.main_arg2)
          ∧ r.2.mem ((c.tc : Thread Cert.SampleOutIdeal.nD Cert.SampleOutIdeal.τ).loc Cert.SampleOutIdeal.main_arg3) = m ((c.tc : Thread Cert.SampleOutIdeal.nD Cert.SampleOutIdeal.τ).loc Cert.SampleOutIdeal.main_arg3))
      ∧ θ_run (Cert.SampleOutRefIdeal.defs (F := Ideal)) (onTc (τ := Cert.SampleOutRefIdeal.τ) (Cert.SampleOutRefIdeal.main (F := Ideal))) ⟨m', fun _ => 0, g'⟩ (fun r => ∀ c : Dev Cert.SampleOutRefIdeal.nD,
          r.2.mem ((c.tc : Thread Cert.SampleOutRefIdeal.nD Cert.SampleOutRefIdeal.τ).loc Cert.SampleOutRefIdeal.main_v16) = v0 c
          ∧ r.2.mem ((c.tc : Thread Cert.SampleOutRefIdeal.nD Cert.SampleOutRefIdeal.τ).loc Cert.SampleOutRefIdeal.main_arg0) = m' ((c.tc : Thread Cert.SampleOutRefIdeal.nD Cert.SampleOutRefIdeal.τ).loc Cert.SampleOutRefIdeal.main_arg0)
          ∧ r.2.mem ((c.tc : Thread Cert.SampleOutRefIdeal.nD Cert.SampleOutRefIdeal.τ).loc Cert.SampleOutRefIdeal.main_arg1) = m' ((c.tc : Thread Cert.SampleOutRefIdeal.nD Cert.SampleOutRefIdeal.τ).loc Cert.SampleOutRefIdeal.main_arg1)
          ∧ r.2.mem ((c.tc : Thread Cert.SampleOutRefIdeal.nD Cert.SampleOutRefIdeal.τ).loc Cert.SampleOutRefIdeal.main_arg2) = m' ((c.tc : Thread Cert.SampleOutRefIdeal.nD Cert.SampleOutRefIdeal.τ).loc Cert.SampleOutRefIdeal.main_arg2)
          ∧ r.2.mem ((c.tc : Thread Cert.SampleOutRefIdeal.nD Cert.SampleOutRefIdeal.τ).loc Cert.SampleOutRefIdeal.main_arg3) = m' ((c.tc : Thread Cert.SampleOutRefIdeal.nD Cert.SampleOutRefIdeal.τ).loc Cert.SampleOutRefIdeal.main_arg3))

def algebraic_SampleProjIdeal_SampleProjRefIdeal [hSampleProjIdeal : Cert.SampleProjIdeal.Facts] [hSampleProjRefIdeal : Cert.SampleProjRefIdeal.Facts] : Prop :=
  ∀ (m : (ℓ : Loc Cert.SampleProjIdeal.nD Cert.SampleProjIdeal.τ Cert.SampleProjIdeal.sig) → Buf (Elt Ideal) ℓ) (g : Dev Cert.SampleProjIdeal.nD → PrngReg)
    (m' : (ℓ : Loc Cert.SampleProjRefIdeal.nD Cert.SampleProjRefIdeal.τ Cert.SampleProjRefIdeal.sig) → Buf (Elt Ideal) ℓ) (g' : Dev Cert.SampleProjRefIdeal.nD → PrngReg), Pre_SampleProjIdeal m →
    (∀ c : Dev Cert.SampleProjIdeal.nD,
      m' ((c.tc : Thread Cert.SampleProjRefIdeal.nD Cert.SampleProjRefIdeal.τ).loc Cert.SampleProjRefIdeal.main_arg0) = m ((c.tc : Thread Cert.SampleProjIdeal.nD Cert.SampleProjIdeal.τ).loc Cert.SampleProjIdeal.main_arg0)
      ∧ m' ((c.tc : Thread Cert.SampleProjRefIdeal.nD Cert.SampleProjRefIdeal.τ).loc Cert.SampleProjRefIdeal.main_arg1) = m ((c.tc : Thread Cert.SampleProjIdeal.nD Cert.SampleProjIdeal.τ).loc Cert.SampleProjIdeal.main_arg1)
      ∧ m' ((c.tc : Thread Cert.SampleProjRefIdeal.nD Cert.SampleProjRefIdeal.τ).loc Cert.SampleProjRefIdeal.main_arg2) = m ((c.tc : Thread Cert.SampleProjIdeal.nD Cert.SampleProjIdeal.τ).loc Cert.SampleProjIdeal.main_arg2)
      ∧ m' ((c.tc : Thread Cert.SampleProjRefIdeal.nD Cert.SampleProjRefIdeal.τ).loc Cert.SampleProjRefIdeal.main_arg3) = m ((c.tc : Thread Cert.SampleProjIdeal.nD Cert.SampleProjIdeal.τ).loc Cert.SampleProjIdeal.main_arg3)
      ∧ m' ((c.tc : Thread Cert.SampleProjRefIdeal.nD Cert.SampleProjRefIdeal.τ).loc Cert.SampleProjRefIdeal.main_arg4) = m ((c.tc : Thread Cert.SampleProjIdeal.nD Cert.SampleProjIdeal.τ).loc Cert.SampleProjIdeal.main_arg4)
      ∧ m' ((c.tc : Thread Cert.SampleProjRefIdeal.nD Cert.SampleProjRefIdeal.τ).loc Cert.SampleProjRefIdeal.main_arg5) = m ((c.tc : Thread Cert.SampleProjIdeal.nD Cert.SampleProjIdeal.τ).loc Cert.SampleProjIdeal.main_arg5)
      ∧ m' ((c.tc : Thread Cert.SampleProjRefIdeal.nD Cert.SampleProjRefIdeal.τ).loc Cert.SampleProjRefIdeal.main_arg6) = m ((c.tc : Thread Cert.SampleProjIdeal.nD Cert.SampleProjIdeal.τ).loc Cert.SampleProjIdeal.main_arg6)
      ∧ m' ((c.tc : Thread Cert.SampleProjRefIdeal.nD Cert.SampleProjRefIdeal.τ).loc Cert.SampleProjRefIdeal.main_arg7) = m ((c.tc : Thread Cert.SampleProjIdeal.nD Cert.SampleProjIdeal.τ).loc Cert.SampleProjIdeal.main_arg7)
      ∧ m' ((c.tc : Thread Cert.SampleProjRefIdeal.nD Cert.SampleProjRefIdeal.τ).loc Cert.SampleProjRefIdeal.main_arg8) = m ((c.tc : Thread Cert.SampleProjIdeal.nD Cert.SampleProjIdeal.τ).loc Cert.SampleProjIdeal.main_arg8)
      ∧ m' ((c.tc : Thread Cert.SampleProjRefIdeal.nD Cert.SampleProjRefIdeal.τ).loc Cert.SampleProjRefIdeal.main_arg9) = m ((c.tc : Thread Cert.SampleProjIdeal.nD Cert.SampleProjIdeal.τ).loc Cert.SampleProjIdeal.main_arg9)
      ∧ m' ((c.tc : Thread Cert.SampleProjRefIdeal.nD Cert.SampleProjRefIdeal.τ).loc Cert.SampleProjRefIdeal.main_arg10) = m ((c.tc : Thread Cert.SampleProjIdeal.nD Cert.SampleProjIdeal.τ).loc Cert.SampleProjIdeal.main_arg10)) →
    ∃ (v0 : (c : Dev Cert.SampleProjIdeal.nD) → Buf (Elt Ideal) ((c.tc : Thread Cert.SampleProjIdeal.nD Cert.SampleProjIdeal.τ).loc Cert.SampleProjIdeal.main_v22_0)) (v1 : (c : Dev Cert.SampleProjIdeal.nD) → Buf (Elt Ideal) ((c.tc : Thread Cert.SampleProjIdeal.nD Cert.SampleProjIdeal.τ).loc Cert.SampleProjIdeal.main_v22_1)) (v2 : (c : Dev Cert.SampleProjIdeal.nD) → Buf (Elt Ideal) ((c.tc : Thread Cert.SampleProjIdeal.nD Cert.SampleProjIdeal.τ).loc Cert.SampleProjIdeal.main_v22_2)) (v3 : (c : Dev Cert.SampleProjIdeal.nD) → Buf (Elt Ideal) ((c.tc : Thread Cert.SampleProjIdeal.nD Cert.SampleProjIdeal.τ).loc Cert.SampleProjIdeal.main_v22_3)) (v4 : (c : Dev Cert.SampleProjIdeal.nD) → Buf (Elt Ideal) ((c.tc : Thread Cert.SampleProjIdeal.nD Cert.SampleProjIdeal.τ).loc Cert.SampleProjIdeal.main_v22_4)) (v5 : (c : Dev Cert.SampleProjIdeal.nD) → Buf (Elt Ideal) ((c.tc : Thread Cert.SampleProjIdeal.nD Cert.SampleProjIdeal.τ).loc Cert.SampleProjIdeal.main_v22_5)) (v6 : (c : Dev Cert.SampleProjIdeal.nD) → Buf (Elt Ideal) ((c.tc : Thread Cert.SampleProjIdeal.nD Cert.SampleProjIdeal.τ).loc Cert.SampleProjIdeal.main_v22_6)),
      θ_run (Cert.SampleProjIdeal.defs (F := Ideal)) (onTc (τ := Cert.SampleProjIdeal.τ) (Cert.SampleProjIdeal.main (F := Ideal))) ⟨m, fun _ => 0, g⟩ (fun r => ∀ c : Dev Cert.SampleProjIdeal.nD,
          r.2.mem ((c.tc : Thread Cert.SampleProjIdeal.nD Cert.SampleProjIdeal.τ).loc Cert.SampleProjIdeal.main_v22_0) = v0 c
          ∧ r.2.mem ((c.tc : Thread Cert.SampleProjIdeal.nD Cert.SampleProjIdeal.τ).loc Cert.SampleProjIdeal.main_v22_1) = v1 c
          ∧ r.2.mem ((c.tc : Thread Cert.SampleProjIdeal.nD Cert.SampleProjIdeal.τ).loc Cert.SampleProjIdeal.main_v22_2) = v2 c
          ∧ r.2.mem ((c.tc : Thread Cert.SampleProjIdeal.nD Cert.SampleProjIdeal.τ).loc Cert.SampleProjIdeal.main_v22_3) = v3 c
          ∧ r.2.mem ((c.tc : Thread Cert.SampleProjIdeal.nD Cert.SampleProjIdeal.τ).loc Cert.SampleProjIdeal.main_v22_4) = v4 c
          ∧ r.2.mem ((c.tc : Thread Cert.SampleProjIdeal.nD Cert.SampleProjIdeal.τ).loc Cert.SampleProjIdeal.main_v22_5) = v5 c
          ∧ r.2.mem ((c.tc : Thread Cert.SampleProjIdeal.nD Cert.SampleProjIdeal.τ).loc Cert.SampleProjIdeal.main_v22_6) = v6 c
          ∧ r.2.mem ((c.tc : Thread Cert.SampleProjIdeal.nD Cert.SampleProjIdeal.τ).loc Cert.SampleProjIdeal.main_arg0) = m ((c.tc : Thread Cert.SampleProjIdeal.nD Cert.SampleProjIdeal.τ).loc Cert.SampleProjIdeal.main_arg0)
          ∧ r.2.mem ((c.tc : Thread Cert.SampleProjIdeal.nD Cert.SampleProjIdeal.τ).loc Cert.SampleProjIdeal.main_arg1) = m ((c.tc : Thread Cert.SampleProjIdeal.nD Cert.SampleProjIdeal.τ).loc Cert.SampleProjIdeal.main_arg1)
          ∧ r.2.mem ((c.tc : Thread Cert.SampleProjIdeal.nD Cert.SampleProjIdeal.τ).loc Cert.SampleProjIdeal.main_arg2) = m ((c.tc : Thread Cert.SampleProjIdeal.nD Cert.SampleProjIdeal.τ).loc Cert.SampleProjIdeal.main_arg2)
          ∧ r.2.mem ((c.tc : Thread Cert.SampleProjIdeal.nD Cert.SampleProjIdeal.τ).loc Cert.SampleProjIdeal.main_arg3) = m ((c.tc : Thread Cert.SampleProjIdeal.nD Cert.SampleProjIdeal.τ).loc Cert.SampleProjIdeal.main_arg3)
          ∧ r.2.mem ((c.tc : Thread Cert.SampleProjIdeal.nD Cert.SampleProjIdeal.τ).loc Cert.SampleProjIdeal.main_arg4) = m ((c.tc : Thread Cert.SampleProjIdeal.nD Cert.SampleProjIdeal.τ).loc Cert.SampleProjIdeal.main_arg4)
          ∧ r.2.mem ((c.tc : Thread Cert.SampleProjIdeal.nD Cert.SampleProjIdeal.τ).loc Cert.SampleProjIdeal.main_arg5) = m ((c.tc : Thread Cert.SampleProjIdeal.nD Cert.SampleProjIdeal.τ).loc Cert.SampleProjIdeal.main_arg5)
          ∧ r.2.mem ((c.tc : Thread Cert.SampleProjIdeal.nD Cert.SampleProjIdeal.τ).loc Cert.SampleProjIdeal.main_arg6) = m ((c.tc : Thread Cert.SampleProjIdeal.nD Cert.SampleProjIdeal.τ).loc Cert.SampleProjIdeal.main_arg6)
          ∧ r.2.mem ((c.tc : Thread Cert.SampleProjIdeal.nD Cert.SampleProjIdeal.τ).loc Cert.SampleProjIdeal.main_arg7) = m ((c.tc : Thread Cert.SampleProjIdeal.nD Cert.SampleProjIdeal.τ).loc Cert.SampleProjIdeal.main_arg7)
          ∧ r.2.mem ((c.tc : Thread Cert.SampleProjIdeal.nD Cert.SampleProjIdeal.τ).loc Cert.SampleProjIdeal.main_arg8) = m ((c.tc : Thread Cert.SampleProjIdeal.nD Cert.SampleProjIdeal.τ).loc Cert.SampleProjIdeal.main_arg8)
          ∧ r.2.mem ((c.tc : Thread Cert.SampleProjIdeal.nD Cert.SampleProjIdeal.τ).loc Cert.SampleProjIdeal.main_arg9) = m ((c.tc : Thread Cert.SampleProjIdeal.nD Cert.SampleProjIdeal.τ).loc Cert.SampleProjIdeal.main_arg9)
          ∧ r.2.mem ((c.tc : Thread Cert.SampleProjIdeal.nD Cert.SampleProjIdeal.τ).loc Cert.SampleProjIdeal.main_arg10) = m ((c.tc : Thread Cert.SampleProjIdeal.nD Cert.SampleProjIdeal.τ).loc Cert.SampleProjIdeal.main_arg10))
      ∧ θ_run (Cert.SampleProjRefIdeal.defs (F := Ideal)) (onTc (τ := Cert.SampleProjRefIdeal.τ) (Cert.SampleProjRefIdeal.main (F := Ideal))) ⟨m', fun _ => 0, g'⟩ (fun r => ∀ c : Dev Cert.SampleProjRefIdeal.nD,
          r.2.mem ((c.tc : Thread Cert.SampleProjRefIdeal.nD Cert.SampleProjRefIdeal.τ).loc Cert.SampleProjRefIdeal.main_v75) = v0 c
          ∧ r.2.mem ((c.tc : Thread Cert.SampleProjRefIdeal.nD Cert.SampleProjRefIdeal.τ).loc Cert.SampleProjRefIdeal.main_v76) = v1 c
          ∧ r.2.mem ((c.tc : Thread Cert.SampleProjRefIdeal.nD Cert.SampleProjRefIdeal.τ).loc Cert.SampleProjRefIdeal.main_v77) = v2 c
          ∧ r.2.mem ((c.tc : Thread Cert.SampleProjRefIdeal.nD Cert.SampleProjRefIdeal.τ).loc Cert.SampleProjRefIdeal.main_v78) = v3 c
          ∧ r.2.mem ((c.tc : Thread Cert.SampleProjRefIdeal.nD Cert.SampleProjRefIdeal.τ).loc Cert.SampleProjRefIdeal.main_v79) = v4 c
          ∧ r.2.mem ((c.tc : Thread Cert.SampleProjRefIdeal.nD Cert.SampleProjRefIdeal.τ).loc Cert.SampleProjRefIdeal.main_v80) = v5 c
          ∧ r.2.mem ((c.tc : Thread Cert.SampleProjRefIdeal.nD Cert.SampleProjRefIdeal.τ).loc Cert.SampleProjRefIdeal.main_v81) = v6 c
          ∧ r.2.mem ((c.tc : Thread Cert.SampleProjRefIdeal.nD Cert.SampleProjRefIdeal.τ).loc Cert.SampleProjRefIdeal.main_arg0) = m' ((c.tc : Thread Cert.SampleProjRefIdeal.nD Cert.SampleProjRefIdeal.τ).loc Cert.SampleProjRefIdeal.main_arg0)
          ∧ r.2.mem ((c.tc : Thread Cert.SampleProjRefIdeal.nD Cert.SampleProjRefIdeal.τ).loc Cert.SampleProjRefIdeal.main_arg1) = m' ((c.tc : Thread Cert.SampleProjRefIdeal.nD Cert.SampleProjRefIdeal.τ).loc Cert.SampleProjRefIdeal.main_arg1)
          ∧ r.2.mem ((c.tc : Thread Cert.SampleProjRefIdeal.nD Cert.SampleProjRefIdeal.τ).loc Cert.SampleProjRefIdeal.main_arg2) = m' ((c.tc : Thread Cert.SampleProjRefIdeal.nD Cert.SampleProjRefIdeal.τ).loc Cert.SampleProjRefIdeal.main_arg2)
          ∧ r.2.mem ((c.tc : Thread Cert.SampleProjRefIdeal.nD Cert.SampleProjRefIdeal.τ).loc Cert.SampleProjRefIdeal.main_arg3) = m' ((c.tc : Thread Cert.SampleProjRefIdeal.nD Cert.SampleProjRefIdeal.τ).loc Cert.SampleProjRefIdeal.main_arg3)
          ∧ r.2.mem ((c.tc : Thread Cert.SampleProjRefIdeal.nD Cert.SampleProjRefIdeal.τ).loc Cert.SampleProjRefIdeal.main_arg4) = m' ((c.tc : Thread Cert.SampleProjRefIdeal.nD Cert.SampleProjRefIdeal.τ).loc Cert.SampleProjRefIdeal.main_arg4)
          ∧ r.2.mem ((c.tc : Thread Cert.SampleProjRefIdeal.nD Cert.SampleProjRefIdeal.τ).loc Cert.SampleProjRefIdeal.main_arg5) = m' ((c.tc : Thread Cert.SampleProjRefIdeal.nD Cert.SampleProjRefIdeal.τ).loc Cert.SampleProjRefIdeal.main_arg5)
          ∧ r.2.mem ((c.tc : Thread Cert.SampleProjRefIdeal.nD Cert.SampleProjRefIdeal.τ).loc Cert.SampleProjRefIdeal.main_arg6) = m' ((c.tc : Thread Cert.SampleProjRefIdeal.nD Cert.SampleProjRefIdeal.τ).loc Cert.SampleProjRefIdeal.main_arg6)
          ∧ r.2.mem ((c.tc : Thread Cert.SampleProjRefIdeal.nD Cert.SampleProjRefIdeal.τ).loc Cert.SampleProjRefIdeal.main_arg7) = m' ((c.tc : Thread Cert.SampleProjRefIdeal.nD Cert.SampleProjRefIdeal.τ).loc Cert.SampleProjRefIdeal.main_arg7)
          ∧ r.2.mem ((c.tc : Thread Cert.SampleProjRefIdeal.nD Cert.SampleProjRefIdeal.τ).loc Cert.SampleProjRefIdeal.main_arg8) = m' ((c.tc : Thread Cert.SampleProjRefIdeal.nD Cert.SampleProjRefIdeal.τ).loc Cert.SampleProjRefIdeal.main_arg8)
          ∧ r.2.mem ((c.tc : Thread Cert.SampleProjRefIdeal.nD Cert.SampleProjRefIdeal.τ).loc Cert.SampleProjRefIdeal.main_arg9) = m' ((c.tc : Thread Cert.SampleProjRefIdeal.nD Cert.SampleProjRefIdeal.τ).loc Cert.SampleProjRefIdeal.main_arg9)
          ∧ r.2.mem ((c.tc : Thread Cert.SampleProjRefIdeal.nD Cert.SampleProjRefIdeal.τ).loc Cert.SampleProjRefIdeal.main_arg10) = m' ((c.tc : Thread Cert.SampleProjRefIdeal.nD Cert.SampleProjRefIdeal.τ).loc Cert.SampleProjRefIdeal.main_arg10))

def Claim : Prop :=
  ∃ (hKernel : Cert.Kernel.Facts) (hKernelIdeal : Cert.KernelIdeal.Facts) (hReferenceIdeal : Cert.ReferenceIdeal.Facts) (hAttnProj : Cert.AttnProj.Facts) (hAttnProjIdeal : Cert.AttnProjIdeal.Facts) (hAttnProjRefIdeal : Cert.AttnProjRefIdeal.Facts) (hRwkvProj : Cert.RwkvProj.Facts) (hRwkvProjIdeal : Cert.RwkvProjIdeal.Facts) (hRwkvProjRefIdeal : Cert.RwkvProjRefIdeal.Facts) (hRwkvOut : Cert.RwkvOut.Facts) (hRwkvOutIdeal : Cert.RwkvOutIdeal.Facts) (hRwkvOutRefIdeal : Cert.RwkvOutRefIdeal.Facts) (hSampleOut : Cert.SampleOut.Facts) (hSampleOutIdeal : Cert.SampleOutIdeal.Facts) (hSampleOutRefIdeal : Cert.SampleOutRefIdeal.Facts) (hSampleProj : Cert.SampleProj.Facts) (hSampleProjIdeal : Cert.SampleProjIdeal.Facts) (hSampleProjRefIdeal : Cert.SampleProjRefIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_AttnProj (hAttnProj := hAttnProj)
    ∧ quiescent_AttnProjIdeal (hAttnProjIdeal := hAttnProjIdeal)
    ∧ quiescent_AttnProjRefIdeal (hAttnProjRefIdeal := hAttnProjRefIdeal)
    ∧ quiescent_RwkvProj (hRwkvProj := hRwkvProj)
    ∧ quiescent_RwkvProjIdeal (hRwkvProjIdeal := hRwkvProjIdeal)
    ∧ quiescent_RwkvProjRefIdeal (hRwkvProjRefIdeal := hRwkvProjRefIdeal)
    ∧ quiescent_RwkvOut (hRwkvOut := hRwkvOut)
    ∧ quiescent_RwkvOutIdeal (hRwkvOutIdeal := hRwkvOutIdeal)
    ∧ quiescent_RwkvOutRefIdeal (hRwkvOutRefIdeal := hRwkvOutRefIdeal)
    ∧ quiescent_SampleOut (hSampleOut := hSampleOut)
    ∧ quiescent_SampleOutIdeal (hSampleOutIdeal := hSampleOutIdeal)
    ∧ quiescent_SampleOutRefIdeal (hSampleOutRefIdeal := hSampleOutRefIdeal)
    ∧ quiescent_SampleProj (hSampleProj := hSampleProj)
    ∧ quiescent_SampleProjIdeal (hSampleProjIdeal := hSampleProjIdeal)
    ∧ quiescent_SampleProjRefIdeal (hSampleProjRefIdeal := hSampleProjRefIdeal)
    ∧ preserves_Kernel_KernelIdeal
    ∧ algebraic_KernelIdeal_ReferenceIdeal_pre_finite (hKernelIdeal := hKernelIdeal) (hReferenceIdeal := hReferenceIdeal) (hPre_finite := hPre_finite)
    ∧ algebraic_AttnProjIdeal_AttnProjRefIdeal (hAttnProjIdeal := hAttnProjIdeal) (hAttnProjRefIdeal := hAttnProjRefIdeal)
    ∧ algebraic_RwkvProjIdeal_RwkvProjRefIdeal (hRwkvProjIdeal := hRwkvProjIdeal) (hRwkvProjRefIdeal := hRwkvProjRefIdeal)
    ∧ algebraic_RwkvOutIdeal_RwkvOutRefIdeal (hRwkvOutIdeal := hRwkvOutIdeal) (hRwkvOutRefIdeal := hRwkvOutRefIdeal)
    ∧ algebraic_SampleOutIdeal_SampleOutRefIdeal (hSampleOutIdeal := hSampleOutIdeal) (hSampleOutRefIdeal := hSampleOutRefIdeal)
    ∧ algebraic_SampleProjIdeal_SampleProjRefIdeal (hSampleProjIdeal := hSampleProjIdeal) (hSampleProjRefIdeal := hSampleProjRefIdeal)
-- ==== Pre_finite.lean ====
abbrev S4x4112x4x4x64 : Shape := ⟨5, ![4, 4112, 4, 4, 64]⟩
abbrev S4x4112x4x64 : Shape := ⟨4, ![4, 4112, 4, 64]⟩
abbrev S4x4112x1024 : Shape := ⟨3, ![4, 4112, 1024]⟩
abbrev S4x4096x1024 : Shape := ⟨3, ![4, 4096, 1024]⟩
abbrev S16x1024 : Shape := ⟨2, ![16, 1024]⟩
abbrev S32x16 : Shape := ⟨2, ![32, 16]⟩
abbrev S1x16 : Shape := ⟨2, ![1, 16]⟩
abbrev S1x1024x1024 : Shape := ⟨3, ![1, 1024, 1024]⟩
abbrev S_ : Shape := ⟨0, ![]⟩

class Facts : Prop where
  bcast_S_S4x4112x4x4x64 : S_.BroadcastsInDim S4x4112x4x4x64 (![] : Fin 0 → Fin S4x4112x4x4x64.rank)
  bcast_S_S4x4112x4x64 : S_.BroadcastsInDim S4x4112x4x64 (![] : Fin 0 → Fin S4x4112x4x64.rank)
  bcast_S_S32x16 : S_.BroadcastsInDim S32x16 (![] : Fin 0 → Fin S32x16.rank)
  bcast_S_S1x16 : S_.BroadcastsInDim S1x16 (![] : Fin 0 → Fin S1x16.rank)

variable [Facts]

def fn {F : FTy → Type} [FloatOps F] (main_arg0 : FVec F S4x4112x4x4x64 .f32) (main_arg1 : FVec F S4x4112x4x64 .f32) (main_arg2 : FVec F S4x4112x4x64 .f32) (main_arg3 : FVec F S4x4112x1024 .f32) (main_arg4 : FVec F S4x4096x1024 .f32) (main_arg5 : FVec F S16x1024 .f32) (main_arg6 : FVec F S32x16 .f32) (main_arg7 : FVec F S1x16 .f32) (main_arg8 : FVec F S1x1024x1024 .f32) : IVec S4x4112x4x4x64 1 × IVec S4x4112x4x64 1 × IVec S32x16 1 × IVec S1x16 1 :=
  let main_v0 : FVec F S4x4112x4x4x64 .f32 := Host.absf main_arg0
  let main_cst : FVec F S_ .f32 := constant S_ .f32 0x7F800000#32
  let main_v1 : FVec F S4x4112x4x4x64 .f32 := broadcastInDim S4x4112x4x4x64 ![] bcast_S_S4x4112x4x4x64 main_cst
  let main_v2 : IVec S4x4112x4x4x64 1 := cmpf .olt main_v0 main_v1
  let main_v3 : FVec F S4x4112x4x64 .f32 := Host.absf main_arg1
  let main_cst_0 : FVec F S_ .f32 := constant S_ .f32 0x7F800000#32
  let main_v4 : FVec F S4x4112x4x64 .f32 := broadcastInDim S4x4112x4x64 ![] bcast_S_S4x4112x4x64 main_cst_0
  let main_v5 : IVec S4x4112x4x64 1 := cmpf .olt main_v3 main_v4
  let main_v6 : FVec F S32x16 .f32 := Host.absf main_arg6
  let main_cst_1 : FVec F S_ .f32 := constant S_ .f32 0x7F800000#32
  let main_v7 : FVec F S32x16 .f32 := broadcastInDim S32x16 ![] bcast_S_S32x16 main_cst_1
  let main_v8 : IVec S32x16 1 := cmpf .olt main_v6 main_v7
  let main_v9 : FVec F S1x16 .f32 := Host.absf main_arg7
  let main_cst_2 : FVec F S_ .f32 := constant S_ .f32 0x7F800000#32
  let main_v10 : FVec F S1x16 .f32 := broadcastInDim S1x16 ![] bcast_S_S1x16 main_cst_2
  let main_v11 : IVec S1x16 1 := cmpf .olt main_v9 main_v10
  (main_v2, main_v5, main_v8, main_v11)
-- ==== Kernel.lean ====
abbrev S4x4112x4x4x64 : Shape := ⟨5, ![4, 4112, 4, 4, 64]⟩
abbrev S4x4112x4x64 : Shape := ⟨4, ![4, 4112, 4, 64]⟩
abbrev S4x4112x1024 : Shape := ⟨3, ![4, 4112, 1024]⟩
abbrev S4x4096x1024 : Shape := ⟨3, ![4, 4096, 1024]⟩
abbrev S16x1024 : Shape := ⟨2, ![16, 1024]⟩
abbrev S32x16 : Shape := ⟨2, ![32, 16]⟩
abbrev S1x16 : Shape := ⟨2, ![1, 16]⟩
abbrev S1x1024x1024 : Shape := ⟨3, ![1, 1024, 1024]⟩
abbrev S128 : Shape := ⟨1, ![128]⟩
abbrev S_ : Shape := ⟨0, ![]⟩
abbrev S4x4224x1024 : Shape := ⟨3, ![4, 4224, 1024]⟩
abbrev S16896x1024 : Shape := ⟨2, ![16896, 1024]⟩
abbrev S4x4112x256 : Shape := ⟨3, ![4, 4112, 256]⟩
abbrev S4x4112x512 : Shape := ⟨3, ![4, 4112, 512]⟩
abbrev S4x4224x512 : Shape := ⟨3, ![4, 4224, 512]⟩
abbrev S16896x512 : Shape := ⟨2, ![16896, 512]⟩
abbrev S16896x4x2x64 : Shape := ⟨4, ![16896, 4, 2, 64]⟩
abbrev S128x128 : Shape := ⟨2, ![128, 128]⟩
abbrev S128x128x1 : Shape := ⟨3, ![128, 128, 1]⟩
abbrev S128x128x16 : Shape := ⟨3, ![128, 128, 16]⟩
abbrev S16x128x128 : Shape := ⟨3, ![16, 128, 128]⟩
abbrev S112x1024 : Shape := ⟨2, ![112, 1024]⟩
abbrev S128x1024 : Shape := ⟨2, ![128, 1024]⟩
abbrev S16384x1024 : Shape := ⟨2, ![16384, 1024]⟩
abbrev S16 : Shape := ⟨1, ![16]⟩
abbrev S1024x1024 : Shape := ⟨2, ![1024, 1024]⟩
abbrev S384x1024 : Shape := ⟨2, ![384, 1024]⟩
abbrev S16x384x128 : Shape := ⟨3, ![16, 384, 128]⟩
abbrev S256x128 : Shape := ⟨2, ![256, 128]⟩
abbrev S256x1 : Shape := ⟨2, ![256, 1]⟩
abbrev S1x128x128 : Shape := ⟨3, ![1, 128, 128]⟩
abbrev S1x128 : Shape := ⟨2, ![1, 128]⟩
abbrev S128x256 : Shape := ⟨2, ![128, 256]⟩
abbrev S1 : Shape := ⟨1, ![1]⟩
abbrev S256 : Shape := ⟨1, ![256]⟩

abbrev nBuf : Space → Nat
  | .hbm => 68
  | .vmem => 21
  | .smem => 1
  | _ => 0

abbrev bufTy : (tb : Table) → Fin (tcTables nBuf tb) → BufTy
  | .hbm, ⟨0, _⟩ => ⟨S4x4112x4x4x64, .f32⟩
  | .hbm, ⟨1, _⟩ => ⟨S4x4112x4x64, .f32⟩
  | .hbm, ⟨2, _⟩ => ⟨S4x4112x4x64, .f32⟩
  | .hbm, ⟨3, _⟩ => ⟨S4x4112x1024, .f32⟩
  | .hbm, ⟨4, _⟩ => ⟨S4x4096x1024, .f32⟩
  | .hbm, ⟨5, _⟩ => ⟨S16x1024, .f32⟩
  | .hbm, ⟨6, _⟩ => ⟨S32x16, .f32⟩
  | .hbm, ⟨7, _⟩ => ⟨S1x16, .f32⟩
  | .hbm, ⟨8, _⟩ => ⟨S1x1024x1024, .f32⟩
  | .hbm, ⟨9, _⟩ => ⟨S128, .i32⟩
  | .hbm, ⟨10, _⟩ => ⟨S4x4112x1024, .f32⟩
  | .hbm, ⟨11, _⟩ => ⟨S_, .f32⟩
  | .hbm, ⟨12, _⟩ => ⟨S4x4112x1024, .f32⟩
  | .hbm, ⟨13, _⟩ => ⟨S4x4112x1024, .f32⟩
  | .hbm, ⟨14, _⟩ => ⟨S_, .i32⟩
  | .hbm, ⟨15, _⟩ => ⟨S_, .f32⟩
  | .hbm, ⟨16, _⟩ => ⟨S4x4224x1024, .f32⟩
  | .hbm, ⟨17, _⟩ => ⟨S16896x1024, .f32⟩
  | .hbm, ⟨18, _⟩ => ⟨S16896x1024, .bf16⟩
  | .hbm, ⟨19, _⟩ => ⟨S4x4112x256, .f32⟩
  | .hbm, ⟨20, _⟩ => ⟨S4x4112x256, .f32⟩
  | .hbm, ⟨21, _⟩ => ⟨S4x4112x512, .f32⟩
  | .hbm, ⟨22, _⟩ => ⟨S_, .i32⟩
  | .hbm, ⟨23, _⟩ => ⟨S_, .f32⟩
  | .hbm, ⟨24, _⟩ => ⟨S4x4224x512, .f32⟩
  | .hbm, ⟨25, _⟩ => ⟨S16896x512, .f32⟩
  | .hbm, ⟨26, _⟩ => ⟨S16896x4x2x64, .f32⟩
  | .hbm, ⟨27, _⟩ => ⟨S16896x4x2x64, .f32⟩
  | .hbm, ⟨28, _⟩ => ⟨S16896x512, .f32⟩
  | .hbm, ⟨29, _⟩ => ⟨S16896x1024, .f32⟩
  | .hbm, ⟨30, _⟩ => ⟨S16896x1024, .bf16⟩
  | .hbm, ⟨31, _⟩ => ⟨S128x128, .i32⟩
  | .hbm, ⟨32, _⟩ => ⟨S128x128, .i32⟩
  | .hbm, ⟨33, _⟩ => ⟨S128x128, .i32⟩
  | .hbm, ⟨34, _⟩ => ⟨S_, .i32⟩
  | .hbm, ⟨35, _⟩ => ⟨S128x128, .i32⟩
  | .hbm, ⟨36, _⟩ => ⟨S128x128, .i32⟩
  | .hbm, ⟨37, _⟩ => ⟨S_, .i32⟩
  | .hbm, ⟨38, _⟩ => ⟨S128x128, .i32⟩
  | .hbm, ⟨39, _⟩ => ⟨S128x128, .i1⟩
  | .hbm, ⟨40, _⟩ => ⟨S_, .i32⟩
  | .hbm, ⟨41, _⟩ => ⟨S128x128, .i32⟩
  | .hbm, ⟨42, _⟩ => ⟨S128x128, .i32⟩
  | .hbm, ⟨43, _⟩ => ⟨S128x128, .i32⟩
  | .hbm, ⟨44, _⟩ => ⟨S128x128x1, .i32⟩
  | .hbm, ⟨45, _⟩ => ⟨S128x128, .i32⟩
  | .hbm, ⟨46, _⟩ => ⟨S_, .i32⟩
  | .hbm, ⟨47, _⟩ => ⟨S128x128, .i32⟩
  | .hbm, ⟨48, _⟩ => ⟨S128x128, .i1⟩
  | .hbm, ⟨49, _⟩ => ⟨S_, .i32⟩
  | .hbm, ⟨50, _⟩ => ⟨S128x128, .i32⟩
  | .hbm, ⟨51, _⟩ => ⟨S128x128, .i32⟩
  | .hbm, ⟨52, _⟩ => ⟨S128x128, .i32⟩
  | .hbm, ⟨53, _⟩ => ⟨S128x128x1, .i32⟩
  | .hbm, ⟨54, _⟩ => ⟨S128x128x16, .f32⟩
  | .hbm, ⟨55, _⟩ => ⟨S16x128x128, .f32⟩
  | .hbm, ⟨56, _⟩ => ⟨S_, .f32⟩
  | .hbm, ⟨57, _⟩ => ⟨S112x1024, .f32⟩
  | .hbm, ⟨58, _⟩ => ⟨S128x1024, .f32⟩
  | .hbm, ⟨59, _⟩ => ⟨S16384x1024, .f32⟩
  | .hbm, ⟨60, _⟩ => ⟨S16, .f32⟩
  | .hbm, ⟨61, _⟩ => ⟨S_, .i32⟩
  | .hbm, ⟨62, _⟩ => ⟨S_, .f32⟩
  | .hbm, ⟨63, _⟩ => ⟨S4x4224x1024, .f32⟩
  | .hbm, ⟨64, _⟩ => ⟨S16896x1024, .f32⟩
  | .hbm, ⟨65, _⟩ => ⟨S1024x1024, .f32⟩
  | .hbm, ⟨66, _⟩ => ⟨S1024x1024, .bf16⟩
  | .hbm, ⟨67, _⟩ => ⟨S16896x1024, .f32⟩
  | .local _ .vmem, ⟨0, _⟩ => ⟨S384x1024, .bf16⟩
  | .local _ .vmem, ⟨1, _⟩ => ⟨S384x1024, .bf16⟩
  | .local _ .vmem, ⟨2, _⟩ => ⟨S384x1024, .bf16⟩
  | .local _ .vmem, ⟨3, _⟩ => ⟨S384x1024, .bf16⟩
  | .local _ .vmem, ⟨4, _⟩ => ⟨S128x1024, .bf16⟩
  | .local _ .vmem, ⟨5, _⟩ => ⟨S128x1024, .bf16⟩
  | .local _ .vmem, ⟨6, _⟩ => ⟨S384x1024, .f32⟩
  | .local _ .vmem, ⟨7, _⟩ => ⟨S384x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | .local _ .vmem, ⟨14, _⟩ => ⟨S128x1024, .f32⟩
  | .local _ .vmem, ⟨15, _⟩ => ⟨S16x128x128, .f32⟩
  | .local _ .vmem, ⟨16, _⟩ => ⟨S1024x1024, .bf16⟩
  | .local _ .vmem, ⟨17, _⟩ => ⟨S384x1024, .f32⟩
  | .local _ .vmem, ⟨18, _⟩ => ⟨S384x1024, .f32⟩
  | .local _ .vmem, ⟨19, _⟩ => ⟨S384x1024, .bf16⟩
  | .local _ .vmem, ⟨20, _⟩ => ⟨S16x384x128, .f32⟩
  | .local _ .smem, ⟨0, _⟩ => ⟨S16, .f32⟩
  | _, _ => ⟨S4x4112x4x4x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .smem, ⟨0, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_c_0 : Ref sig .tc := ⟨.hbm, 14, rfl⟩
abbrev main_call0_v0 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_c_1 : Ref sig .tc := ⟨.hbm, 22, rfl⟩
abbrev main_call1_v0 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_c_2 : Ref sig .tc := ⟨.hbm, 34, rfl⟩
abbrev main_v19 : Ref sig .tc := ⟨.hbm, 35, rfl⟩
abbrev main_v20 : Ref sig .tc := ⟨.hbm, 36, rfl⟩
abbrev main_c_3 : Ref sig .tc := ⟨.hbm, 37, rfl⟩
abbrev main_v21 : Ref sig .tc := ⟨.hbm, 38, rfl⟩
abbrev main_v22 : Ref sig .tc := ⟨.hbm, 39, rfl⟩
abbrev main_c_4 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_c_5 : Ref sig .tc := ⟨.hbm, 46, rfl⟩
abbrev main_v28 : Ref sig .tc := ⟨.hbm, 47, rfl⟩
abbrev main_v29 : Ref sig .tc := ⟨.hbm, 48, rfl⟩
abbrev main_c_6 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_7 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_c_8 : Ref sig .tc := ⟨.hbm, 61, rfl⟩
abbrev main_call2_v0 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_scratch0 : Ref sig .tc := ⟨.vmem, 19, rfl⟩
abbrev cc0_scratch1 : Ref sig .tc := ⟨.vmem, 20, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem10_0 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨2, ![4, 11], ![false, false]⟩

def k0_mult1 (i : grid0.Coords) : BitVec 32 :=
  let arg1 : BitVec 32 := BitVec.ofNat 32 (i 1).val
  let c3_i32 : BitVec 32 := 3#32
  let v113 : BitVec 32 := Scalar.muli arg1 c3_i32
  let c0_i32_27 : BitVec 32 := 0#32
  let v114 : BitVec 32 := Scalar.addi v113 c0_i32_27
  let c2_i32 : BitVec 32 := 2#32
  let v115 : BitVec 32 := Scalar.minsi v114 c2_i32
  let c128_i32_28 : BitVec 32 := 128#32
  let v116 : BitVec 32 := Scalar.muli v115 c128_i32_28
  v116
def k0_off1 (i : grid0.Coords) (c0_i32_27 : BitVec 32) : Fin 3 → Nat :=
  let c0_61 : Index := 0#32
  let arg1 : BitVec 32 := BitVec.ofNat 32 (i 1).val
  let c3_i32 : BitVec 32 := 3#32
  let v113 : BitVec 32 := Scalar.muli arg1 c3_i32
  let v114 : BitVec 32 := Scalar.addi v113 c0_i32_27
  let c2_i32 : BitVec 32 := 2#32
  let v115 : BitVec 32 := Scalar.minsi v114 c2_i32
  let c128_i32_28 : BitVec 32 := 128#32
  let v116 : BitVec 32 := Scalar.muli v115 c128_i32_28
  let v117 : BitVec 32 := v116
  let v226 : Index := Scalar.indexCast v117
  let c0_62 : Index := 0#32
  ![0, v226.toNat, 0]
def k0_off2 (i : grid0.Coords) (c0_i32_27 : BitVec 32) : Fin 3 → Nat :=
  let c2 : Index := 2#32
  let arg1 : BitVec 32 := BitVec.ofNat 32 (i 1).val
  let c3_i32 : BitVec 32 := 3#32
  let v113 : BitVec 32 := Scalar.muli arg1 c3_i32
  let v114 : BitVec 32 := Scalar.addi v113 c0_i32_27
  let c2_i32 : BitVec 32 := 2#32
  let v115 : BitVec 32 := Scalar.minsi v114 c2_i32
  let c128_i32_28 : BitVec 32 := 128#32
  let v116 : BitVec 32 := Scalar.muli v115 c128_i32_28
  let v117 : BitVec 32 := v116
  let v229 : Index := Scalar.indexCast v117
  let c0_63 : Index := 0#32
  ![2, v229.toNat, 0]
def k0_off3 (i : grid0.Coords) (c0_i32_27 : BitVec 32) : Fin 3 → Nat :=
  let c1 : Index := 1#32
  let arg1 : BitVec 32 := BitVec.ofNat 32 (i 1).val
  let c3_i32 : BitVec 32 := 3#32
  let v113 : BitVec 32 := Scalar.muli arg1 c3_i32
  let v114 : BitVec 32 := Scalar.addi v113 c0_i32_27
  let c2_i32 : BitVec 32 := 2#32
  let v115 : BitVec 32 := Scalar.minsi v114 c2_i32
  let c128_i32_28 : BitVec 32 := 128#32
  let v116 : BitVec 32 := Scalar.muli v115 c128_i32_28
  let v117 : BitVec 32 := v116
  let v247 : Index := Scalar.indexCast v117
  let c0_70 : Index := 0#32
  ![1, v247.toNat, 0]
def k0_off4 (i : grid0.Coords) (c0_i32_27 : BitVec 32) : Fin 3 → Nat :=
  let c3 : Index := 3#32
  let arg1 : BitVec 32 := BitVec.ofNat 32 (i 1).val
  let c3_i32 : BitVec 32 := 3#32
  let v113 : BitVec 32 := Scalar.muli arg1 c3_i32
  let v114 : BitVec 32 := Scalar.addi v113 c0_i32_27
  let c2_i32 : BitVec 32 := 2#32
  let v115 : BitVec 32 := Scalar.minsi v114 c2_i32
  let c128_i32_28 : BitVec 32 := 128#32
  let v116 : BitVec 32 := Scalar.muli v115 c128_i32_28
  let v117 : BitVec 32 := v116
  let v250 : Index := Scalar.indexCast v117
  let c0_71 : Index := 0#32
  ![3, v250.toNat, 0]
def k0_off5 (i : grid0.Coords) (c0_i32_27 : BitVec 32) : Fin 3 → Nat :=
  let c4 : Index := 4#32
  let arg1 : BitVec 32 := BitVec.ofNat 32 (i 1).val
  let c3_i32 : BitVec 32 := 3#32
  let v113 : BitVec 32 := Scalar.muli arg1 c3_i32
  let v114 : BitVec 32 := Scalar.addi v113 c0_i32_27
  let c2_i32 : BitVec 32 := 2#32
  let v115 : BitVec 32 := Scalar.minsi v114 c2_i32
  let c128_i32_28 : BitVec 32 := 128#32
  let v116 : BitVec 32 := Scalar.muli v115 c128_i32_28
  let v117 : BitVec 32 := v116
  let v268 : Index := Scalar.indexCast v117
  let c0_77 : Index := 0#32
  ![4, v268.toNat, 0]
def k0_off6 (i : grid0.Coords) (c0_i32_27 : BitVec 32) : Fin 3 → Nat :=
  let c6 : Index := 6#32
  let arg1 : BitVec 32 := BitVec.ofNat 32 (i 1).val
  let c3_i32 : BitVec 32 := 3#32
  let v113 : BitVec 32 := Scalar.muli arg1 c3_i32
  let v114 : BitVec 32 := Scalar.addi v113 c0_i32_27
  let c2_i32 : BitVec 32 := 2#32
  let v115 : BitVec 32 := Scalar.minsi v114 c2_i32
  let c128_i32_28 : BitVec 32 := 128#32
  let v116 : BitVec 32 := Scalar.muli v115 c128_i32_28
  let v117 : BitVec 32 := v116
  let v271 : Index := Scalar.indexCast v117
  let c0_78 : Index := 0#32
  ![6, v271.toNat, 0]
def k0_off7 (i : grid0.Coords) (c0_i32_27 : BitVec 32) : Fin 3 → Nat :=
  let c5 : Index := 5#32
  let arg1 : BitVec 32 := BitVec.ofNat 32 (i 1).val
  let c3_i32 : BitVec 32 := 3#32
  let v113 : BitVec 32 := Scalar.muli arg1 c3_i32
  let v114 : BitVec 32 := Scalar.addi v113 c0_i32_27
  let c2_i32 : BitVec 32 := 2#32
  let v115 : BitVec 32 := Scalar.minsi v114 c2_i32
  let c128_i32_28 : BitVec 32 := 128#32
  let v116 : BitVec 32 := Scalar.muli v115 c128_i32_28
  let v117 : BitVec 32 := v116
  let v289 : Index := Scalar.indexCast v117
  let c0_85 : Index := 0#32
  ![5, v289.toNat, 0]
def k0_off8 (i : grid0.Coords) (c0_i32_27 : BitVec 32) : Fin 3 → Nat :=
  let c7 : Index := 7#32
  let arg1 : BitVec 32 := BitVec.ofNat 32 (i 1).val
  let c3_i32 : BitVec 32 := 3#32
  let v113 : BitVec 32 := Scalar.muli arg1 c3_i32
  let v114 : BitVec 32 := Scalar.addi v113 c0_i32_27
  let c2_i32 : BitVec 32 := 2#32
  let v115 : BitVec 32 := Scalar.minsi v114 c2_i32
  let c128_i32_28 : BitVec 32 := 128#32
  let v116 : BitVec 32 := Scalar.muli v115 c128_i32_28
  let v117 : BitVec 32 := v116
  let v292 : Index := Scalar.indexCast v117
  let c0_86 : Index := 0#32
  ![7, v292.toNat, 0]
def k0_off9 (i : grid0.Coords) (c0_i32_27 : BitVec 32) : Fin 3 → Nat :=
  let c8 : Index := 8#32
  let arg1 : BitVec 32 := BitVec.ofNat 32 (i 1).val
  let c3_i32 : BitVec 32 := 3#32
  let v113 : BitVec 32 := Scalar.muli arg1 c3_i32
  let v114 : BitVec 32 := Scalar.addi v113 c0_i32_27
  let c2_i32 : BitVec 32 := 2#32
  let v115 : BitVec 32 := Scalar.minsi v114 c2_i32
  let c128_i32_28 : BitVec 32 := 128#32
  let v116 : BitVec 32 := Scalar.muli v115 c128_i32_28
  let v117 : BitVec 32 := v116
  let v310 : Index := Scalar.indexCast v117
  let c0_92 : Index := 0#32
  ![8, v310.toNat, 0]
def k0_off10 (i : grid0.Coords) (c0_i32_27 : BitVec 32) : Fin 3 → Nat :=
  let c10 : Index := 10#32
  let arg1 : BitVec 32 := BitVec.ofNat 32 (i 1).val
  let c3_i32 : BitVec 32 := 3#32
  let v113 : BitVec 32 := Scalar.muli arg1 c3_i32
  let v114 : BitVec 32 := Scalar.addi v113 c0_i32_27
  let c2_i32 : BitVec 32 := 2#32
  let v115 : BitVec 32 := Scalar.minsi v114 c2_i32
  let c128_i32_28 : BitVec 32 := 128#32
  let v116 : BitVec 32 := Scalar.muli v115 c128_i32_28
  let v117 : BitVec 32 := v116
  let v313 : Index := Scalar.indexCast v117
  let c0_93 : Index := 0#32
  ![10, v313.toNat, 0]
def k0_off11 (i : grid0.Coords) (c0_i32_27 : BitVec 32) : Fin 3 → Nat :=
  let c9 : Index := 9#32
  let arg1 : BitVec 32 := BitVec.ofNat 32 (i 1).val
  let c3_i32 : BitVec 32 := 3#32
  let v113 : BitVec 32 := Scalar.muli arg1 c3_i32
  let v114 : BitVec 32 := Scalar.addi v113 c0_i32_27
  let c2_i32 : BitVec 32 := 2#32
  let v115 : BitVec 32 := Scalar.minsi v114 c2_i32
  let c128_i32_28 : BitVec 32 := 128#32
  let v116 : BitVec 32 := Scalar.muli v115 c128_i32_28
  let v117 : BitVec 32 := v116
  let v331 : Index := Scalar.indexCast v117
  let c0_100 : Index := 0#32
  ![9, v331.toNat, 0]
def k0_off12 (i : grid0.Coords) (c0_i32_27 : BitVec 32) : Fin 3 → Nat :=
  let c11 : Index := 11#32
  let arg1 : BitVec 32 := BitVec.ofNat 32 (i 1).val
  let c3_i32 : BitVec 32 := 3#32
  let v113 : BitVec 32 := Scalar.muli arg1 c3_i32
  let v114 : BitVec 32 := Scalar.addi v113 c0_i32_27
  let c2_i32 : BitVec 32 := 2#32
  let v115 : BitVec 32 := Scalar.minsi v114 c2_i32
  let c128_i32_28 : BitVec 32 := 128#32
  let v116 : BitVec 32 := Scalar.muli v115 c128_i32_28
  let v117 : BitVec 32 := v116
  let v334 : Index := Scalar.indexCast v117
  let c0_101 : Index := 0#32
  ![11, v334.toNat, 0]
def k0_off13 (i : grid0.Coords) (c0_i32_27 : BitVec 32) : Fin 3 → Nat :=
  let c12 : Index := 12#32
  let arg1 : BitVec 32 := BitVec.ofNat 32 (i 1).val
  let c3_i32 : BitVec 32 := 3#32
  let v113 : BitVec 32 := Scalar.muli arg1 c3_i32
  let v114 : BitVec 32 := Scalar.addi v113 c0_i32_27
  let c2_i32 : BitVec 32 := 2#32
  let v115 : BitVec 32 := Scalar.minsi v114 c2_i32
  let c128_i32_28 : BitVec 32 := 128#32
  let v116 : BitVec 32 := Scalar.muli v115 c128_i32_28
  let v117 : BitVec 32 := v116
  let v352 : Index := Scalar.indexCast v117
  let c0_107 : Index := 0#32
  ![12, v352.toNat, 0]
def k0_off14 (i : grid0.Coords) (c0_i32_27 : BitVec 32) : Fin 3 → Nat :=
  let c14 : Index := 14#32
  let arg1 : BitVec 32 := BitVec.ofNat 32 (i 1).val
  let c3_i32 : BitVec 32 := 3#32
  let v113 : BitVec 32 := Scalar.muli arg1 c3_i32
  let v114 : BitVec 32 := Scalar.addi v113 c0_i32_27
  let c2_i32 : BitVec 32 := 2#32
  let v115 : BitVec 32 := Scalar.minsi v114 c2_i32
  let c128_i32_28 : BitVec 32 := 128#32
  let v116 : BitVec 32 := Scalar.muli v115 c128_i32_28
  let v117 : BitVec 32 := v116
  let v355 : Index := Scalar.indexCast v117
  let c0_108 : Index := 0#32
  ![14, v355.toNat, 0]
def k0_off15 (i : grid0.Coords) (c0_i32_27 : BitVec 32) : Fin 3 → Nat :=
  let c13 : Index := 13#32
  let arg1 : BitVec 32 := BitVec.ofNat 32 (i 1).val
  let c3_i32 : BitVec 32 := 3#32
  let v113 : BitVec 32 := Scalar.muli arg1 c3_i32
  let v114 : BitVec 32 := Scalar.addi v113 c0_i32_27
  let c2_i32 : BitVec 32 := 2#32
  let v115 : BitVec 32 := Scalar.minsi v114 c2_i32
  let c128_i32_28 : BitVec 32 := 128#32
  let v116 : BitVec 32 := Scalar.muli v115 c128_i32_28
  let v117 : BitVec 32 := v116
  let v373 : Index := Scalar.indexCast v117
  let c0_115 : Index := 0#32
  ![13, v373.toNat, 0]
def k0_off16 (i : grid0.Coords) (c0_i32_27 : BitVec 32) : Fin 3 → Nat :=
  let c15 : Index := 15#32
  let arg1 : BitVec 32 := BitVec.ofNat 32 (i 1).val
  let c3_i32 : BitVec 32 := 3#32
  let v113 : BitVec 32 := Scalar.muli arg1 c3_i32
  let v114 : BitVec 32 := Scalar.addi v113 c0_i32_27
  let c2_i32 : BitVec 32 := 2#32
  let v115 : BitVec 32 := Scalar.minsi v114 c2_i32
  let c128_i32_28 : BitVec 32 := 128#32
  let v116 : BitVec 32 := Scalar.muli v115 c128_i32_28
  let v117 : BitVec 32 := v116
  let v376 : Index := Scalar.indexCast v117
  let c0_116 : Index := 0#32
  ![15, v376.toNat, 0]
def k0_mult2 (i : grid0.Coords) : BitVec 32 :=
  let arg1 : BitVec 32 := BitVec.ofNat 32 (i 1).val
  let c3_i32_227 : BitVec 32 := 3#32
  let v710 : BitVec 32 := Scalar.muli arg1 c3_i32_227
  let c1_i32 : BitVec 32 := 1#32
  let v711 : BitVec 32 := Scalar.addi v710 c1_i32
  let c2_i32_228 : BitVec 32 := 2#32
  let v712 : BitVec 32 := Scalar.minsi v711 c2_i32_228
  let c128_i32_229 : BitVec 32 := 128#32
  let v713 : BitVec 32 := Scalar.muli v712 c128_i32_229
  v713
def k0_mult3 (i : grid0.Coords) : BitVec 32 :=
  let arg1 : BitVec 32 := BitVec.ofNat 32 (i 1).val
  let c3_i32_450 : BitVec 32 := 3#32
  let v1307 : BitVec 32 := Scalar.muli arg1 c3_i32_450
  let c2_i32_451 : BitVec 32 := 2#32
  let v1308 : BitVec 32 := Scalar.addi v1307 c2_i32_451
  let c2_i32_452 : BitVec 32 := 2#32
  let v1309 : BitVec 32 := Scalar.minsi v1308 c2_i32_452
  let c128_i32_453 : BitVec 32 := 128#32
  let v1310 : BitVec 32 := Scalar.muli v1309 c128_i32_453
  v1310
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c33_i32 : BitVec 32 := 33#32
  let v0 : BitVec 32 := Scalar.muli arg0 c33_i32
  let c3_i32 : BitVec 32 := 3#32
  let v1 : BitVec 32 := Scalar.muli arg1 c3_i32
  let c1_i32 : BitVec 32 := 1#32
  let v2 : BitVec 32 := Scalar.subi v1 c1_i32
  let c0_i32 : BitVec 32 := 0#32
  let v3 : BitVec 32 := Scalar.maxsi v2 c0_i32
  let v4 : BitVec 32 := Scalar.addi v0 v3
  let c0_i32_0 : BitVec 32 := 0#32
  let c0_i32_1 : BitVec 32 := 0#32
  ![v4.toNat, c0_i32_0.toNat]

def cc0_transform_4 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c3_i32 : BitVec 32 := 3#32
  let v1 : BitVec 32 := Scalar.muli arg1 c3_i32
  let c0_i32 : BitVec 32 := 0#32
  let v2 : BitVec 32 := Scalar.addi v1 c0_i32
  let c1_i32 : BitVec 32 := 1#32
  let v3 : BitVec 32 := Scalar.subi v2 c1_i32
  let c0_i32_0 : BitVec 32 := 0#32
  let v4 : BitVec 32 := Scalar.maxsi v3 c0_i32_0
  let v5 : BitVec 32 := Scalar.addi v0 v4
  let c0_i32_1 : BitVec 32 := 0#32
  let c0_i32_2 : BitVec 32 := 0#32
  ![v5.toNat, c0_i32_1.toNat]

def cc0_transform_7 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c3_i32 : BitVec 32 := 3#32
  let v1 : BitVec 32 := Scalar.muli arg1 c3_i32
  let c1_i32 : BitVec 32 := 1#32
  let v2 : BitVec 32 := Scalar.addi v1 c1_i32
  let c1_i32_0 : BitVec 32 := 1#32
  let v3 : BitVec 32 := Scalar.subi v2 c1_i32_0
  let c0_i32 : BitVec 32 := 0#32
  let v4 : BitVec 32 := Scalar.maxsi v3 c0_i32
  let v5 : BitVec 32 := Scalar.addi v0 v4
  let c0_i32_1 : BitVec 32 := 0#32
  let c0_i32_2 : BitVec 32 := 0#32
  ![v5.toNat, c0_i32_1.toNat]

def cc0_transform_8 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c3_i32 : BitVec 32 := 3#32
  let v1 : BitVec 32 := Scalar.muli arg1 c3_i32
  let c2_i32 : BitVec 32 := 2#32
  let v2 : BitVec 32 := Scalar.addi v1 c2_i32
  let c1_i32 : BitVec 32 := 1#32
  let v3 : BitVec 32 := Scalar.subi v2 c1_i32
  let c0_i32 : BitVec 32 := 0#32
  let v4 : BitVec 32 := Scalar.maxsi v3 c0_i32
  let v5 : BitVec 32 := Scalar.addi v0 v4
  let c0_i32_0 : BitVec 32 := 0#32
  let c0_i32_1 : BitVec 32 := 0#32
  ![v5.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c0_i32 : BitVec 32 := 0#32
  let c0_i32_0 : BitVec 32 := 0#32
  ![v1.toNat, c0_i32.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S384x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S384x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S384x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 1 → Memref sig .tc .vmem S16x128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S384x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S4x4112x4x4x64 : Shape := ⟨5, ![4, 4112, 4, 4, 64]⟩
abbrev S4x4112x4x64 : Shape := ⟨4, ![4, 4112, 4, 64]⟩
abbrev S4x4112x1024 : Shape := ⟨3, ![4, 4112, 1024]⟩
abbrev S4x4096x1024 : Shape := ⟨3, ![4, 4096, 1024]⟩
abbrev S16x1024 : Shape := ⟨2, ![16, 1024]⟩
abbrev S32x16 : Shape := ⟨2, ![32, 16]⟩
abbrev S1x16 : Shape := ⟨2, ![1, 16]⟩
abbrev S1x1024x1024 : Shape := ⟨3, ![1, 1024, 1024]⟩
abbrev S1x16x1024 : Shape := ⟨3, ![1, 16, 1024]⟩
abbrev S4x16x1024 : Shape := ⟨3, ![4, 16, 1024]⟩
abbrev S_ : Shape := ⟨0, ![]⟩
abbrev S4x4224x4x4x64 : Shape := ⟨5, ![4, 4224, 4, 4, 64]⟩
abbrev S4x33x128x4x4x64 : Shape := ⟨6, ![4, 33, 128, 4, 4, 64]⟩
abbrev S4x4224x4x64 : Shape := ⟨4, ![4, 4224, 4, 64]⟩
abbrev S4x33x128x4x64 : Shape := ⟨5, ![4, 33, 128, 4, 64]⟩
abbrev S4x34x128x4x64 : Shape := ⟨5, ![4, 34, 128, 4, 64]⟩
abbrev S4x33x256x4x64 : Shape := ⟨5, ![4, 33, 256, 4, 64]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S33 : Shape := ⟨1, ![33]⟩
abbrev S33x1x1 : Shape := ⟨3, ![33, 1, 1]⟩
abbrev S1x1x256 : Shape := ⟨3, ![1, 1, 256]⟩
abbrev S33x1x256 : Shape := ⟨3, ![33, 1, 256]⟩
abbrev S1x128x256 : Shape := ⟨3, ![1, 128, 256]⟩
abbrev S33x128x256 : Shape := ⟨3, ![33, 128, 256]⟩
abbrev S128x256x1 : Shape := ⟨3, ![128, 256, 1]⟩
abbrev S128x256x16 : Shape := ⟨3, ![128, 256, 16]⟩
abbrev S16x128x256 : Shape := ⟨3, ![16, 128, 256]⟩
abbrev S4x4x128x256 : Shape := ⟨4, ![4, 4, 128, 256]⟩
abbrev S16 : Shape := ⟨1, ![16]⟩
abbrev S4x33x4x256x128x4 : Shape := ⟨6, ![4, 33, 4, 256, 128, 4]⟩
abbrev S4x33x4x4x128x256 : Shape := ⟨6, ![4, 33, 4, 4, 128, 256]⟩
abbrev S1x1x4x4x128x256 : Shape := ⟨6, ![1, 1, 4, 4, 128, 256]⟩
abbrev S33x1x1x128x256 : Shape := ⟨5, ![33, 1, 1, 128, 256]⟩
abbrev S4x4x1x1 : Shape := ⟨4, ![4, 4, 1, 1]⟩
abbrev S4x33x4x4x128 : Shape := ⟨5, ![4, 33, 4, 4, 128]⟩
abbrev S4x33x4x4x128x1 : Shape := ⟨6, ![4, 33, 4, 4, 128, 1]⟩
abbrev S1x1x4x4x1x1 : Shape := ⟨6, ![1, 1, 4, 4, 1, 1]⟩
abbrev S4x33x4x64x4x128 : Shape := ⟨6, ![4, 33, 4, 64, 4, 128]⟩
abbrev S4x33x128x1024 : Shape := ⟨4, ![4, 33, 128, 1024]⟩
abbrev S4x4224x1024 : Shape := ⟨3, ![4, 4224, 1024]⟩
abbrev S1024x1024 : Shape := ⟨2, ![1024, 1024]⟩
abbrev S16896x1024 : Shape := ⟨2, ![16896, 1024]⟩

abbrev nBuf : Space → Nat
  | .hbm => 169
  | .vmem => 0
  | .smem => 0
  | _ => 0

abbrev hbmTy0_0 (i : Nat) : BufTy := match i % 128 with
  | 0 => ⟨S4x4112x4x4x64, .f32⟩
  | 1 => ⟨S4x4112x4x64, .f32⟩
  | 2 => ⟨S4x4112x4x64, .f32⟩
  | 3 => ⟨S4x4112x1024, .f32⟩
  | 4 => ⟨S4x4096x1024, .f32⟩
  | 5 => ⟨S16x1024, .f32⟩
  | 6 => ⟨S32x16, .f32⟩
  | 7 => ⟨S1x16, .f32⟩
  | 8 => ⟨S1x1024x1024, .f32⟩
  | 9 => ⟨S1x16x1024, .f32⟩
  | 10 => ⟨S4x16x1024, .f32⟩
  | 11 => ⟨S4x4112x1024, .f32⟩
  | 12 => ⟨S_, .i32⟩
  | 13 => ⟨S_, .f32⟩
  | 14 => ⟨S4x4224x4x4x64, .f32⟩
  | 15 => ⟨S4x33x128x4x4x64, .f32⟩
  | 16 => ⟨S_, .i32⟩
  | 17 => ⟨S_, .f32⟩
  | 18 => ⟨S4x4224x4x64, .f32⟩
  | 19 => ⟨S4x33x128x4x64, .f32⟩
  | 20 => ⟨S_, .i32⟩
  | 21 => ⟨S_, .f32⟩
  | 22 => ⟨S4x34x128x4x64, .f32⟩
  | 23 => ⟨S4x33x128x4x64, .f32⟩
  | 24 => ⟨S4x33x256x4x64, .f32⟩
  | 25 => ⟨S_, .i32⟩
  | 26 => ⟨S_, .f32⟩
  | 27 => ⟨S4x4224x4x64, .f32⟩
  | 28 => ⟨S4x33x128x4x64, .f32⟩
  | 29 => ⟨S_, .i32⟩
  | 30 => ⟨S_, .f32⟩
  | 31 => ⟨S4x34x128x4x64, .f32⟩
  | 32 => ⟨S4x33x128x4x64, .f32⟩
  | 33 => ⟨S4x33x256x4x64, .f32⟩
  | 34 => ⟨S128, .i32⟩
  | 35 => ⟨S128x1, .i32⟩
  | 36 => ⟨S256, .i32⟩
  | 37 => ⟨S1x256, .i32⟩
  | 38 => ⟨S_, .i32⟩
  | 39 => ⟨S128x1, .i32⟩
  | 40 => ⟨S128x1, .i32⟩
  | 41 => ⟨S128x256, .i32⟩
  | 42 => ⟨S128x256, .i32⟩
  | 43 => ⟨S128x256, .i32⟩
  | 44 => ⟨S33, .i32⟩
  | 45 => ⟨S33x1x1, .i32⟩
  | 46 => ⟨S_, .i32⟩
  | 47 => ⟨S33x1x1, .i32⟩
  | 48 => ⟨S33x1x1, .i32⟩
  | 49 => ⟨S_, .i32⟩
  | 50 => ⟨S33x1x1, .i32⟩
  | 51 => ⟨S33x1x1, .i32⟩
  | 52 => ⟨S1x1x256, .i32⟩
  | 53 => ⟨S33x1x256, .i32⟩
  | 54 => ⟨S33x1x256, .i32⟩
  | 55 => ⟨S33x1x256, .i32⟩
  | 56 => ⟨S_, .i32⟩
  | 57 => ⟨S33x1x256, .i32⟩
  | 58 => ⟨S33x1x256, .i32⟩
  | 59 => ⟨S_, .i32⟩
  | 60 => ⟨S128x256, .i32⟩
  | 61 => ⟨S128x256, .i1⟩
  | 62 => ⟨S_, .i32⟩
  | 63 => ⟨S128x256, .i32⟩
  | 64 => ⟨S128x256, .i1⟩
  | 65 => ⟨S128x256, .i1⟩
  | 66 => ⟨S_, .i32⟩
  | 67 => ⟨S33x1x256, .i32⟩
  | 68 => ⟨S33x1x256, .i1⟩
  | 69 => ⟨S1x128x256, .i1⟩
  | 70 => ⟨S33x128x256, .i1⟩
  | 71 => ⟨S33x128x256, .i1⟩
  | 72 => ⟨S33x128x256, .i1⟩
  | 73 => ⟨S_, .i32⟩
  | 74 => ⟨S128x256, .i32⟩
  | 75 => ⟨S128x256, .i32⟩
  | 76 => ⟨S_, .i32⟩
  | 77 => ⟨S128x256, .i32⟩
  | 78 => ⟨S128x256, .i32⟩
  | 79 => ⟨S128x256, .f32⟩
  | 80 => ⟨S_, .f32⟩
  | 81 => ⟨S128x256, .f32⟩
  | 82 => ⟨S128x256, .f32⟩
  | 83 => ⟨S128x256, .f32⟩
  | 84 => ⟨S_, .f32⟩
  | 85 => ⟨S128x256, .f32⟩
  | 86 => ⟨S128x256, .f32⟩
  | 87 => ⟨S_, .f32⟩
  | 88 => ⟨S128x256, .f32⟩
  | 89 => ⟨S128x256, .f32⟩
  | 90 => ⟨S128x256, .i32⟩
  | 91 => ⟨S_, .i32⟩
  | 92 => ⟨S128x256, .i32⟩
  | 93 => ⟨S128x256, .i32⟩
  | 94 => ⟨S_, .i32⟩
  | 95 => ⟨S128x256, .i32⟩
  | 96 => ⟨S128x256, .i32⟩
  | 97 => ⟨S_, .i32⟩
  | 98 => ⟨S128x256, .i32⟩
  | 99 => ⟨S128x256, .i1⟩
  | 100 => ⟨S128x256, .i32⟩
  | 101 => ⟨S_, .i32⟩
  | 102 => ⟨S128x256, .i32⟩
  | 103 => ⟨S128x256, .i1⟩
  | 104 => ⟨S_, .i32⟩
  | 105 => ⟨S128x256, .i32⟩
  | 106 => ⟨S128x256, .i32⟩
  | 107 => ⟨S128x256, .i32⟩
  | 108 => ⟨S128x256x1, .i32⟩
  | 109 => ⟨S128x256x16, .f32⟩
  | 110 => ⟨S16x128x256, .f32⟩
  | 111 => ⟨S4x4x128x256, .f32⟩
  | 112 => ⟨S16, .f32⟩
  | 113 => ⟨S4x33x4x256x128x4, .f32⟩
  | 114 => ⟨S4x33x4x4x128x256, .f32⟩
  | 115 => ⟨S_, .f32⟩
  | 116 => ⟨S4x33x4x4x128x256, .f32⟩
  | 117 => ⟨S4x33x4x4x128x256, .f32⟩
  | 118 => ⟨S1x1x4x4x128x256, .f32⟩
  | 119 => ⟨S4x33x4x4x128x256, .f32⟩
  | 120 => ⟨S4x33x4x4x128x256, .f32⟩
  | 121 => ⟨S33x1x1x128x256, .i1⟩
  | 122 => ⟨S_, .f32⟩
  | 123 => ⟨S_, .f32⟩
  | 124 => ⟨S4x33x4x4x128x256, .i1⟩
  | 125 => ⟨S4x33x4x4x128x256, .f32⟩
  | 126 => ⟨S4x33x4x4x128x256, .f32⟩
  | 127 => ⟨S4x4x1x1, .f32⟩
  | _ => ⟨S4x4112x4x4x64, .f32⟩

abbrev hbmTy0_1 (i : Nat) : BufTy := match i % 128 with
  | 0 => ⟨S_, .f32⟩
  | 1 => ⟨S4x33x4x4x128, .f32⟩
  | 2 => ⟨S4x33x4x4x128x1, .f32⟩
  | 3 => ⟨S1x1x4x4x1x1, .f32⟩
  | 4 => ⟨S4x33x4x4x128x1, .f32⟩
  | 5 => ⟨S4x33x4x4x128x1, .f32⟩
  | 6 => ⟨S4x33x4x4x128x256, .f32⟩
  | 7 => ⟨S4x33x4x4x128x256, .f32⟩
  | 8 => ⟨S4x33x4x4x128x256, .f32⟩
  | 9 => ⟨S_, .f32⟩
  | 10 => ⟨S4x33x4x4x128, .f32⟩
  | 11 => ⟨S4x33x4x4x128x1, .f32⟩
  | 12 => ⟨S1x1x4x4x1x1, .f32⟩
  | 13 => ⟨S4x33x4x4x128x1, .f32⟩
  | 14 => ⟨S4x33x4x4x128x1, .f32⟩
  | 15 => ⟨S4x33x4x4x128x1, .f32⟩
  | 16 => ⟨S4x33x4x4x128x1, .f32⟩
  | 17 => ⟨S4x33x4x4x128x256, .f32⟩
  | 18 => ⟨S4x33x4x4x128x256, .f32⟩
  | 19 => ⟨S4x33x4x64x4x128, .f32⟩
  | 20 => ⟨S4x33x128x4x4x64, .f32⟩
  | 21 => ⟨S4x33x128x1024, .f32⟩
  | 22 => ⟨S4x4224x1024, .f32⟩
  | 23 => ⟨S4x4112x1024, .f32⟩
  | 24 => ⟨S4x4112x1024, .f32⟩
  | 25 => ⟨S4x4112x1024, .f32⟩
  | 26 => ⟨S_, .f32⟩
  | 27 => ⟨S4x4112x1024, .f32⟩
  | 28 => ⟨S4x4112x1024, .f32⟩
  | 29 => ⟨S_, .f32⟩
  | 30 => ⟨S4x4112x1024, .f32⟩
  | 31 => ⟨S4x4112x1024, .f32⟩
  | 32 => ⟨S4x4112x1024, .f32⟩
  | 33 => ⟨S4x4112x1024, .f32⟩
  | 34 => ⟨S1024x1024, .f32⟩
  | 35 => ⟨S4x4112x1024, .f32⟩
  | 36 => ⟨S4x4112x1024, .f32⟩
  | 37 => ⟨S_, .i32⟩
  | 38 => ⟨S_, .f32⟩
  | 39 => ⟨S4x4224x1024, .f32⟩
  | 40 => ⟨S16896x1024, .f32⟩
  | _ => ⟨S4x4112x4x4x64, .f32⟩

abbrev hbmTy (i : Nat) : BufTy := match i / 128 with
  | 0 => hbmTy0_0 i
  | 1 => hbmTy0_1 i
  | _ => ⟨S4x4112x4x4x64, .f32⟩

abbrev bufTy : (tb : Table) → Fin (tcTables nBuf tb) → BufTy
  | .hbm, ⟨i, _⟩ => hbmTy i
  | _, _ => ⟨S4x4112x4x4x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_c : Ref sig .tc := ⟨.hbm, 12, rfl⟩
abbrev main_call0_v0 : Ref sig .tc := ⟨.hbm, 13, rfl⟩
abbrev main_v3 : Ref sig .tc := ⟨.hbm, 14, rfl⟩
abbrev main_v4 : Ref sig .tc := ⟨.hbm, 15, rfl⟩
abbrev main_c_0 : Ref sig .tc := ⟨.hbm, 16, rfl⟩
abbrev main_call1_v0 : Ref sig .tc := ⟨.hbm, 17, rfl⟩
abbrev main_v5 : Ref sig .tc := ⟨.hbm, 18, rfl⟩
abbrev main_v6 : Ref sig .tc := ⟨.hbm, 19, rfl⟩
abbrev main_c_1 : Ref sig .tc := ⟨.hbm, 20, rfl⟩
abbrev main_call2_v0 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_c_2 : Ref sig .tc := ⟨.hbm, 25, rfl⟩
abbrev main_call3_v0 : Ref sig .tc := ⟨.hbm, 26, rfl⟩
abbrev main_v10 : Ref sig .tc := ⟨.hbm, 27, rfl⟩
abbrev main_v11 : Ref sig .tc := ⟨.hbm, 28, rfl⟩
abbrev main_c_3 : Ref sig .tc := ⟨.hbm, 29, rfl⟩
abbrev main_call4_v0 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_c_4 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_c_5 : Ref sig .tc := ⟨.hbm, 46, rfl⟩
abbrev main_v26 : Ref sig .tc := ⟨.hbm, 47, rfl⟩
abbrev main_v27 : Ref sig .tc := ⟨.hbm, 48, rfl⟩
abbrev main_c_6 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_c_7 : Ref sig .tc := ⟨.hbm, 56, rfl⟩
abbrev main_v34 : Ref sig .tc := ⟨.hbm, 57, rfl⟩
abbrev main_v35 : Ref sig .tc := ⟨.hbm, 58, rfl⟩
abbrev main_c_8 : Ref sig .tc := ⟨.hbm, 59, rfl⟩
abbrev main_v36 : Ref sig .tc := ⟨.hbm, 60, rfl⟩
abbrev main_v37 : Ref sig .tc := ⟨.hbm, 61, rfl⟩
abbrev main_c_9 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_c_10 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_c_11 : Ref sig .tc := ⟨.hbm, 73, rfl⟩
abbrev main_v47 : Ref sig .tc := ⟨.hbm, 74, rfl⟩
abbrev main_v48 : Ref sig .tc := ⟨.hbm, 75, rfl⟩
abbrev main_c_12 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_cst : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_cst_13 : Ref sig .tc := ⟨.hbm, 84, rfl⟩
abbrev main_v55 : Ref sig .tc := ⟨.hbm, 85, rfl⟩
abbrev main_v56 : Ref sig .tc := ⟨.hbm, 86, rfl⟩
abbrev main_cst_14 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_c_15 : Ref sig .tc := ⟨.hbm, 91, rfl⟩
abbrev main_v60 : Ref sig .tc := ⟨.hbm, 92, rfl⟩
abbrev main_v61 : Ref sig .tc := ⟨.hbm, 93, rfl⟩
abbrev main_c_16 : Ref sig .tc := ⟨.hbm, 94, rfl⟩
abbrev main_v62 : Ref sig .tc := ⟨.hbm, 95, rfl⟩
abbrev main_v63 : Ref sig .tc := ⟨.hbm, 96, rfl⟩
abbrev main_c_17 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_c_18 : Ref sig .tc := ⟨.hbm, 101, rfl⟩
abbrev main_v67 : Ref sig .tc := ⟨.hbm, 102, rfl⟩
abbrev main_v68 : Ref sig .tc := ⟨.hbm, 103, rfl⟩
abbrev main_c_19 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_cst_20 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_cst_21 : Ref sig .tc := ⟨.hbm, 122, rfl⟩
abbrev main_call6_v0 : Ref sig .tc := ⟨.hbm, 123, rfl⟩
abbrev main_call6_v1 : Ref sig .tc := ⟨.hbm, 124, rfl⟩
abbrev main_call6_v2 : Ref sig .tc := ⟨.hbm, 125, rfl⟩
abbrev main_v85 : Ref sig .tc := ⟨.hbm, 126, rfl⟩
abbrev main_v86 : Ref sig .tc := ⟨.hbm, 127, rfl⟩
abbrev main_cst_22 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_cst_23 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_v108 : Ref sig .tc := ⟨.hbm, 151, rfl⟩
abbrev main_call7_v0 : Ref sig .tc := ⟨.hbm, 152, rfl⟩
abbrev main_call7_v1 : Ref sig .tc := ⟨.hbm, 153, rfl⟩
abbrev main_call7_cst : Ref sig .tc := ⟨.hbm, 154, rfl⟩
abbrev main_call7_v2 : Ref sig .tc := ⟨.hbm, 155, rfl⟩
abbrev main_call7_v3 : Ref sig .tc := ⟨.hbm, 156, rfl⟩
abbrev main_call7_cst_0 : Ref sig .tc := ⟨.hbm, 157, rfl⟩
abbrev main_call7_v4 : Ref sig .tc := ⟨.hbm, 158, rfl⟩
abbrev main_call7_v5 : Ref sig .tc := ⟨.hbm, 159, rfl⟩
abbrev main_v109 : Ref sig .tc := ⟨.hbm, 160, rfl⟩
abbrev main_v110 : Ref sig .tc := ⟨.hbm, 161, rfl⟩
abbrev main_v111 : Ref sig .tc := ⟨.hbm, 162, rfl⟩
abbrev main_v112 : Ref sig .tc := ⟨.hbm, 163, rfl⟩
abbrev main_v113 : Ref sig .tc := ⟨.hbm, 164, rfl⟩
abbrev main_c_24 : Ref sig .tc := ⟨.hbm, 165, rfl⟩
abbrev main_call8_v0 : Ref sig .tc := ⟨.hbm, 166, rfl⟩
abbrev main_v114 : Ref sig .tc := ⟨.hbm, 167, rfl⟩
abbrev main_v115 : Ref sig .tc := ⟨.hbm, 168, rfl⟩

abbrev nD : Nat := 1
abbrev τ : Topo := Topo.v7x

variable {F : FTy → Type} [FloatOps F]
-- ==== AttnProj.lean ====
abbrev S4x4096x1024 : Shape := ⟨3, ![4, 4096, 1024]⟩
abbrev S16x1024 : Shape := ⟨2, ![16, 1024]⟩
abbrev S2x1024 : Shape := ⟨2, ![2, 1024]⟩
abbrev S1x1024x2560 : Shape := ⟨3, ![1, 1024, 2560]⟩
abbrev S_ : Shape := ⟨0, ![]⟩
abbrev S112x1024 : Shape := ⟨2, ![112, 1024]⟩
abbrev S128x1024 : Shape := ⟨2, ![128, 1024]⟩
abbrev S16384x1024 : Shape := ⟨2, ![16384, 1024]⟩
abbrev S1x1024 : Shape := ⟨2, ![1, 1024]⟩
abbrev S1024 : Shape := ⟨1, ![1024]⟩
abbrev S1024x2560 : Shape := ⟨2, ![1024, 2560]⟩
abbrev S16896x1024 : Shape := ⟨2, ![16896, 1024]⟩
abbrev S16896x512 : Shape := ⟨2, ![16896, 512]⟩
abbrev S384x1024 : Shape := ⟨2, ![384, 1024]⟩
abbrev S384x512 : Shape := ⟨2, ![384, 512]⟩
abbrev S384 : Shape := ⟨1, ![384]⟩
abbrev S384x1 : Shape := ⟨2, ![384, 1]⟩
abbrev S384x2560 : Shape := ⟨2, ![384, 2560]⟩
abbrev S384x128 : Shape := ⟨2, ![384, 128]⟩

abbrev nBuf : Space → Nat
  | .hbm => 17
  | .vmem => 17
  | .smem => 0
  | _ => 0

abbrev bufTy : (tb : Table) → Fin (tcTables nBuf tb) → BufTy
  | .hbm, ⟨0, _⟩ => ⟨S4x4096x1024, .f32⟩
  | .hbm, ⟨1, _⟩ => ⟨S16x1024, .f32⟩
  | .hbm, ⟨2, _⟩ => ⟨S2x1024, .f32⟩
  | .hbm, ⟨3, _⟩ => ⟨S1x1024x2560, .f32⟩
  | .hbm, ⟨4, _⟩ => ⟨S_, .f32⟩
  | .hbm, ⟨5, _⟩ => ⟨S112x1024, .f32⟩
  | .hbm, ⟨6, _⟩ => ⟨S128x1024, .f32⟩
  | .hbm, ⟨7, _⟩ => ⟨S16384x1024, .f32⟩
  | .hbm, ⟨8, _⟩ => ⟨S1x1024, .f32⟩
  | .hbm, ⟨9, _⟩ => ⟨S1024, .f32⟩
  | .hbm, ⟨10, _⟩ => ⟨S1x1024, .f32⟩
  | .hbm, ⟨11, _⟩ => ⟨S1024x2560, .f32⟩
  | .hbm, ⟨12, _⟩ => ⟨S1024x2560, .bf16⟩
  | .hbm, ⟨13, _⟩ => ⟨S16896x1024, .bf16⟩
  | .hbm, ⟨14, _⟩ => ⟨S16896x512, .f32⟩
  | .hbm, ⟨15, _⟩ => ⟨S16896x1024, .f32⟩
  | .hbm, ⟨16, _⟩ => ⟨S16896x1024, .bf16⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S1x1024, .f32⟩
  | .local _ .vmem, ⟨8, _⟩ => ⟨S1024x2560, .bf16⟩
  | .local _ .vmem, ⟨9, _⟩ => ⟨S384x1024, .bf16⟩
  | .local _ .vmem, ⟨10, _⟩ => ⟨S384x1024, .bf16⟩
  | .local _ .vmem, ⟨11, _⟩ => ⟨S384x512, .f32⟩
  | .local _ .vmem, ⟨12, _⟩ => ⟨S384x512, .f32⟩
  | .local _ .vmem, ⟨13, _⟩ => ⟨S384x1024, .f32⟩
  | .local _ .vmem, ⟨14, _⟩ => ⟨S384x1024, .f32⟩
  | .local _ .vmem, ⟨15, _⟩ => ⟨S384x1024, .bf16⟩
  | .local _ .vmem, ⟨16, _⟩ => ⟨S384x1024, .bf16⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8_0 : Ref sig .tc := ⟨.hbm, 13, rfl⟩
abbrev main_v8_1 : Ref sig .tc := ⟨.hbm, 14, rfl⟩
abbrev main_v8_2 : Ref sig .tc := ⟨.hbm, 15, rfl⟩
abbrev main_v8_3 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨2, ![4, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c3_i32 : BitVec 32 := 3#32
  let v1 : BitVec 32 := Scalar.muli arg1 c3_i32
  let c0_i32 : BitVec 32 := 0#32
  let v2 : BitVec 32 := Scalar.addi v1 c0_i32
  let c1_i32 : BitVec 32 := 1#32
  let v3 : BitVec 32 := Scalar.subi v2 c1_i32
  let c0_i32_0 : BitVec 32 := 0#32
  let v4 : BitVec 32 := Scalar.maxsi v3 c0_i32_0
  let v5 : BitVec 32 := Scalar.addi v0 v4
  let c0_i32_1 : BitVec 32 := 0#32
  let c0_i32_2 : BitVec 32 := 0#32
  ![v5.toNat, c0_i32_1.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c3_i32 : BitVec 32 := 3#32
  let v1 : BitVec 32 := Scalar.muli arg1 c3_i32
  let c1_i32 : BitVec 32 := 1#32
  let v2 : BitVec 32 := Scalar.addi v1 c1_i32
  let c1_i32_0 : BitVec 32 := 1#32
  let v3 : BitVec 32 := Scalar.subi v2 c1_i32_0
  let c0_i32 : BitVec 32 := 0#32
  let v4 : BitVec 32 := Scalar.maxsi v3 c0_i32
  let v5 : BitVec 32 := Scalar.addi v0 v4
  let c0_i32_1 : BitVec 32 := 0#32
  let c0_i32_2 : BitVec 32 := 0#32
  ![v5.toNat, c0_i32_1.toNat]

def cc0_transform_3 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c3_i32 : BitVec 32 := 3#32
  let v1 : BitVec 32 := Scalar.muli arg1 c3_i32
  let c2_i32 : BitVec 32 := 2#32
  let v2 : BitVec 32 := Scalar.addi v1 c2_i32
  let c1_i32 : BitVec 32 := 1#32
  let v3 : BitVec 32 := Scalar.subi v2 c1_i32
  let c0_i32 : BitVec 32 := 0#32
  let v4 : BitVec 32 := Scalar.maxsi v3 c0_i32
  let v5 : BitVec 32 := Scalar.addi v0 v4
  let c0_i32_0 : BitVec 32 := 0#32
  let c0_i32_1 : BitVec 32 := 0#32
  ![v5.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c0_i32 : BitVec 32 := 0#32
  let c0_i32_0 : BitVec 32 := 0#32
  ![v1.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x2560 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S384x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S384x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S384x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S384x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== AttnProjRefIdeal.lean ====
abbrev S4x4096x1024 : Shape := ⟨3, ![4, 4096, 1024]⟩
abbrev S16x1024 : Shape := ⟨2, ![16, 1024]⟩
abbrev S2x1024 : Shape := ⟨2, ![2, 1024]⟩
abbrev S1x1024x2560 : Shape := ⟨3, ![1, 1024, 2560]⟩
abbrev S1x16x1024 : Shape := ⟨3, ![1, 16, 1024]⟩
abbrev S4x16x1024 : Shape := ⟨3, ![4, 16, 1024]⟩
abbrev S4x4112x1024 : Shape := ⟨3, ![4, 4112, 1024]⟩
abbrev S1x1024 : Shape := ⟨2, ![1, 1024]⟩
abbrev S1024 : Shape := ⟨1, ![1024]⟩
abbrev S_ : Shape := ⟨0, ![]⟩
abbrev S4x4112 : Shape := ⟨2, ![4, 4112]⟩
abbrev S4x4112x1 : Shape := ⟨3, ![4, 4112, 1]⟩
abbrev S1x1x1024 : Shape := ⟨3, ![1, 1, 1024]⟩
abbrev S1024x2560 : Shape := ⟨2, ![1024, 2560]⟩
abbrev S4x4112x2560 : Shape := ⟨3, ![4, 4112, 2560]⟩
abbrev S4x4112x256 : Shape := ⟨3, ![4, 4112, 256]⟩
abbrev S4x4112x512 : Shape := ⟨3, ![4, 4112, 512]⟩
abbrev S4x4112x4x2x64 : Shape := ⟨5, ![4, 4112, 4, 2, 64]⟩
abbrev S4x4224x1024 : Shape := ⟨3, ![4, 4224, 1024]⟩
abbrev S16896x1024 : Shape := ⟨2, ![16896, 1024]⟩
abbrev S4x4224x512 : Shape := ⟨3, ![4, 4224, 512]⟩
abbrev S16896x512 : Shape := ⟨2, ![16896, 512]⟩

abbrev nBuf : Space → Nat
  | .hbm => 57
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S16x1024, .f32⟩
  | .hbm, ⟨2, _⟩ => ⟨S2x1024, .f32⟩
  | .hbm, ⟨3, _⟩ => ⟨S1x1024x2560, .f32⟩
  | .hbm, ⟨4, _⟩ => ⟨S1x16x1024, .f32⟩
  | .hbm, ⟨5, _⟩ => ⟨S4x16x1024, .f32⟩
  | .hbm, ⟨6, _⟩ => ⟨S4x4112x1024, .f32⟩
  | .hbm, ⟨7, _⟩ => ⟨S1x1024, .f32⟩
  | .hbm, ⟨8, _⟩ => ⟨S1024, .f32⟩
  | .hbm, ⟨9, _⟩ => ⟨S4x4112x1024, .f32⟩
  | .hbm, ⟨10, _⟩ => ⟨S_, .f32⟩
  | .hbm, ⟨11, _⟩ => ⟨S4x4112, .f32⟩
  | .hbm, ⟨12, _⟩ => ⟨S4x4112x1, .f32⟩
  | .hbm, ⟨13, _⟩ => ⟨S_, .f32⟩
  | .hbm, ⟨14, _⟩ => ⟨S4x4112x1, .f32⟩
  | .hbm, ⟨15, _⟩ => ⟨S4x4112x1, .f32⟩
  | .hbm, ⟨16, _⟩ => ⟨S_, .f32⟩
  | .hbm, ⟨17, _⟩ => ⟨S4x4112x1, .f32⟩
  | .hbm, ⟨18, _⟩ => ⟨S4x4112x1, .f32⟩
  | .hbm, ⟨19, _⟩ => ⟨S4x4112x1, .f32⟩
  | .hbm, ⟨20, _⟩ => ⟨S4x4112x1024, .f32⟩
  | .hbm, ⟨21, _⟩ => ⟨S4x4112x1024, .f32⟩
  | .hbm, ⟨22, _⟩ => ⟨S1x1x1024, .f32⟩
  | .hbm, ⟨23, _⟩ => ⟨S4x4112x1024, .f32⟩
  | .hbm, ⟨24, _⟩ => ⟨S4x4112x1024, .f32⟩
  | .hbm, ⟨25, _⟩ => ⟨S1024x2560, .f32⟩
  | .hbm, ⟨26, _⟩ => ⟨S4x4112x2560, .f32⟩
  | .hbm, ⟨27, _⟩ => ⟨S4x4112x1024, .f32⟩
  | .hbm, ⟨28, _⟩ => ⟨S4x4112x256, .f32⟩
  | .hbm, ⟨29, _⟩ => ⟨S4x4112x256, .f32⟩
  | .hbm, ⟨30, _⟩ => ⟨S4x4112x1024, .f32⟩
  | .hbm, ⟨31, _⟩ => ⟨S4x4112x512, .f32⟩
  | .hbm, ⟨32, _⟩ => ⟨S4x4112x4x2x64, .f32⟩
  | .hbm, ⟨33, _⟩ => ⟨S4x4112x4x2x64, .f32⟩
  | .hbm, ⟨34, _⟩ => ⟨S4x4112x512, .f32⟩
  | .hbm, ⟨35, _⟩ => ⟨S_, .f32⟩
  | .hbm, ⟨36, _⟩ => ⟨S4x4112x1024, .f32⟩
  | .hbm, ⟨37, _⟩ => ⟨S4x4112x1024, .f32⟩
  | .hbm, ⟨38, _⟩ => ⟨S_, .i32⟩
  | .hbm, ⟨39, _⟩ => ⟨S_, .f32⟩
  | .hbm, ⟨40, _⟩ => ⟨S4x4224x1024, .f32⟩
  | .hbm, ⟨41, _⟩ => ⟨S16896x1024, .f32⟩
  | .hbm, ⟨42, _⟩ => ⟨S16896x1024, .bf16⟩
  | .hbm, ⟨43, _⟩ => ⟨S_, .i32⟩
  | .hbm, ⟨44, _⟩ => ⟨S_, .f32⟩
  | .hbm, ⟨45, _⟩ => ⟨S4x4224x512, .f32⟩
  | .hbm, ⟨46, _⟩ => ⟨S16896x512, .f32⟩
  | .hbm, ⟨47, _⟩ => ⟨S_, .i32⟩
  | .hbm, ⟨48, _⟩ => ⟨S_, .f32⟩
  | .hbm, ⟨49, _⟩ => ⟨S4x4224x1024, .f32⟩
  | .hbm, ⟨50, _⟩ => ⟨S16896x1024, .f32⟩
  | .hbm, ⟨51, _⟩ => ⟨S4x4112x1024, .f32⟩
  | .hbm, ⟨52, _⟩ => ⟨S_, .i32⟩
  | .hbm, ⟨53, _⟩ => ⟨S_, .f32⟩
  | .hbm, ⟨54, _⟩ => ⟨S4x4224x1024, .f32⟩
  | .hbm, ⟨55, _⟩ => ⟨S16896x1024, .f32⟩
  | .hbm, ⟨56, _⟩ => ⟨S16896x1024, .bf16⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_cst_2 : Ref sig .tc := ⟨.hbm, 35, rfl⟩
abbrev main_v28 : Ref sig .tc := ⟨.hbm, 36, rfl⟩
abbrev main_v29 : Ref sig .tc := ⟨.hbm, 37, rfl⟩
abbrev main_c : Ref sig .tc := ⟨.hbm, 38, rfl⟩
abbrev main_call0_v0 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_c_3 : Ref sig .tc := ⟨.hbm, 43, rfl⟩
abbrev main_call1_v0 : Ref sig .tc := ⟨.hbm, 44, rfl⟩
abbrev main_v33 : Ref sig .tc := ⟨.hbm, 45, rfl⟩
abbrev main_v34 : Ref sig .tc := ⟨.hbm, 46, rfl⟩
abbrev main_c_4 : Ref sig .tc := ⟨.hbm, 47, rfl⟩
abbrev main_call2_v0 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_c_5 : Ref sig .tc := ⟨.hbm, 52, rfl⟩
abbrev main_call3_v0 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩

abbrev nD : Nat := 1
abbrev τ : Topo := Topo.v7x

variable {F : FTy → Type} [FloatOps F]
-- ==== RwkvProj.lean ====
abbrev S4x4224x1024 : Shape := ⟨3, ![4, 4224, 1024]⟩
abbrev S2x1024 : Shape := ⟨2, ![2, 1024]⟩
abbrev S1x6x1024 : Shape := ⟨3, ![1, 6, 1024]⟩
abbrev S1x4x1024x1024 : Shape := ⟨4, ![1, 4, 1024, 1024]⟩
abbrev S1x1024 : Shape := ⟨2, ![1, 1024]⟩
abbrev S1x1024x64 : Shape := ⟨3, ![1, 1024, 64]⟩
abbrev S1x64x1024 : Shape := ⟨3, ![1, 64, 1024]⟩
abbrev S1024 : Shape := ⟨1, ![1024]⟩
abbrev S6x1024 : Shape := ⟨2, ![6, 1024]⟩
abbrev S4x1024x1024 : Shape := ⟨3, ![4, 1024, 1024]⟩
abbrev S1024x64 : Shape := ⟨2, ![1024, 64]⟩
abbrev S64x1024 : Shape := ⟨2, ![64, 1024]⟩
abbrev S_ : Shape := ⟨0, ![]⟩
abbrev S4x1x1024 : Shape := ⟨3, ![4, 1, 1024]⟩
abbrev S16896x1024 : Shape := ⟨2, ![16896, 1024]⟩
abbrev S528x1024 : Shape := ⟨2, ![528, 1024]⟩
abbrev S1x1x1024 : Shape := ⟨3, ![1, 1, 1024]⟩
abbrev S528 : Shape := ⟨1, ![528]⟩
abbrev S528x1 : Shape := ⟨2, ![528, 1]⟩
abbrev S1x1024x1024 : Shape := ⟨3, ![1, 1024, 1024]⟩
abbrev S1024x1024 : Shape := ⟨2, ![1024, 1024]⟩
abbrev S528x64 : Shape := ⟨2, ![528, 64]⟩

abbrev nBuf : Space → Nat
  | .hbm => 38
  | .vmem => 28
  | .smem => 0
  | _ => 0

abbrev bufTy : (tb : Table) → Fin (tcTables nBuf tb) → BufTy
  | .hbm, ⟨0, _⟩ => ⟨S4x4224x1024, .f32⟩
  | .hbm, ⟨1, _⟩ => ⟨S2x1024, .f32⟩
  | .hbm, ⟨2, _⟩ => ⟨S1x6x1024, .f32⟩
  | .hbm, ⟨3, _⟩ => ⟨S1x4x1024x1024, .f32⟩
  | .hbm, ⟨4, _⟩ => ⟨S1x1024, .f32⟩
  | .hbm, ⟨5, _⟩ => ⟨S1x1024x64, .f32⟩
  | .hbm, ⟨6, _⟩ => ⟨S1x64x1024, .f32⟩
  | .hbm, ⟨7, _⟩ => ⟨S1x1024, .f32⟩
  | .hbm, ⟨8, _⟩ => ⟨S1x1024x64, .f32⟩
  | .hbm, ⟨9, _⟩ => ⟨S1x64x1024, .f32⟩
  | .hbm, ⟨10, _⟩ => ⟨S1x1024, .f32⟩
  | .hbm, ⟨11, _⟩ => ⟨S1024, .f32⟩
  | .hbm, ⟨12, _⟩ => ⟨S1x1024, .f32⟩
  | .hbm, ⟨13, _⟩ => ⟨S6x1024, .f32⟩
  | .hbm, ⟨14, _⟩ => ⟨S4x1024x1024, .f32⟩
  | .hbm, ⟨15, _⟩ => ⟨S4x1024x1024, .bf16⟩
  | .hbm, ⟨16, _⟩ => ⟨S1024, .f32⟩
  | .hbm, ⟨17, _⟩ => ⟨S1x1024, .f32⟩
  | .hbm, ⟨18, _⟩ => ⟨S1024x64, .f32⟩
  | .hbm, ⟨19, _⟩ => ⟨S1024x64, .bf16⟩
  | .hbm, ⟨20, _⟩ => ⟨S64x1024, .f32⟩
  | .hbm, ⟨21, _⟩ => ⟨S64x1024, .bf16⟩
  | .hbm, ⟨22, _⟩ => ⟨S1024, .f32⟩
  | .hbm, ⟨23, _⟩ => ⟨S1x1024, .f32⟩
  | .hbm, ⟨24, _⟩ => ⟨S1024x64, .f32⟩
  | .hbm, ⟨25, _⟩ => ⟨S1024x64, .bf16⟩
  | .hbm, ⟨26, _⟩ => ⟨S64x1024, .f32⟩
  | .hbm, ⟨27, _⟩ => ⟨S64x1024, .bf16⟩
  | .hbm, ⟨28, _⟩ => ⟨S_, .f32⟩
  | .hbm, ⟨29, _⟩ => ⟨S4x1x1024, .f32⟩
  | .hbm, ⟨30, _⟩ => ⟨S16896x1024, .f32⟩
  | .hbm, ⟨31, _⟩ => ⟨S16896x1024, .f32⟩
  | .hbm, ⟨32, _⟩ => ⟨S16896x1024, .f32⟩
  | .hbm, ⟨33, _⟩ => ⟨S16896x1024, .f32⟩
  | .hbm, ⟨34, _⟩ => ⟨S16896x1024, .f32⟩
  | .hbm, ⟨35, _⟩ => ⟨S16896x1024, .f32⟩
  | .hbm, ⟨36, _⟩ => ⟨S16896x1024, .f32⟩
  | .hbm, ⟨37, _⟩ => ⟨S4x1x1024, .f32⟩
  | .local _ .vmem, ⟨0, _⟩ => ⟨S528x1024, .f32⟩
  | .local _ .vmem, ⟨1, _⟩ => ⟨S528x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1024, .f32⟩
  | .local _ .vmem, ⟨5, _⟩ => ⟨S6x1024, .f32⟩
  | .local _ .vmem, ⟨6, _⟩ => ⟨S4x1024x1024, .bf16⟩
  | .local _ .vmem, ⟨7, _⟩ => ⟨S1x1024, .f32⟩
  | .local _ .vmem, ⟨8, _⟩ => ⟨S1024x64, .bf16⟩
  | .local _ .vmem, ⟨9, _⟩ => ⟨S64x1024, .bf16⟩
  | .local _ .vmem, ⟨10, _⟩ => ⟨S1x1024, .f32⟩
  | .local _ .vmem, ⟨11, _⟩ => ⟨S1024x64, .bf16⟩
  | .local _ .vmem, ⟨12, _⟩ => ⟨S64x1024, .bf16⟩
  | .local _ .vmem, ⟨13, _⟩ => ⟨S528x1024, .f32⟩
  | .local _ .vmem, ⟨14, _⟩ => ⟨S528x1024, .f32⟩
  | .local _ .vmem, ⟨15, _⟩ => ⟨S528x1024, .f32⟩
  | .local _ .vmem, ⟨16, _⟩ => ⟨S528x1024, .f32⟩
  | .local _ .vmem, ⟨17, _⟩ => ⟨S528x1024, .f32⟩
  | .local _ .vmem, ⟨18, _⟩ => ⟨S528x1024, .f32⟩
  | .local _ .vmem, ⟨19, _⟩ => ⟨S528x1024, .f32⟩
  | .local _ .vmem, ⟨20, _⟩ => ⟨S528x1024, .f32⟩
  | .local _ .vmem, ⟨21, _⟩ => ⟨S528x1024, .f32⟩
  | .local _ .vmem, ⟨22, _⟩ => ⟨S528x1024, .f32⟩
  | .local _ .vmem, ⟨23, _⟩ => ⟨S528x1024, .f32⟩
  | .local _ .vmem, ⟨24, _⟩ => ⟨S528x1024, .f32⟩
  | .local _ .vmem, ⟨25, _⟩ => ⟨S1x1x1024, .f32⟩
  | .local _ .vmem, ⟨26, _⟩ => ⟨S1x1x1024, .f32⟩
  | .local _ .vmem, ⟨27, _⟩ => ⟨S1x1024, .f32⟩
  | _, _ => ⟨S4x4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst : Ref sig .tc := ⟨.hbm, 28, rfl⟩
abbrev main_v18 : Ref sig .tc := ⟨.hbm, 29, rfl⟩
abbrev main_v19 : Ref sig .tc := ⟨.hbm, 30, rfl⟩
abbrev main_v20_0 : Ref sig .tc := ⟨.hbm, 31, rfl⟩
abbrev main_v20_1 : Ref sig .tc := ⟨.hbm, 32, rfl⟩
abbrev main_v20_2 : Ref sig .tc := ⟨.hbm, 33, rfl⟩
abbrev main_v20_3 : Ref sig .tc := ⟨.hbm, 34, rfl⟩
abbrev main_v20_4 : Ref sig .tc := ⟨.hbm, 35, rfl⟩
abbrev main_v20_5 : Ref sig .tc := ⟨.hbm, 36, rfl⟩
abbrev main_v20_6 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg11_1 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg14_1 : Ref sig .tc := ⟨.vmem, 20, rfl⟩
abbrev cc0_stg15_0 : Ref sig .tc := ⟨.vmem, 21, rfl⟩
abbrev cc0_stg15_1 : Ref sig .tc := ⟨.vmem, 22, rfl⟩
abbrev cc0_stg16_0 : Ref sig .tc := ⟨.vmem, 23, rfl⟩
abbrev cc0_stg16_1 : Ref sig .tc := ⟨.vmem, 24, rfl⟩
abbrev cc0_stg17_0 : Ref sig .tc := ⟨.vmem, 25, rfl⟩
abbrev cc0_stg17_1 : Ref sig .tc := ⟨.vmem, 26, rfl⟩
abbrev cc0_scratch0 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem11_1 : DmaSem sig := 14
abbrev cc0_sem12_0 : DmaSem sig := 15
abbrev cc0_sem12_1 : DmaSem sig := 16
abbrev cc0_sem13_0 : DmaSem sig := 17
abbrev cc0_sem13_1 : DmaSem sig := 18
abbrev cc0_sem14_0 : DmaSem sig := 19
abbrev cc0_sem14_1 : DmaSem sig := 20
abbrev cc0_sem15_0 : DmaSem sig := 21
abbrev cc0_sem15_1 : DmaSem sig := 22
abbrev cc0_sem16_0 : DmaSem sig := 23
abbrev cc0_sem16_1 : DmaSem sig := 24
abbrev cc0_sem17_0 : DmaSem sig := 25
abbrev cc0_sem17_1 : DmaSem sig := 26

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_12 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_13 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_14 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_15 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_16 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S528x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S6x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S4x1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x64 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S64x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x64 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S64x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S528x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S528x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S528x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S528x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S528x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S528x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x1x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, false]
-- ==== RwkvProjRefIdeal.lean ====
abbrev S4x4224x1024 : Shape := ⟨3, ![4, 4224, 1024]⟩
abbrev S2x1024 : Shape := ⟨2, ![2, 1024]⟩
abbrev S1x6x1024 : Shape := ⟨3, ![1, 6, 1024]⟩
abbrev S1x4x1024x1024 : Shape := ⟨4, ![1, 4, 1024, 1024]⟩
abbrev S1x1024 : Shape := ⟨2, ![1, 1024]⟩
abbrev S1x1024x64 : Shape := ⟨3, ![1, 1024, 64]⟩
abbrev S1x64x1024 : Shape := ⟨3, ![1, 64, 1024]⟩
abbrev S1024 : Shape := ⟨1, ![1024]⟩
abbrev S_ : Shape := ⟨0, ![]⟩
abbrev S4x4224 : Shape := ⟨2, ![4, 4224]⟩
abbrev S4x4224x1 : Shape := ⟨3, ![4, 4224, 1]⟩
abbrev S1x1x1024 : Shape := ⟨3, ![1, 1, 1024]⟩
abbrev S6x1024 : Shape := ⟨2, ![6, 1024]⟩
abbrev S4x1024x1024 : Shape := ⟨3, ![4, 1024, 1024]⟩
abbrev S4x1024 : Shape := ⟨2, ![4, 1024]⟩
abbrev S4x1x1024 : Shape := ⟨3, ![4, 1, 1024]⟩
abbrev S4x4223x1024 : Shape := ⟨3, ![4, 4223, 1024]⟩
abbrev S1x4x4224x1024 : Shape := ⟨4, ![1, 4, 4224, 1024]⟩
abbrev S6x1x1x1024 : Shape := ⟨4, ![6, 1, 1, 1024]⟩
abbrev S6x4x4224x1024 : Shape := ⟨4, ![6, 4, 4224, 1024]⟩
abbrev S4x4x4224x1024 : Shape := ⟨4, ![4, 4, 4224, 1024]⟩
abbrev S1024x64 : Shape := ⟨2, ![1024, 64]⟩
abbrev S4x4224x64 : Shape := ⟨3, ![4, 4224, 64]⟩
abbrev S64x1024 : Shape := ⟨2, ![64, 1024]⟩
abbrev S16896x1024 : Shape := ⟨2, ![16896, 1024]⟩

abbrev nBuf : Space → Nat
  | .hbm => 101
  | .vmem => 0
  | .smem => 0
  | _ => 0

abbrev bufTy : (tb : Table) → Fin (tcTables nBuf tb) → BufTy
  | .hbm, ⟨0, _⟩ => ⟨S4x4224x1024, .f32⟩
  | .hbm, ⟨1, _⟩ => ⟨S2x1024, .f32⟩
  | .hbm, ⟨2, _⟩ => ⟨S1x6x1024, .f32⟩
  | .hbm, ⟨3, _⟩ => ⟨S1x4x1024x1024, .f32⟩
  | .hbm, ⟨4, _⟩ => ⟨S1x1024, .f32⟩
  | .hbm, ⟨5, _⟩ => ⟨S1x1024x64, .f32⟩
  | .hbm, ⟨6, _⟩ => ⟨S1x64x1024, .f32⟩
  | .hbm, ⟨7, _⟩ => ⟨S1x1024, .f32⟩
  | .hbm, ⟨8, _⟩ => ⟨S1x1024x64, .f32⟩
  | .hbm, ⟨9, _⟩ => ⟨S1x64x1024, .f32⟩
  | .hbm, ⟨10, _⟩ => ⟨S1x1024, .f32⟩
  | .hbm, ⟨11, _⟩ => ⟨S1024, .f32⟩
  | .hbm, ⟨12, _⟩ => ⟨S4x4224x1024, .f32⟩
  | .hbm, ⟨13, _⟩ => ⟨S_, .f32⟩
  | .hbm, ⟨14, _⟩ => ⟨S4x4224, .f32⟩
  | .hbm, ⟨15, _⟩ => ⟨S4x4224x1, .f32⟩
  | .hbm, ⟨16, _⟩ => ⟨S_, .f32⟩
  | .hbm, ⟨17, _⟩ => ⟨S4x4224x1, .f32⟩
  | .hbm, ⟨18, _⟩ => ⟨S4x4224x1, .f32⟩
  | .hbm, ⟨19, _⟩ => ⟨S_, .f32⟩
  | .hbm, ⟨20, _⟩ => ⟨S4x4224x1, .f32⟩
  | .hbm, ⟨21, _⟩ => ⟨S4x4224x1, .f32⟩
  | .hbm, ⟨22, _⟩ => ⟨S4x4224x1, .f32⟩
  | .hbm, ⟨23, _⟩ => ⟨S4x4224x1024, .f32⟩
  | .hbm, ⟨24, _⟩ => ⟨S4x4224x1024, .f32⟩
  | .hbm, ⟨25, _⟩ => ⟨S1x1x1024, .f32⟩
  | .hbm, ⟨26, _⟩ => ⟨S4x4224x1024, .f32⟩
  | .hbm, ⟨27, _⟩ => ⟨S4x4224x1024, .f32⟩
  | .hbm, ⟨28, _⟩ => ⟨S6x1024, .f32⟩
  | .hbm, ⟨29, _⟩ => ⟨S4x1024x1024, .f32⟩
  | .hbm, ⟨30, _⟩ => ⟨S_, .f32⟩
  | .hbm, ⟨31, _⟩ => ⟨S4x1024, .f32⟩
  | .hbm, ⟨32, _⟩ => ⟨S4x1x1024, .f32⟩
  | .hbm, ⟨33, _⟩ => ⟨S4x4223x1024, .f32⟩
  | .hbm, ⟨34, _⟩ => ⟨S4x4224x1024, .f32⟩
  | .hbm, ⟨35, _⟩ => ⟨S1x4x4224x1024, .f32⟩
  | .hbm, ⟨36, _⟩ => ⟨S4x4224x1024, .f32⟩
  | .hbm, ⟨37, _⟩ => ⟨S1x4x4224x1024, .f32⟩
  | .hbm, ⟨38, _⟩ => ⟨S6x1x1x1024, .f32⟩
  | .hbm, ⟨39, _⟩ => ⟨S6x4x4224x1024, .f32⟩
  | .hbm, ⟨40, _⟩ => ⟨S6x4x4224x1024, .f32⟩
  | .hbm, ⟨41, _⟩ => ⟨S6x4x4224x1024, .f32⟩
  | .hbm, ⟨42, _⟩ => ⟨S6x4x4224x1024, .f32⟩
  | .hbm, ⟨43, _⟩ => ⟨S6x4x4224x1024, .f32⟩
  | .hbm, ⟨44, _⟩ => ⟨S4x4x4224x1024, .f32⟩
  | .hbm, ⟨45, _⟩ => ⟨S4x4x4224x1024, .f32⟩
  | .hbm, ⟨46, _⟩ => ⟨S1x4x4224x1024, .f32⟩
  | .hbm, ⟨47, _⟩ => ⟨S4x4224x1024, .f32⟩
  | .hbm, ⟨48, _⟩ => ⟨S1x4x4224x1024, .f32⟩
  | .hbm, ⟨49, _⟩ => ⟨S4x4224x1024, .f32⟩
  | .hbm, ⟨50, _⟩ => ⟨S1x4x4224x1024, .f32⟩
  | .hbm, ⟨51, _⟩ => ⟨S4x4224x1024, .f32⟩
  | .hbm, ⟨52, _⟩ => ⟨S1x4x4224x1024, .f32⟩
  | .hbm, ⟨53, _⟩ => ⟨S4x4224x1024, .f32⟩
  | .hbm, ⟨54, _⟩ => ⟨S1x4x4224x1024, .f32⟩
  | .hbm, ⟨55, _⟩ => ⟨S4x4224x1024, .f32⟩
  | .hbm, ⟨56, _⟩ => ⟨S1x4x4224x1024, .f32⟩
  | .hbm, ⟨57, _⟩ => ⟨S4x4224x1024, .f32⟩
  | .hbm, ⟨58, _⟩ => ⟨S1024, .f32⟩
  | .hbm, ⟨59, _⟩ => ⟨S1024x64, .f32⟩
  | .hbm, ⟨60, _⟩ => ⟨S4x4224x64, .f32⟩
  | .hbm, ⟨61, _⟩ => ⟨S4x4224x64, .f32⟩
  | .hbm, ⟨62, _⟩ => ⟨S64x1024, .f32⟩
  | .hbm, ⟨63, _⟩ => ⟨S4x4224x1024, .f32⟩
  | .hbm, ⟨64, _⟩ => ⟨S1x1x1024, .f32⟩
  | .hbm, ⟨65, _⟩ => ⟨S4x4224x1024, .f32⟩
  | .hbm, ⟨66, _⟩ => ⟨S4x4224x1024, .f32⟩
  | .hbm, ⟨67, _⟩ => ⟨S4x4224x1024, .f32⟩
  | .hbm, ⟨68, _⟩ => ⟨S4x4224x1024, .f32⟩
  | .hbm, ⟨69, _⟩ => ⟨S_, .f32⟩
  | .hbm, ⟨70, _⟩ => ⟨S4x4224x1024, .f32⟩
  | .hbm, ⟨71, _⟩ => ⟨S4x4224x1024, .f32⟩
  | .hbm, ⟨72, _⟩ => ⟨S_, .f32⟩
  | .hbm, ⟨73, _⟩ => ⟨S4x4224x1024, .f32⟩
  | .hbm, ⟨74, _⟩ => ⟨S4x4224x1024, .f32⟩
  | .hbm, ⟨75, _⟩ => ⟨S_, .f32⟩
  | .hbm, ⟨76, _⟩ => ⟨S4x4224x1024, .f32⟩
  | .hbm, ⟨77, _⟩ => ⟨S4x4224x1024, .f32⟩
  | .hbm, ⟨78, _⟩ => ⟨S1024, .f32⟩
  | .hbm, ⟨79, _⟩ => ⟨S1024x64, .f32⟩
  | .hbm, ⟨80, _⟩ => ⟨S4x4224x64, .f32⟩
  | .hbm, ⟨81, _⟩ => ⟨S64x1024, .f32⟩
  | .hbm, ⟨82, _⟩ => ⟨S4x4224x1024, .f32⟩
  | .hbm, ⟨83, _⟩ => ⟨S1x1x1024, .f32⟩
  | .hbm, ⟨84, _⟩ => ⟨S4x4224x1024, .f32⟩
  | .hbm, ⟨85, _⟩ => ⟨S4x4224x1024, .f32⟩
  | .hbm, ⟨86, _⟩ => ⟨S4x4224x1024, .f32⟩
  | .hbm, ⟨87, _⟩ => ⟨S4x4224x1024, .f32⟩
  | .hbm, ⟨88, _⟩ => ⟨S_, .f32⟩
  | .hbm, ⟨89, _⟩ => ⟨S4x4224x1024, .f32⟩
  | .hbm, ⟨90, _⟩ => ⟨S4x4224x1024, .f32⟩
  | .hbm, ⟨91, _⟩ => ⟨S_, .f32⟩
  | .hbm, ⟨92, _⟩ => ⟨S4x4224x1024, .f32⟩
  | .hbm, ⟨93, _⟩ => ⟨S4x4224x1024, .f32⟩
  | .hbm, ⟨94, _⟩ => ⟨S16896x1024, .f32⟩
  | .hbm, ⟨95, _⟩ => ⟨S16896x1024, .f32⟩
  | .hbm, ⟨96, _⟩ => ⟨S16896x1024, .f32⟩
  | .hbm, ⟨97, _⟩ => ⟨S16896x1024, .f32⟩
  | .hbm, ⟨98, _⟩ => ⟨S16896x1024, .f32⟩
  | .hbm, ⟨99, _⟩ => ⟨S16896x1024, .f32⟩
  | .hbm, ⟨100, _⟩ => ⟨S4x1x1024, .f32⟩
  | _, _ => ⟨S4x4224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst : Ref sig .tc := ⟨.hbm, 13, rfl⟩
abbrev main_v3 : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_cst_1 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_2 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_cst_3 : Ref sig .tc := ⟨.hbm, 69, rfl⟩
abbrev main_v55 : Ref sig .tc := ⟨.hbm, 70, rfl⟩
abbrev main_v56 : Ref sig .tc := ⟨.hbm, 71, rfl⟩
abbrev main_cst_4 : Ref sig .tc := ⟨.hbm, 72, rfl⟩
abbrev main_v57 : Ref sig .tc := ⟨.hbm, 73, rfl⟩
abbrev main_v58 : Ref sig .tc := ⟨.hbm, 74, rfl⟩
abbrev main_cst_5 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_cst_6 : Ref sig .tc := ⟨.hbm, 88, rfl⟩
abbrev main_v71 : Ref sig .tc := ⟨.hbm, 89, rfl⟩
abbrev main_v72 : Ref sig .tc := ⟨.hbm, 90, rfl⟩
abbrev main_cst_7 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩

abbrev nD : Nat := 1
abbrev τ : Topo := Topo.v7x

variable {F : FTy → Type} [FloatOps F]
-- ==== RwkvOut.lean ====
abbrev S4x4224x1024 : Shape := ⟨3, ![4, 4224, 1024]⟩
abbrev S1x1024x1024 : Shape := ⟨3, ![1, 1024, 1024]⟩
abbrev S1024 : Shape := ⟨1, ![1024]⟩
abbrev S1024x1024 : Shape := ⟨2, ![1024, 1024]⟩
abbrev S1x1024 : Shape := ⟨2, ![1, 1024]⟩
abbrev S16896x1024 : Shape := ⟨2, ![16896, 1024]⟩
abbrev S16384x1024 : Shape := ⟨2, ![16384, 1024]⟩
abbrev S128x1024 : Shape := ⟨2, ![128, 1024]⟩
abbrev S1024x1 : Shape := ⟨2, ![1024, 1]⟩

abbrev nBuf : Space → Nat
  | .hbm => 10
  | .vmem => 36
  | .smem => 0
  | _ => 0

abbrev bufTy : (tb : Table) → Fin (tcTables nBuf tb) → BufTy
  | .hbm, ⟨0, _⟩ => ⟨S4x4224x1024, .f32⟩
  | .hbm, ⟨1, _⟩ => ⟨S4x4224x1024, .f32⟩
  | .hbm, ⟨2, _⟩ => ⟨S1x1024x1024, .f32⟩
  | .hbm, ⟨3, _⟩ => ⟨S1024, .f32⟩
  | .hbm, ⟨4, _⟩ => ⟨S1024x1024, .f32⟩
  | .hbm, ⟨5, _⟩ => ⟨S1024x1024, .bf16⟩
  | .hbm, ⟨6, _⟩ => ⟨S1x1024, .f32⟩
  | .hbm, ⟨7, _⟩ => ⟨S16896x1024, .f32⟩
  | .hbm, ⟨8, _⟩ => ⟨S16896x1024, .f32⟩
  | .hbm, ⟨9, _⟩ => ⟨S16384x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | .local _ .vmem, ⟨14, _⟩ => ⟨S128x1024, .f32⟩
  | .local _ .vmem, ⟨15, _⟩ => ⟨S128x1024, .f32⟩
  | .local _ .vmem, ⟨16, _⟩ => ⟨S128x1024, .f32⟩
  | .local _ .vmem, ⟨17, _⟩ => ⟨S128x1024, .f32⟩
  | .local _ .vmem, ⟨18, _⟩ => ⟨S128x1024, .f32⟩
  | .local _ .vmem, ⟨19, _⟩ => ⟨S128x1024, .f32⟩
  | .local _ .vmem, ⟨20, _⟩ => ⟨S128x1024, .f32⟩
  | .local _ .vmem, ⟨21, _⟩ => ⟨S128x1024, .f32⟩
  | .local _ .vmem, ⟨22, _⟩ => ⟨S128x1024, .f32⟩
  | .local _ .vmem, ⟨23, _⟩ => ⟨S128x1024, .f32⟩
  | .local _ .vmem, ⟨24, _⟩ => ⟨S128x1024, .f32⟩
  | .local _ .vmem, ⟨25, _⟩ => ⟨S128x1024, .f32⟩
  | .local _ .vmem, ⟨26, _⟩ => ⟨S128x1024, .f32⟩
  | .local _ .vmem, ⟨27, _⟩ => ⟨S128x1024, .f32⟩
  | .local _ .vmem, ⟨28, _⟩ => ⟨S128x1024, .f32⟩
  | .local _ .vmem, ⟨29, _⟩ => ⟨S128x1024, .f32⟩
  | .local _ .vmem, ⟨30, _⟩ => ⟨S128x1024, .f32⟩
  | .local _ .vmem, ⟨31, _⟩ => ⟨S128x1024, .f32⟩
  | .local _ .vmem, ⟨32, _⟩ => ⟨S1024x1024, .bf16⟩
  | .local _ .vmem, ⟨33, _⟩ => ⟨S1x1024, .f32⟩
  | .local _ .vmem, ⟨34, _⟩ => ⟨S1024x1024, .f32⟩
  | .local _ .vmem, ⟨35, _⟩ => ⟨S1024x1024, .f32⟩
  | _, _ => ⟨S4x4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg17_0 : Ref sig .tc := ⟨.vmem, 33, rfl⟩
abbrev cc0_stg18_0 : Ref sig .tc := ⟨.vmem, 34, rfl⟩
abbrev cc0_stg18_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem17_0 : DmaSem sig := 33
abbrev cc0_sem18_0 : DmaSem sig := 34
abbrev cc0_sem18_1 : DmaSem sig := 35

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c33_i32 : BitVec 32 := 33#32
  let v0 : BitVec 32 := Scalar.muli arg0 c33_i32
  let c8_i32 : BitVec 32 := 8#32
  let v1 : BitVec 32 := Scalar.muli arg1 c8_i32
  let v2 : BitVec 32 := Scalar.addi v0 v1
  let c1_i32 : BitVec 32 := 1#32
  let v3 : BitVec 32 := Scalar.addi v2 c1_i32
  let c0_i32 : BitVec 32 := 0#32
  let v4 : BitVec 32 := Scalar.addi v3 c0_i32
  let c0_i32_0 : BitVec 32 := 0#32
  let c0_i32_1 : BitVec 32 := 0#32
  ![v4.toNat, c0_i32_0.toNat]

def cc0_transform_1 (i : grid0.Coords) : Fin 2 → Nat :=
  let arg0 : BitVec 32 := BitVec.ofNat 32 (i 0).val
  let arg1 : BitVec 32 := BitVec.ofNat 32 (i 1).val
  let c33_i32 : BitVec 32 := 33#32
  let v0 : BitVec 32 := Scalar.muli arg0 c33_i32
  let c8_i32 : BitVec 32 := 8#32
  let v1 : BitVec 32 := Scalar.muli arg1 c8_i32
  let v2 : BitVec 32 := Scalar.addi v0 v1
  let c1_i32 : BitVec 32 := 1#32
  let v3 : BitVec 32 := Scalar.addi v2 c1_i32
  let c1_i32_0 : BitVec 32 := 1#32
  let v4 : BitVec 32 := Scalar.addi v3 c1_i32_0
  let c0_i32 : BitVec 32 := 0#32
  let c0_i32_1 : BitVec 32 := 0#32
  ![v4.toNat, c0_i32.toNat]

def cc0_transform_2 (i : grid0.Coords) : Fin 2 → Nat :=
  let arg0 : BitVec 32 := BitVec.ofNat 32 (i 0).val
  let arg1 : BitVec 32 := BitVec.ofNat 32 (i 1).val
  let c33_i32 : BitVec 32 := 33#32
  let v0 : BitVec 32 := Scalar.muli arg0 c33_i32
  let c8_i32 : BitVec 32 := 8#32
  let v1 : BitVec 32 := Scalar.muli arg1 c8_i32
  let v2 : BitVec 32 := Scalar.addi v0 v1
  let c1_i32 : BitVec 32 := 1#32
  let v3 : BitVec 32 := Scalar.addi v2 c1_i32
  let c2_i32 : BitVec 32 := 2#32
  let v4 : BitVec 32 := Scalar.addi v3 c2_i32
  let c0_i32 : BitVec 32 := 0#32
  let c0_i32_0 : BitVec 32 := 0#32
  ![v4.toNat, c0_i32.toNat]

def cc0_transform_3 (i : grid0.Coords) : Fin 2 → Nat :=
  let arg0 : BitVec 32 := BitVec.ofNat 32 (i 0).val
  let arg1 : BitVec 32 := BitVec.ofNat 32 (i 1).val
  let c33_i32 : BitVec 32 := 33#32
  let v0 : BitVec 32 := Scalar.muli arg0 c33_i32
  let c8_i32 : BitVec 32 := 8#32
  let v1 : BitVec 32 := Scalar.muli arg1 c8_i32
  let v2 : BitVec 32 := Scalar.addi v0 v1
  let c1_i32 : BitVec 32 := 1#32
  let v3 : BitVec 32 := Scalar.addi v2 c1_i32
  let c3_i32 : BitVec 32 := 3#32
  let v4 : BitVec 32 := Scalar.addi v3 c3_i32
  let c0_i32 : BitVec 32 := 0#32
  let c0_i32_0 : BitVec 32 := 0#32
  ![v4.toNat, c0_i32.toNat]

def cc0_transform_4 (i : grid0.Coords) : Fin 2 → Nat :=
  let arg0 : BitVec 32 := BitVec.ofNat 32 (i 0).val
  let arg1 : BitVec 32 := BitVec.ofNat 32 (i 1).val
  let c33_i32 : BitVec 32 := 33#32
  let v0 : BitVec 32 := Scalar.muli arg0 c33_i32
  let c8_i32 : BitVec 32 := 8#32
  let v1 : BitVec 32 := Scalar.muli arg1 c8_i32
  let v2 : BitVec 32 := Scalar.addi v0 v1
  let c1_i32 : BitVec 32 := 1#32
  let v3 : BitVec 32 := Scalar.addi v2 c1_i32
  let c4_i32 : BitVec 32 := 4#32
  let v4 : BitVec 32 := Scalar.addi v3 c4_i32
  let c0_i32 : BitVec 32 := 0#32
  let c0_i32_0 : BitVec 32 := 0#32
  ![v4.toNat, c0_i32.toNat]

def cc0_transform_5 (i : grid0.Coords) : Fin 2 → Nat :=
  let arg0 : BitVec 32 := BitVec.ofNat 32 (i 0).val
  let arg1 : BitVec 32 := BitVec.ofNat 32 (i 1).val
  let c33_i32 : BitVec 32 := 33#32
  let v0 : BitVec 32 := Scalar.muli arg0 c33_i32
  let c8_i32 : BitVec 32 := 8#32
  let v1 : BitVec 32 := Scalar.muli arg1 c8_i32
  let v2 : BitVec 32 := Scalar.addi v0 v1
  let c1_i32 : BitVec 32 := 1#32
  let v3 : BitVec 32 := Scalar.addi v2 c1_i32
  let c5_i32 : BitVec 32 := 5#32
  let v4 : BitVec 32 := Scalar.addi v3 c5_i32
  let c0_i32 : BitVec 32 := 0#32
  let c0_i32_0 : BitVec 32 := 0#32
  ![v4.toNat, c0_i32.toNat]

def cc0_transform_6 (i : grid0.Coords) : Fin 2 → Nat :=
  let arg0 : BitVec 32 := BitVec.ofNat 32 (i 0).val
  let arg1 : BitVec 32 := BitVec.ofNat 32 (i 1).val
  let c33_i32 : BitVec 32 := 33#32
  let v0 : BitVec 32 := Scalar.muli arg0 c33_i32
  let c8_i32 : BitVec 32 := 8#32
  let v1 : BitVec 32 := Scalar.muli arg1 c8_i32
  let v2 : BitVec 32 := Scalar.addi v0 v1
  let c1_i32 : BitVec 32 := 1#32
  let v3 : BitVec 32 := Scalar.addi v2 c1_i32
  let c6_i32 : BitVec 32 := 6#32
  let v4 : BitVec 32 := Scalar.addi v3 c6_i32
  let c0_i32 : BitVec 32 := 0#32
  let c0_i32_0 : BitVec 32 := 0#32
  ![v4.toNat, c0_i32.toNat]

def cc0_transform_7 (i : grid0.Coords) : Fin 2 → Nat :=
  let arg0 : BitVec 32 := BitVec.ofNat 32 (i 0).val
  let arg1 : BitVec 32 := BitVec.ofNat 32 (i 1).val
  let c33_i32 : BitVec 32 := 33#32
  let v0 : BitVec 32 := Scalar.muli arg0 c33_i32
  let c8_i32 : BitVec 32 := 8#32
  let v1 : BitVec 32 := Scalar.muli arg1 c8_i32
  let v2 : BitVec 32 := Scalar.addi v0 v1
  let c1_i32 : BitVec 32 := 1#32
  let v3 : BitVec 32 := Scalar.addi v2 c1_i32
  let c7_i32 : BitVec 32 := 7#32
  let v4 : BitVec 32 := Scalar.addi v3 c7_i32
  let c0_i32 : BitVec 32 := 0#32
  let c0_i32_0 : BitVec 32 := 0#32
  ![v4.toNat, c0_i32.toNat]

def cc0_transform_8 (i : grid0.Coords) : Fin 2 → Nat :=
  let arg0 : BitVec 32 := BitVec.ofNat 32 (i 0).val
  let arg1 : BitVec 32 := BitVec.ofNat 32 (i 1).val
  let c33_i32 : BitVec 32 := 33#32
  let v0 : BitVec 32 := Scalar.muli arg0 c33_i32
  let c8_i32 : BitVec 32 := 8#32
  let v1 : BitVec 32 := Scalar.muli arg1 c8_i32
  let v2 : BitVec 32 := Scalar.addi v0 v1
  let c1_i32 : BitVec 32 := 1#32
  let v3 : BitVec 32 := Scalar.addi v2 c1_i32
  let c0_i32 : BitVec 32 := 0#32
  let v4 : BitVec 32 := Scalar.addi v3 c0_i32
  let c0_i32_0 : BitVec 32 := 0#32
  let c0_i32_1 : BitVec 32 := 0#32
  ![v4.toNat, c0_i32_0.toNat]

def cc0_transform_9 (i : grid0.Coords) : Fin 2 → Nat :=
  let arg0 : BitVec 32 := BitVec.ofNat 32 (i 0).val
  let arg1 : BitVec 32 := BitVec.ofNat 32 (i 1).val
  let c33_i32 : BitVec 32 := 33#32
  let v0 : BitVec 32 := Scalar.muli arg0 c33_i32
  let c8_i32 : BitVec 32 := 8#32
  let v1 : BitVec 32 := Scalar.muli arg1 c8_i32
  let v2 : BitVec 32 := Scalar.addi v0 v1
  let c1_i32 : BitVec 32 := 1#32
  let v3 : BitVec 32 := Scalar.addi v2 c1_i32
  let c1_i32_0 : BitVec 32 := 1#32
  let v4 : BitVec 32 := Scalar.addi v3 c1_i32_0
  let c0_i32 : BitVec 32 := 0#32
  let c0_i32_1 : BitVec 32 := 0#32
  ![v4.toNat, c0_i32.toNat]

def cc0_transform_10 (i : grid0.Coords) : Fin 2 → Nat :=
  let arg0 : BitVec 32 := BitVec.ofNat 32 (i 0).val
  let arg1 : BitVec 32 := BitVec.ofNat 32 (i 1).val
  let c33_i32 : BitVec 32 := 33#32
  let v0 : BitVec 32 := Scalar.muli arg0 c33_i32
  let c8_i32 : BitVec 32 := 8#32
  let v1 : BitVec 32 := Scalar.muli arg1 c8_i32
  let v2 : BitVec 32 := Scalar.addi v0 v1
  let c1_i32 : BitVec 32 := 1#32
  let v3 : BitVec 32 := Scalar.addi v2 c1_i32
  let c2_i32 : BitVec 32 := 2#32
  let v4 : BitVec 32 := Scalar.addi v3 c2_i32
  let c0_i32 : BitVec 32 := 0#32
  let c0_i32_0 : BitVec 32 := 0#32
  ![v4.toNat, c0_i32.toNat]

def cc0_transform_11 (i : grid0.Coords) : Fin 2 → Nat :=
  let arg0 : BitVec 32 := BitVec.ofNat 32 (i 0).val
  let arg1 : BitVec 32 := BitVec.ofNat 32 (i 1).val
  let c33_i32 : BitVec 32 := 33#32
  let v0 : BitVec 32 := Scalar.muli arg0 c33_i32
  let c8_i32 : BitVec 32 := 8#32
  let v1 : BitVec 32 := Scalar.muli arg1 c8_i32
  let v2 : BitVec 32 := Scalar.addi v0 v1
  let c1_i32 : BitVec 32 := 1#32
  let v3 : BitVec 32 := Scalar.addi v2 c1_i32
  let c3_i32 : BitVec 32 := 3#32
  let v4 : BitVec 32 := Scalar.addi v3 c3_i32
  let c0_i32 : BitVec 32 := 0#32
  let c0_i32_0 : BitVec 32 := 0#32
  ![v4.toNat, c0_i32.toNat]

def cc0_transform_12 (i : grid0.Coords) : Fin 2 → Nat :=
  let arg0 : BitVec 32 := BitVec.ofNat 32 (i 0).val
  let arg1 : BitVec 32 := BitVec.ofNat 32 (i 1).val
  let c33_i32 : BitVec 32 := 33#32
  let v0 : BitVec 32 := Scalar.muli arg0 c33_i32
  let c8_i32 : BitVec 32 := 8#32
  let v1 : BitVec 32 := Scalar.muli arg1 c8_i32
  let v2 : BitVec 32 := Scalar.addi v0 v1
  let c1_i32 : BitVec 32 := 1#32
  let v3 : BitVec 32 := Scalar.addi v2 c1_i32
  let c4_i32 : BitVec 32 := 4#32
  let v4 : BitVec 32 := Scalar.addi v3 c4_i32
  let c0_i32 : BitVec 32 := 0#32
  let c0_i32_0 : BitVec 32 := 0#32
  ![v4.toNat, c0_i32.toNat]

def cc0_transform_13 (i : grid0.Coords) : Fin 2 → Nat :=
  let arg0 : BitVec 32 := BitVec.ofNat 32 (i 0).val
  let arg1 : BitVec 32 := BitVec.ofNat 32 (i 1).val
  let c33_i32 : BitVec 32 := 33#32
  let v0 : BitVec 32 := Scalar.muli arg0 c33_i32
  let c8_i32 : BitVec 32 := 8#32
  let v1 : BitVec 32 := Scalar.muli arg1 c8_i32
  let v2 : BitVec 32 := Scalar.addi v0 v1
  let c1_i32 : BitVec 32 := 1#32
  let v3 : BitVec 32 := Scalar.addi v2 c1_i32
  let c5_i32 : BitVec 32 := 5#32
  let v4 : BitVec 32 := Scalar.addi v3 c5_i32
  let c0_i32 : BitVec 32 := 0#32
  let c0_i32_0 : BitVec 32 := 0#32
  ![v4.toNat, c0_i32.toNat]

def cc0_transform_14 (i : grid0.Coords) : Fin 2 → Nat :=
  let arg0 : BitVec 32 := BitVec.ofNat 32 (i 0).val
  let arg1 : BitVec 32 := BitVec.ofNat 32 (i 1).val
  let c33_i32 : BitVec 32 := 33#32
  let v0 : BitVec 32 := Scalar.muli arg0 c33_i32
  let c8_i32 : BitVec 32 := 8#32
  let v1 : BitVec 32 := Scalar.muli arg1 c8_i32
  let v2 : BitVec 32 := Scalar.addi v0 v1
  let c1_i32 : BitVec 32 := 1#32
  let v3 : BitVec 32 := Scalar.addi v2 c1_i32
  let c6_i32 : BitVec 32 := 6#32
  let v4 : BitVec 32 := Scalar.addi v3 c6_i32
  let c0_i32 : BitVec 32 := 0#32
  let c0_i32_0 : BitVec 32 := 0#32
  ![v4.toNat, c0_i32.toNat]

def cc0_transform_15 (i : grid0.Coords) : Fin 2 → Nat :=
  let arg0 : BitVec 32 := BitVec.ofNat 32 (i 0).val
  let arg1 : BitVec 32 := BitVec.ofNat 32 (i 1).val
  let c33_i32 : BitVec 32 := 33#32
  let v0 : BitVec 32 := Scalar.muli arg0 c33_i32
  let c8_i32 : BitVec 32 := 8#32
  let v1 : BitVec 32 := Scalar.muli arg1 c8_i32
  let v2 : BitVec 32 := Scalar.addi v0 v1
  let c1_i32 : BitVec 32 := 1#32
  let v3 : BitVec 32 := Scalar.addi v2 c1_i32
  let c7_i32 : BitVec 32 := 7#32
  let v4 : BitVec 32 := Scalar.addi v3 c7_i32
  let c0_i32 : BitVec 32 := 0#32
  let c0_i32_0 : BitVec 32 := 0#32
  ![v4.toNat, c0_i32.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S128x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S128x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S128x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S128x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S128x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S128x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S128x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 1 → Memref sig .tc .vmem S1024x1024 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 2 → Memref sig .tc .vmem S1024x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]
-- ==== RwkvOutRefIdeal.lean ====
abbrev S4x4224x1024 : Shape := ⟨3, ![4, 4224, 1024]⟩
abbrev S1x1024x1024 : Shape := ⟨3, ![1, 1024, 1024]⟩
abbrev S1024 : Shape := ⟨1, ![1024]⟩
abbrev S1024x1024 : Shape := ⟨2, ![1024, 1024]⟩
abbrev S_ : Shape := ⟨0, ![]⟩
abbrev S4x4224 : Shape := ⟨2, ![4, 4224]⟩
abbrev S4x4224x1 : Shape := ⟨3, ![4, 4224, 1]⟩
abbrev S1x1x1024 : Shape := ⟨3, ![1, 1, 1024]⟩
abbrev S4x4096x1024 : Shape := ⟨3, ![4, 4096, 1024]⟩
abbrev S16384x1024 : Shape := ⟨2, ![16384, 1024]⟩

abbrev nBuf : Space → Nat
  | .hbm => 25
  | .vmem => 0
  | .smem => 0
  | _ => 0

abbrev bufTy : (tb : Table) → Fin (tcTables nBuf tb) → BufTy
  | .hbm, ⟨0, _⟩ => ⟨S4x4224x1024, .f32⟩
  | .hbm, ⟨1, _⟩ => ⟨S4x4224x1024, .f32⟩
  | .hbm, ⟨2, _⟩ => ⟨S1x1024x1024, .f32⟩
  | .hbm, ⟨3, _⟩ => ⟨S1024, .f32⟩
  | .hbm, ⟨4, _⟩ => ⟨S1024x1024, .f32⟩
  | .hbm, ⟨5, _⟩ => ⟨S4x4224x1024, .f32⟩
  | .hbm, ⟨6, _⟩ => ⟨S4x4224x1024, .f32⟩
  | .hbm, ⟨7, _⟩ => ⟨S4x4224x1024, .f32⟩
  | .hbm, ⟨8, _⟩ => ⟨S_, .f32⟩
  | .hbm, ⟨9, _⟩ => ⟨S4x4224, .f32⟩
  | .hbm, ⟨10, _⟩ => ⟨S4x4224x1, .f32⟩
  | .hbm, ⟨11, _⟩ => ⟨S_, .f32⟩
  | .hbm, ⟨12, _⟩ => ⟨S4x4224x1, .f32⟩
  | .hbm, ⟨13, _⟩ => ⟨S4x4224x1, .f32⟩
  | .hbm, ⟨14, _⟩ => ⟨S_, .f32⟩
  | .hbm, ⟨15, _⟩ => ⟨S4x4224x1, .f32⟩
  | .hbm, ⟨16, _⟩ => ⟨S4x4224x1, .f32⟩
  | .hbm, ⟨17, _⟩ => ⟨S4x4224x1, .f32⟩
  | .hbm, ⟨18, _⟩ => ⟨S4x4224x1024, .f32⟩
  | .hbm, ⟨19, _⟩ => ⟨S4x4224x1024, .f32⟩
  | .hbm, ⟨20, _⟩ => ⟨S1x1x1024, .f32⟩
  | .hbm, ⟨21, _⟩ => ⟨S4x4224x1024, .f32⟩
  | .hbm, ⟨22, _⟩ => ⟨S4x4224x1024, .f32⟩
  | .hbm, ⟨23, _⟩ => ⟨S4x4096x1024, .f32⟩
  | .hbm, ⟨24, _⟩ => ⟨S16384x1024, .f32⟩
  | _, _ => ⟨S4x4224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== SampleOut.lean ====
abbrev S128x4x1024 : Shape := ⟨3, ![128, 4, 1024]⟩
abbrev S1x1024x1024 : Shape := ⟨3, ![1, 1024, 1024]⟩
abbrev S1024 : Shape := ⟨1, ![1024]⟩
abbrev S1024x1024 : Shape := ⟨2, ![1024, 1024]⟩
abbrev S1x1024 : Shape := ⟨2, ![1, 1024]⟩
abbrev S512x1024 : Shape := ⟨2, ![512, 1024]⟩
abbrev S64x1024 : Shape := ⟨2, ![64, 1024]⟩
abbrev S512 : Shape := ⟨1, ![512]⟩
abbrev S512x1 : Shape := ⟨2, ![512, 1]⟩

abbrev nBuf : Space → Nat
  | .hbm => 10
  | .vmem => 19
  | .smem => 0
  | _ => 0

abbrev bufTy : (tb : Table) → Fin (tcTables nBuf tb) → BufTy
  | .hbm, ⟨0, _⟩ => ⟨S128x4x1024, .f32⟩
  | .hbm, ⟨1, _⟩ => ⟨S128x4x1024, .f32⟩
  | .hbm, ⟨2, _⟩ => ⟨S1x1024x1024, .f32⟩
  | .hbm, ⟨3, _⟩ => ⟨S1024, .f32⟩
  | .hbm, ⟨4, _⟩ => ⟨S1024x1024, .f32⟩
  | .hbm, ⟨5, _⟩ => ⟨S1024x1024, .bf16⟩
  | .hbm, ⟨6, _⟩ => ⟨S1x1024, .f32⟩
  | .hbm, ⟨7, _⟩ => ⟨S512x1024, .f32⟩
  | .hbm, ⟨8, _⟩ => ⟨S512x1024, .f32⟩
  | .hbm, ⟨9, _⟩ => ⟨S512x1024, .f32⟩
  | .local _ .vmem, ⟨0, _⟩ => ⟨S64x1024, .f32⟩
  | .local _ .vmem, ⟨1, _⟩ => ⟨S64x1024, .f32⟩
  | .local _ .vmem, ⟨2, _⟩ => ⟨S64x1024, .f32⟩
  | .local _ .vmem, ⟨3, _⟩ => ⟨S64x1024, .f32⟩
  | .local _ .vmem, ⟨4, _⟩ => ⟨S64x1024, .f32⟩
  | .local _ .vmem, ⟨5, _⟩ => ⟨S64x1024, .f32⟩
  | .local _ .vmem, ⟨6, _⟩ => ⟨S64x1024, .f32⟩
  | .local _ .vmem, ⟨7, _⟩ => ⟨S64x1024, .f32⟩
  | .local _ .vmem, ⟨8, _⟩ => ⟨S64x1024, .f32⟩
  | .local _ .vmem, ⟨9, _⟩ => ⟨S64x1024, .f32⟩
  | .local _ .vmem, ⟨10, _⟩ => ⟨S64x1024, .f32⟩
  | .local _ .vmem, ⟨11, _⟩ => ⟨S64x1024, .f32⟩
  | .local _ .vmem, ⟨12, _⟩ => ⟨S64x1024, .f32⟩
  | .local _ .vmem, ⟨13, _⟩ => ⟨S64x1024, .f32⟩
  | .local _ .vmem, ⟨14, _⟩ => ⟨S64x1024, .f32⟩
  | .local _ .vmem, ⟨15, _⟩ => ⟨S64x1024, .f32⟩
  | .local _ .vmem, ⟨16, _⟩ => ⟨S1024x1024, .bf16⟩
  | .local _ .vmem, ⟨17, _⟩ => ⟨S1x1024, .f32⟩
  | .local _ .vmem, ⟨18, _⟩ => ⟨S512x1024, .f32⟩
  | _, _ => ⟨S128x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c8_i32_0 : BitVec 32 := 8#32
  let v1 : BitVec 32 := Scalar.muli arg1 c8_i32_0
  let v2 : BitVec 32 := Scalar.addi v0 v1
  let c0_i32 : BitVec 32 := 0#32
  let v3 : BitVec 32 := Scalar.addi v2 c0_i32
  let c0_i32_1 : BitVec 32 := 0#32
  let v4 : BitVec 32 := Scalar.addi v3 c0_i32_1
  let c0_i32_2 : BitVec 32 := 0#32
  let c0_i32_3 : BitVec 32 := 0#32
  ![v4.toNat, c0_i32_2.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c8_i32_0 : BitVec 32 := 8#32
  let v1 : BitVec 32 := Scalar.muli arg1 c8_i32_0
  let v2 : BitVec 32 := Scalar.addi v0 v1
  let c0_i32 : BitVec 32 := 0#32
  let v3 : BitVec 32 := Scalar.addi v2 c0_i32
  let c1_i32 : BitVec 32 := 1#32
  let v4 : BitVec 32 := Scalar.addi v3 c1_i32
  let c0_i32_1 : BitVec 32 := 0#32
  let c0_i32_2 : BitVec 32 := 0#32
  ![v4.toNat, c0_i32_1.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c8_i32_0 : BitVec 32 := 8#32
  let v1 : BitVec 32 := Scalar.muli arg1 c8_i32_0
  let v2 : BitVec 32 := Scalar.addi v0 v1
  let c0_i32 : BitVec 32 := 0#32
  let v3 : BitVec 32 := Scalar.addi v2 c0_i32
  let c2_i32 : BitVec 32 := 2#32
  let v4 : BitVec 32 := Scalar.addi v3 c2_i32
  let c0_i32_1 : BitVec 32 := 0#32
  let c0_i32_2 : BitVec 32 := 0#32
  ![v4.toNat, c0_i32_1.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c8_i32_0 : BitVec 32 := 8#32
  let v1 : BitVec 32 := Scalar.muli arg1 c8_i32_0
  let v2 : BitVec 32 := Scalar.addi v0 v1
  let c0_i32 : BitVec 32 := 0#32
  let v3 : BitVec 32 := Scalar.addi v2 c0_i32
  let c3_i32 : BitVec 32 := 3#32
  let v4 : BitVec 32 := Scalar.addi v3 c3_i32
  let c0_i32_1 : BitVec 32 := 0#32
  let c0_i32_2 : BitVec 32 := 0#32
  ![v4.toNat, c0_i32_1.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c8_i32_0 : BitVec 32 := 8#32
  let v1 : BitVec 32 := Scalar.muli arg1 c8_i32_0
  let v2 : BitVec 32 := Scalar.addi v0 v1
  let c0_i32 : BitVec 32 := 0#32
  let v3 : BitVec 32 := Scalar.addi v2 c0_i32
  let c4_i32 : BitVec 32 := 4#32
  let v4 : BitVec 32 := Scalar.addi v3 c4_i32
  let c0_i32_1 : BitVec 32 := 0#32
  let c0_i32_2 : BitVec 32 := 0#32
  ![v4.toNat, c0_i32_1.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c8_i32_0 : BitVec 32 := 8#32
  let v1 : BitVec 32 := Scalar.muli arg1 c8_i32_0
  let v2 : BitVec 32 := Scalar.addi v0 v1
  let c0_i32 : BitVec 32 := 0#32
  let v3 : BitVec 32 := Scalar.addi v2 c0_i32
  let c5_i32 : BitVec 32 := 5#32
  let v4 : BitVec 32 := Scalar.addi v3 c5_i32
  let c0_i32_1 : BitVec 32 := 0#32
  let c0_i32_2 : BitVec 32 := 0#32
  ![v4.toNat, c0_i32_1.toNat]

def cc0_transform_6 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c8_i32_0 : BitVec 32 := 8#32
  let v1 : BitVec 32 := Scalar.muli arg1 c8_i32_0
  let v2 : BitVec 32 := Scalar.addi v0 v1
  let c0_i32 : BitVec 32 := 0#32
  let v3 : BitVec 32 := Scalar.addi v2 c0_i32
  let c6_i32 : BitVec 32 := 6#32
  let v4 : BitVec 32 := Scalar.addi v3 c6_i32
  let c0_i32_1 : BitVec 32 := 0#32
  let c0_i32_2 : BitVec 32 := 0#32
  ![v4.toNat, c0_i32_1.toNat]

def cc0_transform_7 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c8_i32_0 : BitVec 32 := 8#32
  let v1 : BitVec 32 := Scalar.muli arg1 c8_i32_0
  let v2 : BitVec 32 := Scalar.addi v0 v1
  let c0_i32 : BitVec 32 := 0#32
  let v3 : BitVec 32 := Scalar.addi v2 c0_i32
  let c7_i32 : BitVec 32 := 7#32
  let v4 : BitVec 32 := Scalar.addi v3 c7_i32
  let c0_i32_1 : BitVec 32 := 0#32
  let c0_i32_2 : BitVec 32 := 0#32
  ![v4.toNat, c0_i32_1.toNat]

def cc0_transform_8 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c8_i32_0 : BitVec 32 := 8#32
  let v1 : BitVec 32 := Scalar.muli arg1 c8_i32_0
  let v2 : BitVec 32 := Scalar.addi v0 v1
  let c0_i32 : BitVec 32 := 0#32
  let v3 : BitVec 32 := Scalar.addi v2 c0_i32
  let c0_i32_1 : BitVec 32 := 0#32
  let v4 : BitVec 32 := Scalar.addi v3 c0_i32_1
  let c0_i32_2 : BitVec 32 := 0#32
  let c0_i32_3 : BitVec 32 := 0#32
  ![v4.toNat, c0_i32_2.toNat]

def cc0_transform_9 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c8_i32_0 : BitVec 32 := 8#32
  let v1 : BitVec 32 := Scalar.muli arg1 c8_i32_0
  let v2 : BitVec 32 := Scalar.addi v0 v1
  let c0_i32 : BitVec 32 := 0#32
  let v3 : BitVec 32 := Scalar.addi v2 c0_i32
  let c1_i32 : BitVec 32 := 1#32
  let v4 : BitVec 32 := Scalar.addi v3 c1_i32
  let c0_i32_1 : BitVec 32 := 0#32
  let c0_i32_2 : BitVec 32 := 0#32
  ![v4.toNat, c0_i32_1.toNat]

def cc0_transform_10 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c8_i32_0 : BitVec 32 := 8#32
  let v1 : BitVec 32 := Scalar.muli arg1 c8_i32_0
  let v2 : BitVec 32 := Scalar.addi v0 v1
  let c0_i32 : BitVec 32 := 0#32
  let v3 : BitVec 32 := Scalar.addi v2 c0_i32
  let c2_i32 : BitVec 32 := 2#32
  let v4 : BitVec 32 := Scalar.addi v3 c2_i32
  let c0_i32_1 : BitVec 32 := 0#32
  let c0_i32_2 : BitVec 32 := 0#32
  ![v4.toNat, c0_i32_1.toNat]

def cc0_transform_11 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c8_i32_0 : BitVec 32 := 8#32
  let v1 : BitVec 32 := Scalar.muli arg1 c8_i32_0
  let v2 : BitVec 32 := Scalar.addi v0 v1
  let c0_i32 : BitVec 32 := 0#32
  let v3 : BitVec 32 := Scalar.addi v2 c0_i32
  let c3_i32 : BitVec 32 := 3#32
  let v4 : BitVec 32 := Scalar.addi v3 c3_i32
  let c0_i32_1 : BitVec 32 := 0#32
  let c0_i32_2 : BitVec 32 := 0#32
  ![v4.toNat, c0_i32_1.toNat]

def cc0_transform_12 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c8_i32_0 : BitVec 32 := 8#32
  let v1 : BitVec 32 := Scalar.muli arg1 c8_i32_0
  let v2 : BitVec 32 := Scalar.addi v0 v1
  let c0_i32 : BitVec 32 := 0#32
  let v3 : BitVec 32 := Scalar.addi v2 c0_i32
  let c4_i32 : BitVec 32 := 4#32
  let v4 : BitVec 32 := Scalar.addi v3 c4_i32
  let c0_i32_1 : BitVec 32 := 0#32
  let c0_i32_2 : BitVec 32 := 0#32
  ![v4.toNat, c0_i32_1.toNat]

def cc0_transform_13 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c8_i32_0 : BitVec 32 := 8#32
  let v1 : BitVec 32 := Scalar.muli arg1 c8_i32_0
  let v2 : BitVec 32 := Scalar.addi v0 v1
  let c0_i32 : BitVec 32 := 0#32
  let v3 : BitVec 32 := Scalar.addi v2 c0_i32
  let c5_i32 : BitVec 32 := 5#32
  let v4 : BitVec 32 := Scalar.addi v3 c5_i32
  let c0_i32_1 : BitVec 32 := 0#32
  let c0_i32_2 : BitVec 32 := 0#32
  ![v4.toNat, c0_i32_1.toNat]

def cc0_transform_14 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c8_i32_0 : BitVec 32 := 8#32
  let v1 : BitVec 32 := Scalar.muli arg1 c8_i32_0
  let v2 : BitVec 32 := Scalar.addi v0 v1
  let c0_i32 : BitVec 32 := 0#32
  let v3 : BitVec 32 := Scalar.addi v2 c0_i32
  let c6_i32 : BitVec 32 := 6#32
  let v4 : BitVec 32 := Scalar.addi v3 c6_i32
  let c0_i32_1 : BitVec 32 := 0#32
  let c0_i32_2 : BitVec 32 := 0#32
  ![v4.toNat, c0_i32_1.toNat]

def cc0_transform_15 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c8_i32_0 : BitVec 32 := 8#32
  let v1 : BitVec 32 := Scalar.muli arg1 c8_i32_0
  let v2 : BitVec 32 := Scalar.addi v0 v1
  let c0_i32 : BitVec 32 := 0#32
  let v3 : BitVec 32 := Scalar.addi v2 c0_i32
  let c7_i32 : BitVec 32 := 7#32
  let v4 : BitVec 32 := Scalar.addi v3 c7_i32
  let c0_i32_1 : BitVec 32 := 0#32
  let c0_i32_2 : BitVec 32 := 0#32
  ![v4.toNat, c0_i32_1.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

abbrev stage0_0 : Fin 1 → Memref sig .tc .vmem S64x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S64x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S64x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S64x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S64x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S64x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S64x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S64x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]

abbrev stage0_8 : Fin 1 → Memref sig .tc .vmem S64x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, true]

abbrev stage0_9 : Fin 1 → Memref sig .tc .vmem S64x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true, true]

abbrev stage0_10 : Fin 1 → Memref sig .tc .vmem S64x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true, true]

abbrev stage0_11 : Fin 1 → Memref sig .tc .vmem S64x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true, true]

abbrev stage0_12 : Fin 1 → Memref sig .tc .vmem S64x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true, true]

abbrev stage0_13 : Fin 1 → Memref sig .tc .vmem S64x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true, true]

abbrev stage0_14 : Fin 1 → Memref sig .tc .vmem S64x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![true, true]

abbrev stage0_15 : Fin 1 → Memref sig .tc .vmem S64x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![true, true]

abbrev stage0_16 : Fin 1 → Memref sig .tc .vmem S1024x1024 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 1 → Memref sig .tc .vmem S512x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![true, true]
-- ==== SampleOutRefIdeal.lean ====
abbrev S128x4x1024 : Shape := ⟨3, ![128, 4, 1024]⟩
abbrev S1x1024x1024 : Shape := ⟨3, ![1, 1024, 1024]⟩
abbrev S1024 : Shape := ⟨1, ![1024]⟩
abbrev S1024x1024 : Shape := ⟨2, ![1024, 1024]⟩
abbrev S_ : Shape := ⟨0, ![]⟩
abbrev S128x4 : Shape := ⟨2, ![128, 4]⟩
abbrev S128x4x1 : Shape := ⟨3, ![128, 4, 1]⟩
abbrev S1x1x1024 : Shape := ⟨3, ![1, 1, 1024]⟩
abbrev S512x1024 : Shape := ⟨2, ![512, 1024]⟩

abbrev nBuf : Space → Nat
  | .hbm => 24
  | .vmem => 0
  | .smem => 0
  | _ => 0

abbrev bufTy : (tb : Table) → Fin (tcTables nBuf tb) → BufTy
  | .hbm, ⟨0, _⟩ => ⟨S128x4x1024, .f32⟩
  | .hbm, ⟨1, _⟩ => ⟨S128x4x1024, .f32⟩
  | .hbm, ⟨2, _⟩ => ⟨S1x1024x1024, .f32⟩
  | .hbm, ⟨3, _⟩ => ⟨S1024, .f32⟩
  | .hbm, ⟨4, _⟩ => ⟨S1024x1024, .f32⟩
  | .hbm, ⟨5, _⟩ => ⟨S128x4x1024, .f32⟩
  | .hbm, ⟨6, _⟩ => ⟨S128x4x1024, .f32⟩
  | .hbm, ⟨7, _⟩ => ⟨S128x4x1024, .f32⟩
  | .hbm, ⟨8, _⟩ => ⟨S_, .f32⟩
  | .hbm, ⟨9, _⟩ => ⟨S128x4, .f32⟩
  | .hbm, ⟨10, _⟩ => ⟨S128x4x1, .f32⟩
  | .hbm, ⟨11, _⟩ => ⟨S_, .f32⟩
  | .hbm, ⟨12, _⟩ => ⟨S128x4x1, .f32⟩
  | .hbm, ⟨13, _⟩ => ⟨S128x4x1, .f32⟩
  | .hbm, ⟨14, _⟩ => ⟨S_, .f32⟩
  | .hbm, ⟨15, _⟩ => ⟨S128x4x1, .f32⟩
  | .hbm, ⟨16, _⟩ => ⟨S128x4x1, .f32⟩
  | .hbm, ⟨17, _⟩ => ⟨S128x4x1, .f32⟩
  | .hbm, ⟨18, _⟩ => ⟨S128x4x1024, .f32⟩
  | .hbm, ⟨19, _⟩ => ⟨S128x4x1024, .f32⟩
  | .hbm, ⟨20, _⟩ => ⟨S1x1x1024, .f32⟩
  | .hbm, ⟨21, _⟩ => ⟨S128x4x1024, .f32⟩
  | .hbm, ⟨22, _⟩ => ⟨S128x4x1024, .f32⟩
  | .hbm, ⟨23, _⟩ => ⟨S512x1024, .f32⟩
  | _, _ => ⟨S128x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== SampleProj.lean ====
abbrev S128x4x1024 : Shape := ⟨3, ![128, 4, 1024]⟩
abbrev S1x128x1024 : Shape := ⟨3, ![1, 128, 1024]⟩
abbrev S2x1024 : Shape := ⟨2, ![2, 1024]⟩
abbrev S1x6x1024 : Shape := ⟨3, ![1, 6, 1024]⟩
abbrev S1x4x1024x1024 : Shape := ⟨4, ![1, 4, 1024, 1024]⟩
abbrev S1x1024 : Shape := ⟨2, ![1, 1024]⟩
abbrev S1x1024x64 : Shape := ⟨3, ![1, 1024, 64]⟩
abbrev S1x64x1024 : Shape := ⟨3, ![1, 64, 1024]⟩
abbrev S1024 : Shape := ⟨1, ![1024]⟩
abbrev S6x1024 : Shape := ⟨2, ![6, 1024]⟩
abbrev S4x1024x1024 : Shape := ⟨3, ![4, 1024, 1024]⟩
abbrev S1024x64 : Shape := ⟨2, ![1024, 64]⟩
abbrev S64x1024 : Shape := ⟨2, ![64, 1024]⟩
abbrev S128x1024 : Shape := ⟨2, ![128, 1024]⟩
abbrev S512x1024 : Shape := ⟨2, ![512, 1024]⟩
abbrev S256x1024 : Shape := ⟨2, ![256, 1024]⟩
abbrev S256 : Shape := ⟨1, ![256]⟩
abbrev S256x1 : Shape := ⟨2, ![256, 1]⟩
abbrev S1x1024x1024 : Shape := ⟨3, ![1, 1024, 1024]⟩
abbrev S1024x1024 : Shape := ⟨2, ![1024, 1024]⟩
abbrev S256x64 : Shape := ⟨2, ![256, 64]⟩

abbrev nBuf : Space → Nat
  | .hbm => 40
  | .vmem => 27
  | .smem => 0
  | _ => 0

abbrev bufTy : (tb : Table) → Fin (tcTables nBuf tb) → BufTy
  | .hbm, ⟨0, _⟩ => ⟨S128x4x1024, .f32⟩
  | .hbm, ⟨1, _⟩ => ⟨S1x128x1024, .f32⟩
  | .hbm, ⟨2, _⟩ => ⟨S2x1024, .f32⟩
  | .hbm, ⟨3, _⟩ => ⟨S1x6x1024, .f32⟩
  | .hbm, ⟨4, _⟩ => ⟨S1x4x1024x1024, .f32⟩
  | .hbm, ⟨5, _⟩ => ⟨S1x1024, .f32⟩
  | .hbm, ⟨6, _⟩ => ⟨S1x1024x64, .f32⟩
  | .hbm, ⟨7, _⟩ => ⟨S1x64x1024, .f32⟩
  | .hbm, ⟨8, _⟩ => ⟨S1x1024, .f32⟩
  | .hbm, ⟨9, _⟩ => ⟨S1x1024x64, .f32⟩
  | .hbm, ⟨10, _⟩ => ⟨S1x64x1024, .f32⟩
  | .hbm, ⟨11, _⟩ => ⟨S1x1024, .f32⟩
  | .hbm, ⟨12, _⟩ => ⟨S1024, .f32⟩
  | .hbm, ⟨13, _⟩ => ⟨S1x1024, .f32⟩
  | .hbm, ⟨14, _⟩ => ⟨S6x1024, .f32⟩
  | .hbm, ⟨15, _⟩ => ⟨S4x1024x1024, .f32⟩
  | .hbm, ⟨16, _⟩ => ⟨S4x1024x1024, .bf16⟩
  | .hbm, ⟨17, _⟩ => ⟨S1024, .f32⟩
  | .hbm, ⟨18, _⟩ => ⟨S1x1024, .f32⟩
  | .hbm, ⟨19, _⟩ => ⟨S1024x64, .f32⟩
  | .hbm, ⟨20, _⟩ => ⟨S1024x64, .bf16⟩
  | .hbm, ⟨21, _⟩ => ⟨S64x1024, .f32⟩
  | .hbm, ⟨22, _⟩ => ⟨S64x1024, .bf16⟩
  | .hbm, ⟨23, _⟩ => ⟨S1024, .f32⟩
  | .hbm, ⟨24, _⟩ => ⟨S1x1024, .f32⟩
  | .hbm, ⟨25, _⟩ => ⟨S1024x64, .f32⟩
  | .hbm, ⟨26, _⟩ => ⟨S1024x64, .bf16⟩
  | .hbm, ⟨27, _⟩ => ⟨S64x1024, .f32⟩
  | .hbm, ⟨28, _⟩ => ⟨S64x1024, .bf16⟩
  | .hbm, ⟨29, _⟩ => ⟨S128x1024, .f32⟩
  | .hbm, ⟨30, _⟩ => ⟨S128x4x1024, .f32⟩
  | .hbm, ⟨31, _⟩ => ⟨S512x1024, .f32⟩
  | .hbm, ⟨32, _⟩ => ⟨S512x1024, .f32⟩
  | .hbm, ⟨33, _⟩ => ⟨S512x1024, .f32⟩
  | .hbm, ⟨34, _⟩ => ⟨S512x1024, .f32⟩
  | .hbm, ⟨35, _⟩ => ⟨S512x1024, .f32⟩
  | .hbm, ⟨36, _⟩ => ⟨S512x1024, .f32⟩
  | .hbm, ⟨37, _⟩ => ⟨S512x1024, .f32⟩
  | .hbm, ⟨38, _⟩ => ⟨S512x1024, .f32⟩
  | .hbm, ⟨39, _⟩ => ⟨S512x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S6x1024, .f32⟩
  | .local _ .vmem, ⟨6, _⟩ => ⟨S4x1024x1024, .bf16⟩
  | .local _ .vmem, ⟨7, _⟩ => ⟨S1x1024, .f32⟩
  | .local _ .vmem, ⟨8, _⟩ => ⟨S1024x64, .bf16⟩
  | .local _ .vmem, ⟨9, _⟩ => ⟨S64x1024, .bf16⟩
  | .local _ .vmem, ⟨10, _⟩ => ⟨S1x1024, .f32⟩
  | .local _ .vmem, ⟨11, _⟩ => ⟨S1024x64, .bf16⟩
  | .local _ .vmem, ⟨12, _⟩ => ⟨S64x1024, .bf16⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | .local _ .vmem, ⟨18, _⟩ => ⟨S256x1024, .f32⟩
  | .local _ .vmem, ⟨19, _⟩ => ⟨S256x1024, .f32⟩
  | .local _ .vmem, ⟨20, _⟩ => ⟨S256x1024, .f32⟩
  | .local _ .vmem, ⟨21, _⟩ => ⟨S256x1024, .f32⟩
  | .local _ .vmem, ⟨22, _⟩ => ⟨S256x1024, .f32⟩
  | .local _ .vmem, ⟨23, _⟩ => ⟨S256x1024, .f32⟩
  | .local _ .vmem, ⟨24, _⟩ => ⟨S256x1024, .f32⟩
  | .local _ .vmem, ⟨25, _⟩ => ⟨S256x1024, .f32⟩
  | .local _ .vmem, ⟨26, _⟩ => ⟨S256x1024, .f32⟩
  | _, _ => ⟨S128x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22_0 : Ref sig .tc := ⟨.hbm, 33, rfl⟩
abbrev main_v22_1 : Ref sig .tc := ⟨.hbm, 34, rfl⟩
abbrev main_v22_2 : Ref sig .tc := ⟨.hbm, 35, rfl⟩
abbrev main_v22_3 : Ref sig .tc := ⟨.hbm, 36, rfl⟩
abbrev main_v22_4 : Ref sig .tc := ⟨.hbm, 37, rfl⟩
abbrev main_v22_5 : Ref sig .tc := ⟨.hbm, 38, rfl⟩
abbrev main_v22_6 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg11_1 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg14_1 : Ref sig .tc := ⟨.vmem, 20, rfl⟩
abbrev cc0_stg15_0 : Ref sig .tc := ⟨.vmem, 21, rfl⟩
abbrev cc0_stg15_1 : Ref sig .tc := ⟨.vmem, 22, rfl⟩
abbrev cc0_stg16_0 : Ref sig .tc := ⟨.vmem, 23, rfl⟩
abbrev cc0_stg16_1 : Ref sig .tc := ⟨.vmem, 24, rfl⟩
abbrev cc0_stg17_0 : Ref sig .tc := ⟨.vmem, 25, rfl⟩
abbrev cc0_stg17_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem11_1 : DmaSem sig := 14
abbrev cc0_sem12_0 : DmaSem sig := 15
abbrev cc0_sem12_1 : DmaSem sig := 16
abbrev cc0_sem13_0 : DmaSem sig := 17
abbrev cc0_sem13_1 : DmaSem sig := 18
abbrev cc0_sem14_0 : DmaSem sig := 19
abbrev cc0_sem14_1 : DmaSem sig := 20
abbrev cc0_sem15_0 : DmaSem sig := 21
abbrev cc0_sem15_1 : DmaSem sig := 22
abbrev cc0_sem16_0 : DmaSem sig := 23
abbrev cc0_sem16_1 : DmaSem sig := 24
abbrev cc0_sem17_0 : DmaSem sig := 25
abbrev cc0_sem17_1 : DmaSem sig := 26

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_12 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_13 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_14 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_15 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_16 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_17 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S6x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S4x1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x64 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S64x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x64 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S64x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S256x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S256x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S256x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S256x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]
-- ==== SampleProjRefIdeal.lean ====
abbrev S128x4x1024 : Shape := ⟨3, ![128, 4, 1024]⟩
abbrev S1x128x1024 : Shape := ⟨3, ![1, 128, 1024]⟩
abbrev S2x1024 : Shape := ⟨2, ![2, 1024]⟩
abbrev S1x6x1024 : Shape := ⟨3, ![1, 6, 1024]⟩
abbrev S1x4x1024x1024 : Shape := ⟨4, ![1, 4, 1024, 1024]⟩
abbrev S1x1024 : Shape := ⟨2, ![1, 1024]⟩
abbrev S1x1024x64 : Shape := ⟨3, ![1, 1024, 64]⟩
abbrev S1x64x1024 : Shape := ⟨3, ![1, 64, 1024]⟩
abbrev S1024 : Shape := ⟨1, ![1024]⟩
abbrev S_ : Shape := ⟨0, ![]⟩
abbrev S128x4 : Shape := ⟨2, ![128, 4]⟩
abbrev S128x4x1 : Shape := ⟨3, ![128, 4, 1]⟩
abbrev S1x1x1024 : Shape := ⟨3, ![1, 1, 1024]⟩
abbrev S6x1024 : Shape := ⟨2, ![6, 1024]⟩
abbrev S4x1024x1024 : Shape := ⟨3, ![4, 1024, 1024]⟩
abbrev S128x1024 : Shape := ⟨2, ![128, 1024]⟩
abbrev S128x1x1024 : Shape := ⟨3, ![128, 1, 1024]⟩
abbrev S128x3x1024 : Shape := ⟨3, ![128, 3, 1024]⟩
abbrev S1x128x4x1024 : Shape := ⟨4, ![1, 128, 4, 1024]⟩
abbrev S6x1x1x1024 : Shape := ⟨4, ![6, 1, 1, 1024]⟩
abbrev S6x128x4x1024 : Shape := ⟨4, ![6, 128, 4, 1024]⟩
abbrev S4x128x4x1024 : Shape := ⟨4, ![4, 128, 4, 1024]⟩
abbrev S1024x64 : Shape := ⟨2, ![1024, 64]⟩
abbrev S128x4x64 : Shape := ⟨3, ![128, 4, 64]⟩
abbrev S64x1024 : Shape := ⟨2, ![64, 1024]⟩
abbrev S512x1024 : Shape := ⟨2, ![512, 1024]⟩

abbrev nBuf : Space → Nat
  | .hbm => 101
  | .vmem => 0
  | .smem => 0
  | _ => 0

abbrev bufTy : (tb : Table) → Fin (tcTables nBuf tb) → BufTy
  | .hbm, ⟨0, _⟩ => ⟨S128x4x1024, .f32⟩
  | .hbm, ⟨1, _⟩ => ⟨S1x128x1024, .f32⟩
  | .hbm, ⟨2, _⟩ => ⟨S2x1024, .f32⟩
  | .hbm, ⟨3, _⟩ => ⟨S1x6x1024, .f32⟩
  | .hbm, ⟨4, _⟩ => ⟨S1x4x1024x1024, .f32⟩
  | .hbm, ⟨5, _⟩ => ⟨S1x1024, .f32⟩
  | .hbm, ⟨6, _⟩ => ⟨S1x1024x64, .f32⟩
  | .hbm, ⟨7, _⟩ => ⟨S1x64x1024, .f32⟩
  | .hbm, ⟨8, _⟩ => ⟨S1x1024, .f32⟩
  | .hbm, ⟨9, _⟩ => ⟨S1x1024x64, .f32⟩
  | .hbm, ⟨10, _⟩ => ⟨S1x64x1024, .f32⟩
  | .hbm, ⟨11, _⟩ => ⟨S1x1024, .f32⟩
  | .hbm, ⟨12, _⟩ => ⟨S1024, .f32⟩
  | .hbm, ⟨13, _⟩ => ⟨S128x4x1024, .f32⟩
  | .hbm, ⟨14, _⟩ => ⟨S_, .f32⟩
  | .hbm, ⟨15, _⟩ => ⟨S128x4, .f32⟩
  | .hbm, ⟨16, _⟩ => ⟨S128x4x1, .f32⟩
  | .hbm, ⟨17, _⟩ => ⟨S_, .f32⟩
  | .hbm, ⟨18, _⟩ => ⟨S128x4x1, .f32⟩
  | .hbm, ⟨19, _⟩ => ⟨S128x4x1, .f32⟩
  | .hbm, ⟨20, _⟩ => ⟨S_, .f32⟩
  | .hbm, ⟨21, _⟩ => ⟨S128x4x1, .f32⟩
  | .hbm, ⟨22, _⟩ => ⟨S128x4x1, .f32⟩
  | .hbm, ⟨23, _⟩ => ⟨S128x4x1, .f32⟩
  | .hbm, ⟨24, _⟩ => ⟨S128x4x1024, .f32⟩
  | .hbm, ⟨25, _⟩ => ⟨S128x4x1024, .f32⟩
  | .hbm, ⟨26, _⟩ => ⟨S1x1x1024, .f32⟩
  | .hbm, ⟨27, _⟩ => ⟨S128x4x1024, .f32⟩
  | .hbm, ⟨28, _⟩ => ⟨S128x4x1024, .f32⟩
  | .hbm, ⟨29, _⟩ => ⟨S6x1024, .f32⟩
  | .hbm, ⟨30, _⟩ => ⟨S4x1024x1024, .f32⟩
  | .hbm, ⟨31, _⟩ => ⟨S128x1024, .f32⟩
  | .hbm, ⟨32, _⟩ => ⟨S128x1x1024, .f32⟩
  | .hbm, ⟨33, _⟩ => ⟨S128x3x1024, .f32⟩
  | .hbm, ⟨34, _⟩ => ⟨S128x4x1024, .f32⟩
  | .hbm, ⟨35, _⟩ => ⟨S1x128x4x1024, .f32⟩
  | .hbm, ⟨36, _⟩ => ⟨S128x4x1024, .f32⟩
  | .hbm, ⟨37, _⟩ => ⟨S1x128x4x1024, .f32⟩
  | .hbm, ⟨38, _⟩ => ⟨S6x1x1x1024, .f32⟩
  | .hbm, ⟨39, _⟩ => ⟨S6x128x4x1024, .f32⟩
  | .hbm, ⟨40, _⟩ => ⟨S6x128x4x1024, .f32⟩
  | .hbm, ⟨41, _⟩ => ⟨S6x128x4x1024, .f32⟩
  | .hbm, ⟨42, _⟩ => ⟨S6x128x4x1024, .f32⟩
  | .hbm, ⟨43, _⟩ => ⟨S6x128x4x1024, .f32⟩
  | .hbm, ⟨44, _⟩ => ⟨S4x128x4x1024, .f32⟩
  | .hbm, ⟨45, _⟩ => ⟨S4x128x4x1024, .f32⟩
  | .hbm, ⟨46, _⟩ => ⟨S1x128x4x1024, .f32⟩
  | .hbm, ⟨47, _⟩ => ⟨S128x4x1024, .f32⟩
  | .hbm, ⟨48, _⟩ => ⟨S1x128x4x1024, .f32⟩
  | .hbm, ⟨49, _⟩ => ⟨S128x4x1024, .f32⟩
  | .hbm, ⟨50, _⟩ => ⟨S1x128x4x1024, .f32⟩
  | .hbm, ⟨51, _⟩ => ⟨S128x4x1024, .f32⟩
  | .hbm, ⟨52, _⟩ => ⟨S1x128x4x1024, .f32⟩
  | .hbm, ⟨53, _⟩ => ⟨S128x4x1024, .f32⟩
  | .hbm, ⟨54, _⟩ => ⟨S1x128x4x1024, .f32⟩
  | .hbm, ⟨55, _⟩ => ⟨S128x4x1024, .f32⟩
  | .hbm, ⟨56, _⟩ => ⟨S1x128x4x1024, .f32⟩
  | .hbm, ⟨57, _⟩ => ⟨S128x4x1024, .f32⟩
  | .hbm, ⟨58, _⟩ => ⟨S1024, .f32⟩
  | .hbm, ⟨59, _⟩ => ⟨S1024x64, .f32⟩
  | .hbm, ⟨60, _⟩ => ⟨S128x4x64, .f32⟩
  | .hbm, ⟨61, _⟩ => ⟨S128x4x64, .f32⟩
  | .hbm, ⟨62, _⟩ => ⟨S64x1024, .f32⟩
  | .hbm, ⟨63, _⟩ => ⟨S128x4x1024, .f32⟩
  | .hbm, ⟨64, _⟩ => ⟨S1x1x1024, .f32⟩
  | .hbm, ⟨65, _⟩ => ⟨S128x4x1024, .f32⟩
  | .hbm, ⟨66, _⟩ => ⟨S128x4x1024, .f32⟩
  | .hbm, ⟨67, _⟩ => ⟨S128x4x1024, .f32⟩
  | .hbm, ⟨68, _⟩ => ⟨S128x4x1024, .f32⟩
  | .hbm, ⟨69, _⟩ => ⟨S_, .f32⟩
  | .hbm, ⟨70, _⟩ => ⟨S128x4x1024, .f32⟩
  | .hbm, ⟨71, _⟩ => ⟨S128x4x1024, .f32⟩
  | .hbm, ⟨72, _⟩ => ⟨S_, .f32⟩
  | .hbm, ⟨73, _⟩ => ⟨S128x4x1024, .f32⟩
  | .hbm, ⟨74, _⟩ => ⟨S128x4x1024, .f32⟩
  | .hbm, ⟨75, _⟩ => ⟨S_, .f32⟩
  | .hbm, ⟨76, _⟩ => ⟨S128x4x1024, .f32⟩
  | .hbm, ⟨77, _⟩ => ⟨S128x4x1024, .f32⟩
  | .hbm, ⟨78, _⟩ => ⟨S1024, .f32⟩
  | .hbm, ⟨79, _⟩ => ⟨S1024x64, .f32⟩
  | .hbm, ⟨80, _⟩ => ⟨S128x4x64, .f32⟩
  | .hbm, ⟨81, _⟩ => ⟨S64x1024, .f32⟩
  | .hbm, ⟨82, _⟩ => ⟨S128x4x1024, .f32⟩
  | .hbm, ⟨83, _⟩ => ⟨S1x1x1024, .f32⟩
  | .hbm, ⟨84, _⟩ => ⟨S128x4x1024, .f32⟩
  | .hbm, ⟨85, _⟩ => ⟨S128x4x1024, .f32⟩
  | .hbm, ⟨86, _⟩ => ⟨S128x4x1024, .f32⟩
  | .hbm, ⟨87, _⟩ => ⟨S128x4x1024, .f32⟩
  | .hbm, ⟨88, _⟩ => ⟨S_, .f32⟩
  | .hbm, ⟨89, _⟩ => ⟨S128x4x1024, .f32⟩
  | .hbm, ⟨90, _⟩ => ⟨S128x4x1024, .f32⟩
  | .hbm, ⟨91, _⟩ => ⟨S_, .f32⟩
  | .hbm, ⟨92, _⟩ => ⟨S128x4x1024, .f32⟩
  | .hbm, ⟨93, _⟩ => ⟨S128x4x1024, .f32⟩
  | .hbm, ⟨94, _⟩ => ⟨S512x1024, .f32⟩
  | .hbm, ⟨95, _⟩ => ⟨S512x1024, .f32⟩
  | .hbm, ⟨96, _⟩ => ⟨S512x1024, .f32⟩
  | .hbm, ⟨97, _⟩ => ⟨S512x1024, .f32⟩
  | .hbm, ⟨98, _⟩ => ⟨S512x1024, .f32⟩
  | .hbm, ⟨99, _⟩ => ⟨S512x1024, .f32⟩
  | .hbm, ⟨100, _⟩ => ⟨S512x1024, .f32⟩
  | _, _ => ⟨S128x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_cst : Ref sig .tc := ⟨.hbm, 14, rfl⟩
abbrev main_v3 : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_cst_1 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_cst_2 : Ref sig .tc := ⟨.hbm, 69, rfl⟩
abbrev main_v55 : Ref sig .tc := ⟨.hbm, 70, rfl⟩
abbrev main_v56 : Ref sig .tc := ⟨.hbm, 71, rfl⟩
abbrev main_cst_3 : Ref sig .tc := ⟨.hbm, 72, rfl⟩
abbrev main_v57 : Ref sig .tc := ⟨.hbm, 73, rfl⟩
abbrev main_v58 : Ref sig .tc := ⟨.hbm, 74, rfl⟩
abbrev main_cst_4 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_cst_5 : Ref sig .tc := ⟨.hbm, 88, rfl⟩
abbrev main_v71 : Ref sig .tc := ⟨.hbm, 89, rfl⟩
abbrev main_v72 : Ref sig .tc := ⟨.hbm, 90, rfl⟩
abbrev main_cst_6 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩

abbrev nD : Nat := 1
abbrev τ : Topo := Topo.v7x

variable {F : FTy → Type} [FloatOps F]
-- ==== Proof.Softmax.lean ====
module

public import Idealize.ShloMosaic.PureOps.Ideal.Laws

@[expose] public section

noncomputable section

/-! Softmax with a sink over a row of 128 scores, in the extended reals: what one query row of windowed attention
    computes, and the two arrangements of it — over 256 keys of which half are masked, and over 128 selected keys with
    the division taken out of the sum. -/

namespace Attn

open Idealize.ShloMosaic

/-- The row's maximum with the sink. -/
def rowMax {n : ℕ} (s : Fin n → EReal) (sink : EReal) : EReal := max (Finset.univ.sup s) sink

/-- The weight of key `c` before normalisation. -/
def rowExp {n : ℕ} (s : Fin n → EReal) (sink : EReal) (c : Fin n) : EReal := Ideal.exp (s c - rowMax s sink)

/-- The normaliser: the sum of the weights and of the sink's weight. -/
def rowDen {n : ℕ} (s : Fin n → EReal) (sink : EReal) : EReal :=
  (∑ c, rowExp s sink c) + Ideal.exp (sink - rowMax s sink)

/-- The attention output of a row with scores `s`, sink `sink` and values `v`. -/
def rowOut {n : ℕ} (s : Fin n → EReal) (sink : EReal) (v : Fin n → EReal) : EReal :=
  ∑ c, Ideal.div (rowExp s sink c) (rowDen s sink) * v c

/-- A masked score has weight zero. -/
theorem exp_bot_sub (m : EReal) : Ideal.exp (⊥ - m) = 0 := by
  rw [EReal.bot_sub]; rfl

theorem exp_nonneg (x : EReal) : 0 ≤ Ideal.exp x := by
  induction x with
  | bot => exact le_refl _
  | top => exact le_top
  | coe r => exact EReal.coe_nonneg.mpr (Real.exp_pos r).le

/-- With scores below `⊤` and a real sink the row's maximum is a real number. -/
theorem rowMax_real {n : ℕ} {s : Fin n → EReal} {sink : EReal} (hs : ∀ c, s c ≠ ⊤) (hk : sink ≠ ⊤) (hk' : sink ≠ ⊥) :
    ∃ r : ℝ, rowMax s sink = (r : EReal) := by
  have h1 : rowMax s sink ≠ ⊤ := by
    unfold rowMax
    have : Finset.univ.sup s < ⊤ := (Finset.sup_lt_iff (by exact bot_lt_top)).mpr fun c _ => lt_top_iff_ne_top.mpr (hs c)
    exact (max_lt this (lt_top_iff_ne_top.mpr hk)).ne
  have h2 : rowMax s sink ≠ ⊥ := by
    unfold rowMax
    exact ((bot_lt_iff_ne_bot.mpr hk').trans_le (le_max_right _ _)).ne'
  exact ⟨_, (EReal.coe_toReal h1 h2).symm⟩

/-- A weight is a nonnegative real number. -/
theorem rowExp_real {n : ℕ} {s : Fin n → EReal} {sink : EReal} (hs : ∀ c, s c ≠ ⊤) (hk : sink ≠ ⊤) (hk' : sink ≠ ⊥) (c : Fin n) :
    ∃ r : ℝ, 0 ≤ r ∧ rowExp s sink c = (r : EReal) := by
  obtain ⟨m, hm⟩ := rowMax_real hs hk hk'
  unfold rowExp
  rw [hm]
  rcases h : s c with _ | _ | x
  · exact ⟨0, le_refl _, exp_bot_sub _⟩
  · exact absurd h (hs c)
  · refine ⟨Real.exp (x - m), (Real.exp_pos _).le, ?_⟩
    show Ideal.exp ((x : EReal) - (m : EReal)) = _
    rw [← EReal.coe_sub]; rfl

/-- A finite sum of nonnegative reals is one. -/
theorem sum_real {n : ℕ} {f : Fin n → EReal} (h : ∀ c, ∃ r : ℝ, 0 ≤ r ∧ f c = (r : EReal)) :
    ∃ r : ℝ, 0 ≤ r ∧ ∑ c, f c = (r : EReal) := by
  choose g hg using h
  refine ⟨∑ c, g c, Finset.sum_nonneg fun c _ => (hg c).1, ?_⟩
  rw [Finset.sum_congr rfl fun c _ => (hg c).2]
  exact (map_sum (⟨⟨Real.toEReal, rfl⟩, EReal.coe_add⟩ : ℝ →+ EReal) g Finset.univ).symm

/-- The normaliser is a positive real number. -/
theorem rowDen_real {n : ℕ} {s : Fin n → EReal} {sink : EReal} (hs : ∀ c, s c ≠ ⊤) (hk : sink ≠ ⊤) (hk' : sink ≠ ⊥) :
    ∃ r : ℝ, 0 < r ∧ rowDen s sink = (r : EReal) := by
  obtain ⟨m, hm⟩ := rowMax_real hs hk hk'
  obtain ⟨a, ha, hsum⟩ := sum_real fun c => rowExp_real hs hk hk' c
  obtain ⟨k, rfl⟩ : ∃ k : ℝ, sink = (k : EReal) := ⟨_, (EReal.coe_toReal hk hk').symm⟩
  refine ⟨a + Real.exp (k - m), add_pos_of_nonneg_of_pos ha (Real.exp_pos _), ?_⟩
  unfold rowDen
  rw [hsum, hm, ← EReal.coe_sub]
  exact (EReal.coe_add _ _).symm

theorem div_coe_pos (x : EReal) {r : ℝ} (hr : 0 < r) : Ideal.div x (r : EReal) = x * ((r⁻¹ : ℝ) : EReal) := by
  unfold Ideal.div
  rw [if_neg (by exact_mod_cast hr.ne'), EReal.coe_inv]

/-- A nonnegative real factor comes out of a sum. -/
theorem sum_mul_real {n : ℕ} (f : Fin n → EReal) {r : ℝ} (hr : 0 ≤ r) : (∑ c, f c) * (r : EReal) = ∑ c, f c * (r : EReal) := by
  classical
  have h0 : (0 : EReal) ≤ (r : EReal) := EReal.coe_nonneg.mpr hr
  induction (Finset.univ : Finset (Fin n)) using Finset.induction_on with
  | empty => simp
  | insert a t ha ih =>
    rw [Finset.sum_insert ha, Finset.sum_insert ha, EReal.right_distrib_of_nonneg_of_ne_top h0 (EReal.coe_ne_top r), ih]

/-- The division by the normaliser comes out of the sum over the keys. -/
theorem rowOut_eq {n : ℕ} {s : Fin n → EReal} {sink : EReal} (v : Fin n → EReal) (hs : ∀ c, s c ≠ ⊤) (hk : sink ≠ ⊤) (hk' : sink ≠ ⊥) :
    (∑ c, rowExp s sink c * v c) * Ideal.div 1 (rowDen s sink) = rowOut s sink v := by
  obtain ⟨d, hd, hden⟩ := rowDen_real hs hk hk'
  unfold rowOut
  rw [hden, div_coe_pos _ hd, one_mul, sum_mul_real _ (inv_nonneg.mpr hd.le)]
  refine Finset.sum_congr rfl fun c _ => ?_
  rw [div_coe_pos _ hd, mul_right_comm]

/-- The selected arrangement: two sums over the keys of a row's own block and of the block before it, each with the other
    block's weights put to zero, and the reciprocal of the normaliser outside. -/
theorem rowOut_select {n : ℕ} {s : Fin n → EReal} {sink : EReal} (own : Fin n → Prop) [DecidablePred own] (v vc vp : Fin n → EReal)
    (hs : ∀ c, s c ≠ ⊤) (hk : sink ≠ ⊤) (hk' : sink ≠ ⊥)
    (hc : ∀ c, own c → s c ≠ ⊥ → vc c = v c) (hp : ∀ c, ¬ own c → s c ≠ ⊥ → vp c = v c) :
    ((∑ c, (if own c then rowExp s sink c else 0) * vc c) + ∑ c, (if own c then 0 else rowExp s sink c) * vp c)
      * Ideal.div 1 (rowDen s sink) = rowOut s sink v := by
  rw [← rowOut_eq v hs hk hk', ← Finset.sum_add_distrib]
  refine congrArg (· * _) (Finset.sum_congr rfl fun c _ => ?_)
  by_cases hb : s c = ⊥
  · have : rowExp s sink c = 0 := by unfold rowExp; rw [hb]; exact exp_bot_sub _
    simp [this]
  · by_cases h : own c
    · simp [h, hc c h hb]
    · simp [h, hp c h hb]

/-- A sum over 256 keys is the sum over the first 128 and over the last 128. -/
theorem sum_256 (f : Fin 256 → EReal) :
    ∑ j, f j = (∑ c : Fin 128, f ⟨c.val, by omega⟩) + ∑ c : Fin 128, f ⟨128 + c.val, by omega⟩ :=
  Fin.sum_univ_add (M := EReal) (a := 128) (b := 128) f

section Masked
variable {s' : Fin 256 → EReal} {s : Fin 128 → EReal} {sink : EReal} {own : Fin 128 → Prop} [DecidablePred own]

/-- Of 256 scores of which one of each pair `(c, 128 + c)` is masked, the maximum is that of the 128 others. -/
theorem rowMax_masked (hp : ∀ c : Fin 128, s' ⟨c.val, by omega⟩ = if own c then ⊥ else s c)
    (hc : ∀ c : Fin 128, s' ⟨128 + c.val, by omega⟩ = if own c then s c else ⊥) : rowMax s' sink = rowMax s sink := by
  unfold rowMax
  refine congrArg (max · sink) (le_antisymm (Finset.sup_le fun j _ => ?_) (Finset.sup_le fun c _ => ?_))
  · by_cases hj : j.val < 128
    · have := hp ⟨j.val, hj⟩
      rw [show j = ⟨(⟨j.val, hj⟩ : Fin 128).val, by omega⟩ from rfl, this]
      split
      · exact bot_le
      · exact Finset.le_sup (f := s) (Finset.mem_univ _)
    · have := hc ⟨j.val - 128, by omega⟩
      rw [show j = ⟨128 + (⟨j.val - 128, by omega⟩ : Fin 128).val, by omega⟩ from Fin.ext (by show j.val = 128 + (j.val - 128); omega), this]
      split
      · exact Finset.le_sup (f := s) (Finset.mem_univ _)
      · exact bot_le
  · by_cases h : own c
    · have := hc c
      rw [if_pos h] at this
      rw [← this]; exact Finset.le_sup (f := s') (Finset.mem_univ _)
    · have := hp c
      rw [if_neg h] at this
      rw [← this]; exact Finset.le_sup (f := s') (Finset.mem_univ _)

/-- The masked arrangement: attention over 256 keys of which one of each pair `(c, 128 + c)` is masked is attention over the
    128 others. -/
theorem rowOut_masked (v' : Fin 256 → EReal) (v : Fin 128 → EReal)
    (hp : ∀ c : Fin 128, s' ⟨c.val, by omega⟩ = if own c then ⊥ else s c)
    (hc : ∀ c : Fin 128, s' ⟨128 + c.val, by omega⟩ = if own c then s c else ⊥)
    (hs : ∀ c, s c ≠ ⊤) (hk : sink ≠ ⊤) (hk' : sink ≠ ⊥)
    (hvp : ∀ c : Fin 128, ¬ own c → s c ≠ ⊥ → v' ⟨c.val, by omega⟩ = v c)
    (hvc : ∀ c : Fin 128, own c → s c ≠ ⊥ → v' ⟨128 + c.val, by omega⟩ = v c) :
    rowOut s' sink v' = rowOut s sink v := by
  have hm : rowMax s' sink = rowMax s sink := rowMax_masked hp hc
  have hep : ∀ c : Fin 128, rowExp s' sink ⟨c.val, by omega⟩ = if own c then 0 else rowExp s sink c := fun c => by
    unfold rowExp; rw [hm, hp c]; split
    · exact exp_bot_sub _
    · rfl
  have hec : ∀ c : Fin 128, rowExp s' sink ⟨128 + c.val, by omega⟩ = if own c then rowExp s sink c else 0 := fun c => by
    unfold rowExp; rw [hm, hc c]; split
    · rfl
    · exact exp_bot_sub _
  have hden : rowDen s' sink = rowDen s sink := by
    unfold rowDen
    rw [hm, sum_256, ← Finset.sum_add_distrib]
    refine congrArg (· + _) (Finset.sum_congr rfl fun c _ => ?_)
    rw [hep, hec]; split <;> simp
  obtain ⟨d, hd, hden'⟩ := rowDen_real hs hk hk'
  unfold rowOut
  rw [hden, hden', sum_256, ← Finset.sum_add_distrib]
  refine Finset.sum_congr rfl fun c _ => ?_
  rw [hep, hec]
  simp only [div_coe_pos _ hd]
  by_cases hb : s c = ⊥
  · have : rowExp s sink c = 0 := by unfold rowExp; rw [hb]; exact exp_bot_sub _
    simp [this]
  · by_cases h : own c
    · simp [h, hvc c h hb]
    · simp [h, hvp c h hb]

end Masked

/-- A dot product of 128 lanes of which one half is zero, by a finite nonnegative scale, is the scaled dot product of the
    other 64. -/
theorem dot_half_lo (q k : Fin 128 → EReal) (q' k' : Fin 64 → EReal) {r : ℝ} (hr : 0 ≤ r)
    (hlo : ∀ d : Fin 64, q ⟨d.val, by omega⟩ = q' d * (r : EReal)) (hk : ∀ d : Fin 64, k ⟨d.val, by omega⟩ = k' d)
    (hz : ∀ d : Fin 64, k ⟨64 + d.val, by omega⟩ = 0) : ∑ l, q l * k l = (∑ d, k' d * q' d) * (r : EReal) := by
  rw [show ∑ l, q l * k l = _ from Fin.sum_univ_add (M := EReal) (a := 64) (b := 64) fun l => q l * k l, sum_mul_real _ hr]
  have h0 : ∑ d : Fin 64, q (Fin.natAdd 64 d) * k (Fin.natAdd 64 d) = 0 :=
    Finset.sum_eq_zero fun d _ => by rw [show k (Fin.natAdd 64 d) = 0 from hz d, mul_zero]
  rw [h0, add_zero]
  refine Finset.sum_congr rfl fun d _ => ?_
  rw [show q (Fin.castAdd 64 d) = _ from hlo d, show k (Fin.castAdd 64 d) = _ from hk d, mul_right_comm, mul_comm (q' d)]

/-- The same with the first half zero. -/
theorem dot_half_hi (q k : Fin 128 → EReal) (q' k' : Fin 64 → EReal) {r : ℝ} (hr : 0 ≤ r)
    (hhi : ∀ d : Fin 64, q ⟨64 + d.val, by omega⟩ = q' d * (r : EReal)) (hk : ∀ d : Fin 64, k ⟨64 + d.val, by omega⟩ = k' d)
    (hz : ∀ d : Fin 64, k ⟨d.val, by omega⟩ = 0) : ∑ l, q l * k l = (∑ d, k' d * q' d) * (r : EReal) := by
  rw [show ∑ l, q l * k l = _ from Fin.sum_univ_add (M := EReal) (a := 64) (b := 64) fun l => q l * k l, sum_mul_real _ hr]
  have h0 : ∑ d : Fin 64, q (Fin.castAdd 64 d) * k (Fin.castAdd 64 d) = 0 :=
    Finset.sum_eq_zero fun d _ => by rw [show k (Fin.castAdd 64 d) = 0 from hz d, mul_zero]
  rw [h0, zero_add]
  refine Finset.sum_congr rfl fun d _ => ?_
  rw [show q (Fin.natAdd 64 d) = _ from hhi d, show k (Fin.natAdd 64 d) = _ from hk d, mul_right_comm, mul_comm (q' d)]

end Attn

end
-- ==== Proof.Bucket.lean ====
module

public import Idealize.ShloMosaic.PureOps.Ideal.Laws
public import Idealize.ShloMosaic.Lib.IdealHost
public import Idealize.ShloMosaic.Lib.WordCmp
public import Mathlib.Analysis.SpecialFunctions.Log.Basic

@[expose] public section

noncomputable section

/-! The bucket of a relative position: positions below 16 are their own bucket, larger ones are bucketed by the logarithm.
    The reference computes the bucket in floating point, with the logarithm of 8 a 32-bit constant; over the extended reals
    its truncation is the number of powers of eight below, so the bucket is a whole number given in closed form. -/

namespace Attn

open Idealize.ShloMosaic

/-- How many `k` from 1 on have `8 ^ k ≤ (n / 16) ^ 16`. -/
def octaves (n : ℕ) : ℕ := ((List.range 15).filter fun k => decide (8 ^ (k + 1) * 16 ^ 16 ≤ n ^ 16)).length

/-- The bucket of a relative position below 128. -/
def bkt (n : ℕ) : ℕ := if n < 16 then n else 16 + octaves n

theorem octaves_bounds : ∀ n < 128, 16 ≤ n → octaves n ≤ 15 ∧ n ^ 16 < 8 ^ (octaves n + 1) * 16 ^ 16
    ∧ (octaves n = 0 ∨ 102 * (8 ^ octaves n * 16 ^ 16) ≤ 100 * n ^ 16) := by decide +kernel

theorem bkt_lt : ∀ n < 128, bkt n < 32 := by decide +kernel

/-- The constant the reference divides by: 32-bit rounding of the logarithm of 8. -/
def ln8 : ℝ := 8721810 / 2 ^ 22

theorem ofBits_ln8 : Ideal.ofBits .f32 0x40051592#32 = (ln8 : EReal) := by
  simp [Ideal.ofBits, Ideal.ieee, ln8]
  exact_mod_cast (by norm_num : (8721810 : ℝ) * ((2 : ℝ) ^ 22)⁻¹ = 8721810 / 2 ^ 22)

theorem ofBits_sixteen : Ideal.ofBits .f32 0x41800000#32 = ((16 : ℝ) : EReal) := by
  simp [Ideal.ofBits, Ideal.ieee]
  exact_mod_cast (by norm_num : (8388608 : ℝ) * ((2 : ℝ) ^ 19)⁻¹ = 16)

theorem log_eight : Real.log 8 = 3 * Real.log 2 := by
  rw [show (8 : ℝ) = 2 ^ 3 by norm_num, Real.log_pow]; norm_num

/-- The constant is above the logarithm of 8: a Taylor sum of a third of it is above 2. -/
theorem ln8_gt : Real.log 8 < ln8 := by
  have h : (2 : ℝ) < Real.exp (ln8 / 3) := by
    refine lt_of_lt_of_le ?_ (Real.sum_le_exp_of_nonneg (by unfold ln8; norm_num) 12)
    unfold ln8
    norm_num [Finset.sum_range_succ, Nat.factorial]
  have := (Real.log_lt_iff_lt_exp (by norm_num)).mpr h
  rw [log_eight]; linarith

/-- … by less than a thousandth. -/
theorem ln8_lt : ln8 < Real.log 8 + 1 / 1000 := by
  have h : Real.exp (ln8 / 3 - 1 / 3000) < 2 := by
    refine lt_of_le_of_lt (Real.exp_bound' (n := 8) (by unfold ln8; norm_num) (by unfold ln8; norm_num) (by norm_num)) ?_
    unfold ln8
    norm_num [Finset.sum_range_succ, Nat.factorial]
  have := (Real.lt_log_iff_exp_lt (by norm_num)).mpr h
  rw [log_eight]; linarith

theorem ln8_pos : 0 < ln8 := by unfold ln8; norm_num

/-- The scaled logarithm of a position from 16 to 127 lies between its count of octaves and the next. -/
theorem octaves_log (n : ℕ) (hn : n < 128) (h16 : 16 ≤ n) :
    (octaves n : ℝ) ≤ Real.log (n / 16) / ln8 * 16 ∧ Real.log (n / 16) / ln8 * 16 < octaves n + 1 := by
  obtain ⟨hk, hup, hlo⟩ := octaves_bounds n hn h16
  generalize octaves n = k at *
  have hn0 : (0 : ℝ) < (n : ℝ) / 16 := by positivity
  have e : Real.log (n / 16) / ln8 * 16 = Real.log (((n : ℝ) / 16) ^ 16) / ln8 := by
    rw [Real.log_pow]; push_cast; ring
  rw [e, le_div_iff₀ ln8_pos, div_lt_iff₀ ln8_pos]
  have hup' : ((n : ℝ) / 16) ^ 16 < 8 ^ (k + 1) := by
    rw [div_pow, div_lt_iff₀ (by positivity)]; exact_mod_cast hup
  constructor
  · rcases hlo with rfl | hlo
    · have : (1 : ℝ) ≤ ((n : ℝ) / 16) ^ 16 := one_le_pow₀ (by rw [le_div_iff₀ (by norm_num)]; exact_mod_cast (by omega : 1 * 16 ≤ n))
      simpa using Real.log_nonneg this
    · have h1 : (102 / 100 : ℝ) * 8 ^ k ≤ ((n : ℝ) / 16) ^ 16 := by
        rw [div_pow, le_div_iff₀ (by positivity)]
        have : (102 : ℝ) * (8 ^ k * 16 ^ 16) ≤ 100 * n ^ 16 := by exact_mod_cast hlo
        linarith
      have h2 := Real.log_le_log (by positivity) h1
      rw [Real.log_mul (by norm_num) (by positivity), Real.log_pow] at h2
      have h3 : (1 : ℝ) - (102 / 100)⁻¹ ≤ Real.log (102 / 100) := Real.one_sub_inv_le_log_of_pos (by norm_num)
      have h4 := ln8_lt
      have hk' : (k : ℝ) ≤ 15 := by exact_mod_cast hk
      have h5 : (k : ℝ) * ln8 ≤ k * Real.log 8 + 15 / 1000 := by
        have : (k : ℝ) * (ln8 - Real.log 8) ≤ 15 * (1 / 1000) :=
          mul_le_mul hk' (by linarith) (by linarith [ln8_gt]) (by norm_num)
        linarith
      norm_num at h3
      linarith
  · have h2 := Real.log_lt_log (by positivity) hup'
    rw [show Real.log ((8 : ℝ) ^ (k + 1)) = ((k + 1 : ℕ) : ℝ) * Real.log 8 from Real.log_pow _ _] at h2
    have h3 : ((k + 1 : ℕ) : ℝ) * Real.log 8 ≤ (k + 1 : ℕ) * ln8 := mul_le_mul_of_nonneg_left ln8_gt.le (by positivity)
    push_cast at h2 h3
    linarith

/-- Truncated to an integer it is the count of octaves. -/
theorem octaves_word (n : ℕ) (hn : n < 128) (h16 : 16 ≤ n) :
    Ideal.fptosi 32 (Ideal.div (Ideal.log (Ideal.div (((n : ℤ) : ℝ) : EReal) (Ideal.ofBits .f32 0x41800000#32))) (Ideal.ofBits .f32 0x40051592#32)
      * Ideal.ofBits .f32 0x41800000#32) = BitVec.ofNat 32 (octaves n) := by
  obtain ⟨h1, h2⟩ := octaves_log n hn h16
  have hk := (octaves_bounds n hn h16).1
  have hpos : (0 : ℝ) < (n : ℝ) / 16 := by positivity
  have e1 : Ideal.div (((n : ℤ) : ℝ) : EReal) ((16 : ℝ) : EReal) = (((n : ℝ) / 16 : ℝ) : EReal) := by
    unfold Ideal.div
    rw [if_neg (by norm_num), ← EReal.coe_inv, ← EReal.coe_mul]
    push_cast; rfl
  have e2 : Ideal.log (((n : ℝ) / 16 : ℝ) : EReal) = ((Real.log (n / 16) : ℝ) : EReal) := by
    show (if (n : ℝ) / 16 ≤ 0 then _ else _) = _
    rw [if_neg (by linarith)]
  have e3 : Ideal.div ((Real.log (n / 16) : ℝ) : EReal) (ln8 : EReal) = ((Real.log (n / 16) / ln8 : ℝ) : EReal) := by
    unfold Ideal.div
    rw [if_neg (by have := ln8_pos.ne'; exact_mod_cast this), ← EReal.coe_inv, ← EReal.coe_mul]; rfl
  rw [ofBits_sixteen, ofBits_ln8, e1, e2, e3, ← EReal.coe_mul]
  unfold Ideal.fptosi
  have h0 : (0 : ℝ) ≤ Real.log (n / 16) / ln8 * 16 := le_trans (by positivity) h1
  rw [Ideal.toIntClamped_coe, if_pos h0]
  have hf : ⌊Real.log (n / 16) / ln8 * 16⌋ = (octaves n : ℤ) := by
    rw [Int.floor_eq_iff]; exact ⟨by exact_mod_cast h1, by exact_mod_cast h2⟩
  rw [hf, min_eq_right (by norm_num; omega), max_eq_right (by norm_num)]
  exact BitVec.ofInt_natCast 32 _

end Attn

end
-- ==== Proof.Spec.lean ====
module

public import proofs.«01_k».proof.Proof.Softmax
public import proofs.«01_k».proof.Proof.Bucket
public import Idealize.ShloMosaic.Lib.ValueIdx

@[expose] public section

noncomputable section

/-! The call's result as mathematics: banded attention with a bias by distance and a sink, gated, through the output
matrix, plus the residual. Query `r` of block `n` sees the 128 keys that end at itself; slot `c` of them is the key of
column `c` of its own block when `c ≤ r`, and of the block before otherwise. -/

namespace Attn

open Idealize.ShloMosaic Idealize.ShloMosaic.ValueIdx

abbrev A5 := (⟨5, ![4, 4112, 4, 4, 64]⟩ : Shape).Idx → EReal
abbrev A4 := (⟨4, ![4, 4112, 4, 64]⟩ : Shape).Idx → EReal
abbrev A3 := (⟨3, ![4, 4112, 1024]⟩ : Shape).Idx → EReal

/-- 112 positions of zeros come before the first token. -/
def tokQ (q : A5) (b : Fin 4) (p : ℕ) (kv g : Fin 4) (d : Fin 64) : EReal :=
  if h : 112 ≤ p ∧ p < 4224 then q (ix5 b (⟨p - 112, by omega⟩ : Fin 4112) kv g d) else 0

def tokK (k : A4) (b : Fin 4) (p : ℕ) (kv : Fin 4) (d : Fin 64) : EReal :=
  if h : 112 ≤ p ∧ p < 4224 then k (ix4 b (⟨p - 112, by omega⟩ : Fin 4112) kv d) else 0

def tokG (g : A3) (b : Fin 4) (p : ℕ) (C : Fin 1024) : EReal :=
  if h : 112 ≤ p ∧ p < 4224 then g (ix3 b (⟨p - 112, by omega⟩ : Fin 4112) C) else 0

/-- The position of slot `c` of query `r` of block `n`, counted from 128 before the first. -/
def slotPos (n : ℕ) (r c : Fin 128) : ℕ := n * 128 + c.val + (if c.val ≤ r.val then 128 else 0)

/-- The distance of slot `c` from query `r`. -/
def gap (r c : Fin 128) : ℕ := (r.val + 128 - c.val) % 128

theorem gap_lt (r c : Fin 128) : gap r c < 128 := Nat.mod_lt _ (by omega)

/-- The score of a slot: masked before the first token. -/
def specScore (q : A5) (k : A4) (t : (⟨2, ![32, 16]⟩ : Shape).Idx → EReal) (b : Fin 4) (n : ℕ) (kv g : Fin 4) (r c : Fin 128) : EReal :=
  if 240 ≤ slotPos n r c then
    (∑ d : Fin 64, tokK k b (slotPos n r c - 128) kv d * tokQ q b (n * 128 + r.val) kv g d) * Ideal.ofBits .f32 0x3E000000#32
      + t (ix2 (⟨bkt (gap r c), bkt_lt _ (gap_lt r c)⟩ : Fin 32) (⟨4 * kv.val + g.val, by omega⟩ : Fin 16))
  else ⊥

/-- One head's output. -/
def specHead (q : A5) (k v : A4) (t : (⟨2, ![32, 16]⟩ : Shape).Idx → EReal) (s : (⟨2, ![1, 16]⟩ : Shape).Idx → EReal) (b : Fin 4) (n : ℕ) (kv g : Fin 4)
    (r : Fin 128) (d : Fin 64) : EReal :=
  rowOut (specScore q k t b n kv g r) (s (ix2 (0 : Fin 1) (⟨4 * kv.val + g.val, by omega⟩ : Fin 16))) (fun c => tokK v b (slotPos n r c - 128) kv d)

/-- `x · 1/(1 + e^(-x))`. -/
def specSilu (x : EReal) : EReal := x * Ideal.div 1 (1 + Ideal.exp (0 - x))

/-- The gated heads at column `C`. -/
def specGated (q : A5) (k v : A4) (g : A3) (t : (⟨2, ![32, 16]⟩ : Shape).Idx → EReal) (s : (⟨2, ![1, 16]⟩ : Shape).Idx → EReal) (b : Fin 4) (n : ℕ)
    (r : Fin 128) (C : Fin 1024) : EReal :=
  specHead q k v t s b n (⟨C.val / 256, by omega⟩ : Fin 4) (⟨C.val / 64 % 4, by omega⟩ : Fin 4) r (⟨C.val % 64, by omega⟩ : Fin 64)
    * specSilu (tokG g b (n * 128 + r.val) C)

/-- The rows before the call: zeros, the meta tokens, the prompt. -/
def specResid (x : (⟨3, ![4, 4096, 1024]⟩ : Shape).Idx → EReal) (e : (⟨2, ![16, 1024]⟩ : Shape).Idx → EReal) (b : Fin 4) (n : Fin 33) (r : Fin 128) (C : Fin 1024) : EReal :=
  if hn : n.val = 0 then (if hr : 112 ≤ r.val then e (ix2 (⟨r.val - 112, by omega⟩ : Fin 16) C) else 0)
  else x (ix3 b (⟨(n.val - 1) * 128 + r.val, by omega⟩ : Fin 4096) C)

def specOut (q : A5) (k v : A4) (g : A3) (x : (⟨3, ![4, 4096, 1024]⟩ : Shape).Idx → EReal) (e : (⟨2, ![16, 1024]⟩ : Shape).Idx → EReal)
    (t : (⟨2, ![32, 16]⟩ : Shape).Idx → EReal) (s : (⟨2, ![1, 16]⟩ : Shape).Idx → EReal) (w : (⟨3, ![1, 1024, 1024]⟩ : Shape).Idx → EReal)
    (b : Fin 4) (n : Fin 33) (r : Fin 128) (C : Fin 1024) : EReal :=
  specResid x e b n r C + ∑ C' : Fin 1024, specGated q k v g t s b n.val r C' * w (ix3 (0 : Fin 1) C' C)

/-- The arrays the scores are made of hold real numbers. -/
def IsReal {ι : Type} (x : ι → EReal) : Prop := ∀ i, ∃ y : ℝ, x i = (y : EReal)

theorem tokQ_real {q : A5} (hq : IsReal q) (b : Fin 4) (p : ℕ) (kv g : Fin 4) (d : Fin 64) : ∃ y : ℝ, tokQ q b p kv g d = (y : EReal) := by
  unfold tokQ
  split
  · exact hq _
  · exact ⟨0, rfl⟩

theorem tokK_real {k : A4} (hk : IsReal k) (b : Fin 4) (p : ℕ) (kv : Fin 4) (d : Fin 64) : ∃ y : ℝ, tokK k b p kv d = (y : EReal) := by
  unfold tokK
  split
  · exact hk _
  · exact ⟨0, rfl⟩

/-- The eighth the scores are scaled by. -/
theorem eighth : Ideal.ofBits .f32 0x3E000000#32 = ((1 / 8 : ℝ) : EReal) := by
  simp [Ideal.ofBits, Ideal.ieee]
  exact_mod_cast (by norm_num : (8388608 : ℝ) * ((2 : ℝ) ^ 26)⁻¹ = 8⁻¹)

theorem real_sum {n : ℕ} (f : Fin n → ℝ) : ((∑ c, f c : ℝ) : EReal) = ∑ c, (f c : EReal) :=
  map_sum (⟨⟨Real.toEReal, rfl⟩, EReal.coe_add⟩ : ℝ →+ EReal) f Finset.univ

theorem specScore_real {q : A5} {k : A4} {t : (⟨2, ![32, 16]⟩ : Shape).Idx → EReal} (hq : IsReal q) (hk : IsReal k) (ht : IsReal t) (b : Fin 4) (n : ℕ)
    (kv g : Fin 4) (r c : Fin 128) : specScore q k t b n kv g r c ≠ ⊤ := by
  unfold specScore
  split
  · choose fq eq using tokQ_real hq
    choose fk ek using tokK_real hk
    obtain ⟨y, hy⟩ := ht (ix2 (⟨bkt (gap r c), bkt_lt _ (gap_lt r c)⟩ : Fin 32) (⟨4 * kv.val + g.val, by omega⟩ : Fin 16))
    rw [hy, eighth, show (∑ d : Fin 64, tokK k b (slotPos n r c - 128) kv d * tokQ q b (n * 128 + r.val) kv g d) =
      ((∑ d : Fin 64, fk b (slotPos n r c - 128) kv d * fq b (n * 128 + r.val) kv g d : ℝ) : EReal) from by
        rw [real_sum]
        exact Finset.sum_congr rfl fun d _ => by rw [ek, eq, EReal.coe_mul], ← EReal.coe_mul, ← EReal.coe_add]
    exact EReal.coe_ne_top _
  · exact bot_ne_top

end Attn

end
-- ==== Proof.Tile.lean ====
module

public import proofs.«01_k».proof.Proof.Gen.KernelIdeal.Skeleton
public import Idealize.ShloMosaic.Lib.ValueIdx
public import Idealize.ShloMosaic.Lib.Pipeline.Value
public import Idealize.ShloMosaic.Lib.WordCmp
public import Idealize.ShloMosaic.Lib.MatmulPlain
public import Idealize.ShloMosaic.Lib.IdealHost
public import proofs.«01_k».proof.Proof.Softmax

@[expose] public section

noncomputable section

/-! One chain of the kernel's body as vectors: the scores of two heads against the keys of a row's own block and of the
    block before, the weights, the normaliser and the gated output; and each of these read at an index. -/

namespace Attn

open Cert.KernelIdeal Cert.KernelIdeal.Gen Idealize.ShloMosaic Idealize.ShloMosaic.ValueIdx Idealize.SL.Sem

section Defs
variable {F : FTy → Type} [FloatOps F] [Named F]

/-- The lanes below 64 of a slice, zero in the others. -/
def keepLo (x : FVec F S128x128 .bf16) : FVec F S128x128 .bf16 :=
  select (broadcastTo S128x128 (shapeCast S1x128 k0_pay91 shapeCasts_S1x128_S1x128) broadcasts_S1x128_S128x128) x
    (broadcast S128x128 (Scalar.ofBits .bf16 0x0000#16))

/-- The lanes from 64 on of a slice, zero in the others. -/
def keepHi (x : FVec F S128x128 .bf16) : FVec F S128x128 .bf16 :=
  select (broadcastTo S128x128 (shapeCast S1x128 k0_pay91 shapeCasts_S1x128_S1x128) broadcasts_S1x128_S128x128)
    (broadcast S128x128 (Scalar.ofBits .bf16 0x0000#16)) x

/-- Two pairs of heads stacked along the rows. -/
def stackQ (q : Vec F S128x256 .bf16) : FVec F S256x128 .bf16 :=
  concatenate S256x128 0
    [⟨S128x128, extractStridedSlice S128x128 ![0, 0] (shapeCast S128x256 q shapeCasts_S128x256_S128x256 : FVec F S128x256 .bf16) slices_S128x256_o0_0_S128x128⟩,
     ⟨S128x128, extractStridedSlice S128x128 ![0, 128] (shapeCast S128x256 q shapeCasts_S128x256_S128x256 : FVec F S128x256 .bf16) slices_S128x256_o0_128_S128x128⟩]
    concatenates_S128x128_S128x128_S256x128_d0

/-- The scores with their bias. -/
def scores (q : Vec F S128x256 .bf16) (kc kp : FVec F S128x128 .bf16) (b0 b1 : Vec F S1x128x128 .f32) : FVec F S256x128 .f32 :=
  addf (select k0_pay88
      (matmul dot_S256x128_S128x128_S256x128_1_1_0_0_n_n none (stackQ q) kc (constant S256x128 .f32 0x00000000#32))
      (matmul dot_S256x128_S128x128_S256x128_1_1_0_0_n_n none (stackQ q) kp (constant S256x128 .f32 0x00000000#32)))
    (concatenate S256x128 0
      [⟨S128x128, (shapeCast S128x128 b0 shapeCasts_S1x128x128_S128x128 : FVec F S128x128 .f32)⟩,
       ⟨S128x128, (shapeCast S128x128 b1 shapeCasts_S1x128x128_S128x128 : FVec F S128x128 .f32)⟩]
      concatenates_S128x128_S128x128_S256x128_d0)

/-- The sink of each row. -/
def sinkCol (a b : Elt F .f32) : FVec F S256x1 .f32 :=
  select k0_pay87 (broadcast S256x1 a : FVec F S256x1 .f32) (broadcast S256x1 b)

/-- Each row's maximum with its sink. -/
def maxCol (s : FVec F S256x128 .f32) (sk : FVec F S256x1 .f32) : FVec F S256x1 .f32 :=
  maximumf (shapeCast S256x1 (multiReduction .maximumf [1] S256 s 0xFF800000#32 reduces_S256x128_S256 (.inl rfl) rfl : FVec F S256 .f32)
    shapeCasts_S256_S256x1) sk

/-- The weights. -/
def weights (s : FVec F S256x128 .f32) (sk : FVec F S256x1 .f32) : FVec F S256x128 .f32 :=
  exp (subf s (broadcastTo S256x128 (maxCol s sk) broadcasts_S256x1_S256x128))

/-- The normalisers. -/
def denCol (s : FVec F S256x128 .f32) (sk : FVec F S256x1 .f32) : FVec F S256x1 .f32 :=
  addf (shapeCast S256x1 (multiReduction .add [1] S256 (weights s sk) 0x00000000#32 reduces_S256x128_S256 (.inl rfl) rfl : FVec F S256 .f32)
    shapeCasts_S256_S256x1) (exp (subf sk (maxCol s sk)))

/-- The chain's output for values `vc` of the row's own block and `vp` of the block before. -/
def chainOut (s : FVec F S256x128 .f32) (sk : FVec F S256x1 .f32) (vc vp : FVec F S128x128 .bf16) : FVec F S256x128 .f32 :=
  mulf (addf
      (matmul dot_S256x128_S128x128_S256x128_1_0_0_1_n_n none
        (truncf .bf16 (select k0_pay88 (weights s sk) (broadcast S256x128 (Scalar.ofBits .f32 0x00000000#32))) bitsLt_bf16_f32) vc
        (constant S256x128 .f32 0x00000000#32))
      (matmul dot_S256x128_S128x128_S256x128_1_0_0_1_n_n none
        (truncf .bf16 (select k0_pay88 (broadcast S256x128 (Scalar.ofBits .f32 0x00000000#32)) (weights s sk)) bitsLt_bf16_f32) vp
        (constant S256x128 .f32 0x00000000#32)))
    (broadcastTo S256x128 (divf (broadcast S256x1 (Scalar.ofBits .f32 0x3F800000#32)) (denCol s sk)) broadcasts_S256x1_S256x128)

/-- A head pair's output times the gate's silu. -/
def gated (o : FVec F S128x128 .f32) (g : Vec F S128x128 .f32) : FVec F S128x128 .bf16 :=
  shapeCast S128x128 (truncf .bf16 (mulf o (mulf (shapeCast S128x128 g shapeCasts_S128x128_S128x128 : FVec F S128x128 .f32)
    (divf (broadcast S128x128 (Scalar.ofBits .f32 0x3F800000#32))
      (addf (broadcast S128x128 (Scalar.ofBits .f32 0x3F800000#32))
        (exp (subf (broadcast S128x128 (Scalar.ofBits .f32 0x00000000#32)) (shapeCast S128x128 g shapeCasts_S128x128_S128x128 : FVec F S128x128 .f32))))))) bitsLt_bf16_f32)
    shapeCasts_S128x128_S128x128

/-- The first rows of two chains added, gated. -/
def gatedLo (o0 o1 : FVec F S256x128 .f32) (g : Vec F S128x128 .f32) : FVec F S128x128 .bf16 :=
  gated (extractStridedSlice S128x128 ![0, 0] (addf o0 o1) slices_S256x128_o0_0_S128x128) g

/-- The last rows of two chains added, gated. -/
def gatedHi (o0 o1 : FVec F S256x128 .f32) (g : Vec F S128x128 .f32) : FVec F S128x128 .bf16 :=
  gated (extractStridedSlice S128x128 ![128, 0] (addf o0 o1) slices_S256x128_o128_0_S128x128) g

end Defs

/-! ## Read at an index -/

/-- The lane mask: one below 64. -/
theorem lo_apply (r l : Fin 128) :
    (broadcastTo S128x128 (shapeCast S1x128 k0_pay91 shapeCasts_S1x128_S1x128) broadcasts_S1x128_S128x128 : IVec S128x128 1) (ix2 r l)
      = if l.val < 64 then 1#1 else 0#1 := by
  rw [broadcastTo_apply _ _ _ (ix2 (0 : Fin 1) l) (by intro a; match a with | ⟨0, _⟩ => rfl | ⟨1, _⟩ => rfl), shapeCast_self]
  show IntOp.cmpi .slt (BitVec.ofNat 32 _) 64#32 = _
  revert l; decide

theorem and_127 (i : Fin 256) : IntOp.andi (BitVec.ofNat 32 i.val) 127#32 = BitVec.ofNat 32 (i.val % 128) := by
  revert i; decide

theorem ofBool_decide (p : Prop) [Decidable p] : BitVec.ofBool (decide p) = if p then 1#1 else 0#1 := by
  by_cases h : p <;> simp [h]

/-- A row's own keys: the columns up to the row's place in its block. -/
theorem own_apply (i : Fin 256) (c : Fin 128) : k0_pay88 (ix2 i c) = if c.val ≤ i.val % 128 then 1#1 else 0#1 := by
  have e : k0_pay88 (ix2 i c) = IntOp.cmpi .sle (iota .tc S256x128 32 [1] iota_S256x128_d1_w32 (ix2 i c))
    (IntOp.andi (iota .tc S256x128 32 [0] iota_S256x128_d0_w32 (ix2 i c)) 127#32) := rfl
  rw [e, iota_single_apply, iota_single_apply]
  show IntOp.cmpi .sle (BitVec.ofNat 32 c.val) (IntOp.andi (BitVec.ofNat 32 i.val) 127#32) = _
  rw [and_127, WordCmp.cmpi_sle_ofNat (by omega) (by omega), ofBool_decide]

/-- The rows of the second pair of heads. -/
theorem up_apply (i : Fin 256) : k0_pay87 (ix2 i (0 : Fin 1)) = if 128 ≤ i.val then 1#1 else 0#1 := by
  have e : k0_pay87 (ix2 i (0 : Fin 1)) = IntOp.cmpi .sge (iota .tc S256x1 32 [0] iota_S256x1_d0_w32 (ix2 i (0 : Fin 1))) 128#32 := rfl
  rw [e, iota_single_apply]
  show IntOp.cmpi .sge (BitVec.ofNat 32 i.val) 128#32 = _
  revert i; decide

/-- Row `r` of half `h` among the 256 stacked rows; also lane `r` of slice `h` among 256 lanes. -/
def row (h : Fin 2) (r : Fin 128) : Fin 256 := ⟨h.val * 128 + r.val, by omega⟩

theorem row_mod (h : Fin 2) (r : Fin 128) : (row h r).val % 128 = r.val := by
  show (h.val * 128 + r.val) % 128 = _; omega

theorem own_row (h : Fin 2) (r c : Fin 128) : k0_pay88 (ix2 (row h r) c) = if c.val ≤ r.val then 1#1 else 0#1 := by
  rw [own_apply, row_mod]

theorem up_row (h : Fin 2) (r : Fin 128) : k0_pay87 (ix2 (row h r) (0 : Fin 1)) = if h = 0 then 0#1 else 1#1 := by
  rw [up_apply]
  match h with
  | ⟨0, _⟩ => rw [if_neg (by show ¬ 128 ≤ 0 * 128 + r.val; omega)]; rfl
  | ⟨1, _⟩ => rw [if_pos (by show 128 ≤ 1 * 128 + r.val; omega)]; rfl

theorem sel_if {α : Type} (p : Prop) [Decidable p] (a b : α) : Scalar.select (if p then 1#1 else 0#1) a b = if p then a else b := by
  by_cases h : p <;> simp [h, select_one, select_zero]

theorem sel_if' {α : Type} (p : Prop) [Decidable p] (a b : α) : Scalar.select (if p then 0#1 else 1#1) a b = if p then b else a := by
  by_cases h : p <;> simp [h, select_one, select_zero]

theorem zero_bf16 : (FloatOps.ofBits (F := Ideal) .bf16 0x0000#16 : EReal) = 0 := Ideal.ofBits_zero_bf16

theorem keepLo_apply (x : FVec Ideal S128x128 .bf16) (r l : Fin 128) :
    keepLo x (ix2 r l) = if l.val < 64 then x (ix2 r l) else (0 : EReal) := by
  show Scalar.select _ (x (ix2 r l)) (Scalar.ofBits .bf16 0x0000#16) = _
  rw [lo_apply, sel_if]; exact congrArg (fun z : EReal => if l.val < 64 then x (ix2 r l) else z) zero_bf16

theorem keepHi_apply (x : FVec Ideal S128x128 .bf16) (r l : Fin 128) :
    keepHi x (ix2 r l) = if l.val < 64 then (0 : EReal) else x (ix2 r l) := by
  show Scalar.select _ (Scalar.ofBits .bf16 0x0000#16) (x (ix2 r l)) = _
  rw [lo_apply, sel_if]; exact congrArg (fun z : EReal => if l.val < 64 then z else x (ix2 r l)) zero_bf16

/-- Two arrays of 128 rows stacked, read in half `h`. -/
theorem stack_apply {n : ℕ} {α : Type} (x y : (⟨2, ![128, n]⟩ : Shape).Idx → α)
    (H : Shape.Concatenates [⟨2, ![128, n]⟩, ⟨2, ![128, n]⟩] ⟨2, ![256, n]⟩ 0) (h : Fin 2) (r : Fin 128) (l : Fin n) :
    concatenate ⟨2, ![256, n]⟩ 0 [⟨⟨2, ![128, n]⟩, x⟩, ⟨⟨2, ![128, n]⟩, y⟩] H (ix2 (row h r) l)
      = if h = 0 then x (ix2 r l) else y (ix2 r l) := by
  match h with
  | ⟨0, _⟩ =>
    exact concatenate_pair_apply_left 0 x y H _ rfl (ix2 r l) (fun b => by
      match b with
      | ⟨0, _⟩ => show r.val = 0 * 128 + r.val; omega
      | ⟨1, _⟩ => rfl)
  | ⟨1, _⟩ =>
    exact concatenate_pair_apply_right 0 x y H _ rfl rfl (ix2 r l) (fun b hb => by
      match b with
      | ⟨0, _⟩ => exact absurd rfl hb
      | ⟨1, _⟩ => rfl) (by show r.val + 128 = 1 * 128 + r.val; omega)

theorem half0_apply (x : FVec Ideal S128x256 .bf16) (r l : Fin 128) :
    extractStridedSlice S128x128 ![0, 0] x slices_S128x256_o0_0_S128x128 (ix2 r l) = x (ix2 r (row 0 l)) :=
  extractStridedSlice_apply ![0, 0] x slices_S128x256_o0_0_S128x128 (ix2 r l) (ix2 r (row 0 l)) (fun a => by
    match a with
    | ⟨0, _⟩ => show r.val = 0 + r.val; omega
    | ⟨1, _⟩ => show 0 * 128 + l.val = 0 + l.val; omega)

theorem half1_apply (x : FVec Ideal S128x256 .bf16) (r l : Fin 128) :
    extractStridedSlice S128x128 ![0, 128] x slices_S128x256_o0_128_S128x128 (ix2 r l) = x (ix2 r (row 1 l)) :=
  extractStridedSlice_apply ![0, 128] x slices_S128x256_o0_128_S128x128 (ix2 r l) (ix2 r (row 1 l)) (fun a => by
    match a with
    | ⟨0, _⟩ => show r.val = 0 + r.val; omega
    | ⟨1, _⟩ => show 1 * 128 + l.val = 128 + l.val; omega)

theorem stackQ_apply (q : Vec Ideal S128x256 .bf16) (h : Fin 2) (r l : Fin 128) :
    stackQ q (ix2 (row h r) l) = q (ix2 r (row h l)) := by
  have e : (shapeCast S128x256 q shapeCasts_S128x256_S128x256 : FVec Ideal S128x256 .bf16) = q := shapeCast_self _ _
  unfold stackQ
  rw [e]
  refine (stack_apply _ _ _ h r l).trans ?_
  obtain rfl | rfl : h = 0 ∨ h = 1 := by omega
  · exact half0_apply q r l
  · exact half1_apply q r l

/-- The score of a row against a key. -/
def scoreAt (q : Vec Ideal S128x256 .bf16) (kc kp : FVec Ideal S128x128 .bf16) (b0 b1 : Vec Ideal S1x128x128 .f32)
    (h : Fin 2) (r c : Fin 128) : EReal :=
  (if c.val ≤ r.val then ∑ l : Fin 128, (q (ix2 r (row h l)) : EReal) * kc (ix2 c l)
    else ∑ l : Fin 128, (q (ix2 r (row h l)) : EReal) * kp (ix2 c l))
  + (if h = 0 then b0 (ix3 (0 : Fin 1) r c) else b1 (ix3 (0 : Fin 1) r c))

theorem qk_apply (q : Vec Ideal S128x256 .bf16) (k : FVec Ideal S128x128 .bf16) (h : Fin 2) (r c : Fin 128) :
    (matmul dot_S256x128_S128x128_S256x128_1_1_0_0_n_n none (stackQ q) k (constant S256x128 .f32 0x00000000#32) : FVec Ideal S256x128 .f32)
      (ix2 (row h r) c) = ∑ l : Fin 128, (q (ix2 r (row h l)) : EReal) * k (ix2 c l) := by
  refine (Ideal.matmul_transposedRhs_apply (M := 256) (K := 128) (N := 128) none (stackQ q) k (constant S256x128 .f32 0x00000000#32) (row h r) c).trans ?_
  show Ideal.ofBits .f32 0x00000000#32 + _ = _
  rw [Ideal.ofBits_zero_f32, zero_add]
  exact Finset.sum_congr rfl fun l _ => by rw [stackQ_apply]

theorem scores_apply (q : Vec Ideal S128x256 .bf16) (kc kp : FVec Ideal S128x128 .bf16) (b0 b1 : Vec Ideal S1x128x128 .f32)
    (h : Fin 2) (r c : Fin 128) : scores q kc kp b0 b1 (ix2 (row h r) c) = scoreAt q kc kp b0 b1 h r c := by
  unfold scores scoreAt
  rw [addf_apply]
  refine congrArg₂ (· + ·) ?_ ?_
  · show Scalar.select (k0_pay88 (ix2 (row h r) c)) _ _ = _
    rw [own_row, sel_if, qk_apply, qk_apply]
  · refine (stack_apply _ _ _ h r c).trans ?_
    rw [shapeCast_apply _ _ _ (ix3 (0 : Fin 1) r c) (by rw [Shape.rowMajor_val_three, Shape.rowMajor_val_two]; show (0 * 128 + r.val) * 128 + c.val = r.val * 128 + c.val; omega),
      shapeCast_apply _ _ _ (ix3 (0 : Fin 1) r c) (by rw [Shape.rowMajor_val_three, Shape.rowMajor_val_two]; show (0 * 128 + r.val) * 128 + c.val = r.val * 128 + c.val; omega)]

theorem sinkCol_apply (a b : Elt Ideal .f32) (h : Fin 2) (r : Fin 128) :
    sinkCol a b (ix2 (row h r) (0 : Fin 1)) = if h = 0 then b else a := by
  show Scalar.select (k0_pay87 (ix2 (row h r) (0 : Fin 1))) a b = _
  rw [up_row, sel_if']

theorem col_cast (x : FVec Ideal S256 .f32) (i : Fin 256) :
    (shapeCast S256x1 x shapeCasts_S256_S256x1 : FVec Ideal S256x1 .f32) (ix2 i (0 : Fin 1)) = x (ix1 i) :=
  shapeCast_apply _ _ _ (ix1 i) (by rw [Shape.rowMajor_val_one, Shape.rowMajor_val_two]; show i.val = i.val * 1 + 0; omega)

theorem lift_row (i : Fin 256) (c : Fin 128) : reduces_S256x128_S256.lift (ix1 i) c = ix2 i c := by
  funext a; apply Fin.ext
  match a with
  | ⟨0, _⟩ => rfl
  | ⟨1, _⟩ => rfl

/-- The word of minus infinity is the least extended real. -/
theorem neg_inf : (FloatOps.ofBits (F := Ideal) .f32 0xFF800000#32 : EReal) = ⊥ := by
  show Ideal.ofBits .f32 0xFF800000#32 = ⊥
  simp [Ideal.ofBits, Ideal.ieee]

theorem fold_max_bot {n : ℕ} (f : Fin n → EReal) : (Finset.univ : Finset (Fin n)).fold max ⊥ f = Finset.univ.sup f := rfl

theorem maxCol_apply (s : FVec Ideal S256x128 .f32) (sk : FVec Ideal S256x1 .f32) (i : Fin 256) :
    maxCol s sk (ix2 i (0 : Fin 1)) = rowMax (fun c : Fin 128 => s (ix2 i c)) (sk (ix2 i (0 : Fin 1))) := by
  unfold maxCol rowMax
  rw [maximumf_apply]
  refine congrArg (fun x : EReal => max x (sk (ix2 i (0 : Fin 1)))) ?_
  rw [col_cast]
  refine (Ideal.multiReduction_maximumf_single _ _ _ _ _ _).trans ?_
  rw [← fold_max_bot]
  exact congrArg₂ (fun b f => Finset.fold max b f Finset.univ) neg_inf (funext fun c => congrArg s (lift_row i c))

theorem weights_apply (s : FVec Ideal S256x128 .f32) (sk : FVec Ideal S256x1 .f32) (i : Fin 256) (c : Fin 128) :
    weights s sk (ix2 i c) = rowExp (fun c : Fin 128 => s (ix2 i c)) (sk (ix2 i (0 : Fin 1))) c := by
  show Ideal.exp (s (ix2 i c) - broadcastTo S256x128 (maxCol s sk) broadcasts_S256x1_S256x128 (ix2 i c)) = _
  rw [broadcastTo_apply _ _ _ (ix2 i (0 : Fin 1)) (by intro a; match a with | ⟨0, _⟩ => rfl | ⟨1, _⟩ => rfl), maxCol_apply]
  rfl

theorem denCol_apply (s : FVec Ideal S256x128 .f32) (sk : FVec Ideal S256x1 .f32) (i : Fin 256) :
    denCol s sk (ix2 i (0 : Fin 1)) = rowDen (fun c : Fin 128 => s (ix2 i c)) (sk (ix2 i (0 : Fin 1))) := by
  unfold denCol rowDen
  rw [addf_apply, col_cast]
  refine congrArg₂ (· + ·) ((Ideal.multiReduction_add_single _ _ _ _ _ _).trans (Finset.sum_congr rfl fun c _ => ?_)) ?_
  · exact (congrArg (weights s sk) (lift_row i c)).trans (weights_apply s sk i c)
  · show Ideal.exp (sk _ - maxCol s sk _) = _
    rw [maxCol_apply]

theorem chainOut_apply (s : FVec Ideal S256x128 .f32) (sk : FVec Ideal S256x1 .f32) (vc vp : FVec Ideal S128x128 .bf16)
    (h : Fin 2) (r l : Fin 128) :
    chainOut s sk vc vp (ix2 (row h r) l)
      = ((∑ c : Fin 128, (if c.val ≤ r.val then rowExp (fun c : Fin 128 => s (ix2 (row h r) c)) (sk (ix2 (row h r) (0 : Fin 1))) c else 0) * vc (ix2 c l))
        + ∑ c : Fin 128, (if c.val ≤ r.val then 0 else rowExp (fun c : Fin 128 => s (ix2 (row h r) c)) (sk (ix2 (row h r) (0 : Fin 1))) c) * vp (ix2 c l))
        * Ideal.div 1 (rowDen (fun c : Fin 128 => s (ix2 (row h r) c)) (sk (ix2 (row h r) (0 : Fin 1)))) := by
  unfold chainOut
  rw [mulf_apply, addf_apply]
  refine congrArg₂ (· * ·) (congrArg₂ (· + ·) ?_ ?_) ?_
  · refine (Ideal.matmul_plain_apply (M := 256) (K := 128) (N := 128) none _ vc (constant S256x128 .f32 0x00000000#32) (row h r) l).trans ?_
    show Ideal.ofBits .f32 0x00000000#32 + _ = _
    rw [Ideal.ofBits_zero_f32, zero_add]
    refine Finset.sum_congr rfl fun c _ => congrArg (· * _) ?_
    show Scalar.select (k0_pay88 (ix2 (row h r) c)) (weights s sk (ix2 (row h r) c)) (Ideal.ofBits .f32 0x00000000#32) = _
    rw [own_row, sel_if, weights_apply, Ideal.ofBits_zero_f32]
  · refine (Ideal.matmul_plain_apply (M := 256) (K := 128) (N := 128) none _ vp (constant S256x128 .f32 0x00000000#32) (row h r) l).trans ?_
    show Ideal.ofBits .f32 0x00000000#32 + _ = _
    rw [Ideal.ofBits_zero_f32, zero_add]
    refine Finset.sum_congr rfl fun c _ => congrArg (· * _) ?_
    show Scalar.select (k0_pay88 (ix2 (row h r) c)) (Ideal.ofBits .f32 0x00000000#32) (weights s sk (ix2 (row h r) c)) = _
    rw [own_row, sel_if, weights_apply, Ideal.ofBits_zero_f32]
  · rw [broadcastTo_apply _ _ _ (ix2 (row h r) (0 : Fin 1)) (by intro a; match a with | ⟨0, _⟩ => rfl | ⟨1, _⟩ => rfl), divf_apply, denCol_apply]
    show Ideal.div (Ideal.ofBits .f32 0x3F800000#32) _ = _
    rw [Ideal.ofBits_one_f32]

/-- A gate's silu as the kernel computes it. -/
def siluAt (g : EReal) : EReal := g * Ideal.div 1 (1 + Ideal.exp (0 - g))

theorem gated_apply (o : FVec Ideal S128x128 .f32) (g : Vec Ideal S128x128 .f32) (r l : Fin 128) :
    gated o g (ix2 r l) = o (ix2 r l) * siluAt (g (ix2 r l)) := by
  unfold gated siluAt
  rw [shapeCast_self, shapeCast_self]
  show (o (ix2 r l) : EReal) * (g (ix2 r l) * Ideal.div (Ideal.ofBits .f32 0x3F800000#32)
    (Ideal.ofBits .f32 0x3F800000#32 + Ideal.exp (Ideal.ofBits .f32 0x00000000#32 - g (ix2 r l)))) = _
  rw [Ideal.ofBits_one_f32, Ideal.ofBits_zero_f32]

theorem gatedLo_apply (o0 o1 : FVec Ideal S256x128 .f32) (g : Vec Ideal S128x128 .f32) (r l : Fin 128) :
    gatedLo o0 o1 g (ix2 r l) = (o0 (ix2 (row 0 r) l) + o1 (ix2 (row 0 r) l)) * siluAt (g (ix2 r l)) := by
  unfold gatedLo
  rw [gated_apply, extractStridedSlice_apply _ _ _ _ (ix2 (row 0 r) l) (fun a => by
      match a with
      | ⟨0, _⟩ => show 0 * 128 + r.val = 0 + r.val; omega
      | ⟨1, _⟩ => show l.val = 0 + l.val; omega)]
  rfl

theorem gatedHi_apply (o0 o1 : FVec Ideal S256x128 .f32) (g : Vec Ideal S128x128 .f32) (r l : Fin 128) :
    gatedHi o0 o1 g (ix2 r l) = (o0 (ix2 (row 1 r) l) + o1 (ix2 (row 1 r) l)) * siluAt (g (ix2 r l)) := by
  unfold gatedHi
  rw [gated_apply, extractStridedSlice_apply _ _ _ _ (ix2 (row 1 r) l) (fun a => by
      match a with
      | ⟨0, _⟩ => show 1 * 128 + r.val = 128 + r.val; omega
      | ⟨1, _⟩ => show l.val = 0 + l.val; omega)]
  rfl

end Attn

end
-- ==== Proof.Block.lean ====
module

public import proofs.«01_k».proof.Proof.Gen.KernelIdeal.Frame
public import proofs.«01_k».proof.Proof.Tile

@[expose] public section

noncomputable section

/-! One block of the kernel's body as numbers: what a pair of heads leaves in the gated output, from the block's queries,
    the keys and values of its own block and of the one before, the bias, the sinks and the gate. -/

namespace Attn

open Cert.KernelIdeal Cert.KernelIdeal.Gen Idealize.ShloMosaic Idealize.ShloMosaic.ValueIdx Idealize.SL.Sem

section Defs
variable {F : FTy → Type} [FloatOps F] [Named F]

theorem slice_ok (o : ℕ) (ho : o ≤ 896) : S128x1024.Slices ![0, o] S128x128 := by
  refine ⟨rfl, fun a => ?_⟩
  match a with
  | ⟨0, _⟩ => show 0 + 128 ≤ 128; omega
  | ⟨1, _⟩ => show o + 128 ≤ 1024; omega

/-- The low lanes of the slice at `o`. -/
def kvLo (kv : Vec F S128x1024 .bf16) (o : ℕ) (ho : o ≤ 896) : FVec F S128x128 .bf16 :=
  keepLo (extractStridedSlice S128x128 ![0, o] (shapeCast S128x1024 kv shapeCasts_S128x1024_S128x1024 : FVec F S128x1024 .bf16) (slice_ok o ho))

/-- The high lanes of the slice at `o`. -/
def kvHi (kv : Vec F S128x1024 .bf16) (o : ℕ) (ho : o ≤ 896) : FVec F S128x128 .bf16 :=
  keepHi (extractStridedSlice S128x128 ![0, o] (shapeCast S128x1024 kv shapeCasts_S128x1024_S128x1024 : FVec F S128x1024 .bf16) (slice_ok o ho))

/-- The chain on the low lanes: keys at `a`, values at `b`. -/
def chLo (q : Vec F S128x256 .bf16) (kc kp : Vec F S128x1024 .bf16) (a b : ℕ) (ha : a ≤ 896) (hb : b ≤ 896)
    (b0 b1 : Vec F S1x128x128 .f32) (s0 s1 : Elt F .f32) : FVec F S256x128 .f32 :=
  chainOut (scores q (kvLo kc a ha) (kvLo kp a ha) b0 b1) (sinkCol s1 s0) (kvLo kc b hb) (kvLo kp b hb)

/-- The chain on the high lanes. -/
def chHi (q : Vec F S128x256 .bf16) (kc kp : Vec F S128x1024 .bf16) (a b : ℕ) (ha : a ≤ 896) (hb : b ≤ 896)
    (b0 b1 : Vec F S1x128x128 .f32) (s0 s1 : Elt F .f32) : FVec F S256x128 .f32 :=
  chainOut (scores q (kvHi kc a ha) (kvHi kp a ha) b0 b1) (sinkCol s1 s0) (kvHi kc b hb) (kvHi kp b hb)

end Defs

/-- Lane `l` of half `h` of chain `c`. -/
def lane (c : Fin 4) (h : Fin 2) (l : Fin 128) : Fin 1024 := ⟨c.val * 256 + h.val * 128 + l.val, by omega⟩

/-- Where the keys (`b = 0`) or the values (`b = 1`) of chain `c` stand for the low (`p = 0`) or the high (`p = 1`) lanes. -/
def kvOff (b : Fin 2) (c : Fin 4) (p : Fin 2) : ℕ := (if (c.val + p.val) % 2 = 0 then 0 else 512) + b.val * 256 + c.val / 2 * 128

theorem kvOff_le (b : Fin 2) (c : Fin 4) (p : Fin 2) : kvOff b c p ≤ 896 := by
  unfold kvOff; split <;> omega

/-- Lane `l` of that slice. -/
def kvLane (b : Fin 2) (c : Fin 4) (p : Fin 2) (l : Fin 128) : Fin 1024 := ⟨kvOff b c p + l.val, by have := kvOff_le b c p; omega⟩

/-- The head of half `h` of chain `c` on the lanes `p`. -/
def hd (c : Fin 4) (h p : Fin 2) : Fin 16 := ⟨4 * c.val + 2 * h.val + p.val, by omega⟩

/-- A number kept on the lanes `p`, zero on the others. -/
def onHalf (p : Fin 2) (l : Fin 128) (x : EReal) : EReal := if l.val / 64 = p.val then x else 0

/-- The score of row `r` against column `k`. -/
def headScore (Q KC KP : Fin 128 → Fin 1024 → EReal) (B : Fin 16 → Fin 128 → Fin 128 → EReal) (c : Fin 4) (h p : Fin 2)
    (r k : Fin 128) : EReal :=
  (if k.val ≤ r.val then ∑ l : Fin 128, Q r (lane c h l) * onHalf p l (KC k (kvLane 0 c p l))
    else ∑ l : Fin 128, Q r (lane c h l) * onHalf p l (KP k (kvLane 0 c p l))) + B (hd c h p) r k

/-- What the chain leaves for one head at lane `l`. -/
def headVal (Q KC KP : Fin 128 → Fin 1024 → EReal) (B : Fin 16 → Fin 128 → Fin 128 → EReal) (SK : Fin 16 → EReal)
    (c : Fin 4) (h p : Fin 2) (r l : Fin 128) : EReal :=
  ((∑ k : Fin 128, (if k.val ≤ r.val then rowExp (headScore Q KC KP B c h p r) (SK (hd c h p)) k else 0) * onHalf p l (KC k (kvLane 1 c p l)))
    + ∑ k : Fin 128, (if k.val ≤ r.val then 0 else rowExp (headScore Q KC KP B c h p r) (SK (hd c h p)) k) * onHalf p l (KP k (kvLane 1 c p l)))
    * Ideal.div 1 (rowDen (headScore Q KC KP B c h p r) (SK (hd c h p)))

/-- The gated output at lane `l` of half `h` of chain `c`. -/
def ogVal (Q KC KP : Fin 128 → Fin 1024 → EReal) (B : Fin 16 → Fin 128 → Fin 128 → EReal) (SK : Fin 16 → EReal)
    (G : Fin 128 → Fin 1024 → EReal) (c : Fin 4) (h : Fin 2) (r l : Fin 128) : EReal :=
  (headVal Q KC KP B SK c h 0 r l + headVal Q KC KP B SK c h 1 r l) * siluAt (G r (lane c h l))

theorem slice_apply (kv : Vec Ideal S128x1024 .bf16) (o : ℕ) (ho : o ≤ 896) (k l : Fin 128) (L : Fin 1024) (hL : L.val = o + l.val) :
    extractStridedSlice S128x128 ![0, o] (shapeCast S128x1024 kv shapeCasts_S128x1024_S128x1024 : FVec Ideal S128x1024 .bf16) (slice_ok o ho) (ix2 k l)
      = kv (ix2 k L) := by
  rw [shapeCast_self]
  exact extractStridedSlice_apply ![0, o] kv (slice_ok o ho) (ix2 k l) (ix2 k L) (fun a => by
    match a with
    | ⟨0, _⟩ => show k.val = 0 + k.val; omega
    | ⟨1, _⟩ => exact hL)

theorem kvLo_apply (kv : Vec Ideal S128x1024 .bf16) (o : ℕ) (ho : o ≤ 896) (k l : Fin 128) (L : Fin 1024) (hL : L.val = o + l.val) :
    kvLo kv o ho (ix2 k l) = onHalf 0 l (kv (ix2 k L)) := by
  unfold kvLo
  rw [keepLo_apply, slice_apply kv o ho k l L hL]
  unfold onHalf
  by_cases h : l.val < 64
  · rw [if_pos h, if_pos (by show l.val / 64 = 0; omega)]
  · rw [if_neg h, if_neg (by show ¬ l.val / 64 = 0; omega)]

theorem kvHi_apply (kv : Vec Ideal S128x1024 .bf16) (o : ℕ) (ho : o ≤ 896) (k l : Fin 128) (L : Fin 1024) (hL : L.val = o + l.val) :
    kvHi kv o ho (ix2 k l) = onHalf 1 l (kv (ix2 k L)) := by
  unfold kvHi
  rw [keepHi_apply, slice_apply kv o ho k l L hL]
  unfold onHalf
  by_cases h : l.val < 64
  · rw [if_pos h, if_neg (by show ¬ l.val / 64 = 1; omega)]
  · rw [if_neg h, if_pos (by show l.val / 64 = 1; omega)]

/-- A chain at a row of half `h`, its arguments read. -/
theorem chain_apply {Q KC KP : Fin 128 → Fin 1024 → EReal} {B : Fin 16 → Fin 128 → Fin 128 → EReal} {SK : Fin 16 → EReal}
    (c : Fin 4) (h p : Fin 2) (q : Vec Ideal S128x256 .bf16) (kc kp vc vp : FVec Ideal S128x128 .bf16) (b0 b1 : Vec Ideal S1x128x128 .f32)
    (s0 s1 : Elt Ideal .f32) (hq : ∀ r l, q (ix2 r (row h l)) = Q r (lane c h l))
    (hkc : ∀ k l, kc (ix2 k l) = onHalf p l (KC k (kvLane 0 c p l))) (hkp : ∀ k l, kp (ix2 k l) = onHalf p l (KP k (kvLane 0 c p l)))
    (hvc : ∀ k l, vc (ix2 k l) = onHalf p l (KC k (kvLane 1 c p l))) (hvp : ∀ k l, vp (ix2 k l) = onHalf p l (KP k (kvLane 1 c p l)))
    (hb : ∀ r k, (if h = 0 then b0 (ix3 (0 : Fin 1) r k) else b1 (ix3 (0 : Fin 1) r k)) = B (hd c h p) r k)
    (hs : (if h = 0 then s0 else s1) = SK (hd c h p)) (r l : Fin 128) :
    chainOut (scores q kc kp b0 b1) (sinkCol s1 s0) vc vp (ix2 (row h r) l) = headVal Q KC KP B SK c h p r l := by
  have es : (fun k : Fin 128 => scores q kc kp b0 b1 (ix2 (row h r) k)) = headScore Q KC KP B c h p r := by
    funext k
    rw [scores_apply]
    unfold scoreAt headScore
    rw [hb]
    congr 1
    refine if_congr Iff.rfl (Finset.sum_congr rfl fun l _ => ?_) (Finset.sum_congr rfl fun l _ => ?_)
    · rw [hq, hkc]
    · rw [hq, hkp]
  rw [chainOut_apply, sinkCol_apply, hs, es]
  unfold headVal
  congr 2
  · exact Finset.sum_congr rfl fun k _ => by rw [hvc]
  · exact Finset.sum_congr rfl fun k _ => by rw [hvp]

section Pieces
variable {Q KC KP : Fin 128 → Fin 1024 → EReal} {B : Fin 16 → Fin 128 → Fin 128 → EReal} {SK : Fin 16 → EReal} {G : Fin 128 → Fin 1024 → EReal}

/-- What the two chains of `c` leave together at a row of half `h`. -/
theorem chains_apply (c : Fin 4) (h : Fin 2) (q : Vec Ideal S128x256 .bf16) (kc kp : Vec Ideal S128x1024 .bf16) (a0 b0 a1 b1 : ℕ)
    (ha0 : a0 ≤ 896) (hb0 : b0 ≤ 896) (ha1 : a1 ≤ 896) (hb1 : b1 ≤ 896) (t00 t01 t10 t11 : Vec Ideal S1x128x128 .f32)
    (s00 s01 s10 s11 : Elt Ideal .f32)
    (ea0 : a0 = kvOff 0 c 0) (eb0 : b0 = kvOff 1 c 0) (ea1 : a1 = kvOff 0 c 1) (eb1 : b1 = kvOff 1 c 1)
    (hq : ∀ r h l, q (ix2 r (row h l)) = Q r (lane c h l)) (hkc : ∀ k l, kc (ix2 k l) = KC k l) (hkp : ∀ k l, kp (ix2 k l) = KP k l)
    (ht00 : ∀ r k, t00 (ix3 (0 : Fin 1) r k) = B (hd c 0 0) r k) (ht01 : ∀ r k, t01 (ix3 (0 : Fin 1) r k) = B (hd c 1 0) r k)
    (ht10 : ∀ r k, t10 (ix3 (0 : Fin 1) r k) = B (hd c 0 1) r k) (ht11 : ∀ r k, t11 (ix3 (0 : Fin 1) r k) = B (hd c 1 1) r k)
    (hs00 : s00 = SK (hd c 0 0)) (hs01 : s01 = SK (hd c 1 0)) (hs10 : s10 = SK (hd c 0 1)) (hs11 : s11 = SK (hd c 1 1)) (r l : Fin 128) :
    (chLo q kc kp a0 b0 ha0 hb0 t00 t01 s00 s01 (ix2 (row h r) l) : EReal) + chHi q kc kp a1 b1 ha1 hb1 t10 t11 s10 s11 (ix2 (row h r) l)
      = headVal Q KC KP B SK c h 0 r l + headVal Q KC KP B SK c h 1 r l := by
  subst ea0 eb0 ea1 eb1
  refine congrArg₂ (· + ·) ?_ ?_
  · refine chain_apply c h 0 q _ _ _ _ t00 t01 s00 s01 (fun r l => hq r h l)
      (fun k l => (kvLo_apply kc _ ha0 k l (kvLane 0 c 0 l) rfl).trans (by rw [hkc])) (fun k l => (kvLo_apply kp _ ha0 k l (kvLane 0 c 0 l) rfl).trans (by rw [hkp]))
      (fun k l => (kvLo_apply kc _ hb0 k l (kvLane 1 c 0 l) rfl).trans (by rw [hkc])) (fun k l => (kvLo_apply kp _ hb0 k l (kvLane 1 c 0 l) rfl).trans (by rw [hkp])) ?_ ?_ r l
    · intro r k
      obtain rfl | rfl : h = 0 ∨ h = 1 := by omega
      · exact ht00 r k
      · exact ht01 r k
    · obtain rfl | rfl : h = 0 ∨ h = 1 := by omega
      · exact hs00
      · exact hs01
  · refine chain_apply c h 1 q _ _ _ _ t10 t11 s10 s11 (fun r l => hq r h l)
      (fun k l => (kvHi_apply kc _ ha1 k l (kvLane 0 c 1 l) rfl).trans (by rw [hkc])) (fun k l => (kvHi_apply kp _ ha1 k l (kvLane 0 c 1 l) rfl).trans (by rw [hkp]))
      (fun k l => (kvHi_apply kc _ hb1 k l (kvLane 1 c 1 l) rfl).trans (by rw [hkc])) (fun k l => (kvHi_apply kp _ hb1 k l (kvLane 1 c 1 l) rfl).trans (by rw [hkp])) ?_ ?_ r l
    · intro r k
      obtain rfl | rfl : h = 0 ∨ h = 1 := by omega
      · exact ht10 r k
      · exact ht11 r k
    · obtain rfl | rfl : h = 0 ∨ h = 1 := by omega
      · exact hs10
      · exact hs11

end Pieces

/-! ## Reading the buffers -/

section Reads
variable {F : FTy → Type}

/-- A rectangle of a held array of rank two. -/
theorem rd2 {sig : RefSig} {κ : Kind} {sp : Space} {a b a' b' : ℕ} {e : EltTy} (m : Memref sig κ sp ⟨2, ![a, b]⟩ e) (hm : m.IsWhole)
    (x : (⟨2, ![a, b]⟩ : Shape).Idx → Elt F e) (o0 o1 : ℕ)
    (inb : ∀ k, (![o0, o1] : Fin 2 → ℕ) k + (⟨2, ![a', b']⟩ : Shape).size k ≤ (⟨2, ![a, b]⟩ : Shape).size k) (r : Fin a') (l : Fin b')
    (r' : Fin a) (l' : Fin b) (hr : r'.val = o0 + r.val) (hl : l'.val = o1 + l.val) :
    View.readAt (Elt F) m.view (Rect.unit (s := ⟨2, ![a, b]⟩) ![o0, o1] (⟨2, ![a', b']⟩ : Shape).size inb).toLoadRect (hm.unread x) (ix2 r l) = x (ix2 r' l') := by
  refine (congrFun (View.readAt_eq_ld m.view (hm.unread x) (Rect.unit (s := ⟨2, ![a, b]⟩) ![o0, o1] (⟨2, ![a', b']⟩ : Shape).size inb)) (ix2 r l)).trans ?_
  rw [Memref.IsWhole.read_unread]
  refine congrArg x (funext fun k => Fin.ext ?_)
  match k with
  | ⟨0, _⟩ => show o0 + 1 * r.val = r'.val; omega
  | ⟨1, _⟩ => show o1 + 1 * l.val = l'.val; omega

theorem rd3 {sig : RefSig} {κ : Kind} {sp : Space} {n a b a' b' : ℕ} {e : EltTy} (m : Memref sig κ sp ⟨3, ![n, a, b]⟩ e) (hm : m.IsWhole)
    (x : (⟨3, ![n, a, b]⟩ : Shape).Idx → Elt F e) (off : Fin 3 → ℕ)
    (inb : ∀ k, off k + (⟨3, ![1, a', b']⟩ : Shape).size k ≤ (⟨3, ![n, a, b]⟩ : Shape).size k) (r : Fin a') (l : Fin b')
    (i' : Fin n) (r' : Fin a) (l' : Fin b) (hi : i'.val = off 0) (hr : r'.val = off 1 + r.val) (hl : l'.val = off 2 + l.val) :
    View.readAt (Elt F) m.view (Rect.unit (s := ⟨3, ![n, a, b]⟩) off (⟨3, ![1, a', b']⟩ : Shape).size inb).toLoadRect (hm.unread x) (ix3 (0 : Fin 1) r l) = x (ix3 i' r' l') := by
  refine (congrFun (View.readAt_eq_ld m.view (hm.unread x) (Rect.unit (s := ⟨3, ![n, a, b]⟩) off (⟨3, ![1, a', b']⟩ : Shape).size inb)) (ix3 (0 : Fin 1) r l)).trans ?_
  rw [Memref.IsWhole.read_unread]
  refine congrArg x (funext fun k => Fin.ext ?_)
  match k with
  | ⟨0, _⟩ => show off 0 + 1 * 0 = i'.val; omega
  | ⟨1, _⟩ => show off 1 + 1 * r.val = r'.val; omega
  | ⟨2, _⟩ => show off 2 + 1 * l.val = l'.val; omega

theorem rd1 {sig : RefSig} {κ : Kind} {sp : Space} {n : ℕ} {e : EltTy} (m : Memref sig κ sp ⟨1, ![n]⟩ e) (hm : m.IsWhole)
    (x : (⟨1, ![n]⟩ : Shape).Idx → Elt F e) (o : ℕ)
    (inb : ∀ k, (![o] : Fin 1 → ℕ) k + (⟨1, ![1]⟩ : Shape).size k ≤ (⟨1, ![n]⟩ : Shape).size k) (j : (⟨1, ![1]⟩ : Shape).Idx) (i' : Fin n) (hi : i'.val = o) :
    View.readAt (Elt F) m.view (Rect.unit (s := ⟨1, ![n]⟩) ![o] (⟨1, ![1]⟩ : Shape).size inb).toLoadRect (hm.unread x) j = x (ix1 i') := by
  refine (congrFun (View.readAt_eq_ld m.view (hm.unread x) (Rect.unit (s := ⟨1, ![n]⟩) ![o] (⟨1, ![1]⟩ : Shape).size inb)) j).trans ?_
  rw [Memref.IsWhole.read_unread]
  refine congrArg x (funext fun k => Fin.ext ?_)
  match k with
  | ⟨0, h⟩ =>
    have : (j ⟨0, h⟩).val < 1 := (j ⟨0, h⟩).isLt
    show o + 1 * (j ⟨0, h⟩).val = i'.val; omega

end Reads

/-! ## The gated output of a point, from the contents of its buffers -/

/-- Row `r` of block `j` of three. -/
def brow (j : Fin 3) (r : Fin 128) : Fin 384 := ⟨128 * j.val + r.val, by omega⟩

/-- The keys and values of the block before block `j`. -/
def prevKV (x2 : Vec Ideal S384x1024 .bf16) (x3 : Vec Ideal S128x1024 .bf16) (j : Fin 3) (k : Fin 128) (l : Fin 1024) : EReal :=
  if j = 0 then x3 (ix2 k l) else x2 (ix2 (brow (j - 1) k) l)

/-- The bias of block `j` of the point at column `w` of the grid. -/
def biasOf (T : Vec Ideal S16x384x128 .f32) (w : ℕ) (j : Fin 3) (h : Fin 16) (r k : Fin 128) : EReal :=
  T (ix3 h (⟨128 * min (3 * w + j.val) 2 + r.val, by omega⟩ : Fin 384) k)

/-- The gated output of block `j`. -/
def ogBlk (x0 : Vec Ideal S16 .f32) (x1 x2 : Vec Ideal S384x1024 .bf16) (x3 : Vec Ideal S128x1024 .bf16) (x4 : Vec Ideal S384x1024 .f32)
    (T : Vec Ideal S16x384x128 .f32) (w : ℕ) (j : Fin 3) (c : Fin 4) (h : Fin 2) (r l : Fin 128) : EReal :=
  ogVal (fun r l => x1 (ix2 (brow j r) l)) (fun k l => x2 (ix2 (brow j k) l)) (prevKV x2 x3 j) (biasOf T w j) (fun h => x0 (ix1 h))
    (fun r l => x4 (ix2 (brow j r) l)) c h r l

/-- The gated output of a point as one array. -/
def ogF (x0 : Vec Ideal S16 .f32) (x1 x2 : Vec Ideal S384x1024 .bf16) (x3 : Vec Ideal S128x1024 .bf16) (x4 : Vec Ideal S384x1024 .f32)
    (T : Vec Ideal S16x384x128 .f32) (w : ℕ) : Vec Ideal S384x1024 .bf16 := fun y =>
  have h0 : (y 0).val < 384 := (y 0).isLt
  have h1 : (y 1).val < 1024 := (y 1).isLt
  ogBlk x0 x1 x2 x3 x4 T w ⟨(y 0).val / 128, by omega⟩ ⟨(y 1).val / 256, by omega⟩ ⟨(y 1).val / 128 % 2, by omega⟩
    ⟨(y 0).val % 128, by omega⟩ ⟨(y 1).val % 128, by omega⟩

theorem ogF_apply (x0 : Vec Ideal S16 .f32) (x1 x2 : Vec Ideal S384x1024 .bf16) (x3 : Vec Ideal S128x1024 .bf16) (x4 : Vec Ideal S384x1024 .f32)
    (T : Vec Ideal S16x384x128 .f32) (w : ℕ) (y : S384x1024.Idx) (j : Fin 3) (c : Fin 4) (h : Fin 2) (r l : Fin 128)
    (h0 : (y 0).val = 128 * j.val + r.val) (h1 : (y 1).val = c.val * 256 + h.val * 128 + l.val) :
    ogF x0 x1 x2 x3 x4 T w y = ogBlk x0 x1 x2 x3 x4 T w j c h r l := by
  show ogBlk x0 x1 x2 x3 x4 T w _ _ _ _ _ = _
  congr 1
  · exact Fin.ext (by show (y 0).val / 128 = _; omega)
  · exact Fin.ext (by show (y 1).val / 256 = _; omega)
  · exact Fin.ext (by show (y 1).val / 128 % 2 = _; omega)
  · exact Fin.ext (by show (y 0).val % 128 = _; omega)
  · exact Fin.ext (by show (y 1).val % 128 = _; omega)

/-- A stored piece of the gated output is the matching part of it. -/
theorem piece_apply (x0 : Vec Ideal S16 .f32) (x1 x2 : Vec Ideal S384x1024 .bf16) (x3 : Vec Ideal S128x1024 .bf16) (x4 : Vec Ideal S384x1024 .f32)
    (T : Vec Ideal S16x384x128 .f32) (w : ℕ) (j : Fin 3) (c : Fin 4) (h : Fin 2)
    (q : Vec Ideal S128x256 .bf16) (kc kp : Vec Ideal S128x1024 .bf16) (t00 t01 t10 t11 : Vec Ideal S1x128x128 .f32)
    (s00 s01 s10 s11 : Elt Ideal .f32) (g : Vec Ideal S128x128 .f32) (v : FVec Ideal S128x128 .bf16) (o0 o1 : ℕ)
    (inb : ∀ k, (![o0, o1] : Fin 2 → ℕ) k + S128x128.size k ≤ S384x1024.size k) (a0 b0 a1 b1 : ℕ)
    (ha0 : a0 ≤ 896) (hb0 : b0 ≤ 896) (ha1 : a1 ≤ 896) (hb1 : b1 ≤ 896)
    (hv : v = if h = 0 then gatedLo (chLo q kc kp a0 b0 ha0 hb0 t00 t01 s00 s01) (chHi q kc kp a1 b1 ha1 hb1 t10 t11 s10 s11) g
      else gatedHi (chLo q kc kp a0 b0 ha0 hb0 t00 t01 s00 s01) (chHi q kc kp a1 b1 ha1 hb1 t10 t11 s10 s11) g)
    (ho : o0 = 128 * j.val ∧ o1 = c.val * 256 + h.val * 128 ∧ a0 = kvOff 0 c 0 ∧ b0 = kvOff 1 c 0 ∧ a1 = kvOff 0 c 1 ∧ b1 = kvOff 1 c 1)
    (hq : ∀ r h l, q (ix2 r (row h l)) = x1 (ix2 (brow j r) (lane c h l))) (hkc : ∀ k l, kc (ix2 k l) = x2 (ix2 (brow j k) l))
    (hkp : ∀ k l, kp (ix2 k l) = prevKV x2 x3 j k l)
    (ht00 : ∀ r k, t00 (ix3 (0 : Fin 1) r k) = biasOf T w j (hd c 0 0) r k) (ht01 : ∀ r k, t01 (ix3 (0 : Fin 1) r k) = biasOf T w j (hd c 1 0) r k)
    (ht10 : ∀ r k, t10 (ix3 (0 : Fin 1) r k) = biasOf T w j (hd c 0 1) r k) (ht11 : ∀ r k, t11 (ix3 (0 : Fin 1) r k) = biasOf T w j (hd c 1 1) r k)
    (hs00 : s00 = x0 (ix1 (hd c 0 0))) (hs01 : s01 = x0 (ix1 (hd c 1 0))) (hs10 : s10 = x0 (ix1 (hd c 0 1))) (hs11 : s11 = x0 (ix1 (hd c 1 1)))
    (hg : ∀ r l, g (ix2 r l) = x4 (ix2 (brow j r) (lane c h l))) (x : S128x128.Idx) :
    v x = ogF x0 x1 x2 x3 x4 T w ((Rect.unit (s := S384x1024) ![o0, o1] S128x128.size inb).emb x) := by
  obtain ⟨r, l, rfl⟩ : ∃ r l, x = ix2 r l := ⟨x 0, x 1, eq_ix2 x⟩
  obtain ⟨ho0, ho1, ea0, eb0, ea1, eb1⟩ := ho
  rw [ogF_apply x0 x1 x2 x3 x4 T w _ j c h r l (by show o0 + 1 * r.val = _; omega) (by show o1 + 1 * l.val = _; omega), hv]
  unfold ogBlk ogVal
  have e := chains_apply (KC := fun k l => x2 (ix2 (brow j k) l)) (KP := prevKV x2 x3 j) (Q := fun r l => x1 (ix2 (brow j r) l))
    (B := biasOf T w j) (SK := fun h => x0 (ix1 h)) c h q kc kp a0 b0 a1 b1 ha0 hb0 ha1 hb1 t00 t01 t10 t11 s00 s01 s10 s11
    ea0 eb0 ea1 eb1 hq hkc hkp ht00 ht01 ht10 ht11 hs00 hs01 hs10 hs11 r l
  rw [← e]
  obtain rfl | rfl : h = 0 ∨ h = 1 := by omega
  · rw [if_pos rfl, gatedLo_apply, hg]
  · rw [if_neg (by decide), gatedHi_apply, hg]

end Attn

end
-- ==== Proof.KHead.lean ====
module

public import proofs.«01_k».proof.Proof.Spec
public import proofs.«01_k».proof.Proof.Block

@[expose] public section

noncomputable section

/-! A block's gated output is the attention's, when its tiles hold the tokens' queries, keys, values and gate. -/

namespace Attn

open Idealize.ShloMosaic Idealize.ShloMosaic.ValueIdx

/-- Which of a group's four heads stands in half `h` on the lanes `p`. -/
def grp (h p : Fin 2) : Fin 4 := ⟨2 * h.val + p.val, by omega⟩

/-- What a block's tiles hold, for row `r` of block `n` of batch entry `b`. -/
structure Tiles (q : A5) (k v : A4) (t : (⟨2, ![32, 16]⟩ : Shape).Idx → EReal) (b : Fin 4) (n : ℕ) (Q KC KP : Fin 128 → Fin 1024 → EReal)
    (B : Fin 16 → Fin 128 → Fin 128 → EReal) (r : Fin 128) : Prop where
  hQ : ∀ (c : Fin 4) (h p : Fin 2) (l : Fin 128), l.val / 64 = p.val →
    Q r (lane c h l) = tokQ q b (n * 128 + r.val) c (grp h p) ⟨l.val % 64, by omega⟩ * Ideal.ofBits .f32 0x3E000000#32
  hKC : ∀ (k' : Fin 128) (c : Fin 4) (p : Fin 2) (l : Fin 128), l.val / 64 = p.val →
    KC k' (kvLane 0 c p l) = tokK k b (n * 128 + k'.val) c ⟨l.val % 64, by omega⟩
  hVC : ∀ (k' : Fin 128) (c : Fin 4) (p : Fin 2) (l : Fin 128), l.val / 64 = p.val →
    KC k' (kvLane 1 c p l) = tokK v b (n * 128 + k'.val) c ⟨l.val % 64, by omega⟩
  hKP : ∀ (k' : Fin 128) (c : Fin 4) (p : Fin 2) (l : Fin 128), 0 < n → l.val / 64 = p.val →
    KP k' (kvLane 0 c p l) = tokK k b ((n - 1) * 128 + k'.val) c ⟨l.val % 64, by omega⟩
  hVP : ∀ (k' : Fin 128) (c : Fin 4) (p : Fin 2) (l : Fin 128), 0 < n → l.val / 64 = p.val →
    KP k' (kvLane 1 c p l) = tokK v b ((n - 1) * 128 + k'.val) c ⟨l.val % 64, by omega⟩
  hB : ∀ (h : Fin 16) (k' : Fin 128), B h r k' =
    if 240 ≤ slotPos n r k' then t (ix2 (⟨bkt (gap r k'), bkt_lt _ (gap_lt r k')⟩ : Fin 32) h) else ⊥

section
variable {q : A5} {k v : A4} {t : (⟨2, ![32, 16]⟩ : Shape).Idx → EReal} {b : Fin 4} {n : ℕ} {Q KC KP : Fin 128 → Fin 1024 → EReal}
    {B : Fin 16 → Fin 128 → Fin 128 → EReal} {r : Fin 128}

/-- The product of a query's row with a key kept on its own lanes. -/
theorem dot_lanes (c : Fin 4) (h p : Fin 2) (K : Fin 1024 → EReal) (k' q' : Fin 64 → EReal) (Qr : Fin 1024 → EReal)
    (hQ : ∀ l : Fin 128, l.val / 64 = p.val → Qr (lane c h l) = q' ⟨l.val % 64, by omega⟩ * Ideal.ofBits .f32 0x3E000000#32)
    (hK : ∀ l : Fin 128, l.val / 64 = p.val → K (kvLane 0 c p l) = k' ⟨l.val % 64, by omega⟩) :
    ∑ l : Fin 128, Qr (lane c h l) * onHalf p l (K (kvLane 0 c p l)) = (∑ d, k' d * q' d) * Ideal.ofBits .f32 0x3E000000#32 := by
  have e1 : ∀ (l : Fin 128) (d : Fin 64), l.val % 64 = d.val → (⟨l.val % 64, by omega⟩ : Fin 64) = d := fun l d h => Fin.ext h
  have on : ∀ (l : Fin 128) (d : Fin 64), l.val / 64 = p.val → l.val % 64 = d.val →
      Qr (lane c h l) = q' d * ((1 / 8 : ℝ) : EReal) ∧ onHalf p l (K (kvLane 0 c p l)) = k' d := by
    intro l d hl hd
    refine ⟨?_, ?_⟩
    · rw [hQ l hl, eighth, e1 l d hd]
    · unfold onHalf; rw [if_pos hl, hK l hl, e1 l d hd]
  have off : ∀ l : Fin 128, l.val / 64 ≠ p.val → onHalf p l (K (kvLane 0 c p l)) = 0 := by
    intro l hl; unfold onHalf; exact if_neg hl
  rw [eighth]
  obtain rfl | rfl : p = 0 ∨ p = 1 := by omega
  · exact dot_half_lo (fun l => Qr (lane c h l)) (fun l => onHalf 0 l (K (kvLane 0 c 0 l))) q' k' (by norm_num)
      (fun d => (on _ d (by show d.val / 64 = 0; omega) (by show d.val % 64 = d.val; omega)).1)
      (fun d => (on _ d (by show d.val / 64 = 0; omega) (by show d.val % 64 = d.val; omega)).2)
      (fun d => off _ (by show (64 + d.val) / 64 ≠ 0; omega))
  · exact dot_half_hi (fun l => Qr (lane c h l)) (fun l => onHalf 1 l (K (kvLane 0 c 1 l))) q' k' (by norm_num)
      (fun d => (on _ d (by show (64 + d.val) / 64 = 1; omega) (by show (64 + d.val) % 64 = d.val; omega)).1)
      (fun d => (on _ d (by show (64 + d.val) / 64 = 1; omega) (by show (64 + d.val) % 64 = d.val; omega)).2)
      (fun d => off _ (by show d.val / 64 ≠ 1; omega))

theorem headScore_eq (H : Tiles q k v t b n Q KC KP B r) (c : Fin 4) (h p : Fin 2) (k' : Fin 128) :
    headScore Q KC KP B c h p r k' = specScore q k t b n c (grp h p) r k' := by
  unfold headScore specScore
  rw [H.hB]
  by_cases hv : 240 ≤ slotPos n r k'
  · rw [if_pos hv, if_pos hv, show (⟨4 * c.val + (grp h p).val, by omega⟩ : Fin 16) = hd c h p from
      Fin.ext (by show 4 * c.val + (2 * h.val + p.val) = 4 * c.val + 2 * h.val + p.val; omega)]
    refine congrArg (fun x : EReal => x + _) ?_
    by_cases ho : k'.val ≤ r.val
    · rw [if_pos ho]
      refine dot_lanes c h p (KC k') _ _ (Q r) (fun l hl => H.hQ c h p l hl) (fun l hl => ?_)
      rw [H.hKC k' c p l hl, show slotPos n r k' - 128 = n * 128 + k'.val by unfold slotPos; rw [if_pos ho]; omega]
    · rw [if_neg ho]
      have hn : slotPos n r k' = n * 128 + k'.val := by unfold slotPos; rw [if_neg ho]; omega
      refine dot_lanes c h p (KP k') _ _ (Q r) (fun l hl => H.hQ c h p l hl) (fun l hl => ?_)
      rw [H.hKP k' c p l (by omega) hl, show slotPos n r k' - 128 = (n - 1) * 128 + k'.val by omega]
  · rw [if_neg hv, if_neg hv]
    exact EReal.add_bot _

/-- The other half's lanes are left at zero. -/
theorem headVal_off (SK : Fin 16 → EReal) (c : Fin 4) (h p : Fin 2) (l : Fin 128) (hl : l.val / 64 ≠ p.val) :
    headVal Q KC KP B SK c h p r l = 0 := by
  have z : ∀ x : EReal, onHalf p l x = 0 := fun x => by unfold onHalf; exact if_neg hl
  unfold headVal
  simp only [z, mul_zero, Finset.sum_const_zero, add_zero, zero_mul]

/-- On its own lanes a chain leaves the head's output. -/
theorem headVal_on (H : Tiles q k v t b n Q KC KP B r) (hq : IsReal q) (hk : IsReal k) (ht : IsReal t) (SK : Fin 16 → EReal)
    (s : (⟨2, ![1, 16]⟩ : Shape).Idx → EReal) (hs : IsReal s) (hSK : ∀ h, SK h = s (ix2 (0 : Fin 1) h))
    (c : Fin 4) (h p : Fin 2) (l : Fin 128) (hl : l.val / 64 = p.val) :
    headVal Q KC KP B SK c h p r l = specHead q k v t s b n c (grp h p) r ⟨l.val % 64, by omega⟩ := by
  have es : headScore Q KC KP B c h p r = specScore q k t b n c (grp h p) r := funext fun k' => headScore_eq H c h p k'
  unfold headVal specHead
  rw [es, hSK, show (⟨4 * c.val + (grp h p).val, by omega⟩ : Fin 16) = hd c h p from
      Fin.ext (by show 4 * c.val + (2 * h.val + p.val) = 4 * c.val + 2 * h.val + p.val; omega)]
  obtain ⟨y, hy⟩ := hs (ix2 (0 : Fin 1) (hd c h p))
  refine rowOut_select (fun k' : Fin 128 => k'.val ≤ r.val) _ (fun k' => onHalf p l (KC k' (kvLane 1 c p l))) (fun k' => onHalf p l (KP k' (kvLane 1 c p l)))
    (fun k' => specScore_real hq hk ht b n c (grp h p) r k') (by rw [hy]; exact EReal.coe_ne_top _) (by rw [hy]; exact EReal.coe_ne_bot _) ?_ ?_
  · intro k' ho _
    unfold onHalf
    rw [if_pos hl, H.hVC k' c p l hl, show slotPos n r k' - 128 = n * 128 + k'.val by unfold slotPos; rw [if_pos ho]; omega]
  · intro k' ho hb
    have hn : slotPos n r k' = n * 128 + k'.val := by unfold slotPos; rw [if_neg ho]; omega
    have hv : 240 ≤ slotPos n r k' := by
      by_contra hv; exact hb (by unfold specScore; exact if_neg hv)
    unfold onHalf
    rw [if_pos hl, H.hVP k' c p l (by omega) hl, show slotPos n r k' - 128 = (n - 1) * 128 + k'.val by omega]

/-- The gated output at a lane. -/
theorem ogVal_eq (H : Tiles q k v t b n Q KC KP B r) (hq : IsReal q) (hk : IsReal k) (ht : IsReal t) (SK : Fin 16 → EReal)
    (s : (⟨2, ![1, 16]⟩ : Shape).Idx → EReal) (hs : IsReal s) (hSK : ∀ h, SK h = s (ix2 (0 : Fin 1) h)) (g : A3) (G : Fin 128 → Fin 1024 → EReal)
    (hG : ∀ C, G r C = tokG g b (n * 128 + r.val) C) (c : Fin 4) (h : Fin 2) (l : Fin 128) :
    ogVal Q KC KP B SK G c h r l = specGated q k v g t s b n r (lane c h l) := by
  have two : headVal Q KC KP B SK c h 0 r l + headVal Q KC KP B SK c h 1 r l
      = specHead q k v t s b n c (grp h ⟨l.val / 64, by omega⟩) r ⟨l.val % 64, by omega⟩ := by
    by_cases h0 : l.val / 64 = 0
    · rw [headVal_on H hq hk ht SK s hs hSK c h 0 l h0, headVal_off SK c h 1 l (by rw [h0]; decide), add_zero]
      exact congrArg (fun p => specHead q k v t s b n c (grp h p) r _) (Fin.ext h0.symm)
    · have h1 : l.val / 64 = 1 := by omega
      rw [headVal_off SK c h 0 l h0, headVal_on H hq hk ht SK s hs hSK c h 1 l h1, zero_add]
      exact congrArg (fun p => specHead q k v t s b n c (grp h p) r _) (Fin.ext h1.symm)
  unfold ogVal specGated
  rw [two, hG]
  have e1 : (⟨(lane c h l).val / 256, by omega⟩ : Fin 4) = c := Fin.ext (by show (c.val * 256 + h.val * 128 + l.val) / 256 = c.val; omega)
  have e2 : (⟨(lane c h l).val / 64 % 4, by omega⟩ : Fin 4) = grp h ⟨l.val / 64, by omega⟩ :=
    Fin.ext (by show (c.val * 256 + h.val * 128 + l.val) / 64 % 4 = 2 * h.val + l.val / 64; omega)
  have e3 : (⟨(lane c h l).val % 64, by omega⟩ : Fin 64) = ⟨l.val % 64, by omega⟩ :=
    Fin.ext (by show (c.val * 256 + h.val * 128 + l.val) % 64 = l.val % 64; omega)
  rw [e1, e2, e3]
  rfl

end

end Attn

end
-- ==== Proof.Piece.lean ====
module

public import proofs.«01_k».proof.Proof.Block

@[expose] public section

noncomputable section

/-! A stored piece of the gated output, from the blocks that the body reads. -/

namespace Attn

open Cert.KernelIdeal Cert.KernelIdeal.Gen Idealize.ShloMosaic Idealize.ShloMosaic.ValueIdx Idealize.SL.Sem

theorem inb_q (j : Fin 3) (c : Fin 4) : ∀ k, (![128 * j.val, c.val * 256] : Fin 2 → ℕ) k + S128x256.size k ≤ S384x1024.size k :=
  Fin.forall_fin_two.2 ⟨by show 128 * j.val + 128 ≤ 384; omega, by show c.val * 256 + 256 ≤ 1024; omega⟩

theorem inb_kv (j : Fin 3) : ∀ k, (![128 * j.val, 0] : Fin 2 → ℕ) k + S128x1024.size k ≤ S384x1024.size k :=
  Fin.forall_fin_two.2 ⟨by show 128 * j.val + 128 ≤ 384; omega, by show 0 + 1024 ≤ 1024; omega⟩

theorem inb_g (j : Fin 3) (c : Fin 4) (h : Fin 2) : ∀ k, (![128 * j.val, c.val * 256 + h.val * 128] : Fin 2 → ℕ) k + S128x128.size k ≤ S384x1024.size k :=
  Fin.forall_fin_two.2 ⟨by show 128 * j.val + 128 ≤ 384; omega, by show c.val * 256 + h.val * 128 + 128 ≤ 1024; omega⟩

theorem inb_s (h : Fin 16) : ∀ k, (![h.val] : Fin 1 → ℕ) k + S1.size k ≤ S16.size k := fun k => by
  match k with
  | ⟨0, _⟩ => show h.val + 1 ≤ 16; omega

/-- The sink of head `h`. -/
abbrev sinkAt (m : Memref sig .tc .smem S16 .f32) (hm : m.IsWhole) (x : Vec Ideal S16 .f32) (h : Fin 16) : Elt Ideal .f32 :=
  View.readAt (Elt Ideal) m.view (Rect.unit (s := S16) ![h.val] S1.size (inb_s h)).toLoadRect (hm.unread x) (Shape.Idx.first (numel1_S1.symm ▸ Nat.one_pos))

theorem sinkAt_eq (m : Memref sig .tc .smem S16 .f32) (hm : m.IsWhole) (x : Vec Ideal S16 .f32) (h : Fin 16) : sinkAt m hm x h = x (ix1 h) :=
  rd1 m hm x h.val _ _ h rfl

section
variable (arg2 : Memref sig .tc .smem S16 .f32) (harg2 : arg2.IsWhole) (arg3 : Memref sig .tc .vmem S384x1024 .bf16) (harg3 : arg3.IsWhole)
  (arg4 : Memref sig .tc .vmem S384x1024 .bf16) (harg4 : arg4.IsWhole) (arg5 : Memref sig .tc .vmem S128x1024 .bf16) (harg5 : arg5.IsWhole)
  (arg6 : Memref sig .tc .vmem S384x1024 .f32) (harg6 : arg6.IsWhole)
  (x0 : Vec Ideal S16 .f32) (x1 x2 : Vec Ideal S384x1024 .bf16) (x3 : Vec Ideal S128x1024 .bf16) (x4 : Vec Ideal S384x1024 .f32) (T : Vec Ideal S16x384x128 .f32) (w : ℕ)

/-- The keys and values of block `j`. -/
abbrev kvAt (j : Fin 3) : Vec Ideal S128x1024 .bf16 :=
  View.readAt (Elt Ideal) arg4.view (Rect.unit (s := S384x1024) ![128 * j.val, 0] S128x1024.size (inb_kv j)).toLoadRect (harg4.unread x2)

theorem kvAt_eq (j : Fin 3) (k : Fin 128) (l : Fin 1024) : kvAt arg4 harg4 x2 j (ix2 k l) = x2 (ix2 (brow j k) l) :=
  rd2 arg4 harg4 x2 (128 * j.val) 0 _ _ _ _ _ rfl (Nat.zero_add _).symm

/-- The keys and values of the block before the point's first. -/
abbrev headAt : Vec Ideal S128x1024 .bf16 :=
  View.readAt (Elt Ideal) arg5.view (Rect.unit (s := S128x1024) ![0, 0] S128x1024.size inb_S128x1024_S128x1024_0_0).toLoadRect (harg5.unread x3)

theorem headAt_eq (k : Fin 128) (l : Fin 1024) : headAt arg5 harg5 x3 (ix2 k l) = prevKV x2 x3 0 k l :=
  rd2 arg5 harg5 x3 0 0 _ _ _ _ _ (Nat.zero_add _).symm (Nat.zero_add _).symm

/-- The piece of block `j`, chain `c` and half `h`, with the biases of its four heads as they are read. -/
theorem piece_at {kp : Vec Ideal S128x1024 .bf16} {t00 t01 t10 t11 : Vec Ideal S1x128x128 .f32} {v : FVec Ideal S128x128 .bf16} (j : Fin 3) (c : Fin 4) (h : Fin 2)
    (hkp : ∀ k l, kp (ix2 k l) = prevKV x2 x3 j k l)
    (ht00 : ∀ r k, t00 (ix3 (0 : Fin 1) r k) = biasOf T w j (hd c 0 0) r k) (ht01 : ∀ r k, t01 (ix3 (0 : Fin 1) r k) = biasOf T w j (hd c 1 0) r k)
    (ht10 : ∀ r k, t10 (ix3 (0 : Fin 1) r k) = biasOf T w j (hd c 0 1) r k) (ht11 : ∀ r k, t11 (ix3 (0 : Fin 1) r k) = biasOf T w j (hd c 1 1) r k)
    (hv : v = (if h = 0 then gatedLo else gatedHi)
      (chLo (View.readAt (Elt Ideal) arg3.view (Rect.unit (s := S384x1024) ![128 * j.val, c.val * 256] S128x256.size (inb_q j c)).toLoadRect (harg3.unread x1)) (kvAt arg4 harg4 x2 j) kp
        (kvOff 0 c 0) (kvOff 1 c 0) (kvOff_le 0 c 0) (kvOff_le 1 c 0) t00 t01 (sinkAt arg2 harg2 x0 (hd c 0 0)) (sinkAt arg2 harg2 x0 (hd c 1 0)))
      (chHi (View.readAt (Elt Ideal) arg3.view (Rect.unit (s := S384x1024) ![128 * j.val, c.val * 256] S128x256.size (inb_q j c)).toLoadRect (harg3.unread x1)) (kvAt arg4 harg4 x2 j) kp
        (kvOff 0 c 1) (kvOff 1 c 1) (kvOff_le 0 c 1) (kvOff_le 1 c 1) t10 t11 (sinkAt arg2 harg2 x0 (hd c 0 1)) (sinkAt arg2 harg2 x0 (hd c 1 1)))
      (View.readAt (Elt Ideal) arg6.view (Rect.unit (s := S384x1024) ![128 * j.val, c.val * 256 + h.val * 128] S128x128.size (inb_g j c h)).toLoadRect (harg6.unread x4))) (x : S128x128.Idx) :
    v x = ogF x0 x1 x2 x3 x4 T w ((Rect.unit (s := S384x1024) ![128 * j.val, c.val * 256 + h.val * 128] S128x128.size (inb_g j c h)).emb x) :=
  piece_apply x0 x1 x2 x3 x4 T w j c h _ _ _ _ _ _ _ _ _ _ _ _ v _ _ (inb_g j c h) _ _ _ _ (kvOff_le 0 c 0) (kvOff_le 1 c 0) (kvOff_le 0 c 1) (kvOff_le 1 c 1)
    (by rw [hv]; split <;> rfl) ⟨rfl, rfl, rfl, rfl, rfl, rfl⟩
    (fun r h l => rd2 arg3 harg3 x1 _ _ _ _ _ _ _ rfl (Nat.add_assoc _ _ _))
    (kvAt_eq arg4 harg4 x2 j) hkp ht00 ht01 ht10 ht11 (sinkAt_eq arg2 harg2 x0 _) (sinkAt_eq arg2 harg2 x0 _) (sinkAt_eq arg2 harg2 x0 _) (sinkAt_eq arg2 harg2 x0 _)
    (fun r l => rd2 arg6 harg6 x4 _ _ _ _ _ _ _ rfl rfl) x

end

end Attn

end
-- ==== Proof.OutB.lean ====
module

public import proofs.«01_k».proof.Proof.Piece

@[expose] public section

noncomputable section

/-! The twenty-four pieces of the gated output a later point stores. -/

namespace Attn

open Cert.KernelIdeal Cert.KernelIdeal.Gen Idealize.ShloMosaic Idealize.ShloMosaic.ValueIdx Idealize.SL.Sem

theorem biasB (m : Memref sig .tc .vmem S16x384x128 .f32) (hm : m.IsWhole) (T : Vec Ideal S16x384x128 .f32) (i : grid0.Coords) (j : Fin 3) (h : Fin 16)
    (off : Fin 3 → ℕ) {a : ℕ} (ho : off = ![a, 128 * min (3 * (i 1).val + j.val) 2, 0]) (ha : h.val = a)
    (inb : ∀ k, off k + S1x128x128.size k ≤ S16x384x128.size k) (r k : Fin 128) :
    View.readAt (Elt Ideal) m.view (Rect.unit (s := S16x384x128) off S1x128x128.size inb).toLoadRect (hm.unread T) (ix3 (0 : Fin 1) r k)
      = biasOf T (i 1).val j h r k := by
  subst ho
  exact rd3 m hm T _ inb r k h _ k ha rfl (by show k.val = 0 + k.val; omega)

theorem ogB (c : Dev nD) (i : grid0.Coords) (arg2 : Memref sig .tc .smem S16 .f32) (harg2 : arg2.IsWhole) (arg3 : Memref sig .tc .vmem S384x1024 .bf16) (harg3 : arg3.IsWhole) (arg4 : Memref sig .tc .vmem S384x1024 .bf16) (harg4 : arg4.IsWhole) (arg5 : Memref sig .tc .vmem S128x1024 .bf16) (harg5 : arg5.IsWhole) (arg6 : Memref sig .tc .vmem S384x1024 .f32) (harg6 : arg6.IsWhole) (arg15 : Memref sig .tc .vmem S16x384x128 .f32) (harg15 : arg15.IsWhole) (x0 : Vec Ideal S16 .f32) (x1 : Vec Ideal S384x1024 .bf16) (x2 : Vec Ideal S384x1024 .bf16) (x3 : Vec Ideal S128x1024 .bf16) (x4 : Vec Ideal S384x1024 .f32) (xs1 : Vec Ideal S16x384x128 .f32) :
    ∀ p ∈ kernelRun0_B.sl.HS0_24 (F := Ideal) c i arg2 harg2 arg3 harg3 arg4 harg4 arg5 harg5 arg6 harg6 arg15 harg15 x0 x1 x2 x3 x4 xs1, ∀ x, p.2 x = ogF x0 x1 x2 x3 x4 xs1 (i 1).val (p.1.emb x) := by
  unfold kernelRun0_B.sl.HS0_24
  have piece := fun {kp t00 t01 t10 t11 v} => @piece_at arg2 harg2 arg3 harg3 arg4 harg4 arg6 harg6 x0 x1 x2 x3 x4 xs1 (i 1).val kp t00 t01 t10 t11 v
  refine List.forall_mem_cons.2 ⟨
    piece 2 3 1 (kvAt_eq arg4 harg4 x2 1)
      (biasB arg15 harg15 xs1 i 2 (hd 3 0 0) _ (k0_off13_eq i 2) rfl (k0_off13_inb i 2))
      (biasB arg15 harg15 xs1 i 2 (hd 3 1 0) _ (k0_off14_eq i 2) rfl (k0_off14_inb i 2))
      (biasB arg15 harg15 xs1 i 2 (hd 3 0 1) _ (k0_off15_eq i 2) rfl (k0_off15_inb i 2))
      (biasB arg15 harg15 xs1 i 2 (hd 3 1 1) _ (k0_off16_eq i 2) rfl (k0_off16_inb i 2)) rfl, ?_⟩
  refine List.forall_mem_cons.2 ⟨
    piece 2 3 0 (kvAt_eq arg4 harg4 x2 1)
      (biasB arg15 harg15 xs1 i 2 (hd 3 0 0) _ (k0_off13_eq i 2) rfl (k0_off13_inb i 2))
      (biasB arg15 harg15 xs1 i 2 (hd 3 1 0) _ (k0_off14_eq i 2) rfl (k0_off14_inb i 2))
      (biasB arg15 harg15 xs1 i 2 (hd 3 0 1) _ (k0_off15_eq i 2) rfl (k0_off15_inb i 2))
      (biasB arg15 harg15 xs1 i 2 (hd 3 1 1) _ (k0_off16_eq i 2) rfl (k0_off16_inb i 2)) rfl, ?_⟩
  refine List.forall_mem_cons.2 ⟨
    piece 2 2 1 (kvAt_eq arg4 harg4 x2 1)
      (biasB arg15 harg15 xs1 i 2 (hd 2 0 0) _ (k0_off9_eq i 2) rfl (k0_off9_inb i 2))
      (biasB arg15 harg15 xs1 i 2 (hd 2 1 0) _ (k0_off10_eq i 2) rfl (k0_off10_inb i 2))
      (biasB arg15 harg15 xs1 i 2 (hd 2 0 1) _ (k0_off11_eq i 2) rfl (k0_off11_inb i 2))
      (biasB arg15 harg15 xs1 i 2 (hd 2 1 1) _ (k0_off12_eq i 2) rfl (k0_off12_inb i 2)) rfl, ?_⟩
  refine List.forall_mem_cons.2 ⟨
    piece 2 2 0 (kvAt_eq arg4 harg4 x2 1)
      (biasB arg15 harg15 xs1 i 2 (hd 2 0 0) _ (k0_off9_eq i 2) rfl (k0_off9_inb i 2))
      (biasB arg15 harg15 xs1 i 2 (hd 2 1 0) _ (k0_off10_eq i 2) rfl (k0_off10_inb i 2))
      (biasB arg15 harg15 xs1 i 2 (hd 2 0 1) _ (k0_off11_eq i 2) rfl (k0_off11_inb i 2))
      (biasB arg15 harg15 xs1 i 2 (hd 2 1 1) _ (k0_off12_eq i 2) rfl (k0_off12_inb i 2)) rfl, ?_⟩
  refine List.forall_mem_cons.2 ⟨
    piece 2 1 1 (kvAt_eq arg4 harg4 x2 1)
      (biasB arg15 harg15 xs1 i 2 (hd 1 0 0) _ (k0_off5_eq i 2) rfl (k0_off5_inb i 2))
      (biasB arg15 harg15 xs1 i 2 (hd 1 1 0) _ (k0_off6_eq i 2) rfl (k0_off6_inb i 2))
      (biasB arg15 harg15 xs1 i 2 (hd 1 0 1) _ (k0_off7_eq i 2) rfl (k0_off7_inb i 2))
      (biasB arg15 harg15 xs1 i 2 (hd 1 1 1) _ (k0_off8_eq i 2) rfl (k0_off8_inb i 2)) rfl, ?_⟩
  refine List.forall_mem_cons.2 ⟨
    piece 2 1 0 (kvAt_eq arg4 harg4 x2 1)
      (biasB arg15 harg15 xs1 i 2 (hd 1 0 0) _ (k0_off5_eq i 2) rfl (k0_off5_inb i 2))
      (biasB arg15 harg15 xs1 i 2 (hd 1 1 0) _ (k0_off6_eq i 2) rfl (k0_off6_inb i 2))
      (biasB arg15 harg15 xs1 i 2 (hd 1 0 1) _ (k0_off7_eq i 2) rfl (k0_off7_inb i 2))
      (biasB arg15 harg15 xs1 i 2 (hd 1 1 1) _ (k0_off8_eq i 2) rfl (k0_off8_inb i 2)) rfl, ?_⟩
  refine List.forall_mem_cons.2 ⟨
    piece 2 0 1 (kvAt_eq arg4 harg4 x2 1)
      (biasB arg15 harg15 xs1 i 2 (hd 0 0 0) _ (k0_off1_eq i 2) rfl (k0_off1_inb i 2))
      (biasB arg15 harg15 xs1 i 2 (hd 0 1 0) _ (k0_off2_eq i 2) rfl (k0_off2_inb i 2))
      (biasB arg15 harg15 xs1 i 2 (hd 0 0 1) _ (k0_off3_eq i 2) rfl (k0_off3_inb i 2))
      (biasB arg15 harg15 xs1 i 2 (hd 0 1 1) _ (k0_off4_eq i 2) rfl (k0_off4_inb i 2)) rfl, ?_⟩
  refine List.forall_mem_cons.2 ⟨
    piece 2 0 0 (kvAt_eq arg4 harg4 x2 1)
      (biasB arg15 harg15 xs1 i 2 (hd 0 0 0) _ (k0_off1_eq i 2) rfl (k0_off1_inb i 2))
      (biasB arg15 harg15 xs1 i 2 (hd 0 1 0) _ (k0_off2_eq i 2) rfl (k0_off2_inb i 2))
      (biasB arg15 harg15 xs1 i 2 (hd 0 0 1) _ (k0_off3_eq i 2) rfl (k0_off3_inb i 2))
      (biasB arg15 harg15 xs1 i 2 (hd 0 1 1) _ (k0_off4_eq i 2) rfl (k0_off4_inb i 2)) rfl, ?_⟩
  refine List.forall_mem_cons.2 ⟨
    piece 1 3 1 (kvAt_eq arg4 harg4 x2 0)
      (biasB arg15 harg15 xs1 i 1 (hd 3 0 0) _ (k0_off13_eq i 1) rfl (k0_off13_inb i 1))
      (biasB arg15 harg15 xs1 i 1 (hd 3 1 0) _ (k0_off14_eq i 1) rfl (k0_off14_inb i 1))
      (biasB arg15 harg15 xs1 i 1 (hd 3 0 1) _ (k0_off15_eq i 1) rfl (k0_off15_inb i 1))
      (biasB arg15 harg15 xs1 i 1 (hd 3 1 1) _ (k0_off16_eq i 1) rfl (k0_off16_inb i 1)) rfl, ?_⟩
  refine List.forall_mem_cons.2 ⟨
    piece 1 3 0 (kvAt_eq arg4 harg4 x2 0)
      (biasB arg15 harg15 xs1 i 1 (hd 3 0 0) _ (k0_off13_eq i 1) rfl (k0_off13_inb i 1))
      (biasB arg15 harg15 xs1 i 1 (hd 3 1 0) _ (k0_off14_eq i 1) rfl (k0_off14_inb i 1))
      (biasB arg15 harg15 xs1 i 1 (hd 3 0 1) _ (k0_off15_eq i 1) rfl (k0_off15_inb i 1))
      (biasB arg15 harg15 xs1 i 1 (hd 3 1 1) _ (k0_off16_eq i 1) rfl (k0_off16_inb i 1)) rfl, ?_⟩
  refine List.forall_mem_cons.2 ⟨
    piece 1 2 1 (kvAt_eq arg4 harg4 x2 0)
      (biasB arg15 harg15 xs1 i 1 (hd 2 0 0) _ (k0_off9_eq i 1) rfl (k0_off9_inb i 1))
      (biasB arg15 harg15 xs1 i 1 (hd 2 1 0) _ (k0_off10_eq i 1) rfl (k0_off10_inb i 1))
      (biasB arg15 harg15 xs1 i 1 (hd 2 0 1) _ (k0_off11_eq i 1) rfl (k0_off11_inb i 1))
      (biasB arg15 harg15 xs1 i 1 (hd 2 1 1) _ (k0_off12_eq i 1) rfl (k0_off12_inb i 1)) rfl, ?_⟩
  refine List.forall_mem_cons.2 ⟨
    piece 1 2 0 (kvAt_eq arg4 harg4 x2 0)
      (biasB arg15 harg15 xs1 i 1 (hd 2 0 0) _ (k0_off9_eq i 1) rfl (k0_off9_inb i 1))
      (biasB arg15 harg15 xs1 i 1 (hd 2 1 0) _ (k0_off10_eq i 1) rfl (k0_off10_inb i 1))
      (biasB arg15 harg15 xs1 i 1 (hd 2 0 1) _ (k0_off11_eq i 1) rfl (k0_off11_inb i 1))
      (biasB arg15 harg15 xs1 i 1 (hd 2 1 1) _ (k0_off12_eq i 1) rfl (k0_off12_inb i 1)) rfl, ?_⟩
  refine List.forall_mem_cons.2 ⟨
    piece 1 1 1 (kvAt_eq arg4 harg4 x2 0)
      (biasB arg15 harg15 xs1 i 1 (hd 1 0 0) _ (k0_off5_eq i 1) rfl (k0_off5_inb i 1))
      (biasB arg15 harg15 xs1 i 1 (hd 1 1 0) _ (k0_off6_eq i 1) rfl (k0_off6_inb i 1))
      (biasB arg15 harg15 xs1 i 1 (hd 1 0 1) _ (k0_off7_eq i 1) rfl (k0_off7_inb i 1))
      (biasB arg15 harg15 xs1 i 1 (hd 1 1 1) _ (k0_off8_eq i 1) rfl (k0_off8_inb i 1)) rfl, ?_⟩
  refine List.forall_mem_cons.2 ⟨
    piece 1 1 0 (kvAt_eq arg4 harg4 x2 0)
      (biasB arg15 harg15 xs1 i 1 (hd 1 0 0) _ (k0_off5_eq i 1) rfl (k0_off5_inb i 1))
      (biasB arg15 harg15 xs1 i 1 (hd 1 1 0) _ (k0_off6_eq i 1) rfl (k0_off6_inb i 1))
      (biasB arg15 harg15 xs1 i 1 (hd 1 0 1) _ (k0_off7_eq i 1) rfl (k0_off7_inb i 1))
      (biasB arg15 harg15 xs1 i 1 (hd 1 1 1) _ (k0_off8_eq i 1) rfl (k0_off8_inb i 1)) rfl, ?_⟩
  refine List.forall_mem_cons.2 ⟨
    piece 1 0 1 (kvAt_eq arg4 harg4 x2 0)
      (biasB arg15 harg15 xs1 i 1 (hd 0 0 0) _ (k0_off1_eq i 1) rfl (k0_off1_inb i 1))
      (biasB arg15 harg15 xs1 i 1 (hd 0 1 0) _ (k0_off2_eq i 1) rfl (k0_off2_inb i 1))
      (biasB arg15 harg15 xs1 i 1 (hd 0 0 1) _ (k0_off3_eq i 1) rfl (k0_off3_inb i 1))
      (biasB arg15 harg15 xs1 i 1 (hd 0 1 1) _ (k0_off4_eq i 1) rfl (k0_off4_inb i 1)) rfl, ?_⟩
  refine List.forall_mem_cons.2 ⟨
    piece 1 0 0 (kvAt_eq arg4 harg4 x2 0)
      (biasB arg15 harg15 xs1 i 1 (hd 0 0 0) _ (k0_off1_eq i 1) rfl (k0_off1_inb i 1))
      (biasB arg15 harg15 xs1 i 1 (hd 0 1 0) _ (k0_off2_eq i 1) rfl (k0_off2_inb i 1))
      (biasB arg15 harg15 xs1 i 1 (hd 0 0 1) _ (k0_off3_eq i 1) rfl (k0_off3_inb i 1))
      (biasB arg15 harg15 xs1 i 1 (hd 0 1 1) _ (k0_off4_eq i 1) rfl (k0_off4_inb i 1)) rfl, ?_⟩
  refine List.forall_mem_cons.2 ⟨
    piece 0 3 1 (headAt_eq arg5 harg5 x2 x3)
      (biasB arg15 harg15 xs1 i 0 (hd 3 0 0) _ (k0_off13_eq i 0) rfl (k0_off13_inb i 0))
      (biasB arg15 harg15 xs1 i 0 (hd 3 1 0) _ (k0_off14_eq i 0) rfl (k0_off14_inb i 0))
      (biasB arg15 harg15 xs1 i 0 (hd 3 0 1) _ (k0_off15_eq i 0) rfl (k0_off15_inb i 0))
      (biasB arg15 harg15 xs1 i 0 (hd 3 1 1) _ (k0_off16_eq i 0) rfl (k0_off16_inb i 0)) rfl, ?_⟩
  refine List.forall_mem_cons.2 ⟨
    piece 0 3 0 (headAt_eq arg5 harg5 x2 x3)
      (biasB arg15 harg15 xs1 i 0 (hd 3 0 0) _ (k0_off13_eq i 0) rfl (k0_off13_inb i 0))
      (biasB arg15 harg15 xs1 i 0 (hd 3 1 0) _ (k0_off14_eq i 0) rfl (k0_off14_inb i 0))
      (biasB arg15 harg15 xs1 i 0 (hd 3 0 1) _ (k0_off15_eq i 0) rfl (k0_off15_inb i 0))
      (biasB arg15 harg15 xs1 i 0 (hd 3 1 1) _ (k0_off16_eq i 0) rfl (k0_off16_inb i 0)) rfl, ?_⟩
  refine List.forall_mem_cons.2 ⟨
    piece 0 2 1 (headAt_eq arg5 harg5 x2 x3)
      (biasB arg15 harg15 xs1 i 0 (hd 2 0 0) _ (k0_off9_eq i 0) rfl (k0_off9_inb i 0))
      (biasB arg15 harg15 xs1 i 0 (hd 2 1 0) _ (k0_off10_eq i 0) rfl (k0_off10_inb i 0))
      (biasB arg15 harg15 xs1 i 0 (hd 2 0 1) _ (k0_off11_eq i 0) rfl (k0_off11_inb i 0))
      (biasB arg15 harg15 xs1 i 0 (hd 2 1 1) _ (k0_off12_eq i 0) rfl (k0_off12_inb i 0)) rfl, ?_⟩
  refine List.forall_mem_cons.2 ⟨
    piece 0 2 0 (headAt_eq arg5 harg5 x2 x3)
      (biasB arg15 harg15 xs1 i 0 (hd 2 0 0) _ (k0_off9_eq i 0) rfl (k0_off9_inb i 0))
      (biasB arg15 harg15 xs1 i 0 (hd 2 1 0) _ (k0_off10_eq i 0) rfl (k0_off10_inb i 0))
      (biasB arg15 harg15 xs1 i 0 (hd 2 0 1) _ (k0_off11_eq i 0) rfl (k0_off11_inb i 0))
      (biasB arg15 harg15 xs1 i 0 (hd 2 1 1) _ (k0_off12_eq i 0) rfl (k0_off12_inb i 0)) rfl, ?_⟩
  refine List.forall_mem_cons.2 ⟨
    piece 0 1 1 (headAt_eq arg5 harg5 x2 x3)
      (biasB arg15 harg15 xs1 i 0 (hd 1 0 0) _ (k0_off5_eq i 0) rfl (k0_off5_inb i 0))
      (biasB arg15 harg15 xs1 i 0 (hd 1 1 0) _ (k0_off6_eq i 0) rfl (k0_off6_inb i 0))
      (biasB arg15 harg15 xs1 i 0 (hd 1 0 1) _ (k0_off7_eq i 0) rfl (k0_off7_inb i 0))
      (biasB arg15 harg15 xs1 i 0 (hd 1 1 1) _ (k0_off8_eq i 0) rfl (k0_off8_inb i 0)) rfl, ?_⟩
  refine List.forall_mem_cons.2 ⟨
    piece 0 1 0 (headAt_eq arg5 harg5 x2 x3)
      (biasB arg15 harg15 xs1 i 0 (hd 1 0 0) _ (k0_off5_eq i 0) rfl (k0_off5_inb i 0))
      (biasB arg15 harg15 xs1 i 0 (hd 1 1 0) _ (k0_off6_eq i 0) rfl (k0_off6_inb i 0))
      (biasB arg15 harg15 xs1 i 0 (hd 1 0 1) _ (k0_off7_eq i 0) rfl (k0_off7_inb i 0))
      (biasB arg15 harg15 xs1 i 0 (hd 1 1 1) _ (k0_off8_eq i 0) rfl (k0_off8_inb i 0)) rfl, ?_⟩
  refine List.forall_mem_cons.2 ⟨
    piece 0 0 1 (headAt_eq arg5 harg5 x2 x3)
      (biasB arg15 harg15 xs1 i 0 (hd 0 0 0) _ (k0_off1_eq i 0) rfl (k0_off1_inb i 0))
      (biasB arg15 harg15 xs1 i 0 (hd 0 1 0) _ (k0_off2_eq i 0) rfl (k0_off2_inb i 0))
      (biasB arg15 harg15 xs1 i 0 (hd 0 0 1) _ (k0_off3_eq i 0) rfl (k0_off3_inb i 0))
      (biasB arg15 harg15 xs1 i 0 (hd 0 1 1) _ (k0_off4_eq i 0) rfl (k0_off4_inb i 0)) rfl, ?_⟩
  refine List.forall_mem_cons.2 ⟨
    piece 0 0 0 (headAt_eq arg5 harg5 x2 x3)
      (biasB arg15 harg15 xs1 i 0 (hd 0 0 0) _ (k0_off1_eq i 0) rfl (k0_off1_inb i 0))
      (biasB arg15 harg15 xs1 i 0 (hd 0 1 0) _ (k0_off2_eq i 0) rfl (k0_off2_inb i 0))
      (biasB arg15 harg15 xs1 i 0 (hd 0 0 1) _ (k0_off3_eq i 0) rfl (k0_off3_inb i 0))
      (biasB arg15 harg15 xs1 i 0 (hd 0 1 1) _ (k0_off4_eq i 0) rfl (k0_off4_inb i 0)) rfl, ?_⟩
  exact fun p hp => absurd hp (List.not_mem_nil)

end Attn

end
-- ==== Proof.OutA.lean ====
module

public import proofs.«01_k».proof.Proof.Piece

@[expose] public section

noncomputable section

/-! The twenty-four pieces of the gated output the first point of a core stores. -/

namespace Attn

open Cert.KernelIdeal Cert.KernelIdeal.Gen Idealize.ShloMosaic Idealize.ShloMosaic.ValueIdx Idealize.SL.Sem

theorem biasA (m : Memref sig .tc .vmem S16x384x128 .f32) (L : List (View.Piece (Elt Ideal) S16x384x128 .f32)) (T : Vec Ideal S16x384x128 .f32)
    (hT : View.canon L = T) (i : grid0.Coords) (j : Fin 3) (h : Fin 16)
    (off : Fin 3 → ℕ) {a : ℕ} (ho : off = ![a, 128 * min (3 * (i 1).val + j.val) 2, 0]) (ha : h.val = a)
    (inb : ∀ k, off k + S1x128x128.size k ≤ S16x384x128.size k) (r k : Fin 128) :
    m.view.readCov (Val := Elt Ideal) L (Rect.unit (s := S16x384x128) off S1x128x128.size inb).toLoadRect (ix3 (0 : Fin 1) r k)
      = biasOf T (i 1).val j h r k := by
  subst ho
  rw [View.readCov_eq_canon', hT]
  refine congrArg T (funext fun b => Fin.ext ?_)
  match b with
  | ⟨0, _⟩ => show a + 1 * 0 = h.val; omega
  | ⟨1, _⟩ => show 128 * min (3 * (i 1).val + j.val) 2 + 1 * r.val = 128 * min (3 * (i 1).val + j.val) 2 + r.val; omega
  | ⟨2, _⟩ => show 0 + 1 * k.val = k.val; omega

theorem ogA (c : Dev nD) (i : grid0.Coords) (arg2 : Memref sig .tc .smem S16 .f32) (harg2 : arg2.IsWhole) (arg3 : Memref sig .tc .vmem S384x1024 .bf16) (harg3 : arg3.IsWhole) (arg4 : Memref sig .tc .vmem S384x1024 .bf16) (harg4 : arg4.IsWhole) (arg5 : Memref sig .tc .vmem S128x1024 .bf16) (harg5 : arg5.IsWhole) (arg6 : Memref sig .tc .vmem S384x1024 .f32) (harg6 : arg6.IsWhole) (arg11 : Memref sig .tc .vmem S16x128x128 .f32) (harg11 : arg11.IsWhole) (arg15 : Memref sig .tc .vmem S16x384x128 .f32) (x0 : Vec Ideal S16 .f32) (x1 : Vec Ideal S384x1024 .bf16) (x2 : Vec Ideal S384x1024 .bf16) (x3 : Vec Ideal S128x1024 .bf16) (x4 : Vec Ideal S384x1024 .f32) (x9 : Vec Ideal S16x128x128 .f32) (T : Vec Ideal S16x384x128 .f32) (hT : View.canon (kernelRun0_A.sl.HS1_48 (F := Ideal) c arg11 harg11 x9) = T) :
    ∀ p ∈ kernelRun0_A.sl.HS0_24 (F := Ideal) c i arg2 harg2 arg3 harg3 arg4 harg4 arg5 harg5 arg6 harg6 arg11 harg11 arg15 x0 x1 x2 x3 x4 x9, ∀ x, p.2 x = ogF x0 x1 x2 x3 x4 T (i 1).val (p.1.emb x) := by
  unfold kernelRun0_A.sl.HS0_24
  have piece := fun {kp t00 t01 t10 t11 v} => @piece_at arg2 harg2 arg3 harg3 arg4 harg4 arg6 harg6 x0 x1 x2 x3 x4 T (i 1).val kp t00 t01 t10 t11 v
  refine List.forall_mem_cons.2 ⟨
    piece 2 3 1 (kvAt_eq arg4 harg4 x2 1)
      (biasA arg15 _ T hT i 2 (hd 3 0 0) _ (k0_off13_eq i 2) rfl (k0_off13_inb i 2))
      (biasA arg15 _ T hT i 2 (hd 3 1 0) _ (k0_off14_eq i 2) rfl (k0_off14_inb i 2))
      (biasA arg15 _ T hT i 2 (hd 3 0 1) _ (k0_off15_eq i 2) rfl (k0_off15_inb i 2))
      (biasA arg15 _ T hT i 2 (hd 3 1 1) _ (k0_off16_eq i 2) rfl (k0_off16_inb i 2)) rfl, ?_⟩
  refine List.forall_mem_cons.2 ⟨
    piece 2 3 0 (kvAt_eq arg4 harg4 x2 1)
      (biasA arg15 _ T hT i 2 (hd 3 0 0) _ (k0_off13_eq i 2) rfl (k0_off13_inb i 2))
      (biasA arg15 _ T hT i 2 (hd 3 1 0) _ (k0_off14_eq i 2) rfl (k0_off14_inb i 2))
      (biasA arg15 _ T hT i 2 (hd 3 0 1) _ (k0_off15_eq i 2) rfl (k0_off15_inb i 2))
      (biasA arg15 _ T hT i 2 (hd 3 1 1) _ (k0_off16_eq i 2) rfl (k0_off16_inb i 2)) rfl, ?_⟩
  refine List.forall_mem_cons.2 ⟨
    piece 2 2 1 (kvAt_eq arg4 harg4 x2 1)
      (biasA arg15 _ T hT i 2 (hd 2 0 0) _ (k0_off9_eq i 2) rfl (k0_off9_inb i 2))
      (biasA arg15 _ T hT i 2 (hd 2 1 0) _ (k0_off10_eq i 2) rfl (k0_off10_inb i 2))
      (biasA arg15 _ T hT i 2 (hd 2 0 1) _ (k0_off11_eq i 2) rfl (k0_off11_inb i 2))
      (biasA arg15 _ T hT i 2 (hd 2 1 1) _ (k0_off12_eq i 2) rfl (k0_off12_inb i 2)) rfl, ?_⟩
  refine List.forall_mem_cons.2 ⟨
    piece 2 2 0 (kvAt_eq arg4 harg4 x2 1)
      (biasA arg15 _ T hT i 2 (hd 2 0 0) _ (k0_off9_eq i 2) rfl (k0_off9_inb i 2))
      (biasA arg15 _ T hT i 2 (hd 2 1 0) _ (k0_off10_eq i 2) rfl (k0_off10_inb i 2))
      (biasA arg15 _ T hT i 2 (hd 2 0 1) _ (k0_off11_eq i 2) rfl (k0_off11_inb i 2))
      (biasA arg15 _ T hT i 2 (hd 2 1 1) _ (k0_off12_eq i 2) rfl (k0_off12_inb i 2)) rfl, ?_⟩
  refine List.forall_mem_cons.2 ⟨
    piece 2 1 1 (kvAt_eq arg4 harg4 x2 1)
      (biasA arg15 _ T hT i 2 (hd 1 0 0) _ (k0_off5_eq i 2) rfl (k0_off5_inb i 2))
      (biasA arg15 _ T hT i 2 (hd 1 1 0) _ (k0_off6_eq i 2) rfl (k0_off6_inb i 2))
      (biasA arg15 _ T hT i 2 (hd 1 0 1) _ (k0_off7_eq i 2) rfl (k0_off7_inb i 2))
      (biasA arg15 _ T hT i 2 (hd 1 1 1) _ (k0_off8_eq i 2) rfl (k0_off8_inb i 2)) rfl, ?_⟩
  refine List.forall_mem_cons.2 ⟨
    piece 2 1 0 (kvAt_eq arg4 harg4 x2 1)
      (biasA arg15 _ T hT i 2 (hd 1 0 0) _ (k0_off5_eq i 2) rfl (k0_off5_inb i 2))
      (biasA arg15 _ T hT i 2 (hd 1 1 0) _ (k0_off6_eq i 2) rfl (k0_off6_inb i 2))
      (biasA arg15 _ T hT i 2 (hd 1 0 1) _ (k0_off7_eq i 2) rfl (k0_off7_inb i 2))
      (biasA arg15 _ T hT i 2 (hd 1 1 1) _ (k0_off8_eq i 2) rfl (k0_off8_inb i 2)) rfl, ?_⟩
  refine List.forall_mem_cons.2 ⟨
    piece 2 0 1 (kvAt_eq arg4 harg4 x2 1)
      (biasA arg15 _ T hT i 2 (hd 0 0 0) _ (k0_off1_eq i 2) rfl (k0_off1_inb i 2))
      (biasA arg15 _ T hT i 2 (hd 0 1 0) _ (k0_off2_eq i 2) rfl (k0_off2_inb i 2))
      (biasA arg15 _ T hT i 2 (hd 0 0 1) _ (k0_off3_eq i 2) rfl (k0_off3_inb i 2))
      (biasA arg15 _ T hT i 2 (hd 0 1 1) _ (k0_off4_eq i 2) rfl (k0_off4_inb i 2)) rfl, ?_⟩
  refine List.forall_mem_cons.2 ⟨
    piece 2 0 0 (kvAt_eq arg4 harg4 x2 1)
      (biasA arg15 _ T hT i 2 (hd 0 0 0) _ (k0_off1_eq i 2) rfl (k0_off1_inb i 2))
      (biasA arg15 _ T hT i 2 (hd 0 1 0) _ (k0_off2_eq i 2) rfl (k0_off2_inb i 2))
      (biasA arg15 _ T hT i 2 (hd 0 0 1) _ (k0_off3_eq i 2) rfl (k0_off3_inb i 2))
      (biasA arg15 _ T hT i 2 (hd 0 1 1) _ (k0_off4_eq i 2) rfl (k0_off4_inb i 2)) rfl, ?_⟩
  refine List.forall_mem_cons.2 ⟨
    piece 1 3 1 (kvAt_eq arg4 harg4 x2 0)
      (biasA arg15 _ T hT i 1 (hd 3 0 0) _ (k0_off13_eq i 1) rfl (k0_off13_inb i 1))
      (biasA arg15 _ T hT i 1 (hd 3 1 0) _ (k0_off14_eq i 1) rfl (k0_off14_inb i 1))
      (biasA arg15 _ T hT i 1 (hd 3 0 1) _ (k0_off15_eq i 1) rfl (k0_off15_inb i 1))
      (biasA arg15 _ T hT i 1 (hd 3 1 1) _ (k0_off16_eq i 1) rfl (k0_off16_inb i 1)) rfl, ?_⟩
  refine List.forall_mem_cons.2 ⟨
    piece 1 3 0 (kvAt_eq arg4 harg4 x2 0)
      (biasA arg15 _ T hT i 1 (hd 3 0 0) _ (k0_off13_eq i 1) rfl (k0_off13_inb i 1))
      (biasA arg15 _ T hT i 1 (hd 3 1 0) _ (k0_off14_eq i 1) rfl (k0_off14_inb i 1))
      (biasA arg15 _ T hT i 1 (hd 3 0 1) _ (k0_off15_eq i 1) rfl (k0_off15_inb i 1))
      (biasA arg15 _ T hT i 1 (hd 3 1 1) _ (k0_off16_eq i 1) rfl (k0_off16_inb i 1)) rfl, ?_⟩
  refine List.forall_mem_cons.2 ⟨
    piece 1 2 1 (kvAt_eq arg4 harg4 x2 0)
      (biasA arg15 _ T hT i 1 (hd 2 0 0) _ (k0_off9_eq i 1) rfl (k0_off9_inb i 1))
      (biasA arg15 _ T hT i 1 (hd 2 1 0) _ (k0_off10_eq i 1) rfl (k0_off10_inb i 1))
      (biasA arg15 _ T hT i 1 (hd 2 0 1) _ (k0_off11_eq i 1) rfl (k0_off11_inb i 1))
      (biasA arg15 _ T hT i 1 (hd 2 1 1) _ (k0_off12_eq i 1) rfl (k0_off12_inb i 1)) rfl, ?_⟩
  refine List.forall_mem_cons.2 ⟨
    piece 1 2 0 (kvAt_eq arg4 harg4 x2 0)
      (biasA arg15 _ T hT i 1 (hd 2 0 0) _ (k0_off9_eq i 1) rfl (k0_off9_inb i 1))
      (biasA arg15 _ T hT i 1 (hd 2 1 0) _ (k0_off10_eq i 1) rfl (k0_off10_inb i 1))
      (biasA arg15 _ T hT i 1 (hd 2 0 1) _ (k0_off11_eq i 1) rfl (k0_off11_inb i 1))
      (biasA arg15 _ T hT i 1 (hd 2 1 1) _ (k0_off12_eq i 1) rfl (k0_off12_inb i 1)) rfl, ?_⟩
  refine List.forall_mem_cons.2 ⟨
    piece 1 1 1 (kvAt_eq arg4 harg4 x2 0)
      (biasA arg15 _ T hT i 1 (hd 1 0 0) _ (k0_off5_eq i 1) rfl (k0_off5_inb i 1))
      (biasA arg15 _ T hT i 1 (hd 1 1 0) _ (k0_off6_eq i 1) rfl (k0_off6_inb i 1))
      (biasA arg15 _ T hT i 1 (hd 1 0 1) _ (k0_off7_eq i 1) rfl (k0_off7_inb i 1))
      (biasA arg15 _ T hT i 1 (hd 1 1 1) _ (k0_off8_eq i 1) rfl (k0_off8_inb i 1)) rfl, ?_⟩
  refine List.forall_mem_cons.2 ⟨
    piece 1 1 0 (kvAt_eq arg4 harg4 x2 0)
      (biasA arg15 _ T hT i 1 (hd 1 0 0) _ (k0_off5_eq i 1) rfl (k0_off5_inb i 1))
      (biasA arg15 _ T hT i 1 (hd 1 1 0) _ (k0_off6_eq i 1) rfl (k0_off6_inb i 1))
      (biasA arg15 _ T hT i 1 (hd 1 0 1) _ (k0_off7_eq i 1) rfl (k0_off7_inb i 1))
      (biasA arg15 _ T hT i 1 (hd 1 1 1) _ (k0_off8_eq i 1) rfl (k0_off8_inb i 1)) rfl, ?_⟩
  refine List.forall_mem_cons.2 ⟨
    piece 1 0 1 (kvAt_eq arg4 harg4 x2 0)
      (biasA arg15 _ T hT i 1 (hd 0 0 0) _ (k0_off1_eq i 1) rfl (k0_off1_inb i 1))
      (biasA arg15 _ T hT i 1 (hd 0 1 0) _ (k0_off2_eq i 1) rfl (k0_off2_inb i 1))
      (biasA arg15 _ T hT i 1 (hd 0 0 1) _ (k0_off3_eq i 1) rfl (k0_off3_inb i 1))
      (biasA arg15 _ T hT i 1 (hd 0 1 1) _ (k0_off4_eq i 1) rfl (k0_off4_inb i 1)) rfl, ?_⟩
  refine List.forall_mem_cons.2 ⟨
    piece 1 0 0 (kvAt_eq arg4 harg4 x2 0)
      (biasA arg15 _ T hT i 1 (hd 0 0 0) _ (k0_off1_eq i 1) rfl (k0_off1_inb i 1))
      (biasA arg15 _ T hT i 1 (hd 0 1 0) _ (k0_off2_eq i 1) rfl (k0_off2_inb i 1))
      (biasA arg15 _ T hT i 1 (hd 0 0 1) _ (k0_off3_eq i 1) rfl (k0_off3_inb i 1))
      (biasA arg15 _ T hT i 1 (hd 0 1 1) _ (k0_off4_eq i 1) rfl (k0_off4_inb i 1)) rfl, ?_⟩
  refine List.forall_mem_cons.2 ⟨
    piece 0 3 1 (headAt_eq arg5 harg5 x2 x3)
      (biasA arg15 _ T hT i 0 (hd 3 0 0) _ (k0_off13_eq i 0) rfl (k0_off13_inb i 0))
      (biasA arg15 _ T hT i 0 (hd 3 1 0) _ (k0_off14_eq i 0) rfl (k0_off14_inb i 0))
      (biasA arg15 _ T hT i 0 (hd 3 0 1) _ (k0_off15_eq i 0) rfl (k0_off15_inb i 0))
      (biasA arg15 _ T hT i 0 (hd 3 1 1) _ (k0_off16_eq i 0) rfl (k0_off16_inb i 0)) rfl, ?_⟩
  refine List.forall_mem_cons.2 ⟨
    piece 0 3 0 (headAt_eq arg5 harg5 x2 x3)
      (biasA arg15 _ T hT i 0 (hd 3 0 0) _ (k0_off13_eq i 0) rfl (k0_off13_inb i 0))
      (biasA arg15 _ T hT i 0 (hd 3 1 0) _ (k0_off14_eq i 0) rfl (k0_off14_inb i 0))
      (biasA arg15 _ T hT i 0 (hd 3 0 1) _ (k0_off15_eq i 0) rfl (k0_off15_inb i 0))
      (biasA arg15 _ T hT i 0 (hd 3 1 1) _ (k0_off16_eq i 0) rfl (k0_off16_inb i 0)) rfl, ?_⟩
  refine List.forall_mem_cons.2 ⟨
    piece 0 2 1 (headAt_eq arg5 harg5 x2 x3)
      (biasA arg15 _ T hT i 0 (hd 2 0 0) _ (k0_off9_eq i 0) rfl (k0_off9_inb i 0))
      (biasA arg15 _ T hT i 0 (hd 2 1 0) _ (k0_off10_eq i 0) rfl (k0_off10_inb i 0))
      (biasA arg15 _ T hT i 0 (hd 2 0 1) _ (k0_off11_eq i 0) rfl (k0_off11_inb i 0))
      (biasA arg15 _ T hT i 0 (hd 2 1 1) _ (k0_off12_eq i 0) rfl (k0_off12_inb i 0)) rfl, ?_⟩
  refine List.forall_mem_cons.2 ⟨
    piece 0 2 0 (headAt_eq arg5 harg5 x2 x3)
      (biasA arg15 _ T hT i 0 (hd 2 0 0) _ (k0_off9_eq i 0) rfl (k0_off9_inb i 0))
      (biasA arg15 _ T hT i 0 (hd 2 1 0) _ (k0_off10_eq i 0) rfl (k0_off10_inb i 0))
      (biasA arg15 _ T hT i 0 (hd 2 0 1) _ (k0_off11_eq i 0) rfl (k0_off11_inb i 0))
      (biasA arg15 _ T hT i 0 (hd 2 1 1) _ (k0_off12_eq i 0) rfl (k0_off12_inb i 0)) rfl, ?_⟩
  refine List.forall_mem_cons.2 ⟨
    piece 0 1 1 (headAt_eq arg5 harg5 x2 x3)
      (biasA arg15 _ T hT i 0 (hd 1 0 0) _ (k0_off5_eq i 0) rfl (k0_off5_inb i 0))
      (biasA arg15 _ T hT i 0 (hd 1 1 0) _ (k0_off6_eq i 0) rfl (k0_off6_inb i 0))
      (biasA arg15 _ T hT i 0 (hd 1 0 1) _ (k0_off7_eq i 0) rfl (k0_off7_inb i 0))
      (biasA arg15 _ T hT i 0 (hd 1 1 1) _ (k0_off8_eq i 0) rfl (k0_off8_inb i 0)) rfl, ?_⟩
  refine List.forall_mem_cons.2 ⟨
    piece 0 1 0 (headAt_eq arg5 harg5 x2 x3)
      (biasA arg15 _ T hT i 0 (hd 1 0 0) _ (k0_off5_eq i 0) rfl (k0_off5_inb i 0))
      (biasA arg15 _ T hT i 0 (hd 1 1 0) _ (k0_off6_eq i 0) rfl (k0_off6_inb i 0))
      (biasA arg15 _ T hT i 0 (hd 1 0 1) _ (k0_off7_eq i 0) rfl (k0_off7_inb i 0))
      (biasA arg15 _ T hT i 0 (hd 1 1 1) _ (k0_off8_eq i 0) rfl (k0_off8_inb i 0)) rfl, ?_⟩
  refine List.forall_mem_cons.2 ⟨
    piece 0 0 1 (headAt_eq arg5 harg5 x2 x3)
      (biasA arg15 _ T hT i 0 (hd 0 0 0) _ (k0_off1_eq i 0) rfl (k0_off1_inb i 0))
      (biasA arg15 _ T hT i 0 (hd 0 1 0) _ (k0_off2_eq i 0) rfl (k0_off2_inb i 0))
      (biasA arg15 _ T hT i 0 (hd 0 0 1) _ (k0_off3_eq i 0) rfl (k0_off3_inb i 0))
      (biasA arg15 _ T hT i 0 (hd 0 1 1) _ (k0_off4_eq i 0) rfl (k0_off4_inb i 0)) rfl, ?_⟩
  refine List.forall_mem_cons.2 ⟨
    piece 0 0 0 (headAt_eq arg5 harg5 x2 x3)
      (biasA arg15 _ T hT i 0 (hd 0 0 0) _ (k0_off1_eq i 0) rfl (k0_off1_inb i 0))
      (biasA arg15 _ T hT i 0 (hd 0 1 0) _ (k0_off2_eq i 0) rfl (k0_off2_inb i 0))
      (biasA arg15 _ T hT i 0 (hd 0 0 1) _ (k0_off3_eq i 0) rfl (k0_off3_inb i 0))
      (biasA arg15 _ T hT i 0 (hd 0 1 1) _ (k0_off4_eq i 0) rfl (k0_off4_inb i 0)) rfl, ?_⟩
  exact fun p hp => absurd hp (List.not_mem_nil)

end Attn

end
-- ==== Proof.BiasTab.lean ====
module

public import proofs.«01_k».proof.Proof.OutA

@[expose] public section

noncomputable section

/-! The bias table the first point leaves in the scratch: the bias masked for the first block, for the second, and whole. -/

namespace Attn

open Cert.KernelIdeal Cert.KernelIdeal.Gen Idealize.ShloMosaic Idealize.ShloMosaic.ValueIdx Idealize.SL.Sem

/-- The table at head `h`, part `t`, row `r`, column `k`. -/
def btabAt (x9 : Vec Ideal S16x128x128 .f32) (t : ℕ) (h : Fin 16) (r k : Fin 128) : EReal :=
  if t = 0 then (if k.val ≤ r.val then (if 112 ≤ k.val then x9 (ix3 h r k) else ⊥) else ⊥)
  else if t = 1 then (if k.val ≤ r.val then x9 (ix3 h r k) else (if 112 ≤ k.val then x9 (ix3 h r k) else ⊥))
  else x9 (ix3 h r k)

/-- The table. -/
def btab (x9 : Vec Ideal S16x128x128 .f32) : Vec Ideal S16x384x128 .f32 := fun y =>
  have h1 : (y 1).val < 384 := (y 1).isLt
  btabAt x9 ((y 1).val / 128) (y 0) ⟨(y 1).val % 128, by omega⟩ (y 2)

theorem btab_apply (x9 : Vec Ideal S16x128x128 .f32) (y : S16x384x128.Idx) (t : ℕ) (h : Fin 16) (r k : Fin 128)
    (h0 : (y 0).val = h.val) (h1 : (y 1).val = 128 * t + r.val) (h2 : (y 2).val = k.val) : btab x9 y = btabAt x9 t h r k := by
  show btabAt x9 _ _ _ _ = _
  congr 1
  · omega
  · exact Fin.ext h0
  · exact Fin.ext (by show (y 1).val % 128 = _; omega)
  · exact Fin.ext h2

theorem own1_apply (r k : Fin 128) : k0_pay2 (ix2 r k) = if k.val ≤ r.val then 1#1 else 0#1 := by
  have e : k0_pay2 (ix2 r k) = IntOp.cmpi .sle (iota .tc S128x128 32 [1] iota_S128x128_d1_w32 (ix2 r k))
    (iota .tc S128x128 32 [0] iota_S128x128_d0_w32 (ix2 r k)) := rfl
  rw [e, iota_single_apply, iota_single_apply]
  show IntOp.cmpi .sle (BitVec.ofNat 32 k.val) (BitVec.ofNat 32 r.val) = _
  rw [WordCmp.cmpi_sle_ofNat (by omega) (by omega), ofBool_decide]

theorem ge112_apply (r k : Fin 128) : k0_pay3 (ix2 r k) = if 112 ≤ k.val then 1#1 else 0#1 := by
  have e : k0_pay3 (ix2 r k) = IntOp.cmpi .sge (iota .tc S128x128 32 [1] iota_S128x128_d1_w32 (ix2 r k)) 112#32 := rfl
  rw [e, iota_single_apply]
  show IntOp.cmpi .sge (BitVec.ofNat 32 k.val) 112#32 = _
  clear e
  revert k; decide

theorem mask_bot : (Named.named (F := Ideal) (φ := .f32) κ "mask" 0xF149F2CA#32 : EReal) = ⊥ := rfl

theorem cast_in (b : Vec Ideal S1x128x128 .f32) (r k : Fin 128) :
    (shapeCast S128x128 b shapeCasts_S1x128x128_S128x128 : FVec Ideal S128x128 .f32) (ix2 r k) = b (ix3 (0 : Fin 1) r k) :=
  shapeCast_apply _ _ _ (ix3 (0 : Fin 1) r k) (by rw [Shape.rowMajor_val_three, Shape.rowMajor_val_two]; show (0 * 128 + r.val) * 128 + k.val = r.val * 128 + k.val; omega)

theorem cast_out (b : FVec Ideal S128x128 .f32) (r k : Fin 128) :
    (shapeCast S1x128x128 b shapeCasts_S128x128_S1x128x128 : FVec Ideal S1x128x128 .f32) (ix3 (0 : Fin 1) r k) = b (ix2 r k) :=
  shapeCast_apply _ _ _ (ix2 r k) (by rw [Shape.rowMajor_val_three, Shape.rowMajor_val_two]; show r.val * 128 + k.val = (0 * 128 + r.val) * 128 + k.val; omega)

theorem pay5_apply (b : Vec Ideal S1x128x128 .f32) (r k : Fin 128) :
    k0_pay5 b (ix2 r k) = if 112 ≤ k.val then b (ix3 (0 : Fin 1) r k) else (⊥ : EReal) := by
  show Scalar.select (k0_pay3 (ix2 r k)) (k0_pay4 b (ix2 r k)) (Named.named κ "mask" 0xF149F2CA#32) = _
  rw [ge112_apply, sel_if, mask_bot]
  unfold k0_pay4
  rw [cast_in]

theorem pay6_apply (b : Vec Ideal S1x128x128 .f32) (r k : Fin 128) :
    k0_pay6 b (ix3 (0 : Fin 1) r k) = if k.val ≤ r.val then (if 112 ≤ k.val then b (ix3 (0 : Fin 1) r k) else (⊥ : EReal)) else ⊥ := by
  unfold k0_pay6
  rw [cast_out]
  show Scalar.select (k0_pay2 (ix2 r k)) (k0_pay5 b (ix2 r k)) (Named.named κ "mask" 0xF149F2CA#32) = _
  rw [own1_apply, sel_if, mask_bot, pay5_apply]

theorem pay7_apply (b : Vec Ideal S1x128x128 .f32) (r k : Fin 128) :
    k0_pay7 b (ix3 (0 : Fin 1) r k) = if k.val ≤ r.val then b (ix3 (0 : Fin 1) r k) else (if 112 ≤ k.val then b (ix3 (0 : Fin 1) r k) else (⊥ : EReal)) := by
  unfold k0_pay7
  rw [cast_out]
  show Scalar.select (k0_pay2 (ix2 r k)) (k0_pay4 b (ix2 r k)) (k0_pay5 b (ix2 r k)) = _
  rw [own1_apply, sel_if, pay5_apply]
  unfold k0_pay4
  rw [cast_in]

theorem pay8_apply (b : Vec Ideal S1x128x128 .f32) (r k : Fin 128) : k0_pay8 b (ix3 (0 : Fin 1) r k) = b (ix3 (0 : Fin 1) r k) := by
  unfold k0_pay8 k0_pay4
  rw [cast_out, cast_in]

/-- A stored piece of the table is the matching part of it. -/
theorem fill_apply (x9 : Vec Ideal S16x128x128 .f32) (m : Memref sig .tc .vmem S16x128x128 .f32) (hm : m.IsWhole) (h : Fin 16) (t : Fin 3) (o0 o1 : ℕ)
    (inb : ∀ k, (![o0, 0, 0] : Fin 3 → ℕ) k + S1x128x128.size k ≤ S16x128x128.size k)
    (inb' : ∀ k, (![o0, o1, 0] : Fin 3 → ℕ) k + S1x128x128.size k ≤ S16x384x128.size k) (v : Vec Ideal S1x128x128 .f32)
    (hv : v = (match t with | 0 => k0_pay6 | 1 => k0_pay7 | 2 => k0_pay8 : Vec Ideal S1x128x128 .f32 → FVec Ideal S1x128x128 .f32)
      (View.readAt (Elt Ideal) m.view (Rect.unit (s := S16x128x128) ![o0, 0, 0] S1x128x128.size inb).toLoadRect (hm.unread x9)))
    (ho : o0 = h.val ∧ o1 = 128 * t.val) (x : S1x128x128.Idx) :
    v x = btab x9 ((Rect.unit (s := S16x384x128) ![o0, o1, 0] S1x128x128.size inb').emb x) := by
  obtain ⟨r, k, rfl⟩ : ∃ r k, x = ix3 (0 : Fin 1) r k := ⟨x 1, x 2, by
    refine (eq_ix3 x).trans ?_
    have : x 0 = (0 : Fin 1) := Fin.ext (by have : (x 0).val < 1 := (x 0).isLt; show (x 0).val = 0; omega)
    rw [this]; rfl⟩
  obtain ⟨e0, e1⟩ := ho
  have hb := rd3 m hm x9 ![o0, 0, 0] inb r k h r k e0.symm (by show r.val = 0 + r.val; omega) (by show k.val = 0 + k.val; omega)
  rw [btab_apply x9 _ t.val h r k (by show o0 + 1 * 0 = _; omega) (by show o1 + 1 * r.val = _; omega) (by show 0 + 1 * k.val = _; omega), hv]
  unfold btabAt
  rw [← hb]
  match t with
  | 0 => exact pay6_apply _ r k
  | 1 => exact pay7_apply _ r k
  | 2 => exact pay8_apply _ r k

set_option maxHeartbeats 2000000 in
theorem fills (c : Dev nD) (arg11 : Memref sig .tc .vmem S16x128x128 .f32) (harg11 : arg11.IsWhole) (x9 : Vec Ideal S16x128x128 .f32) :
    ∀ p ∈ kernelRun0_A.sl.HS1_48 (F := Ideal) c arg11 harg11 x9, ∀ x, p.2 x = btab x9 (p.1.emb x) := by
  unfold kernelRun0_A.sl.HS1_48
  refine List.forall_mem_cons.2 ⟨fill_apply x9 arg11 harg11 15 2 15 256 inb_S16x128x128_S1x128x128_15_0_0 inb_S16x384x128_S1x128x128_15_256_0 _ rfl ⟨rfl, rfl⟩, ?_⟩
  refine List.forall_mem_cons.2 ⟨fill_apply x9 arg11 harg11 15 1 15 128 inb_S16x128x128_S1x128x128_15_0_0 inb_S16x384x128_S1x128x128_15_128_0 _ rfl ⟨rfl, rfl⟩, ?_⟩
  refine List.forall_mem_cons.2 ⟨fill_apply x9 arg11 harg11 15 0 15 0 inb_S16x128x128_S1x128x128_15_0_0 inb_S16x384x128_S1x128x128_15_0_0 _ rfl ⟨rfl, rfl⟩, ?_⟩
  refine List.forall_mem_cons.2 ⟨fill_apply x9 arg11 harg11 14 2 14 256 inb_S16x128x128_S1x128x128_14_0_0 inb_S16x384x128_S1x128x128_14_256_0 _ rfl ⟨rfl, rfl⟩, ?_⟩
  refine List.forall_mem_cons.2 ⟨fill_apply x9 arg11 harg11 14 1 14 128 inb_S16x128x128_S1x128x128_14_0_0 inb_S16x384x128_S1x128x128_14_128_0 _ rfl ⟨rfl, rfl⟩, ?_⟩
  refine List.forall_mem_cons.2 ⟨fill_apply x9 arg11 harg11 14 0 14 0 inb_S16x128x128_S1x128x128_14_0_0 inb_S16x384x128_S1x128x128_14_0_0 _ rfl ⟨rfl, rfl⟩, ?_⟩
  refine List.forall_mem_cons.2 ⟨fill_apply x9 arg11 harg11 13 2 13 256 inb_S16x128x128_S1x128x128_13_0_0 inb_S16x384x128_S1x128x128_13_256_0 _ rfl ⟨rfl, rfl⟩, ?_⟩
  refine List.forall_mem_cons.2 ⟨fill_apply x9 arg11 harg11 13 1 13 128 inb_S16x128x128_S1x128x128_13_0_0 inb_S16x384x128_S1x128x128_13_128_0 _ rfl ⟨rfl, rfl⟩, ?_⟩
  refine List.forall_mem_cons.2 ⟨fill_apply x9 arg11 harg11 13 0 13 0 inb_S16x128x128_S1x128x128_13_0_0 inb_S16x384x128_S1x128x128_13_0_0 _ rfl ⟨rfl, rfl⟩, ?_⟩
  refine List.forall_mem_cons.2 ⟨fill_apply x9 arg11 harg11 12 2 12 256 inb_S16x128x128_S1x128x128_12_0_0 inb_S16x384x128_S1x128x128_12_256_0 _ rfl ⟨rfl, rfl⟩, ?_⟩
  refine List.forall_mem_cons.2 ⟨fill_apply x9 arg11 harg11 12 1 12 128 inb_S16x128x128_S1x128x128_12_0_0 inb_S16x384x128_S1x128x128_12_128_0 _ rfl ⟨rfl, rfl⟩, ?_⟩
  refine List.forall_mem_cons.2 ⟨fill_apply x9 arg11 harg11 12 0 12 0 inb_S16x128x128_S1x128x128_12_0_0 inb_S16x384x128_S1x128x128_12_0_0 _ rfl ⟨rfl, rfl⟩, ?_⟩
  refine List.forall_mem_cons.2 ⟨fill_apply x9 arg11 harg11 11 2 11 256 inb_S16x128x128_S1x128x128_11_0_0 inb_S16x384x128_S1x128x128_11_256_0 _ rfl ⟨rfl, rfl⟩, ?_⟩
  refine List.forall_mem_cons.2 ⟨fill_apply x9 arg11 harg11 11 1 11 128 inb_S16x128x128_S1x128x128_11_0_0 inb_S16x384x128_S1x128x128_11_128_0 _ rfl ⟨rfl, rfl⟩, ?_⟩
  refine List.forall_mem_cons.2 ⟨fill_apply x9 arg11 harg11 11 0 11 0 inb_S16x128x128_S1x128x128_11_0_0 inb_S16x384x128_S1x128x128_11_0_0 _ rfl ⟨rfl, rfl⟩, ?_⟩
  refine List.forall_mem_cons.2 ⟨fill_apply x9 arg11 harg11 10 2 10 256 inb_S16x128x128_S1x128x128_10_0_0 inb_S16x384x128_S1x128x128_10_256_0 _ rfl ⟨rfl, rfl⟩, ?_⟩
  refine List.forall_mem_cons.2 ⟨fill_apply x9 arg11 harg11 10 1 10 128 inb_S16x128x128_S1x128x128_10_0_0 inb_S16x384x128_S1x128x128_10_128_0 _ rfl ⟨rfl, rfl⟩, ?_⟩
  refine List.forall_mem_cons.2 ⟨fill_apply x9 arg11 harg11 10 0 10 0 inb_S16x128x128_S1x128x128_10_0_0 inb_S16x384x128_S1x128x128_10_0_0 _ rfl ⟨rfl, rfl⟩, ?_⟩
  refine List.forall_mem_cons.2 ⟨fill_apply x9 arg11 harg11 9 2 9 256 inb_S16x128x128_S1x128x128_9_0_0 inb_S16x384x128_S1x128x128_9_256_0 _ rfl ⟨rfl, rfl⟩, ?_⟩
  refine List.forall_mem_cons.2 ⟨fill_apply x9 arg11 harg11 9 1 9 128 inb_S16x128x128_S1x128x128_9_0_0 inb_S16x384x128_S1x128x128_9_128_0 _ rfl ⟨rfl, rfl⟩, ?_⟩
  refine List.forall_mem_cons.2 ⟨fill_apply x9 arg11 harg11 9 0 9 0 inb_S16x128x128_S1x128x128_9_0_0 inb_S16x384x128_S1x128x128_9_0_0 _ rfl ⟨rfl, rfl⟩, ?_⟩
  refine List.forall_mem_cons.2 ⟨fill_apply x9 arg11 harg11 8 2 8 256 inb_S16x128x128_S1x128x128_8_0_0 inb_S16x384x128_S1x128x128_8_256_0 _ rfl ⟨rfl, rfl⟩, ?_⟩
  refine List.forall_mem_cons.2 ⟨fill_apply x9 arg11 harg11 8 1 8 128 inb_S16x128x128_S1x128x128_8_0_0 inb_S16x384x128_S1x128x128_8_128_0 _ rfl ⟨rfl, rfl⟩, ?_⟩
  refine List.forall_mem_cons.2 ⟨fill_apply x9 arg11 harg11 8 0 8 0 inb_S16x128x128_S1x128x128_8_0_0 inb_S16x384x128_S1x128x128_8_0_0 _ rfl ⟨rfl, rfl⟩, ?_⟩
  refine List.forall_mem_cons.2 ⟨fill_apply x9 arg11 harg11 7 2 7 256 inb_S16x128x128_S1x128x128_7_0_0 inb_S16x384x128_S1x128x128_7_256_0 _ rfl ⟨rfl, rfl⟩, ?_⟩
  refine List.forall_mem_cons.2 ⟨fill_apply x9 arg11 harg11 7 1 7 128 inb_S16x128x128_S1x128x128_7_0_0 inb_S16x384x128_S1x128x128_7_128_0 _ rfl ⟨rfl, rfl⟩, ?_⟩
  refine List.forall_mem_cons.2 ⟨fill_apply x9 arg11 harg11 7 0 7 0 inb_S16x128x128_S1x128x128_7_0_0 inb_S16x384x128_S1x128x128_7_0_0 _ rfl ⟨rfl, rfl⟩, ?_⟩
  refine List.forall_mem_cons.2 ⟨fill_apply x9 arg11 harg11 6 2 6 256 inb_S16x128x128_S1x128x128_6_0_0 inb_S16x384x128_S1x128x128_6_256_0 _ rfl ⟨rfl, rfl⟩, ?_⟩
  refine List.forall_mem_cons.2 ⟨fill_apply x9 arg11 harg11 6 1 6 128 inb_S16x128x128_S1x128x128_6_0_0 inb_S16x384x128_S1x128x128_6_128_0 _ rfl ⟨rfl, rfl⟩, ?_⟩
  refine List.forall_mem_cons.2 ⟨fill_apply x9 arg11 harg11 6 0 6 0 inb_S16x128x128_S1x128x128_6_0_0 inb_S16x384x128_S1x128x128_6_0_0 _ rfl ⟨rfl, rfl⟩, ?_⟩
  refine List.forall_mem_cons.2 ⟨fill_apply x9 arg11 harg11 5 2 5 256 inb_S16x128x128_S1x128x128_5_0_0 inb_S16x384x128_S1x128x128_5_256_0 _ rfl ⟨rfl, rfl⟩, ?_⟩
  refine List.forall_mem_cons.2 ⟨fill_apply x9 arg11 harg11 5 1 5 128 inb_S16x128x128_S1x128x128_5_0_0 inb_S16x384x128_S1x128x128_5_128_0 _ rfl ⟨rfl, rfl⟩, ?_⟩
  refine List.forall_mem_cons.2 ⟨fill_apply x9 arg11 harg11 5 0 5 0 inb_S16x128x128_S1x128x128_5_0_0 inb_S16x384x128_S1x128x128_5_0_0 _ rfl ⟨rfl, rfl⟩, ?_⟩
  refine List.forall_mem_cons.2 ⟨fill_apply x9 arg11 harg11 4 2 4 256 inb_S16x128x128_S1x128x128_4_0_0 inb_S16x384x128_S1x128x128_4_256_0 _ rfl ⟨rfl, rfl⟩, ?_⟩
  refine List.forall_mem_cons.2 ⟨fill_apply x9 arg11 harg11 4 1 4 128 inb_S16x128x128_S1x128x128_4_0_0 inb_S16x384x128_S1x128x128_4_128_0 _ rfl ⟨rfl, rfl⟩, ?_⟩
  refine List.forall_mem_cons.2 ⟨fill_apply x9 arg11 harg11 4 0 4 0 inb_S16x128x128_S1x128x128_4_0_0 inb_S16x384x128_S1x128x128_4_0_0 _ rfl ⟨rfl, rfl⟩, ?_⟩
  refine List.forall_mem_cons.2 ⟨fill_apply x9 arg11 harg11 3 2 3 256 inb_S16x128x128_S1x128x128_3_0_0 inb_S16x384x128_S1x128x128_3_256_0 _ rfl ⟨rfl, rfl⟩, ?_⟩
  refine List.forall_mem_cons.2 ⟨fill_apply x9 arg11 harg11 3 1 3 128 inb_S16x128x128_S1x128x128_3_0_0 inb_S16x384x128_S1x128x128_3_128_0 _ rfl ⟨rfl, rfl⟩, ?_⟩
  refine List.forall_mem_cons.2 ⟨fill_apply x9 arg11 harg11 3 0 3 0 inb_S16x128x128_S1x128x128_3_0_0 inb_S16x384x128_S1x128x128_3_0_0 _ rfl ⟨rfl, rfl⟩, ?_⟩
  refine List.forall_mem_cons.2 ⟨fill_apply x9 arg11 harg11 2 2 2 256 inb_S16x128x128_S1x128x128_2_0_0 inb_S16x384x128_S1x128x128_2_256_0 _ rfl ⟨rfl, rfl⟩, ?_⟩
  refine List.forall_mem_cons.2 ⟨fill_apply x9 arg11 harg11 2 1 2 128 inb_S16x128x128_S1x128x128_2_0_0 inb_S16x384x128_S1x128x128_2_128_0 _ rfl ⟨rfl, rfl⟩, ?_⟩
  refine List.forall_mem_cons.2 ⟨fill_apply x9 arg11 harg11 2 0 2 0 inb_S16x128x128_S1x128x128_2_0_0 inb_S16x384x128_S1x128x128_2_0_0 _ rfl ⟨rfl, rfl⟩, ?_⟩
  refine List.forall_mem_cons.2 ⟨fill_apply x9 arg11 harg11 1 2 1 256 inb_S16x128x128_S1x128x128_1_0_0 inb_S16x384x128_S1x128x128_1_256_0 _ rfl ⟨rfl, rfl⟩, ?_⟩
  refine List.forall_mem_cons.2 ⟨fill_apply x9 arg11 harg11 1 1 1 128 inb_S16x128x128_S1x128x128_1_0_0 inb_S16x384x128_S1x128x128_1_128_0 _ rfl ⟨rfl, rfl⟩, ?_⟩
  refine List.forall_mem_cons.2 ⟨fill_apply x9 arg11 harg11 1 0 1 0 inb_S16x128x128_S1x128x128_1_0_0 inb_S16x384x128_S1x128x128_1_0_0 _ rfl ⟨rfl, rfl⟩, ?_⟩
  refine List.forall_mem_cons.2 ⟨fill_apply x9 arg11 harg11 0 2 0 256 inb_S16x128x128_S1x128x128_0_0_0 inb_S16x384x128_S1x128x128_0_256_0 _ rfl ⟨rfl, rfl⟩, ?_⟩
  refine List.forall_mem_cons.2 ⟨fill_apply x9 arg11 harg11 0 1 0 128 inb_S16x128x128_S1x128x128_0_0_0 inb_S16x384x128_S1x128x128_0_128_0 _ rfl ⟨rfl, rfl⟩, ?_⟩
  refine List.forall_mem_cons.2 ⟨fill_apply x9 arg11 harg11 0 0 0 0 inb_S16x128x128_S1x128x128_0_0_0 inb_S16x384x128_S1x128x128_0_0_0 _ rfl ⟨rfl, rfl⟩, ?_⟩
  exact fun p hp => absurd hp (List.not_mem_nil)

end Attn

end
-- ==== Proof.Point.lean ====
module

public import proofs.«01_k».proof.Proof.OutB
public import proofs.«01_k».proof.Proof.BiasTab

@[expose] public section

noncomputable section

/-! What one point writes to its block: the residual rows plus the gated output through the output projection. -/

namespace Attn

open Cert.KernelIdeal Cert.KernelIdeal.Gen Idealize.ShloMosaic Idealize.ShloMosaic.ValueIdx Idealize.SL.Sem

/-- The residual at row `R`: the first block of the first column of points is the prompt's head, the others the tokens. -/
def residAt (w : ℕ) (x5 x6 x7 x8 : Vec Ideal S128x1024 .f32) (j : Fin 3) (r : Fin 128) (C : Fin 1024) : EReal :=
  if j = 0 then (if w = 0 then x5 (ix2 r C) else x6 (ix2 r C)) else if j = 1 then x7 (ix2 r C) else x8 (ix2 r C)

theorem concat3 (x y z : FVec Ideal S128x1024 .f32) (j : Fin 3) (r : Fin 128) (C : Fin 1024) :
    concatenate S384x1024 0 [⟨S128x1024, x⟩, ⟨S128x1024, y⟩, ⟨S128x1024, z⟩] concatenates_S128x1024_S128x1024_S128x1024_S384x1024_d0 (ix2 (brow j r) C)
      = if j = 0 then x (ix2 r C) else if j = 1 then y (ix2 r C) else z (ix2 r C) := by
  obtain rfl | rfl | rfl : j = 0 ∨ j = 1 ∨ j = 2 := by omega
  · refine concatenate_apply_piece (t := S384x1024) (0 : Fin 2) [⟨S128x1024, x⟩, ⟨S128x1024, y⟩, ⟨S128x1024, z⟩]
      concatenates_S128x1024_S128x1024_S128x1024_S384x1024_d0 (ix2 (brow 0 r) C) 0 (by show _ < 3; omega) S128x1024 x rfl rfl 0 rfl (ix2 r C) ?_ ?_
    · intro b hb
      match b with
      | ⟨0, _⟩ => exact absurd rfl hb
      | ⟨1, _⟩ => rfl
    · show 0 + r.val = 128 * 0 + r.val; omega
  · refine concatenate_apply_piece (t := S384x1024) (0 : Fin 2) [⟨S128x1024, x⟩, ⟨S128x1024, y⟩, ⟨S128x1024, z⟩]
      concatenates_S128x1024_S128x1024_S128x1024_S384x1024_d0 (ix2 (brow 1 r) C) 1 (by show _ < 3; omega) S128x1024 y rfl rfl 128 rfl (ix2 r C) ?_ ?_
    · intro b hb
      match b with
      | ⟨0, _⟩ => exact absurd rfl hb
      | ⟨1, _⟩ => rfl
    · show 128 + r.val = 128 * 1 + r.val; omega
  · refine concatenate_apply_piece (t := S384x1024) (0 : Fin 2) [⟨S128x1024, x⟩, ⟨S128x1024, y⟩, ⟨S128x1024, z⟩]
      concatenates_S128x1024_S128x1024_S128x1024_S384x1024_d0 (ix2 (brow 2 r) C) 2 (by show _ < 3; omega) S128x1024 z rfl rfl 256 rfl (ix2 r C) ?_ ?_
    · intro b hb
      match b with
      | ⟨0, _⟩ => exact absurd rfl hb
      | ⟨1, _⟩ => rfl
    · show 256 + r.val = 128 * 2 + r.val; omega

theorem resid_apply (w : BitVec 1) (x5 x6 x7 x8 : Vec Ideal S128x1024 .f32) (j : Fin 3) (r : Fin 128) (C : Fin 1024) :
    k0_pay424 w x5 x6 x7 x8 (ix2 (brow j r) C) = if j = 0 then (Scalar.select w x5 x6 : Vec Ideal S128x1024 .f32) (ix2 r C) else if j = 1 then x7 (ix2 r C) else x8 (ix2 r C) := by
  unfold k0_pay424
  rw [shapeCast_self, shapeCast_self, shapeCast_self, shapeCast_self]
  exact concat3 _ _ _ j r C

theorem proj_apply (v og w) (R : Fin 384) (C : Fin 1024) :
    k0_pay1 (F := Ideal) v og w (ix2 R C) = (v (ix2 R C) : EReal) + ∑ k : Fin 1024, (og (ix2 R k) : EReal) * w (ix2 k C) := by
  unfold k0_pay1
  rw [shapeCast_self, addf_apply]
  refine congrArg (fun z : EReal => v (ix2 R C) + z) ?_
  refine (Ideal.matmul_plain_apply (M := 384) (K := 1024) (N := 1024) none og w (constant S384x1024 .f32 0x00000000#32) R C).trans ?_
  show Ideal.ofBits .f32 0x00000000#32 + _ = _
  rw [Ideal.ofBits_zero_f32, zero_add]

/-- What a point writes at row `r` of block `j`. -/
def outAt (w : ℕ) (x0 : Vec Ideal S16 .f32) (x1 x2 : Vec Ideal S384x1024 .bf16) (x3 : Vec Ideal S128x1024 .bf16) (x4 : Vec Ideal S384x1024 .f32)
    (x5 x6 x7 x8 : Vec Ideal S128x1024 .f32) (x10 : Vec Ideal S1024x1024 .bf16) (T : Vec Ideal S16x384x128 .f32)
    (j : Fin 3) (r : Fin 128) (C : Fin 1024) : EReal :=
  residAt w x5 x6 x7 x8 j r C + ∑ k : Fin 1024, (ogF x0 x1 x2 x3 x4 T w (ix2 (brow j r) k) : EReal) * x10 (ix2 k C)

theorem og_read (m : Memref sig .tc .vmem S384x1024 .bf16) (L : List (View.Piece (Elt Ideal) S384x1024 .bf16)) (G : Vec Ideal S384x1024 .bf16)
    (hL : ∀ p ∈ L, ∀ x, p.2 x = G (p.1.emb x)) (hc : ∀ y, ∃ p ∈ L, y ∈ p.1.set) (inb : ∀ k, (![0, 0] : Fin 2 → ℕ) k + (![384, 1024] : Fin 2 → ℕ) k ≤ S384x1024.size k)
    (R : Fin 384) (k : Fin 1024) :
    m.view.readCov (Val := Elt Ideal) L (Rect.unit (s := S384x1024) ![0, 0] ![384, 1024] inb).toLoadRect (ix2 R k) = G (ix2 R k) := by
  rw [View.readCov_eq_canon']
  have e : (Rect.unit (s := S384x1024) ![0, 0] ![384, 1024] inb).toLoadRect.idx (ix2 R k) = ix2 R k := by
    funext a; apply Fin.ext
    match a with
    | ⟨0, _⟩ => show 0 + 1 * R.val = R.val; omega
    | ⟨1, _⟩ => show 0 + 1 * k.val = k.val; omega
  refine (congrArg (View.canon L) e).trans ?_
  exact View.canon_apply_of_pieces G L hL _ (hc _)

theorem first_word (i : grid0.Coords) : Scalar.cmpi .eq (BitVec.ofNat 32 (i 1).val) 0#32 = if (i 1).val = 0 then 1#1 else 0#1 := by
  revert i; decide +kernel

theorem out_B (c : Dev nD) (i : grid0.Coords) (arg2 : Memref sig .tc .smem S16 .f32) (harg2 : arg2.IsWhole) (arg3 : Memref sig .tc .vmem S384x1024 .bf16) (harg3 : arg3.IsWhole) (arg4 : Memref sig .tc .vmem S384x1024 .bf16) (harg4 : arg4.IsWhole) (arg5 : Memref sig .tc .vmem S128x1024 .bf16) (harg5 : arg5.IsWhole) (arg6 : Memref sig .tc .vmem S384x1024 .f32) (harg6 : arg6.IsWhole) (arg7 : Memref sig .tc .vmem S128x1024 .f32) (harg7 : arg7.IsWhole) (arg8 : Memref sig .tc .vmem S128x1024 .f32) (harg8 : arg8.IsWhole) (arg9 : Memref sig .tc .vmem S128x1024 .f32) (harg9 : arg9.IsWhole) (arg10 : Memref sig .tc .vmem S128x1024 .f32) (harg10 : arg10.IsWhole) (arg11 : Memref sig .tc .vmem S16x128x128 .f32) (harg11 : arg11.IsWhole) (arg12 : Memref sig .tc .vmem S1024x1024 .bf16) (harg12 : arg12.IsWhole) (arg13 : Memref sig .tc .vmem S384x1024 .f32) (harg13 : arg13.IsWhole) (arg14 : Memref sig .tc .vmem S384x1024 .bf16) (harg14 : arg14.IsWhole) (arg15 : Memref sig .tc .vmem S16x384x128 .f32) (harg15 : arg15.IsWhole) (hc0 : ¬cond0_0 i) (x0 : Vec Ideal S16 .f32) (x1 : Vec Ideal S384x1024 .bf16) (x2 : Vec Ideal S384x1024 .bf16) (x3 : Vec Ideal S128x1024 .bf16) (x4 : Vec Ideal S384x1024 .f32) (x5 : Vec Ideal S128x1024 .f32) (x6 : Vec Ideal S128x1024 .f32) (x7 : Vec Ideal S128x1024 .f32) (x8 : Vec Ideal S128x1024 .f32) (x9 : Vec Ideal S16x128x128 .f32) (x10 : Vec Ideal S1024x1024 .bf16) (xs1 : Vec Ideal S16x384x128 .f32) (j : Fin 3) (r : Fin 128) (C : Fin 1024) :
    out0_B_11 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 xs1 (ix2 (brow j r) C) = outAt (i 1).val x0 x1 x2 x3 x4 x5 x6 x7 x8 x10 xs1 j r C := by
  unfold out0_B_11
  rw [View.read_writes_eq_canon _ _ _ (cover0_B_11 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 xs1)]
  unfold kernelRun0_B
  dsimp only
  rw [View.canon_unit_zero (by funext a; match a with | ⟨0, _⟩ => rfl | ⟨1, _⟩ => rfl)]
  rw [proj_apply]
  unfold kernelRun0_B.sl.r_24 kernelRun0_B.sl.v1915
  rw [show kernelRun0_B.sl.v9 i = _ from first_word i]
  refine congrArg₂ (· + ·) ?_ (Finset.sum_congr rfl fun k _ => congrArg₂ (· * ·) ?_ ?_)
  · rw [resid_apply]
    unfold residAt
    have e (m : Memref sig .tc .vmem S128x1024 .f32) (hm : m.IsWhole) (x : Vec Ideal S128x1024 .f32) :=
      rd2 m hm x 0 0 inb_S128x1024_S128x1024_0_0 r C r C (by omega) (by omega)
    rw [e arg9 harg9 x7, e arg10 harg10 x8]
    refine if_congr Iff.rfl ?_ rfl
    by_cases hw : (i 1).val = 0
    · rw [if_pos hw, if_pos hw, select_one]; exact e arg7 harg7 x5
    · rw [if_neg hw, if_neg hw, select_zero]; exact e arg8 harg8 x6
  · exact og_read arg14 _ _ (ogB c i arg2 harg2 arg3 harg3 arg4 harg4 arg5 harg5 arg6 harg6 arg15 harg15 x0 x1 x2 x3 x4 xs1) (fun y => View.cover_of_tiledL (kernelRun0_B.sl.HS0_24 (F := Ideal) c i arg2 harg2 arg3 harg3 arg4 harg4 arg5 harg5 arg6 harg6 arg15 harg15 x0 x1 x2 x3 x4 xs1) S128x128.size (by sl_kernel_rfl) y) _ _ _
  · exact rd2 arg12 harg12 x10 0 0 _ k C k C (by omega) (by omega)

theorem canonA (c : Dev nD) (arg11 : Memref sig .tc .vmem S16x128x128 .f32) (harg11 : arg11.IsWhole) (x9 : Vec Ideal S16x128x128 .f32) :
    View.canon (kernelRun0_A.sl.HS1_48 (F := Ideal) c arg11 harg11 x9) = btab x9 := by
  funext y
  exact View.canon_apply_of_pieces (btab x9) _ (fills c arg11 harg11 x9) y (View.cover_of_tiledL (kernelRun0_A.sl.HS1_48 (F := Ideal) c arg11 harg11 x9) S1x128x128.size (by sl_kernel_rfl) y)

theorem sout_A (c : Dev nD) (i : grid0.Coords) (arg2 : Memref sig .tc .smem S16 .f32) (harg2 : arg2.IsWhole) (arg3 : Memref sig .tc .vmem S384x1024 .bf16) (harg3 : arg3.IsWhole) (arg4 : Memref sig .tc .vmem S384x1024 .bf16) (harg4 : arg4.IsWhole) (arg5 : Memref sig .tc .vmem S128x1024 .bf16) (harg5 : arg5.IsWhole) (arg6 : Memref sig .tc .vmem S384x1024 .f32) (harg6 : arg6.IsWhole) (arg7 : Memref sig .tc .vmem S128x1024 .f32) (harg7 : arg7.IsWhole) (arg8 : Memref sig .tc .vmem S128x1024 .f32) (harg8 : arg8.IsWhole) (arg9 : Memref sig .tc .vmem S128x1024 .f32) (harg9 : arg9.IsWhole) (arg10 : Memref sig .tc .vmem S128x1024 .f32) (harg10 : arg10.IsWhole) (arg11 : Memref sig .tc .vmem S16x128x128 .f32) (harg11 : arg11.IsWhole) (arg12 : Memref sig .tc .vmem S1024x1024 .bf16) (harg12 : arg12.IsWhole) (arg13 : Memref sig .tc .vmem S384x1024 .f32) (harg13 : arg13.IsWhole) (arg14 : Memref sig .tc .vmem S384x1024 .bf16) (harg14 : arg14.IsWhole) (arg15 : Memref sig .tc .vmem S16x384x128 .f32) (harg15 : arg15.IsWhole) (hc0 : cond0_0 i) (x0 : Vec Ideal S16 .f32) (x1 : Vec Ideal S384x1024 .bf16) (x2 : Vec Ideal S384x1024 .bf16) (x3 : Vec Ideal S128x1024 .bf16) (x4 : Vec Ideal S384x1024 .f32) (x5 : Vec Ideal S128x1024 .f32) (x6 : Vec Ideal S128x1024 .f32) (x7 : Vec Ideal S128x1024 .f32) (x8 : Vec Ideal S128x1024 .f32) (x9 : Vec Ideal S16x128x128 .f32) (x10 : Vec Ideal S1024x1024 .bf16) :
    sout0_A_1 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 = btab x9 := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10)]
  funext y
  exact View.canon_apply_of_pieces (btab x9) _ (fills c arg11 harg11 x9) y (scover0_A_1 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 y)

theorem out_A (c : Dev nD) (i : grid0.Coords) (arg2 : Memref sig .tc .smem S16 .f32) (harg2 : arg2.IsWhole) (arg3 : Memref sig .tc .vmem S384x1024 .bf16) (harg3 : arg3.IsWhole) (arg4 : Memref sig .tc .vmem S384x1024 .bf16) (harg4 : arg4.IsWhole) (arg5 : Memref sig .tc .vmem S128x1024 .bf16) (harg5 : arg5.IsWhole) (arg6 : Memref sig .tc .vmem S384x1024 .f32) (harg6 : arg6.IsWhole) (arg7 : Memref sig .tc .vmem S128x1024 .f32) (harg7 : arg7.IsWhole) (arg8 : Memref sig .tc .vmem S128x1024 .f32) (harg8 : arg8.IsWhole) (arg9 : Memref sig .tc .vmem S128x1024 .f32) (harg9 : arg9.IsWhole) (arg10 : Memref sig .tc .vmem S128x1024 .f32) (harg10 : arg10.IsWhole) (arg11 : Memref sig .tc .vmem S16x128x128 .f32) (harg11 : arg11.IsWhole) (arg12 : Memref sig .tc .vmem S1024x1024 .bf16) (harg12 : arg12.IsWhole) (arg13 : Memref sig .tc .vmem S384x1024 .f32) (harg13 : arg13.IsWhole) (arg14 : Memref sig .tc .vmem S384x1024 .bf16) (harg14 : arg14.IsWhole) (arg15 : Memref sig .tc .vmem S16x384x128 .f32) (harg15 : arg15.IsWhole) (hc0 : cond0_0 i) (x0 : Vec Ideal S16 .f32) (x1 : Vec Ideal S384x1024 .bf16) (x2 : Vec Ideal S384x1024 .bf16) (x3 : Vec Ideal S128x1024 .bf16) (x4 : Vec Ideal S384x1024 .f32) (x5 : Vec Ideal S128x1024 .f32) (x6 : Vec Ideal S128x1024 .f32) (x7 : Vec Ideal S128x1024 .f32) (x8 : Vec Ideal S128x1024 .f32) (x9 : Vec Ideal S16x128x128 .f32) (x10 : Vec Ideal S1024x1024 .bf16) (j : Fin 3) (r : Fin 128) (C : Fin 1024) :
    out0_A_11 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 (ix2 (brow j r) C) = outAt (i 1).val x0 x1 x2 x3 x4 x5 x6 x7 x8 x10 (btab x9) j r C := by
  unfold out0_A_11
  rw [View.read_writes_eq_canon _ _ _ (cover0_A_11 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10)]
  unfold kernelRun0_A
  dsimp only
  rw [View.canon_unit_zero (by funext a; match a with | ⟨0, _⟩ => rfl | ⟨1, _⟩ => rfl)]
  rw [proj_apply]
  unfold kernelRun0_A.sl.r_39 kernelRun0_A.sl.v1915
  rw [show kernelRun0_A.sl.v9 i = _ from first_word i]
  refine congrArg₂ (· + ·) ?_ (Finset.sum_congr rfl fun k _ => congrArg₂ (· * ·) ?_ ?_)
  · rw [resid_apply]
    unfold residAt
    have e (m : Memref sig .tc .vmem S128x1024 .f32) (hm : m.IsWhole) (x : Vec Ideal S128x1024 .f32) :=
      rd2 m hm x 0 0 inb_S128x1024_S128x1024_0_0 r C r C (by omega) (by omega)
    rw [e arg9 harg9 x7, e arg10 harg10 x8]
    refine if_congr Iff.rfl ?_ rfl
    by_cases hw : (i 1).val = 0
    · rw [if_pos hw, if_pos hw, select_one]; exact e arg7 harg7 x5
    · rw [if_neg hw, if_neg hw, select_zero]; exact e arg8 harg8 x6
  · exact og_read arg14 _ _ (ogA c i arg2 harg2 arg3 harg3 arg4 harg4 arg5 harg5 arg6 harg6 arg11 harg11 arg15 x0 x1 x2 x3 x4 x9 _ (canonA c arg11 harg11 x9)) (fun y => View.cover_of_tiledL (kernelRun0_A.sl.HS0_24 (F := Ideal) c i arg2 harg2 arg3 harg3 arg4 harg4 arg5 harg5 arg6 harg6 arg11 harg11 arg15 x0 x1 x2 x3 x4 x9) S128x128.size (by sl_kernel_rfl) y) _ _ _
  · exact rd2 arg12 harg12 x10 0 0 _ k C k C (by omega) (by omega)

end Attn

end
-- ==== Proof.KRun.lean ====
module

public import proofs.«01_k».proof.Proof.Point
public import Idealize.ShloMosaic.Lib.Pipeline.Value

@[expose] public section

noncomputable section

/-! The kernel's result array, row by row, from the blocks its 44 points read. -/

namespace Attn

open Cert.KernelIdeal Cert.KernelIdeal.Gen Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The grid has 44 points. -/
abbrev pt (t : ℕ) (h : t < 44) : Fin cfg0.N := ⟨t, lt_of_lt_of_eq h N_0.symm⟩

theorem pt_lt (t : Fin cfg0.N) : t.val < 44 := lt_of_lt_of_eq t.isLt (show cfg0.N = 44 from N_0)

/-- The bias window holds its whole array at every point. -/
theorem bias_block (c : Dev nD) (t t' : Fin cfg0.N) : iblk m c 9 t = iblk m c 9 t' := by
  funext y
  show V m c (Pipeline.arrRef spec0 9) (((cfg0.win 9).blk t).view.emb y) = V m c (Pipeline.arrRef spec0 9) (((cfg0.win 9).blk t').view.emb y)
  rfl

/-- Every point leaves the bias table in the scratch. -/
theorem scratch_eq (c : Dev nD) (t : Fin cfg0.N) : ∀ (n : ℕ) (h : n < cfg0.N), (outsAt0 m c n h).2 = btab (iblk m c 9 t)
  | 0, h => by
    rw [outsAt0_A m c ⟨0, h⟩ (Nat.zero_mod _)]
    dsimp only
    exact (sout_A _ _ _ _ _ _ _ _ _ _ _ _ _ _ _ _ _ _ _ _ _ _ _ _ _ _ _ _ _ _ _ _ _ _ _ _ _ _ _ _ _ _).trans (congrArg btab (bias_block m c _ t))
  | n + 1, h => by
    have hN := pt_lt ⟨n + 1, h⟩
    have h0 : ¬(n + 1) % 44 = 0 := by dsimp only at hN; omega
    rw [outsAt0_B m c ⟨n + 1, h⟩ h0]
    dsimp only
    unfold sout0_B_1
    exact scratch_eq c t n _

/-- The block a point leaves in its output buffer. -/
theorem block_eq (c : Dev nD) (t : Fin cfg0.N) (j : Fin 3) (r : Fin 128) (C : Fin 1024) :
    (outsAt0 m c t.val t.isLt).1 (ix2 (brow j r) C)
      = outAt (grid0.coords t 1).val (iblk m c 0 t) (iblk m c 1 t) (iblk m c 2 t) (iblk m c 3 t) (iblk m c 4 t) (iblk m c 5 t) (iblk m c 6 t) (iblk m c 7 t)
          (iblk m c 8 t) (iblk m c 10 t) (btab (iblk m c 9 t)) j r C := by
  by_cases h0 : t.val % 44 = 0
  · rw [outsAt0_A m c t h0]
    dsimp only
    exact out_A _ _ _ _ _ _ _ _ _ _ _ _ _ _ _ _ _ _ _ _ _ _ _ _ _ _ _ _ _ _ _ _ _ _ _ _ _ _ _ _ _ _ _ _ _
  · rw [outsAt0_B m c t h0]
    dsimp only
    refine (out_B _ _ _ _ _ _ _ _ _ _ _ _ _ _ _ _ _ _ _ _ _ _ _ _ _ _ _ _ _ _ _ _ _ _ _ _ _ _ _ _ _ _ _ _ _ _).trans ?_
    rw [scratch_eq m c t]

/-- The result array: row `i` belongs to point `i / 384`. -/
def outArr (c : Dev nD) : Buf (Elt Ideal) ((c : Thread nD τ).loc main_v44) := fun i =>
  if h : (i 0).val / 384 < cfg0.N then (outsAt0 m c ((i 0).val / 384) h).1 (ix2 (⟨(i 0).val % 384, Nat.mod_lt _ (by omega)⟩ : Fin 384) (i 1 : Fin 1024)) else (0 : EReal)

theorem out_index : ∀ t : Fin cfg0.N, win0_11.index t (0 : Fin 2) = t.val ∧ win0_11.index t (1 : Fin 2) = 0 :=
  (by decide +kernel : ∀ t : Fin grid0.N, win0_11.index t (0 : Fin 2) = t.val ∧ win0_11.index t (1 : Fin 2) = 0)

theorem flush_arr (c : Dev nD) (t : Fin cfg0.N) :
    (dats m 0 c).flushed 11 t = ((cfg0.win 11).blk t).view.read (Elt Ideal) (outArr m c) := by
  show (cfg0.win 11).cut (grid0.coords t) ((dats m 0 c).after 11 t) = _
  rw [after0_11]
  obtain ⟨e0, e1⟩ := out_index t
  funext y
  have hy0 : (y 0).val < 384 := (y 0).isLt
  have h0 : (((cfg0.win 11).blk t).view.emb y 0).val = win0_11.index t (0 : Fin 2) * 384 + 1 * (y 0).val := rfl
  have h1 : (((cfg0.win 11).blk t).view.emb y 1).val = win0_11.index t (1 : Fin 2) * 1024 + 1 * (y 1).val := rfl
  rw [e0] at h0
  rw [e1] at h1
  have hq : (((cfg0.win 11).blk t).view.emb y 0).val / 384 = t.val := by rw [h0]; omega
  show (outsAt0 m c t.val t.isLt).1 ((cfg0.win 11).xinj (grid0.coords t) y) = outArr m c (((cfg0.win 11).blk t).view.emb y)
  unfold outArr
  have aux : ∀ (q : ℕ) (hq : q = t.val) (h : q < cfg0.N), (outsAt0 m c t.val t.isLt).1 = (outsAt0 m c q h).1 := by
    intro q hq h; subst hq; rfl
  rw [dif_pos (by rw [hq]; exact t.isLt), ← aux _ hq]
  refine congrArg (outsAt0 m c t.val t.isLt).1 ?_
  funext a; apply Fin.ext
  match a with
  | ⟨0, _⟩ => show (y 0).val = (((cfg0.win 11).blk t).view.emb y 0).val % 384; rw [h0]; omega
  | ⟨1, _⟩ => show (y 1).val = (((cfg0.win 11).blk t).view.emb y 1).val; rw [h1]; omega

theorem mem_block (t : Fin cfg0.N) (i : S16896x1024.Idx) (h : (i 0).val / 384 = t.val) : i ∈ ((cfg0.win 11).blk t).view.set := by
  have h1 : (i 1).val < 1024 := (i 1).isLt
  obtain ⟨e0, e1⟩ := out_index t
  show i ∈ ((View.whole main_v44).slice (win0_11.rect t)).set
  rw [View.set_slice_whole, Rect.mem_set_unit]
  intro a
  match a with
  | ⟨0, _⟩ =>
    show win0_11.index t (0 : Fin 2) * 384 ≤ (i 0).val ∧ (i 0).val < win0_11.index t (0 : Fin 2) * 384 + 384
    rw [e0]; omega
  | ⟨1, _⟩ =>
    show win0_11.index t (1 : Fin 2) * 1024 ≤ (i 1).val ∧ (i 1).val < win0_11.index t (1 : Fin 2) * 1024 + 1024
    rw [e1]; omega

theorem arr_covered (i : S16896x1024.Idx) : ∃ t : Fin cfg0.N, (cfg0.win 11).flush t = true ∧ i ∈ ((cfg0.win 11).blk t).view.set := by
  have h0 : (i 0).val < 16896 := (i 0).isLt
  exact ⟨pt ((i 0).val / 384) (by omega), flush0_11 _, mem_block _ i rfl⟩

theorem arr_eq (c : Dev nD) : (dats m 0 c).arrAt 11 cfg0.N = outArr m c :=
  (dats m 0 c).arrAt_eq_of_cover 11 _ (fun t _ => flush_arr m c t) arr_covered

/-- The result at row `r` of block `3 w + j` of batch entry `b`. -/
theorem outArr_apply (c : Dev nD) (t : Fin cfg0.N) (j : Fin 3) (r : Fin 128) (C : Fin 1024) (i : S16896x1024.Idx)
    (h0 : (i 0).val = 384 * t.val + 128 * j.val + r.val) (h1 : (i 1).val = C.val) :
    outArr m c i = outAt (grid0.coords t 1).val (iblk m c 0 t) (iblk m c 1 t) (iblk m c 2 t) (iblk m c 3 t) (iblk m c 4 t) (iblk m c 5 t) (iblk m c 6 t) (iblk m c 7 t)
          (iblk m c 8 t) (iblk m c 10 t) (btab (iblk m c 9 t)) j r C := by
  have hq : (i 0).val / 384 = t.val := by omega
  unfold outArr
  rw [dif_pos (by rw [hq]; exact t.isLt), ← block_eq]
  have aux : ∀ (q : ℕ) (hq : q = t.val) (h : q < cfg0.N), (outsAt0 m c q h).1 = (outsAt0 m c t.val t.isLt).1 := by
    intro q hq h; subst hq; rfl
  rw [aux _ hq]
  refine congrArg (outsAt0 m c t.val t.isLt).1 ?_
  funext a; apply Fin.ext
  match a with
  | ⟨0, _⟩ => show (i 0).val % 384 = 128 * j.val + r.val; omega
  | ⟨1, _⟩ => exact h1

/-- The kernel's run: its result, and its arguments left as they were. -/
theorem kernel_run : θ_run defs (onTc (τ := τ) (main (F := Ideal))) ⟨m, fun _ => 0, ρ⟩ fun r => ∀ c : Dev nD,
      r.2.mem ((c : Thread nD τ).loc main_v44) = outArr m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) := by
  refine (θ_run defs _ _).mono (fun r h c => ?_) (run_main m ρ)
  have rest := (h c).2
  exact ⟨((h c).1 11).trans (arr_eq m c),
    (rest main_arg0 (Pipeline.mem_restRefs_of main_arg0 (by decide) (by decide))).trans (V_main_arg0 m c),
    (rest main_arg1 (Pipeline.mem_restRefs_of main_arg1 (by decide) (by decide))).trans (V_main_arg1 m c),
    (rest main_arg2 (Pipeline.mem_restRefs_of main_arg2 (by decide) (by decide))).trans (V_main_arg2 m c),
    (rest main_arg3 (Pipeline.mem_restRefs_of main_arg3 (by decide) (by decide))).trans (V_main_arg3 m c),
    (rest main_arg4 (Pipeline.mem_restRefs_of main_arg4 (by decide) (by decide))).trans (V_main_arg4 m c),
    (rest main_arg5 (Pipeline.mem_restRefs_of main_arg5 (by decide) (by decide))).trans (V_main_arg5 m c),
    (rest main_arg6 (Pipeline.mem_restRefs_of main_arg6 (by decide) (by decide))).trans (V_main_arg6 m c),
    (rest main_arg7 (Pipeline.mem_restRefs_of main_arg7 (by decide) (by decide))).trans (V_main_arg7 m c),
    (rest main_arg8 (Pipeline.mem_restRefs_of main_arg8 (by decide) (by decide))).trans (V_main_arg8 m c)⟩

end Attn

end
-- ==== Proof.Host.lean ====
module

public import Idealize.ShloMosaic.PureOps
public import Idealize.ShloMosaic.Lib.KernelVsHost
public import Idealize.ShloMosaic.Lib.ValueIdx
public import Idealize.ShloMosaic.Lib.ValueIdxCore
public import Idealize.ShloMosaic.Lib.WordCmp
public import proofs.«01_k».proof.Proof.Bucket

@[expose] public section

noncomputable section

/-! Host operations read at an index: rows of a table, a front padding, a bucket number. -/

namespace Attn

open Idealize.ShloMosaic Idealize.ShloMosaic.ValueIdx

theorem word_nonneg {s : Shape} (x z : IVec s 32) (i : s.Idx) (n : ℕ) (h : n < 2 ^ 31) (hx : x i = BitVec.ofNat 32 n) (hz : z i = 0#32) : cmpi .slt x z i = 0#1 := by
  show IntOp.cmpi .slt (x i) (z i) = 0#1
  rw [hx, hz]
  exact (WordCmp.cmpi_slt_ofNat (w := 32) (a := n) (b := 0) h (by decide)).trans rfl

theorem word_toNat (n : ℕ) (h : n < 2 ^ 31) : (BitVec.ofNat 32 n).toInt.toNat = n := by
  rw [WordCmp.toInt_ofNat_of_lt (w := 32) h]; omega

section Rows

variable {α : Type} (N C R S : ℕ)

/-- Whole rows of a table, one for each entry of a rectangle of row numbers. -/
def rowDims (wf : GatherDims.WF ⟨2, ![N, C]⟩ ⟨3, ![R, S, 1]⟩ ⟨3, ![R, S, C]⟩ [2] [0] [] [0] [] 2 ![1, C]) :
    GatherDims ⟨2, ![N, C]⟩ ⟨3, ![R, S, 1]⟩ ⟨3, ![R, S, C]⟩ where
  offsetDims := [2]
  collapsedSliceDims := [0]
  operandBatchingDims := []
  startIndicesBatchingDims := []
  startIndexMap := [0]
  indexVectorDim := 2
  sliceSizes := ![1, C]
  wf := wf

theorem rows_apply {w : ℕ} (hN : 0 < N) (wf : GatherDims.WF ⟨2, ![N, C]⟩ ⟨3, ![R, S, 1]⟩ ⟨3, ![R, S, C]⟩ [2] [0] [] [0] [] 2 ![1, C])
    (x : (⟨2, ![N, C]⟩ : Shape).Idx → α) (idx : IVec ⟨3, ![R, S, 1]⟩ w) (r : Fin R) (s : Fin S) (h : Fin C) :
    Host.gather (rowDims N C R S wf) x idx (ix3 r s h) = x (ix2 ⟨min (idx (ix3 r s 0)).toInt.toNat (N - 1), by omega⟩ h) := by
  unfold Host.gather
  refine congrArg x (funext fun a => Fin.ext ?_)
  show (rowDims N C R S wf).start (ix3 r s h) idx a + (rowDims N C R S wf).batchCoord (ix3 r s h) a + (rowDims N C R S wf).offCoord (ix3 r s h) a = _
  rw [GatherDims.batchCoord_eq_zero _ _ _ List.not_mem_nil, Nat.add_zero]
  obtain rfl | rfl : a = 0 ∨ a = 1 := by
    match a with
    | ⟨0, _⟩ => exact Or.inl rfl
    | ⟨1, _⟩ => exact Or.inr rfl
  · rw [GatherDims.offCoord_eq_zero _ _ _ (fun q => ((GatherDims.mem_sKept _ _).mp q).1 (List.mem_singleton.mpr rfl)), Nat.add_zero]
    unfold GatherDims.start
    rw [dif_pos (show (0 : Fin 2) ∈ (rowDims N C R S wf).startIndexMap from List.mem_singleton.mpr rfl)]
    have e : (rowDims N C R S wf).siIdx (ix3 r s h) ⟨List.idxOf (0 : Fin 2) (rowDims N C R S wf).startIndexMap,
        List.idxOf_lt_length_iff.2 (List.mem_singleton.mpr rfl)⟩ = ix3 r s 0 := by
      funext b; refine Fin.ext ?_
      match b with
      | ⟨0, _⟩ => rfl
      | ⟨1, _⟩ => rfl
      | ⟨2, _⟩ => rfl
    rw [e]
    rfl
  · unfold GatherDims.start
    rw [dif_neg (show (1 : Fin 2) ∉ (rowDims N C R S wf).startIndexMap from fun q => absurd (List.mem_singleton.mp q) (by simp)), Nat.zero_add]
    unfold GatherDims.offCoord
    rw [dif_pos ((GatherDims.mem_sKept _ _).mpr ⟨fun q => absurd (List.mem_singleton.mp q) (by simp), List.not_mem_nil⟩)]
    rfl

end Rows

end Attn

end
-- ==== Proof.KHost.lean ====
module

public import proofs.«01_k».proof.Proof.Block
public import proofs.«01_k».proof.Proof.Host
public import Idealize.ShloMosaic.Lib.StableHlo.RunRead

@[expose] public section

noncomputable section

/-! The arrays the kernel's windows are on, as functions of the arguments. -/

namespace Attn

open Cert.KernelIdeal Cert.KernelIdeal.Gen Idealize.ShloMosaic Idealize.ShloMosaic.TcCoe Idealize.ShloMosaic.ValueIdx Idealize.SL.Sem Idealize.ShloMosaic.StableHlo

variable (m : (ℓ : Loc nD τ sig) → Buf (Elt Ideal) ℓ)

/-- The zero the host pads with. -/
def padZero : FVec Ideal S_ .f32 := sitofp .f32 (constantI S_ 32 0#32)

theorem padZero_apply (i : S_.Idx) : padZero i = (0 : EReal) := by
  show (((0#32 : BitVec 32).toInt : ℝ) : EReal) = 0
  rw [show (0#32 : BitVec 32).toInt = 0 from rfl]; simp

def qArr (x : FVec Ideal S4x4112x4x4x64 .f32) : FVec Ideal S16896x1024 .bf16 :=
  truncf .bf16 (shapeCast S16896x1024 (pad S4x4224x1024 ![0, 112, 0] ![0, 0, 0] ![0, 0, 0]
    (mulf (shapeCast S4x4112x1024 x shapeCasts_S4x4112x4x4x64_S4x4112x1024) (broadcastInDim S4x4112x1024 ![] bcast_S_S4x4112x1024 (constant S_ .f32 0x3E000000#32)))
    padZero pads_S4x4112x1024_S4x4224x1024_000_11200_000 h_S_) shapeCasts_S4x4224x1024_S16896x1024) bitsLt_bf16_f32

def kvRaw (k v : FVec Ideal S4x4112x4x64 .f32) : FVec Ideal S16896x512 .f32 :=
  shapeCast S16896x512 (pad S4x4224x512 ![0, 112, 0] ![0, 0, 0] ![0, 0, 0]
    (concatenate S4x4112x512 2 [⟨S4x4112x256, (shapeCast S4x4112x256 k shapeCasts_S4x4112x4x64_S4x4112x256 : FVec Ideal S4x4112x256 .f32)⟩,
      ⟨S4x4112x256, (shapeCast S4x4112x256 v shapeCasts_S4x4112x4x64_S4x4112x256 : FVec Ideal S4x4112x256 .f32)⟩] concatenates_S4x4112x256_S4x4112x256_S4x4112x512_d2)
    padZero pads_S4x4112x512_S4x4224x512_000_11200_000 h_S_) shapeCasts_S4x4224x512_S16896x512

def kvSwap (y : FVec Ideal S16896x512 .f32) : FVec Ideal S16896x512 .f32 :=
  shapeCast S16896x512 (Host.reverse [2] (shapeCast S16896x4x2x64 y shapeCasts_S16896x512_S16896x4x2x64)) shapeCasts_S16896x4x2x64_S16896x512

def kvArr (k v : FVec Ideal S4x4112x4x64 .f32) : FVec Ideal S16896x1024 .bf16 :=
  truncf .bf16 (concatenate S16896x1024 1 [⟨S16896x512, kvRaw k v⟩, ⟨S16896x512, kvSwap (kvRaw k v)⟩] concatenates_S16896x512_S16896x512_S16896x1024_d1) bitsLt_bf16_f32

/-- The distance, mod 128. -/
def distArr : IVec S128x128 32 :=
  andi (subi (iotaInDim S128x128 32 0) (iotaInDim S128x128 32 1)) (broadcastInDim S128x128 ![] bcast_S_S128x128 (constantI S_ 32 127#32))

/-- Numbers from the back are numbers from the front. -/
def wrapArr (n : BitVec 32) (d : IVec S128x128 32) : IVec S128x128x1 32 :=
  broadcastInDim S128x128x1 ![0, 1] bcast_S128x128_S128x128x1_0_1
    (select (cmpi .slt d (broadcastInDim S128x128 ![] bcast_S_S128x128 (constantI S_ 32 0#32)))
      (addi d (broadcastInDim S128x128 ![] bcast_S_S128x128 (constantI S_ 32 n))) d)

def bucketArr : IVec S128x128 32 :=
  Host.gather gather_S128_S128x128x1_S128x128_n_0_n_n_0_2_1 (fun i => lit0 (S128.rowMajor i)) (wrapArr 128#32 distArr)

def biasArr (t : FVec Ideal S32x16 .f32) : FVec Ideal S16x128x128 .f32 :=
  transpose S16x128x128 [2, 0, 1] (Host.gather gather_S32x16_S128x128x1_S128x128x16_2_0_n_n_0_2_116 t (wrapArr 32#32 bucketArr)) transposes_S128x128x16_S16x128x128_2_0_1

def headArr (x : FVec Ideal S16x1024 .f32) : FVec Ideal S128x1024 .f32 :=
  concatenate S128x1024 0 [⟨S112x1024, (broadcastInDim S112x1024 ![] bcast_S_S112x1024 (constant S_ .f32 0x00000000#32) : FVec Ideal S112x1024 .f32)⟩, ⟨S16x1024, x⟩]
    concatenates_S112x1024_S16x1024_S128x1024_d0

def gArr (x : FVec Ideal S4x4112x1024 .f32) : FVec Ideal S16896x1024 .f32 :=
  shapeCast S16896x1024 (pad S4x4224x1024 ![0, 112, 0] ![0, 0, 0] ![0, 0, 0] x padZero pads_S4x4112x1024_S4x4224x1024_000_11200_000 h_S_) shapeCasts_S4x4224x1024_S16896x1024

theorem q_host (c : Dev nD) : V m c main_v5 = qArr (m ((c : Thread nD τ).loc main_arg0)) := by
  unfold_abbrev_sides
  simp only [List.flatten_cons, List.flatten_nil, List.append_nil, List.cons_append, List.nil_append, TRef.binary, TRef.unary, TRef.toBuf, TRef.ofBuf, cast_eq]
  after_reads_simp
  rfl

theorem kv_host (c : Dev nD) : V m c main_v15 = kvArr (m ((c : Thread nD τ).loc main_arg1)) (m ((c : Thread nD τ).loc main_arg2)) := by
  unfold_abbrev_sides
  simp only [List.flatten_cons, List.flatten_nil, List.append_nil, List.cons_append, List.nil_append, TRef.binary, TRef.unary, TRef.toBuf, TRef.ofBuf, cast_eq]
  after_reads_simp
  rfl

theorem bias_host (c : Dev nD) : V m c main_v35 = biasArr (m ((c : Thread nD τ).loc main_arg6)) := by
  unfold_abbrev_sides
  simp only [List.flatten_cons, List.flatten_nil, List.append_nil, List.cons_append, List.nil_append, TRef.binary, TRef.unary, TRef.toBuf, TRef.ofBuf, cast_eq]
  after_reads_simp
  rfl

theorem head_host (c : Dev nD) : V m c main_v37 = headArr (m ((c : Thread nD τ).loc main_arg5)) := by
  unfold_abbrev_sides
  simp only [List.flatten_cons, List.flatten_nil, List.append_nil, List.cons_append, List.nil_append, TRef.binary, TRef.unary, TRef.toBuf, TRef.ofBuf, cast_eq]
  after_reads_simp
  rfl

theorem x_host (c : Dev nD) : V m c main_v38 = (shapeCast S16384x1024 (m ((c : Thread nD τ).loc main_arg4)) shapeCasts_S4x4096x1024_S16384x1024 : FVec Ideal S16384x1024 .f32) := by
  unfold_abbrev_sides
  simp only [List.flatten_cons, List.flatten_nil, List.append_nil, List.cons_append, List.nil_append, TRef.binary, TRef.unary, TRef.toBuf, TRef.ofBuf, cast_eq]
  after_reads_simp
  rfl

theorem sink_host (c : Dev nD) : V m c main_v39 = (shapeCast S16 (m ((c : Thread nD τ).loc main_arg7)) shapeCasts_S1x16_S16 : FVec Ideal S16 .f32) := by
  unfold_abbrev_sides
  simp only [List.flatten_cons, List.flatten_nil, List.append_nil, List.cons_append, List.nil_append, TRef.binary, TRef.unary, TRef.toBuf, TRef.ofBuf, cast_eq]
  after_reads_simp
  rfl

theorem g_host (c : Dev nD) : V m c main_v41 = gArr (m ((c : Thread nD τ).loc main_arg3)) := by
  unfold_abbrev_sides
  simp only [List.flatten_cons, List.flatten_nil, List.append_nil, List.cons_append, List.nil_append, TRef.binary, TRef.unary, TRef.toBuf, TRef.ofBuf, cast_eq]
  after_reads_simp
  rfl

theorem w_host (c : Dev nD) : V m c main_v43 = (truncf .bf16 (shapeCast S1024x1024 (m ((c : Thread nD τ).loc main_arg8)) shapeCasts_S1x1024x1024_S1024x1024 : FVec Ideal S1024x1024 .f32) bitsLt_bf16_f32 : FVec Ideal S1024x1024 .bf16) := by
  unfold_abbrev_sides
  simp only [List.flatten_cons, List.flatten_nil, List.append_nil, List.cons_append, List.nil_append, TRef.binary, TRef.unary, TRef.toBuf, TRef.ofBuf, cast_eq]
  after_reads_simp
  rfl

end Attn

end
-- ==== Proof.KRead.lean ====
module

public import proofs.«01_k».proof.Proof.KHost

@[expose] public section

noncomputable section

/-! Those arrays at an index. -/

namespace Attn

open Cert.KernelIdeal Cert.KernelIdeal.Gen Idealize.ShloMosaic Idealize.ShloMosaic.TcCoe Idealize.ShloMosaic.ValueIdx Idealize.SL.Sem

theorem front_pad {α : Type} {W : ℕ} (x : (⟨3, ![4, 4112, W]⟩ : Shape).Idx → α) (v : S_.Idx → α) (z : α)
    (h : (⟨3, ![4, 4112, W]⟩ : Shape).Pads ![0, 112, 0] ![0, 0, 0] ![0, 0, 0] ⟨3, ![4, 4224, W]⟩) (hu : 0 < S_.numel) (hv : ∀ i, v i = z) (b : Fin 4) (p : Fin 4224) (C : Fin W) :
    pad ⟨3, ![4, 4224, W]⟩ ![0, 112, 0] ![0, 0, 0] ![0, 0, 0] x v h hu (ix3 b p C)
      = if hp : 112 ≤ p.val then x (ix3 b (⟨p.val - 112, by omega⟩ : Fin 4112) C) else z := by
  by_cases hp : 112 ≤ p.val
  · rw [dif_pos hp]
    refine pad_apply_of_inside _ _ _ x v h hu _ _ ?_
    intro a
    match a with
    | ⟨0, _⟩ => show b.val = 0 + b.val * (0 + 1); omega
    | ⟨1, _⟩ => show p.val = 112 + (p.val - 112) * (0 + 1); omega
    | ⟨2, _⟩ => show C.val = 0 + C.val * (0 + 1); omega
  · rw [dif_neg hp]
    refine (pad_apply_of_not_inside _ _ _ x v h hu _ (1 : Fin 3) ?_).trans (hv _)
    intro q
    have : 112 ≤ p.val := q.1
    omega

/-- The row of position `p` of batch entry `b`. -/
abbrev prow (b : Fin 4) (p : Fin 4224) : Fin 16896 := ⟨b.val * 4224 + p.val, by omega⟩

theorem rows_of {α : Type} {W : ℕ} (x : (⟨3, ![4, 4224, W]⟩ : Shape).Idx → α) (h : (⟨3, ![4, 4224, W]⟩ : Shape).ShapeCasts ⟨2, ![16896, W]⟩) (b : Fin 4) (p : Fin 4224) (C : Fin W) :
    shapeCast ⟨2, ![16896, W]⟩ x h (ix2 (prow b p) C) = x (ix3 b p C) :=
  shapeCast_apply x h _ _ (by
    rw [Shape.rowMajor_val_three, Shape.rowMajor_val_two]
    show (b.val * 4224 + p.val) * W + C.val = (b.val * 4224 + p.val) * W + C.val
    rfl)

theorem qArr_apply (x : FVec Ideal S4x4112x4x4x64 .f32) (b : Fin 4) (p : Fin 4224) (C : Fin 1024) :
    qArr x (ix2 (prow b p) C) = if hp : 112 ≤ p.val then
      (x (ix5 b (⟨p.val - 112, by omega⟩ : Fin 4112) (⟨C.val / 256, by omega⟩ : Fin 4) (⟨C.val / 64 % 4, by omega⟩ : Fin 4) (⟨C.val % 64, by omega⟩ : Fin 64)) : EReal) * Ideal.ofBits .f32 0x3E000000#32 else (0 : EReal) := by
  unfold qArr
  refine Eq.trans (b := shapeCast S16896x1024 (pad S4x4224x1024 ![0, 112, 0] ![0, 0, 0] ![0, 0, 0]
    (mulf (shapeCast S4x4112x1024 x shapeCasts_S4x4112x4x4x64_S4x4112x1024) (broadcastInDim S4x4112x1024 ![] bcast_S_S4x4112x1024 (constant S_ .f32 0x3E000000#32)))
    padZero pads_S4x4112x1024_S4x4224x1024_000_11200_000 h_S_) shapeCasts_S4x4224x1024_S16896x1024 (ix2 (prow b p) C)) rfl ?_
  refine (rows_of (W := 1024) _ _ b p C).trans ?_
  refine (front_pad (W := 1024) _ padZero (0 : EReal) _ _ padZero_apply b p C).trans ?_
  by_cases hp : 112 ≤ p.val
  · rw [dif_pos hp, dif_pos hp]
    show (shapeCast S4x4112x1024 x _ _ : EReal) * _ = _
    refine congrArg₂ (fun y z : EReal => y * z) ?_ rfl
    refine shapeCast_apply x _ _ _ ?_
    rw [Shape.rowMajor_val_five, Shape.rowMajor_val_three]
    show (((b.val * 4112 + (p.val - 112)) * 4 + C.val / 256) * 4 + C.val / 64 % 4) * 64 + C.val % 64 = (b.val * 4112 + (p.val - 112)) * 1024 + C.val
    omega
  · rw [dif_neg hp, dif_neg hp]

theorem gArr_apply (x : FVec Ideal S4x4112x1024 .f32) (b : Fin 4) (p : Fin 4224) (C : Fin 1024) :
    gArr x (ix2 (prow b p) C) = if hp : 112 ≤ p.val then (x (ix3 b (⟨p.val - 112, by omega⟩ : Fin 4112) C) : EReal) else 0 :=
  (rows_of (W := 1024) _ _ b p C).trans (front_pad (W := 1024) x padZero (0 : EReal) _ _ padZero_apply b p C)

/-- Keys, then values, at a position: lanes 0 to 255 are the keys. -/
theorem kvRaw_apply (k v : FVec Ideal S4x4112x4x64 .f32) (b : Fin 4) (p : Fin 4224) (C : Fin 512) (o : Fin 2) (kv : Fin 4) (d : Fin 64) (hC : C.val = o.val * 256 + kv.val * 64 + d.val) :
    kvRaw k v (ix2 (prow b p) C) = if hp : 112 ≤ p.val then
      ((if o = 0 then k else v) (ix4 b (⟨p.val - 112, by omega⟩ : Fin 4112) kv d) : EReal) else 0 := by
  refine (rows_of (W := 512) _ _ b p C).trans ?_
  refine (front_pad (W := 512) _ padZero (0 : EReal) _ _ padZero_apply b p C).trans ?_
  by_cases hp : 112 ≤ p.val
  · rw [dif_pos hp, dif_pos hp]
    have e (y : FVec Ideal S4x4112x4x64 .f32) (h : S4x4112x4x64.ShapeCasts S4x4112x256) (u : Fin 4112) (L : Fin 256) (hL : L.val = kv.val * 64 + d.val) :
        shapeCast S4x4112x256 y h (ix3 b u L) = y (ix4 b u kv d) :=
      shapeCast_apply y h _ _ (by
        rw [Shape.rowMajor_val_four, Shape.rowMajor_val_three]
        show ((b.val * 4112 + u.val) * 4 + kv.val) * 64 + d.val = (b.val * 4112 + u.val) * 256 + L.val
        omega)
    obtain rfl | rfl : o = 0 ∨ o = 1 := by omega
    · have hC' : C.val = kv.val * 64 + d.val := by rw [hC]; show 0 * 256 + _ + _ = _; omega
      refine (concatenate_pair_apply_left (t := S4x4112x512) (2 : Fin 3) _ _ concatenates_S4x4112x256_S4x4112x256_S4x4112x512_d2 _ rfl
        (ix3 b (⟨p.val - 112, by omega⟩ : Fin 4112) (⟨C.val, by omega⟩ : Fin 256)) ?_).trans ?_
      · intro a
        match a with
        | ⟨0, _⟩ => rfl
        | ⟨1, _⟩ => rfl
        | ⟨2, _⟩ =>
          show C.val = C.val
          omega
      · exact e k _ _ _ hC'
    · have hC' : C.val = 256 + kv.val * 64 + d.val := by rw [hC]; show 1 * 256 + _ + _ = _; omega
      refine (concatenate_pair_apply_right (t := S4x4112x512) (2 : Fin 3) _ _ concatenates_S4x4112x256_S4x4112x256_S4x4112x512_d2 _ rfl rfl
        (ix3 b (⟨p.val - 112, by omega⟩ : Fin 4112) (⟨C.val - 256, by omega⟩ : Fin 256)) ?_ ?_).trans ?_
      · intro a ha
        match a with
        | ⟨0, _⟩ => rfl
        | ⟨1, _⟩ => rfl
        | ⟨2, _⟩ => exact absurd rfl ha
      · show (C.val - 256) + 256 = C.val; omega
      · exact e v _ _ _ (by show C.val - 256 = _; omega)
  · rw [dif_neg hp, dif_neg hp]

/-- The two heads of a pair of 64 lanes changed over. -/
theorem kvSwap_apply (y : FVec Ideal S16896x512 .f32) (R : Fin 16896) (C C' : Fin 512) (g : Fin 4) (a : Fin 2) (d : Fin 64)
    (h : C.val = g.val * 128 + a.val * 64 + d.val) (h' : C'.val = g.val * 128 + (1 - a.val) * 64 + d.val) : kvSwap y (ix2 R C) = y (ix2 R C') := by
  unfold kvSwap
  refine (shapeCast_apply _ _ _ (ix4 R g a d) ?_).trans ?_
  · rw [Shape.rowMajor_val_four, Shape.rowMajor_val_two]
    show ((R.val * 4 + g.val) * 2 + a.val) * 64 + d.val = R.val * 512 + C.val
    omega
  · refine Eq.trans (b := shapeCast S16896x4x2x64 y shapeCasts_S16896x512_S16896x4x2x64 (ix4 R g a.rev d)) ?_ ?_
    · unfold Host.reverse
      refine congrArg _ (funext fun b => ?_)
      match b with
      | ⟨0, _⟩ => rfl
      | ⟨1, _⟩ => rfl
      | ⟨2, _⟩ => rfl
      | ⟨3, _⟩ => rfl
    · refine shapeCast_apply _ _ _ _ ?_
      rw [Shape.rowMajor_val_four, Shape.rowMajor_val_two]
      show R.val * 512 + C'.val = ((R.val * 4 + g.val) * 2 + (2 - (a.val + 1))) * 64 + d.val
      omega

/-- The lane of pair `c`, place `p`, `d` in the keys (`o = 0`) or the values (`o = 1`) is that of head `c`. -/
theorem kvArr_apply (k v : FVec Ideal S4x4112x4x64 .f32) (b : Fin 4) (p : Fin 4224) (o : Fin 2) (c : Fin 4) (q : Fin 2) (l : Fin 128) (hl : l.val / 64 = q.val) :
    kvArr k v (ix2 (prow b p) (kvLane o c q l)) = if hp : 112 ≤ p.val then
      ((if o = 0 then k else v) (ix4 b (⟨p.val - 112, by omega⟩ : Fin 4112) c (⟨l.val % 64, by omega⟩ : Fin 64)) : EReal) else 0 := by
  by_cases hpar : (c.val + q.val) % 2 = 0
  · refine (concatenate_pair_apply_left (t := S16896x1024) (1 : Fin 2) _ _ concatenates_S16896x512_S16896x512_S16896x1024_d1 _ rfl
        (ix2 (prow b p) (⟨o.val * 256 + c.val / 2 * 128 + l.val, by omega⟩ : Fin 512)) ?_).trans ?_
    · intro a
      match a with
      | ⟨0, _⟩ => rfl
      | ⟨1, _⟩ =>
        show (o.val * 256 + c.val / 2 * 128 + l.val) = kvOff o c q + l.val
        unfold kvOff
        rw [if_pos hpar]; omega
    · exact kvRaw_apply k v b p _ o c _ (by show o.val * 256 + c.val / 2 * 128 + l.val = o.val * 256 + c.val * 64 + l.val % 64; omega)
  · refine (concatenate_pair_apply_right (t := S16896x1024) (1 : Fin 2) _ _ concatenates_S16896x512_S16896x512_S16896x1024_d1 _ rfl rfl
        (ix2 (prow b p) (⟨o.val * 256 + c.val / 2 * 128 + l.val, by omega⟩ : Fin 512)) ?_ ?_).trans ?_
    · intro a ha
      match a with
      | ⟨0, _⟩ => rfl
      | ⟨1, _⟩ => exact absurd rfl ha
    · show (o.val * 256 + c.val / 2 * 128 + l.val) + 512 = kvOff o c q + l.val
      unfold kvOff
      rw [if_neg hpar]; omega
    · refine (kvSwap_apply _ _ _ (⟨o.val * 256 + c.val * 64 + l.val % 64, by omega⟩ : Fin 512) (⟨o.val * 2 + c.val / 2, by omega⟩ : Fin 4) q (⟨l.val % 64, by omega⟩ : Fin 64) ?_ ?_).trans ?_
      · show o.val * 256 + c.val / 2 * 128 + l.val = (o.val * 2 + c.val / 2) * 128 + q.val * 64 + l.val % 64; omega
      · show o.val * 256 + c.val * 64 + l.val % 64 = (o.val * 2 + c.val / 2) * 128 + (1 - q.val) * 64 + l.val % 64; omega
      · exact kvRaw_apply k v b p _ o c _ rfl

theorem headArr_apply (x : FVec Ideal S16x1024 .f32) (r : Fin 128) (C : Fin 1024) :
    headArr x (ix2 r C) = if hp : 112 ≤ r.val then (x (ix2 (⟨r.val - 112, by omega⟩ : Fin 16) C) : EReal) else 0 := by
  unfold headArr
  by_cases hp : 112 ≤ r.val
  · rw [dif_pos hp]
    refine concatenate_pair_apply_right (t := S128x1024) (0 : Fin 2) _ _ concatenates_S112x1024_S16x1024_S128x1024_d0 _ rfl rfl
        (ix2 (⟨r.val - 112, by omega⟩ : Fin 16) C) ?_ ?_
    · intro a ha
      match a with
      | ⟨0, _⟩ => exact absurd rfl ha
      | ⟨1, _⟩ => rfl
    · show (r.val - 112) + 112 = r.val; omega
  · rw [dif_neg hp]
    refine (concatenate_pair_apply_left (t := S128x1024) (0 : Fin 2) _ _ concatenates_S112x1024_S16x1024_S128x1024_d0 _ rfl
        (ix2 (⟨r.val, by omega⟩ : Fin 112) C) ?_).trans ?_
    · intro a
      match a with
      | ⟨0, _⟩ =>
        show r.val = r.val
        omega
      | ⟨1, _⟩ => rfl
    · exact Ideal.ofBits_zero_f32

theorem bucket_words : ∀ i : Fin 128, lit0 i = BitVec.ofNat 32 (bkt i.val) := by decide

theorem distArr_apply (r k : Fin 128) : distArr (ix2 r k) = BitVec.ofNat 32 ((r.val + 128 - k.val) % 128) := by
  show (BitVec.ofNat 32 r.val - BitVec.ofNat 32 k.val) &&& 127#32 = _
  apply BitVec.eq_of_toNat_eq
  rw [BitVec.toNat_and, BitVec.toNat_sub, BitVec.toNat_ofNat, BitVec.toNat_ofNat, BitVec.toNat_ofNat, BitVec.toNat_ofNat]
  rw [show 127 % 2 ^ 32 = 2 ^ 7 - 1 from rfl, Nat.and_two_pow_sub_one_eq_mod]
  omega

theorem wrapArr_apply (w : BitVec 32) (d : IVec S128x128 32) (r k : Fin 128) (n : ℕ) (hn : n < 2 ^ 31) (hd : d (ix2 r k) = BitVec.ofNat 32 n) :
    wrapArr w d (ix3 r k 0) = BitVec.ofNat 32 n := by
  unfold wrapArr
  refine (broadcastInDim_apply _ _ _ _ (ix2 r k) ?_).trans ?_
  · intro a
    match a with
    | ⟨0, _⟩ => rfl
    | ⟨1, _⟩ => rfl
  · show Scalar.select _ _ _ = _
    rw [word_nonneg d _ (ix2 r k) n hn hd rfl]
    exact (select_zero _ _).trans hd

theorem bucketArr_apply (r k : Fin 128) : bucketArr (ix2 r k) = BitVec.ofNat 32 (bkt ((r.val + 128 - k.val) % 128)) := by
  unfold bucketArr
  refine (gather_take_apply (N := 128) (R := 128) (C := 128) (by omega) gather_S128_S128x128x1_S128x128_n_0_n_n_0_2_1_wf _ _ (ix2 r k)).trans ?_
  have e : takeIdx (ix2 r k : (⟨2, ![128, 128]⟩ : Shape).Idx) = ix3 r k 0 := by
    funext a
    match a with
    | ⟨0, _⟩ => rfl
    | ⟨1, _⟩ => rfl
    | ⟨2, _⟩ => rfl
  refine (bucket_words _).trans ?_
  refine congrArg (fun n => BitVec.ofNat 32 (bkt n)) ?_
  rw [Shape.rowMajor_val_one]
  show min ((wrapArr 128#32 distArr) (takeIdx (ix2 r k))).toInt.toNat 127 = _
  rw [e, wrapArr_apply _ _ r k _ (by omega) (distArr_apply r k), word_toNat _ (by omega)]
  omega

theorem biasArr_apply (t : FVec Ideal S32x16 .f32) (h : Fin 16) (r k : Fin 128) :
    biasArr t (ix3 h r k) = t (ix2 (⟨bkt ((r.val + 128 - k.val) % 128), bkt_lt _ (by omega)⟩ : Fin 32) h) := by
  unfold biasArr
  refine (transpose_apply _ _ _ _ (ix3 r k h) ?_).trans ?_
  · intro a
    match a with
    | ⟨0, _⟩ => rfl
    | ⟨1, _⟩ => rfl
    | ⟨2, _⟩ => rfl
  refine (rows_apply 32 16 128 128 (by omega) gather_S32x16_S128x128x1_S128x128x16_2_0_n_n_0_2_116_wf t _ r k h).trans ?_
  refine congrArg (fun b : Fin 32 => t (ix2 b h)) (Fin.ext ?_)
  have hb := bkt_lt ((r.val + 128 - k.val) % 128) (by omega)
  show min ((wrapArr 32#32 bucketArr) (ix3 r k 0)).toInt.toNat (32 - 1) = bkt _
  rw [wrapArr_apply _ _ r k _ (by omega) (bucketArr_apply r k), word_toNat _ (by omega)]
  omega

end Attn

end
-- ==== Proof.KBlocks.lean ====
module

public import proofs.«01_k».proof.Proof.KHead
public import proofs.«01_k».proof.Proof.KRun
public import proofs.«01_k».proof.Proof.KRead

@[expose] public section

noncomputable section

/-! The kernel's result array is the attention's. -/

namespace Attn

open Cert.KernelIdeal Cert.KernelIdeal.Gen Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

theorem coord1 : ∀ t : Fin cfg0.N, (grid0.coords t 1).val = t.val % 11 :=
  (by decide +kernel : ∀ t : Fin grid0.N, (grid0.coords t 1).val = t.val % 11)

theorem index_1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)

theorem index_2 : ∀ t : Fin cfg0.N, win0_2.index t (0 : Fin 2) = t.val ∧ win0_2.index t (1 : Fin 2) = 0 :=
  (by decide +kernel : ∀ t : Fin grid0.N, win0_2.index t (0 : Fin 2) = t.val ∧ win0_2.index t (1 : Fin 2) = 0)

theorem index_3 : ∀ t : Fin cfg0.N, win0_3.index t (0 : Fin 2) = t.val / 11 * 33 + (3 * (t.val % 11) - 1) ∧ win0_3.index t (1 : Fin 2) = 0 :=
  (by decide +kernel : ∀ t : Fin grid0.N, win0_3.index t (0 : Fin 2) = t.val / 11 * 33 + (3 * (t.val % 11) - 1) ∧ win0_3.index t (1 : Fin 2) = 0)

theorem index_4 : ∀ t : Fin cfg0.N, win0_4.index t (0 : Fin 2) = t.val ∧ win0_4.index t (1 : Fin 2) = 0 :=
  (by decide +kernel : ∀ t : Fin grid0.N, win0_4.index t (0 : Fin 2) = t.val ∧ win0_4.index t (1 : Fin 2) = 0)

theorem index_5 : ∀ t : Fin cfg0.N, win0_5.index t (0 : Fin 2) = 0 ∧ win0_5.index t (1 : Fin 2) = 0 :=
  (by decide +kernel : ∀ t : Fin grid0.N, win0_5.index t (0 : Fin 2) = 0 ∧ win0_5.index t (1 : Fin 2) = 0)

theorem index_6 : ∀ t : Fin cfg0.N, win0_6.index t (0 : Fin 2) = t.val / 11 * 32 + (3 * (t.val % 11) + 0 - 1) ∧ win0_6.index t (1 : Fin 2) = 0 :=
  (by decide +kernel : ∀ t : Fin grid0.N, win0_6.index t (0 : Fin 2) = t.val / 11 * 32 + (3 * (t.val % 11) + 0 - 1) ∧ win0_6.index t (1 : Fin 2) = 0)

theorem index_7 : ∀ t : Fin cfg0.N, win0_7.index t (0 : Fin 2) = t.val / 11 * 32 + (3 * (t.val % 11) + 1 - 1) ∧ win0_7.index t (1 : Fin 2) = 0 :=
  (by decide +kernel : ∀ t : Fin grid0.N, win0_7.index t (0 : Fin 2) = t.val / 11 * 32 + (3 * (t.val % 11) + 1 - 1) ∧ win0_7.index t (1 : Fin 2) = 0)

theorem index_8 : ∀ t : Fin cfg0.N, win0_8.index t (0 : Fin 2) = t.val / 11 * 32 + (3 * (t.val % 11) + 2 - 1) ∧ win0_8.index t (1 : Fin 2) = 0 :=
  (by decide +kernel : ∀ t : Fin grid0.N, win0_8.index t (0 : Fin 2) = t.val / 11 * 32 + (3 * (t.val % 11) + 2 - 1) ∧ win0_8.index t (1 : Fin 2) = 0)

theorem index_10 : ∀ t : Fin cfg0.N, win0_10.index t (0 : Fin 2) = 0 ∧ win0_10.index t (1 : Fin 2) = 0 :=
  (by decide +kernel : ∀ t : Fin grid0.N, win0_10.index t (0 : Fin 2) = 0 ∧ win0_10.index t (1 : Fin 2) = 0)

theorem blk_1 (c : Dev nD) (t : Fin cfg0.N) (R : Fin 384) (C : Fin 1024) (b : Fin 4) (p : Fin 4224) (hp : 384 * t.val + R.val = b.val * 4224 + p.val) :
    iblk m c 1 t (ix2 R C) = qArr (m ((c : Thread nD τ).loc main_arg0)) (ix2 (prow b p) C) := by
  obtain ⟨e0, e1⟩ := index_1 t
  have h0 : (((cfg0.win 1).blk t).view.emb (ix2 R C) 0).val = win0_1.index t (0 : Fin 2) * 384 + 1 * R.val := rfl
  have h1 : (((cfg0.win 1).blk t).view.emb (ix2 R C) 1).val = win0_1.index t (1 : Fin 2) * 1024 + 1 * C.val := rfl
  rw [e0] at h0
  rw [e1] at h1
  show V m c main_v5 (((cfg0.win 1).blk t).view.emb (ix2 R C)) = _
  rw [q_host]
  refine congrArg _ ?_
  funext a; apply Fin.ext
  match a with
  | ⟨0, _⟩ => show (((cfg0.win 1).blk t).view.emb (ix2 R C) 0).val = _; rw [h0]; show _ = b.val * 4224 + p.val; omega
  | ⟨1, _⟩ => show (((cfg0.win 1).blk t).view.emb (ix2 R C) 1).val = _; rw [h1]; show 0 * 1024 + 1 * C.val = C.val; rw [Nat.zero_mul, Nat.one_mul, Nat.zero_add]

theorem blk_2 (c : Dev nD) (t : Fin cfg0.N) (R : Fin 384) (C : Fin 1024) (b : Fin 4) (p : Fin 4224) (hp : 384 * t.val + R.val = b.val * 4224 + p.val) :
    iblk m c 2 t (ix2 R C) = kvArr (m ((c : Thread nD τ).loc main_arg1)) (m ((c : Thread nD τ).loc main_arg2)) (ix2 (prow b p) C) := by
  obtain ⟨e0, e1⟩ := index_2 t
  have h0 : (((cfg0.win 2).blk t).view.emb (ix2 R C) 0).val = win0_2.index t (0 : Fin 2) * 384 + 1 * R.val := rfl
  have h1 : (((cfg0.win 2).blk t).view.emb (ix2 R C) 1).val = win0_2.index t (1 : Fin 2) * 1024 + 1 * C.val := rfl
  rw [e0] at h0
  rw [e1] at h1
  show V m c main_v15 (((cfg0.win 2).blk t).view.emb (ix2 R C)) = _
  rw [kv_host]
  refine congrArg _ ?_
  funext a; apply Fin.ext
  match a with
  | ⟨0, _⟩ => show (((cfg0.win 2).blk t).view.emb (ix2 R C) 0).val = _; rw [h0]; show _ = b.val * 4224 + p.val; omega
  | ⟨1, _⟩ => show (((cfg0.win 2).blk t).view.emb (ix2 R C) 1).val = _; rw [h1]; show 0 * 1024 + 1 * C.val = C.val; rw [Nat.zero_mul, Nat.one_mul, Nat.zero_add]

theorem blk_4 (c : Dev nD) (t : Fin cfg0.N) (R : Fin 384) (C : Fin 1024) (b : Fin 4) (p : Fin 4224) (hp : 384 * t.val + R.val = b.val * 4224 + p.val) :
    iblk m c 4 t (ix2 R C) = gArr (m ((c : Thread nD τ).loc main_arg3)) (ix2 (prow b p) C) := by
  obtain ⟨e0, e1⟩ := index_4 t
  have h0 : (((cfg0.win 4).blk t).view.emb (ix2 R C) 0).val = win0_4.index t (0 : Fin 2) * 384 + 1 * R.val := rfl
  have h1 : (((cfg0.win 4).blk t).view.emb (ix2 R C) 1).val = win0_4.index t (1 : Fin 2) * 1024 + 1 * C.val := rfl
  rw [e0] at h0
  rw [e1] at h1
  show V m c main_v41 (((cfg0.win 4).blk t).view.emb (ix2 R C)) = _
  rw [g_host]
  refine congrArg _ ?_
  funext a; apply Fin.ext
  match a with
  | ⟨0, _⟩ => show (((cfg0.win 4).blk t).view.emb (ix2 R C) 0).val = _; rw [h0]; show _ = b.val * 4224 + p.val; omega
  | ⟨1, _⟩ => show (((cfg0.win 4).blk t).view.emb (ix2 R C) 1).val = _; rw [h1]; show 0 * 1024 + 1 * C.val = C.val; rw [Nat.zero_mul, Nat.one_mul, Nat.zero_add]

theorem blk_3 (c : Dev nD) (t : Fin cfg0.N) (R : Fin 128) (C : Fin 1024) (b : Fin 4) (p : Fin 4224) (hp : (t.val / 11 * 33 + (3 * (t.val % 11) - 1)) * 128 + R.val = b.val * 4224 + p.val) :
    iblk m c 3 t (ix2 R C) = kvArr (m ((c : Thread nD τ).loc main_arg1)) (m ((c : Thread nD τ).loc main_arg2)) (ix2 (prow b p) C) := by
  obtain ⟨e0, e1⟩ := index_3 t
  have h0 : (((cfg0.win 3).blk t).view.emb (ix2 R C) 0).val = win0_3.index t (0 : Fin 2) * 128 + 1 * R.val := rfl
  have h1 : (((cfg0.win 3).blk t).view.emb (ix2 R C) 1).val = win0_3.index t (1 : Fin 2) * 1024 + 1 * C.val := rfl
  rw [e0] at h0
  rw [e1] at h1
  show V m c main_v15 (((cfg0.win 3).blk t).view.emb (ix2 R C)) = _
  rw [kv_host]
  refine congrArg _ ?_
  funext a; apply Fin.ext
  match a with
  | ⟨0, _⟩ => show (((cfg0.win 3).blk t).view.emb (ix2 R C) 0).val = _; rw [h0]; show _ = b.val * 4224 + p.val; omega
  | ⟨1, _⟩ => show (((cfg0.win 3).blk t).view.emb (ix2 R C) 1).val = _; rw [h1]; show 0 * 1024 + 1 * C.val = C.val; rw [Nat.zero_mul, Nat.one_mul, Nat.zero_add]

theorem blk_5 (c : Dev nD) (t : Fin cfg0.N) (R : Fin 128) (C : Fin 1024)  :
    iblk m c 5 t (ix2 R C) = headArr (m ((c : Thread nD τ).loc main_arg5)) (ix2 R C) := by
  obtain ⟨e0, e1⟩ := index_5 t
  have h0 : (((cfg0.win 5).blk t).view.emb (ix2 R C) 0).val = win0_5.index t (0 : Fin 2) * 128 + 1 * R.val := rfl
  have h1 : (((cfg0.win 5).blk t).view.emb (ix2 R C) 1).val = win0_5.index t (1 : Fin 2) * 1024 + 1 * C.val := rfl
  rw [e0] at h0
  rw [e1] at h1
  show V m c main_v37 (((cfg0.win 5).blk t).view.emb (ix2 R C)) = _
  rw [head_host]
  refine congrArg _ ?_
  funext a; apply Fin.ext
  match a with
  | ⟨0, _⟩ => show (((cfg0.win 5).blk t).view.emb (ix2 R C) 0).val = _; rw [h0]; show 0 * 128 + 1 * R.val = R.val; omega
  | ⟨1, _⟩ => show (((cfg0.win 5).blk t).view.emb (ix2 R C) 1).val = _; rw [h1]; show 0 * 1024 + 1 * C.val = C.val; rw [Nat.zero_mul, Nat.one_mul, Nat.zero_add]

theorem blk_6 (c : Dev nD) (t : Fin cfg0.N) (R : Fin 128) (C : Fin 1024) (b : Fin 4) (p : Fin 4096)
    (hp : (t.val / 11 * 32 + (3 * (t.val % 11) + 0 - 1)) * 128 + R.val = b.val * 4096 + p.val) :
    iblk m c 6 t (ix2 R C) = m ((c : Thread nD τ).loc main_arg4) (ix3 b p C) := by
  obtain ⟨e0, e1⟩ := index_6 t
  have h0 : (((cfg0.win 6).blk t).view.emb (ix2 R C) 0).val = win0_6.index t (0 : Fin 2) * 128 + 1 * R.val := rfl
  have h1 : (((cfg0.win 6).blk t).view.emb (ix2 R C) 1).val = win0_6.index t (1 : Fin 2) * 1024 + 1 * C.val := rfl
  rw [e0] at h0
  rw [e1] at h1
  show V m c main_v38 (((cfg0.win 6).blk t).view.emb (ix2 R C)) = _
  rw [x_host]
  exact shapeCast_apply _ _ _ (ix3 b p C) (by
    rw [Shape.rowMajor_val_three, Shape.rowMajor_val_two]
    show (b.val * 4096 + p.val) * 1024 + C.val = (((cfg0.win 6).blk t).view.emb (ix2 R C) 0).val * 1024 + (((cfg0.win 6).blk t).view.emb (ix2 R C) 1).val
    rw [h0, h1]; omega)

theorem blk_7 (c : Dev nD) (t : Fin cfg0.N) (R : Fin 128) (C : Fin 1024) (b : Fin 4) (p : Fin 4096)
    (hp : (t.val / 11 * 32 + (3 * (t.val % 11) + 1 - 1)) * 128 + R.val = b.val * 4096 + p.val) :
    iblk m c 7 t (ix2 R C) = m ((c : Thread nD τ).loc main_arg4) (ix3 b p C) := by
  obtain ⟨e0, e1⟩ := index_7 t
  have h0 : (((cfg0.win 7).blk t).view.emb (ix2 R C) 0).val = win0_7.index t (0 : Fin 2) * 128 + 1 * R.val := rfl
  have h1 : (((cfg0.win 7).blk t).view.emb (ix2 R C) 1).val = win0_7.index t (1 : Fin 2) * 1024 + 1 * C.val := rfl
  rw [e0] at h0
  rw [e1] at h1
  show V m c main_v38 (((cfg0.win 7).blk t).view.emb (ix2 R C)) = _
  rw [x_host]
  exact shapeCast_apply _ _ _ (ix3 b p C) (by
    rw [Shape.rowMajor_val_three, Shape.rowMajor_val_two]
    show (b.val * 4096 + p.val) * 1024 + C.val = (((cfg0.win 7).blk t).view.emb (ix2 R C) 0).val * 1024 + (((cfg0.win 7).blk t).view.emb (ix2 R C) 1).val
    rw [h0, h1]; omega)

theorem blk_8 (c : Dev nD) (t : Fin cfg0.N) (R : Fin 128) (C : Fin 1024) (b : Fin 4) (p : Fin 4096)
    (hp : (t.val / 11 * 32 + (3 * (t.val % 11) + 2 - 1)) * 128 + R.val = b.val * 4096 + p.val) :
    iblk m c 8 t (ix2 R C) = m ((c : Thread nD τ).loc main_arg4) (ix3 b p C) := by
  obtain ⟨e0, e1⟩ := index_8 t
  have h0 : (((cfg0.win 8).blk t).view.emb (ix2 R C) 0).val = win0_8.index t (0 : Fin 2) * 128 + 1 * R.val := rfl
  have h1 : (((cfg0.win 8).blk t).view.emb (ix2 R C) 1).val = win0_8.index t (1 : Fin 2) * 1024 + 1 * C.val := rfl
  rw [e0] at h0
  rw [e1] at h1
  show V m c main_v38 (((cfg0.win 8).blk t).view.emb (ix2 R C)) = _
  rw [x_host]
  exact shapeCast_apply _ _ _ (ix3 b p C) (by
    rw [Shape.rowMajor_val_three, Shape.rowMajor_val_two]
    show (b.val * 4096 + p.val) * 1024 + C.val = (((cfg0.win 8).blk t).view.emb (ix2 R C) 0).val * 1024 + (((cfg0.win 8).blk t).view.emb (ix2 R C) 1).val
    rw [h0, h1]; omega)

theorem blk_10 (c : Dev nD) (t : Fin cfg0.N) (R C : Fin 1024) :
    iblk m c 10 t (ix2 R C) = m ((c : Thread nD τ).loc main_arg8) (ix3 (0 : Fin 1) R C) := by
  obtain ⟨e0, e1⟩ := index_10 t
  have h0 : (((cfg0.win 10).blk t).view.emb (ix2 R C) 0).val = win0_10.index t (0 : Fin 2) * 1024 + 1 * R.val := rfl
  have h1 : (((cfg0.win 10).blk t).view.emb (ix2 R C) 1).val = win0_10.index t (1 : Fin 2) * 1024 + 1 * C.val := rfl
  rw [e0] at h0
  rw [e1] at h1
  show V m c main_v43 (((cfg0.win 10).blk t).view.emb (ix2 R C)) = _
  rw [w_host]
  exact shapeCast_apply _ shapeCasts_S1x1024x1024_S1024x1024 _ (ix3 (0 : Fin 1) R C) (by
    rw [Shape.rowMajor_val_three, Shape.rowMajor_val_two]
    show (0 * 1024 + R.val) * 1024 + C.val = (((cfg0.win 10).blk t).view.emb (ix2 R C) 0).val * 1024 + (((cfg0.win 10).blk t).view.emb (ix2 R C) 1).val
    rw [h0, h1]; omega)

theorem blk_0 (c : Dev nD) (t : Fin cfg0.N) (h : Fin 16) :
    iblk m c 0 t (ix1 h) = m ((c : Thread nD τ).loc main_arg7) (ix2 (0 : Fin 1) h) := by
  have h0 : (((cfg0.win 0).blk t).view.emb (ix1 h) 0).val = 0 * 16 + 1 * h.val := rfl
  show V m c main_v39 (((cfg0.win 0).blk t).view.emb (ix1 h)) = _
  rw [sink_host]
  exact shapeCast_apply _ _ _ (ix2 (0 : Fin 1) h) (by
    rw [Shape.rowMajor_val_two, Shape.rowMajor_val_one]
    show 0 * 16 + h.val = (((cfg0.win 0).blk t).view.emb (ix1 h) 0).val
    rw [h0]; omega)

theorem blk_9 (c : Dev nD) (t : Fin cfg0.N) (h : Fin 16) (r k : Fin 128) :
    iblk m c 9 t (ix3 h r k) = m ((c : Thread nD τ).loc main_arg6) (ix2 (⟨bkt (gap r k), bkt_lt _ (gap_lt r k)⟩ : Fin 32) h) := by
  have h0 : (((cfg0.win 9).blk t).view.emb (ix3 h r k) 0).val = 0 * 16 + 1 * h.val := rfl
  have h1 : (((cfg0.win 9).blk t).view.emb (ix3 h r k) 1).val = 0 * 128 + 1 * r.val := rfl
  have h2 : (((cfg0.win 9).blk t).view.emb (ix3 h r k) 2).val = 0 * 128 + 1 * k.val := rfl
  show V m c main_v35 (((cfg0.win 9).blk t).view.emb (ix3 h r k)) = _
  rw [bias_host]
  refine Eq.trans (congrArg _ ?_) (biasArr_apply _ h r k)
  funext a; apply Fin.ext
  match a with
  | ⟨0, _⟩ => show (((cfg0.win 9).blk t).view.emb (ix3 h r k) 0).val = h.val; rw [h0]; omega
  | ⟨1, _⟩ => show (((cfg0.win 9).blk t).view.emb (ix3 h r k) 1).val = r.val; rw [h1]; omega
  | ⟨2, _⟩ => show (((cfg0.win 9).blk t).view.emb (ix3 h r k) 2).val = k.val; rw [h2]; omega

end Attn

end
-- ==== Proof.KSpec.lean ====
module

public import proofs.«01_k».proof.Proof.KBlocks

@[expose] public section

noncomputable section

/-! The kernel's result array is the attention's. -/

namespace Attn

open Cert.KernelIdeal Cert.KernelIdeal.Gen Idealize.ShloMosaic Idealize.ShloMosaic.TcCoe Idealize.ShloMosaic.ValueIdx Idealize.SL.Sem

variable (m : (ℓ : Loc nD τ sig) → Buf (Elt Ideal) ℓ)

theorem q_tok (x : FVec Ideal S4x4112x4x4x64 .f32) (b : Fin 4) (p : Fin 4224) (kv g : Fin 4) (d : Fin 64) (C : Fin 1024) (hC : C.val = kv.val * 256 + g.val * 64 + d.val) :
    qArr x (ix2 (prow b p) C) = tokQ x b p.val kv g d * Ideal.ofBits .f32 0x3E000000#32 := by
  rw [qArr_apply]
  unfold tokQ
  by_cases hp : 112 ≤ p.val
  · rw [dif_pos hp, dif_pos ⟨hp, p.isLt⟩, show (⟨C.val / 256, by omega⟩ : Fin 4) = kv from Fin.ext (by show C.val / 256 = _; omega),
      show (⟨C.val / 64 % 4, by omega⟩ : Fin 4) = g from Fin.ext (by show C.val / 64 % 4 = _; omega),
      show (⟨C.val % 64, by omega⟩ : Fin 64) = d from Fin.ext (by show C.val % 64 = _; omega)]
  · rw [dif_neg hp, dif_neg fun h => hp h.1, zero_mul]

theorem g_tok (x : FVec Ideal S4x4112x1024 .f32) (b : Fin 4) (p : Fin 4224) (C : Fin 1024) : gArr x (ix2 (prow b p) C) = tokG x b p.val C := by
  rw [gArr_apply]
  unfold tokG
  by_cases hp : 112 ≤ p.val
  · rw [dif_pos hp, dif_pos ⟨hp, p.isLt⟩]
  · rw [dif_neg hp, dif_neg fun h => hp h.1]

theorem kv_tok (k v : FVec Ideal S4x4112x4x64 .f32) (b : Fin 4) (p : Fin 4224) (o : Fin 2) (c : Fin 4) (q : Fin 2) (l : Fin 128) (hl : l.val / 64 = q.val) :
    kvArr k v (ix2 (prow b p) (kvLane o c q l)) = tokK (if o = 0 then k else v) b p.val c (⟨l.val % 64, by omega⟩ : Fin 64) := by
  rw [kvArr_apply k v b p o c q l hl]
  unfold tokK
  by_cases hp : 112 ≤ p.val
  · rw [dif_pos hp, dif_pos ⟨hp, p.isLt⟩]
  · rw [dif_neg hp, dif_neg fun h => hp h.1]

/-- The point of block `n` of batch entry `b`, and the block within it. -/
def ptOf (b : Fin 4) (n : Fin 33) : Fin cfg0.N := pt (b.val * 11 + n.val / 3) (by omega)
def jOf (n : Fin 33) : Fin 3 := ⟨n.val % 3, by omega⟩
def posOf (n : ℕ) (h : n < 33) (r : Fin 128) : Fin 4224 := ⟨n * 128 + r.val, by omega⟩

theorem tiles (c : Dev nD) (b : Fin 4) (n : Fin 33) (r : Fin 128) :
    Tiles (m ((c : Thread nD τ).loc main_arg0)) (m ((c : Thread nD τ).loc main_arg1)) (m ((c : Thread nD τ).loc main_arg2)) (m ((c : Thread nD τ).loc main_arg6)) b n.val
      (fun r l => iblk m c 1 (ptOf b n) (ix2 (brow (jOf n) r) l)) (fun k l => iblk m c 2 (ptOf b n) (ix2 (brow (jOf n) k) l))
      (prevKV (iblk m c 2 (ptOf b n)) (iblk m c 3 (ptOf b n)) (jOf n)) (biasOf (btab (iblk m c 9 (ptOf b n))) (n.val / 3) (jOf n)) r := by
  have ht : (ptOf b n).val = b.val * 11 + n.val / 3 := rfl
  have own : ∀ r : Fin 128, 384 * (ptOf b n).val + (brow (jOf n) r).val = b.val * 4224 + (posOf n.val n.isLt r).val := fun r => by
    show 384 * (b.val * 11 + n.val / 3) + (128 * (n.val % 3) + r.val) = b.val * 4224 + (n.val * 128 + r.val)
    omega
  have prev : ∀ (k : Fin 128) (L : Fin 1024), 0 < n.val → prevKV (iblk m c 2 (ptOf b n)) (iblk m c 3 (ptOf b n)) (jOf n) k L
      = kvArr (m ((c : Thread nD τ).loc main_arg1)) (m ((c : Thread nD τ).loc main_arg2)) (ix2 (prow b (posOf (n.val - 1) (by omega) k)) L) := by
    intro k L hn
    unfold prevKV
    by_cases hj : jOf n = 0
    · rw [if_pos hj]
      have hj' : n.val % 3 = 0 := congrArg Fin.val hj
      exact blk_3 m c (ptOf b n) k L b (posOf (n.val - 1) (by omega) k) (by
        rw [ht]; show _ = b.val * 4224 + ((n.val - 1) * 128 + k.val); omega)
    · rw [if_neg hj]
      have hj' : n.val % 3 ≠ 0 := fun h => hj (Fin.ext h)
      have hv : (jOf n - 1).val = n.val % 3 - 1 := by
        have : (jOf n).val = n.val % 3 := rfl
        rw [← this]; rw [← this] at hj'; revert hj'; generalize jOf n = j; revert j; decide
      exact blk_2 m c (ptOf b n) (brow (jOf n - 1) k) L b (posOf (n.val - 1) (by omega) k) (by
        rw [ht]; show 384 * (b.val * 11 + n.val / 3) + (128 * (jOf n - 1).val + k.val) = b.val * 4224 + ((n.val - 1) * 128 + k.val); rw [hv]; omega)
  refine ⟨?_, ?_, ?_, ?_, ?_, ?_⟩
  · intro cc h p l hl
    rw [blk_1 m c (ptOf b n) (brow (jOf n) r) (lane cc h l) b (posOf n.val n.isLt r) (own r)]
    exact q_tok _ b _ cc (grp h p) ⟨l.val % 64, by omega⟩ _ (by
      show cc.val * 256 + h.val * 128 + l.val = cc.val * 256 + (2 * h.val + p.val) * 64 + l.val % 64; omega)
  · intro k' cc p l hl
    rw [blk_2 m c (ptOf b n) (brow (jOf n) k') (kvLane 0 cc p l) b (posOf n.val n.isLt k') (own k')]
    exact kv_tok _ _ b _ 0 cc p l hl
  · intro k' cc p l hl
    rw [blk_2 m c (ptOf b n) (brow (jOf n) k') (kvLane 1 cc p l) b (posOf n.val n.isLt k') (own k')]
    exact kv_tok _ _ b _ 1 cc p l hl
  · intro k' cc p l hn hl
    rw [prev k' _ hn]
    exact kv_tok _ _ b _ 0 cc p l hl
  · intro k' cc p l hn hl
    rw [prev k' _ hn]
    exact kv_tok _ _ b _ 1 cc p l hl
  · intro h k'
    unfold biasOf
    rw [btab_apply (iblk m c 9 (ptOf b n)) _ (min n.val 2) h r k' rfl
      (by show 128 * min (3 * (n.val / 3) + n.val % 3) 2 + r.val = 128 * min n.val 2 + r.val; omega) rfl]
    unfold btabAt
    rw [blk_9]
    unfold slotPos
    have hk := k'.isLt
    by_cases h0 : n.val = 0
    · rw [if_pos (by omega)]
      by_cases h1 : k'.val ≤ r.val
      · rw [if_pos h1, if_pos h1]
        by_cases h2 : 112 ≤ k'.val
        · rw [if_pos h2, if_pos (by omega)]
        · rw [if_neg h2, if_neg (by omega)]
      · rw [if_neg h1, if_neg h1, if_neg (by omega)]
    · rw [if_neg (by omega)]
      by_cases h3 : n.val = 1
      · rw [if_pos (by omega)]
        by_cases h1 : k'.val ≤ r.val
        · rw [if_pos h1, if_pos h1, if_pos (by omega)]
        · rw [if_neg h1, if_neg h1]
          by_cases h2 : 112 ≤ k'.val
          · rw [if_pos h2, if_pos (by omega)]
          · rw [if_neg h2, if_neg (by omega)]
      · rw [if_neg (by omega), if_pos (by split <;> omega)]

theorem resid_eq (c : Dev nD) (b : Fin 4) (n : Fin 33) (r : Fin 128) (C : Fin 1024) :
    residAt (n.val / 3) (iblk m c 5 (ptOf b n)) (iblk m c 6 (ptOf b n)) (iblk m c 7 (ptOf b n)) (iblk m c 8 (ptOf b n)) (jOf n) r C
      = specResid (m ((c : Thread nD τ).loc main_arg4)) (m ((c : Thread nD τ).loc main_arg5)) b n r C := by
  have ht : (ptOf b n).val = b.val * 11 + n.val / 3 := rfl
  unfold residAt specResid
  by_cases hj : jOf n = 0
  · have hj' : n.val % 3 = 0 := congrArg Fin.val hj
    rw [if_pos hj]
    by_cases hn : n.val = 0
    · rw [if_pos (by omega), dif_pos hn, blk_5]
      exact headArr_apply _ r C
    · rw [if_neg (by omega), dif_neg hn]
      exact blk_6 m c (ptOf b n) r C b _ (by rw [ht]; show _ = b.val * 4096 + ((n.val - 1) * 128 + r.val); omega)
  · have hj' : n.val % 3 ≠ 0 := fun h => hj (Fin.ext h)
    rw [if_neg hj, dif_neg (by omega)]
    by_cases hj1 : jOf n = 1
    · have hj2 : n.val % 3 = 1 := congrArg Fin.val hj1
      rw [if_pos hj1]
      exact blk_7 m c (ptOf b n) r C b _ (by rw [ht]; show _ = b.val * 4096 + ((n.val - 1) * 128 + r.val); omega)
    · have hj2 : n.val % 3 ≠ 1 := fun h => hj1 (Fin.ext h)
      rw [if_neg hj1]
      exact blk_8 m c (ptOf b n) r C b _ (by rw [ht]; show _ = b.val * 4096 + ((n.val - 1) * 128 + r.val); omega)

/-- The kernel's result at row `r` of block `n` of batch entry `b`. -/
theorem kernel_spec (c : Dev nD) (hq : IsReal (m ((c : Thread nD τ).loc main_arg0) : A5)) (hk : IsReal (m ((c : Thread nD τ).loc main_arg1) : A4))
    (ht : IsReal (m ((c : Thread nD τ).loc main_arg6) : (⟨2, ![32, 16]⟩ : Shape).Idx → EReal))
    (hs : IsReal (m ((c : Thread nD τ).loc main_arg7) : (⟨2, ![1, 16]⟩ : Shape).Idx → EReal))
    (b : Fin 4) (n : Fin 33) (r : Fin 128) (C : Fin 1024) :
    outArr m c (ix2 (prow b (posOf n.val n.isLt r)) C)
      = specOut (m ((c : Thread nD τ).loc main_arg0)) (m ((c : Thread nD τ).loc main_arg1)) (m ((c : Thread nD τ).loc main_arg2)) (m ((c : Thread nD τ).loc main_arg3))
          (m ((c : Thread nD τ).loc main_arg4)) (m ((c : Thread nD τ).loc main_arg5)) (m ((c : Thread nD τ).loc main_arg6)) (m ((c : Thread nD τ).loc main_arg7))
          (m ((c : Thread nD τ).loc main_arg8)) b n r C := by
  rw [outArr_apply m c (ptOf b n) (jOf n) r C _ (by
    show b.val * 4224 + (n.val * 128 + r.val) = 384 * (b.val * 11 + n.val / 3) + 128 * (n.val % 3) + r.val; omega) rfl]
  have hw : (grid0.coords (ptOf b n) 1).val = n.val / 3 := by
    rw [coord1]; show (b.val * 11 + n.val / 3) % 11 = n.val / 3; omega
  rw [hw]
  unfold outAt specOut
  rw [resid_eq]
  refine congrArg (fun x : EReal => _ + x) (Finset.sum_congr rfl fun k _ => ?_)
  rw [blk_10]
  refine congrArg (fun x : EReal => x * _) ?_
  rw [ogF_apply _ _ _ _ _ _ _ _ (jOf n) (⟨k.val / 256, by omega⟩ : Fin 4) (⟨k.val / 128 % 2, by omega⟩ : Fin 2) r (⟨k.val % 128, by omega⟩ : Fin 128) rfl
    (by show k.val = k.val / 256 * 256 + k.val / 128 % 2 * 128 + k.val % 128; omega)]
  unfold ogBlk
  rw [ogVal_eq (tiles m c b n r) hq hk ht _ _ hs (fun h => blk_0 m c _ h) (m ((c : Thread nD τ).loc main_arg3)) _ (fun C => ?_)]
  · exact congrArg _ (Fin.ext (by show k.val / 256 * 256 + k.val / 128 % 2 * 128 + k.val % 128 = k.val; omega))
  · rw [blk_4 m c (ptOf b n) (brow (jOf n) r) C b (posOf n.val n.isLt r) (by
      show 384 * (b.val * 11 + n.val / 3) + (128 * (n.val % 3) + r.val) = b.val * 4224 + (n.val * 128 + r.val)
      omega)]
    exact g_tok _ b _ C

end Attn

end
-- ==== Proof.RefWords.lean ====
module

public import proofs.«01_k».proof.Proof.Gen.ReferenceIdeal.Read
public import proofs.«01_k».proof.Proof.Spec
public import proofs.«01_k».proof.Proof.Host

@[expose] public section

noncomputable section

/-! The reference's integers at an index: the distance, the mask, the bucket; and the bias they pick. -/

namespace Attn

open Cert.ReferenceIdeal Cert.ReferenceIdeal.Gen Cert.ReferenceIdeal.Read Idealize.ShloMosaic Idealize.ShloMosaic.ValueIdx

theorem rel_eq (r : Fin 128) (k : Fin 256) : val_main_v23 (F := Ideal) (ix2 r k) = 128#32 + BitVec.ofNat 32 r.val - BitVec.ofNat 32 k.val := by
  rw [val_main_v23_apply, val_main_v21_apply, val_main_v22_apply, val_main_v20_apply, val_main_v18_apply, val_main_v19_apply, val_main_v16_apply,
    val_main_v15_apply, val_main_v17_apply, val_main_c_4_apply]
  rfl

theorem rel_int (r : Fin 128) (k : Fin 256) : (val_main_v23 (F := Ideal) (ix2 r k)).toInt = 128 + (r.val : ℤ) - (k.val : ℤ) := by
  rw [rel_eq, BitVec.toInt_eq_toNat_cond, BitVec.toNat_sub, BitVec.toNat_add, BitVec.toNat_ofNat, BitVec.toNat_ofNat, BitVec.toNat_ofNat]
  split <;> omega

theorem rel_nat (r : Fin 128) (k : Fin 256) (h : k.val ≤ 128 + r.val) : val_main_v23 (F := Ideal) (ix2 r k) = BitVec.ofNat 32 (128 + r.val - k.val) := by
  rw [rel_eq]
  apply BitVec.eq_of_toNat_eq
  rw [BitVec.toNat_sub, BitVec.toNat_add, BitVec.toNat_ofNat, BitVec.toNat_ofNat, BitVec.toNat_ofNat, BitVec.toNat_ofNat]
  omega

theorem kpos_int (n : Fin 33) (k : Fin 256) : (val_main_v35 (F := Ideal) (ix3 n (0 : Fin 1) k)).toInt = ((n.val : ℤ) - 1) * 128 + (k.val : ℤ) - 112 := by
  rw [val_main_v35_apply, val_main_v33_apply, val_main_v34_apply, val_main_v31_apply, val_main_v32_apply, val_main_v30_apply, val_main_v29_apply,
    val_main_v28_apply, val_main_v27_apply, val_main_v26_apply, val_main_v25_apply, val_main_v24_apply, val_main_v18_apply, val_main_v17_apply,
    val_main_c_7_apply, val_main_c_6_apply, val_main_c_5_apply]
  show ((BitVec.ofNat 32 n.val - 1#32) * 128#32 + BitVec.ofNat 32 k.val - 112#32).toInt = _
  rw [BitVec.toInt_eq_toNat_cond, BitVec.toNat_sub, BitVec.toNat_add, BitVec.toNat_mul, BitVec.toNat_sub, BitVec.toNat_ofNat, BitVec.toNat_ofNat,
    BitVec.toNat_ofNat, BitVec.toNat_ofNat, BitVec.toNat_ofNat]
  split <;> omega

/-- A column is seen when it is in the window and not before the first token. -/
theorem valid_eq (n : Fin 33) (r : Fin 128) (k : Fin 256) : val_main_v46 (F := Ideal) (ix3 n r k)
    = BitVec.ofBool (decide ((k.val ≤ 128 + r.val ∧ r.val < k.val) ∧ 240 ≤ n.val * 128 + k.val)) := by
  rw [val_main_v46_apply, val_main_v44_apply, val_main_v43_apply, val_main_v45_apply, val_main_v40_apply, val_main_v37_apply, val_main_v39_apply,
    val_main_v42_apply, val_main_v36_apply, val_main_v38_apply, val_main_v41_apply, val_main_c_8_apply, val_main_c_9_apply, val_main_c_10_apply]
  show IntOp.andi (IntOp.andi (IntOp.cmpi .sge (val_main_v23 (F := Ideal) (ix2 r k)) 0#32) (IntOp.cmpi .slt (val_main_v23 (F := Ideal) (ix2 r k)) 128#32))
    (IntOp.cmpi .sge (val_main_v35 (F := Ideal) (ix3 n (0 : Fin 1) k)) 0#32) = _
  rw [WordCmp.cmpi_sge_eq, WordCmp.cmpi_slt_eq, WordCmp.cmpi_sge_eq, WordCmp.andi_ofBool, WordCmp.andi_ofBool, rel_int, kpos_int,
    show (0#32 : BitVec 32).toInt = 0 from rfl, show (128#32 : BitVec 32).toInt = 128 from rfl]
  congr 1
  rw [← Bool.decide_and, ← Bool.decide_and]
  exact decide_eq_decide.mpr (by omega)

theorem max_word (a b : ℕ) (ha : a < 2 ^ 31) (hb : b < 2 ^ 31) : IntOp.maxsi (BitVec.ofNat 32 a) (BitVec.ofNat 32 b) = BitVec.ofNat 32 (max a b) := by
  unfold IntOp.maxsi
  have e : (BitVec.ofNat 32 b).slt (BitVec.ofNat 32 a) = decide (b < a) := by
    show decide ((BitVec.ofNat 32 b).toInt < (BitVec.ofNat 32 a).toInt) = _
    rw [WordCmp.toInt_ofNat_of_lt (w := 32) ha, WordCmp.toInt_ofNat_of_lt (w := 32) hb]
    exact decide_eq_decide.mpr (by omega)
  rw [e]
  by_cases h : b < a
  · rw [decide_eq_true h, if_pos rfl, max_eq_left (by omega)]
  · rw [decide_eq_false h, if_neg (by decide), max_eq_right (by omega)]

theorem min_word (a b : ℕ) (ha : a < 2 ^ 31) (hb : b < 2 ^ 31) : IntOp.minsi (BitVec.ofNat 32 a) (BitVec.ofNat 32 b) = BitVec.ofNat 32 (min a b) := by
  unfold IntOp.minsi
  have e : (BitVec.ofNat 32 a).slt (BitVec.ofNat 32 b) = decide (a < b) := by
    show decide ((BitVec.ofNat 32 a).toInt < (BitVec.ofNat 32 b).toInt) = _
    rw [WordCmp.toInt_ofNat_of_lt (w := 32) ha, WordCmp.toInt_ofNat_of_lt (w := 32) hb]
    exact decide_eq_decide.mpr (by omega)
  rw [e]
  by_cases h : a < b
  · rw [decide_eq_true h, if_pos rfl, min_eq_left (by omega)]
  · rw [decide_eq_false h, if_neg (by decide), min_eq_right (by omega)]

/-- The bucket of a distance below the window's width. -/
theorem bucket_eq (i : S128x256.Idx) (n : ℕ) (hn : n < 128) (h : val_main_v23 (F := Ideal) i = BitVec.ofNat 32 n) :
    val_main_v71 (F := Ideal) i = BitVec.ofNat 32 (bkt n) := by
  have h48 : val_main_v48 (F := Ideal) i = BitVec.ofNat 32 n := by
    rw [val_main_v48_apply, val_main_v47_apply, val_main_c_11_apply, h]
    exact (max_word n 0 (by omega) (by decide)).trans (by rw [Nat.max_zero])
  have h66 : val_main_v66 (F := Ideal) i = BitVec.ofNat 32 (bkt n) := by
    rw [val_main_v66_apply, val_main_v65_apply, h48, val_main_v64_apply, val_main_c_17_apply]
    have hc : IntOp.cmpi .slt (BitVec.ofNat 32 n) 16#32 = BitVec.ofBool (decide (n < 16)) :=
      WordCmp.cmpi_slt_ofNat (w := 32) (a := n) (b := 16) (by show n < 2 ^ 31; omega) (by decide)
    rw [hc]
    by_cases h16 : n < 16
    · rw [decide_eq_true h16]
      refine (select_one _ _).trans ?_
      unfold bkt; rw [if_pos h16]
    · rw [decide_eq_false h16]
      refine (select_zero _ _).trans ?_
      rw [val_main_v63_apply, val_main_v62_apply, val_main_c_16_apply, val_main_v61_apply, val_main_v60_apply, val_main_c_15_apply, val_main_v59_apply,
        val_main_v58_apply, val_main_v57_apply, val_main_cst_14_apply, val_main_v56_apply, val_main_v55_apply, val_main_cst_13_apply, val_main_v54_apply,
        val_main_v53_apply, val_main_v52_apply, val_main_cst_apply, val_main_v51_apply, val_main_v50_apply, val_main_v49_apply, val_main_c_12_apply, h48]
      have hm : IntOp.maxsi (BitVec.ofNat 32 n) 16#32 = BitVec.ofNat 32 n := (max_word n 16 (by omega) (by decide)).trans (by rw [max_eq_left (by omega)])
      rw [hm]
      have hi : (BitVec.ofNat 32 n).toInt = (n : ℤ) := WordCmp.toInt_ofNat_of_lt (w := 32) (by show n < 2 ^ 31; omega)
      have ho := octaves_word n hn (by omega)
      have hb := (octaves_bounds n hn (by omega)).1
      have hw : (FloatOps.fptosi (F := Ideal) 32 (FloatOps.mulf (F := Ideal) (FloatOps.hostDivf (F := Ideal) (FloatOps.hostUnary (F := Ideal) .log
          (FloatOps.hostDivf (F := Ideal) (FloatOps.sitofp (F := Ideal) .f32 (BitVec.ofNat 32 n)) (FloatOps.ofBits (F := Ideal) .f32 0x41800000#32)))
          (FloatOps.ofBits (F := Ideal) .f32 0x40051592#32)) (FloatOps.ofBits (F := Ideal) .f32 0x41800000#32))) = BitVec.ofNat 32 (octaves n) := by
        rw [← ho]
        show Ideal.fptosi 32 (Ideal.div (Ideal.log (Ideal.div ((((BitVec.ofNat 32 n).toInt : ℤ) : ℝ) : EReal) (Ideal.ofBits .f32 0x41800000#32))) (Ideal.ofBits .f32 0x40051592#32)
          * Ideal.ofBits .f32 0x41800000#32) = _
        rw [hi]
      refine Eq.trans (congrArg (fun x => IntOp.minsi (IntOp.addi 16#32 x) 31#32) hw) ?_
      show IntOp.minsi (16#32 + BitVec.ofNat 32 (octaves n)) 31#32 = _
      rw [show 16#32 + BitVec.ofNat 32 (octaves n) = BitVec.ofNat 32 (16 + octaves n) from (BitVec.ofNat_add 16 (octaves n)).symm]
      refine (min_word (16 + octaves n) 31 (by omega) (by decide)).trans ?_
      unfold bkt; rw [if_neg h16]
      congr 1
      omega
  rw [val_main_v71_apply, val_main_v68_apply, h66, val_main_v67_apply, val_main_c_18_apply]
  have hb := bkt_lt n hn
  have hc : IntOp.cmpi .slt (BitVec.ofNat 32 (bkt n)) 0#32 = 0#1 :=
    (WordCmp.cmpi_slt_ofNat (w := 32) (a := bkt n) (b := 0) (by show bkt n < 2 ^ 31; omega) (by decide)).trans rfl
  rw [hc]
  exact select_zero _ _

/-- The bias of a head at a column of the window. -/
theorem bias_eq (x6 : FVec Ideal S32x16 .f32) (kv g : Fin 4) (r : Fin 128) (k : Fin 256) (n : ℕ) (hn : n < 128) (h1 : k.val ≤ 128 + r.val) (h : 128 + r.val - k.val = n) :
    val_main_v75 (F := Ideal) x6 (ix4 kv g r k) = x6 (ix2 (⟨bkt n, bkt_lt n hn⟩ : Fin 32) (⟨4 * kv.val + g.val, by omega⟩ : Fin 16)) := by
  rw [val_main_v75_apply, val_main_v74_apply]
  have ei : idx_main_v74 (idx_main_v75 (ix4 kv g r k)) = ix3 r k (⟨4 * kv.val + g.val, by omega⟩ : Fin 16) := by
    have hk := k.isLt
    have hr := r.isLt
    funext a; apply Fin.ext
    match a with
    | ⟨0, _⟩ => show (((kv.val * 4 + g.val) * 128 + r.val) * 256 + k.val) / 256 % 128 = r.val; omega
    | ⟨1, _⟩ => show (((kv.val * 4 + g.val) * 128 + r.val) * 256 + k.val) % 256 = k.val; omega
    | ⟨2, _⟩ => show (((kv.val * 4 + g.val) * 128 + r.val) * 256 + k.val) / 32768 = 4 * kv.val + g.val; omega
  rw [ei]
  have hw : val_main_v72 (F := Ideal) (ix3 r k 0) = BitVec.ofNat 32 (bkt n) := by
    rw [val_main_v72_apply]
    exact bucket_eq (ix2 r k) n hn (by rw [rel_nat r k h1, h])
  refine (rows_apply 32 16 128 256 (by omega) gather_S32x16_S128x256x1_S128x256x16_2_0_n_n_0_2_116_wf x6 (val_main_v72 (F := Ideal)) r k _).trans ?_
  refine congrArg (fun q => x6 (ix2 q _)) (Fin.ext ?_)
  show min (val_main_v72 (F := Ideal) (ix3 r k 0)).toInt.toNat (32 - 1) = bkt n
  have hb := bkt_lt n hn
  rw [hw, word_toNat _ (by omega)]
  omega

end Attn

end
-- ==== Proof.RefTok.lean ====
module

public import proofs.«01_k».proof.Proof.RefWords
public import Idealize.ShloMosaic.Lib.ValueIdxRank6
public import Idealize.ShloMosaic.Lib.KernelVsHost

@[expose] public section

noncomputable section

/-! The reference's queries, keys and values at an index. -/

namespace Attn

open Cert.ReferenceIdeal Cert.ReferenceIdeal.Gen Cert.ReferenceIdeal.Read Idealize.ShloMosaic Idealize.ShloMosaic.ValueIdx

theorem word_zero : FloatOps.sitofp (F := Ideal) .f32 (0#32 : BitVec 32) = (0 : EReal) := by
  show (((0#32 : BitVec 32).toInt : ℝ) : EReal) = 0
  rw [show (0#32 : BitVec 32).toInt = 0 from rfl]; simp

/-- A query. -/
theorem ref_q (x0 : FVec Ideal S4x4112x4x4x64 .f32) (b : Fin 4) (n : Fin 33) (r : Fin 128) (kv g : Fin 4) (d : Fin 64) :
    val_main_v4 (F := Ideal) x0 (ix6 b n r kv g d) = tokQ x0 b (n.val * 128 + r.val) kv g d := by
  have hn := n.isLt
  have hr := r.isLt
  unfold val_main_v4
  refine (shapeCast_apply _ shapeCasts_S4x4224x4x4x64_S4x33x128x4x4x64 _ (ix5 b (⟨n.val * 128 + r.val, by omega⟩ : Fin 4224) kv g d) (by
    rw [Shape.rowMajor_val_five, Shape.rowMajor_val_six]
    show (((b.val * 4224 + (n.val * 128 + r.val)) * 4 + kv.val) * 4 + g.val) * 64 + d.val = ((((b.val * 33 + n.val) * 128 + r.val) * 4 + kv.val) * 4 + g.val) * 64 + d.val
    omega)).trans ?_
  unfold val_main_v3 tokQ
  by_cases hp : 112 ≤ n.val * 128 + r.val
  · rw [dif_pos ⟨hp, by omega⟩]
    refine pad_apply_of_inside _ _ _ x0 _ _ _ _ _ ?_
    intro a
    match a with
    | ⟨0, _⟩ => show b.val = 0 + b.val * (0 + 1); omega
    | ⟨1, _⟩ => show n.val * 128 + r.val = 112 + (n.val * 128 + r.val - 112) * (0 + 1); omega
    | ⟨2, _⟩ => show kv.val = 0 + kv.val * (0 + 1); omega
    | ⟨3, _⟩ => show g.val = 0 + g.val * (0 + 1); omega
    | ⟨4, _⟩ => show d.val = 0 + d.val * (0 + 1); omega
  · rw [dif_neg fun h => hp h.1]
    refine (pad_apply_of_not_inside _ _ _ x0 _ _ _ _ (1 : Fin 5) ?_).trans word_zero
    intro q
    have : 112 ≤ n.val * 128 + r.val := q.1
    omega

/-- A key of a block. -/
theorem ref_k (x1 : FVec Ideal S4x4112x4x64 .f32) (b : Fin 4) (n : Fin 33) (r : Fin 128) (kv : Fin 4) (d : Fin 64) :
    val_main_v6 (F := Ideal) x1 (ix5 b n r kv d) = tokK x1 b (n.val * 128 + r.val) kv d := by
  have hn := n.isLt
  have hr := r.isLt
  unfold val_main_v6
  refine (shapeCast_apply _ shapeCasts_S4x4224x4x64_S4x33x128x4x64 _ (ix4 b (⟨n.val * 128 + r.val, by omega⟩ : Fin 4224) kv d) (by
    rw [Shape.rowMajor_val_four, Shape.rowMajor_val_five]
    show ((b.val * 4224 + (n.val * 128 + r.val)) * 4 + kv.val) * 64 + d.val = (((b.val * 33 + n.val) * 128 + r.val) * 4 + kv.val) * 64 + d.val
    omega)).trans ?_
  unfold val_main_v5 tokK
  by_cases hp : 112 ≤ n.val * 128 + r.val
  · rw [dif_pos ⟨hp, by omega⟩]
    refine pad_apply_of_inside _ _ _ x1 _ _ _ _ _ ?_
    intro a
    match a with
    | ⟨0, _⟩ => show b.val = 0 + b.val * (0 + 1); omega
    | ⟨1, _⟩ => show n.val * 128 + r.val = 112 + (n.val * 128 + r.val - 112) * (0 + 1); omega
    | ⟨2, _⟩ => show kv.val = 0 + kv.val * (0 + 1); omega
    | ⟨3, _⟩ => show d.val = 0 + d.val * (0 + 1); omega
  · rw [dif_neg fun h => hp h.1]
    refine (pad_apply_of_not_inside _ _ _ x1 _ _ _ _ (1 : Fin 4) ?_).trans word_zero
    intro q
    have : 112 ≤ n.val * 128 + r.val := q.1
    omega

/-- A key of a column that is not before the first token. -/
theorem ref_kc (x1 : FVec Ideal S4x4112x4x64 .f32) (b : Fin 4) (n : Fin 33) (k : Fin 256) (kv : Fin 4) (d : Fin 64) (hk : 240 ≤ n.val * 128 + k.val) :
    val_main_v9 (F := Ideal) x1 (ix5 b n k kv d) = tokK x1 b (n.val * 128 + k.val - 128) kv d := by
  unfold val_main_v9
  by_cases h : k.val < 128
  · refine (concatenate_pair_apply_left (t := S4x33x256x4x64) (2 : Fin 5) _ _ concatenates_S4x33x128x4x64_S4x33x128x4x64_S4x33x256x4x64_d2 _ rfl
      (ix5 b n (⟨k.val, h⟩ : Fin 128) kv d) ?_).trans ?_
    · intro a
      match a with
      | ⟨0, _⟩ => rfl
      | ⟨1, _⟩ => rfl
      | ⟨2, _⟩ => rfl
      | ⟨3, _⟩ => rfl
      | ⟨4, _⟩ => rfl
    · rw [val_main_v8_apply]
      unfold val_main_v7
      refine (pad_apply_of_inside _ _ _ (val_main_v6 (F := Ideal) x1) _ _ _ _ (ix5 b (⟨n.val - 1, by omega⟩ : Fin 33) (⟨k.val, h⟩ : Fin 128) kv d) ?_).trans ?_
      · intro a
        match a with
        | ⟨0, _⟩ => show b.val = 0 + b.val * (0 + 1); omega
        | ⟨1, _⟩ => show n.val = 1 + (n.val - 1) * (0 + 1); omega
        | ⟨2, _⟩ => show k.val = 0 + k.val * (0 + 1); omega
        | ⟨3, _⟩ => show kv.val = 0 + kv.val * (0 + 1); omega
        | ⟨4, _⟩ => show d.val = 0 + d.val * (0 + 1); omega
      · rw [ref_k]
        refine congrArg (fun p => tokK x1 b p kv d) ?_
        show (n.val - 1) * 128 + k.val = n.val * 128 + k.val - 128
        omega
  · refine (concatenate_pair_apply_right (t := S4x33x256x4x64) (2 : Fin 5) _ _ concatenates_S4x33x128x4x64_S4x33x128x4x64_S4x33x256x4x64_d2 _ rfl rfl
      (ix5 b n (⟨k.val - 128, by omega⟩ : Fin 128) kv d) ?_ ?_).trans ?_
    · intro a ha
      match a with
      | ⟨0, _⟩ => rfl
      | ⟨1, _⟩ => rfl
      | ⟨2, _⟩ => exact absurd rfl ha
      | ⟨3, _⟩ => rfl
      | ⟨4, _⟩ => rfl
    · show k.val - 128 + 128 = k.val; omega
    · rw [ref_k]
      refine congrArg (fun p => tokK x1 b p kv d) ?_
      show n.val * 128 + (k.val - 128) = n.val * 128 + k.val - 128
      omega

/-- The values are laid out like the keys. -/
theorem ref_vc (x2 : FVec Ideal S4x4112x4x64 .f32) : val_main_v14 (F := Ideal) x2 = val_main_v9 (F := Ideal) x2 := rfl

end Attn

end
-- ==== Proof.RefHead.lean ====
module

public import proofs.«01_k».proof.Proof.RefTok

@[expose] public section

noncomputable section

/-! The reference's attention at an index: the scores, the maximum, the weights, the heads. -/

namespace Attn

open Cert.ReferenceIdeal Cert.ReferenceIdeal.Gen Cert.ReferenceIdeal.Read Idealize.ShloMosaic Idealize.ShloMosaic.ValueIdx

theorem ref_dot (x0 : FVec Ideal S4x4112x4x4x64 .f32) (x1 : FVec Ideal S4x4112x4x64 .f32) (b : Fin 4) (n : Fin 33) (kv g : Fin 4) (r : Fin 128) (k : Fin 256)
    (hk : 240 ≤ n.val * 128 + k.val) : val_main_v77 (F := Ideal) x0 x1 (ix6 b n kv k r g)
      = ∑ d : Fin 64, tokK x1 b (n.val * 128 + k.val - 128) kv d * tokQ x0 b (n.val * 128 + r.val) kv g d := by
  rw [val_main_v77_apply]
  refine Finset.sum_congr rfl fun d _ => ?_
  rw [show lidx_main_v77 (ix6 b n kv k r g) d = ix5 b n k kv d from
      funext fun a => match a with | ⟨0, _⟩ => rfl | ⟨1, _⟩ => rfl | ⟨2, _⟩ => rfl | ⟨3, _⟩ => rfl | ⟨4, _⟩ => rfl,
    show ridx_main_v77 (ix6 b n kv k r g) d = ix6 b n r kv g d from
      funext fun a => match a with | ⟨0, _⟩ => rfl | ⟨1, _⟩ => rfl | ⟨2, _⟩ => rfl | ⟨3, _⟩ => rfl | ⟨4, _⟩ => rfl | ⟨5, _⟩ => rfl,
    ref_kc x1 b n k kv d hk, ref_q]

theorem minus_inf : Ideal.ofBits .f32 0xFF800000#32 = ⊥ := by
  simp [Ideal.ofBits, Ideal.ieee]

theorem sup_fold {n : ℕ} (f : Fin n → EReal) : (Finset.univ : Finset (Fin n)).fold max ⊥ f = Finset.univ.sup f := rfl

/-- The score of a column. -/
theorem ref_score (x0 : FVec Ideal S4x4112x4x4x64 .f32) (x1 : FVec Ideal S4x4112x4x64 .f32) (x6 : FVec Ideal S32x16 .f32) (b : Fin 4) (n : Fin 33) (kv g : Fin 4)
    (r : Fin 128) (k : Fin 256) : val_main_v85 (F := Ideal) x0 x1 x6 (ix6 b n kv g r k)
      = if h : (k.val ≤ 128 + r.val ∧ r.val < k.val) ∧ 240 ≤ n.val * 128 + k.val then
          (∑ d : Fin 64, tokK x1 b (n.val * 128 + k.val - 128) kv d * tokQ x0 b (n.val * 128 + r.val) kv g d) * Ideal.ofBits .f32 0x3E000000#32
            + x6 (ix2 (⟨bkt (128 + r.val - k.val), bkt_lt _ (by omega)⟩ : Fin 32) (⟨4 * kv.val + g.val, by omega⟩ : Fin 16))
        else ⊥ := by
  rw [val_main_v85_apply, val_main_call6_v1_apply, val_main_v84_apply]
  have ev : val_main_v46 (F := Ideal) (idx_main_v84 (idx_main_call6_v1 (ix6 b n kv g r k)))
      = BitVec.ofBool (decide ((k.val ≤ 128 + r.val ∧ r.val < k.val) ∧ 240 ≤ n.val * 128 + k.val)) := by
    rw [show idx_main_v84 (idx_main_call6_v1 (ix6 b n kv g r k)) = ix3 n r k from
      funext fun a => match a with | ⟨0, _⟩ => rfl | ⟨1, _⟩ => rfl | ⟨2, _⟩ => rfl, valid_eq]
  rw [ev]
  by_cases h : (k.val ≤ 128 + r.val ∧ r.val < k.val) ∧ 240 ≤ n.val * 128 + k.val
  · rw [decide_eq_true h, dif_pos h]
    refine (select_one _ _).trans ?_
    rw [val_main_v83_apply, val_main_v80_apply, val_main_v79_apply, val_main_cst_20_apply, val_main_v78_apply, val_main_v82_apply, val_main_v81_apply]
    rw [show idx_main_v78 (ix6 b n kv g r k) = ix6 b n kv k r g from
        funext fun a => match a with | ⟨0, _⟩ => rfl | ⟨1, _⟩ => rfl | ⟨2, _⟩ => rfl | ⟨3, _⟩ => rfl | ⟨4, _⟩ => rfl | ⟨5, _⟩ => rfl,
      show idx_main_v81 (idx_main_v82 (ix6 b n kv g r k)) = ix4 kv g r k from
        funext fun a => match a with | ⟨0, _⟩ => rfl | ⟨1, _⟩ => rfl | ⟨2, _⟩ => rfl | ⟨3, _⟩ => rfl,
      ref_dot x0 x1 b n kv g r k h.2, bias_eq x6 kv g r k _ (by omega) h.1.1 rfl]
    rfl
  · rw [decide_eq_false h, dif_neg h]
    refine (select_zero _ _).trans ?_
    rw [val_main_call6_v2_apply, val_main_call6_v0_apply, val_main_cst_21_apply]
    exact minus_inf

section Row
variable (x0 : FVec Ideal S4x4112x4x4x64 .f32) (x1 x2 : FVec Ideal S4x4112x4x64 .f32) (x6 : FVec Ideal S32x16 .f32) (x7 : FVec Ideal S1x16 .f32)
  (b : Fin 4) (n : Fin 33) (kv g : Fin 4) (r : Fin 128)

/-- The scores of a row of the reference. -/
def refRow (k : Fin 256) : EReal := val_main_v85 (F := Ideal) x0 x1 x6 (ix6 b n kv g r k)

def refSink : EReal := x7 (ix2 (0 : Fin 1) (⟨4 * kv.val + g.val, by omega⟩ : Fin 16))

theorem ref_sink (i : S4x4x1x1.Idx) (h0 : (i 0).val = kv.val) (h1 : (i 1).val = g.val) : val_main_v86 (F := Ideal) x7 i = refSink x7 kv g := by
  have h2 : (i 2).val < 1 := (i 2).isLt
  have h3 : (i 3).val < 1 := (i 3).isLt
  rw [val_main_v86_apply, val_main_v76_apply]
  unfold refSink
  refine congrArg x7 (funext fun a => Fin.ext ?_)
  match a with
  | ⟨0, _⟩ => rfl
  | ⟨1, _⟩ => show ((((i 0).val * 4 + (i 1).val) * 1 + (i 2).val) * 1 + (i 3).val) % 16 = 4 * kv.val + g.val; omega

theorem ref_sup (i : S4x33x4x4x128.Idx) (h0 : (i 0).val = b.val) (h1 : (i 1).val = n.val) (h2 : (i 2).val = kv.val) (h3 : (i 3).val = g.val) (h4 : (i 4).val = r.val) :
    val_main_v87 (F := Ideal) x0 x1 x6 i = Finset.univ.sup (refRow x0 x1 x6 b n kv g r) := by
  unfold val_main_v87 refRow
  generalize val_main_v85 (F := Ideal) x0 x1 x6 = y
  have hb : ∀ j : S_.Idx, val_main_cst_22 (F := Ideal) j = ⊥ := fun j => minus_inf
  rw [Host.reduce_eq_fold_single (FloatOps.maximumf (F := Ideal) (φ := .f32)) _ _ reducesTo_S4x33x4x4x128x256_S4x33x4x4x128_d5 (by decide) h_S_, hb]
  refine Eq.trans ?_ (sup_fold _)
  refine Finset.fold_congr fun k _ => ?_
  refine congrArg y (funext fun a => Fin.ext ?_)
  match a with
  | ⟨0, _⟩ => exact h0
  | ⟨1, _⟩ => exact h1
  | ⟨2, _⟩ => exact h2
  | ⟨3, _⟩ => exact h3
  | ⟨4, _⟩ => exact h4
  | ⟨5, _⟩ => rfl

theorem ref_max (i : S4x33x4x4x128x1.Idx) (h0 : (i 0).val = b.val) (h1 : (i 1).val = n.val) (h2 : (i 2).val = kv.val) (h3 : (i 3).val = g.val) (h4 : (i 4).val = r.val) :
    val_main_v91 (F := Ideal) x0 x1 x6 x7 i = rowMax (refRow x0 x1 x6 b n kv g r) (refSink x7 kv g) := by
  rw [val_main_v91_apply, val_main_v90_apply, val_main_v89_apply, ref_sink x7 kv g _ h2 h3, val_main_v88_apply,
    ref_sup x0 x1 x6 b n kv g r (idx_main_v88 i) h0 h1 h2 h3 h4]
  generalize refRow x0 x1 x6 b n kv g r = y
  generalize refSink x7 kv g = z
  rfl

theorem ref_exp (k : Fin 256) : val_main_v94 (F := Ideal) x0 x1 x6 x7 (ix6 b n kv g r k) = rowExp (refRow x0 x1 x6 b n kv g r) (refSink x7 kv g) k := by
  rw [val_main_v94_apply, val_main_v93_apply, val_main_v92_apply, ref_max x0 x1 x6 x7 b n kv g r _ rfl rfl rfl rfl rfl]
  rfl

theorem ref_den (i : S4x33x4x4x128x1.Idx) (h0 : (i 0).val = b.val) (h1 : (i 1).val = n.val) (h2 : (i 2).val = kv.val) (h3 : (i 3).val = g.val) (h4 : (i 4).val = r.val) :
    val_main_v101 (F := Ideal) x0 x1 x6 x7 i = rowDen (refRow x0 x1 x6 b n kv g r) (refSink x7 kv g) := by
  rw [val_main_v101_apply, val_main_v100_apply, val_main_v99_apply, ref_max x0 x1 x6 x7 b n kv g r i h0 h1 h2 h3 h4, val_main_v98_apply, val_main_v97_apply,
    ref_sink x7 kv g _ h2 h3, val_main_v96_apply, val_main_v95_apply, val_main_cst_23_apply]
  unfold rowDen
  refine congrArg₂ (fun x y : EReal => x + y) ?_ rfl
  refine Eq.trans (b := (0 : EReal) + ∑ k : Fin 256, rowExp (refRow x0 x1 x6 b n kv g r) (refSink x7 kv g) k) ?_ (zero_add _)
  refine congrArg₂ (fun x y : EReal => x + y) Ideal.ofBits_zero_f32 (Finset.sum_congr rfl fun k _ => ?_)
  rw [← ref_exp]
  refine congrArg (val_main_v94 (F := Ideal) x0 x1 x6 x7) (funext fun a => Fin.ext ?_)
  match a with
  | ⟨0, _⟩ => exact h0
  | ⟨1, _⟩ => exact h1
  | ⟨2, _⟩ => exact h2
  | ⟨3, _⟩ => exact h3
  | ⟨4, _⟩ => exact h4
  | ⟨5, _⟩ => rfl

/-- The reference's head is a row's output over its 256 columns. -/
theorem ref_row (d : Fin 64) : val_main_v104 (F := Ideal) x0 x1 x2 x6 x7 (ix6 b n kv d g r)
    = rowOut (refRow x0 x1 x6 b n kv g r) (refSink x7 kv g) fun k => val_main_v9 (F := Ideal) x2 (ix5 b n k kv d) := by
  rw [val_main_v104_apply, ref_vc]
  unfold rowOut
  refine Finset.sum_congr rfl fun k _ => ?_
  rw [show lidx_main_v104 (ix6 b n kv d g r) k = ix5 b n k kv d from
      funext fun a => match a with | ⟨0, _⟩ => rfl | ⟨1, _⟩ => rfl | ⟨2, _⟩ => rfl | ⟨3, _⟩ => rfl | ⟨4, _⟩ => rfl,
    show ridx_main_v104 (ix6 b n kv d g r) k = ix6 b n kv g r k from
      funext fun a => match a with | ⟨0, _⟩ => rfl | ⟨1, _⟩ => rfl | ⟨2, _⟩ => rfl | ⟨3, _⟩ => rfl | ⟨4, _⟩ => rfl | ⟨5, _⟩ => rfl,
    val_main_v103_apply, val_main_v102_apply, ref_den x0 x1 x6 x7 b n kv g r _ rfl rfl rfl rfl rfl, ref_exp]
  exact mul_comm _ _

/-- The reference's head. -/
theorem ref_head (hq : IsReal x0) (hk : IsReal x1) (ht : IsReal x6) (hs : IsReal x7) (d : Fin 64) :
    val_main_v104 (F := Ideal) x0 x1 x2 x6 x7 (ix6 b n kv d g r) = specHead x0 x1 x2 x6 x7 b n.val kv g r d := by
  rw [ref_row]
  unfold specHead
  obtain ⟨y, hy⟩ := hs (ix2 (0 : Fin 1) (⟨4 * kv.val + g.val, by omega⟩ : Fin 16))
  have hr := r.isLt
  refine rowOut_masked (own := fun k' : Fin 128 => k'.val ≤ r.val) _ _ ?_ ?_ (fun k' => specScore_real hq hk ht b n.val kv g r k') ?_ ?_ ?_ ?_
  · intro c
    have hc := c.isLt
    unfold refRow
    rw [ref_score]
    by_cases ho : c.val ≤ r.val
    · rw [if_pos ho, dif_neg (fun h => by have := h.1.2; dsimp only at this; omega)]
    · rw [if_neg ho]
      unfold specScore
      have hn : slotPos n.val r c = n.val * 128 + c.val := by unfold slotPos; rw [if_neg ho]; omega
      by_cases hv : 240 ≤ slotPos n.val r c
      · rw [if_pos hv, dif_pos (by dsimp only; omega), hn]
        refine congrArg (fun x : EReal => _ + x) (congrArg (fun q => x6 (ix2 q _)) (Fin.ext ?_))
        show bkt (128 + r.val - c.val) = bkt (gap r c)
        unfold gap; congr 1; omega
      · rw [if_neg hv, dif_neg (by dsimp only; omega)]
  · intro c
    have hc := c.isLt
    unfold refRow
    rw [ref_score]
    by_cases ho : c.val ≤ r.val
    · rw [if_pos ho]
      unfold specScore
      have hn : slotPos n.val r c = n.val * 128 + (128 + c.val) := by unfold slotPos; rw [if_pos ho]; omega
      by_cases hv : 240 ≤ slotPos n.val r c
      · rw [if_pos hv, dif_pos (by dsimp only; omega), hn]
        refine congrArg (fun x : EReal => _ + x) (congrArg (fun q => x6 (ix2 q _)) (Fin.ext ?_))
        show bkt (128 + r.val - (128 + c.val)) = bkt (gap r c)
        unfold gap; congr 1; omega
      · rw [if_neg hv, dif_neg (by dsimp only; omega)]
    · rw [if_neg ho, dif_neg (fun h => by have := h.1.1; dsimp only at this; omega)]
  · unfold refSink; rw [hy]; exact EReal.coe_ne_top _
  · unfold refSink; rw [hy]; exact EReal.coe_ne_bot _
  · intro c ho hb
    have hn : slotPos n.val r c = n.val * 128 + c.val := by unfold slotPos; rw [if_neg ho]; omega
    have hv : 240 ≤ slotPos n.val r c := by
      by_contra hv; exact hb (by unfold specScore; exact if_neg hv)
    rw [ref_kc x2 b n _ kv d (by dsimp only; omega), hn]
  · intro c ho hb
    have hn : slotPos n.val r c = n.val * 128 + (128 + c.val) := by unfold slotPos; rw [if_pos ho]; omega
    have hv : 240 ≤ slotPos n.val r c := by
      by_contra hv; exact hb (by unfold specScore; exact if_neg hv)
    rw [ref_kc x2 b n _ kv d (by dsimp only; omega), hn]

end Row

end Attn

end
-- ==== Proof.RefOut.lean ====
module

public import proofs.«01_k».proof.Proof.RefHead

@[expose] public section

noncomputable section

/-! The reference's result at an index. -/

namespace Attn

open Cert.ReferenceIdeal Cert.ReferenceIdeal.Gen Cert.ReferenceIdeal.Read Idealize.ShloMosaic Idealize.ShloMosaic.ValueIdx

/-- The heads side by side. -/
theorem ref_heads (x0 : FVec Ideal S4x4112x4x4x64 .f32) (x1 x2 : FVec Ideal S4x4112x4x64 .f32) (x6 : FVec Ideal S32x16 .f32) (x7 : FVec Ideal S1x16 .f32)
    (hq : IsReal x0) (hk : IsReal x1) (ht : IsReal x6) (hs : IsReal x7) (b : Fin 4) (n : Fin 33) (r : Fin 128) (C : Fin 1024) :
    val_main_v106 (F := Ideal) x0 x1 x2 x6 x7 (ix4 b n r C)
      = specHead x0 x1 x2 x6 x7 b n.val (⟨C.val / 256, by omega⟩ : Fin 4) (⟨C.val / 64 % 4, by omega⟩ : Fin 4) r (⟨C.val % 64, by omega⟩ : Fin 64) := by
  have hC := C.isLt
  rw [← ref_head x0 x1 x2 x6 x7 b n (⟨C.val / 256, by omega⟩ : Fin 4) (⟨C.val / 64 % 4, by omega⟩ : Fin 4) r hq hk ht hs (⟨C.val % 64, by omega⟩ : Fin 64)]
  unfold val_main_v106
  refine (shapeCast_apply (val_main_v105 (F := Ideal) x0 x1 x2 x6 x7) shapeCasts_S4x33x128x4x4x64_S4x33x128x1024 (ix4 b n r C)
    (ix6 b n r (⟨C.val / 256, by omega⟩ : Fin 4) (⟨C.val / 64 % 4, by omega⟩ : Fin 4) (⟨C.val % 64, by omega⟩ : Fin 64)) ?_).trans ?_
  · rw [Shape.rowMajor_val_six, Shape.rowMajor_val_four]
    show ((((b.val * 33 + n.val) * 128 + r.val) * 4 + C.val / 256) * 4 + C.val / 64 % 4) * 64 + C.val % 64 = ((b.val * 33 + n.val) * 128 + r.val) * 1024 + C.val
    generalize (b.val * 33 + n.val) * 128 + r.val = A
    omega
  · rw [val_main_v105_apply]
    refine congrArg (val_main_v104 (F := Ideal) x0 x1 x2 x6 x7) (funext fun a => ?_)
    match a with
    | ⟨0, _⟩ => rfl
    | ⟨1, _⟩ => rfl
    | ⟨2, _⟩ => rfl
    | ⟨3, _⟩ => rfl
    | ⟨4, _⟩ => rfl
    | ⟨5, _⟩ => rfl

/-- The gate. -/
theorem ref_silu (x3 : FVec Ideal S4x4112x1024 .f32) (i : S4x4112x1024.Idx) : val_main_v109 (F := Ideal) x3 i = specSilu (x3 i) := by
  rw [val_main_v109_apply, val_main_call7_v5_apply, val_main_call7_v4_apply, val_main_call7_v3_apply, val_main_call7_v2_apply, val_main_call7_v1_apply, val_main_call7_v0_apply]
  generalize x3 i = y
  unfold specSilu
  show y * Ideal.div (Ideal.ofBits .f32 0x3F800000#32) (Ideal.ofBits .f32 0x3F800000#32 + Ideal.exp (-y)) = _
  rw [Ideal.ofBits_one_f32, zero_sub]

section Tok
variable (x0 : FVec Ideal S4x4112x4x4x64 .f32) (x1 x2 : FVec Ideal S4x4112x4x64 .f32) (x3 : FVec Ideal S4x4112x1024 .f32) (x4 : FVec Ideal S4x4096x1024 .f32)
  (x5 : FVec Ideal S16x1024 .f32) (x6 : FVec Ideal S32x16 .f32) (x7 : FVec Ideal S1x16 .f32) (x8 : FVec Ideal S1x1024x1024 .f32)
  (b : Fin 4) (n : Fin 33) (r : Fin 128)

/-- The gated heads of a token. -/
theorem ref_gated (hq : IsReal x0) (hk : IsReal x1) (ht : IsReal x6) (hs : IsReal x7) (hp : 112 ≤ n.val * 128 + r.val) (C : Fin 1024) :
    val_main_v110 (F := Ideal) x0 x1 x2 x3 x6 x7 (ix3 b (⟨n.val * 128 + r.val - 112, by omega⟩ : Fin 4112) C) = specGated x0 x1 x2 x3 x6 x7 b n.val r C := by
  have hC := C.isLt
  rw [val_main_v110_apply, ref_silu, val_main_v108_apply, val_main_v107_apply]
  unfold specGated
  refine congrArg₂ (fun x y : EReal => x * y) ?_ (congrArg specSilu ?_)
  · rw [← ref_heads x0 x1 x2 x6 x7 hq hk ht hs b n r C]
    refine congrArg (val_main_v106 (F := Ideal) x0 x1 x2 x6 x7) (funext fun a => Fin.ext ?_)
    have e : ∀ p : ℕ, p = n.val * 128 + r.val → n.val * 128 + r.val - 112 + 112 = p := fun p h => by omega
    match a with
    | ⟨0, _⟩ =>
      show ((b.val * 4224 + (112 + (n.val * 128 + r.val - 112))) * 1024 + C.val) / 4325376 = b.val
      omega
    | ⟨1, _⟩ =>
      show ((b.val * 4224 + (112 + (n.val * 128 + r.val - 112))) * 1024 + C.val) / 131072 % 33 = n.val
      omega
    | ⟨2, _⟩ =>
      show ((b.val * 4224 + (112 + (n.val * 128 + r.val - 112))) * 1024 + C.val) / 1024 % 128 = r.val
      omega
    | ⟨3, _⟩ =>
      show ((b.val * 4224 + (112 + (n.val * 128 + r.val - 112))) * 1024 + C.val) % 1024 = C.val
      omega
  · unfold tokG
    rw [dif_pos ⟨hp, by omega⟩]

/-- The rows the result is added to. -/
theorem ref_resid (hp : 112 ≤ n.val * 128 + r.val) (C : Fin 1024) :
    val_main_v2 (F := Ideal) x4 x5 (ix3 b (⟨n.val * 128 + r.val - 112, by omega⟩ : Fin 4112) C) = specResid x4 x5 b n r C := by
  unfold val_main_v2 specResid
  by_cases hn : n.val = 0
  · rw [dif_pos hn, dif_pos (by omega)]
    refine (concatenate_pair_apply_left (t := S4x4112x1024) (1 : Fin 3) _ _ concatenates_S4x16x1024_S4x4096x1024_S4x4112x1024_d1 _ rfl
      (ix3 b (⟨r.val - 112, by omega⟩ : Fin 16) C) ?_).trans ?_
    · intro a
      match a with
      | ⟨0, _⟩ => rfl
      | ⟨1, _⟩ => show r.val - 112 = n.val * 128 + r.val - 112; omega
      | ⟨2, _⟩ => rfl
    · rw [val_main_v1_apply, val_main_v0_apply]
      refine congrArg x5 (funext fun a => ?_)
      match a with
      | ⟨0, _⟩ => rfl
      | ⟨1, _⟩ => rfl
  · rw [dif_neg hn]
    refine concatenate_pair_apply_right (t := S4x4112x1024) (1 : Fin 3) _ _ concatenates_S4x16x1024_S4x4096x1024_S4x4112x1024_d1 _ rfl rfl
      (ix3 b (⟨(n.val - 1) * 128 + r.val, by omega⟩ : Fin 4096) C) ?_ ?_
    · intro a ha
      match a with
      | ⟨0, _⟩ => rfl
      | ⟨1, _⟩ => exact absurd rfl ha
      | ⟨2, _⟩ => rfl
    · show (n.val - 1) * 128 + r.val + 16 = n.val * 128 + r.val - 112
      omega

theorem spec_pad (hp : ¬112 ≤ n.val * 128 + r.val) (C : Fin 1024) : specOut x0 x1 x2 x3 x4 x5 x6 x7 x8 b n r C = 0 := by
  unfold specOut specResid
  rw [dif_pos (by omega), dif_neg (by omega), zero_add]
  refine Finset.sum_eq_zero fun C' _ => ?_
  unfold specGated tokG specSilu
  rw [dif_neg fun h => hp h.1, zero_mul, mul_zero, zero_mul]

/-- The reference's result at row `r` of block `n`. -/
theorem ref_spec (hq : IsReal x0) (hk : IsReal x1) (ht : IsReal x6) (hs : IsReal x7) (i : S16896x1024.Idx) (C : Fin 1024)
    (h0 : (i 0).val = b.val * 4224 + (n.val * 128 + r.val)) (h1 : (i 1).val = C.val) :
    val_main_v115 (F := Ideal) x0 x1 x2 x3 x4 x5 x6 x7 x8 i = specOut x0 x1 x2 x3 x4 x5 x6 x7 x8 b n r C := by
  have hC := C.isLt
  rw [val_main_v115_apply, show idx_main_v115 i = ix3 b (⟨n.val * 128 + r.val, by omega⟩ : Fin 4224) C from funext fun a => Fin.ext (by
    match a with
    | ⟨0, _⟩ => show ((i 0).val * 1024 + (i 1).val) / 4325376 = b.val; rw [h0, h1]; omega
    | ⟨1, _⟩ => show ((i 0).val * 1024 + (i 1).val) / 1024 % 4224 = n.val * 128 + r.val; rw [h0, h1]; omega
    | ⟨2, _⟩ => show ((i 0).val * 1024 + (i 1).val) % 1024 = C.val; rw [h0, h1]; omega)]
  unfold val_main_v114
  by_cases hp : 112 ≤ n.val * 128 + r.val
  · refine (pad_apply_of_inside _ _ _ (val_main_v113 (F := Ideal) x0 x1 x2 x3 x4 x5 x6 x7 x8) _ _ _ _ (ix3 b (⟨n.val * 128 + r.val - 112, by omega⟩ : Fin 4112) C) ?_).trans ?_
    · intro a
      match a with
      | ⟨0, _⟩ => show b.val = 0 + b.val * (0 + 1); omega
      | ⟨1, _⟩ => show n.val * 128 + r.val = 112 + (n.val * 128 + r.val - 112) * (0 + 1); omega
      | ⟨2, _⟩ => show C.val = 0 + C.val * (0 + 1); omega
    · rw [val_main_v113_apply, ref_resid x4 x5 b n r hp C, val_main_v112_apply]
      unfold specOut
      refine congrArg (fun x : EReal => specResid x4 x5 b n r C + x) (Finset.sum_congr rfl fun C' _ => ?_)
      have hC' := C'.isLt
      rw [← ref_gated x0 x1 x2 x3 x6 x7 b n r hq hk ht hs hp C', val_main_v111_apply]
      refine congrArg₂ (fun x y : EReal => x * y) (congrArg (val_main_v110 (F := Ideal) x0 x1 x2 x3 x6 x7) (funext fun a => ?_)) (congrArg x8 (funext fun a => Fin.ext ?_))
      · match a with
        | ⟨0, _⟩ => rfl
        | ⟨1, _⟩ => rfl
        | ⟨2, _⟩ => rfl
      · match a with
        | ⟨0, _⟩ => rfl
        | ⟨1, _⟩ => show (C'.val * 1024 + C.val) / 1024 % 1024 = C'.val; omega
        | ⟨2, _⟩ => show (C'.val * 1024 + C.val) % 1024 = C.val; omega
  · rw [spec_pad x0 x1 x2 x3 x4 x5 x6 x7 x8 b n r hp C]
    refine (pad_apply_of_not_inside _ _ _ (val_main_v113 (F := Ideal) x0 x1 x2 x3 x4 x5 x6 x7 x8) _ _ _ _ (1 : Fin 3) ?_).trans word_zero
    intro q
    exact hp q.1

end Tok

end Attn

end
-- ==== Proof.Whole.lean ====
module

public import proofs.«01_k».proof.Defs
public import proofs.«01_k».proof.Proof.Gen.Pre_finite
public import proofs.«01_k».proof.Proof.Gen.ReferenceIdeal.Run
public import proofs.«01_k».proof.Proof.KSpec
public import proofs.«01_k».proof.Proof.RefOut

@[expose] public section

noncomputable section

/-! The two programs end with equal arrays. -/

namespace Attn

open Idealize.ShloMosaic Idealize.ShloMosaic.ValueIdx Idealize.SL.Sem

theorem plus_inf : Ideal.ofBits .f32 0x7F800000#32 = ⊤ := by
  simp [Ideal.ofBits, Ideal.ieee]

/-- An array whose absolute values are below infinity holds real numbers. -/
theorem real_of_below {s : Shape} (x : FVec Ideal s .f32) (y : FVec Ideal s .f32) (hy : ∀ i, y i = ⊤) (h : cmpf .olt (Host.absf x) y = fun _ => 1#1) : IsReal x := by
  intro i
  have e : BitVec.ofBool (decide (max (x i) (-(x i)) < y i)) = 1#1 := congrFun h i
  rw [hy i] at e
  replace e : max (x i) (-(x i)) < ⊤ := by
    by_contra q
    rw [decide_eq_false q] at e
    exact absurd e (by decide)
  have h1 : x i ≠ ⊤ := fun q => by rw [q] at e; exact absurd (lt_of_le_of_lt (le_max_left _ _) e) (lt_irrefl _)
  have h2 : x i ≠ ⊥ := fun q => by rw [q, EReal.neg_bot] at e; exact absurd (lt_of_le_of_lt (le_max_right _ _) e) (lt_irrefl _)
  exact ⟨(x i).toReal, (EReal.coe_toReal h1 h2).symm⟩

theorem row_split (i : (⟨2, ![16896, 1024]⟩ : Shape).Idx) : ∃ (b : Fin 4) (n : Fin 33) (r : Fin 128) (C : Fin 1024), i = ix2 (prow b (posOf n.val n.isLt r)) C := by
  have h0 : (i 0).val < 16896 := (i 0).isLt
  have h1 : (i 1).val < 1024 := (i 1).isLt
  refine ⟨⟨(i 0).val / 4224, by omega⟩, ⟨(i 0).val % 4224 / 128, by omega⟩, ⟨(i 0).val % 128, by omega⟩, ⟨(i 1).val, h1⟩, funext fun a => Fin.ext ?_⟩
  match a with
  | ⟨0, _⟩ => show (i 0).val = (i 0).val / 4224 * 4224 + ((i 0).val % 4224 / 128 * 128 + (i 0).val % 128); omega
  | ⟨1, _⟩ => rfl

theorem whole : Cert.algebraic_KernelIdeal_ReferenceIdeal_pre_finite := by
  intro m g m' g' hpre hagree
  refine ⟨fun c => outArr m c, kernel_run m g, (θ_run _ _ _).mono (fun r h c => ⟨?_, (h c).2⟩) (Cert.ReferenceIdeal.Value.run m' g')⟩
  obtain ⟨p0, p1, p2, p3⟩ := hpre c
  have hq := real_of_below _ _ (fun _ => plus_inf) p0
  have hk := real_of_below _ _ (fun _ => plus_inf) p1
  have ht := real_of_below _ _ (fun _ => plus_inf) p2
  have hs := real_of_below _ _ (fun _ => plus_inf) p3
  obtain ⟨a0, a1, a2, a3, a4, a5, a6, a7, a8⟩ := hagree c
  rw [(h c).1, Cert.ReferenceIdeal.Read.val_main_v115_eq, a0, a1, a2, a3, a4, a5, a6, a7, a8]
  funext i
  obtain ⟨b, n, r, C, hi⟩ := row_split i
  rw [hi]
  exact (ref_spec _ _ _ _ _ _ _ _ _ b n r hq hk ht hs _ C rfl rfl).trans (kernel_spec m c hq hk ht hs b n r C).symm

end Attn

end
-- ==== Proof.Norm.lean ====
module

public import Idealize.ShloMosaic.Lib.ValueIdx
public import Idealize.ShloMosaic.Lib.Pipeline.Value
public import Idealize.ShloMosaic.Lib.MatmulPlain
public import Idealize.ShloMosaic.Lib.IdealHost
public import Idealize.ShloMosaic.Lib.KernelVsHost

@[expose] public section

noncomputable section

/-! The norm of a row by its mean square, and the same over the rows of a tile. -/

namespace Proj

open Idealize.ShloMosaic Idealize.ShloMosaic.ValueIdx

/-- The reciprocal root of a row's mean square. -/
def scale (x : Fin 1024 → EReal) : EReal :=
  Ideal.rsqrt (Ideal.div (∑ k, x k * x k) (Ideal.ofBits .f32 0x44800000#32) + Ideal.ofBits .f32 0x358637BD#32)

/-- A row by that root, times the gain. -/
def nrm (x g : Fin 1024 → EReal) (d : Fin 1024) : EReal := x d * scale x * g d

theorem nrm_zero (g : Fin 1024 → EReal) (d : Fin 1024) : nrm (fun _ => 0) g d = 0 := by
  unfold nrm; rw [zero_mul, zero_mul]

variable {R : ℕ}

/-- The norm of a tile's rows as the kernels compute it. -/
theorem tile_norm (x : FVec Ideal ⟨2, ![R, 1024]⟩ .f32) (g : FVec Ideal ⟨2, ![1, 1024]⟩ .f32)
    (h1 : Shape.Reduces ⟨2, ![R, 1024]⟩ [1] ⟨1, ![R]⟩) (h2 : Shape.ShapeCasts ⟨1, ![R]⟩ ⟨2, ![R, 1]⟩)
    (h3 : Shape.Broadcasts ⟨2, ![R, 1]⟩ ⟨2, ![R, 1024]⟩) (h4 : Shape.Broadcasts ⟨2, ![1, 1024]⟩ ⟨2, ![R, 1024]⟩)
    (h5 : FKind.Formats FTy.f32) (h6 : (0x00000000#32 : BitVec 32) = FKind.add.neutral .f32 h5) (r : Fin R) (d : Fin 1024) :
    mulf (mulf x (broadcastTo ⟨2, ![R, 1024]⟩ (rsqrt (addf (divf (shapeCast ⟨2, ![R, 1]⟩ (multiReduction .add [1] ⟨1, ![R]⟩ (mulf x x) 0x00000000#32 h1 h5 h6) h2)
      (broadcast ⟨2, ![R, 1]⟩ (Scalar.ofBits (F := Ideal) .f32 0x44800000#32))) (broadcast ⟨2, ![R, 1]⟩ (Scalar.ofBits (F := Ideal) .f32 0x358637BD#32)))) h3))
      (broadcastTo ⟨2, ![R, 1024]⟩ g h4) (ix2 r d)
      = nrm (fun k => x (ix2 r k)) (fun k => g (ix2 (0 : Fin 1) k)) d := by
  rw [mulf_apply, mulf_apply, broadcastTo_apply g _ _ (ix2 (0 : Fin 1) d) (by intro a; match a with | ⟨0, _⟩ => rfl | ⟨1, _⟩ => rfl),
    broadcastTo_apply _ _ _ (ix2 r (0 : Fin 1)) (by
      intro a
      match a with
      | ⟨0, _⟩ => show r.val = if R = 1 then 0 else r.val; split <;> omega
      | ⟨1, _⟩ => rfl)]
  unfold nrm scale
  refine congrArg (fun y : EReal => x (ix2 r d) * y * g (ix2 (0 : Fin 1) d)) ?_
  show Ideal.rsqrt (Ideal.div (shapeCast ⟨2, ![R, 1]⟩ (multiReduction .add [1] ⟨1, ![R]⟩ (mulf x x) 0x00000000#32 h1 h5 h6) h2 (ix2 r (0 : Fin 1))) _ + _) = _
  rw [shapeCast_apply _ h2 (ix2 r (0 : Fin 1)) (ix1 r) (by rw [Shape.rowMajor_val_one, Shape.rowMajor_val_two]; show r.val = r.val * 1 + 0; omega)]
  have e : (multiReduction .add [1] ⟨1, ![R]⟩ (mulf x x) 0x00000000#32 h1 h5 h6 : FVec Ideal ⟨1, ![R]⟩ .f32) (ix1 r) = ∑ k : Fin 1024, x (ix2 r k) * x (ix2 r k) := by
    refine (Ideal.multiReduction_add_single _ _ _ _ _ _).trans (Finset.sum_congr rfl fun k _ => ?_)
    have l : h1.lift (ix1 r) k = ix2 r k := by
      funext a; apply Fin.ext
      match a with
      | ⟨0, _⟩ => rfl
      | ⟨1, _⟩ => rfl
    rw [l]; rfl
  rw [e]
  rfl

/-- A product of a tile with a matrix, from zero. -/
theorem tile_dot {K N : ℕ} {φ₁ φ₂ : FTy} (x : FVec Ideal ⟨2, ![R, K]⟩ φ₁) (w : FVec Ideal ⟨2, ![K, N]⟩ φ₂) (r : Fin R) (c : Fin N) :
    (matmul (DotDims.plain R K N) none x w (constant ⟨2, ![R, N]⟩ .f32 0x00000000#32) : FVec Ideal ⟨2, ![R, N]⟩ .f32) (ix2 r c)
      = ∑ k : Fin K, (x (ix2 r k) : EReal) * w (ix2 k c) := by
  refine (Ideal.matmul_plain_apply (M := R) (K := K) (N := N) none x w (constant ⟨2, ![R, N]⟩ .f32 0x00000000#32) r c).trans ?_
  show Ideal.ofBits .f32 0x00000000#32 + _ = _
  rw [Ideal.ofBits_zero_f32, zero_add]

/-- Two zero offsets. -/
theorem zeros2 : (![0, 0] : Fin 2 → ℕ) = fun _ => 0 := by
  funext a
  match a with
  | ⟨0, _⟩ => rfl
  | ⟨1, _⟩ => rfl

/-- A cast to the same shape. -/
theorem cast_same {s : Shape} {α : Type} (x : s.Idx → α) (h : s.ShapeCasts s) : shapeCast s x h = x :=
  funext fun j => shapeCast_apply x h j j rfl

/-- The batch entry of a row of all batch entries' rows together, and its place there. -/
def rb (r : Fin 16896) : Fin 4 := ⟨r.val / 4224, by omega⟩

def rp (r : Fin 16896) : Fin 4224 := ⟨r.val % 4224, by omega⟩

end Proj

end
-- ==== Proof.ASpec.lean ====
module

public import proofs.«01_k».proof.Proof.Norm

@[expose] public section

noncomputable section

/-! The attention's projections of the prompt. -/

namespace Proj

open Idealize.ShloMosaic Idealize.ShloMosaic.ValueIdx

section
variable (x : FVec Ideal ⟨3, ![4, 4096, 1024]⟩ .f32) (h : FVec Ideal ⟨2, ![16, 1024]⟩ .f32) (gn : FVec Ideal ⟨2, ![2, 1024]⟩ .f32)
  (w : FVec Ideal ⟨3, ![1, 1024, 2560]⟩ .f32)

/-- Place `p` of batch entry `b`: 112 rows of zeros, the meta tokens, the prompt. -/
def tokX (b : Fin 4) (p : Fin 4224) (d : Fin 1024) : EReal :=
  if hp : p.val < 128 then (if hq : 112 ≤ p.val then h (ix2 (⟨p.val - 112, by omega⟩ : Fin 16) d) else 0)
  else x (ix3 b (⟨p.val - 128, by omega⟩ : Fin 4096) d)

/-- Column `e` of the projection of a place's row. -/
def projAt (b : Fin 4) (p : Fin 4224) (e : Fin 2560) : EReal :=
  ∑ d : Fin 1024, nrm (tokX x h b p) (fun k => gn (ix2 (0 : Fin 2) k)) d * w (ix3 (0 : Fin 1) d e)

theorem projAt_pad (b : Fin 4) (p : Fin 4224) (e : Fin 2560) (hp : p.val < 112) : projAt x h gn w b p e = 0 := by
  unfold projAt
  refine Finset.sum_eq_zero fun d _ => ?_
  have e0 : tokX x h b p = fun _ => 0 := by
    funext k
    unfold tokX
    rw [dif_pos (by omega), dif_neg (by omega)]
  rw [e0, nrm_zero, zero_mul]

/-- The other head of the pair, at the same lane. -/
def other (n : ℕ) : ℕ := n / 128 * 128 + (n + 64) % 128

theorem other_lt {n : ℕ} (hn : n < 512) : other n < 512 := by unfold other; omega

def specQ (i : (⟨2, ![16896, 1024]⟩ : Shape).Idx) : EReal :=
  projAt x h gn w (rb (i 0)) (rp (i 0)) ⟨(i 1).val, lt_trans (i 1).isLt (by decide)⟩ * Ideal.ofBits .f32 0x3E000000#32

def specKV (i : (⟨2, ![16896, 512]⟩ : Shape).Idx) : EReal :=
  projAt x h gn w (rb (i 0)) (rp (i 0)) ⟨1024 + (i 1).val, by have q : (i 1).val < 512 := (i 1).isLt; omega⟩

def specG (i : (⟨2, ![16896, 1024]⟩ : Shape).Idx) : EReal :=
  projAt x h gn w (rb (i 0)) (rp (i 0)) ⟨1536 + (i 1).val, by have q : (i 1).val < 1024 := (i 1).isLt; omega⟩

def specKVB (i : (⟨2, ![16896, 1024]⟩ : Shape).Idx) : EReal :=
  if hi : (i 1).val < 512 then projAt x h gn w (rb (i 0)) (rp (i 0)) ⟨1024 + (i 1).val, by omega⟩
  else projAt x h gn w (rb (i 0)) (rp (i 0)) ⟨1024 + other ((i 1).val - 512), by
    have q : (i 1).val < 1024 := (i 1).isLt
    have := other_lt (n := (i 1).val - 512) (by omega)
    omega⟩

end

end Proj

end
-- ==== Proof.APay.lean ====
module

public import proofs.«01_k».proof.Proof.ASpec
public import proofs.«01_k».proof.Proof.Gen.AttnProjIdeal.Frame
public import Idealize.ShloMosaic.Lib.WordCmp

@[expose] public section

noncomputable section

/-! What the body of the attention projections computes from the blocks it reads. -/

namespace Proj

open Cert.AttnProjIdeal Cert.AttnProjIdeal.Gen Idealize.ShloMosaic Idealize.ShloMosaic.TcCoe Idealize.ShloMosaic.ValueIdx Idealize.SL.Sem

variable (i : grid0.Coords) (x0 x1 x2 x3 : Vec Ideal S128x1024 .f32) (x4 : Vec Ideal S1x1024 .f32) (x5 : Vec Ideal S1024x2560 .bf16)

/-- Row `R` of the three blocks of 128 rows. The first tile of a batch entry starts with the head. -/
def tileRow (R : Fin 384) (d : Fin 1024) : EReal :=
  if R.val < 128 then (if (i 1).val = 0 then x0 else x1) (ix2 (⟨R.val % 128, by omega⟩ : Fin 128) d)
  else if R.val < 256 then x2 (ix2 (⟨R.val % 128, by omega⟩ : Fin 128) d)
  else x3 (ix2 (⟨R.val % 128, by omega⟩ : Fin 128) d)

theorem three_blocks (a b c : Vec Ideal S128x1024 .f32) (R : Fin 384) (d : Fin 1024) :
    (concatenate S384x1024 0 [⟨S128x1024, a⟩, ⟨S128x1024, b⟩, ⟨S128x1024, c⟩] concatenates_S128x1024_S128x1024_S128x1024_S384x1024_d0 : Vec Ideal S384x1024 .f32) (ix2 R d)
      = if R.val < 128 then a (ix2 (⟨R.val % 128, by omega⟩ : Fin 128) d)
        else if R.val < 256 then b (ix2 (⟨R.val % 128, by omega⟩ : Fin 128) d) else c (ix2 (⟨R.val % 128, by omega⟩ : Fin 128) d) := by
  by_cases h1 : R.val < 128
  · rw [if_pos h1]
    refine concatenate_apply_piece (t := S384x1024) (0 : Fin 2) _ _ _ 0 (by show 0 < 3; omega) S128x1024 a rfl rfl 0 rfl _ ?_ ?_
    · intro b hb
      match b with
      | ⟨0, _⟩ => exact absurd rfl hb
      | ⟨1, _⟩ => rfl
    · show 0 + R.val % 128 = R.val; omega
  · rw [if_neg h1]
    by_cases h2 : R.val < 256
    · rw [if_pos h2]
      refine concatenate_apply_piece (t := S384x1024) (0 : Fin 2) _ _ _ 1 (by show 1 < 3; omega) S128x1024 b rfl rfl 128 rfl _ ?_ ?_
      · intro b hb
        match b with
        | ⟨0, _⟩ => exact absurd rfl hb
        | ⟨1, _⟩ => rfl
      · show 128 + R.val % 128 = R.val; omega
    · rw [if_neg h2]
      refine concatenate_apply_piece (t := S384x1024) (0 : Fin 2) _ _ _ 2 (by show 2 < 3; omega) S128x1024 c rfl rfl 256 rfl _ ?_ ?_
      · intro b hb
        match b with
        | ⟨0, _⟩ => exact absurd rfl hb
        | ⟨1, _⟩ => rfl
      · show 256 + R.val % 128 = R.val; omega

/-- Column `e` of the product at row `R`. -/
def tileProj (R : Fin 384) (e : Fin 2560) : EReal :=
  ∑ d : Fin 1024, nrm (tileRow i x0 x1 x2 x3 R) (fun k => x4 (ix2 (0 : Fin 1) k)) d * x5 (ix2 d e)

theorem pay3_apply (R : Fin 384) (e : Fin 2560) : k0_pay3 i x1 x0 x2 x3 x4 x5 (ix2 R e) = tileProj i x0 x1 x2 x3 x4 x5 R e := by
  have hi : (i 1).val < 11 := (i 1).isLt
  have es : (Scalar.select (Scalar.cmpi .eq (BitVec.ofNat 32 (i 1).val) 0#32) x0 x1 : Vec Ideal S128x1024 .f32) = if (i 1).val = 0 then x0 else x1 := by
    show Scalar.select (IntOp.cmpi .eq (BitVec.ofNat 32 (i 1).val) (BitVec.ofNat 32 0)) x0 x1 = _
    rw [WordCmp.cmpi_eq_ofNat (by omega) (by omega), WordCmp.select_ofBool]
    simp only [decide_eq_true_eq]
  unfold k0_pay3
  dsimp only
  refine (tile_dot (R := 384) (K := 1024) (N := 2560) _ _ R e).trans (Finset.sum_congr rfl fun d _ => ?_)
  rw [cast_same x5, cast_same x0, cast_same x1, cast_same x2, cast_same x3, cast_same x4, es]
  refine congrArg (fun y : EReal => y * x5 (ix2 d e)) ?_
  refine (tile_norm (R := 384) _ x4 _ _ _ _ _ _ R d).trans ?_
  refine congrArg (fun f => nrm f (fun k => x4 (ix2 (0 : Fin 1) k)) d) (funext fun k => ?_)
  exact three_blocks _ _ _ R k

theorem pay4_apply (R : Fin 384) (C : Fin 1024) :
    k0_pay4 i x1 x0 x2 x3 x4 x5 (ix2 R C) = tileProj i x0 x1 x2 x3 x4 x5 R ⟨C.val, by omega⟩ * Ideal.ofBits .f32 0x3E000000#32 := by
  unfold k0_pay4
  show (extractStridedSlice S384x1024 ![0, 0] (k0_pay3 i x1 x0 x2 x3 x4 x5) slices_S384x2560_o0_0_S384x1024 (ix2 R C) : EReal) * Ideal.ofBits .f32 0x3E000000#32 = _
  rw [extractStridedSlice_apply _ _ _ _ (ix2 R (⟨C.val, by omega⟩ : Fin 2560)) (by
    intro a
    match a with
    | ⟨0, _⟩ => exact (Nat.zero_add _).symm
    | ⟨1, _⟩ => exact (Nat.zero_add _).symm), pay3_apply]

theorem pay5_apply (R : Fin 384) (C : Fin 512) :
    k0_pay5 i x1 x0 x2 x3 x4 x5 (ix2 R C) = tileProj i x0 x1 x2 x3 x4 x5 R ⟨1024 + C.val, by omega⟩ := by
  unfold k0_pay5
  rw [extractStridedSlice_apply _ _ _ _ (ix2 R (⟨1024 + C.val, by omega⟩ : Fin 2560)) (by
    intro a
    match a with
    | ⟨0, _⟩ => exact (Nat.zero_add _).symm
    | ⟨1, _⟩ => rfl), pay3_apply]

theorem pay1_apply (R : Fin 384) (C : Fin 1024) :
    k0_pay1 (k0_pay3 i x1 x0 x2 x3 x4 x5) (ix2 R C) = tileProj i x0 x1 x2 x3 x4 x5 R ⟨1536 + C.val, by omega⟩ := by
  unfold k0_pay1
  rw [extractStridedSlice_apply _ _ _ _ (ix2 R (⟨1536 + C.val, by omega⟩ : Fin 2560)) (by
    intro a
    match a with
    | ⟨0, _⟩ => exact (Nat.zero_add _).symm
    | ⟨1, _⟩ => rfl), pay3_apply]

theorem pay2_left (v : Vec Ideal S384x512 .f32) (R : Fin 384) (C : Fin 1024) (hC : C.val < 512) :
    (k0_pay2 (F := Ideal) v (ix2 R C) : EReal) = v (ix2 R (⟨C.val, hC⟩ : Fin 512)) := by
  unfold k0_pay2
  dsimp only
  refine concatenate_apply_piece (t := S384x1024) (1 : Fin 2) _ (by exact concatenates_S384x512_S384x128_S384x128_S384x128_S384x128_S384x1024_d1) _ 0 (by show 0 < 5; omega) S384x512 _ rfl rfl 0 rfl (ix2 R (⟨C.val, hC⟩ : Fin 512)) ?_ ?_
  · intro b hb
    match b with
    | ⟨0, _⟩ => rfl
    | ⟨1, _⟩ => exact absurd rfl hb
  · exact Nat.zero_add _

theorem pay2_right_0 (v : Vec Ideal S384x512 .f32) (R : Fin 384) (C : Fin 1024) (h0 : 512 ≤ C.val) (h1 : C.val < 640) :
    (k0_pay2 (F := Ideal) v (ix2 R C) : EReal) = v (ix2 R (⟨other (C.val - 512), other_lt (by omega)⟩ : Fin 512)) := by
  unfold k0_pay2
  dsimp only
  refine (concatenate_apply_piece (t := S384x1024) (1 : Fin 2) _ (by exact concatenates_S384x512_S384x128_S384x128_S384x128_S384x128_S384x1024_d1) _ 1 (by show 1 < 5; omega) S384x128 _ rfl rfl 512 rfl (ix2 R (⟨C.val - 512, by omega⟩ : Fin 128)) ?_ ?_).trans ?_
  · intro b hb
    match b with
    | ⟨0, _⟩ => rfl
    | ⟨1, _⟩ => exact absurd rfl hb
  · show 512 + (C.val - 512) = C.val; omega
  · rw [dynamicRotate_apply _ _ _ _ _ (ix2 R (⟨(C.val - 512 + 64) % 128, by omega⟩ : Fin 128)) (by
      intro b
      match b with
      | ⟨0, _⟩ => rfl
      | ⟨1, _⟩ => show (C.val - 512 + 64) % 128 = (C.val - 512 + 128 - 64 % 128) % 128; omega)]
    refine extractStridedSlice_apply _ _ _ _ _ (fun a => ?_)
    match a with
    | ⟨0, _⟩ => exact (Nat.zero_add _).symm
    | ⟨1, _⟩ => show other (C.val - 512) = 0 + (C.val - 512 + 64) % 128; unfold other; omega

theorem pay2_right_1 (v : Vec Ideal S384x512 .f32) (R : Fin 384) (C : Fin 1024) (h0 : 640 ≤ C.val) (h1 : C.val < 768) :
    (k0_pay2 (F := Ideal) v (ix2 R C) : EReal) = v (ix2 R (⟨other (C.val - 512), other_lt (by omega)⟩ : Fin 512)) := by
  unfold k0_pay2
  dsimp only
  refine (concatenate_apply_piece (t := S384x1024) (1 : Fin 2) _ (by exact concatenates_S384x512_S384x128_S384x128_S384x128_S384x128_S384x1024_d1) _ 2 (by show 2 < 5; omega) S384x128 _ rfl rfl 640 rfl (ix2 R (⟨C.val - 640, by omega⟩ : Fin 128)) ?_ ?_).trans ?_
  · intro b hb
    match b with
    | ⟨0, _⟩ => rfl
    | ⟨1, _⟩ => exact absurd rfl hb
  · show 640 + (C.val - 640) = C.val; omega
  · rw [dynamicRotate_apply _ _ _ _ _ (ix2 R (⟨(C.val - 640 + 64) % 128, by omega⟩ : Fin 128)) (by
      intro b
      match b with
      | ⟨0, _⟩ => rfl
      | ⟨1, _⟩ => show (C.val - 640 + 64) % 128 = (C.val - 640 + 128 - 64 % 128) % 128; omega)]
    refine extractStridedSlice_apply _ _ _ _ _ (fun a => ?_)
    match a with
    | ⟨0, _⟩ => exact (Nat.zero_add _).symm
    | ⟨1, _⟩ => show other (C.val - 512) = 128 + (C.val - 640 + 64) % 128; unfold other; omega

theorem pay2_right_2 (v : Vec Ideal S384x512 .f32) (R : Fin 384) (C : Fin 1024) (h0 : 768 ≤ C.val) (h1 : C.val < 896) :
    (k0_pay2 (F := Ideal) v (ix2 R C) : EReal) = v (ix2 R (⟨other (C.val - 512), other_lt (by omega)⟩ : Fin 512)) := by
  unfold k0_pay2
  dsimp only
  refine (concatenate_apply_piece (t := S384x1024) (1 : Fin 2) _ (by exact concatenates_S384x512_S384x128_S384x128_S384x128_S384x128_S384x1024_d1) _ 3 (by show 3 < 5; omega) S384x128 _ rfl rfl 768 rfl (ix2 R (⟨C.val - 768, by omega⟩ : Fin 128)) ?_ ?_).trans ?_
  · intro b hb
    match b with
    | ⟨0, _⟩ => rfl
    | ⟨1, _⟩ => exact absurd rfl hb
  · show 768 + (C.val - 768) = C.val; omega
  · rw [dynamicRotate_apply _ _ _ _ _ (ix2 R (⟨(C.val - 768 + 64) % 128, by omega⟩ : Fin 128)) (by
      intro b
      match b with
      | ⟨0, _⟩ => rfl
      | ⟨1, _⟩ => show (C.val - 768 + 64) % 128 = (C.val - 768 + 128 - 64 % 128) % 128; omega)]
    refine extractStridedSlice_apply _ _ _ _ _ (fun a => ?_)
    match a with
    | ⟨0, _⟩ => exact (Nat.zero_add _).symm
    | ⟨1, _⟩ => show other (C.val - 512) = 256 + (C.val - 768 + 64) % 128; unfold other; omega

theorem pay2_right_3 (v : Vec Ideal S384x512 .f32) (R : Fin 384) (C : Fin 1024) (h0 : 896 ≤ C.val) (h1 : C.val < 1024) :
    (k0_pay2 (F := Ideal) v (ix2 R C) : EReal) = v (ix2 R (⟨other (C.val - 512), other_lt (by omega)⟩ : Fin 512)) := by
  unfold k0_pay2
  dsimp only
  refine (concatenate_apply_piece (t := S384x1024) (1 : Fin 2) _ (by exact concatenates_S384x512_S384x128_S384x128_S384x128_S384x128_S384x1024_d1) _ 4 (by show 4 < 5; omega) S384x128 _ rfl rfl 896 rfl (ix2 R (⟨C.val - 896, by omega⟩ : Fin 128)) ?_ ?_).trans ?_
  · intro b hb
    match b with
    | ⟨0, _⟩ => rfl
    | ⟨1, _⟩ => exact absurd rfl hb
  · show 896 + (C.val - 896) = C.val; omega
  · rw [dynamicRotate_apply _ _ _ _ _ (ix2 R (⟨(C.val - 896 + 64) % 128, by omega⟩ : Fin 128)) (by
      intro b
      match b with
      | ⟨0, _⟩ => rfl
      | ⟨1, _⟩ => show (C.val - 896 + 64) % 128 = (C.val - 896 + 128 - 64 % 128) % 128; omega)]
    refine extractStridedSlice_apply _ _ _ _ _ (fun a => ?_)
    match a with
    | ⟨0, _⟩ => exact (Nat.zero_add _).symm
    | ⟨1, _⟩ => show other (C.val - 512) = 384 + (C.val - 896 + 64) % 128; unfold other; omega

theorem pay2_right (v : Vec Ideal S384x512 .f32) (R : Fin 384) (C : Fin 1024) (h0 : 512 ≤ C.val) :
    (k0_pay2 (F := Ideal) v (ix2 R C) : EReal) = v (ix2 R (⟨other (C.val - 512), other_lt (by omega)⟩ : Fin 512)) := by
  by_cases h1 : C.val < 640
  · exact pay2_right_0 v R C h0 h1
  · by_cases h2 : C.val < 768
    · exact pay2_right_1 v R C (by omega) h2
    · by_cases h3 : C.val < 896
      · exact pay2_right_2 v R C (by omega) h3
      · exact pay2_right_3 v R C (by omega) (by omega)

theorem out6_apply (R : Fin 384) (C : Fin 1024) :
    out0_6 i x0 x1 x2 x3 x4 x5 (ix2 R C) = tileProj i x0 x1 x2 x3 x4 x5 R ⟨C.val, by omega⟩ * Ideal.ofBits .f32 0x3E000000#32 := by
  unfold out0_6
  rw [View.canon_unit_zero zeros2]
  rw [View.ld_unit_zero zeros2, View.ld_unit_zero zeros2, View.ld_unit_zero zeros2, View.ld_unit_zero zeros2, View.ld_unit_zero zeros2, View.ld_unit_zero zeros2]
  exact pay4_apply _ _ _ _ _ _ _ R C

theorem pay6_eq : k0_pay6 i x0 x1 x2 x3 x4 x5 = k0_pay5 i x1 x0 x2 x3 x4 x5 := by
  unfold k0_pay6
  rw [View.ld_unit_zero zeros2, View.ld_unit_zero zeros2, View.ld_unit_zero zeros2, View.ld_unit_zero zeros2, View.ld_unit_zero zeros2, View.ld_unit_zero zeros2]

theorem out7_apply (R : Fin 384) (C : Fin 512) :
    out0_7 i x0 x1 x2 x3 x4 x5 (ix2 R C) = tileProj i x0 x1 x2 x3 x4 x5 R ⟨1024 + C.val, by omega⟩ := by
  unfold out0_7
  rw [View.canon_unit_zero zeros2, pay6_eq]
  exact pay5_apply _ _ _ _ _ _ _ R C

theorem out8_apply (R : Fin 384) (C : Fin 1024) :
    out0_8 i x0 x1 x2 x3 x4 x5 (ix2 R C) = tileProj i x0 x1 x2 x3 x4 x5 R ⟨1536 + C.val, by omega⟩ := by
  unfold out0_8
  rw [View.canon_unit_zero zeros2]
  rw [View.ld_unit_zero zeros2, View.ld_unit_zero zeros2, View.ld_unit_zero zeros2, View.ld_unit_zero zeros2, View.ld_unit_zero zeros2, View.ld_unit_zero zeros2]
  exact pay1_apply _ _ _ _ _ _ _ R C

theorem out9_left (R : Fin 384) (C : Fin 1024) (hC : C.val < 512) :
    out0_9 i x0 x1 x2 x3 x4 x5 (ix2 R C) = tileProj i x0 x1 x2 x3 x4 x5 R ⟨1024 + C.val, by omega⟩ := by
  unfold out0_9
  rw [View.canon_unit_zero zeros2, pay6_eq, pay2_left _ R C hC]
  exact pay5_apply _ _ _ _ _ _ _ R _

theorem out9_right (R : Fin 384) (C : Fin 1024) (hC : 512 ≤ C.val) :
    out0_9 i x0 x1 x2 x3 x4 x5 (ix2 R C) = tileProj i x0 x1 x2 x3 x4 x5 R ⟨1024 + other (C.val - 512), by
      have := other_lt (n := C.val - 512) (by omega)
      omega⟩ := by
  unfold out0_9
  rw [View.canon_unit_zero zeros2, pay6_eq, pay2_right _ R C hC]
  exact pay5_apply _ _ _ _ _ _ _ R _

end Proj

end
-- ==== Proof.AKernel.lean ====
module

public import proofs.«01_k».proof.Proof.APay
public import proofs.«01_k».proof.Proof.Gen.AttnProjIdeal.Value
public import Idealize.ShloMosaic.Lib.StableHlo.RunRead

@[expose] public section

noncomputable section

/-! The arrays the attention projections leave, from the arguments. -/

namespace Proj

open Cert.AttnProjIdeal Cert.AttnProjIdeal.Gen Idealize.ShloMosaic Idealize.ShloMosaic.TcCoe Idealize.ShloMosaic.ValueIdx Idealize.SL.Sem Idealize.ShloMosaic.StableHlo
open Idealize.ShloMosaic.Pipeline (Dat)

variable (m : (ℓ : Loc nD τ sig) → Buf (Elt Ideal) ℓ) (ρ : Dev nD → PrngReg)

theorem pt_lt (t : Fin cfg0.N) : t.val < 44 := lt_of_lt_of_eq t.isLt (show cfg0.N = 44 from N_0)

abbrev pt (t : ℕ) (h : t < 44) : Fin cfg0.N := ⟨t, lt_of_lt_of_eq h N_0.symm⟩

/-- 112 rows of zeros and the meta tokens. -/
def headRows (x : FVec Ideal S16x1024 .f32) : FVec Ideal S128x1024 .f32 :=
  concatenate S128x1024 0 [⟨S112x1024, (broadcastInDim S112x1024 ![] bcast_S_S112x1024 (constant S_ .f32 0x00000000#32) : FVec Ideal S112x1024 .f32)⟩, ⟨S16x1024, x⟩]
    concatenates_S112x1024_S16x1024_S128x1024_d0

theorem headRows_apply (x : FVec Ideal S16x1024 .f32) (r : Fin 128) (d : Fin 1024) :
    headRows x (ix2 r d) = if hq : 112 ≤ r.val then (x (ix2 (⟨r.val - 112, by omega⟩ : Fin 16) d) : EReal) else 0 := by
  unfold headRows
  split
  · refine concatenate_pair_apply_right (t := S128x1024) (0 : Fin 2) _ _ concatenates_S112x1024_S16x1024_S128x1024_d0 _ rfl rfl
        (ix2 (⟨r.val - 112, by omega⟩ : Fin 16) d) ?_ ?_
    · intro a ha
      match a with
      | ⟨0, _⟩ => exact absurd rfl ha
      | ⟨1, _⟩ => rfl
    · show (r.val - 112) + 112 = r.val; omega
  · refine (concatenate_pair_apply_left (t := S128x1024) (0 : Fin 2) _ _ concatenates_S112x1024_S16x1024_S128x1024_d0 _ rfl
        (ix2 (⟨r.val, by omega⟩ : Fin 112) d) ?_).trans Ideal.ofBits_zero_f32
    intro a
    match a with
    | ⟨0, _⟩ => rfl
    | ⟨1, _⟩ => rfl

def gainRow (g : FVec Ideal S2x1024 .f32) : FVec Ideal S1x1024 .f32 :=
  shapeCast S1x1024 (shapeCast S1024 (extractStridedSlice S1x1024 ![0, 0] g slices_S2x1024_S1x1024_0_0) shapeCasts_S1x1024_S1024) shapeCasts_S1024_S1x1024

theorem gainRow_apply (g : FVec Ideal S2x1024 .f32) (d : Fin 1024) : gainRow g (ix2 (0 : Fin 1) d) = g (ix2 (0 : Fin 2) d) := by
  unfold gainRow
  rw [shapeCast_apply _ _ _ (ix1 d) (by rw [Shape.rowMajor_val_one, Shape.rowMajor_val_two]; show d.val = 0 * 1024 + d.val; omega),
    shapeCast_apply _ _ _ (ix2 (0 : Fin 1) d) (by rw [Shape.rowMajor_val_one, Shape.rowMajor_val_two]; show 0 * 1024 + d.val = d.val; omega)]
  refine extractStridedSlice_apply _ _ _ _ _ (fun a => ?_)
  match a with
  | ⟨0, _⟩ => rfl
  | ⟨1, _⟩ => exact (Nat.zero_add _).symm

theorem head_host (c : Dev nD) : V m c main_v1 = headRows (m ((c : Thread nD τ).loc main_arg1)) := by
  unfold_abbrev_sides
  after_reads_simp
  rfl

theorem x_host (c : Dev nD) : V m c main_v2 = shapeCast S16384x1024 (m ((c : Thread nD τ).loc main_arg0)) shapeCasts_S4x4096x1024_S16384x1024 := by
  unfold_abbrev_sides
  after_reads_simp
  rfl

theorem gain_host (c : Dev nD) : V m c main_v5 = gainRow (m ((c : Thread nD τ).loc main_arg2)) := by
  unfold_abbrev_sides
  after_reads_simp
  rfl

theorem w_host (c : Dev nD) : V m c main_v7 = (truncf .bf16 (shapeCast S1024x2560 (m ((c : Thread nD τ).loc main_arg3)) shapeCasts_S1x1024x2560_S1024x2560 : FVec Ideal S1024x2560 .f32) bitsLt_bf16_f32 : FVec Ideal S1024x2560 .bf16) := by
  unfold_abbrev_sides
  after_reads_simp
  rfl

theorem coord1 : ∀ t : Fin cfg0.N, (grid0.coords t 1).val = t.val % 11 :=
  (by decide +kernel : ∀ t : Fin grid0.N, (grid0.coords t 1).val = t.val % 11)

theorem index_0 : ∀ t : Fin cfg0.N, win0_0.index t (0 : Fin 2) = 0 ∧ win0_0.index t (1 : Fin 2) = 0 :=
  (by decide +kernel : ∀ t : Fin grid0.N, win0_0.index t (0 : Fin 2) = 0 ∧ win0_0.index t (1 : Fin 2) = 0)

theorem index_1 : ∀ t : Fin cfg0.N, win0_1.index t (0 : Fin 2) = t.val / 11 * 32 + (3 * (t.val % 11) + 0 - 1) ∧ win0_1.index t (1 : Fin 2) = 0 :=
  (by decide +kernel : ∀ t : Fin grid0.N, win0_1.index t (0 : Fin 2) = t.val / 11 * 32 + (3 * (t.val % 11) + 0 - 1) ∧ win0_1.index t (1 : Fin 2) = 0)

theorem index_2 : ∀ t : Fin cfg0.N, win0_2.index t (0 : Fin 2) = t.val / 11 * 32 + (3 * (t.val % 11) + 1 - 1) ∧ win0_2.index t (1 : Fin 2) = 0 :=
  (by decide +kernel : ∀ t : Fin grid0.N, win0_2.index t (0 : Fin 2) = t.val / 11 * 32 + (3 * (t.val % 11) + 1 - 1) ∧ win0_2.index t (1 : Fin 2) = 0)

theorem index_3 : ∀ t : Fin cfg0.N, win0_3.index t (0 : Fin 2) = t.val / 11 * 32 + (3 * (t.val % 11) + 2 - 1) ∧ win0_3.index t (1 : Fin 2) = 0 :=
  (by decide +kernel : ∀ t : Fin grid0.N, win0_3.index t (0 : Fin 2) = t.val / 11 * 32 + (3 * (t.val % 11) + 2 - 1) ∧ win0_3.index t (1 : Fin 2) = 0)

theorem index_4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)

theorem index_5 : ∀ t : Fin cfg0.N, win0_5.index t (0 : Fin 2) = 0 ∧ win0_5.index t (1 : Fin 2) = 0 :=
  (by decide +kernel : ∀ t : Fin grid0.N, win0_5.index t (0 : Fin 2) = 0 ∧ win0_5.index t (1 : Fin 2) = 0)

theorem index_6 : ∀ t : Fin cfg0.N, win0_6.index t (0 : Fin 2) = t.val ∧ win0_6.index t (1 : Fin 2) = 0 :=
  (by decide +kernel : ∀ t : Fin grid0.N, win0_6.index t (0 : Fin 2) = t.val ∧ win0_6.index t (1 : Fin 2) = 0)

theorem index_7 : ∀ t : Fin cfg0.N, win0_7.index t (0 : Fin 2) = t.val ∧ win0_7.index t (1 : Fin 2) = 0 :=
  (by decide +kernel : ∀ t : Fin grid0.N, win0_7.index t (0 : Fin 2) = t.val ∧ win0_7.index t (1 : Fin 2) = 0)

theorem index_8 : ∀ t : Fin cfg0.N, win0_8.index t (0 : Fin 2) = t.val ∧ win0_8.index t (1 : Fin 2) = 0 :=
  (by decide +kernel : ∀ t : Fin grid0.N, win0_8.index t (0 : Fin 2) = t.val ∧ win0_8.index t (1 : Fin 2) = 0)

theorem index_9 : ∀ t : Fin cfg0.N, win0_9.index t (0 : Fin 2) = t.val ∧ win0_9.index t (1 : Fin 2) = 0 :=
  (by decide +kernel : ∀ t : Fin grid0.N, win0_9.index t (0 : Fin 2) = t.val ∧ win0_9.index t (1 : Fin 2) = 0)

theorem blk_0 (c : Dev nD) (t : Fin cfg0.N) (r : Fin 128) (d : Fin 1024) :
    iblk m c 0 t (ix2 r d) = headRows (m ((c : Thread nD τ).loc main_arg1)) (ix2 r d) := by
  obtain ⟨e0, e1⟩ := index_0 t
  have h0 : (((cfg0.win 0).blk t).view.emb (ix2 r d) 0).val = win0_0.index t (0 : Fin 2) * 128 + 1 * (r).val := rfl
  have h1 : (((cfg0.win 0).blk t).view.emb (ix2 r d) 1).val = win0_0.index t (1 : Fin 2) * 1024 + 1 * (d).val := rfl
  rw [e0] at h0
  rw [e1] at h1
  show V m c main_v1 (((cfg0.win 0).blk t).view.emb (ix2 r d)) = _
  rw [head_host]
  have e : ((cfg0.win 0).blk t).view.emb (ix2 r d) = ix2 r d := by
    funext a; apply Fin.ext
    match a with
    | ⟨0, _⟩ => show (((cfg0.win 0).blk t).view.emb (ix2 r d) 0).val = (r).val; rw [h0]; omega
    | ⟨1, _⟩ => show (((cfg0.win 0).blk t).view.emb (ix2 r d) 1).val = (d).val; rw [h1]; omega
  rw [e]

theorem blk_1 (c : Dev nD) (t : Fin cfg0.N) (r : Fin 128) (d : Fin 1024) (b : Fin 4) (p : Fin 4096)
    (hp : (t.val / 11 * 32 + (3 * (t.val % 11) + 0 - 1)) * 128 + r.val = b.val * 4096 + p.val) :
    iblk m c 1 t (ix2 r d) = m ((c : Thread nD τ).loc main_arg0) (ix3 b p d) := by
  obtain ⟨e0, e1⟩ := index_1 t
  have h0 : (((cfg0.win 1).blk t).view.emb (ix2 r d) 0).val = win0_1.index t (0 : Fin 2) * 128 + 1 * (r).val := rfl
  have h1 : (((cfg0.win 1).blk t).view.emb (ix2 r d) 1).val = win0_1.index t (1 : Fin 2) * 1024 + 1 * (d).val := rfl
  rw [e0] at h0
  rw [e1] at h1
  show V m c main_v2 (((cfg0.win 1).blk t).view.emb (ix2 r d)) = _
  rw [x_host]
  exact shapeCast_apply _ _ _ (ix3 b p d) (by
    rw [Shape.rowMajor_val_three, Shape.rowMajor_val_two]
    show (b.val * 4096 + p.val) * 1024 + d.val = (((cfg0.win 1).blk t).view.emb (ix2 r d) 0).val * 1024 + (((cfg0.win 1).blk t).view.emb (ix2 r d) 1).val
    rw [h0, h1]; omega)

theorem blk_2 (c : Dev nD) (t : Fin cfg0.N) (r : Fin 128) (d : Fin 1024) (b : Fin 4) (p : Fin 4096)
    (hp : (t.val / 11 * 32 + (3 * (t.val % 11) + 1 - 1)) * 128 + r.val = b.val * 4096 + p.val) :
    iblk m c 2 t (ix2 r d) = m ((c : Thread nD τ).loc main_arg0) (ix3 b p d) := by
  obtain ⟨e0, e1⟩ := index_2 t
  have h0 : (((cfg0.win 2).blk t).view.emb (ix2 r d) 0).val = win0_2.index t (0 : Fin 2) * 128 + 1 * (r).val := rfl
  have h1 : (((cfg0.win 2).blk t).view.emb (ix2 r d) 1).val = win0_2.index t (1 : Fin 2) * 1024 + 1 * (d).val := rfl
  rw [e0] at h0
  rw [e1] at h1
  show V m c main_v2 (((cfg0.win 2).blk t).view.emb (ix2 r d)) = _
  rw [x_host]
  exact shapeCast_apply _ _ _ (ix3 b p d) (by
    rw [Shape.rowMajor_val_three, Shape.rowMajor_val_two]
    show (b.val * 4096 + p.val) * 1024 + d.val = (((cfg0.win 2).blk t).view.emb (ix2 r d) 0).val * 1024 + (((cfg0.win 2).blk t).view.emb (ix2 r d) 1).val
    rw [h0, h1]; omega)

theorem blk_3 (c : Dev nD) (t : Fin cfg0.N) (r : Fin 128) (d : Fin 1024) (b : Fin 4) (p : Fin 4096)
    (hp : (t.val / 11 * 32 + (3 * (t.val % 11) + 2 - 1)) * 128 + r.val = b.val * 4096 + p.val) :
    iblk m c 3 t (ix2 r d) = m ((c : Thread nD τ).loc main_arg0) (ix3 b p d) := by
  obtain ⟨e0, e1⟩ := index_3 t
  have h0 : (((cfg0.win 3).blk t).view.emb (ix2 r d) 0).val = win0_3.index t (0 : Fin 2) * 128 + 1 * (r).val := rfl
  have h1 : (((cfg0.win 3).blk t).view.emb (ix2 r d) 1).val = win0_3.index t (1 : Fin 2) * 1024 + 1 * (d).val := rfl
  rw [e0] at h0
  rw [e1] at h1
  show V m c main_v2 (((cfg0.win 3).blk t).view.emb (ix2 r d)) = _
  rw [x_host]
  exact shapeCast_apply _ _ _ (ix3 b p d) (by
    rw [Shape.rowMajor_val_three, Shape.rowMajor_val_two]
    show (b.val * 4096 + p.val) * 1024 + d.val = (((cfg0.win 3).blk t).view.emb (ix2 r d) 0).val * 1024 + (((cfg0.win 3).blk t).view.emb (ix2 r d) 1).val
    rw [h0, h1]; omega)

theorem blk_4 (c : Dev nD) (t : Fin cfg0.N) (d : Fin 1024) :
    iblk m c 4 t (ix2 (0 : Fin 1) d) = m ((c : Thread nD τ).loc main_arg2) (ix2 (0 : Fin 2) d) := by
  obtain ⟨e0, e1⟩ := index_4 t
  have h0 : (((cfg0.win 4).blk t).view.emb (ix2 (0 : Fin 1) d) 0).val = win0_4.index t (0 : Fin 2) * 1 + 1 * ((0 : Fin 1)).val := rfl
  have h1 : (((cfg0.win 4).blk t).view.emb (ix2 (0 : Fin 1) d) 1).val = win0_4.index t (1 : Fin 2) * 1024 + 1 * (d).val := rfl
  rw [e0] at h0
  rw [e1] at h1
  show V m c main_v5 (((cfg0.win 4).blk t).view.emb (ix2 (0 : Fin 1) d)) = _
  rw [gain_host]
  have e : ((cfg0.win 4).blk t).view.emb (ix2 (0 : Fin 1) d) = ix2 (0 : Fin 1) d := by
    funext a; apply Fin.ext
    match a with
    | ⟨0, _⟩ => show (((cfg0.win 4).blk t).view.emb (ix2 (0 : Fin 1) d) 0).val = ((0 : Fin 1)).val; rw [h0]; omega
    | ⟨1, _⟩ => show (((cfg0.win 4).blk t).view.emb (ix2 (0 : Fin 1) d) 1).val = (d).val; rw [h1]; omega
  rw [e]
  exact gainRow_apply _ d

theorem blk_5 (c : Dev nD) (t : Fin cfg0.N) (d : Fin 1024) (e : Fin 2560) :
    iblk m c 5 t (ix2 d e) = m ((c : Thread nD τ).loc main_arg3) (ix3 (0 : Fin 1) d e) := by
  obtain ⟨e0, e1⟩ := index_5 t
  have h0 : (((cfg0.win 5).blk t).view.emb (ix2 d e) 0).val = win0_5.index t (0 : Fin 2) * 1024 + 1 * (d).val := rfl
  have h1 : (((cfg0.win 5).blk t).view.emb (ix2 d e) 1).val = win0_5.index t (1 : Fin 2) * 2560 + 1 * (e).val := rfl
  rw [e0] at h0
  rw [e1] at h1
  show V m c main_v7 (((cfg0.win 5).blk t).view.emb (ix2 d e)) = _
  rw [w_host]
  exact shapeCast_apply _ _ _ (ix3 (0 : Fin 1) d e) (by
    rw [Shape.rowMajor_val_three, Shape.rowMajor_val_two]
    show (0 * 1024 + d.val) * 2560 + e.val = (((cfg0.win 5).blk t).view.emb (ix2 d e) 0).val * 2560 + (((cfg0.win 5).blk t).view.emb (ix2 d e) 1).val
    rw [h0, h1]; omega)

/-- Row `R` of tile `t` is the place it stands for. -/
theorem tileRow_eq (c : Dev nD) (t : Fin cfg0.N) (R : Fin 384) (b : Fin 4) (p : Fin 4224) (hp : 384 * t.val + R.val = b.val * 4224 + p.val) (d : Fin 1024) :
    tileRow (grid0.coords t) (iblk m c 0 t) (iblk m c 1 t) (iblk m c 2 t) (iblk m c 3 t) R d
      = tokX (m ((c : Thread nD τ).loc main_arg0)) (m ((c : Thread nD τ).loc main_arg1)) b p d := by
  have ht := pt_lt t
  have hb : b.val = t.val / 11 := by omega
  have hp2 : p.val = 384 * (t.val % 11) + R.val := by omega
  unfold tileRow tokX
  rw [coord1 t]
  by_cases h1 : R.val < 128
  · rw [if_pos h1]
    by_cases h0 : t.val % 11 = 0
    · rw [if_pos h0, dif_pos (by omega), blk_0, headRows_apply]
      have e : R.val % 128 = p.val := by omega
      simp only [e]
    · rw [if_neg h0, dif_neg (by omega)]
      exact blk_1 m c t _ d b _ (by show _ * 128 + R.val % 128 = b.val * 4096 + (p.val - 128); omega)
  · rw [if_neg h1, dif_neg (by omega)]
    by_cases h2 : R.val < 256
    · rw [if_pos h2]
      exact blk_2 m c t _ d b _ (by show _ * 128 + R.val % 128 = b.val * 4096 + (p.val - 128); omega)
    · rw [if_neg h2]
      exact blk_3 m c t _ d b _ (by show _ * 128 + R.val % 128 = b.val * 4096 + (p.val - 128); omega)

theorem tileProj_eq (c : Dev nD) (t : Fin cfg0.N) (R : Fin 384) (b : Fin 4) (p : Fin 4224) (hp : 384 * t.val + R.val = b.val * 4224 + p.val) (e : Fin 2560) :
    tileProj (grid0.coords t) (iblk m c 0 t) (iblk m c 1 t) (iblk m c 2 t) (iblk m c 3 t) (iblk m c 4 t) (iblk m c 5 t) R e
      = projAt (m ((c : Thread nD τ).loc main_arg0)) (m ((c : Thread nD τ).loc main_arg1)) (m ((c : Thread nD τ).loc main_arg2)) (m ((c : Thread nD τ).loc main_arg3)) b p e := by
  unfold tileProj projAt
  refine Finset.sum_congr rfl fun d _ => ?_
  rw [blk_5, funext (tileRow_eq m c t R b p hp), funext (blk_4 m c t)]

theorem point_6 (c : Dev nD) (t : Fin cfg0.N) (R : Fin 384) (C : Fin 1024) (i : S16896x1024.Idx) (h0 : (i 0).val = 384 * t.val + R.val) (hC : C.val = (i 1).val) :
    out0_6 (grid0.coords t) (iblk m c 0 t) (iblk m c 1 t) (iblk m c 2 t) (iblk m c 3 t) (iblk m c 4 t) (iblk m c 5 t) (ix2 R C)
      = specQ (m ((c : Thread nD τ).loc main_arg0)) (m ((c : Thread nD τ).loc main_arg1)) (m ((c : Thread nD τ).loc main_arg2)) (m ((c : Thread nD τ).loc main_arg3)) i := by
  have hrow : 384 * t.val + R.val = (rb (i 0)).val * 4224 + (rp (i 0)).val := by
    show _ = (i 0).val / 4224 * 4224 + (i 0).val % 4224
    omega
  unfold specQ
  refine (out6_apply _ _ _ _ _ _ _ R C).trans (congrArg (fun z : EReal => z * Ideal.ofBits .f32 0x3E000000#32) ?_)
  rw [tileProj_eq m c t R (rb (i 0)) (rp (i 0)) hrow]
  exact congrArg _ (Fin.ext hC)

theorem flush_6 (c : Dev nD) (t : Fin cfg0.N) :
    (dats m 0 c).flushed 6 t = ((cfg0.win 6).blk t).view.read (Elt Ideal) (specQ (m ((c : Thread nD τ).loc main_arg0)) (m ((c : Thread nD τ).loc main_arg1)) (m ((c : Thread nD τ).loc main_arg2)) (m ((c : Thread nD τ).loc main_arg3)) : Buf (Elt Ideal) ((c : Thread nD τ).loc main_v8_0)) := by
  rw [Value.flushed6]
  obtain ⟨e0, e1⟩ := index_6 t
  funext y
  have h0 : (((cfg0.win 6).blk t).view.emb y 0).val = win0_6.index t (0 : Fin 2) * 384 + 1 * (y 0).val := rfl
  have h1 : (((cfg0.win 6).blk t).view.emb y 1).val = win0_6.index t (1 : Fin 2) * 1024 + 1 * (y 1).val := rfl
  rw [e0] at h0
  rw [e1] at h1
  have ey : (cfg0.win 6).xinj (grid0.coords t) y = ix2 (⟨(y 0).val, (y 0).isLt⟩ : Fin 384) (⟨(y 1).val, (y 1).isLt⟩ : Fin 1024) := by
    funext a; apply Fin.ext
    match a with
    | ⟨0, _⟩ => rfl
    | ⟨1, _⟩ => rfl
  show out0_6 (grid0.coords t) (iblk m c 0 t) (iblk m c 1 t) (iblk m c 2 t) (iblk m c 3 t) (iblk m c 4 t) (iblk m c 5 t) ((cfg0.win 6).xinj (grid0.coords t) y)
    = specQ (m ((c : Thread nD τ).loc main_arg0)) (m ((c : Thread nD τ).loc main_arg1)) (m ((c : Thread nD τ).loc main_arg2)) (m ((c : Thread nD τ).loc main_arg3)) (((cfg0.win 6).blk t).view.emb y)
  rw [ey]
  exact point_6 m c t _ _ _ (by rw [h0]; show _ = 384 * t.val + (y 0).val; omega) (by rw [h1]; show (y 1).val = _; omega)

theorem mem_6 (t : Fin cfg0.N) (i : S16896x1024.Idx) (h : (i 0).val / 384 = t.val) : i ∈ ((cfg0.win 6).blk t).view.set := by
  have h1 : (i 1).val < 1024 := (i 1).isLt
  obtain ⟨e0, e1⟩ := index_6 t
  show i ∈ ((View.whole main_v8_0).slice (win0_6.rect t)).set
  rw [View.set_slice_whole, Rect.mem_set_unit]
  intro a
  match a with
  | ⟨0, _⟩ =>
    show win0_6.index t (0 : Fin 2) * 384 ≤ (i 0).val ∧ (i 0).val < win0_6.index t (0 : Fin 2) * 384 + 384
    rw [e0]; omega
  | ⟨1, _⟩ =>
    show win0_6.index t (1 : Fin 2) * 1024 ≤ (i 1).val ∧ (i 1).val < win0_6.index t (1 : Fin 2) * 1024 + 1024
    rw [e1]; omega

theorem covered_6 (i : S16896x1024.Idx) : ∃ t : Fin cfg0.N, (cfg0.win 6).flush t = true ∧ i ∈ ((cfg0.win 6).blk t).view.set := by
  have h0 : (i 0).val < 16896 := (i 0).isLt
  exact ⟨pt ((i 0).val / 384) (by omega), flush0_6 _, mem_6 _ i rfl⟩

theorem arr_6 (c : Dev nD) : (dats m 0 c).arrAt 6 cfg0.N = (specQ (m ((c : Thread nD τ).loc main_arg0)) (m ((c : Thread nD τ).loc main_arg1)) (m ((c : Thread nD τ).loc main_arg2)) (m ((c : Thread nD τ).loc main_arg3)) : Buf (Elt Ideal) ((c : Thread nD τ).loc main_v8_0)) :=
  (dats m 0 c).arrAt_eq_of_cover 6 _ (fun t _ => flush_6 m c t) covered_6

theorem point_7 (c : Dev nD) (t : Fin cfg0.N) (R : Fin 384) (C : Fin 512) (i : S16896x512.Idx) (h0 : (i 0).val = 384 * t.val + R.val) (hC : C.val = (i 1).val) :
    out0_7 (grid0.coords t) (iblk m c 0 t) (iblk m c 1 t) (iblk m c 2 t) (iblk m c 3 t) (iblk m c 4 t) (iblk m c 5 t) (ix2 R C)
      = specKV (m ((c : Thread nD τ).loc main_arg0)) (m ((c : Thread nD τ).loc main_arg1)) (m ((c : Thread nD τ).loc main_arg2)) (m ((c : Thread nD τ).loc main_arg3)) i := by
  have hrow : 384 * t.val + R.val = (rb (i 0)).val * 4224 + (rp (i 0)).val := by
    show _ = (i 0).val / 4224 * 4224 + (i 0).val % 4224
    omega
  unfold specKV
  refine (out7_apply _ _ _ _ _ _ _ R C).trans ?_
  rw [tileProj_eq m c t R (rb (i 0)) (rp (i 0)) hrow]
  exact congrArg _ (Fin.ext (congrArg (1024 + ·) hC))

theorem flush_7 (c : Dev nD) (t : Fin cfg0.N) :
    (dats m 0 c).flushed 7 t = ((cfg0.win 7).blk t).view.read (Elt Ideal) (specKV (m ((c : Thread nD τ).loc main_arg0)) (m ((c : Thread nD τ).loc main_arg1)) (m ((c : Thread nD τ).loc main_arg2)) (m ((c : Thread nD τ).loc main_arg3)) : Buf (Elt Ideal) ((c : Thread nD τ).loc main_v8_1)) := by
  rw [Value.flushed7]
  obtain ⟨e0, e1⟩ := index_7 t
  funext y
  have h0 : (((cfg0.win 7).blk t).view.emb y 0).val = win0_7.index t (0 : Fin 2) * 384 + 1 * (y 0).val := rfl
  have h1 : (((cfg0.win 7).blk t).view.emb y 1).val = win0_7.index t (1 : Fin 2) * 512 + 1 * (y 1).val := rfl
  rw [e0] at h0
  rw [e1] at h1
  have ey : (cfg0.win 7).xinj (grid0.coords t) y = ix2 (⟨(y 0).val, (y 0).isLt⟩ : Fin 384) (⟨(y 1).val, (y 1).isLt⟩ : Fin 512) := by
    funext a; apply Fin.ext
    match a with
    | ⟨0, _⟩ => rfl
    | ⟨1, _⟩ => rfl
  show out0_7 (grid0.coords t) (iblk m c 0 t) (iblk m c 1 t) (iblk m c 2 t) (iblk m c 3 t) (iblk m c 4 t) (iblk m c 5 t) ((cfg0.win 7).xinj (grid0.coords t) y)
    = specKV (m ((c : Thread nD τ).loc main_arg0)) (m ((c : Thread nD τ).loc main_arg1)) (m ((c : Thread nD τ).loc main_arg2)) (m ((c : Thread nD τ).loc main_arg3)) (((cfg0.win 7).blk t).view.emb y)
  rw [ey]
  exact point_7 m c t _ _ _ (by rw [h0]; show _ = 384 * t.val + (y 0).val; omega) (by rw [h1]; show (y 1).val = _; omega)

theorem mem_7 (t : Fin cfg0.N) (i : S16896x512.Idx) (h : (i 0).val / 384 = t.val) : i ∈ ((cfg0.win 7).blk t).view.set := by
  have h1 : (i 1).val < 512 := (i 1).isLt
  obtain ⟨e0, e1⟩ := index_7 t
  show i ∈ ((View.whole main_v8_1).slice (win0_7.rect t)).set
  rw [View.set_slice_whole, Rect.mem_set_unit]
  intro a
  match a with
  | ⟨0, _⟩ =>
    show win0_7.index t (0 : Fin 2) * 384 ≤ (i 0).val ∧ (i 0).val < win0_7.index t (0 : Fin 2) * 384 + 384
    rw [e0]; omega
  | ⟨1, _⟩ =>
    show win0_7.index t (1 : Fin 2) * 512 ≤ (i 1).val ∧ (i 1).val < win0_7.index t (1 : Fin 2) * 512 + 512
    rw [e1]; omega

theorem covered_7 (i : S16896x512.Idx) : ∃ t : Fin cfg0.N, (cfg0.win 7).flush t = true ∧ i ∈ ((cfg0.win 7).blk t).view.set := by
  have h0 : (i 0).val < 16896 := (i 0).isLt
  exact ⟨pt ((i 0).val / 384) (by omega), flush0_7 _, mem_7 _ i rfl⟩

theorem arr_7 (c : Dev nD) : (dats m 0 c).arrAt 7 cfg0.N = (specKV (m ((c : Thread nD τ).loc main_arg0)) (m ((c : Thread nD τ).loc main_arg1)) (m ((c : Thread nD τ).loc main_arg2)) (m ((c : Thread nD τ).loc main_arg3)) : Buf (Elt Ideal) ((c : Thread nD τ).loc main_v8_1)) :=
  (dats m 0 c).arrAt_eq_of_cover 7 _ (fun t _ => flush_7 m c t) covered_7

theorem point_8 (c : Dev nD) (t : Fin cfg0.N) (R : Fin 384) (C : Fin 1024) (i : S16896x1024.Idx) (h0 : (i 0).val = 384 * t.val + R.val) (hC : C.val = (i 1).val) :
    out0_8 (grid0.coords t) (iblk m c 0 t) (iblk m c 1 t) (iblk m c 2 t) (iblk m c 3 t) (iblk m c 4 t) (iblk m c 5 t) (ix2 R C)
      = specG (m ((c : Thread nD τ).loc main_arg0)) (m ((c : Thread nD τ).loc main_arg1)) (m ((c : Thread nD τ).loc main_arg2)) (m ((c : Thread nD τ).loc main_arg3)) i := by
  have hrow : 384 * t.val + R.val = (rb (i 0)).val * 4224 + (rp (i 0)).val := by
    show _ = (i 0).val / 4224 * 4224 + (i 0).val % 4224
    omega
  unfold specG
  refine (out8_apply _ _ _ _ _ _ _ R C).trans ?_
  rw [tileProj_eq m c t R (rb (i 0)) (rp (i 0)) hrow]
  exact congrArg _ (Fin.ext (congrArg (1536 + ·) hC))

theorem flush_8 (c : Dev nD) (t : Fin cfg0.N) :
    (dats m 0 c).flushed 8 t = ((cfg0.win 8).blk t).view.read (Elt Ideal) (specG (m ((c : Thread nD τ).loc main_arg0)) (m ((c : Thread nD τ).loc main_arg1)) (m ((c : Thread nD τ).loc main_arg2)) (m ((c : Thread nD τ).loc main_arg3)) : Buf (Elt Ideal) ((c : Thread nD τ).loc main_v8_2)) := by
  rw [Value.flushed8]
  obtain ⟨e0, e1⟩ := index_8 t
  funext y
  have h0 : (((cfg0.win 8).blk t).view.emb y 0).val = win0_8.index t (0 : Fin 2) * 384 + 1 * (y 0).val := rfl
  have h1 : (((cfg0.win 8).blk t).view.emb y 1).val = win0_8.index t (1 : Fin 2) * 1024 + 1 * (y 1).val := rfl
  rw [e0] at h0
  rw [e1] at h1
  have ey : (cfg0.win 8).xinj (grid0.coords t) y = ix2 (⟨(y 0).val, (y 0).isLt⟩ : Fin 384) (⟨(y 1).val, (y 1).isLt⟩ : Fin 1024) := by
    funext a; apply Fin.ext
    match a with
    | ⟨0, _⟩ => rfl
    | ⟨1, _⟩ => rfl
  show out0_8 (grid0.coords t) (iblk m c 0 t) (iblk m c 1 t) (iblk m c 2 t) (iblk m c 3 t) (iblk m c 4 t) (iblk m c 5 t) ((cfg0.win 8).xinj (grid0.coords t) y)
    = specG (m ((c : Thread nD τ).loc main_arg0)) (m ((c : Thread nD τ).loc main_arg1)) (m ((c : Thread nD τ).loc main_arg2)) (m ((c : Thread nD τ).loc main_arg3)) (((cfg0.win 8).blk t).view.emb y)
  rw [ey]
  exact point_8 m c t _ _ _ (by rw [h0]; show _ = 384 * t.val + (y 0).val; omega) (by rw [h1]; show (y 1).val = _; omega)

theorem mem_8 (t : Fin cfg0.N) (i : S16896x1024.Idx) (h : (i 0).val / 384 = t.val) : i ∈ ((cfg0.win 8).blk t).view.set := by
  have h1 : (i 1).val < 1024 := (i 1).isLt
  obtain ⟨e0, e1⟩ := index_8 t
  show i ∈ ((View.whole main_v8_2).slice (win0_8.rect t)).set
  rw [View.set_slice_whole, Rect.mem_set_unit]
  intro a
  match a with
  | ⟨0, _⟩ =>
    show win0_8.index t (0 : Fin 2) * 384 ≤ (i 0).val ∧ (i 0).val < win0_8.index t (0 : Fin 2) * 384 + 384
    rw [e0]; omega
  | ⟨1, _⟩ =>
    show win0_8.index t (1 : Fin 2) * 1024 ≤ (i 1).val ∧ (i 1).val < win0_8.index t (1 : Fin 2) * 1024 + 1024
    rw [e1]; omega

theorem covered_8 (i : S16896x1024.Idx) : ∃ t : Fin cfg0.N, (cfg0.win 8).flush t = true ∧ i ∈ ((cfg0.win 8).blk t).view.set := by
  have h0 : (i 0).val < 16896 := (i 0).isLt
  exact ⟨pt ((i 0).val / 384) (by omega), flush0_8 _, mem_8 _ i rfl⟩

theorem arr_8 (c : Dev nD) : (dats m 0 c).arrAt 8 cfg0.N = (specG (m ((c : Thread nD τ).loc main_arg0)) (m ((c : Thread nD τ).loc main_arg1)) (m ((c : Thread nD τ).loc main_arg2)) (m ((c : Thread nD τ).loc main_arg3)) : Buf (Elt Ideal) ((c : Thread nD τ).loc main_v8_2)) :=
  (dats m 0 c).arrAt_eq_of_cover 8 _ (fun t _ => flush_8 m c t) covered_8

theorem point_9 (c : Dev nD) (t : Fin cfg0.N) (R : Fin 384) (C : Fin 1024) (i : S16896x1024.Idx) (h0 : (i 0).val = 384 * t.val + R.val) (hC : C.val = (i 1).val) :
    out0_9 (grid0.coords t) (iblk m c 0 t) (iblk m c 1 t) (iblk m c 2 t) (iblk m c 3 t) (iblk m c 4 t) (iblk m c 5 t) (ix2 R C)
      = specKVB (m ((c : Thread nD τ).loc main_arg0)) (m ((c : Thread nD τ).loc main_arg1)) (m ((c : Thread nD τ).loc main_arg2)) (m ((c : Thread nD τ).loc main_arg3)) i := by
  have hrow : 384 * t.val + R.val = (rb (i 0)).val * 4224 + (rp (i 0)).val := by
    show _ = (i 0).val / 4224 * 4224 + (i 0).val % 4224
    omega
  unfold specKVB
  by_cases hi : (i 1).val < 512
  · rw [dif_pos hi]
    refine (out9_left _ _ _ _ _ _ _ R C (by omega)).trans ?_
    rw [tileProj_eq m c t R (rb (i 0)) (rp (i 0)) hrow]
    exact congrArg _ (Fin.ext (congrArg (1024 + ·) hC))
  · rw [dif_neg hi]
    refine (out9_right _ _ _ _ _ _ _ R C (by omega)).trans ?_
    rw [tileProj_eq m c t R (rb (i 0)) (rp (i 0)) hrow]
    exact congrArg _ (Fin.ext (congrArg (fun n => 1024 + other (n - 512)) hC))

theorem flush_9 (c : Dev nD) (t : Fin cfg0.N) :
    (dats m 0 c).flushed 9 t = ((cfg0.win 9).blk t).view.read (Elt Ideal) (specKVB (m ((c : Thread nD τ).loc main_arg0)) (m ((c : Thread nD τ).loc main_arg1)) (m ((c : Thread nD τ).loc main_arg2)) (m ((c : Thread nD τ).loc main_arg3)) : Buf (Elt Ideal) ((c : Thread nD τ).loc main_v8_3)) := by
  rw [Value.flushed9]
  obtain ⟨e0, e1⟩ := index_9 t
  funext y
  have h0 : (((cfg0.win 9).blk t).view.emb y 0).val = win0_9.index t (0 : Fin 2) * 384 + 1 * (y 0).val := rfl
  have h1 : (((cfg0.win 9).blk t).view.emb y 1).val = win0_9.index t (1 : Fin 2) * 1024 + 1 * (y 1).val := rfl
  rw [e0] at h0
  rw [e1] at h1
  have ey : (cfg0.win 9).xinj (grid0.coords t) y = ix2 (⟨(y 0).val, (y 0).isLt⟩ : Fin 384) (⟨(y 1).val, (y 1).isLt⟩ : Fin 1024) := by
    funext a; apply Fin.ext
    match a with
    | ⟨0, _⟩ => rfl
    | ⟨1, _⟩ => rfl
  show out0_9 (grid0.coords t) (iblk m c 0 t) (iblk m c 1 t) (iblk m c 2 t) (iblk m c 3 t) (iblk m c 4 t) (iblk m c 5 t) ((cfg0.win 9).xinj (grid0.coords t) y)
    = specKVB (m ((c : Thread nD τ).loc main_arg0)) (m ((c : Thread nD τ).loc main_arg1)) (m ((c : Thread nD τ).loc main_arg2)) (m ((c : Thread nD τ).loc main_arg3)) (((cfg0.win 9).blk t).view.emb y)
  rw [ey]
  exact point_9 m c t _ _ _ (by rw [h0]; show _ = 384 * t.val + (y 0).val; omega) (by rw [h1]; show (y 1).val = _; omega)

theorem mem_9 (t : Fin cfg0.N) (i : S16896x1024.Idx) (h : (i 0).val / 384 = t.val) : i ∈ ((cfg0.win 9).blk t).view.set := by
  have h1 : (i 1).val < 1024 := (i 1).isLt
  obtain ⟨e0, e1⟩ := index_9 t
  show i ∈ ((View.whole main_v8_3).slice (win0_9.rect t)).set
  rw [View.set_slice_whole, Rect.mem_set_unit]
  intro a
  match a with
  | ⟨0, _⟩ =>
    show win0_9.index t (0 : Fin 2) * 384 ≤ (i 0).val ∧ (i 0).val < win0_9.index t (0 : Fin 2) * 384 + 384
    rw [e0]; omega
  | ⟨1, _⟩ =>
    show win0_9.index t (1 : Fin 2) * 1024 ≤ (i 1).val ∧ (i 1).val < win0_9.index t (1 : Fin 2) * 1024 + 1024
    rw [e1]; omega

theorem covered_9 (i : S16896x1024.Idx) : ∃ t : Fin cfg0.N, (cfg0.win 9).flush t = true ∧ i ∈ ((cfg0.win 9).blk t).view.set := by
  have h0 : (i 0).val < 16896 := (i 0).isLt
  exact ⟨pt ((i 0).val / 384) (by omega), flush0_9 _, mem_9 _ i rfl⟩

theorem arr_9 (c : Dev nD) : (dats m 0 c).arrAt 9 cfg0.N = (specKVB (m ((c : Thread nD τ).loc main_arg0)) (m ((c : Thread nD τ).loc main_arg1)) (m ((c : Thread nD τ).loc main_arg2)) (m ((c : Thread nD τ).loc main_arg3)) : Buf (Elt Ideal) ((c : Thread nD τ).loc main_v8_3)) :=
  (dats m 0 c).arrAt_eq_of_cover 9 _ (fun t _ => flush_9 m c t) covered_9

end Proj

end
-- ==== Proof.ARef.lean ====
module

public import proofs.«01_k».proof.Proof.ASpec
public import proofs.«01_k».proof.Proof.Gen.AttnProjRefIdeal.Read

@[expose] public section

noncomputable section

/-! The reference of the attention projections, read value by value. -/

namespace Proj

open Cert.AttnProjRefIdeal Cert.AttnProjRefIdeal.Gen Cert.AttnProjRefIdeal.Read Idealize.ShloMosaic Idealize.ShloMosaic.ValueIdx

variable (x : FVec Ideal ⟨3, ![4, 4096, 1024]⟩ .f32) (h : FVec Ideal ⟨2, ![16, 1024]⟩ .f32) (gn : FVec Ideal ⟨2, ![2, 1024]⟩ .f32)
  (w : FVec Ideal ⟨3, ![1, 1024, 2560]⟩ .f32)

/-- The place of a row that is not padding. -/
def pl (q : Fin 4112) : Fin 4224 := ⟨q.val + 112, by omega⟩

theorem ref_tok (b : Fin 4) (q : Fin 4112) (d : Fin 1024) : val_main_v2 (F := Ideal) x h (ix3 b q d) = tokX x h b (pl q) d := by
  unfold val_main_v2 tokX
  by_cases hq : q.val < 16
  · rw [dif_pos (show (pl q).val < 128 by show q.val + 112 < 128; omega), dif_pos (show 112 ≤ (pl q).val by show 112 ≤ q.val + 112; omega)]
    refine (concatenate_pair_apply_left (t := S4x4112x1024) (1 : Fin 3) _ _ concatenates_S4x16x1024_S4x4096x1024_S4x4112x1024_d1 _ rfl (ix3 b (⟨q.val, hq⟩ : Fin 16) d) ?_).trans ?_
    · intro a
      match a with
      | ⟨0, _⟩ => rfl
      | ⟨1, _⟩ => rfl
      | ⟨2, _⟩ => rfl
    · rw [val_main_v1_apply, val_main_v0_apply]
      refine congrArg h (funext fun a => Fin.ext ?_)
      match a with
      | ⟨0, _⟩ => show q.val = q.val + 112 - 112; omega
      | ⟨1, _⟩ => rfl
  · rw [dif_neg (show ¬(pl q).val < 128 by show ¬(q.val + 112 < 128); omega)]
    refine concatenate_pair_apply_right (t := S4x4112x1024) (1 : Fin 3) _ _ concatenates_S4x16x1024_S4x4096x1024_S4x4112x1024_d1 _ rfl rfl _ ?_ ?_
    · intro a ha
      match a with
      | ⟨0, _⟩ => rfl
      | ⟨1, _⟩ => exact absurd rfl ha
      | ⟨2, _⟩ => rfl
    · show (q.val + 112 - 128) + 16 = q.val; omega

theorem ref_scale (b : Fin 4) (q : Fin 4112) (z : S4x4112x1.Idx) (h0 : (z 0).val = b.val) (h1 : (z 1).val = q.val) :
    val_main_v12 (F := Ideal) x h z = scale (tokX x h b (pl q)) := by
  rw [val_main_v12_apply, val_main_v11_apply, val_main_v9_apply, val_main_v10_apply, val_main_cst_1_apply, val_main_v8_apply, val_main_cst_0_apply, val_main_v7_apply, val_main_v6_apply,
    val_main_cst_apply]
  have e : ∀ k : Fin 1024, val_main_v5 (F := Ideal) x h (idx_main_v6 (idx_main_v7 z) k) = tokX x h b (pl q) k * tokX x h b (pl q) k := fun k => by
    rw [val_main_v5_apply, ← ref_tok]
    have l : idx_main_v6 (idx_main_v7 z) k = ix3 b q k := by
      funext a; apply Fin.ext
      match a with
      | ⟨0, _⟩ => exact h0
      | ⟨1, _⟩ => exact h1
      | ⟨2, _⟩ => rfl
    rw [l]
    rfl
  rw [Finset.sum_congr rfl fun k _ => e k]
  unfold scale
  show Ideal.rsqrt (Ideal.div (Ideal.ofBits .f32 0x00000000#32 + _) _ + _) = _
  rw [Ideal.ofBits_zero_f32, zero_add]
  rfl

theorem ref_nrm (b : Fin 4) (q : Fin 4112) (d : Fin 1024) :
    val_main_v17 (F := Ideal) x h gn (ix3 b q d) = nrm (tokX x h b (pl q)) (fun k => gn (ix2 (0 : Fin 2) k)) d := by
  rw [val_main_v17_apply, val_main_v14_apply, val_main_v13_apply, ref_scale x h b q _ rfl rfl, ref_tok, val_main_v16_apply, val_main_v15_apply, val_main_v4_apply, val_main_v3_apply]
  unfold nrm
  refine congrArg (fun y : EReal => tokX x h b (pl q) d * scale (tokX x h b (pl q)) * y) ?_
  refine congrArg gn (funext fun a => Fin.ext ?_)
  match a with
  | ⟨0, _⟩ => rfl
  | ⟨1, _⟩ => show d.val % 1024 = d.val; omega

theorem ref_proj (b : Fin 4) (q : Fin 4112) (e : Fin 2560) : val_main_v19 (F := Ideal) x h gn w (ix3 b q e) = projAt x h gn w b (pl q) e := by
  rw [val_main_v19_apply]
  unfold projAt
  refine Finset.sum_congr rfl fun d _ => ?_
  have l : lidx_main_v19 (ix3 b q e) d = ix3 b q d := by
    funext a; apply Fin.ext
    match a with
    | ⟨0, _⟩ => rfl
    | ⟨1, _⟩ => rfl
    | ⟨2, _⟩ => rfl
  rw [l, ref_nrm, val_main_v18_apply]
  refine congrArg (fun y : EReal => nrm (tokX x h b (pl q)) (fun k => gn (ix2 (0 : Fin 2) k)) d * y) (congrArg w (funext fun a => Fin.ext ?_))
  match a with
  | ⟨0, _⟩ => rfl
  | ⟨1, _⟩ => show (d.val * 2560 + e.val) / 2560 % 1024 = d.val; omega
  | ⟨2, _⟩ => show (d.val * 2560 + e.val) % 2560 = e.val; omega

/-- The keys beside the values. -/
theorem ref_kv (b : Fin 4) (q : Fin 4112) (C : Fin 512) (z : S4x4112x512.Idx) (h0 : (z 0).val = b.val) (h1 : (z 1).val = q.val) (h2 : (z 2).val = C.val) :
    val_main_v24 (F := Ideal) x h gn w z = projAt x h gn w b (pl q) ⟨1024 + C.val, by omega⟩ := by
  have ez : z = ix3 b q C := by
    funext a; apply Fin.ext
    match a with
    | ⟨0, _⟩ => exact h0
    | ⟨1, _⟩ => exact h1
    | ⟨2, _⟩ => exact h2
  subst ez
  rw [← ref_proj]
  unfold val_main_v24
  by_cases hC : C.val < 256
  · refine (concatenate_pair_apply_left (t := S4x4112x512) (2 : Fin 3) _ _ concatenates_S4x4112x256_S4x4112x256_S4x4112x512_d2 _ rfl (ix3 b q (⟨C.val, hC⟩ : Fin 256)) ?_).trans ?_
    · intro a
      match a with
      | ⟨0, _⟩ => rfl
      | ⟨1, _⟩ => rfl
      | ⟨2, _⟩ => rfl
    · rw [val_main_v21_apply]
      refine congrArg _ (funext fun a => Fin.ext ?_)
      match a with
      | ⟨0, _⟩ => rfl
      | ⟨1, _⟩ => rfl
      | ⟨2, _⟩ => rfl
  · refine (concatenate_pair_apply_right (t := S4x4112x512) (2 : Fin 3) _ _ concatenates_S4x4112x256_S4x4112x256_S4x4112x512_d2 _ rfl rfl
      (ix3 b q (⟨C.val - 256, by omega⟩ : Fin 256)) ?_ ?_).trans ?_
    · intro a ha
      match a with
      | ⟨0, _⟩ => rfl
      | ⟨1, _⟩ => rfl
      | ⟨2, _⟩ => exact absurd rfl ha
    · show (C.val - 256) + 256 = C.val; omega
    · rw [val_main_v22_apply]
      refine congrArg _ (funext fun a => Fin.ext ?_)
      match a with
      | ⟨0, _⟩ => rfl
      | ⟨1, _⟩ => rfl
      | ⟨2, _⟩ => show 1280 + (C.val - 256) = 1024 + C.val; omega

/-- The same with the heads of each pair exchanged. -/
theorem ref_kvb (b : Fin 4) (q : Fin 4112) (C : Fin 512) :
    val_main_v27 (F := Ideal) x h gn w (ix3 b q C) = projAt x h gn w b (pl q) ⟨1024 + other C.val, by
      have := other_lt (n := C.val) (by omega)
      omega⟩ := by
  rw [val_main_v27_apply]
  unfold val_main_v26 Host.reverse
  rw [val_main_v25_apply]
  have hb := b.isLt
  have hq := q.isLt
  have hC := C.isLt
  have s0 : ((b.val * 4112 + q.val) * 512 + C.val) / 2105344 = b.val := by omega
  have s1 : ((b.val * 4112 + q.val) * 512 + C.val) / 512 % 4112 = q.val := by omega
  have s2 : ((b.val * 4112 + q.val) * 512 + C.val) / 128 % 4 = C.val / 128 := by omega
  have s3 : ((b.val * 4112 + q.val) * 512 + C.val) / 64 % 2 = C.val / 64 % 2 := by omega
  have s4 : ((b.val * 4112 + q.val) * 512 + C.val) % 64 = C.val % 64 := by omega
  have key : (((((b.val * 4112 + q.val) * 512 + C.val) / 2105344 * 4112 + ((b.val * 4112 + q.val) * 512 + C.val) / 512 % 4112) * 4 + ((b.val * 4112 + q.val) * 512 + C.val) / 128 % 4) * 2
      + (2 - (((b.val * 4112 + q.val) * 512 + C.val) / 64 % 2 + 1))) * 64 + ((b.val * 4112 + q.val) * 512 + C.val) % 64
      = (b.val * 4112 + q.val) * 512 + other C.val := by
    rw [s0, s1, s2, s3, s4]
    unfold other
    have hu : C.val / 64 % 2 < 2 := Nat.mod_lt _ (by omega)
    have hd : C.val = C.val / 128 * 128 + (C.val / 64 % 2) * 64 + C.val % 64 := by omega
    have hx : (C.val + 64) % 128 = (1 - C.val / 64 % 2) * 64 + C.val % 64 := by omega
    rw [hx]
    omega
  have ho := other_lt (n := C.val) hC
  refine ref_kv x h gn w b q ⟨other C.val, ho⟩ _ ?_ ?_ ?_
  · show ((((((b.val * 4112 + q.val) * 512 + C.val) / 2105344 * 4112 + ((b.val * 4112 + q.val) * 512 + C.val) / 512 % 4112) * 4 + ((b.val * 4112 + q.val) * 512 + C.val) / 128 % 4) * 2
      + (2 - (((b.val * 4112 + q.val) * 512 + C.val) / 64 % 2 + 1))) * 64 + ((b.val * 4112 + q.val) * 512 + C.val) % 64) / 2105344 = b.val
    rw [key]; omega
  · show ((((((b.val * 4112 + q.val) * 512 + C.val) / 2105344 * 4112 + ((b.val * 4112 + q.val) * 512 + C.val) / 512 % 4112) * 4 + ((b.val * 4112 + q.val) * 512 + C.val) / 128 % 4) * 2
      + (2 - (((b.val * 4112 + q.val) * 512 + C.val) / 64 % 2 + 1))) * 64 + ((b.val * 4112 + q.val) * 512 + C.val) % 64) / 512 % 4112 = q.val
    rw [key]; omega
  · show ((((((b.val * 4112 + q.val) * 512 + C.val) / 2105344 * 4112 + ((b.val * 4112 + q.val) * 512 + C.val) / 512 % 4112) * 4 + ((b.val * 4112 + q.val) * 512 + C.val) / 128 % 4) * 2
      + (2 - (((b.val * 4112 + q.val) * 512 + C.val) / 64 % 2 + 1))) * 64 + ((b.val * 4112 + q.val) * 512 + C.val) % 64) % 512 = other C.val
    rw [key]; omega

theorem no_count (c : S_.Idx → BitVec 32) (hc : ∀ i, c i = 0#32) (i : S_.Idx) : (sitofp .f32 c : FVec Ideal S_ .f32) i = (0 : EReal) := by
  show (((c i).toInt : ℝ) : EReal) = 0
  rw [hc]
  rw [show (0#32 : BitVec 32).toInt = 0 from rfl]
  simp

/-- Rows put before each batch entry's rows. -/
theorem front_pad {W : ℕ} (y : FVec Ideal ⟨3, ![4, 4112, W]⟩ .f32) (v : FVec Ideal S_ .f32) (hs) (hu) (hv : ∀ i, v i = (0 : EReal)) (i : (⟨3, ![4, 4224, W]⟩ : Shape).Idx)
    (b : Fin 4) (p : Fin 4224) (C : Fin W) (h0 : (i 0).val = b.val) (h1 : (i 1).val = p.val) (h2 : (i 2).val = C.val) (s : EReal)
    (hz : p.val < 112 → s = 0) (hy : ∀ q : Fin 4112, pl q = p → y (ix3 b q C) = s) :
    pad ⟨3, ![4, 4224, W]⟩ ![0, 112, 0] ![0, 0, 0] ![0, 0, 0] y v hs hu i = s := by
  by_cases hp : 112 ≤ p.val
  · refine (pad_apply_of_inside _ _ _ y v hs hu i (ix3 b (⟨p.val - 112, by omega⟩ : Fin 4112) C) ?_).trans (hy _ (Fin.ext (by show p.val - 112 + 112 = p.val; omega)))
    intro a
    match a with
    | ⟨0, _⟩ => show (i 0).val = 0 + b.val * (0 + 1); omega
    | ⟨1, _⟩ => show (i 1).val = 112 + (p.val - 112) * (0 + 1); omega
    | ⟨2, _⟩ => show (i 2).val = 0 + C.val * (0 + 1); omega
  · rw [hz (by omega)]
    refine (pad_apply_of_not_inside _ _ _ y v hs hu i (1 : Fin 3) ?_).trans (hv _)
    intro q
    have : 112 ≤ (i 1).val := q.1
    omega

theorem ref_q_spec (i : S16896x1024.Idx) : val_main_v32 (F := Ideal) x h gn w i = specQ x h gn w i := by
  have hi0 : (i 0).val < 16896 := (i 0).isLt
  have hi1 : (i 1).val < 1024 := (i 1).isLt
  rw [val_main_v32_apply]
  show val_main_v31 (F := Ideal) x h gn w i = _
  rw [val_main_v31_apply]
  unfold val_main_v30
  refine front_pad (W := 1024) _ _ _ _ (fun z => no_count _ val_main_c_apply z) _ (rb (i 0)) (rp (i 0)) ⟨(i 1).val, hi1⟩ ?_ ?_ ?_ _ (fun hp => ?_) (fun q hq => ?_)
  · show ((i 0).val * 1024 + (i 1).val) / 4325376 = (i 0).val / 4224; omega
  · show ((i 0).val * 1024 + (i 1).val) / 1024 % 4224 = (i 0).val % 4224; omega
  · show ((i 0).val * 1024 + (i 1).val) % 1024 = (i 1).val; omega
  ·
    unfold specQ
    rw [projAt_pad _ _ _ _ _ _ _ hp, zero_mul]
  ·
    unfold specQ
    rw [val_main_v29_apply, val_main_v28_apply, val_main_cst_2_apply, val_main_v20_apply, ← hq, ← ref_proj]
    refine congrArg (fun y : EReal => y * Ideal.ofBits .f32 0x3E000000#32) (congrArg _ (funext fun a => Fin.ext ?_))
    match a with
    | ⟨0, _⟩ => rfl
    | ⟨1, _⟩ => rfl
    | ⟨2, _⟩ => rfl

theorem ref_kvout_spec (i : S16896x512.Idx) : val_main_v34 (F := Ideal) x h gn w i = specKV x h gn w i := by
  have hi0 : (i 0).val < 16896 := (i 0).isLt
  have hi1 : (i 1).val < 512 := (i 1).isLt
  rw [val_main_v34_apply]
  unfold val_main_v33
  refine front_pad (W := 512) _ _ _ _ (fun z => no_count _ val_main_c_3_apply z) _ (rb (i 0)) (rp (i 0)) ⟨(i 1).val, hi1⟩ ?_ ?_ ?_ _ (fun hp => ?_) (fun q hq => ?_)
  · show ((i 0).val * 512 + (i 1).val) / 2162688 = (i 0).val / 4224; omega
  · show ((i 0).val * 512 + (i 1).val) / 512 % 4224 = (i 0).val % 4224; omega
  · show ((i 0).val * 512 + (i 1).val) % 512 = (i 1).val; omega
  ·
    unfold specKV
    exact projAt_pad _ _ _ _ _ _ _ hp
  ·
    unfold specKV
    rw [← hq]
    exact ref_kv x h gn w _ q ⟨(i 1).val, hi1⟩ _ rfl rfl rfl

theorem ref_g_spec (i : S16896x1024.Idx) : val_main_v36 (F := Ideal) x h gn w i = specG x h gn w i := by
  have hi0 : (i 0).val < 16896 := (i 0).isLt
  have hi1 : (i 1).val < 1024 := (i 1).isLt
  rw [val_main_v36_apply]
  unfold val_main_v35
  refine front_pad (W := 1024) _ _ _ _ (fun z => no_count _ val_main_c_4_apply z) _ (rb (i 0)) (rp (i 0)) ⟨(i 1).val, hi1⟩ ?_ ?_ ?_ _ (fun hp => ?_) (fun q hq => ?_)
  · show ((i 0).val * 1024 + (i 1).val) / 4325376 = (i 0).val / 4224; omega
  · show ((i 0).val * 1024 + (i 1).val) / 1024 % 4224 = (i 0).val % 4224; omega
  · show ((i 0).val * 1024 + (i 1).val) % 1024 = (i 1).val; omega
  ·
    unfold specG
    exact projAt_pad _ _ _ _ _ _ _ hp
  ·
    unfold specG
    rw [val_main_v23_apply, ← hq, ← ref_proj]
    refine congrArg _ (funext fun a => Fin.ext ?_)
    match a with
    | ⟨0, _⟩ => rfl
    | ⟨1, _⟩ => rfl
    | ⟨2, _⟩ => rfl

theorem ref_kvbout_spec (i : S16896x1024.Idx) : val_main_v40 (F := Ideal) x h gn w i = specKVB x h gn w i := by
  have hi0 : (i 0).val < 16896 := (i 0).isLt
  have hi1 : (i 1).val < 1024 := (i 1).isLt
  rw [val_main_v40_apply]
  show val_main_v39 (F := Ideal) x h gn w i = _
  rw [val_main_v39_apply]
  unfold val_main_v38
  refine front_pad (W := 1024) _ _ _ _ (fun z => no_count _ val_main_c_5_apply z) _ (rb (i 0)) (rp (i 0)) ⟨(i 1).val, hi1⟩ ?_ ?_ ?_ _ (fun hp => ?_) (fun q hq => ?_)
  · show ((i 0).val * 1024 + (i 1).val) / 4325376 = (i 0).val / 4224; omega
  · show ((i 0).val * 1024 + (i 1).val) / 1024 % 4224 = (i 0).val % 4224; omega
  · show ((i 0).val * 1024 + (i 1).val) % 1024 = (i 1).val; omega
  ·
    unfold specKVB
    split
    · exact projAt_pad _ _ _ _ _ _ _ hp
    · exact projAt_pad _ _ _ _ _ _ _ hp
  ·
    unfold specKVB val_main_v37
    rw [← hq]
    by_cases hC : (i 1).val < 512
    · rw [dif_pos hC]
      refine (concatenate_pair_apply_left (t := S4x4112x1024) (2 : Fin 3) _ _ concatenates_S4x4112x512_S4x4112x512_S4x4112x1024_d2 _ rfl
        (ix3 (rb (i 0)) q (⟨(i 1).val, hC⟩ : Fin 512)) ?_).trans ?_
      · intro a
        match a with
        | ⟨0, _⟩ => rfl
        | ⟨1, _⟩ => rfl
        | ⟨2, _⟩ => rfl
      · exact ref_kv x h gn w _ q ⟨(i 1).val, hC⟩ _ rfl rfl rfl
    · rw [dif_neg hC]
      refine (concatenate_pair_apply_right (t := S4x4112x1024) (2 : Fin 3) _ _ concatenates_S4x4112x512_S4x4112x512_S4x4112x1024_d2 _ rfl rfl
        (ix3 (rb (i 0)) q (⟨(i 1).val - 512, by omega⟩ : Fin 512)) ?_ ?_).trans ?_
      · intro a ha
        match a with
        | ⟨0, _⟩ => rfl
        | ⟨1, _⟩ => rfl
        | ⟨2, _⟩ => exact absurd rfl ha
      · show ((i 1).val - 512) + 512 = (i 1).val; omega
      · exact ref_kvb x h gn w _ q ⟨(i 1).val - 512, by omega⟩

end Proj

end
-- ==== Proof.AWhole.lean ====
module

public import proofs.«01_k».proof.Defs
public import proofs.«01_k».proof.Proof.AKernel
public import proofs.«01_k».proof.Proof.ARef
public import proofs.«01_k».proof.Proof.Gen.AttnProjRefIdeal.Run

@[expose] public section

noncomputable section

/-! The attention projections' two programs end with equal arrays. -/

namespace Proj

open Idealize.ShloMosaic Idealize.ShloMosaic.ValueIdx Idealize.SL.Sem

theorem attn_proj_whole : Cert.algebraic_AttnProjIdeal_AttnProjRefIdeal := by
  intro m g m' g' _ hagree
  refine ⟨fun c => (Cert.AttnProjIdeal.Gen.dats m 0 c).arrAt 6 Cert.AttnProjIdeal.cfg0.N, fun c => (Cert.AttnProjIdeal.Gen.dats m 0 c).arrAt 7 Cert.AttnProjIdeal.cfg0.N,
    fun c => (Cert.AttnProjIdeal.Gen.dats m 0 c).arrAt 8 Cert.AttnProjIdeal.cfg0.N, fun c => (Cert.AttnProjIdeal.Gen.dats m 0 c).arrAt 9 Cert.AttnProjIdeal.cfg0.N,
    Cert.AttnProjIdeal.Value.run_blocks m g, (θ_run _ _ _).mono (fun r h c => ⟨?_, ?_, ?_, ?_, (h c).2.2.2.2⟩) (Cert.AttnProjRefIdeal.Value.run m' g')⟩
  · obtain ⟨a0, a1, a2, a3⟩ := hagree c
    rw [(h c).1, Cert.AttnProjRefIdeal.Read.val_main_v32_eq, a0, a1, a2, a3]
    exact (funext (ref_q_spec _ _ _ _)).trans (arr_6 m c).symm
  · obtain ⟨a0, a1, a2, a3⟩ := hagree c
    rw [(h c).2.1, Cert.AttnProjRefIdeal.Read.val_main_v34_eq, a0, a1, a2, a3]
    exact (funext (ref_kvout_spec _ _ _ _)).trans (arr_7 m c).symm
  · obtain ⟨a0, a1, a2, a3⟩ := hagree c
    rw [(h c).2.2.1, Cert.AttnProjRefIdeal.Read.val_main_v36_eq, a0, a1, a2, a3]
    exact (funext (ref_g_spec _ _ _ _)).trans (arr_8 m c).symm
  · obtain ⟨a0, a1, a2, a3⟩ := hagree c
    rw [(h c).2.2.2.1, Cert.AttnProjRefIdeal.Read.val_main_v40_eq, a0, a1, a2, a3]
    exact (funext (ref_kvbout_spec _ _ _ _)).trans (arr_9 m c).symm

end Proj

end
-- ==== Proof.WSpec.lean ====
module

public import proofs.«01_k».proof.Proof.Norm

@[expose] public section

noncomputable section

/-! The time mixing's norm, token shift and projections. -/

namespace ProjW

open Proj Idealize.ShloMosaic Idealize.ShloMosaic.ValueIdx

/-- A row moved towards the row before it. -/
def mixed (x p mu : Fin 1024 → EReal) (d : Fin 1024) : EReal := x d + (p d - x d) * mu d

/-- The sigmoid as a quotient. -/
def sg (z : EReal) : EReal := Ideal.div (Ideal.ofBits .f32 0x3F800000#32) (Ideal.ofBits .f32 0x3F800000#32 + Ideal.exp (-z))

theorem sg_sub (z : EReal) :
    Ideal.div (Ideal.ofBits .f32 0x3F800000#32) (Ideal.ofBits .f32 0x3F800000#32 + Ideal.exp (Ideal.ofBits .f32 0x00000000#32 - z)) = sg z := by
  unfold sg
  rw [Ideal.ofBits_zero_f32, sub_eq_add_neg, zero_add]

/-- A row times a matrix. -/
def lin {N : ℕ} (x : Fin 1024 → EReal) (w : Fin 1024 → Fin N → EReal) (e : Fin N) : EReal := ∑ d, x d * w d e

/-- The logarithm of the decay. -/
def logd (x : Fin 1024 → EReal) (w0 : Fin 1024 → EReal) (w1 : Fin 1024 → Fin 64 → EReal) (w2 : Fin 64 → Fin 1024 → EReal) (e : Fin 1024) : EReal :=
  Ideal.ofBits .f32 0xBF1B4598#32 * sg (w0 e + ∑ j, Ideal.tanh (lin x w1 j) * w2 j e)

/-- The in-context rate. -/
def rate (x : Fin 1024 → EReal) (w0 : Fin 1024 → EReal) (w1 : Fin 1024 → Fin 64 → EReal) (w2 : Fin 64 → Fin 1024 → EReal) (e : Fin 1024) : EReal :=
  sg (w0 e + ∑ j, lin x w1 j * w2 j e)

section
variable (h : FVec Ideal ⟨3, ![4, 4224, 1024]⟩ .f32) (gn : FVec Ideal ⟨2, ![2, 1024]⟩ .f32)

/-- The normed row at place `n` of batch entry `b`. -/
def xnAt (b : Fin 4) (n : ℕ) (d : Fin 1024) : EReal :=
  if hn : n < 4224 then nrm (fun k => h (ix3 b (⟨n, hn⟩ : Fin 4224) k)) (fun k => gn (ix2 (1 : Fin 2) k)) d else 0

/-- The row before it. -/
def prevAt (b : Fin 4) (n : ℕ) (d : Fin 1024) : EReal := if n = 0 then 0 else xnAt h gn b (n - 1) d

variable (mu : FVec Ideal ⟨3, ![1, 6, 1024]⟩ .f32)

/-- Mix `c` at place `n`. -/
def mixAt (c : Fin 6) (b : Fin 4) (n : ℕ) (d : Fin 1024) : EReal :=
  mixed (xnAt h gn b n) (prevAt h gn b n) (fun k => mu (ix3 (0 : Fin 1) c k)) d

/-- The projections of the first four mixes. -/
def specW (w : FVec Ideal ⟨4, ![1, 4, 1024, 1024]⟩ .f32) (c : Fin 4) (i : (⟨2, ![16896, 1024]⟩ : Shape).Idx) : EReal :=
  lin (mixAt h gn mu ⟨c.val, by omega⟩ (rb (i 0)) (rp (i 0)).val) (fun d e => w (ix4 (0 : Fin 1) c d e)) (i 1)

variable (w0 : FVec Ideal ⟨2, ![1, 1024]⟩ .f32) (w1 : FVec Ideal ⟨3, ![1, 1024, 64]⟩ .f32) (w2 : FVec Ideal ⟨3, ![1, 64, 1024]⟩ .f32)

def specD (i : (⟨2, ![16896, 1024]⟩ : Shape).Idx) : EReal :=
  logd (mixAt h gn mu 4 (rb (i 0)) (rp (i 0)).val) (fun e => w0 (ix2 (0 : Fin 1) e)) (fun d j => w1 (ix3 (0 : Fin 1) d j)) (fun j e => w2 (ix3 (0 : Fin 1) j e)) (i 1)

def specA (i : (⟨2, ![16896, 1024]⟩ : Shape).Idx) : EReal :=
  rate (mixAt h gn mu 5 (rb (i 0)) (rp (i 0)).val) (fun e => w0 (ix2 (0 : Fin 1) e)) (fun d j => w1 (ix3 (0 : Fin 1) d j)) (fun j e => w2 (ix3 (0 : Fin 1) j e)) (i 1)

/-- The last row of each batch entry. -/
def specX (i : (⟨3, ![4, 1, 1024]⟩ : Shape).Idx) : EReal := xnAt h gn (i 0) 4223 (i 2)

end

end ProjW

end
-- ==== Proof.WPay.lean ====
module

public import proofs.«01_k».proof.Proof.WSpec
public import proofs.«01_k».proof.Proof.Gen.RwkvProjIdeal.Frame
public import Idealize.ShloMosaic.Lib.WordCmp

@[expose] public section

noncomputable section

/-! What the body of the time mixing's projections computes from the blocks it reads. -/

namespace ProjW

open Proj Cert.RwkvProjIdeal Cert.RwkvProjIdeal.Gen Idealize.ShloMosaic Idealize.ShloMosaic.TcCoe Idealize.ShloMosaic.ValueIdx Idealize.SL.Sem

/-- A tile's normed rows. -/
def tileX (v0 : Vec Ideal S528x1024 .f32) (v2 : Vec Ideal S1x1024 .f32) (r : Fin 528) : Fin 1024 → EReal :=
  nrm (fun k => v0 (ix2 r k)) (fun k => v2 (ix2 (0 : Fin 1) k))

/-- The rows before them: the first row follows the carried row. -/
def tileP (v0 : Vec Ideal S528x1024 .f32) (v2 : Vec Ideal S1x1024 .f32) (v23 : Vec Ideal S1x1024 .f32) (r : Fin 528) (d : Fin 1024) : EReal :=
  if r.val = 0 then v23 (ix2 (0 : Fin 1) d) else tileX v0 v2 ⟨r.val - 1, by omega⟩ d

theorem pay2_apply (v0 : Vec Ideal S528x1024 .f32) (v2 : Vec Ideal S1x1024 .f32) (r : Fin 528) (d : Fin 1024) :
    k0_pay2 v0 v2 (ix2 r d) = tileX v0 v2 r d := by
  unfold k0_pay2
  dsimp only
  rw [cast_same v0, cast_same v2]
  exact tile_norm (R := 528) _ v2 _ _ _ _ _ _ r d

theorem pay4_apply (v0 : Vec Ideal S528x1024 .f32) (v2 : Vec Ideal S1x1024 .f32) (v23 : Vec Ideal S1x1024 .f32) (r : Fin 528) (d : Fin 1024) :
    k0_pay4 v0 v2 v23 (ix2 r d) = tileP v0 v2 v23 r d := by
  have hr := r.isLt
  unfold k0_pay4 tileP
  dsimp only
  rw [cast_same v23]
  show Scalar.select (broadcastTo S528x1024 _ _ (ix2 r d)) (broadcastTo S528x1024 v23 _ (ix2 r d)) (dynamicRotate 0 1#32 none (k0_pay2 v0 v2) rotates_S528x1024_d0 (ix2 r d)) = _
  rw [broadcastTo_apply v23 _ _ (ix2 (0 : Fin 1) d) (by intro a; match a with | ⟨0, _⟩ => rfl | ⟨1, _⟩ => rfl),
    broadcastTo_apply _ _ _ (ix2 r (0 : Fin 1)) (by intro a; match a with | ⟨0, _⟩ => rfl | ⟨1, _⟩ => rfl), cast_same]
  have e : cmpi CmpIPredicate.eq (iota Kind.tc S528x1 32 [0] iota_S528x1_d0_w32) (broadcast S528x1 0#32) (ix2 r (0 : Fin 1)) = IntOp.cmpi .eq (BitVec.ofNat 32 r.val) (BitVec.ofNat 32 0) := by
    show IntOp.cmpi .eq (iota Kind.tc S528x1 32 [0] iota_S528x1_d0_w32 (ix2 r (0 : Fin 1))) 0#32 = _
    rw [iota_single_apply]
  rw [e]
  rw [WordCmp.cmpi_eq_ofNat (by omega) (by omega), WordCmp.select_ofBool]
  simp only [decide_eq_true_eq]
  by_cases h0 : r.val = 0
  · rw [if_pos h0, if_pos h0]
  · rw [if_neg h0, if_neg h0, dynamicRotate_apply _ _ _ _ _ (ix2 (⟨r.val - 1, by omega⟩ : Fin 528) d) (by
      intro b
      match b with
      | ⟨0, _⟩ => show r.val - 1 = (r.val + 528 - 1 % 528) % 528; omega
      | ⟨1, _⟩ => rfl), pay2_apply]

theorem last_row (v0 : Vec Ideal S528x1024 .f32) (v2 : Vec Ideal S1x1024 .f32) (d : Fin 1024) :
    extractStridedSlice S1x1024 ![527, 0] (k0_pay2 v0 v2) slices_S528x1024_o527_0_S1x1024 (ix2 (0 : Fin 1) d) = tileX v0 v2 527 d := by
  rw [extractStridedSlice_apply _ _ _ _ (ix2 (527 : Fin 528) d) (by
    intro a
    match a with
    | ⟨0, _⟩ => rfl
    | ⟨1, _⟩ => exact (Nat.zero_add _).symm), pay2_apply]

theorem pay5_apply (v0 : Vec Ideal S528x1024 .f32) (v2 : Vec Ideal S1x1024 .f32) (d : Fin 1024) : k0_pay5 v0 v2 (ix2 (0 : Fin 1) d) = tileX v0 v2 527 d := by
  unfold k0_pay5
  rw [cast_same, last_row]

theorem pay6_apply (v0 : Vec Ideal S528x1024 .f32) (v2 : Vec Ideal S1x1024 .f32) (d : Fin 1024) :
    k0_pay6 v0 v2 (ix3 (0 : Fin 1) (0 : Fin 1) d) = tileX v0 v2 527 d := by
  unfold k0_pay6
  rw [shapeCast_apply _ _ _ (ix2 (0 : Fin 1) d) (by rw [Shape.rowMajor_val_three, Shape.rowMajor_val_two]; rfl), last_row]

theorem pay3_apply (v : Vec Ideal S1x1x1024 .f32) (d : Fin 1024) : (k0_pay3 v (ix2 (0 : Fin 1) d) : EReal) = v (ix3 (0 : Fin 1) (0 : Fin 1) d) := by
  unfold k0_pay3
  rw [cast_same, shapeCast_apply _ _ _ (ix3 (0 : Fin 1) (0 : Fin 1) d) (by rw [Shape.rowMajor_val_three, Shape.rowMajor_val_two]; rfl)]

/-- A mix's row. -/
theorem mix_row (x dx : FVec Ideal S528x1024 .f32) (mu : FVec Ideal S1x1024 .f32) (r : Fin 528) (d : Fin 1024) :
    (truncf .bf16 (addf x (mulf dx (broadcastTo S528x1024 (shapeCast S1x1024 mu shapeCasts_S1x1024_S1x1024) broadcasts_S1x1024_S528x1024))) bitsLt_bf16_f32 : FVec Ideal S528x1024 .bf16) (ix2 r d)
      = (x (ix2 r d) + dx (ix2 r d) * mu (ix2 (0 : Fin 1) d) : EReal) := by
  rw [cast_same]
  show (x (ix2 r d) + dx (ix2 r d) * broadcastTo S528x1024 mu broadcasts_S1x1024_S528x1024 (ix2 r d) : EReal) = _
  rw [broadcastTo_apply mu _ _ (ix2 (0 : Fin 1) d) (by intro a; match a with | ⟨0, _⟩ => rfl | ⟨1, _⟩ => rfl)]

/-- A mix times its matrix. -/
theorem mix_dot (x p : FVec Ideal S528x1024 .f32) (mu : FVec Ideal S1x1024 .f32) (w : FVec Ideal S1x1024x1024 .bf16) (r : Fin 528) (e : Fin 1024) :
    k0_pay8 x p mu w (ix2 r e)
      = lin (mixed (fun k => x (ix2 r k)) (fun k => p (ix2 r k)) (fun k => mu (ix2 (0 : Fin 1) k))) (fun d e => w (ix3 (0 : Fin 1) d e)) e := by
  unfold k0_pay8 k0_pay7
  dsimp only
  refine (tile_dot (R := 528) (K := 1024) (N := 1024) _ _ r e).trans (Finset.sum_congr rfl fun d _ => ?_)
  rw [mix_row, shapeCast_apply _ _ _ (ix3 (0 : Fin 1) d e) (by rw [Shape.rowMajor_val_three, Shape.rowMajor_val_two]; show (0 * 1024 + d.val) * 1024 + e.val = d.val * 1024 + e.val; omega)]
  rfl

/-- A mix times a thin matrix. -/
theorem thin_dot (x p : FVec Ideal S528x1024 .f32) (mu : FVec Ideal S1x1024 .f32) (w : FVec Ideal S1024x64 .bf16) (r : Fin 528) (j : Fin 64) :
    (matmul dot_S528x1024_S1024x64_S528x64_1_0_0_1_n_n none
      (truncf .bf16 (addf x (mulf (subf p x) (broadcastTo S528x1024 (shapeCast S1x1024 mu shapeCasts_S1x1024_S1x1024) broadcasts_S1x1024_S528x1024))) bitsLt_bf16_f32 : FVec Ideal S528x1024 .bf16)
      (shapeCast S1024x64 w shapeCasts_S1024x64_S1024x64) (constant S528x64 .f32 0x00000000#32) : FVec Ideal S528x64 .f32) (ix2 r j)
      = lin (mixed (fun k => x (ix2 r k)) (fun k => p (ix2 r k)) (fun k => mu (ix2 (0 : Fin 1) k))) (fun d j => w (ix2 d j)) j := by
  refine (tile_dot (R := 528) (K := 1024) (N := 64) _ _ r j).trans (Finset.sum_congr rfl fun d _ => ?_)
  rw [mix_row, cast_same]
  rfl

theorem pay12_apply (x p : FVec Ideal S528x1024 .f32) (mu : FVec Ideal S1x1024 .f32) (w1 : FVec Ideal S1024x64 .bf16) (w0 : FVec Ideal S1x1024 .f32) (w2 : FVec Ideal S64x1024 .bf16)
    (r : Fin 528) (e : Fin 1024) :
    k0_pay12 x (k0_pay7 x p) mu w1 w0 w2 (ix2 r e)
      = logd (mixed (fun k => x (ix2 r k)) (fun k => p (ix2 r k)) (fun k => mu (ix2 (0 : Fin 1) k))) (fun e => w0 (ix2 (0 : Fin 1) e)) (fun d j => w1 (ix2 d j)) (fun j e => w2 (ix2 j e)) e := by
  unfold k0_pay12 k0_pay7 logd
  dsimp only
  rw [← sg_sub, cast_same w0, cast_same w2]
  refine congrArg (fun z : EReal => Ideal.ofBits .f32 0xBF1B4598#32 * Ideal.div (Ideal.ofBits .f32 0x3F800000#32) (Ideal.ofBits .f32 0x3F800000#32 + Ideal.exp (Ideal.ofBits .f32 0x00000000#32 - z))) ?_
  refine congrArg₂ (fun a b : EReal => a + b) (broadcastTo_apply w0 _ _ (ix2 (0 : Fin 1) e) (by intro a; match a with | ⟨0, _⟩ => rfl | ⟨1, _⟩ => rfl)) ?_
  refine (tile_dot (R := 528) (K := 64) (N := 1024) _ _ r e).trans (Finset.sum_congr rfl fun j _ => ?_)
  refine congrArg (fun z : EReal => Ideal.tanh z * w2 (ix2 j e)) ?_
  exact thin_dot x p mu w1 r j

theorem pay1_apply (x p : FVec Ideal S528x1024 .f32) (mu : FVec Ideal S1x1024 .f32) (w1 : FVec Ideal S1024x64 .bf16) (w0 : FVec Ideal S1x1024 .f32) (w2 : FVec Ideal S64x1024 .bf16)
    (r : Fin 528) (e : Fin 1024) :
    k0_pay1 x (k0_pay7 x p) mu w1 w0 w2 (ix2 r e)
      = rate (mixed (fun k => x (ix2 r k)) (fun k => p (ix2 r k)) (fun k => mu (ix2 (0 : Fin 1) k))) (fun e => w0 (ix2 (0 : Fin 1) e)) (fun d j => w1 (ix2 d j)) (fun j e => w2 (ix2 j e)) e := by
  unfold k0_pay1 k0_pay7 rate
  dsimp only
  rw [← sg_sub, cast_same w0, cast_same w2]
  refine congrArg (fun z : EReal => Ideal.div (Ideal.ofBits .f32 0x3F800000#32) (Ideal.ofBits .f32 0x3F800000#32 + Ideal.exp (Ideal.ofBits .f32 0x00000000#32 - z))) ?_
  refine congrArg₂ (fun a b : EReal => a + b) (broadcastTo_apply w0 _ _ (ix2 (0 : Fin 1) e) (by intro a; match a with | ⟨0, _⟩ => rfl | ⟨1, _⟩ => rfl)) ?_
  refine (tile_dot (R := 528) (K := 64) (N := 1024) _ _ r e).trans (Finset.sum_congr rfl fun j _ => ?_)
  refine congrArg (fun z : EReal => z * w2 (ix2 j e)) ?_
  exact thin_dot x p mu w1 r j

end ProjW

end
-- ==== Proof.WOut.lean ====
module

public import proofs.«01_k».proof.Proof.WPay
public import proofs.«01_k».proof.Proof.Block

@[expose] public section

noncomputable section

/-! What one point of the time mixing's projections leaves, as the body's functions of the blocks. -/

namespace ProjW

open Proj Cert.RwkvProjIdeal Cert.RwkvProjIdeal.Gen Idealize.ShloMosaic Idealize.ShloMosaic.TcCoe Idealize.ShloMosaic.ValueIdx Idealize.SL.Sem

theorem zeros3 : (![0, 0, 0] : Fin 3 → ℕ) = fun _ => 0 := by
  funext a
  match a with
  | ⟨0, _⟩ => rfl
  | ⟨1, _⟩ => rfl
  | ⟨2, _⟩ => rfl

/-- A load of a whole block is what the block holds. -/
theorem rdw {S : Shape} {e : EltTy} {κ : Kind} {sp : Space} (m : Memref sig κ sp S e) (hm : m.IsWhole) (x : S.Idx → Elt Ideal e) {off : Fin S.rank → ℕ} (h0 : off = fun _ => 0)
    (inb : ∀ k, off k + S.size k ≤ S.size k) :
    View.readAt (Elt Ideal) m.view (Rect.unit (s := S) off S.size inb).toLoadRect (hm.unread x) = x := by
  refine (View.readAt_eq_ld m.view (hm.unread x) (Rect.unit (s := S) off S.size inb)).trans ?_
  rw [Memref.IsWhole.read_unread]
  exact View.ld_unit_zero h0 inb x

def muRow (x : Vec Ideal S6x1024 .f32) (c : Fin 6) : Vec Ideal S1x1024 .f32 := fun i => x (ix2 c (i 1))

def wMat (x : Vec Ideal S4x1024x1024 .bf16) (c : Fin 4) : Vec Ideal S1x1024x1024 .bf16 := fun i => x (ix3 c (i 1) (i 2))

theorem rd_mu (m : Memref sig .tc .vmem S6x1024 .f32) (hm : m.IsWhole) (x : Vec Ideal S6x1024 .f32) (c : Fin 6) (o : ℕ) (ho : c.val = o)
    (inb : ∀ k, (![o, 0] : Fin 2 → ℕ) k + S1x1024.size k ≤ S6x1024.size k) :
    View.readAt (Elt Ideal) m.view (Rect.unit (s := S6x1024) ![o, 0] S1x1024.size inb).toLoadRect (hm.unread x) = muRow x c := by
  funext i
  have hi : (i 0).val < 1 := (i 0).isLt
  have ei : i = ix2 (0 : Fin 1) (i 1) := by
    funext a; apply Fin.ext
    match a with
    | ⟨0, _⟩ => show (i 0).val = 0; omega
    | ⟨1, _⟩ => rfl
  rw [ei]
  exact Attn.rd2 m hm x o 0 inb 0 (i 1) c (i 1) ho (Nat.zero_add _).symm

theorem rd_w (m : Memref sig .tc .vmem S4x1024x1024 .bf16) (hm : m.IsWhole) (x : Vec Ideal S4x1024x1024 .bf16) (c : Fin 4) (o : ℕ) (ho : c.val = o)
    (inb : ∀ k, (![o, 0, 0] : Fin 3 → ℕ) k + S1x1024x1024.size k ≤ S4x1024x1024.size k) :
    View.readAt (Elt Ideal) m.view (Rect.unit (s := S4x1024x1024) ![o, 0, 0] S1x1024x1024.size inb).toLoadRect (hm.unread x) = wMat x c := by
  funext i
  have hi : (i 0).val < 1 := (i 0).isLt
  have ei : i = ix3 (0 : Fin 1) (i 1) (i 2) := by
    funext a; apply Fin.ext
    match a with
    | ⟨0, _⟩ => show (i 0).val = 0; omega
    | ⟨1, _⟩ => rfl
    | ⟨2, _⟩ => rfl
  rw [ei]
  exact Attn.rd3 m hm x _ inb (i 1) (i 2) c (i 1) (i 2) ho (Nat.zero_add _).symm (Nat.zero_add _).symm

theorem eA11 (c : Dev nD) (i : grid0.Coords) (arg2 : Memref sig .tc .vmem S528x1024 .f32) (harg2 : arg2.IsWhole) (arg3 : Memref sig .tc .vmem S1x1x1024 .f32) (harg3 : arg3.IsWhole) (arg4 : Memref sig .tc .vmem S1x1024 .f32) (harg4 : arg4.IsWhole) (arg5 : Memref sig .tc .vmem S6x1024 .f32) (harg5 : arg5.IsWhole) (arg6 : Memref sig .tc .vmem S4x1024x1024 .bf16) (harg6 : arg6.IsWhole) (arg7 : Memref sig .tc .vmem S1x1024 .f32) (harg7 : arg7.IsWhole) (arg8 : Memref sig .tc .vmem S1024x64 .bf16) (harg8 : arg8.IsWhole) (arg9 : Memref sig .tc .vmem S64x1024 .bf16) (harg9 : arg9.IsWhole) (arg10 : Memref sig .tc .vmem S1x1024 .f32) (harg10 : arg10.IsWhole) (arg11 : Memref sig .tc .vmem S1024x64 .bf16) (harg11 : arg11.IsWhole) (arg12 : Memref sig .tc .vmem S64x1024 .bf16) (harg12 : arg12.IsWhole) (arg13 : Memref sig .tc .vmem S528x1024 .f32) (harg13 : arg13.IsWhole) (arg14 : Memref sig .tc .vmem S528x1024 .f32) (harg14 : arg14.IsWhole) (arg15 : Memref sig .tc .vmem S528x1024 .f32) (harg15 : arg15.IsWhole) (arg16 : Memref sig .tc .vmem S528x1024 .f32) (harg16 : arg16.IsWhole) (arg17 : Memref sig .tc .vmem S528x1024 .f32) (harg17 : arg17.IsWhole) (arg18 : Memref sig .tc .vmem S528x1024 .f32) (harg18 : arg18.IsWhole) (arg19 : Memref sig .tc .vmem S1x1x1024 .f32) (harg19 : arg19.IsWhole) (arg20 : Memref sig .tc .vmem S1x1024 .f32) (harg20 : arg20.IsWhole) (hc0 : cond0_0 i) (x0 : Vec Ideal S528x1024 .f32) (x1 : Vec Ideal S1x1x1024 .f32) (x2 : Vec Ideal S1x1024 .f32) (x3 : Vec Ideal S6x1024 .f32) (x4 : Vec Ideal S4x1024x1024 .bf16) (x5 : Vec Ideal S1x1024 .f32) (x6 : Vec Ideal S1024x64 .bf16) (x7 : Vec Ideal S64x1024 .bf16) (x8 : Vec Ideal S1x1024 .f32) (x9 : Vec Ideal S1024x64 .bf16) (x10 : Vec Ideal S64x1024 .bf16) :
    out0_A_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 = k0_pay8 (k0_pay2 x0 x2) (k0_pay4 x0 x2 (k0_pay3 x1)) (muRow x3 0) (wMat x4 0) := by
  unfold out0_A_11
  rw [View.read_writes_eq_canon _ _ _ (cover0_A_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10)]
  unfold kernelRun0_A
  dsimp only
  rw [View.canon_unit_zero zeros2]
  simp only [kernelRun0_A.sl.r_1, kernelRun0_A.sl.r]
  unfold kernelRun0_A.sl.v23 kernelRun0_A.sl.HS0_1
  rw [View.readCov_unit_zero _ zeros2]
  rw [rdw arg2 harg2 x0 zeros2, rdw arg4 harg4 x2 zeros2, rdw arg3 harg3 x1 zeros3, rd_mu arg5 harg5 x3 0 0 rfl, rd_w arg6 harg6 x4 0 0 rfl]

theorem eA12 (c : Dev nD) (i : grid0.Coords) (arg2 : Memref sig .tc .vmem S528x1024 .f32) (harg2 : arg2.IsWhole) (arg3 : Memref sig .tc .vmem S1x1x1024 .f32) (harg3 : arg3.IsWhole) (arg4 : Memref sig .tc .vmem S1x1024 .f32) (harg4 : arg4.IsWhole) (arg5 : Memref sig .tc .vmem S6x1024 .f32) (harg5 : arg5.IsWhole) (arg6 : Memref sig .tc .vmem S4x1024x1024 .bf16) (harg6 : arg6.IsWhole) (arg7 : Memref sig .tc .vmem S1x1024 .f32) (harg7 : arg7.IsWhole) (arg8 : Memref sig .tc .vmem S1024x64 .bf16) (harg8 : arg8.IsWhole) (arg9 : Memref sig .tc .vmem S64x1024 .bf16) (harg9 : arg9.IsWhole) (arg10 : Memref sig .tc .vmem S1x1024 .f32) (harg10 : arg10.IsWhole) (arg11 : Memref sig .tc .vmem S1024x64 .bf16) (harg11 : arg11.IsWhole) (arg12 : Memref sig .tc .vmem S64x1024 .bf16) (harg12 : arg12.IsWhole) (arg13 : Memref sig .tc .vmem S528x1024 .f32) (harg13 : arg13.IsWhole) (arg14 : Memref sig .tc .vmem S528x1024 .f32) (harg14 : arg14.IsWhole) (arg15 : Memref sig .tc .vmem S528x1024 .f32) (harg15 : arg15.IsWhole) (arg16 : Memref sig .tc .vmem S528x1024 .f32) (harg16 : arg16.IsWhole) (arg17 : Memref sig .tc .vmem S528x1024 .f32) (harg17 : arg17.IsWhole) (arg18 : Memref sig .tc .vmem S528x1024 .f32) (harg18 : arg18.IsWhole) (arg19 : Memref sig .tc .vmem S1x1x1024 .f32) (harg19 : arg19.IsWhole) (arg20 : Memref sig .tc .vmem S1x1024 .f32) (harg20 : arg20.IsWhole) (hc0 : cond0_0 i) (x0 : Vec Ideal S528x1024 .f32) (x1 : Vec Ideal S1x1x1024 .f32) (x2 : Vec Ideal S1x1024 .f32) (x3 : Vec Ideal S6x1024 .f32) (x4 : Vec Ideal S4x1024x1024 .bf16) (x5 : Vec Ideal S1x1024 .f32) (x6 : Vec Ideal S1024x64 .bf16) (x7 : Vec Ideal S64x1024 .bf16) (x8 : Vec Ideal S1x1024 .f32) (x9 : Vec Ideal S1024x64 .bf16) (x10 : Vec Ideal S64x1024 .bf16) :
    out0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 = k0_pay9 (k0_pay2 x0 x2) (k0_pay4 x0 x2 (k0_pay3 x1)) (muRow x3 1) (wMat x4 1) := by
  unfold out0_A_12
  rw [View.read_writes_eq_canon _ _ _ (cover0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10)]
  unfold kernelRun0_A
  dsimp only
  rw [View.canon_unit_zero zeros2]
  simp only [kernelRun0_A.sl.r_1, kernelRun0_A.sl.r]
  unfold kernelRun0_A.sl.v23 kernelRun0_A.sl.HS0_1
  rw [View.readCov_unit_zero _ zeros2]
  rw [rdw arg2 harg2 x0 zeros2, rdw arg4 harg4 x2 zeros2, rdw arg3 harg3 x1 zeros3, rd_mu arg5 harg5 x3 1 1 rfl, rd_w arg6 harg6 x4 1 1 rfl]

theorem eA13 (c : Dev nD) (i : grid0.Coords) (arg2 : Memref sig .tc .vmem S528x1024 .f32) (harg2 : arg2.IsWhole) (arg3 : Memref sig .tc .vmem S1x1x1024 .f32) (harg3 : arg3.IsWhole) (arg4 : Memref sig .tc .vmem S1x1024 .f32) (harg4 : arg4.IsWhole) (arg5 : Memref sig .tc .vmem S6x1024 .f32) (harg5 : arg5.IsWhole) (arg6 : Memref sig .tc .vmem S4x1024x1024 .bf16) (harg6 : arg6.IsWhole) (arg7 : Memref sig .tc .vmem S1x1024 .f32) (harg7 : arg7.IsWhole) (arg8 : Memref sig .tc .vmem S1024x64 .bf16) (harg8 : arg8.IsWhole) (arg9 : Memref sig .tc .vmem S64x1024 .bf16) (harg9 : arg9.IsWhole) (arg10 : Memref sig .tc .vmem S1x1024 .f32) (harg10 : arg10.IsWhole) (arg11 : Memref sig .tc .vmem S1024x64 .bf16) (harg11 : arg11.IsWhole) (arg12 : Memref sig .tc .vmem S64x1024 .bf16) (harg12 : arg12.IsWhole) (arg13 : Memref sig .tc .vmem S528x1024 .f32) (harg13 : arg13.IsWhole) (arg14 : Memref sig .tc .vmem S528x1024 .f32) (harg14 : arg14.IsWhole) (arg15 : Memref sig .tc .vmem S528x1024 .f32) (harg15 : arg15.IsWhole) (arg16 : Memref sig .tc .vmem S528x1024 .f32) (harg16 : arg16.IsWhole) (arg17 : Memref sig .tc .vmem S528x1024 .f32) (harg17 : arg17.IsWhole) (arg18 : Memref sig .tc .vmem S528x1024 .f32) (harg18 : arg18.IsWhole) (arg19 : Memref sig .tc .vmem S1x1x1024 .f32) (harg19 : arg19.IsWhole) (arg20 : Memref sig .tc .vmem S1x1024 .f32) (harg20 : arg20.IsWhole) (hc0 : cond0_0 i) (x0 : Vec Ideal S528x1024 .f32) (x1 : Vec Ideal S1x1x1024 .f32) (x2 : Vec Ideal S1x1024 .f32) (x3 : Vec Ideal S6x1024 .f32) (x4 : Vec Ideal S4x1024x1024 .bf16) (x5 : Vec Ideal S1x1024 .f32) (x6 : Vec Ideal S1024x64 .bf16) (x7 : Vec Ideal S64x1024 .bf16) (x8 : Vec Ideal S1x1024 .f32) (x9 : Vec Ideal S1024x64 .bf16) (x10 : Vec Ideal S64x1024 .bf16) :
    out0_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 = k0_pay10 (k0_pay2 x0 x2) (k0_pay4 x0 x2 (k0_pay3 x1)) (muRow x3 2) (wMat x4 2) := by
  unfold out0_A_13
  rw [View.read_writes_eq_canon _ _ _ (cover0_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10)]
  unfold kernelRun0_A
  dsimp only
  rw [View.canon_unit_zero zeros2]
  simp only [kernelRun0_A.sl.r_1, kernelRun0_A.sl.r]
  unfold kernelRun0_A.sl.v23 kernelRun0_A.sl.HS0_1
  rw [View.readCov_unit_zero _ zeros2]
  rw [rdw arg2 harg2 x0 zeros2, rdw arg4 harg4 x2 zeros2, rdw arg3 harg3 x1 zeros3, rd_mu arg5 harg5 x3 2 2 rfl, rd_w arg6 harg6 x4 2 2 rfl]

theorem eA14 (c : Dev nD) (i : grid0.Coords) (arg2 : Memref sig .tc .vmem S528x1024 .f32) (harg2 : arg2.IsWhole) (arg3 : Memref sig .tc .vmem S1x1x1024 .f32) (harg3 : arg3.IsWhole) (arg4 : Memref sig .tc .vmem S1x1024 .f32) (harg4 : arg4.IsWhole) (arg5 : Memref sig .tc .vmem S6x1024 .f32) (harg5 : arg5.IsWhole) (arg6 : Memref sig .tc .vmem S4x1024x1024 .bf16) (harg6 : arg6.IsWhole) (arg7 : Memref sig .tc .vmem S1x1024 .f32) (harg7 : arg7.IsWhole) (arg8 : Memref sig .tc .vmem S1024x64 .bf16) (harg8 : arg8.IsWhole) (arg9 : Memref sig .tc .vmem S64x1024 .bf16) (harg9 : arg9.IsWhole) (arg10 : Memref sig .tc .vmem S1x1024 .f32) (harg10 : arg10.IsWhole) (arg11 : Memref sig .tc .vmem S1024x64 .bf16) (harg11 : arg11.IsWhole) (arg12 : Memref sig .tc .vmem S64x1024 .bf16) (harg12 : arg12.IsWhole) (arg13 : Memref sig .tc .vmem S528x1024 .f32) (harg13 : arg13.IsWhole) (arg14 : Memref sig .tc .vmem S528x1024 .f32) (harg14 : arg14.IsWhole) (arg15 : Memref sig .tc .vmem S528x1024 .f32) (harg15 : arg15.IsWhole) (arg16 : Memref sig .tc .vmem S528x1024 .f32) (harg16 : arg16.IsWhole) (arg17 : Memref sig .tc .vmem S528x1024 .f32) (harg17 : arg17.IsWhole) (arg18 : Memref sig .tc .vmem S528x1024 .f32) (harg18 : arg18.IsWhole) (arg19 : Memref sig .tc .vmem S1x1x1024 .f32) (harg19 : arg19.IsWhole) (arg20 : Memref sig .tc .vmem S1x1024 .f32) (harg20 : arg20.IsWhole) (hc0 : cond0_0 i) (x0 : Vec Ideal S528x1024 .f32) (x1 : Vec Ideal S1x1x1024 .f32) (x2 : Vec Ideal S1x1024 .f32) (x3 : Vec Ideal S6x1024 .f32) (x4 : Vec Ideal S4x1024x1024 .bf16) (x5 : Vec Ideal S1x1024 .f32) (x6 : Vec Ideal S1024x64 .bf16) (x7 : Vec Ideal S64x1024 .bf16) (x8 : Vec Ideal S1x1024 .f32) (x9 : Vec Ideal S1024x64 .bf16) (x10 : Vec Ideal S64x1024 .bf16) :
    out0_A_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 = k0_pay11 (k0_pay2 x0 x2) (k0_pay7 (k0_pay2 x0 x2) (k0_pay4 x0 x2 (k0_pay3 x1))) (muRow x3 3) (wMat x4 3) := by
  unfold out0_A_14
  rw [View.read_writes_eq_canon _ _ _ (cover0_A_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10)]
  unfold kernelRun0_A
  dsimp only
  rw [View.canon_unit_zero zeros2]
  simp only [kernelRun0_A.sl.r_2, kernelRun0_A.sl.r_1, kernelRun0_A.sl.r]
  unfold kernelRun0_A.sl.v23 kernelRun0_A.sl.HS0_1
  rw [View.readCov_unit_zero _ zeros2]
  rw [rdw arg2 harg2 x0 zeros2, rdw arg4 harg4 x2 zeros2, rdw arg3 harg3 x1 zeros3, rd_mu arg5 harg5 x3 3 3 rfl, rd_w arg6 harg6 x4 3 3 rfl]

theorem eA15 (c : Dev nD) (i : grid0.Coords) (arg2 : Memref sig .tc .vmem S528x1024 .f32) (harg2 : arg2.IsWhole) (arg3 : Memref sig .tc .vmem S1x1x1024 .f32) (harg3 : arg3.IsWhole) (arg4 : Memref sig .tc .vmem S1x1024 .f32) (harg4 : arg4.IsWhole) (arg5 : Memref sig .tc .vmem S6x1024 .f32) (harg5 : arg5.IsWhole) (arg6 : Memref sig .tc .vmem S4x1024x1024 .bf16) (harg6 : arg6.IsWhole) (arg7 : Memref sig .tc .vmem S1x1024 .f32) (harg7 : arg7.IsWhole) (arg8 : Memref sig .tc .vmem S1024x64 .bf16) (harg8 : arg8.IsWhole) (arg9 : Memref sig .tc .vmem S64x1024 .bf16) (harg9 : arg9.IsWhole) (arg10 : Memref sig .tc .vmem S1x1024 .f32) (harg10 : arg10.IsWhole) (arg11 : Memref sig .tc .vmem S1024x64 .bf16) (harg11 : arg11.IsWhole) (arg12 : Memref sig .tc .vmem S64x1024 .bf16) (harg12 : arg12.IsWhole) (arg13 : Memref sig .tc .vmem S528x1024 .f32) (harg13 : arg13.IsWhole) (arg14 : Memref sig .tc .vmem S528x1024 .f32) (harg14 : arg14.IsWhole) (arg15 : Memref sig .tc .vmem S528x1024 .f32) (harg15 : arg15.IsWhole) (arg16 : Memref sig .tc .vmem S528x1024 .f32) (harg16 : arg16.IsWhole) (arg17 : Memref sig .tc .vmem S528x1024 .f32) (harg17 : arg17.IsWhole) (arg18 : Memref sig .tc .vmem S528x1024 .f32) (harg18 : arg18.IsWhole) (arg19 : Memref sig .tc .vmem S1x1x1024 .f32) (harg19 : arg19.IsWhole) (arg20 : Memref sig .tc .vmem S1x1024 .f32) (harg20 : arg20.IsWhole) (hc0 : cond0_0 i) (x0 : Vec Ideal S528x1024 .f32) (x1 : Vec Ideal S1x1x1024 .f32) (x2 : Vec Ideal S1x1024 .f32) (x3 : Vec Ideal S6x1024 .f32) (x4 : Vec Ideal S4x1024x1024 .bf16) (x5 : Vec Ideal S1x1024 .f32) (x6 : Vec Ideal S1024x64 .bf16) (x7 : Vec Ideal S64x1024 .bf16) (x8 : Vec Ideal S1x1024 .f32) (x9 : Vec Ideal S1024x64 .bf16) (x10 : Vec Ideal S64x1024 .bf16) :
    out0_A_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 = k0_pay12 (k0_pay2 x0 x2) (k0_pay7 (k0_pay2 x0 x2) (k0_pay4 x0 x2 (k0_pay3 x1))) (muRow x3 4) x6 x5 x7 := by
  unfold out0_A_15
  rw [View.read_writes_eq_canon _ _ _ (cover0_A_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10)]
  unfold kernelRun0_A
  dsimp only
  rw [View.canon_unit_zero zeros2]
  simp only [kernelRun0_A.sl.r_3, kernelRun0_A.sl.r_2, kernelRun0_A.sl.r_1, kernelRun0_A.sl.r]
  unfold kernelRun0_A.sl.v23 kernelRun0_A.sl.HS0_1
  rw [View.readCov_unit_zero _ zeros2]
  rw [rdw arg2 harg2 x0 zeros2, rdw arg4 harg4 x2 zeros2, rdw arg3 harg3 x1 zeros3, rd_mu arg5 harg5 x3 4 4 rfl, rdw arg8 harg8 x6 zeros2, rdw arg7 harg7 x5 zeros2, rdw arg9 harg9 x7 zeros2]

theorem eA16 (c : Dev nD) (i : grid0.Coords) (arg2 : Memref sig .tc .vmem S528x1024 .f32) (harg2 : arg2.IsWhole) (arg3 : Memref sig .tc .vmem S1x1x1024 .f32) (harg3 : arg3.IsWhole) (arg4 : Memref sig .tc .vmem S1x1024 .f32) (harg4 : arg4.IsWhole) (arg5 : Memref sig .tc .vmem S6x1024 .f32) (harg5 : arg5.IsWhole) (arg6 : Memref sig .tc .vmem S4x1024x1024 .bf16) (harg6 : arg6.IsWhole) (arg7 : Memref sig .tc .vmem S1x1024 .f32) (harg7 : arg7.IsWhole) (arg8 : Memref sig .tc .vmem S1024x64 .bf16) (harg8 : arg8.IsWhole) (arg9 : Memref sig .tc .vmem S64x1024 .bf16) (harg9 : arg9.IsWhole) (arg10 : Memref sig .tc .vmem S1x1024 .f32) (harg10 : arg10.IsWhole) (arg11 : Memref sig .tc .vmem S1024x64 .bf16) (harg11 : arg11.IsWhole) (arg12 : Memref sig .tc .vmem S64x1024 .bf16) (harg12 : arg12.IsWhole) (arg13 : Memref sig .tc .vmem S528x1024 .f32) (harg13 : arg13.IsWhole) (arg14 : Memref sig .tc .vmem S528x1024 .f32) (harg14 : arg14.IsWhole) (arg15 : Memref sig .tc .vmem S528x1024 .f32) (harg15 : arg15.IsWhole) (arg16 : Memref sig .tc .vmem S528x1024 .f32) (harg16 : arg16.IsWhole) (arg17 : Memref sig .tc .vmem S528x1024 .f32) (harg17 : arg17.IsWhole) (arg18 : Memref sig .tc .vmem S528x1024 .f32) (harg18 : arg18.IsWhole) (arg19 : Memref sig .tc .vmem S1x1x1024 .f32) (harg19 : arg19.IsWhole) (arg20 : Memref sig .tc .vmem S1x1024 .f32) (harg20 : arg20.IsWhole) (hc0 : cond0_0 i) (x0 : Vec Ideal S528x1024 .f32) (x1 : Vec Ideal S1x1x1024 .f32) (x2 : Vec Ideal S1x1024 .f32) (x3 : Vec Ideal S6x1024 .f32) (x4 : Vec Ideal S4x1024x1024 .bf16) (x5 : Vec Ideal S1x1024 .f32) (x6 : Vec Ideal S1024x64 .bf16) (x7 : Vec Ideal S64x1024 .bf16) (x8 : Vec Ideal S1x1024 .f32) (x9 : Vec Ideal S1024x64 .bf16) (x10 : Vec Ideal S64x1024 .bf16) :
    out0_A_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 = k0_pay1 (k0_pay2 x0 x2) (k0_pay7 (k0_pay2 x0 x2) (k0_pay4 x0 x2 (k0_pay3 x1))) (muRow x3 5) x9 x8 x10 := by
  unfold out0_A_16
  rw [View.read_writes_eq_canon _ _ _ (cover0_A_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10)]
  unfold kernelRun0_A
  dsimp only
  rw [View.canon_unit_zero zeros2]
  simp only [kernelRun0_A.sl.r_2, kernelRun0_A.sl.r_1, kernelRun0_A.sl.r]
  unfold kernelRun0_A.sl.v23 kernelRun0_A.sl.HS0_1
  rw [View.readCov_unit_zero _ zeros2]
  rw [rdw arg2 harg2 x0 zeros2, rdw arg4 harg4 x2 zeros2, rdw arg3 harg3 x1 zeros3, rd_mu arg5 harg5 x3 5 5 rfl, rdw arg11 harg11 x9 zeros2, rdw arg10 harg10 x8 zeros2, rdw arg12 harg12 x10 zeros2]

theorem eA17 (c : Dev nD) (i : grid0.Coords) (arg2 : Memref sig .tc .vmem S528x1024 .f32) (harg2 : arg2.IsWhole) (arg3 : Memref sig .tc .vmem S1x1x1024 .f32) (harg3 : arg3.IsWhole) (arg4 : Memref sig .tc .vmem S1x1024 .f32) (harg4 : arg4.IsWhole) (arg5 : Memref sig .tc .vmem S6x1024 .f32) (harg5 : arg5.IsWhole) (arg6 : Memref sig .tc .vmem S4x1024x1024 .bf16) (harg6 : arg6.IsWhole) (arg7 : Memref sig .tc .vmem S1x1024 .f32) (harg7 : arg7.IsWhole) (arg8 : Memref sig .tc .vmem S1024x64 .bf16) (harg8 : arg8.IsWhole) (arg9 : Memref sig .tc .vmem S64x1024 .bf16) (harg9 : arg9.IsWhole) (arg10 : Memref sig .tc .vmem S1x1024 .f32) (harg10 : arg10.IsWhole) (arg11 : Memref sig .tc .vmem S1024x64 .bf16) (harg11 : arg11.IsWhole) (arg12 : Memref sig .tc .vmem S64x1024 .bf16) (harg12 : arg12.IsWhole) (arg13 : Memref sig .tc .vmem S528x1024 .f32) (harg13 : arg13.IsWhole) (arg14 : Memref sig .tc .vmem S528x1024 .f32) (harg14 : arg14.IsWhole) (arg15 : Memref sig .tc .vmem S528x1024 .f32) (harg15 : arg15.IsWhole) (arg16 : Memref sig .tc .vmem S528x1024 .f32) (harg16 : arg16.IsWhole) (arg17 : Memref sig .tc .vmem S528x1024 .f32) (harg17 : arg17.IsWhole) (arg18 : Memref sig .tc .vmem S528x1024 .f32) (harg18 : arg18.IsWhole) (arg19 : Memref sig .tc .vmem S1x1x1024 .f32) (harg19 : arg19.IsWhole) (arg20 : Memref sig .tc .vmem S1x1024 .f32) (harg20 : arg20.IsWhole) (hc0 : cond0_0 i) (x0 : Vec Ideal S528x1024 .f32) (x1 : Vec Ideal S1x1x1024 .f32) (x2 : Vec Ideal S1x1024 .f32) (x3 : Vec Ideal S6x1024 .f32) (x4 : Vec Ideal S4x1024x1024 .bf16) (x5 : Vec Ideal S1x1024 .f32) (x6 : Vec Ideal S1024x64 .bf16) (x7 : Vec Ideal S64x1024 .bf16) (x8 : Vec Ideal S1x1024 .f32) (x9 : Vec Ideal S1024x64 .bf16) (x10 : Vec Ideal S64x1024 .bf16) :
    out0_A_17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 = k0_pay6 x0 x2 := by
  unfold out0_A_17
  rw [View.read_writes_eq_canon _ _ _ (cover0_A_17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10)]
  unfold kernelRun0_A
  dsimp only
  rw [View.canon_unit_zero zeros3]
  rw [rdw arg2 harg2 x0 zeros2, rdw arg4 harg4 x2 zeros2]

theorem eAs (c : Dev nD) (i : grid0.Coords) (arg2 : Memref sig .tc .vmem S528x1024 .f32) (harg2 : arg2.IsWhole) (arg3 : Memref sig .tc .vmem S1x1x1024 .f32) (harg3 : arg3.IsWhole) (arg4 : Memref sig .tc .vmem S1x1024 .f32) (harg4 : arg4.IsWhole) (arg5 : Memref sig .tc .vmem S6x1024 .f32) (harg5 : arg5.IsWhole) (arg6 : Memref sig .tc .vmem S4x1024x1024 .bf16) (harg6 : arg6.IsWhole) (arg7 : Memref sig .tc .vmem S1x1024 .f32) (harg7 : arg7.IsWhole) (arg8 : Memref sig .tc .vmem S1024x64 .bf16) (harg8 : arg8.IsWhole) (arg9 : Memref sig .tc .vmem S64x1024 .bf16) (harg9 : arg9.IsWhole) (arg10 : Memref sig .tc .vmem S1x1024 .f32) (harg10 : arg10.IsWhole) (arg11 : Memref sig .tc .vmem S1024x64 .bf16) (harg11 : arg11.IsWhole) (arg12 : Memref sig .tc .vmem S64x1024 .bf16) (harg12 : arg12.IsWhole) (arg13 : Memref sig .tc .vmem S528x1024 .f32) (harg13 : arg13.IsWhole) (arg14 : Memref sig .tc .vmem S528x1024 .f32) (harg14 : arg14.IsWhole) (arg15 : Memref sig .tc .vmem S528x1024 .f32) (harg15 : arg15.IsWhole) (arg16 : Memref sig .tc .vmem S528x1024 .f32) (harg16 : arg16.IsWhole) (arg17 : Memref sig .tc .vmem S528x1024 .f32) (harg17 : arg17.IsWhole) (arg18 : Memref sig .tc .vmem S528x1024 .f32) (harg18 : arg18.IsWhole) (arg19 : Memref sig .tc .vmem S1x1x1024 .f32) (harg19 : arg19.IsWhole) (arg20 : Memref sig .tc .vmem S1x1024 .f32) (harg20 : arg20.IsWhole) (hc0 : cond0_0 i) (x0 : Vec Ideal S528x1024 .f32) (x1 : Vec Ideal S1x1x1024 .f32) (x2 : Vec Ideal S1x1024 .f32) (x3 : Vec Ideal S6x1024 .f32) (x4 : Vec Ideal S4x1024x1024 .bf16) (x5 : Vec Ideal S1x1024 .f32) (x6 : Vec Ideal S1024x64 .bf16) (x7 : Vec Ideal S64x1024 .bf16) (x8 : Vec Ideal S1x1024 .f32) (x9 : Vec Ideal S1024x64 .bf16) (x10 : Vec Ideal S64x1024 .bf16) :
    sout0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 = k0_pay5 x0 x2 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10)]
  unfold kernelRun0_A
  dsimp only
  rw [View.canon_cons_unit_zero zeros2]
  rw [rdw arg2 harg2 x0 zeros2, rdw arg4 harg4 x2 zeros2]

theorem eB11 (c : Dev nD) (i : grid0.Coords) (arg2 : Memref sig .tc .vmem S528x1024 .f32) (harg2 : arg2.IsWhole) (arg3 : Memref sig .tc .vmem S1x1x1024 .f32) (harg3 : arg3.IsWhole) (arg4 : Memref sig .tc .vmem S1x1024 .f32) (harg4 : arg4.IsWhole) (arg5 : Memref sig .tc .vmem S6x1024 .f32) (harg5 : arg5.IsWhole) (arg6 : Memref sig .tc .vmem S4x1024x1024 .bf16) (harg6 : arg6.IsWhole) (arg7 : Memref sig .tc .vmem S1x1024 .f32) (harg7 : arg7.IsWhole) (arg8 : Memref sig .tc .vmem S1024x64 .bf16) (harg8 : arg8.IsWhole) (arg9 : Memref sig .tc .vmem S64x1024 .bf16) (harg9 : arg9.IsWhole) (arg10 : Memref sig .tc .vmem S1x1024 .f32) (harg10 : arg10.IsWhole) (arg11 : Memref sig .tc .vmem S1024x64 .bf16) (harg11 : arg11.IsWhole) (arg12 : Memref sig .tc .vmem S64x1024 .bf16) (harg12 : arg12.IsWhole) (arg13 : Memref sig .tc .vmem S528x1024 .f32) (harg13 : arg13.IsWhole) (arg14 : Memref sig .tc .vmem S528x1024 .f32) (harg14 : arg14.IsWhole) (arg15 : Memref sig .tc .vmem S528x1024 .f32) (harg15 : arg15.IsWhole) (arg16 : Memref sig .tc .vmem S528x1024 .f32) (harg16 : arg16.IsWhole) (arg17 : Memref sig .tc .vmem S528x1024 .f32) (harg17 : arg17.IsWhole) (arg18 : Memref sig .tc .vmem S528x1024 .f32) (harg18 : arg18.IsWhole) (arg19 : Memref sig .tc .vmem S1x1x1024 .f32) (harg19 : arg19.IsWhole) (arg20 : Memref sig .tc .vmem S1x1024 .f32) (harg20 : arg20.IsWhole) (hc0 : ¬cond0_0 i) (x0 : Vec Ideal S528x1024 .f32) (x1 : Vec Ideal S1x1x1024 .f32) (x2 : Vec Ideal S1x1024 .f32) (x3 : Vec Ideal S6x1024 .f32) (x4 : Vec Ideal S4x1024x1024 .bf16) (x5 : Vec Ideal S1x1024 .f32) (x6 : Vec Ideal S1024x64 .bf16) (x7 : Vec Ideal S64x1024 .bf16) (x8 : Vec Ideal S1x1024 .f32) (x9 : Vec Ideal S1024x64 .bf16) (x10 : Vec Ideal S64x1024 .bf16) (xs0 : Vec Ideal S1x1024 .f32) :
    out0_B_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 xs0 = k0_pay8 (k0_pay2 x0 x2) (k0_pay4 x0 x2 xs0) (muRow x3 0) (wMat x4 0) := by
  unfold out0_B_11
  rw [View.read_writes_eq_canon _ _ _ (cover0_B_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 xs0)]
  unfold kernelRun0_B
  dsimp only
  rw [View.canon_unit_zero zeros2]
  simp only [kernelRun0_B.sl.r_1, kernelRun0_B.sl.r]
  rw [rdw arg2 harg2 x0 zeros2, rdw arg4 harg4 x2 zeros2, rdw arg20 harg20 xs0 zeros2, rd_mu arg5 harg5 x3 0 0 rfl, rd_w arg6 harg6 x4 0 0 rfl]

theorem eB12 (c : Dev nD) (i : grid0.Coords) (arg2 : Memref sig .tc .vmem S528x1024 .f32) (harg2 : arg2.IsWhole) (arg3 : Memref sig .tc .vmem S1x1x1024 .f32) (harg3 : arg3.IsWhole) (arg4 : Memref sig .tc .vmem S1x1024 .f32) (harg4 : arg4.IsWhole) (arg5 : Memref sig .tc .vmem S6x1024 .f32) (harg5 : arg5.IsWhole) (arg6 : Memref sig .tc .vmem S4x1024x1024 .bf16) (harg6 : arg6.IsWhole) (arg7 : Memref sig .tc .vmem S1x1024 .f32) (harg7 : arg7.IsWhole) (arg8 : Memref sig .tc .vmem S1024x64 .bf16) (harg8 : arg8.IsWhole) (arg9 : Memref sig .tc .vmem S64x1024 .bf16) (harg9 : arg9.IsWhole) (arg10 : Memref sig .tc .vmem S1x1024 .f32) (harg10 : arg10.IsWhole) (arg11 : Memref sig .tc .vmem S1024x64 .bf16) (harg11 : arg11.IsWhole) (arg12 : Memref sig .tc .vmem S64x1024 .bf16) (harg12 : arg12.IsWhole) (arg13 : Memref sig .tc .vmem S528x1024 .f32) (harg13 : arg13.IsWhole) (arg14 : Memref sig .tc .vmem S528x1024 .f32) (harg14 : arg14.IsWhole) (arg15 : Memref sig .tc .vmem S528x1024 .f32) (harg15 : arg15.IsWhole) (arg16 : Memref sig .tc .vmem S528x1024 .f32) (harg16 : arg16.IsWhole) (arg17 : Memref sig .tc .vmem S528x1024 .f32) (harg17 : arg17.IsWhole) (arg18 : Memref sig .tc .vmem S528x1024 .f32) (harg18 : arg18.IsWhole) (arg19 : Memref sig .tc .vmem S1x1x1024 .f32) (harg19 : arg19.IsWhole) (arg20 : Memref sig .tc .vmem S1x1024 .f32) (harg20 : arg20.IsWhole) (hc0 : ¬cond0_0 i) (x0 : Vec Ideal S528x1024 .f32) (x1 : Vec Ideal S1x1x1024 .f32) (x2 : Vec Ideal S1x1024 .f32) (x3 : Vec Ideal S6x1024 .f32) (x4 : Vec Ideal S4x1024x1024 .bf16) (x5 : Vec Ideal S1x1024 .f32) (x6 : Vec Ideal S1024x64 .bf16) (x7 : Vec Ideal S64x1024 .bf16) (x8 : Vec Ideal S1x1024 .f32) (x9 : Vec Ideal S1024x64 .bf16) (x10 : Vec Ideal S64x1024 .bf16) (xs0 : Vec Ideal S1x1024 .f32) :
    out0_B_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 xs0 = k0_pay9 (k0_pay2 x0 x2) (k0_pay4 x0 x2 xs0) (muRow x3 1) (wMat x4 1) := by
  unfold out0_B_12
  rw [View.read_writes_eq_canon _ _ _ (cover0_B_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 xs0)]
  unfold kernelRun0_B
  dsimp only
  rw [View.canon_unit_zero zeros2]
  simp only [kernelRun0_B.sl.r_1, kernelRun0_B.sl.r]
  rw [rdw arg2 harg2 x0 zeros2, rdw arg4 harg4 x2 zeros2, rdw arg20 harg20 xs0 zeros2, rd_mu arg5 harg5 x3 1 1 rfl, rd_w arg6 harg6 x4 1 1 rfl]

theorem eB13 (c : Dev nD) (i : grid0.Coords) (arg2 : Memref sig .tc .vmem S528x1024 .f32) (harg2 : arg2.IsWhole) (arg3 : Memref sig .tc .vmem S1x1x1024 .f32) (harg3 : arg3.IsWhole) (arg4 : Memref sig .tc .vmem S1x1024 .f32) (harg4 : arg4.IsWhole) (arg5 : Memref sig .tc .vmem S6x1024 .f32) (harg5 : arg5.IsWhole) (arg6 : Memref sig .tc .vmem S4x1024x1024 .bf16) (harg6 : arg6.IsWhole) (arg7 : Memref sig .tc .vmem S1x1024 .f32) (harg7 : arg7.IsWhole) (arg8 : Memref sig .tc .vmem S1024x64 .bf16) (harg8 : arg8.IsWhole) (arg9 : Memref sig .tc .vmem S64x1024 .bf16) (harg9 : arg9.IsWhole) (arg10 : Memref sig .tc .vmem S1x1024 .f32) (harg10 : arg10.IsWhole) (arg11 : Memref sig .tc .vmem S1024x64 .bf16) (harg11 : arg11.IsWhole) (arg12 : Memref sig .tc .vmem S64x1024 .bf16) (harg12 : arg12.IsWhole) (arg13 : Memref sig .tc .vmem S528x1024 .f32) (harg13 : arg13.IsWhole) (arg14 : Memref sig .tc .vmem S528x1024 .f32) (harg14 : arg14.IsWhole) (arg15 : Memref sig .tc .vmem S528x1024 .f32) (harg15 : arg15.IsWhole) (arg16 : Memref sig .tc .vmem S528x1024 .f32) (harg16 : arg16.IsWhole) (arg17 : Memref sig .tc .vmem S528x1024 .f32) (harg17 : arg17.IsWhole) (arg18 : Memref sig .tc .vmem S528x1024 .f32) (harg18 : arg18.IsWhole) (arg19 : Memref sig .tc .vmem S1x1x1024 .f32) (harg19 : arg19.IsWhole) (arg20 : Memref sig .tc .vmem S1x1024 .f32) (harg20 : arg20.IsWhole) (hc0 : ¬cond0_0 i) (x0 : Vec Ideal S528x1024 .f32) (x1 : Vec Ideal S1x1x1024 .f32) (x2 : Vec Ideal S1x1024 .f32) (x3 : Vec Ideal S6x1024 .f32) (x4 : Vec Ideal S4x1024x1024 .bf16) (x5 : Vec Ideal S1x1024 .f32) (x6 : Vec Ideal S1024x64 .bf16) (x7 : Vec Ideal S64x1024 .bf16) (x8 : Vec Ideal S1x1024 .f32) (x9 : Vec Ideal S1024x64 .bf16) (x10 : Vec Ideal S64x1024 .bf16) (xs0 : Vec Ideal S1x1024 .f32) :
    out0_B_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 xs0 = k0_pay10 (k0_pay2 x0 x2) (k0_pay4 x0 x2 xs0) (muRow x3 2) (wMat x4 2) := by
  unfold out0_B_13
  rw [View.read_writes_eq_canon _ _ _ (cover0_B_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 xs0)]
  unfold kernelRun0_B
  dsimp only
  rw [View.canon_unit_zero zeros2]
  simp only [kernelRun0_B.sl.r_1, kernelRun0_B.sl.r]
  rw [rdw arg2 harg2 x0 zeros2, rdw arg4 harg4 x2 zeros2, rdw arg20 harg20 xs0 zeros2, rd_mu arg5 harg5 x3 2 2 rfl, rd_w arg6 harg6 x4 2 2 rfl]

theorem eB14 (c : Dev nD) (i : grid0.Coords) (arg2 : Memref sig .tc .vmem S528x1024 .f32) (harg2 : arg2.IsWhole) (arg3 : Memref sig .tc .vmem S1x1x1024 .f32) (harg3 : arg3.IsWhole) (arg4 : Memref sig .tc .vmem S1x1024 .f32) (harg4 : arg4.IsWhole) (arg5 : Memref sig .tc .vmem S6x1024 .f32) (harg5 : arg5.IsWhole) (arg6 : Memref sig .tc .vmem S4x1024x1024 .bf16) (harg6 : arg6.IsWhole) (arg7 : Memref sig .tc .vmem S1x1024 .f32) (harg7 : arg7.IsWhole) (arg8 : Memref sig .tc .vmem S1024x64 .bf16) (harg8 : arg8.IsWhole) (arg9 : Memref sig .tc .vmem S64x1024 .bf16) (harg9 : arg9.IsWhole) (arg10 : Memref sig .tc .vmem S1x1024 .f32) (harg10 : arg10.IsWhole) (arg11 : Memref sig .tc .vmem S1024x64 .bf16) (harg11 : arg11.IsWhole) (arg12 : Memref sig .tc .vmem S64x1024 .bf16) (harg12 : arg12.IsWhole) (arg13 : Memref sig .tc .vmem S528x1024 .f32) (harg13 : arg13.IsWhole) (arg14 : Memref sig .tc .vmem S528x1024 .f32) (harg14 : arg14.IsWhole) (arg15 : Memref sig .tc .vmem S528x1024 .f32) (harg15 : arg15.IsWhole) (arg16 : Memref sig .tc .vmem S528x1024 .f32) (harg16 : arg16.IsWhole) (arg17 : Memref sig .tc .vmem S528x1024 .f32) (harg17 : arg17.IsWhole) (arg18 : Memref sig .tc .vmem S528x1024 .f32) (harg18 : arg18.IsWhole) (arg19 : Memref sig .tc .vmem S1x1x1024 .f32) (harg19 : arg19.IsWhole) (arg20 : Memref sig .tc .vmem S1x1024 .f32) (harg20 : arg20.IsWhole) (hc0 : ¬cond0_0 i) (x0 : Vec Ideal S528x1024 .f32) (x1 : Vec Ideal S1x1x1024 .f32) (x2 : Vec Ideal S1x1024 .f32) (x3 : Vec Ideal S6x1024 .f32) (x4 : Vec Ideal S4x1024x1024 .bf16) (x5 : Vec Ideal S1x1024 .f32) (x6 : Vec Ideal S1024x64 .bf16) (x7 : Vec Ideal S64x1024 .bf16) (x8 : Vec Ideal S1x1024 .f32) (x9 : Vec Ideal S1024x64 .bf16) (x10 : Vec Ideal S64x1024 .bf16) (xs0 : Vec Ideal S1x1024 .f32) :
    out0_B_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 xs0 = k0_pay11 (k0_pay2 x0 x2) (k0_pay7 (k0_pay2 x0 x2) (k0_pay4 x0 x2 xs0)) (muRow x3 3) (wMat x4 3) := by
  unfold out0_B_14
  rw [View.read_writes_eq_canon _ _ _ (cover0_B_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 xs0)]
  unfold kernelRun0_B
  dsimp only
  rw [View.canon_unit_zero zeros2]
  simp only [kernelRun0_B.sl.r_2, kernelRun0_B.sl.r_1, kernelRun0_B.sl.r]
  rw [rdw arg2 harg2 x0 zeros2, rdw arg4 harg4 x2 zeros2, rdw arg20 harg20 xs0 zeros2, rd_mu arg5 harg5 x3 3 3 rfl, rd_w arg6 harg6 x4 3 3 rfl]

theorem eB15 (c : Dev nD) (i : grid0.Coords) (arg2 : Memref sig .tc .vmem S528x1024 .f32) (harg2 : arg2.IsWhole) (arg3 : Memref sig .tc .vmem S1x1x1024 .f32) (harg3 : arg3.IsWhole) (arg4 : Memref sig .tc .vmem S1x1024 .f32) (harg4 : arg4.IsWhole) (arg5 : Memref sig .tc .vmem S6x1024 .f32) (harg5 : arg5.IsWhole) (arg6 : Memref sig .tc .vmem S4x1024x1024 .bf16) (harg6 : arg6.IsWhole) (arg7 : Memref sig .tc .vmem S1x1024 .f32) (harg7 : arg7.IsWhole) (arg8 : Memref sig .tc .vmem S1024x64 .bf16) (harg8 : arg8.IsWhole) (arg9 : Memref sig .tc .vmem S64x1024 .bf16) (harg9 : arg9.IsWhole) (arg10 : Memref sig .tc .vmem S1x1024 .f32) (harg10 : arg10.IsWhole) (arg11 : Memref sig .tc .vmem S1024x64 .bf16) (harg11 : arg11.IsWhole) (arg12 : Memref sig .tc .vmem S64x1024 .bf16) (harg12 : arg12.IsWhole) (arg13 : Memref sig .tc .vmem S528x1024 .f32) (harg13 : arg13.IsWhole) (arg14 : Memref sig .tc .vmem S528x1024 .f32) (harg14 : arg14.IsWhole) (arg15 : Memref sig .tc .vmem S528x1024 .f32) (harg15 : arg15.IsWhole) (arg16 : Memref sig .tc .vmem S528x1024 .f32) (harg16 : arg16.IsWhole) (arg17 : Memref sig .tc .vmem S528x1024 .f32) (harg17 : arg17.IsWhole) (arg18 : Memref sig .tc .vmem S528x1024 .f32) (harg18 : arg18.IsWhole) (arg19 : Memref sig .tc .vmem S1x1x1024 .f32) (harg19 : arg19.IsWhole) (arg20 : Memref sig .tc .vmem S1x1024 .f32) (harg20 : arg20.IsWhole) (hc0 : ¬cond0_0 i) (x0 : Vec Ideal S528x1024 .f32) (x1 : Vec Ideal S1x1x1024 .f32) (x2 : Vec Ideal S1x1024 .f32) (x3 : Vec Ideal S6x1024 .f32) (x4 : Vec Ideal S4x1024x1024 .bf16) (x5 : Vec Ideal S1x1024 .f32) (x6 : Vec Ideal S1024x64 .bf16) (x7 : Vec Ideal S64x1024 .bf16) (x8 : Vec Ideal S1x1024 .f32) (x9 : Vec Ideal S1024x64 .bf16) (x10 : Vec Ideal S64x1024 .bf16) (xs0 : Vec Ideal S1x1024 .f32) :
    out0_B_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 xs0 = k0_pay12 (k0_pay2 x0 x2) (k0_pay7 (k0_pay2 x0 x2) (k0_pay4 x0 x2 xs0)) (muRow x3 4) x6 x5 x7 := by
  unfold out0_B_15
  rw [View.read_writes_eq_canon _ _ _ (cover0_B_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 xs0)]
  unfold kernelRun0_B
  dsimp only
  rw [View.canon_unit_zero zeros2]
  simp only [kernelRun0_B.sl.r_3, kernelRun0_B.sl.r_2, kernelRun0_B.sl.r_1, kernelRun0_B.sl.r]
  rw [rdw arg2 harg2 x0 zeros2, rdw arg4 harg4 x2 zeros2, rdw arg20 harg20 xs0 zeros2, rd_mu arg5 harg5 x3 4 4 rfl, rdw arg8 harg8 x6 zeros2, rdw arg7 harg7 x5 zeros2, rdw arg9 harg9 x7 zeros2]

theorem eB16 (c : Dev nD) (i : grid0.Coords) (arg2 : Memref sig .tc .vmem S528x1024 .f32) (harg2 : arg2.IsWhole) (arg3 : Memref sig .tc .vmem S1x1x1024 .f32) (harg3 : arg3.IsWhole) (arg4 : Memref sig .tc .vmem S1x1024 .f32) (harg4 : arg4.IsWhole) (arg5 : Memref sig .tc .vmem S6x1024 .f32) (harg5 : arg5.IsWhole) (arg6 : Memref sig .tc .vmem S4x1024x1024 .bf16) (harg6 : arg6.IsWhole) (arg7 : Memref sig .tc .vmem S1x1024 .f32) (harg7 : arg7.IsWhole) (arg8 : Memref sig .tc .vmem S1024x64 .bf16) (harg8 : arg8.IsWhole) (arg9 : Memref sig .tc .vmem S64x1024 .bf16) (harg9 : arg9.IsWhole) (arg10 : Memref sig .tc .vmem S1x1024 .f32) (harg10 : arg10.IsWhole) (arg11 : Memref sig .tc .vmem S1024x64 .bf16) (harg11 : arg11.IsWhole) (arg12 : Memref sig .tc .vmem S64x1024 .bf16) (harg12 : arg12.IsWhole) (arg13 : Memref sig .tc .vmem S528x1024 .f32) (harg13 : arg13.IsWhole) (arg14 : Memref sig .tc .vmem S528x1024 .f32) (harg14 : arg14.IsWhole) (arg15 : Memref sig .tc .vmem S528x1024 .f32) (harg15 : arg15.IsWhole) (arg16 : Memref sig .tc .vmem S528x1024 .f32) (harg16 : arg16.IsWhole) (arg17 : Memref sig .tc .vmem S528x1024 .f32) (harg17 : arg17.IsWhole) (arg18 : Memref sig .tc .vmem S528x1024 .f32) (harg18 : arg18.IsWhole) (arg19 : Memref sig .tc .vmem S1x1x1024 .f32) (harg19 : arg19.IsWhole) (arg20 : Memref sig .tc .vmem S1x1024 .f32) (harg20 : arg20.IsWhole) (hc0 : ¬cond0_0 i) (x0 : Vec Ideal S528x1024 .f32) (x1 : Vec Ideal S1x1x1024 .f32) (x2 : Vec Ideal S1x1024 .f32) (x3 : Vec Ideal S6x1024 .f32) (x4 : Vec Ideal S4x1024x1024 .bf16) (x5 : Vec Ideal S1x1024 .f32) (x6 : Vec Ideal S1024x64 .bf16) (x7 : Vec Ideal S64x1024 .bf16) (x8 : Vec Ideal S1x1024 .f32) (x9 : Vec Ideal S1024x64 .bf16) (x10 : Vec Ideal S64x1024 .bf16) (xs0 : Vec Ideal S1x1024 .f32) :
    out0_B_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 xs0 = k0_pay1 (k0_pay2 x0 x2) (k0_pay7 (k0_pay2 x0 x2) (k0_pay4 x0 x2 xs0)) (muRow x3 5) x9 x8 x10 := by
  unfold out0_B_16
  rw [View.read_writes_eq_canon _ _ _ (cover0_B_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 xs0)]
  unfold kernelRun0_B
  dsimp only
  rw [View.canon_unit_zero zeros2]
  simp only [kernelRun0_B.sl.r_2, kernelRun0_B.sl.r_1, kernelRun0_B.sl.r]
  rw [rdw arg2 harg2 x0 zeros2, rdw arg4 harg4 x2 zeros2, rdw arg20 harg20 xs0 zeros2, rd_mu arg5 harg5 x3 5 5 rfl, rdw arg11 harg11 x9 zeros2, rdw arg10 harg10 x8 zeros2, rdw arg12 harg12 x10 zeros2]

theorem eB17 (c : Dev nD) (i : grid0.Coords) (arg2 : Memref sig .tc .vmem S528x1024 .f32) (harg2 : arg2.IsWhole) (arg3 : Memref sig .tc .vmem S1x1x1024 .f32) (harg3 : arg3.IsWhole) (arg4 : Memref sig .tc .vmem S1x1024 .f32) (harg4 : arg4.IsWhole) (arg5 : Memref sig .tc .vmem S6x1024 .f32) (harg5 : arg5.IsWhole) (arg6 : Memref sig .tc .vmem S4x1024x1024 .bf16) (harg6 : arg6.IsWhole) (arg7 : Memref sig .tc .vmem S1x1024 .f32) (harg7 : arg7.IsWhole) (arg8 : Memref sig .tc .vmem S1024x64 .bf16) (harg8 : arg8.IsWhole) (arg9 : Memref sig .tc .vmem S64x1024 .bf16) (harg9 : arg9.IsWhole) (arg10 : Memref sig .tc .vmem S1x1024 .f32) (harg10 : arg10.IsWhole) (arg11 : Memref sig .tc .vmem S1024x64 .bf16) (harg11 : arg11.IsWhole) (arg12 : Memref sig .tc .vmem S64x1024 .bf16) (harg12 : arg12.IsWhole) (arg13 : Memref sig .tc .vmem S528x1024 .f32) (harg13 : arg13.IsWhole) (arg14 : Memref sig .tc .vmem S528x1024 .f32) (harg14 : arg14.IsWhole) (arg15 : Memref sig .tc .vmem S528x1024 .f32) (harg15 : arg15.IsWhole) (arg16 : Memref sig .tc .vmem S528x1024 .f32) (harg16 : arg16.IsWhole) (arg17 : Memref sig .tc .vmem S528x1024 .f32) (harg17 : arg17.IsWhole) (arg18 : Memref sig .tc .vmem S528x1024 .f32) (harg18 : arg18.IsWhole) (arg19 : Memref sig .tc .vmem S1x1x1024 .f32) (harg19 : arg19.IsWhole) (arg20 : Memref sig .tc .vmem S1x1024 .f32) (harg20 : arg20.IsWhole) (hc0 : ¬cond0_0 i) (x0 : Vec Ideal S528x1024 .f32) (x1 : Vec Ideal S1x1x1024 .f32) (x2 : Vec Ideal S1x1024 .f32) (x3 : Vec Ideal S6x1024 .f32) (x4 : Vec Ideal S4x1024x1024 .bf16) (x5 : Vec Ideal S1x1024 .f32) (x6 : Vec Ideal S1024x64 .bf16) (x7 : Vec Ideal S64x1024 .bf16) (x8 : Vec Ideal S1x1024 .f32) (x9 : Vec Ideal S1024x64 .bf16) (x10 : Vec Ideal S64x1024 .bf16) (xs0 : Vec Ideal S1x1024 .f32) :
    out0_B_17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 xs0 = k0_pay6 x0 x2 := by
  unfold out0_B_17
  rw [View.read_writes_eq_canon _ _ _ (cover0_B_17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 xs0)]
  unfold kernelRun0_B
  dsimp only
  rw [View.canon_unit_zero zeros3]
  rw [rdw arg2 harg2 x0 zeros2, rdw arg4 harg4 x2 zeros2]

theorem eBs (c : Dev nD) (i : grid0.Coords) (arg2 : Memref sig .tc .vmem S528x1024 .f32) (harg2 : arg2.IsWhole) (arg3 : Memref sig .tc .vmem S1x1x1024 .f32) (harg3 : arg3.IsWhole) (arg4 : Memref sig .tc .vmem S1x1024 .f32) (harg4 : arg4.IsWhole) (arg5 : Memref sig .tc .vmem S6x1024 .f32) (harg5 : arg5.IsWhole) (arg6 : Memref sig .tc .vmem S4x1024x1024 .bf16) (harg6 : arg6.IsWhole) (arg7 : Memref sig .tc .vmem S1x1024 .f32) (harg7 : arg7.IsWhole) (arg8 : Memref sig .tc .vmem S1024x64 .bf16) (harg8 : arg8.IsWhole) (arg9 : Memref sig .tc .vmem S64x1024 .bf16) (harg9 : arg9.IsWhole) (arg10 : Memref sig .tc .vmem S1x1024 .f32) (harg10 : arg10.IsWhole) (arg11 : Memref sig .tc .vmem S1024x64 .bf16) (harg11 : arg11.IsWhole) (arg12 : Memref sig .tc .vmem S64x1024 .bf16) (harg12 : arg12.IsWhole) (arg13 : Memref sig .tc .vmem S528x1024 .f32) (harg13 : arg13.IsWhole) (arg14 : Memref sig .tc .vmem S528x1024 .f32) (harg14 : arg14.IsWhole) (arg15 : Memref sig .tc .vmem S528x1024 .f32) (harg15 : arg15.IsWhole) (arg16 : Memref sig .tc .vmem S528x1024 .f32) (harg16 : arg16.IsWhole) (arg17 : Memref sig .tc .vmem S528x1024 .f32) (harg17 : arg17.IsWhole) (arg18 : Memref sig .tc .vmem S528x1024 .f32) (harg18 : arg18.IsWhole) (arg19 : Memref sig .tc .vmem S1x1x1024 .f32) (harg19 : arg19.IsWhole) (arg20 : Memref sig .tc .vmem S1x1024 .f32) (harg20 : arg20.IsWhole) (hc0 : ¬cond0_0 i) (x0 : Vec Ideal S528x1024 .f32) (x1 : Vec Ideal S1x1x1024 .f32) (x2 : Vec Ideal S1x1024 .f32) (x3 : Vec Ideal S6x1024 .f32) (x4 : Vec Ideal S4x1024x1024 .bf16) (x5 : Vec Ideal S1x1024 .f32) (x6 : Vec Ideal S1024x64 .bf16) (x7 : Vec Ideal S64x1024 .bf16) (x8 : Vec Ideal S1x1024 .f32) (x9 : Vec Ideal S1024x64 .bf16) (x10 : Vec Ideal S64x1024 .bf16) (xs0 : Vec Ideal S1x1024 .f32) :
    sout0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 xs0 = k0_pay5 x0 x2 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 xs0)]
  unfold kernelRun0_B
  dsimp only
  rw [View.canon_unit_zero zeros2]
  rw [rdw arg2 harg2 x0 zeros2, rdw arg4 harg4 x2 zeros2]

end ProjW

end
-- ==== Proof.WKernel.lean ====
module

public import proofs.«01_k».proof.Proof.WOut
public import proofs.«01_k».proof.Proof.Gen.RwkvProjIdeal.Value
public import Idealize.ShloMosaic.Lib.StableHlo.RunRead

@[expose] public section

noncomputable section

/-! The arrays the time mixing's projections leave, from the arguments. -/

namespace ProjW

open Proj Cert.RwkvProjIdeal Cert.RwkvProjIdeal.Gen Idealize.ShloMosaic Idealize.ShloMosaic.TcCoe Idealize.ShloMosaic.ValueIdx Idealize.SL.Sem Idealize.ShloMosaic.StableHlo
open Idealize.ShloMosaic.Pipeline (Dat)

variable (m : (ℓ : Loc nD τ sig) → Buf (Elt Ideal) ℓ) (ρ : Dev nD → PrngReg)

theorem pt_lt (t : Fin cfg0.N) : t.val < 32 := lt_of_lt_of_eq t.isLt (show cfg0.N = 32 from N_0)

abbrev pt (t : ℕ) (h : t < 32) : Fin cfg0.N := ⟨t, lt_of_lt_of_eq h N_0.symm⟩

theorem logd_congr (x : Fin 1024 → EReal) {a a' : Fin 1024 → EReal} {b b' : Fin 1024 → Fin 64 → EReal} {f f' : Fin 64 → Fin 1024 → EReal} {C C' : Fin 1024}
    (ha : a = a') (hb : b = b') (hf : f = f') (hC : C = C') : logd x a b f C = logd x a' b' f' C' := by
  subst ha hb hf hC; rfl

theorem rate_congr (x : Fin 1024 → EReal) {a a' : Fin 1024 → EReal} {b b' : Fin 1024 → Fin 64 → EReal} {f f' : Fin 64 → Fin 1024 → EReal} {C C' : Fin 1024}
    (ha : a = a') (hb : b = b') (hf : f = f') (hC : C = C') : rate x a b f C = rate x a' b' f' C' := by
  subst ha hb hf hC; rfl

def gainRow (g : FVec Ideal S2x1024 .f32) : FVec Ideal S1x1024 .f32 :=
  shapeCast S1x1024 (shapeCast S1024 (extractStridedSlice S1x1024 ![1, 0] g slices_S2x1024_S1x1024_1_0) shapeCasts_S1x1024_S1024) shapeCasts_S1024_S1x1024

/-- A row taken apart and put back. -/
def rowCast (g : FVec Ideal S1x1024 .f32) : FVec Ideal S1x1024 .f32 :=
  shapeCast S1x1024 (shapeCast S1024 g shapeCasts_S1x1024_S1024) shapeCasts_S1024_S1x1024

theorem rowCast_apply (g : FVec Ideal S1x1024 .f32) (d : Fin 1024) : rowCast g (ix2 (0 : Fin 1) d) = g (ix2 (0 : Fin 1) d) := by
  unfold rowCast
  rw [shapeCast_apply _ _ _ (ix1 d) (by rw [Shape.rowMajor_val_one, Shape.rowMajor_val_two]; show d.val = 0 * 1024 + d.val; omega),
    shapeCast_apply _ _ _ (ix2 (0 : Fin 1) d) (by rw [Shape.rowMajor_val_one, Shape.rowMajor_val_two]; show 0 * 1024 + d.val = d.val; omega)]

theorem gainRow_apply (g : FVec Ideal S2x1024 .f32) (d : Fin 1024) : gainRow g (ix2 (0 : Fin 1) d) = g (ix2 (1 : Fin 2) d) := by
  refine (rowCast_apply (extractStridedSlice S1x1024 ![1, 0] g slices_S2x1024_S1x1024_1_0) d).trans ?_
  refine extractStridedSlice_apply _ _ _ _ _ (fun a => ?_)
  match a with
  | ⟨0, _⟩ => rfl
  | ⟨1, _⟩ => exact (Nat.zero_add _).symm

theorem h_host (c : Dev nD) : V m c main_v19 = shapeCast S16896x1024 (m ((c : Thread nD τ).loc main_arg0)) shapeCasts_S4x4224x1024_S16896x1024 := by
  unfold_abbrev_sides
  after_reads_simp
  rfl

theorem zero_host (c : Dev nD) : V m c main_v18 = (broadcastInDim S4x1x1024 ![] bcast_S_S4x1x1024 (constant S_ .f32 0x00000000#32) : FVec Ideal S4x1x1024 .f32) := by
  unfold_abbrev_sides
  after_reads_simp

theorem gain_host (c : Dev nD) : V m c main_v2 = gainRow (m ((c : Thread nD τ).loc main_arg1)) := by
  unfold_abbrev_sides
  after_reads_simp
  rfl

theorem mu_host (c : Dev nD) : V m c main_v3 = shapeCast S6x1024 (m ((c : Thread nD τ).loc main_arg2)) shapeCasts_S1x6x1024_S6x1024 := by
  unfold_abbrev_sides
  after_reads_simp
  rfl

theorem w_host (c : Dev nD) : V m c main_v5 = (truncf .bf16 (shapeCast S4x1024x1024 (m ((c : Thread nD τ).loc main_arg3)) shapeCasts_S1x4x1024x1024_S4x1024x1024 : FVec Ideal S4x1024x1024 .f32) bitsLt_bf16_f32 : FVec Ideal S4x1024x1024 .bf16) := by
  unfold_abbrev_sides
  after_reads_simp
  rfl

theorem w0_host (c : Dev nD) : V m c main_v7 = rowCast (m ((c : Thread nD τ).loc main_arg4)) := by
  unfold_abbrev_sides
  after_reads_simp
  rfl

theorem w1_host (c : Dev nD) : V m c main_v9 = (truncf .bf16 (shapeCast S1024x64 (m ((c : Thread nD τ).loc main_arg5)) shapeCasts_S1x1024x64_S1024x64 : FVec Ideal S1024x64 .f32) bitsLt_bf16_f32 : FVec Ideal S1024x64 .bf16) := by
  unfold_abbrev_sides
  after_reads_simp
  rfl

theorem w2_host (c : Dev nD) : V m c main_v11 = (truncf .bf16 (shapeCast S64x1024 (m ((c : Thread nD τ).loc main_arg6)) shapeCasts_S1x64x1024_S64x1024 : FVec Ideal S64x1024 .f32) bitsLt_bf16_f32 : FVec Ideal S64x1024 .bf16) := by
  unfold_abbrev_sides
  after_reads_simp
  rfl

theorem a0_host (c : Dev nD) : V m c main_v13 = rowCast (m ((c : Thread nD τ).loc main_arg7)) := by
  unfold_abbrev_sides
  after_reads_simp
  rfl

theorem a1_host (c : Dev nD) : V m c main_v15 = (truncf .bf16 (shapeCast S1024x64 (m ((c : Thread nD τ).loc main_arg8)) shapeCasts_S1x1024x64_S1024x64 : FVec Ideal S1024x64 .f32) bitsLt_bf16_f32 : FVec Ideal S1024x64 .bf16) := by
  unfold_abbrev_sides
  after_reads_simp
  rfl

theorem a2_host (c : Dev nD) : V m c main_v17 = (truncf .bf16 (shapeCast S64x1024 (m ((c : Thread nD τ).loc main_arg9)) shapeCasts_S1x64x1024_S64x1024 : FVec Ideal S64x1024 .f32) bitsLt_bf16_f32 : FVec Ideal S64x1024 .bf16) := by
  unfold_abbrev_sides
  after_reads_simp
  rfl

theorem index_0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)

theorem index_1 : ∀ t : Fin cfg0.N, win0_1.index t (0 : Fin 3) = t.val / 8 ∧ win0_1.index t (1 : Fin 3) = 0 ∧ win0_1.index t (2 : Fin 3) = 0 :=
  (by decide +kernel : ∀ t : Fin grid0.N, win0_1.index t (0 : Fin 3) = t.val / 8 ∧ win0_1.index t (1 : Fin 3) = 0 ∧ win0_1.index t (2 : Fin 3) = 0)

theorem index_2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)

theorem index_3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)

theorem index_4 : ∀ t : Fin cfg0.N, win0_4.index t (0 : Fin 3) = 0 ∧ win0_4.index t (1 : Fin 3) = 0 ∧ win0_4.index t (2 : Fin 3) = 0 :=
  (by decide +kernel : ∀ t : Fin grid0.N, win0_4.index t (0 : Fin 3) = 0 ∧ win0_4.index t (1 : Fin 3) = 0 ∧ win0_4.index t (2 : Fin 3) = 0)

theorem index_5 : ∀ t : Fin cfg0.N, win0_5.index t (0 : Fin 2) = 0 ∧ win0_5.index t (1 : Fin 2) = 0 :=
  (by decide +kernel : ∀ t : Fin grid0.N, win0_5.index t (0 : Fin 2) = 0 ∧ win0_5.index t (1 : Fin 2) = 0)

theorem index_6 : ∀ t : Fin cfg0.N, win0_6.index t (0 : Fin 2) = 0 ∧ win0_6.index t (1 : Fin 2) = 0 :=
  (by decide +kernel : ∀ t : Fin grid0.N, win0_6.index t (0 : Fin 2) = 0 ∧ win0_6.index t (1 : Fin 2) = 0)

theorem index_7 : ∀ t : Fin cfg0.N, win0_7.index t (0 : Fin 2) = 0 ∧ win0_7.index t (1 : Fin 2) = 0 :=
  (by decide +kernel : ∀ t : Fin grid0.N, win0_7.index t (0 : Fin 2) = 0 ∧ win0_7.index t (1 : Fin 2) = 0)

theorem index_8 : ∀ t : Fin cfg0.N, win0_8.index t (0 : Fin 2) = 0 ∧ win0_8.index t (1 : Fin 2) = 0 :=
  (by decide +kernel : ∀ t : Fin grid0.N, win0_8.index t (0 : Fin 2) = 0 ∧ win0_8.index t (1 : Fin 2) = 0)

theorem index_9 : ∀ t : Fin cfg0.N, win0_9.index t (0 : Fin 2) = 0 ∧ win0_9.index t (1 : Fin 2) = 0 :=
  (by decide +kernel : ∀ t : Fin grid0.N, win0_9.index t (0 : Fin 2) = 0 ∧ win0_9.index t (1 : Fin 2) = 0)

theorem index_10 : ∀ t : Fin cfg0.N, win0_10.index t (0 : Fin 2) = 0 ∧ win0_10.index t (1 : Fin 2) = 0 :=
  (by decide +kernel : ∀ t : Fin grid0.N, win0_10.index t (0 : Fin 2) = 0 ∧ win0_10.index t (1 : Fin 2) = 0)

theorem index_11 : ∀ t : Fin cfg0.N, win0_11.index t (0 : Fin 2) = t.val ∧ win0_11.index t (1 : Fin 2) = 0 :=
  (by decide +kernel : ∀ t : Fin grid0.N, win0_11.index t (0 : Fin 2) = t.val ∧ win0_11.index t (1 : Fin 2) = 0)

theorem index_12 : ∀ t : Fin cfg0.N, win0_12.index t (0 : Fin 2) = t.val ∧ win0_12.index t (1 : Fin 2) = 0 :=
  (by decide +kernel : ∀ t : Fin grid0.N, win0_12.index t (0 : Fin 2) = t.val ∧ win0_12.index t (1 : Fin 2) = 0)

theorem index_13 : ∀ t : Fin cfg0.N, win0_13.index t (0 : Fin 2) = t.val ∧ win0_13.index t (1 : Fin 2) = 0 :=
  (by decide +kernel : ∀ t : Fin grid0.N, win0_13.index t (0 : Fin 2) = t.val ∧ win0_13.index t (1 : Fin 2) = 0)

theorem index_14 : ∀ t : Fin cfg0.N, win0_14.index t (0 : Fin 2) = t.val ∧ win0_14.index t (1 : Fin 2) = 0 :=
  (by decide +kernel : ∀ t : Fin grid0.N, win0_14.index t (0 : Fin 2) = t.val ∧ win0_14.index t (1 : Fin 2) = 0)

theorem index_15 : ∀ t : Fin cfg0.N, win0_15.index t (0 : Fin 2) = t.val ∧ win0_15.index t (1 : Fin 2) = 0 :=
  (by decide +kernel : ∀ t : Fin grid0.N, win0_15.index t (0 : Fin 2) = t.val ∧ win0_15.index t (1 : Fin 2) = 0)

theorem index_16 : ∀ t : Fin cfg0.N, win0_16.index t (0 : Fin 2) = t.val ∧ win0_16.index t (1 : Fin 2) = 0 :=
  (by decide +kernel : ∀ t : Fin grid0.N, win0_16.index t (0 : Fin 2) = t.val ∧ win0_16.index t (1 : Fin 2) = 0)

theorem index_17 : ∀ t : Fin cfg0.N, win0_17.index t (0 : Fin 3) = t.val / 8 ∧ win0_17.index t (1 : Fin 3) = 0 ∧ win0_17.index t (2 : Fin 3) = 0 :=
  (by decide +kernel : ∀ t : Fin grid0.N, win0_17.index t (0 : Fin 3) = t.val / 8 ∧ win0_17.index t (1 : Fin 3) = 0 ∧ win0_17.index t (2 : Fin 3) = 0)

theorem blk_0 (c : Dev nD) (t : Fin cfg0.N) (r : Fin 528) (d : Fin 1024) (b : Fin 4) (p : Fin 4224) (hp : 528 * t.val + r.val = b.val * 4224 + p.val) :
    iblk m c 0 t (ix2 r d) = (m ((c : Thread nD τ).loc main_arg0)) (ix3 b p d) := by
  obtain ⟨e0, e1⟩ := index_0 t
  have h0 : (((cfg0.win 0).blk t).view.emb (ix2 r d) 0).val = win0_0.index t (0 : Fin 2) * 528 + 1 * (r).val := rfl
  have h1 : (((cfg0.win 0).blk t).view.emb (ix2 r d) 1).val = win0_0.index t (1 : Fin 2) * 1024 + 1 * (d).val := rfl
  rw [e0] at h0
  rw [e1] at h1
  show V m c main_v19 (((cfg0.win 0).blk t).view.emb (ix2 r d)) = _
  rw [h_host]
  exact shapeCast_apply _ _ _ (ix3 b p d) (by
    rw [Shape.rowMajor_val_three, Shape.rowMajor_val_two]
    show (b.val * 4224 + p.val) * 1024 + d.val = (((cfg0.win 0).blk t).view.emb (ix2 r d) 0).val * 1024 + (((cfg0.win 0).blk t).view.emb (ix2 r d) 1).val
    rw [h0, h1]; omega)

theorem blk_1 (c : Dev nD) (t : Fin cfg0.N) (i : S1x1x1024.Idx) : @Eq EReal (iblk m c 1 t i) 0 := by
  show @Eq EReal (V m c main_v18 (((cfg0.win 1).blk t).view.emb i)) 0
  rw [zero_host]
  exact Ideal.ofBits_zero_f32

theorem blk_2 (c : Dev nD) (t : Fin cfg0.N) (d : Fin 1024) : iblk m c 2 t (ix2 (0 : Fin 1) d) = (m ((c : Thread nD τ).loc main_arg1)) (ix2 (1 : Fin 2) d) := by
  obtain ⟨e0, e1⟩ := index_2 t
  have h0 : (((cfg0.win 2).blk t).view.emb (ix2 (0 : Fin 1) d) 0).val = win0_2.index t (0 : Fin 2) * 1 + 1 * ((0 : Fin 1)).val := rfl
  have h1 : (((cfg0.win 2).blk t).view.emb (ix2 (0 : Fin 1) d) 1).val = win0_2.index t (1 : Fin 2) * 1024 + 1 * (d).val := rfl
  rw [e0] at h0
  rw [e1] at h1
  have e : ((cfg0.win 2).blk t).view.emb (ix2 (0 : Fin 1) d) = ix2 (0 : Fin 1) d := by
    funext a; apply Fin.ext
    match a with
    | ⟨0, _⟩ => show (((cfg0.win 2).blk t).view.emb (ix2 (0 : Fin 1) d) 0).val = ((0 : Fin 1)).val; rw [h0]; omega
    | ⟨1, _⟩ => show (((cfg0.win 2).blk t).view.emb (ix2 (0 : Fin 1) d) 1).val = (d).val; rw [h1]; omega
  show V m c main_v2 (((cfg0.win 2).blk t).view.emb (ix2 (0 : Fin 1) d)) = _
  rw [gain_host, e]
  exact gainRow_apply _ d

theorem blk_3 (c : Dev nD) (t : Fin cfg0.N) (k : Fin 6) (d : Fin 1024) : iblk m c 3 t (ix2 k d) = (m ((c : Thread nD τ).loc main_arg2)) (ix3 (0 : Fin 1) k d) := by
  obtain ⟨e0, e1⟩ := index_3 t
  have h0 : (((cfg0.win 3).blk t).view.emb (ix2 k d) 0).val = win0_3.index t (0 : Fin 2) * 6 + 1 * (k).val := rfl
  have h1 : (((cfg0.win 3).blk t).view.emb (ix2 k d) 1).val = win0_3.index t (1 : Fin 2) * 1024 + 1 * (d).val := rfl
  rw [e0] at h0
  rw [e1] at h1
  have e : ((cfg0.win 3).blk t).view.emb (ix2 k d) = ix2 k d := by
    funext a; apply Fin.ext
    match a with
    | ⟨0, _⟩ => show (((cfg0.win 3).blk t).view.emb (ix2 k d) 0).val = (k).val; rw [h0]; omega
    | ⟨1, _⟩ => show (((cfg0.win 3).blk t).view.emb (ix2 k d) 1).val = (d).val; rw [h1]; omega
  show V m c main_v3 (((cfg0.win 3).blk t).view.emb (ix2 k d)) = _
  rw [mu_host, e]
  exact shapeCast_apply _ _ _ (ix3 (0 : Fin 1) k d) (by
    rw [Shape.rowMajor_val_three, Shape.rowMajor_val_two]
    show (0 * 6 + k.val) * 1024 + d.val = k.val * 1024 + d.val
    omega)

theorem blk_4 (c : Dev nD) (t : Fin cfg0.N) (k : Fin 4) (d : Fin 1024) (e : Fin 1024) : iblk m c 4 t (ix3 k d e) = (m ((c : Thread nD τ).loc main_arg3)) (ix4 (0 : Fin 1) k d e) := by
  obtain ⟨e0, e1, e2⟩ := index_4 t
  have h0 : (((cfg0.win 4).blk t).view.emb (ix3 k d e) 0).val = win0_4.index t (0 : Fin 3) * 4 + 1 * (k).val := rfl
  have h1 : (((cfg0.win 4).blk t).view.emb (ix3 k d e) 1).val = win0_4.index t (1 : Fin 3) * 1024 + 1 * (d).val := rfl
  have h2 : (((cfg0.win 4).blk t).view.emb (ix3 k d e) 2).val = win0_4.index t (2 : Fin 3) * 1024 + 1 * (e).val := rfl
  rw [e0] at h0
  rw [e1] at h1
  rw [e2] at h2
  have ee : ((cfg0.win 4).blk t).view.emb (ix3 k d e) = ix3 k d e := by
    funext a; apply Fin.ext
    match a with
    | ⟨0, _⟩ => show (((cfg0.win 4).blk t).view.emb (ix3 k d e) 0).val = (k).val; rw [h0]; omega
    | ⟨1, _⟩ => show (((cfg0.win 4).blk t).view.emb (ix3 k d e) 1).val = (d).val; rw [h1]; omega
    | ⟨2, _⟩ => show (((cfg0.win 4).blk t).view.emb (ix3 k d e) 2).val = (e).val; rw [h2]; omega
  show V m c main_v5 (((cfg0.win 4).blk t).view.emb (ix3 k d e)) = _
  rw [w_host, ee]
  exact shapeCast_apply _ _ _ (ix4 (0 : Fin 1) k d e) (by
    rw [Shape.rowMajor_val_four, Shape.rowMajor_val_three]
    show ((0 * 4 + k.val) * 1024 + d.val) * 1024 + e.val = (k.val * 1024 + d.val) * 1024 + e.val
    omega)

theorem blk_5 (c : Dev nD) (t : Fin cfg0.N) (d : Fin 1024) : iblk m c 5 t (ix2 (0 : Fin 1) d) = (m ((c : Thread nD τ).loc main_arg4)) (ix2 (0 : Fin 1) d) := by
  obtain ⟨e0, e1⟩ := index_5 t
  have h0 : (((cfg0.win 5).blk t).view.emb (ix2 (0 : Fin 1) d) 0).val = win0_5.index t (0 : Fin 2) * 1 + 1 * ((0 : Fin 1)).val := rfl
  have h1 : (((cfg0.win 5).blk t).view.emb (ix2 (0 : Fin 1) d) 1).val = win0_5.index t (1 : Fin 2) * 1024 + 1 * (d).val := rfl
  rw [e0] at h0
  rw [e1] at h1
  have e : ((cfg0.win 5).blk t).view.emb (ix2 (0 : Fin 1) d) = ix2 (0 : Fin 1) d := by
    funext a; apply Fin.ext
    match a with
    | ⟨0, _⟩ => show (((cfg0.win 5).blk t).view.emb (ix2 (0 : Fin 1) d) 0).val = ((0 : Fin 1)).val; rw [h0]; omega
    | ⟨1, _⟩ => show (((cfg0.win 5).blk t).view.emb (ix2 (0 : Fin 1) d) 1).val = (d).val; rw [h1]; omega
  show V m c main_v7 (((cfg0.win 5).blk t).view.emb (ix2 (0 : Fin 1) d)) = _
  rw [w0_host, e]
  exact rowCast_apply _ d

theorem blk_8 (c : Dev nD) (t : Fin cfg0.N) (d : Fin 1024) : iblk m c 8 t (ix2 (0 : Fin 1) d) = (m ((c : Thread nD τ).loc main_arg7)) (ix2 (0 : Fin 1) d) := by
  obtain ⟨e0, e1⟩ := index_8 t
  have h0 : (((cfg0.win 8).blk t).view.emb (ix2 (0 : Fin 1) d) 0).val = win0_8.index t (0 : Fin 2) * 1 + 1 * ((0 : Fin 1)).val := rfl
  have h1 : (((cfg0.win 8).blk t).view.emb (ix2 (0 : Fin 1) d) 1).val = win0_8.index t (1 : Fin 2) * 1024 + 1 * (d).val := rfl
  rw [e0] at h0
  rw [e1] at h1
  have e : ((cfg0.win 8).blk t).view.emb (ix2 (0 : Fin 1) d) = ix2 (0 : Fin 1) d := by
    funext a; apply Fin.ext
    match a with
    | ⟨0, _⟩ => show (((cfg0.win 8).blk t).view.emb (ix2 (0 : Fin 1) d) 0).val = ((0 : Fin 1)).val; rw [h0]; omega
    | ⟨1, _⟩ => show (((cfg0.win 8).blk t).view.emb (ix2 (0 : Fin 1) d) 1).val = (d).val; rw [h1]; omega
  show V m c main_v13 (((cfg0.win 8).blk t).view.emb (ix2 (0 : Fin 1) d)) = _
  rw [a0_host, e]
  exact rowCast_apply _ d

theorem blk_6 (c : Dev nD) (t : Fin cfg0.N) (d : Fin 1024) (j : Fin 64) : iblk m c 6 t (ix2 d j) = (m ((c : Thread nD τ).loc main_arg5)) (ix3 (0 : Fin 1) d j) := by
  obtain ⟨e0, e1⟩ := index_6 t
  have h0 : (((cfg0.win 6).blk t).view.emb (ix2 d j) 0).val = win0_6.index t (0 : Fin 2) * 1024 + 1 * (d).val := rfl
  have h1 : (((cfg0.win 6).blk t).view.emb (ix2 d j) 1).val = win0_6.index t (1 : Fin 2) * 64 + 1 * (j).val := rfl
  rw [e0] at h0
  rw [e1] at h1
  have e : ((cfg0.win 6).blk t).view.emb (ix2 d j) = ix2 d j := by
    funext a; apply Fin.ext
    match a with
    | ⟨0, _⟩ => show (((cfg0.win 6).blk t).view.emb (ix2 d j) 0).val = (d).val; rw [h0]; omega
    | ⟨1, _⟩ => show (((cfg0.win 6).blk t).view.emb (ix2 d j) 1).val = (j).val; rw [h1]; omega
  show V m c main_v9 (((cfg0.win 6).blk t).view.emb (ix2 d j)) = _
  rw [w1_host, e]
  exact shapeCast_apply _ _ _ (ix3 (0 : Fin 1) d j) (by
    rw [Shape.rowMajor_val_three, Shape.rowMajor_val_two]
    show (0 * 1024 + d.val) * 64 + j.val = d.val * 64 + j.val
    omega)

theorem blk_9 (c : Dev nD) (t : Fin cfg0.N) (d : Fin 1024) (j : Fin 64) : iblk m c 9 t (ix2 d j) = (m ((c : Thread nD τ).loc main_arg8)) (ix3 (0 : Fin 1) d j) := by
  obtain ⟨e0, e1⟩ := index_9 t
  have h0 : (((cfg0.win 9).blk t).view.emb (ix2 d j) 0).val = win0_9.index t (0 : Fin 2) * 1024 + 1 * (d).val := rfl
  have h1 : (((cfg0.win 9).blk t).view.emb (ix2 d j) 1).val = win0_9.index t (1 : Fin 2) * 64 + 1 * (j).val := rfl
  rw [e0] at h0
  rw [e1] at h1
  have e : ((cfg0.win 9).blk t).view.emb (ix2 d j) = ix2 d j := by
    funext a; apply Fin.ext
    match a with
    | ⟨0, _⟩ => show (((cfg0.win 9).blk t).view.emb (ix2 d j) 0).val = (d).val; rw [h0]; omega
    | ⟨1, _⟩ => show (((cfg0.win 9).blk t).view.emb (ix2 d j) 1).val = (j).val; rw [h1]; omega
  show V m c main_v15 (((cfg0.win 9).blk t).view.emb (ix2 d j)) = _
  rw [a1_host, e]
  exact shapeCast_apply _ _ _ (ix3 (0 : Fin 1) d j) (by
    rw [Shape.rowMajor_val_three, Shape.rowMajor_val_two]
    show (0 * 1024 + d.val) * 64 + j.val = d.val * 64 + j.val
    omega)

theorem blk_7 (c : Dev nD) (t : Fin cfg0.N) (j : Fin 64) (d : Fin 1024) : iblk m c 7 t (ix2 j d) = (m ((c : Thread nD τ).loc main_arg6)) (ix3 (0 : Fin 1) j d) := by
  obtain ⟨e0, e1⟩ := index_7 t
  have h0 : (((cfg0.win 7).blk t).view.emb (ix2 j d) 0).val = win0_7.index t (0 : Fin 2) * 64 + 1 * (j).val := rfl
  have h1 : (((cfg0.win 7).blk t).view.emb (ix2 j d) 1).val = win0_7.index t (1 : Fin 2) * 1024 + 1 * (d).val := rfl
  rw [e0] at h0
  rw [e1] at h1
  have e : ((cfg0.win 7).blk t).view.emb (ix2 j d) = ix2 j d := by
    funext a; apply Fin.ext
    match a with
    | ⟨0, _⟩ => show (((cfg0.win 7).blk t).view.emb (ix2 j d) 0).val = (j).val; rw [h0]; omega
    | ⟨1, _⟩ => show (((cfg0.win 7).blk t).view.emb (ix2 j d) 1).val = (d).val; rw [h1]; omega
  show V m c main_v11 (((cfg0.win 7).blk t).view.emb (ix2 j d)) = _
  rw [w2_host, e]
  exact shapeCast_apply _ _ _ (ix3 (0 : Fin 1) j d) (by
    rw [Shape.rowMajor_val_three, Shape.rowMajor_val_two]
    show (0 * 64 + j.val) * 1024 + d.val = j.val * 1024 + d.val
    omega)

theorem blk_10 (c : Dev nD) (t : Fin cfg0.N) (j : Fin 64) (d : Fin 1024) : iblk m c 10 t (ix2 j d) = (m ((c : Thread nD τ).loc main_arg9)) (ix3 (0 : Fin 1) j d) := by
  obtain ⟨e0, e1⟩ := index_10 t
  have h0 : (((cfg0.win 10).blk t).view.emb (ix2 j d) 0).val = win0_10.index t (0 : Fin 2) * 64 + 1 * (j).val := rfl
  have h1 : (((cfg0.win 10).blk t).view.emb (ix2 j d) 1).val = win0_10.index t (1 : Fin 2) * 1024 + 1 * (d).val := rfl
  rw [e0] at h0
  rw [e1] at h1
  have e : ((cfg0.win 10).blk t).view.emb (ix2 j d) = ix2 j d := by
    funext a; apply Fin.ext
    match a with
    | ⟨0, _⟩ => show (((cfg0.win 10).blk t).view.emb (ix2 j d) 0).val = (j).val; rw [h0]; omega
    | ⟨1, _⟩ => show (((cfg0.win 10).blk t).view.emb (ix2 j d) 1).val = (d).val; rw [h1]; omega
  show V m c main_v17 (((cfg0.win 10).blk t).view.emb (ix2 j d)) = _
  rw [a2_host, e]
  exact shapeCast_apply _ _ _ (ix3 (0 : Fin 1) j d) (by
    rw [Shape.rowMajor_val_three, Shape.rowMajor_val_two]
    show (0 * 64 + j.val) * 1024 + d.val = j.val * 1024 + d.val
    omega)

/-- A tile's normed row is the row at its place. -/
theorem tileX_eq (c : Dev nD) (t : Fin cfg0.N) (r : Fin 528) (b : Fin 4) (n : ℕ) (hn : n < 4224) (hp : 528 * t.val + r.val = b.val * 4224 + n) :
    tileX (iblk m c 0 t) (iblk m c 2 t) r = xnAt (m ((c : Thread nD τ).loc main_arg0)) (m ((c : Thread nD τ).loc main_arg1)) b n := by
  funext d
  unfold tileX xnAt
  rw [dif_pos hn, funext (blk_2 m c t), funext fun k => blk_0 m c t r k b ⟨n, hn⟩ hp]

/-- What every point leaves, over the row carried into it. -/
def left (c : Dev nD) (t : Fin cfg0.N) (cr : Vec Ideal S1x1024 .f32) :=
  (k0_pay8 (k0_pay2 (iblk m c 0 t) (iblk m c 2 t)) (k0_pay4 (iblk m c 0 t) (iblk m c 2 t) cr) (muRow (iblk m c 3 t) 0) (wMat (iblk m c 4 t) 0),
    k0_pay9 (k0_pay2 (iblk m c 0 t) (iblk m c 2 t)) (k0_pay4 (iblk m c 0 t) (iblk m c 2 t) cr) (muRow (iblk m c 3 t) 1) (wMat (iblk m c 4 t) 1),
    k0_pay10 (k0_pay2 (iblk m c 0 t) (iblk m c 2 t)) (k0_pay4 (iblk m c 0 t) (iblk m c 2 t) cr) (muRow (iblk m c 3 t) 2) (wMat (iblk m c 4 t) 2),
    k0_pay11 (k0_pay2 (iblk m c 0 t) (iblk m c 2 t)) (k0_pay7 (k0_pay2 (iblk m c 0 t) (iblk m c 2 t)) (k0_pay4 (iblk m c 0 t) (iblk m c 2 t) cr)) (muRow (iblk m c 3 t) 3) (wMat (iblk m c 4 t) 3),
    k0_pay12 (k0_pay2 (iblk m c 0 t) (iblk m c 2 t)) (k0_pay7 (k0_pay2 (iblk m c 0 t) (iblk m c 2 t)) (k0_pay4 (iblk m c 0 t) (iblk m c 2 t) cr)) (muRow (iblk m c 3 t) 4) (iblk m c 6 t) (iblk m c 5 t) (iblk m c 7 t),
    k0_pay1 (k0_pay2 (iblk m c 0 t) (iblk m c 2 t)) (k0_pay7 (k0_pay2 (iblk m c 0 t) (iblk m c 2 t)) (k0_pay4 (iblk m c 0 t) (iblk m c 2 t) cr)) (muRow (iblk m c 3 t) 5) (iblk m c 9 t) (iblk m c 8 t) (iblk m c 10 t),
    k0_pay6 (iblk m c 0 t) (iblk m c 2 t),
    k0_pay5 (iblk m c 0 t) (iblk m c 2 t))

theorem outs_A (c : Dev nD) (t : Fin cfg0.N) (h0 : t.val % 8 = 0) : outsAt0 m c t.val t.isLt = left m c t (k0_pay3 (iblk m c 1 t)) := by
  rw [outsAt0_A m c t h0, eA11, eA12, eA13, eA14, eA15, eA16, eA17, eAs]
  rfl

theorem outs_B (c : Dev nD) (t : Fin cfg0.N) (h0 : ¬t.val % 8 = 0) :
    outsAt0 m c t.val t.isLt = left m c t (outsAt0 m c (t.val - 1) (by omega)).2.2.2.2.2.2.2 := by
  rw [outsAt0_B m c t h0, eB11, eB12, eB13, eB14, eB15, eB16, eB17, eBs]
  rfl

/-- The row a point leaves for the next one. -/
theorem carried (c : Dev nD) (t : Fin cfg0.N) (d : Fin 1024) :
    (outsAt0 m c t.val t.isLt).2.2.2.2.2.2.2 (ix2 (0 : Fin 1) d) = tileX (iblk m c 0 t) (iblk m c 2 t) 527 d := by
  by_cases h0 : t.val % 8 = 0
  · rw [outs_A m c t h0]; exact pay5_apply _ _ d
  · rw [outs_B m c t h0]; exact pay5_apply _ _ d

/-- What every point leaves, over the row before its first. -/
theorem outs (c : Dev nD) (t : Fin cfg0.N) : ∃ cr : Vec Ideal S1x1024 .f32, outsAt0 m c t.val t.isLt = left m c t cr ∧
    ∀ (d : Fin 1024) (b : Fin 4) (n : ℕ) (_ : n < 4224) (_ : 528 * t.val = b.val * 4224 + n), cr (ix2 (0 : Fin 1) d) = prevAt (m ((c : Thread nD τ).loc main_arg0)) (m ((c : Thread nD τ).loc main_arg1)) b n d := by
  have ht := pt_lt t
  by_cases h0 : t.val % 8 = 0
  · refine ⟨_, outs_A m c t h0, fun d b n hn hp => ?_⟩
    unfold prevAt
    rw [if_pos (by omega)]
    exact (pay3_apply _ d).trans (blk_1 m c t _)
  · refine ⟨_, outs_B m c t h0, fun d b n hn hp => ?_⟩
    unfold prevAt
    rw [if_neg (by omega)]
    refine (carried m c ⟨t.val - 1, by omega⟩ d).trans ?_
    rw [tileX_eq m c _ 527 b (n - 1) (by omega) (by show 528 * (t.val - 1) + 527 = _; omega)]

theorem tileP_eq (c : Dev nD) (t : Fin cfg0.N) (cr : Vec Ideal S1x1024 .f32)
    (hcr : ∀ (d : Fin 1024) (b : Fin 4) (n : ℕ) (_ : n < 4224) (_ : 528 * t.val = b.val * 4224 + n), cr (ix2 (0 : Fin 1) d) = prevAt (m ((c : Thread nD τ).loc main_arg0)) (m ((c : Thread nD τ).loc main_arg1)) b n d)
    (r : Fin 528) (b : Fin 4) (n : ℕ) (hn : n < 4224) (hp : 528 * t.val + r.val = b.val * 4224 + n) :
    tileP (iblk m c 0 t) (iblk m c 2 t) cr r = prevAt (m ((c : Thread nD τ).loc main_arg0)) (m ((c : Thread nD τ).loc main_arg1)) b n := by
  have ht := pt_lt t
  have hr := r.isLt
  funext d
  unfold tileP
  by_cases h0 : r.val = 0
  · rw [if_pos h0]
    exact hcr d b n hn (by omega)
  · rw [if_neg h0, tileX_eq m c t _ b (n - 1) (by omega) (by show 528 * t.val + (r.val - 1) = _; omega)]
    unfold prevAt
    rw [if_neg (by omega)]

/-- A tile's mix is the mix at its place. -/
theorem mixed_eq (c : Dev nD) (t : Fin cfg0.N) (cr : Vec Ideal S1x1024 .f32)
    (hcr : ∀ (d : Fin 1024) (b : Fin 4) (n : ℕ) (_ : n < 4224) (_ : 528 * t.val = b.val * 4224 + n), cr (ix2 (0 : Fin 1) d) = prevAt (m ((c : Thread nD τ).loc main_arg0)) (m ((c : Thread nD τ).loc main_arg1)) b n d)
    (k : Fin 6) (r : Fin 528) (b : Fin 4) (n : ℕ) (hn : n < 4224) (hp : 528 * t.val + r.val = b.val * 4224 + n) :
    mixed (fun d => k0_pay2 (iblk m c 0 t) (iblk m c 2 t) (ix2 r d)) (fun d => k0_pay4 (iblk m c 0 t) (iblk m c 2 t) cr (ix2 r d)) (fun d => muRow (iblk m c 3 t) k (ix2 (0 : Fin 1) d))
      = mixAt (m ((c : Thread nD τ).loc main_arg0)) (m ((c : Thread nD τ).loc main_arg1)) (m ((c : Thread nD τ).loc main_arg2)) k b n := by
  have e1 : (fun d => k0_pay2 (iblk m c 0 t) (iblk m c 2 t) (ix2 r d)) = xnAt (m ((c : Thread nD τ).loc main_arg0)) (m ((c : Thread nD τ).loc main_arg1)) b n :=
    (funext fun d => pay2_apply _ _ r d).trans (tileX_eq m c t r b n hn hp)
  have e2 : (fun d => k0_pay4 (iblk m c 0 t) (iblk m c 2 t) cr (ix2 r d)) = prevAt (m ((c : Thread nD τ).loc main_arg0)) (m ((c : Thread nD τ).loc main_arg1)) b n :=
    (funext fun d => pay4_apply _ _ cr r d).trans (tileP_eq m c t cr hcr r b n hn hp)
  have e3 : (fun d => muRow (iblk m c 3 t) k (ix2 (0 : Fin 1) d)) = fun d => (m ((c : Thread nD τ).loc main_arg2)) (ix3 (0 : Fin 1) k d) := funext fun d => blk_3 m c t k d
  rw [e1, e2, e3]
  rfl

theorem point_11 (c : Dev nD) (t : Fin cfg0.N) (R : Fin 528) (C : Fin 1024) (i : S16896x1024.Idx) (h0 : (i 0).val = 528 * t.val + R.val) (hC : C.val = (i 1).val) :
    (outsAt0 m c t.val t.isLt).1 (ix2 R C) = specW (m ((c : Thread nD τ).loc main_arg0)) (m ((c : Thread nD τ).loc main_arg1)) (m ((c : Thread nD τ).loc main_arg2)) (m ((c : Thread nD τ).loc main_arg3)) 0 i := by
  have hrow : 528 * t.val + R.val = (rb (i 0)).val * 4224 + (rp (i 0)).val := by
    show _ = (i 0).val / 4224 * 4224 + (i 0).val % 4224
    omega
  obtain ⟨cr, e, hcr⟩ := outs m c t
  rw [e]
  unfold specW
  refine (show _ = _ from mix_dot (k0_pay2 (iblk m c 0 t) (iblk m c 2 t)) (k0_pay4 (iblk m c 0 t) (iblk m c 2 t) cr) (muRow (iblk m c 3 t) 0) (wMat (iblk m c 4 t) 0) R C).trans ?_
  have ew : (fun d e => wMat (iblk m c 4 t) 0 (ix3 (0 : Fin 1) d e)) = fun d e => (m ((c : Thread nD τ).loc main_arg3)) (ix4 (0 : Fin 1) (⟨0, by omega⟩ : Fin 4) d e) :=
    funext fun d => funext fun e => blk_4 m c t 0 d e
  rw [mixed_eq m c t cr hcr 0 R (rb (i 0)) (rp (i 0)).val (rp (i 0)).isLt hrow, ew]
  exact congrArg _ (Fin.ext hC : C = i 1)

theorem flush_11 (c : Dev nD) (t : Fin cfg0.N) :
    (dats m 0 c).flushed 11 t = ((cfg0.win 11).blk t).view.read (Elt Ideal) (specW (m ((c : Thread nD τ).loc main_arg0)) (m ((c : Thread nD τ).loc main_arg1)) (m ((c : Thread nD τ).loc main_arg2)) (m ((c : Thread nD τ).loc main_arg3)) 0 : Buf (Elt Ideal) ((c : Thread nD τ).loc main_v20_0)) := by
  rw [Value.flushed11]
  obtain ⟨e0, e1⟩ := index_11 t
  funext y
  have h0 : (((cfg0.win 11).blk t).view.emb y 0).val = win0_11.index t (0 : Fin 2) * 528 + 1 * (y 0).val := rfl
  have h1 : (((cfg0.win 11).blk t).view.emb y 1).val = win0_11.index t (1 : Fin 2) * 1024 + 1 * (y 1).val := rfl
  rw [e0] at h0
  rw [e1] at h1
  have ey : (cfg0.win 11).xinj (grid0.coords t) y = ix2 (⟨(y 0).val, (y 0).isLt⟩ : Fin 528) (⟨(y 1).val, (y 1).isLt⟩ : Fin 1024) := by
    funext a; apply Fin.ext
    match a with
    | ⟨0, _⟩ => rfl
    | ⟨1, _⟩ => rfl
  show (outsAt0 m c t.val t.isLt).1 ((cfg0.win 11).xinj (grid0.coords t) y) = specW (m ((c : Thread nD τ).loc main_arg0)) (m ((c : Thread nD τ).loc main_arg1)) (m ((c : Thread nD τ).loc main_arg2)) (m ((c : Thread nD τ).loc main_arg3)) 0 (((cfg0.win 11).blk t).view.emb y)
  rw [ey]
  exact point_11 m c t _ _ _ (by rw [h0]; show _ = 528 * t.val + (y 0).val; omega) (by rw [h1]; show (y 1).val = _; omega)

theorem mem_11 (t : Fin cfg0.N) (i : S16896x1024.Idx) (h : (i 0).val / 528 = t.val) : i ∈ ((cfg0.win 11).blk t).view.set := by
  have h1 : (i 1).val < 1024 := (i 1).isLt
  obtain ⟨e0, e1⟩ := index_11 t
  show i ∈ ((View.whole main_v20_0).slice (win0_11.rect t)).set
  rw [View.set_slice_whole, Rect.mem_set_unit]
  intro a
  match a with
  | ⟨0, _⟩ =>
    show win0_11.index t (0 : Fin 2) * 528 ≤ (i 0).val ∧ (i 0).val < win0_11.index t (0 : Fin 2) * 528 + 528
    rw [e0]; omega
  | ⟨1, _⟩ =>
    show win0_11.index t (1 : Fin 2) * 1024 ≤ (i 1).val ∧ (i 1).val < win0_11.index t (1 : Fin 2) * 1024 + 1024
    rw [e1]; omega

theorem covered_11 (i : S16896x1024.Idx) : ∃ t : Fin cfg0.N, (cfg0.win 11).flush t = true ∧ i ∈ ((cfg0.win 11).blk t).view.set := by
  have h0 : (i 0).val < 16896 := (i 0).isLt
  exact ⟨pt ((i 0).val / 528) (by omega), flush0_11 _, mem_11 _ i rfl⟩

theorem arr_11 (c : Dev nD) : (dats m 0 c).arrAt 11 cfg0.N = (specW (m ((c : Thread nD τ).loc main_arg0)) (m ((c : Thread nD τ).loc main_arg1)) (m ((c : Thread nD τ).loc main_arg2)) (m ((c : Thread nD τ).loc main_arg3)) 0 : Buf (Elt Ideal) ((c : Thread nD τ).loc main_v20_0)) :=
  (dats m 0 c).arrAt_eq_of_cover 11 _ (fun t _ => flush_11 m c t) covered_11

theorem point_12 (c : Dev nD) (t : Fin cfg0.N) (R : Fin 528) (C : Fin 1024) (i : S16896x1024.Idx) (h0 : (i 0).val = 528 * t.val + R.val) (hC : C.val = (i 1).val) :
    (outsAt0 m c t.val t.isLt).2.1 (ix2 R C) = specW (m ((c : Thread nD τ).loc main_arg0)) (m ((c : Thread nD τ).loc main_arg1)) (m ((c : Thread nD τ).loc main_arg2)) (m ((c : Thread nD τ).loc main_arg3)) 1 i := by
  have hrow : 528 * t.val + R.val = (rb (i 0)).val * 4224 + (rp (i 0)).val := by
    show _ = (i 0).val / 4224 * 4224 + (i 0).val % 4224
    omega
  obtain ⟨cr, e, hcr⟩ := outs m c t
  rw [e]
  unfold specW
  refine (show _ = _ from mix_dot (k0_pay2 (iblk m c 0 t) (iblk m c 2 t)) (k0_pay4 (iblk m c 0 t) (iblk m c 2 t) cr) (muRow (iblk m c 3 t) 1) (wMat (iblk m c 4 t) 1) R C).trans ?_
  have ew : (fun d e => wMat (iblk m c 4 t) 1 (ix3 (0 : Fin 1) d e)) = fun d e => (m ((c : Thread nD τ).loc main_arg3)) (ix4 (0 : Fin 1) (⟨1, by omega⟩ : Fin 4) d e) :=
    funext fun d => funext fun e => blk_4 m c t 1 d e
  rw [mixed_eq m c t cr hcr 1 R (rb (i 0)) (rp (i 0)).val (rp (i 0)).isLt hrow, ew]
  exact congrArg _ (Fin.ext hC : C = i 1)

theorem flush_12 (c : Dev nD) (t : Fin cfg0.N) :
    (dats m 0 c).flushed 12 t = ((cfg0.win 12).blk t).view.read (Elt Ideal) (specW (m ((c : Thread nD τ).loc main_arg0)) (m ((c : Thread nD τ).loc main_arg1)) (m ((c : Thread nD τ).loc main_arg2)) (m ((c : Thread nD τ).loc main_arg3)) 1 : Buf (Elt Ideal) ((c : Thread nD τ).loc main_v20_1)) := by
  rw [Value.flushed12]
  obtain ⟨e0, e1⟩ := index_12 t
  funext y
  have h0 : (((cfg0.win 12).blk t).view.emb y 0).val = win0_12.index t (0 : Fin 2) * 528 + 1 * (y 0).val := rfl
  have h1 : (((cfg0.win 12).blk t).view.emb y 1).val = win0_12.index t (1 : Fin 2) * 1024 + 1 * (y 1).val := rfl
  rw [e0] at h0
  rw [e1] at h1
  have ey : (cfg0.win 12).xinj (grid0.coords t) y = ix2 (⟨(y 0).val, (y 0).isLt⟩ : Fin 528) (⟨(y 1).val, (y 1).isLt⟩ : Fin 1024) := by
    funext a; apply Fin.ext
    match a with
    | ⟨0, _⟩ => rfl
    | ⟨1, _⟩ => rfl
  show (outsAt0 m c t.val t.isLt).2.1 ((cfg0.win 12).xinj (grid0.coords t) y) = specW (m ((c : Thread nD τ).loc main_arg0)) (m ((c : Thread nD τ).loc main_arg1)) (m ((c : Thread nD τ).loc main_arg2)) (m ((c : Thread nD τ).loc main_arg3)) 1 (((cfg0.win 12).blk t).view.emb y)
  rw [ey]
  exact point_12 m c t _ _ _ (by rw [h0]; show _ = 528 * t.val + (y 0).val; omega) (by rw [h1]; show (y 1).val = _; omega)

theorem mem_12 (t : Fin cfg0.N) (i : S16896x1024.Idx) (h : (i 0).val / 528 = t.val) : i ∈ ((cfg0.win 12).blk t).view.set := by
  have h1 : (i 1).val < 1024 := (i 1).isLt
  obtain ⟨e0, e1⟩ := index_12 t
  show i ∈ ((View.whole main_v20_1).slice (win0_12.rect t)).set
  rw [View.set_slice_whole, Rect.mem_set_unit]
  intro a
  match a with
  | ⟨0, _⟩ =>
    show win0_12.index t (0 : Fin 2) * 528 ≤ (i 0).val ∧ (i 0).val < win0_12.index t (0 : Fin 2) * 528 + 528
    rw [e0]; omega
  | ⟨1, _⟩ =>
    show win0_12.index t (1 : Fin 2) * 1024 ≤ (i 1).val ∧ (i 1).val < win0_12.index t (1 : Fin 2) * 1024 + 1024
    rw [e1]; omega

theorem covered_12 (i : S16896x1024.Idx) : ∃ t : Fin cfg0.N, (cfg0.win 12).flush t = true ∧ i ∈ ((cfg0.win 12).blk t).view.set := by
  have h0 : (i 0).val < 16896 := (i 0).isLt
  exact ⟨pt ((i 0).val / 528) (by omega), flush0_12 _, mem_12 _ i rfl⟩

theorem arr_12 (c : Dev nD) : (dats m 0 c).arrAt 12 cfg0.N = (specW (m ((c : Thread nD τ).loc main_arg0)) (m ((c : Thread nD τ).loc main_arg1)) (m ((c : Thread nD τ).loc main_arg2)) (m ((c : Thread nD τ).loc main_arg3)) 1 : Buf (Elt Ideal) ((c : Thread nD τ).loc main_v20_1)) :=
  (dats m 0 c).arrAt_eq_of_cover 12 _ (fun t _ => flush_12 m c t) covered_12

theorem point_13 (c : Dev nD) (t : Fin cfg0.N) (R : Fin 528) (C : Fin 1024) (i : S16896x1024.Idx) (h0 : (i 0).val = 528 * t.val + R.val) (hC : C.val = (i 1).val) :
    (outsAt0 m c t.val t.isLt).2.2.1 (ix2 R C) = specW (m ((c : Thread nD τ).loc main_arg0)) (m ((c : Thread nD τ).loc main_arg1)) (m ((c : Thread nD τ).loc main_arg2)) (m ((c : Thread nD τ).loc main_arg3)) 2 i := by
  have hrow : 528 * t.val + R.val = (rb (i 0)).val * 4224 + (rp (i 0)).val := by
    show _ = (i 0).val / 4224 * 4224 + (i 0).val % 4224
    omega
  obtain ⟨cr, e, hcr⟩ := outs m c t
  rw [e]
  unfold specW
  refine (show _ = _ from mix_dot (k0_pay2 (iblk m c 0 t) (iblk m c 2 t)) (k0_pay4 (iblk m c 0 t) (iblk m c 2 t) cr) (muRow (iblk m c 3 t) 2) (wMat (iblk m c 4 t) 2) R C).trans ?_
  have ew : (fun d e => wMat (iblk m c 4 t) 2 (ix3 (0 : Fin 1) d e)) = fun d e => (m ((c : Thread nD τ).loc main_arg3)) (ix4 (0 : Fin 1) (⟨2, by omega⟩ : Fin 4) d e) :=
    funext fun d => funext fun e => blk_4 m c t 2 d e
  rw [mixed_eq m c t cr hcr 2 R (rb (i 0)) (rp (i 0)).val (rp (i 0)).isLt hrow, ew]
  exact congrArg _ (Fin.ext hC : C = i 1)

theorem flush_13 (c : Dev nD) (t : Fin cfg0.N) :
    (dats m 0 c).flushed 13 t = ((cfg0.win 13).blk t).view.read (Elt Ideal) (specW (m ((c : Thread nD τ).loc main_arg0)) (m ((c : Thread nD τ).loc main_arg1)) (m ((c : Thread nD τ).loc main_arg2)) (m ((c : Thread nD τ).loc main_arg3)) 2 : Buf (Elt Ideal) ((c : Thread nD τ).loc main_v20_2)) := by
  rw [Value.flushed13]
  obtain ⟨e0, e1⟩ := index_13 t
  funext y
  have h0 : (((cfg0.win 13).blk t).view.emb y 0).val = win0_13.index t (0 : Fin 2) * 528 + 1 * (y 0).val := rfl
  have h1 : (((cfg0.win 13).blk t).view.emb y 1).val = win0_13.index t (1 : Fin 2) * 1024 + 1 * (y 1).val := rfl
  rw [e0] at h0
  rw [e1] at h1
  have ey : (cfg0.win 13).xinj (grid0.coords t) y = ix2 (⟨(y 0).val, (y 0).isLt⟩ : Fin 528) (⟨(y 1).val, (y 1).isLt⟩ : Fin 1024) := by
    funext a; apply Fin.ext
    match a with
    | ⟨0, _⟩ => rfl
    | ⟨1, _⟩ => rfl
  show (outsAt0 m c t.val t.isLt).2.2.1 ((cfg0.win 13).xinj (grid0.coords t) y) = specW (m ((c : Thread nD τ).loc main_arg0)) (m ((c : Thread nD τ).loc main_arg1)) (m ((c : Thread nD τ).loc main_arg2)) (m ((c : Thread nD τ).loc main_arg3)) 2 (((cfg0.win 13).blk t).view.emb y)
  rw [ey]
  exact point_13 m c t _ _ _ (by rw [h0]; show _ = 528 * t.val + (y 0).val; omega) (by rw [h1]; show (y 1).val = _; omega)

theorem mem_13 (t : Fin cfg0.N) (i : S16896x1024.Idx) (h : (i 0).val / 528 = t.val) : i ∈ ((cfg0.win 13).blk t).view.set := by
  have h1 : (i 1).val < 1024 := (i 1).isLt
  obtain ⟨e0, e1⟩ := index_13 t
  show i ∈ ((View.whole main_v20_2).slice (win0_13.rect t)).set
  rw [View.set_slice_whole, Rect.mem_set_unit]
  intro a
  match a with
  | ⟨0, _⟩ =>
    show win0_13.index t (0 : Fin 2) * 528 ≤ (i 0).val ∧ (i 0).val < win0_13.index t (0 : Fin 2) * 528 + 528
    rw [e0]; omega
  | ⟨1, _⟩ =>
    show win0_13.index t (1 : Fin 2) * 1024 ≤ (i 1).val ∧ (i 1).val < win0_13.index t (1 : Fin 2) * 1024 + 1024
    rw [e1]; omega

theorem covered_13 (i : S16896x1024.Idx) : ∃ t : Fin cfg0.N, (cfg0.win 13).flush t = true ∧ i ∈ ((cfg0.win 13).blk t).view.set := by
  have h0 : (i 0).val < 16896 := (i 0).isLt
  exact ⟨pt ((i 0).val / 528) (by omega), flush0_13 _, mem_13 _ i rfl⟩

theorem arr_13 (c : Dev nD) : (dats m 0 c).arrAt 13 cfg0.N = (specW (m ((c : Thread nD τ).loc main_arg0)) (m ((c : Thread nD τ).loc main_arg1)) (m ((c : Thread nD τ).loc main_arg2)) (m ((c : Thread nD τ).loc main_arg3)) 2 : Buf (Elt Ideal) ((c : Thread nD τ).loc main_v20_2)) :=
  (dats m 0 c).arrAt_eq_of_cover 13 _ (fun t _ => flush_13 m c t) covered_13

theorem point_14 (c : Dev nD) (t : Fin cfg0.N) (R : Fin 528) (C : Fin 1024) (i : S16896x1024.Idx) (h0 : (i 0).val = 528 * t.val + R.val) (hC : C.val = (i 1).val) :
    (outsAt0 m c t.val t.isLt).2.2.2.1 (ix2 R C) = specW (m ((c : Thread nD τ).loc main_arg0)) (m ((c : Thread nD τ).loc main_arg1)) (m ((c : Thread nD τ).loc main_arg2)) (m ((c : Thread nD τ).loc main_arg3)) 3 i := by
  have hrow : 528 * t.val + R.val = (rb (i 0)).val * 4224 + (rp (i 0)).val := by
    show _ = (i 0).val / 4224 * 4224 + (i 0).val % 4224
    omega
  obtain ⟨cr, e, hcr⟩ := outs m c t
  rw [e]
  unfold specW
  refine (show _ = _ from mix_dot (k0_pay2 (iblk m c 0 t) (iblk m c 2 t)) (k0_pay4 (iblk m c 0 t) (iblk m c 2 t) cr) (muRow (iblk m c 3 t) 3) (wMat (iblk m c 4 t) 3) R C).trans ?_
  have ew : (fun d e => wMat (iblk m c 4 t) 3 (ix3 (0 : Fin 1) d e)) = fun d e => (m ((c : Thread nD τ).loc main_arg3)) (ix4 (0 : Fin 1) (⟨3, by omega⟩ : Fin 4) d e) :=
    funext fun d => funext fun e => blk_4 m c t 3 d e
  rw [mixed_eq m c t cr hcr 3 R (rb (i 0)) (rp (i 0)).val (rp (i 0)).isLt hrow, ew]
  exact congrArg _ (Fin.ext hC : C = i 1)

theorem flush_14 (c : Dev nD) (t : Fin cfg0.N) :
    (dats m 0 c).flushed 14 t = ((cfg0.win 14).blk t).view.read (Elt Ideal) (specW (m ((c : Thread nD τ).loc main_arg0)) (m ((c : Thread nD τ).loc main_arg1)) (m ((c : Thread nD τ).loc main_arg2)) (m ((c : Thread nD τ).loc main_arg3)) 3 : Buf (Elt Ideal) ((c : Thread nD τ).loc main_v20_3)) := by
  rw [Value.flushed14]
  obtain ⟨e0, e1⟩ := index_14 t
  funext y
  have h0 : (((cfg0.win 14).blk t).view.emb y 0).val = win0_14.index t (0 : Fin 2) * 528 + 1 * (y 0).val := rfl
  have h1 : (((cfg0.win 14).blk t).view.emb y 1).val = win0_14.index t (1 : Fin 2) * 1024 + 1 * (y 1).val := rfl
  rw [e0] at h0
  rw [e1] at h1
  have ey : (cfg0.win 14).xinj (grid0.coords t) y = ix2 (⟨(y 0).val, (y 0).isLt⟩ : Fin 528) (⟨(y 1).val, (y 1).isLt⟩ : Fin 1024) := by
    funext a; apply Fin.ext
    match a with
    | ⟨0, _⟩ => rfl
    | ⟨1, _⟩ => rfl
  show (outsAt0 m c t.val t.isLt).2.2.2.1 ((cfg0.win 14).xinj (grid0.coords t) y) = specW (m ((c : Thread nD τ).loc main_arg0)) (m ((c : Thread nD τ).loc main_arg1)) (m ((c : Thread nD τ).loc main_arg2)) (m ((c : Thread nD τ).loc main_arg3)) 3 (((cfg0.win 14).blk t).view.emb y)
  rw [ey]
  exact point_14 m c t _ _ _ (by rw [h0]; show _ = 528 * t.val + (y 0).val; omega) (by rw [h1]; show (y 1).val = _; omega)

theorem mem_14 (t : Fin cfg0.N) (i : S16896x1024.Idx) (h : (i 0).val / 528 = t.val) : i ∈ ((cfg0.win 14).blk t).view.set := by
  have h1 : (i 1).val < 1024 := (i 1).isLt
  obtain ⟨e0, e1⟩ := index_14 t
  show i ∈ ((View.whole main_v20_3).slice (win0_14.rect t)).set
  rw [View.set_slice_whole, Rect.mem_set_unit]
  intro a
  match a with
  | ⟨0, _⟩ =>
    show win0_14.index t (0 : Fin 2) * 528 ≤ (i 0).val ∧ (i 0).val < win0_14.index t (0 : Fin 2) * 528 + 528
    rw [e0]; omega
  | ⟨1, _⟩ =>
    show win0_14.index t (1 : Fin 2) * 1024 ≤ (i 1).val ∧ (i 1).val < win0_14.index t (1 : Fin 2) * 1024 + 1024
    rw [e1]; omega

theorem covered_14 (i : S16896x1024.Idx) : ∃ t : Fin cfg0.N, (cfg0.win 14).flush t = true ∧ i ∈ ((cfg0.win 14).blk t).view.set := by
  have h0 : (i 0).val < 16896 := (i 0).isLt
  exact ⟨pt ((i 0).val / 528) (by omega), flush0_14 _, mem_14 _ i rfl⟩

theorem arr_14 (c : Dev nD) : (dats m 0 c).arrAt 14 cfg0.N = (specW (m ((c : Thread nD τ).loc main_arg0)) (m ((c : Thread nD τ).loc main_arg1)) (m ((c : Thread nD τ).loc main_arg2)) (m ((c : Thread nD τ).loc main_arg3)) 3 : Buf (Elt Ideal) ((c : Thread nD τ).loc main_v20_3)) :=
  (dats m 0 c).arrAt_eq_of_cover 14 _ (fun t _ => flush_14 m c t) covered_14

theorem point_15 (c : Dev nD) (t : Fin cfg0.N) (R : Fin 528) (C : Fin 1024) (i : S16896x1024.Idx) (h0 : (i 0).val = 528 * t.val + R.val) (hC : C.val = (i 1).val) :
    (outsAt0 m c t.val t.isLt).2.2.2.2.1 (ix2 R C) = specD (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) i := by
  have hrow : 528 * t.val + R.val = (rb (i 0)).val * 4224 + (rp (i 0)).val := by
    show _ = (i 0).val / 4224 * 4224 + (i 0).val % 4224
    omega
  obtain ⟨cr, e, hcr⟩ := outs m c t
  rw [e]
  unfold specD
  refine (pay12_apply (k0_pay2 (iblk m c 0 t) (iblk m c 2 t)) (k0_pay4 (iblk m c 0 t) (iblk m c 2 t) cr) (muRow (iblk m c 3 t) 4) (iblk m c 6 t) (iblk m c 5 t) (iblk m c 7 t) R C).trans ?_
  have w0 : (fun e => iblk m c 5 t (ix2 (0 : Fin 1) e)) = fun e => (m ((c : Thread nD τ).loc main_arg4)) (ix2 (0 : Fin 1) e) := funext fun e => blk_5 m c t e
  have w1 : (fun d j => iblk m c 6 t (ix2 d j)) = fun d j => (m ((c : Thread nD τ).loc main_arg5)) (ix3 (0 : Fin 1) d j) := funext fun d => funext fun j => blk_6 m c t d j
  have w2 : (fun j e => iblk m c 7 t (ix2 j e)) = fun j e => (m ((c : Thread nD τ).loc main_arg6)) (ix3 (0 : Fin 1) j e) := funext fun j => funext fun e => blk_7 m c t j e
  rw [mixed_eq m c t cr hcr 4 R (rb (i 0)) (rp (i 0)).val (rp (i 0)).isLt hrow]
  exact logd_congr _ w0 w1 w2 (Fin.ext hC)

theorem flush_15 (c : Dev nD) (t : Fin cfg0.N) :
    (dats m 0 c).flushed 15 t = ((cfg0.win 15).blk t).view.read (Elt Ideal) (specD (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) : Buf (Elt Ideal) ((c : Thread nD τ).loc main_v20_4)) := by
  rw [Value.flushed15]
  obtain ⟨e0, e1⟩ := index_15 t
  funext y
  have h0 : (((cfg0.win 15).blk t).view.emb y 0).val = win0_15.index t (0 : Fin 2) * 528 + 1 * (y 0).val := rfl
  have h1 : (((cfg0.win 15).blk t).view.emb y 1).val = win0_15.index t (1 : Fin 2) * 1024 + 1 * (y 1).val := rfl
  rw [e0] at h0
  rw [e1] at h1
  have ey : (cfg0.win 15).xinj (grid0.coords t) y = ix2 (⟨(y 0).val, (y 0).isLt⟩ : Fin 528) (⟨(y 1).val, (y 1).isLt⟩ : Fin 1024) := by
    funext a; apply Fin.ext
    match a with
    | ⟨0, _⟩ => rfl
    | ⟨1, _⟩ => rfl
  show (outsAt0 m c t.val t.isLt).2.2.2.2.1 ((cfg0.win 15).xinj (grid0.coords t) y) = specD (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (((cfg0.win 15).blk t).view.emb y)
  rw [ey]
  exact point_15 m c t _ _ _ (by rw [h0]; show _ = 528 * t.val + (y 0).val; omega) (by rw [h1]; show (y 1).val = _; omega)

theorem mem_15 (t : Fin cfg0.N) (i : S16896x1024.Idx) (h : (i 0).val / 528 = t.val) : i ∈ ((cfg0.win 15).blk t).view.set := by
  have h1 : (i 1).val < 1024 := (i 1).isLt
  obtain ⟨e0, e1⟩ := index_15 t
  show i ∈ ((View.whole main_v20_4).slice (win0_15.rect t)).set
  rw [View.set_slice_whole, Rect.mem_set_unit]
  intro a
  match a with
  | ⟨0, _⟩ =>
    show win0_15.index t (0 : Fin 2) * 528 ≤ (i 0).val ∧ (i 0).val < win0_15.index t (0 : Fin 2) * 528 + 528
    rw [e0]; omega
  | ⟨1, _⟩ =>
    show win0_15.index t (1 : Fin 2) * 1024 ≤ (i 1).val ∧ (i 1).val < win0_15.index t (1 : Fin 2) * 1024 + 1024
    rw [e1]; omega

theorem covered_15 (i : S16896x1024.Idx) : ∃ t : Fin cfg0.N, (cfg0.win 15).flush t = true ∧ i ∈ ((cfg0.win 15).blk t).view.set := by
  have h0 : (i 0).val < 16896 := (i 0).isLt
  exact ⟨pt ((i 0).val / 528) (by omega), flush0_15 _, mem_15 _ i rfl⟩

theorem arr_15 (c : Dev nD) : (dats m 0 c).arrAt 15 cfg0.N = (specD (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) : Buf (Elt Ideal) ((c : Thread nD τ).loc main_v20_4)) :=
  (dats m 0 c).arrAt_eq_of_cover 15 _ (fun t _ => flush_15 m c t) covered_15

theorem point_16 (c : Dev nD) (t : Fin cfg0.N) (R : Fin 528) (C : Fin 1024) (i : S16896x1024.Idx) (h0 : (i 0).val = 528 * t.val + R.val) (hC : C.val = (i 1).val) :
    (outsAt0 m c t.val t.isLt).2.2.2.2.2.1 (ix2 R C) = specA (m ((c : Thread nD τ).loc main_arg0)) (m ((c : Thread nD τ).loc main_arg1)) (m ((c : Thread nD τ).loc main_arg2)) (m ((c : Thread nD τ).loc main_arg7)) (m ((c : Thread nD τ).loc main_arg8)) (m ((c : Thread nD τ).loc main_arg9)) i := by
  have hrow : 528 * t.val + R.val = (rb (i 0)).val * 4224 + (rp (i 0)).val := by
    show _ = (i 0).val / 4224 * 4224 + (i 0).val % 4224
    omega
  obtain ⟨cr, e, hcr⟩ := outs m c t
  rw [e]
  unfold specA
  refine (pay1_apply (k0_pay2 (iblk m c 0 t) (iblk m c 2 t)) (k0_pay4 (iblk m c 0 t) (iblk m c 2 t) cr) (muRow (iblk m c 3 t) 5) (iblk m c 9 t) (iblk m c 8 t) (iblk m c 10 t) R C).trans ?_
  have w0 : (fun e => iblk m c 8 t (ix2 (0 : Fin 1) e)) = fun e => (m ((c : Thread nD τ).loc main_arg7)) (ix2 (0 : Fin 1) e) := funext fun e => blk_8 m c t e
  have w1 : (fun d j => iblk m c 9 t (ix2 d j)) = fun d j => (m ((c : Thread nD τ).loc main_arg8)) (ix3 (0 : Fin 1) d j) := funext fun d => funext fun j => blk_9 m c t d j
  have w2 : (fun j e => iblk m c 10 t (ix2 j e)) = fun j e => (m ((c : Thread nD τ).loc main_arg9)) (ix3 (0 : Fin 1) j e) := funext fun j => funext fun e => blk_10 m c t j e
  rw [mixed_eq m c t cr hcr 5 R (rb (i 0)) (rp (i 0)).val (rp (i 0)).isLt hrow]
  exact rate_congr _ w0 w1 w2 (Fin.ext hC)

theorem flush_16 (c : Dev nD) (t : Fin cfg0.N) :
    (dats m 0 c).flushed 16 t = ((cfg0.win 16).blk t).view.read (Elt Ideal) (specA (m ((c : Thread nD τ).loc main_arg0)) (m ((c : Thread nD τ).loc main_arg1)) (m ((c : Thread nD τ).loc main_arg2)) (m ((c : Thread nD τ).loc main_arg7)) (m ((c : Thread nD τ).loc main_arg8)) (m ((c : Thread nD τ).loc main_arg9)) : Buf (Elt Ideal) ((c : Thread nD τ).loc main_v20_5)) := by
  rw [Value.flushed16]
  obtain ⟨e0, e1⟩ := index_16 t
  funext y
  have h0 : (((cfg0.win 16).blk t).view.emb y 0).val = win0_16.index t (0 : Fin 2) * 528 + 1 * (y 0).val := rfl
  have h1 : (((cfg0.win 16).blk t).view.emb y 1).val = win0_16.index t (1 : Fin 2) * 1024 + 1 * (y 1).val := rfl
  rw [e0] at h0
  rw [e1] at h1
  have ey : (cfg0.win 16).xinj (grid0.coords t) y = ix2 (⟨(y 0).val, (y 0).isLt⟩ : Fin 528) (⟨(y 1).val, (y 1).isLt⟩ : Fin 1024) := by
    funext a; apply Fin.ext
    match a with
    | ⟨0, _⟩ => rfl
    | ⟨1, _⟩ => rfl
  show (outsAt0 m c t.val t.isLt).2.2.2.2.2.1 ((cfg0.win 16).xinj (grid0.coords t) y) = specA (m ((c : Thread nD τ).loc main_arg0)) (m ((c : Thread nD τ).loc main_arg1)) (m ((c : Thread nD τ).loc main_arg2)) (m ((c : Thread nD τ).loc main_arg7)) (m ((c : Thread nD τ).loc main_arg8)) (m ((c : Thread nD τ).loc main_arg9)) (((cfg0.win 16).blk t).view.emb y)
  rw [ey]
  exact point_16 m c t _ _ _ (by rw [h0]; show _ = 528 * t.val + (y 0).val; omega) (by rw [h1]; show (y 1).val = _; omega)

theorem mem_16 (t : Fin cfg0.N) (i : S16896x1024.Idx) (h : (i 0).val / 528 = t.val) : i ∈ ((cfg0.win 16).blk t).view.set := by
  have h1 : (i 1).val < 1024 := (i 1).isLt
  obtain ⟨e0, e1⟩ := index_16 t
  show i ∈ ((View.whole main_v20_5).slice (win0_16.rect t)).set
  rw [View.set_slice_whole, Rect.mem_set_unit]
  intro a
  match a with
  | ⟨0, _⟩ =>
    show win0_16.index t (0 : Fin 2) * 528 ≤ (i 0).val ∧ (i 0).val < win0_16.index t (0 : Fin 2) * 528 + 528
    rw [e0]; omega
  | ⟨1, _⟩ =>
    show win0_16.index t (1 : Fin 2) * 1024 ≤ (i 1).val ∧ (i 1).val < win0_16.index t (1 : Fin 2) * 1024 + 1024
    rw [e1]; omega

theorem covered_16 (i : S16896x1024.Idx) : ∃ t : Fin cfg0.N, (cfg0.win 16).flush t = true ∧ i ∈ ((cfg0.win 16).blk t).view.set := by
  have h0 : (i 0).val < 16896 := (i 0).isLt
  exact ⟨pt ((i 0).val / 528) (by omega), flush0_16 _, mem_16 _ i rfl⟩

theorem arr_16 (c : Dev nD) : (dats m 0 c).arrAt 16 cfg0.N = (specA (m ((c : Thread nD τ).loc main_arg0)) (m ((c : Thread nD τ).loc main_arg1)) (m ((c : Thread nD τ).loc main_arg2)) (m ((c : Thread nD τ).loc main_arg7)) (m ((c : Thread nD τ).loc main_arg8)) (m ((c : Thread nD τ).loc main_arg9)) : Buf (Elt Ideal) ((c : Thread nD τ).loc main_v20_5)) :=
  (dats m 0 c).arrAt_eq_of_cover 16 _ (fun t _ => flush_16 m c t) covered_16

theorem flush_17 (c : Dev nD) (t : Fin cfg0.N) (hf : (cfg0.win 17).flush t = true) :
    (dats m 0 c).flushed 17 t = ((cfg0.win 17).blk t).view.read (Elt Ideal) (specX (m ((c : Thread nD τ).loc main_arg0)) (m ((c : Thread nD τ).loc main_arg1)) : Buf (Elt Ideal) ((c : Thread nD τ).loc main_v20_6)) := by
  have ht := pt_lt t
  have h7 : t.val % 8 = 7 := (flush0_17 t).mp hf
  rw [Value.flushed17]
  obtain ⟨e0, e1, e2⟩ := index_17 t
  funext y
  have hy0 : (y 0).val < 1 := (y 0).isLt
  have hy1 : (y 1).val < 1 := (y 1).isLt
  have h0 : (((cfg0.win 17).blk t).view.emb y 0).val = win0_17.index t (0 : Fin 3) * 1 + 1 * (y 0).val := rfl
  have h2 : (((cfg0.win 17).blk t).view.emb y 2).val = win0_17.index t (2 : Fin 3) * 1024 + 1 * (y 2).val := rfl
  rw [e0] at h0
  rw [e2] at h2
  have ey : (cfg0.win 17).xinj (grid0.coords t) y = ix3 (0 : Fin 1) (0 : Fin 1) (⟨(y 2).val, (y 2).isLt⟩ : Fin 1024) := by
    funext a; apply Fin.ext
    match a with
    | ⟨0, _⟩ => show (y 0).val = 0; omega
    | ⟨1, _⟩ => show (y 1).val = 0; omega
    | ⟨2, _⟩ => rfl
  obtain ⟨cr, e, hcr⟩ := outs m c t
  show (outsAt0 m c t.val t.isLt).2.2.2.2.2.2.1 ((cfg0.win 17).xinj (grid0.coords t) y) = specX (m ((c : Thread nD τ).loc main_arg0)) (m ((c : Thread nD τ).loc main_arg1)) (((cfg0.win 17).blk t).view.emb y)
  rw [ey, e]
  refine (pay6_apply (iblk m c 0 t) (iblk m c 2 t) _).trans ?_
  rw [tileX_eq m c t 527 (((cfg0.win 17).blk t).view.emb y 0) 4223 (by omega) (by rw [h0]; show 528 * t.val + 527 = _; omega)]
  exact congrArg _ (Fin.ext (by rw [h2]; show (y 2).val = _; omega))

theorem mem_17 (t : Fin cfg0.N) (i : S4x1x1024.Idx) (h : t.val / 8 = (i 0).val) : i ∈ ((cfg0.win 17).blk t).view.set := by
  have h1 : (i 1).val < 1 := (i 1).isLt
  have h2 : (i 2).val < 1024 := (i 2).isLt
  obtain ⟨e0, e1, e2⟩ := index_17 t
  show i ∈ ((View.whole main_v20_6).slice (win0_17.rect t)).set
  rw [View.set_slice_whole, Rect.mem_set_unit]
  intro a
  match a with
  | ⟨0, _⟩ =>
    show win0_17.index t (0 : Fin 3) * 1 ≤ (i 0).val ∧ (i 0).val < win0_17.index t (0 : Fin 3) * 1 + 1
    rw [e0]; omega
  | ⟨1, _⟩ =>
    show win0_17.index t (1 : Fin 3) * 1 ≤ (i 1).val ∧ (i 1).val < win0_17.index t (1 : Fin 3) * 1 + 1
    rw [e1]; omega
  | ⟨2, _⟩ =>
    show win0_17.index t (2 : Fin 3) * 1024 ≤ (i 2).val ∧ (i 2).val < win0_17.index t (2 : Fin 3) * 1024 + 1024
    rw [e2]; omega

theorem covered_17 (i : S4x1x1024.Idx) : ∃ t : Fin cfg0.N, (cfg0.win 17).flush t = true ∧ i ∈ ((cfg0.win 17).blk t).view.set := by
  have h0 : (i 0).val < 4 := (i 0).isLt
  exact ⟨pt ((i 0).val * 8 + 7) (by omega), (flush0_17 _).mpr (by show ((i 0).val * 8 + 7) % 8 = 7; omega), mem_17 _ i (by show ((i 0).val * 8 + 7) / 8 = _; omega)⟩

theorem arr_17 (c : Dev nD) : (dats m 0 c).arrAt 17 cfg0.N = (specX (m ((c : Thread nD τ).loc main_arg0)) (m ((c : Thread nD τ).loc main_arg1)) : Buf (Elt Ideal) ((c : Thread nD τ).loc main_v20_6)) :=
  (dats m 0 c).arrAt_eq_of_cover 17 _ (fun t hf => flush_17 m c t hf) covered_17

end ProjW

end
-- ==== Proof.Index.lean ====
module

public import proofs.«01_k».proof.Proof.Norm

@[expose] public section

noncomputable section

/-! An index is known from its coordinates. -/

namespace Proj

open Idealize.ShloMosaic Idealize.ShloMosaic.ValueIdx

theorem at1 {a : ℕ} (z : (⟨1, ![a]⟩ : Shape).Idx) (x : Fin a) (h0 : (z 0).val = x.val) : z = ix1 x := by
  funext k; apply Fin.ext
  match k with
  | ⟨0, _⟩ => exact h0

theorem at2 {a b : ℕ} (z : (⟨2, ![a, b]⟩ : Shape).Idx) (x : Fin a) (y : Fin b) (h0 : (z 0).val = x.val) (h1 : (z 1).val = y.val) : z = ix2 x y := by
  funext k; apply Fin.ext
  match k with
  | ⟨0, _⟩ => exact h0
  | ⟨1, _⟩ => exact h1

theorem at3 {a b c : ℕ} (z : (⟨3, ![a, b, c]⟩ : Shape).Idx) (x : Fin a) (y : Fin b) (w : Fin c) (h0 : (z 0).val = x.val) (h1 : (z 1).val = y.val) (h2 : (z 2).val = w.val) :
    z = ix3 x y w := by
  funext k; apply Fin.ext
  match k with
  | ⟨0, _⟩ => exact h0
  | ⟨1, _⟩ => exact h1
  | ⟨2, _⟩ => exact h2

theorem at4 {a b c d : ℕ} (z : (⟨4, ![a, b, c, d]⟩ : Shape).Idx) (x : Fin a) (y : Fin b) (w : Fin c) (v : Fin d) (h0 : (z 0).val = x.val) (h1 : (z 1).val = y.val)
    (h2 : (z 2).val = w.val) (h3 : (z 3).val = v.val) : z = ix4 x y w v := by
  funext k; apply Fin.ext
  match k with
  | ⟨0, _⟩ => exact h0
  | ⟨1, _⟩ => exact h1
  | ⟨2, _⟩ => exact h2
  | ⟨3, _⟩ => exact h3

end Proj

end
-- ==== Proof.WRef.lean ====
module

public import proofs.«01_k».proof.Proof.WSpec
public import proofs.«01_k».proof.Proof.Index
public import proofs.«01_k».proof.Proof.Gen.RwkvProjRefIdeal.Read

@[expose] public section

noncomputable section

/-! The reference of the time mixing's projections, read value by value. -/

namespace ProjW

open Proj Cert.RwkvProjRefIdeal Cert.RwkvProjRefIdeal.Gen Cert.RwkvProjRefIdeal.Read Idealize.ShloMosaic Idealize.ShloMosaic.ValueIdx

variable (h : FVec Ideal ⟨3, ![4, 4224, 1024]⟩ .f32) (gn : FVec Ideal ⟨2, ![2, 1024]⟩ .f32) (mu : FVec Ideal ⟨3, ![1, 6, 1024]⟩ .f32)
  (w : FVec Ideal ⟨4, ![1, 4, 1024, 1024]⟩ .f32)
  (w0 : FVec Ideal ⟨2, ![1, 1024]⟩ .f32) (w1 : FVec Ideal ⟨3, ![1, 1024, 64]⟩ .f32) (w2 : FVec Ideal ⟨3, ![1, 64, 1024]⟩ .f32)

theorem ref_scale (b : Fin 4) (p : Fin 4224) (z : S4x4224x1.Idx) (h0 : (z 0).val = b.val) (h1 : (z 1).val = p.val) :
    val_main_v9 (F := Ideal) h z = scale (fun k => h (ix3 b p k)) := by
  rw [val_main_v9_apply, val_main_v8_apply, val_main_v6_apply, val_main_v7_apply, val_main_cst_1_apply, val_main_v5_apply, val_main_cst_0_apply, val_main_v4_apply, val_main_v3_apply,
    val_main_cst_apply]
  have e : ∀ k : Fin 1024, val_main_v2 (F := Ideal) h (idx_main_v3 (idx_main_v4 z) k) = h (ix3 b p k) * h (ix3 b p k) := fun k => by
    rw [val_main_v2_apply, at3 (idx_main_v3 (idx_main_v4 z) k) b p k h0 h1 rfl]
    rfl
  rw [Finset.sum_congr rfl fun k _ => e k]
  unfold scale
  show Ideal.rsqrt (Ideal.div (Ideal.ofBits .f32 0x00000000#32 + _) _ + _) = _
  rw [Ideal.ofBits_zero_f32, zero_add]
  rfl

theorem ref_xn (b : Fin 4) (p : Fin 4224) (d : Fin 1024) : val_main_v14 (F := Ideal) h gn (ix3 b p d) = xnAt h gn b p.val d := by
  rw [val_main_v14_apply, val_main_v11_apply, val_main_v10_apply, ref_scale h b p _ rfl rfl, val_main_v13_apply, val_main_v12_apply, val_main_v1_apply, val_main_v0_apply]
  unfold xnAt
  rw [dif_pos p.isLt]
  unfold nrm
  refine congrArg (fun y : EReal => h (ix3 b p d) * scale (fun k => h (ix3 b p k)) * y) (congrArg gn (at2 _ (1 : Fin 2) d rfl ?_))
  show d.val % 1024 = d.val
  omega

theorem ref_prev (b : Fin 4) (p : Fin 4224) (d : Fin 1024) : val_main_v20 (F := Ideal) h gn (ix3 b p d) = prevAt h gn b p.val d := by
  unfold val_main_v20 prevAt
  by_cases hp : p.val = 0
  · rw [if_pos hp]
    refine (concatenate_pair_apply_left (t := S4x4224x1024) (1 : Fin 3) _ _ concatenates_S4x1x1024_S4x4223x1024_S4x4224x1024_d1 _ rfl (ix3 b (0 : Fin 1) d) ?_).trans ?_
    · intro a
      match a with
      | ⟨0, _⟩ => rfl
      | ⟨1, _⟩ => exact hp.symm
      | ⟨2, _⟩ => rfl
    · rw [val_main_v18_apply, val_main_v17_apply, val_main_cst_2_apply]
      exact Ideal.ofBits_zero_f32
  · rw [if_neg hp]
    refine (concatenate_pair_apply_right (t := S4x4224x1024) (1 : Fin 3) _ _ concatenates_S4x1x1024_S4x4223x1024_S4x4224x1024_d1 _ rfl rfl
      (ix3 b (⟨p.val - 1, by omega⟩ : Fin 4223) d) ?_ ?_).trans ?_
    · intro a ha
      match a with
      | ⟨0, _⟩ => rfl
      | ⟨1, _⟩ => exact absurd rfl ha
      | ⟨2, _⟩ => rfl
    · show (p.val - 1) + 1 = p.val; omega
    · rw [val_main_v19_apply, at3 (idx_main_v19 (ix3 b (⟨p.val - 1, by omega⟩ : Fin 4223) d)) b (⟨p.val - 1, by omega⟩ : Fin 4224) d rfl rfl rfl]
      exact ref_xn h gn b _ d

theorem ref_mix (c : Fin 6) (b : Fin 4) (p : Fin 4224) (d : Fin 1024) : val_main_v29 (F := Ideal) h gn mu (ix4 c b p d) = mixAt h gn mu c b p.val d := by
  rw [val_main_v29_apply, val_main_v28_apply, val_main_v21_apply, val_main_v27_apply, val_main_v25_apply, val_main_v23_apply, val_main_v22_apply, val_main_v26_apply,
    val_main_v24_apply, val_main_v15_apply]
  rw [at3 (idx_main_v21 (idx_main_v28 (ix4 c b p d))) b p d rfl rfl rfl, at3 (idx_main_v23 (idx_main_v25 (ix4 c b p d))) b p d rfl rfl rfl,
    at3 (idx_main_v15 (idx_main_v24 (idx_main_v26 (ix4 c b p d)))) (0 : Fin 1) c d rfl (by show (c.val * 1024 + d.val) / 1024 % 6 = c.val; omega)
      (by show (c.val * 1024 + d.val) % 1024 = d.val; omega), ref_xn, ref_prev]
  rfl

theorem ref_lin (c : Fin 4) (b : Fin 4) (p : Fin 4224) (e : Fin 1024) :
    val_main_v31 (F := Ideal) h gn mu w (ix4 c b p e) = lin (mixAt h gn mu ⟨c.val, by omega⟩ b p.val) (fun d e => w (ix4 (0 : Fin 1) c d e)) e := by
  rw [val_main_v31_apply]
  unfold lin
  refine Finset.sum_congr rfl fun d _ => ?_
  rw [val_main_v30_apply, val_main_v16_apply, at4 (idx_main_v30 (lidx_main_v31 (ix4 c b p e) d)) (⟨c.val, by omega⟩ : Fin 6) b p d rfl rfl rfl rfl, ref_mix,
    at4 (idx_main_v16 (ridx_main_v31 (ix4 c b p e) d)) (0 : Fin 1) c d e rfl (by show ((c.val * 1024 + d.val) * 1024 + e.val) / 1048576 % 4 = c.val; omega)
      (by show ((c.val * 1024 + d.val) * 1024 + e.val) / 1024 % 1024 = d.val; omega) (by show ((c.val * 1024 + d.val) * 1024 + e.val) % 1024 = e.val; omega)]

theorem ref_out0 (i : S16896x1024.Idx) : val_main_v75 (F := Ideal) h gn mu w i = specW h gn mu w 0 i := by
  have i0 : (i 0).val < 16896 := (i 0).isLt
  have i1 : (i 1).val < 1024 := (i 1).isLt
  have hb := (rb (i 0)).isLt
  have hp := (rp (i 0)).isLt
  rw [val_main_v75_apply, at3 (idx_main_v75 i) (rb (i 0)) (rp (i 0)) (i 1) (by show ((i 0).val * 1024 + (i 1).val) / 4325376 = (i 0).val / 4224; omega)
    (by show ((i 0).val * 1024 + (i 1).val) / 1024 % 4224 = (i 0).val % 4224; omega) (by show ((i 0).val * 1024 + (i 1).val) % 1024 = (i 1).val; omega),
    val_main_v33_apply, val_main_v32_apply]
  rw [at4 (idx_main_v32 (idx_main_v33 (ix3 (rb (i 0)) (rp (i 0)) (i 1)))) (0 : Fin 4) (rb (i 0)) (rp (i 0)) (i 1) rfl
    (by show (((rb (i 0)).val * 4224 + (rp (i 0)).val) * 1024 + (i 1).val) / 4325376 % 4 = (rb (i 0)).val; omega)
    (by show (((rb (i 0)).val * 4224 + (rp (i 0)).val) * 1024 + (i 1).val) / 1024 % 4224 = (rp (i 0)).val; omega)
    (by show (((rb (i 0)).val * 4224 + (rp (i 0)).val) * 1024 + (i 1).val) % 1024 = (i 1).val; omega)]
  exact ref_lin h gn mu w 0 (rb (i 0)) (rp (i 0)) (i 1)

theorem ref_out1 (i : S16896x1024.Idx) : val_main_v76 (F := Ideal) h gn mu w i = specW h gn mu w 1 i := by
  have i0 : (i 0).val < 16896 := (i 0).isLt
  have i1 : (i 1).val < 1024 := (i 1).isLt
  have hb := (rb (i 0)).isLt
  have hp := (rp (i 0)).isLt
  rw [val_main_v76_apply, at3 (idx_main_v76 i) (rb (i 0)) (rp (i 0)) (i 1) (by show ((i 0).val * 1024 + (i 1).val) / 4325376 = (i 0).val / 4224; omega)
    (by show ((i 0).val * 1024 + (i 1).val) / 1024 % 4224 = (i 0).val % 4224; omega) (by show ((i 0).val * 1024 + (i 1).val) % 1024 = (i 1).val; omega),
    val_main_v35_apply, val_main_v34_apply]
  rw [at4 (idx_main_v34 (idx_main_v35 (ix3 (rb (i 0)) (rp (i 0)) (i 1)))) (1 : Fin 4) (rb (i 0)) (rp (i 0)) (i 1) rfl
    (by show (((rb (i 0)).val * 4224 + (rp (i 0)).val) * 1024 + (i 1).val) / 4325376 % 4 = (rb (i 0)).val; omega)
    (by show (((rb (i 0)).val * 4224 + (rp (i 0)).val) * 1024 + (i 1).val) / 1024 % 4224 = (rp (i 0)).val; omega)
    (by show (((rb (i 0)).val * 4224 + (rp (i 0)).val) * 1024 + (i 1).val) % 1024 = (i 1).val; omega)]
  exact ref_lin h gn mu w 1 (rb (i 0)) (rp (i 0)) (i 1)

theorem ref_out2 (i : S16896x1024.Idx) : val_main_v77 (F := Ideal) h gn mu w i = specW h gn mu w 2 i := by
  have i0 : (i 0).val < 16896 := (i 0).isLt
  have i1 : (i 1).val < 1024 := (i 1).isLt
  have hb := (rb (i 0)).isLt
  have hp := (rp (i 0)).isLt
  rw [val_main_v77_apply, at3 (idx_main_v77 i) (rb (i 0)) (rp (i 0)) (i 1) (by show ((i 0).val * 1024 + (i 1).val) / 4325376 = (i 0).val / 4224; omega)
    (by show ((i 0).val * 1024 + (i 1).val) / 1024 % 4224 = (i 0).val % 4224; omega) (by show ((i 0).val * 1024 + (i 1).val) % 1024 = (i 1).val; omega),
    val_main_v37_apply, val_main_v36_apply]
  rw [at4 (idx_main_v36 (idx_main_v37 (ix3 (rb (i 0)) (rp (i 0)) (i 1)))) (2 : Fin 4) (rb (i 0)) (rp (i 0)) (i 1) rfl
    (by show (((rb (i 0)).val * 4224 + (rp (i 0)).val) * 1024 + (i 1).val) / 4325376 % 4 = (rb (i 0)).val; omega)
    (by show (((rb (i 0)).val * 4224 + (rp (i 0)).val) * 1024 + (i 1).val) / 1024 % 4224 = (rp (i 0)).val; omega)
    (by show (((rb (i 0)).val * 4224 + (rp (i 0)).val) * 1024 + (i 1).val) % 1024 = (i 1).val; omega)]
  exact ref_lin h gn mu w 2 (rb (i 0)) (rp (i 0)) (i 1)

theorem ref_out3 (i : S16896x1024.Idx) : val_main_v78 (F := Ideal) h gn mu w i = specW h gn mu w 3 i := by
  have i0 : (i 0).val < 16896 := (i 0).isLt
  have i1 : (i 1).val < 1024 := (i 1).isLt
  have hb := (rb (i 0)).isLt
  have hp := (rp (i 0)).isLt
  rw [val_main_v78_apply, at3 (idx_main_v78 i) (rb (i 0)) (rp (i 0)) (i 1) (by show ((i 0).val * 1024 + (i 1).val) / 4325376 = (i 0).val / 4224; omega)
    (by show ((i 0).val * 1024 + (i 1).val) / 1024 % 4224 = (i 0).val % 4224; omega) (by show ((i 0).val * 1024 + (i 1).val) % 1024 = (i 1).val; omega),
    val_main_v39_apply, val_main_v38_apply]
  rw [at4 (idx_main_v38 (idx_main_v39 (ix3 (rb (i 0)) (rp (i 0)) (i 1)))) (3 : Fin 4) (rb (i 0)) (rp (i 0)) (i 1) rfl
    (by show (((rb (i 0)).val * 4224 + (rp (i 0)).val) * 1024 + (i 1).val) / 4325376 % 4 = (rb (i 0)).val; omega)
    (by show (((rb (i 0)).val * 4224 + (rp (i 0)).val) * 1024 + (i 1).val) / 1024 % 4224 = (rp (i 0)).val; omega)
    (by show (((rb (i 0)).val * 4224 + (rp (i 0)).val) * 1024 + (i 1).val) % 1024 = (i 1).val; omega)]
  exact ref_lin h gn mu w 3 (rb (i 0)) (rp (i 0)) (i 1)

theorem ref_mld (b : Fin 4) (p : Fin 4224) (d : Fin 1024) : val_main_v41 (F := Ideal) h gn mu (ix3 b p d) = mixAt h gn mu 4 b p.val d := by
  have hb := b.isLt
  have hp := p.isLt
  rw [val_main_v41_apply, val_main_v40_apply, at4 (idx_main_v40 (idx_main_v41 (ix3 b p d))) (4 : Fin 6) b p d rfl
    (by show ((b.val * 4224 + p.val) * 1024 + d.val) / 4325376 % 4 = b.val; omega)
    (by show ((b.val * 4224 + p.val) * 1024 + d.val) / 1024 % 4224 = p.val; omega)
    (by show ((b.val * 4224 + p.val) * 1024 + d.val) % 1024 = d.val; omega)]
  exact ref_mix h gn mu 4 b p d

theorem ref_tld (b : Fin 4) (p : Fin 4224) (j : Fin 64) :
    val_main_v46 (F := Ideal) h gn mu w1 (ix3 b p j) = lin (mixAt h gn mu 4 b p.val) (fun d j => w1 (ix3 (0 : Fin 1) d j)) j := by
  rw [val_main_v46_apply]
  unfold lin
  refine Finset.sum_congr rfl fun d _ => ?_
  rw [val_main_v45_apply, at3 (lidx_main_v46 (ix3 b p j) d) b p d rfl rfl rfl, ref_mld,
    at3 (idx_main_v45 (ridx_main_v46 (ix3 b p j) d)) (0 : Fin 1) d j rfl (by show (d.val * 64 + j.val) / 64 % 1024 = d.val; omega) (by show (d.val * 64 + j.val) % 64 = j.val; omega)]

theorem ref_sld (b : Fin 4) (p : Fin 4224) (e : Fin 1024) :
    val_main_v52 (F := Ideal) h gn mu w0 w1 w2 (ix3 b p e) = w0 (ix2 (0 : Fin 1) e) + ∑ j : Fin 64, Ideal.tanh (lin (mixAt h gn mu 4 b p.val) (fun d j => w1 (ix3 (0 : Fin 1) d j)) j) * w2 (ix3 (0 : Fin 1) j e) := by
  rw [val_main_v52_apply, val_main_v51_apply, val_main_v50_apply, val_main_v44_apply, val_main_v49_apply,
    at2 (idx_main_v44 (idx_main_v50 (idx_main_v51 (ix3 b p e)))) (0 : Fin 1) e rfl (by show e.val % 1024 = e.val; omega)]
  refine congrArg (fun y : EReal => w0 (ix2 (0 : Fin 1) e) + y) (Finset.sum_congr rfl fun j _ => ?_)
  rw [val_main_v47_apply, at3 (lidx_main_v49 (ix3 b p e) j) b p j rfl rfl rfl, ref_tld, val_main_v48_apply,
    at3 (idx_main_v48 (ridx_main_v49 (ix3 b p e) j)) (0 : Fin 1) j e rfl (by show (j.val * 1024 + e.val) / 1024 % 64 = j.val; omega) (by show (j.val * 1024 + e.val) % 1024 = e.val; omega)]
  rfl

theorem ref_out4 (i : S16896x1024.Idx) : val_main_v79 (F := Ideal) h gn mu w0 w1 w2 i = specD h gn mu w0 w1 w2 i := by
  have i0 : (i 0).val < 16896 := (i 0).isLt
  have i1 : (i 1).val < 1024 := (i 1).isLt
  rw [val_main_v79_apply, at3 (idx_main_v79 i) (rb (i 0)) (rp (i 0)) (i 1) (by show ((i 0).val * 1024 + (i 1).val) / 4325376 = (i 0).val / 4224; omega)
    (by show ((i 0).val * 1024 + (i 1).val) / 1024 % 4224 = (i 0).val % 4224; omega) (by show ((i 0).val * 1024 + (i 1).val) % 1024 = (i 1).val; omega)]
  rw [val_main_v60_apply, val_main_v59_apply, val_main_cst_5_apply, val_main_v58_apply, val_main_v57_apply, val_main_cst_4_apply, val_main_v56_apply, val_main_v55_apply, val_main_cst_3_apply, val_main_v54_apply, val_main_v53_apply]
  exact congrArg (fun z : EReal => Ideal.ofBits .f32 0xBF1B4598#32 * sg z) (ref_sld h gn mu w0 w1 w2 (rb (i 0)) (rp (i 0)) (i 1))

theorem ref_ma (b : Fin 4) (p : Fin 4224) (d : Fin 1024) : val_main_v43 (F := Ideal) h gn mu (ix3 b p d) = mixAt h gn mu 5 b p.val d := by
  have hb := b.isLt
  have hp := p.isLt
  rw [val_main_v43_apply, val_main_v42_apply, at4 (idx_main_v42 (idx_main_v43 (ix3 b p d))) (5 : Fin 6) b p d rfl
    (by show ((b.val * 4224 + p.val) * 1024 + d.val) / 4325376 % 4 = b.val; omega)
    (by show ((b.val * 4224 + p.val) * 1024 + d.val) / 1024 % 4224 = p.val; omega)
    (by show ((b.val * 4224 + p.val) * 1024 + d.val) % 1024 = d.val; omega)]
  exact ref_mix h gn mu 5 b p d

theorem ref_ta (b : Fin 4) (p : Fin 4224) (j : Fin 64) :
    val_main_v63 (F := Ideal) h gn mu w1 (ix3 b p j) = lin (mixAt h gn mu 5 b p.val) (fun d j => w1 (ix3 (0 : Fin 1) d j)) j := by
  rw [val_main_v63_apply]
  unfold lin
  refine Finset.sum_congr rfl fun d _ => ?_
  rw [val_main_v62_apply, at3 (lidx_main_v63 (ix3 b p j) d) b p d rfl rfl rfl, ref_ma,
    at3 (idx_main_v62 (ridx_main_v63 (ix3 b p j) d)) (0 : Fin 1) d j rfl (by show (d.val * 64 + j.val) / 64 % 1024 = d.val; omega) (by show (d.val * 64 + j.val) % 64 = j.val; omega)]

theorem ref_sa (b : Fin 4) (p : Fin 4224) (e : Fin 1024) :
    val_main_v68 (F := Ideal) h gn mu w0 w1 w2 (ix3 b p e) = w0 (ix2 (0 : Fin 1) e) + ∑ j : Fin 64, lin (mixAt h gn mu 5 b p.val) (fun d j => w1 (ix3 (0 : Fin 1) d j)) j * w2 (ix3 (0 : Fin 1) j e) := by
  rw [val_main_v68_apply, val_main_v67_apply, val_main_v66_apply, val_main_v61_apply, val_main_v65_apply,
    at2 (idx_main_v61 (idx_main_v66 (idx_main_v67 (ix3 b p e)))) (0 : Fin 1) e rfl (by show e.val % 1024 = e.val; omega)]
  refine congrArg (fun y : EReal => w0 (ix2 (0 : Fin 1) e) + y) (Finset.sum_congr rfl fun j _ => ?_)
  rw [at3 (lidx_main_v65 (ix3 b p e) j) b p j rfl rfl rfl, ref_ta, val_main_v64_apply,
    at3 (idx_main_v64 (ridx_main_v65 (ix3 b p e) j)) (0 : Fin 1) j e rfl (by show (j.val * 1024 + e.val) / 1024 % 64 = j.val; omega) (by show (j.val * 1024 + e.val) % 1024 = e.val; omega)]

theorem ref_out5 (i : S16896x1024.Idx) : val_main_v80 (F := Ideal) h gn mu w0 w1 w2 i = specA h gn mu w0 w1 w2 i := by
  have i0 : (i 0).val < 16896 := (i 0).isLt
  have i1 : (i 1).val < 1024 := (i 1).isLt
  rw [val_main_v80_apply, at3 (idx_main_v80 i) (rb (i 0)) (rp (i 0)) (i 1) (by show ((i 0).val * 1024 + (i 1).val) / 4325376 = (i 0).val / 4224; omega)
    (by show ((i 0).val * 1024 + (i 1).val) / 1024 % 4224 = (i 0).val % 4224; omega) (by show ((i 0).val * 1024 + (i 1).val) % 1024 = (i 1).val; omega)]
  rw [val_main_v74_apply, val_main_v73_apply, val_main_cst_7_apply, val_main_v72_apply, val_main_v71_apply, val_main_cst_6_apply, val_main_v70_apply, val_main_v69_apply]
  exact congrArg (fun z : EReal => sg z) (ref_sa h gn mu w0 w1 w2 (rb (i 0)) (rp (i 0)) (i 1))

theorem ref_out6 (i : S4x1x1024.Idx) : val_main_v81 (F := Ideal) h gn i = specX h gn i := by
  have i1 : (i 1).val < 1 := (i 1).isLt
  rw [val_main_v81_apply, at3 (idx_main_v81 i) (i 0) (4223 : Fin 4224) (i 2) rfl (by show 4223 + (i 1).val = 4223; omega) rfl]
  exact ref_xn h gn (i 0) 4223 (i 2)

end ProjW

end
-- ==== Proof.WWhole.lean ====
module

public import proofs.«01_k».proof.Defs
public import proofs.«01_k».proof.Proof.WKernel
public import proofs.«01_k».proof.Proof.WRef
public import proofs.«01_k».proof.Proof.Gen.RwkvProjRefIdeal.Run

@[expose] public section

noncomputable section

/-! The two programs of the time mixing's projections end with equal arrays. -/

namespace ProjW

open Idealize.ShloMosaic Idealize.ShloMosaic.ValueIdx Idealize.SL.Sem

theorem ref_end4 {h h' : FVec Ideal ⟨3, ![4, 4224, 1024]⟩ .f32} {gn gn' : FVec Ideal ⟨2, ![2, 1024]⟩ .f32} {mu mu' : FVec Ideal ⟨3, ![1, 6, 1024]⟩ .f32}
    {w0 w0' : FVec Ideal ⟨2, ![1, 1024]⟩ .f32} {w1 w1' : FVec Ideal ⟨3, ![1, 1024, 64]⟩ .f32} {w2 w2' : FVec Ideal ⟨3, ![1, 64, 1024]⟩ .f32}
    (e0 : h = h') (e1 : gn = gn') (e2 : mu = mu') (e3 : w0 = w0') (e4 : w1 = w1') (e5 : w2 = w2') :
    Cert.RwkvProjRefIdeal.Read.val_main_v79 (F := Ideal) h gn mu w0 w1 w2 = specD h' gn' mu' w0' w1' w2' := by
  subst e0 e1 e2 e3 e4 e5
  exact funext (ref_out4 h gn mu w0 w1 w2)

theorem ref_end5 {h h' : FVec Ideal ⟨3, ![4, 4224, 1024]⟩ .f32} {gn gn' : FVec Ideal ⟨2, ![2, 1024]⟩ .f32} {mu mu' : FVec Ideal ⟨3, ![1, 6, 1024]⟩ .f32}
    {w0 w0' : FVec Ideal ⟨2, ![1, 1024]⟩ .f32} {w1 w1' : FVec Ideal ⟨3, ![1, 1024, 64]⟩ .f32} {w2 w2' : FVec Ideal ⟨3, ![1, 64, 1024]⟩ .f32}
    (e0 : h = h') (e1 : gn = gn') (e2 : mu = mu') (e3 : w0 = w0') (e4 : w1 = w1') (e5 : w2 = w2') :
    Cert.RwkvProjRefIdeal.Read.val_main_v80 (F := Ideal) h gn mu w0 w1 w2 = specA h' gn' mu' w0' w1' w2' := by
  subst e0 e1 e2 e3 e4 e5
  exact funext (ref_out5 h gn mu w0 w1 w2)

set_option maxHeartbeats 4000000 in
theorem rwkv_proj_whole : Cert.algebraic_RwkvProjIdeal_RwkvProjRefIdeal := by
  intro m g m' g' _ hagree
  refine ⟨fun c => (Cert.RwkvProjIdeal.Gen.dats m 0 c).arrAt 11 Cert.RwkvProjIdeal.cfg0.N,
    fun c => (Cert.RwkvProjIdeal.Gen.dats m 0 c).arrAt 12 Cert.RwkvProjIdeal.cfg0.N,
    fun c => (Cert.RwkvProjIdeal.Gen.dats m 0 c).arrAt 13 Cert.RwkvProjIdeal.cfg0.N,
    fun c => (Cert.RwkvProjIdeal.Gen.dats m 0 c).arrAt 14 Cert.RwkvProjIdeal.cfg0.N,
    fun c => (Cert.RwkvProjIdeal.Gen.dats m 0 c).arrAt 15 Cert.RwkvProjIdeal.cfg0.N,
    fun c => (Cert.RwkvProjIdeal.Gen.dats m 0 c).arrAt 16 Cert.RwkvProjIdeal.cfg0.N,
    fun c => (Cert.RwkvProjIdeal.Gen.dats m 0 c).arrAt 17 Cert.RwkvProjIdeal.cfg0.N,
    Cert.RwkvProjIdeal.Value.run_blocks m g, (θ_run _ _ _).mono (fun r h c => ⟨?_, ?_, ?_, ?_, ?_, ?_, ?_, (h c).2.2.2.2.2.2.2⟩) (Cert.RwkvProjRefIdeal.Value.run m' g')⟩
  · obtain ⟨a0, a1, a2, a3, a4, a5, a6, a7, a8, a9⟩ := hagree c
    rw [(h c).1, Cert.RwkvProjRefIdeal.Read.val_main_v75_eq, a0, a1, a2, a3]
    exact (funext (ref_out0 _ _ _ _)).trans (arr_11 m c).symm
  · obtain ⟨a0, a1, a2, a3, a4, a5, a6, a7, a8, a9⟩ := hagree c
    rw [(h c).2.1, Cert.RwkvProjRefIdeal.Read.val_main_v76_eq, a0, a1, a2, a3]
    exact (funext (ref_out1 _ _ _ _)).trans (arr_12 m c).symm
  · obtain ⟨a0, a1, a2, a3, a4, a5, a6, a7, a8, a9⟩ := hagree c
    rw [(h c).2.2.1, Cert.RwkvProjRefIdeal.Read.val_main_v77_eq, a0, a1, a2, a3]
    exact (funext (ref_out2 _ _ _ _)).trans (arr_13 m c).symm
  · obtain ⟨a0, a1, a2, a3, a4, a5, a6, a7, a8, a9⟩ := hagree c
    rw [(h c).2.2.2.1, Cert.RwkvProjRefIdeal.Read.val_main_v78_eq, a0, a1, a2, a3]
    exact (funext (ref_out3 _ _ _ _)).trans (arr_14 m c).symm
  · obtain ⟨a0, a1, a2, a3, a4, a5, a6, a7, a8, a9⟩ := hagree c
    exact ((h c).2.2.2.2.1.trans (Cert.RwkvProjRefIdeal.Read.val_main_v79_eq m' c)).trans ((ref_end4 a0 a1 a2 a4 a5 a6).trans (arr_15 m c).symm)
  · obtain ⟨a0, a1, a2, a3, a4, a5, a6, a7, a8, a9⟩ := hagree c
    exact ((h c).2.2.2.2.2.1.trans (Cert.RwkvProjRefIdeal.Read.val_main_v80_eq m' c)).trans ((ref_end5 a0 a1 a2 a7 a8 a9).trans (arr_16 m c).symm)
  · obtain ⟨a0, a1, a2, a3, a4, a5, a6, a7, a8, a9⟩ := hagree c
    rw [(h c).2.2.2.2.2.2.1, Cert.RwkvProjRefIdeal.Read.val_main_v81_eq, a0, a1]
    exact (funext (ref_out6 _ _)).trans (arr_17 m c).symm

end ProjW

end
-- ==== Proof.OSpec.lean ====
module

public import proofs.«01_k».proof.Proof.Norm

@[expose] public section

noncomputable section

/-! The time mixing's output product, the residual add and the final norm. -/

namespace ProjO

open Proj Idealize.ShloMosaic Idealize.ShloMosaic.ValueIdx

section
variable (z h : FVec Ideal ⟨3, ![4, 4224, 1024]⟩ .f32) (w : FVec Ideal ⟨3, ![1, 1024, 1024]⟩ .f32) (g : FVec Ideal ⟨1, ![1024]⟩ .f32)

/-- The row at place `p` of batch entry `b`: the rows added to, and the product. -/
def sumAt (b : Fin 4) (p : Fin 4224) (d : Fin 1024) : EReal :=
  h (ix3 b p d) + ∑ k : Fin 1024, z (ix3 b p k) * w (ix3 (0 : Fin 1) k d)

/-- The batch entry of a row of the result, and its place, after the 128 places that are not returned. -/
def ob (r : Fin 16384) : Fin 4 := ⟨r.val / 4096, by omega⟩

def op (r : Fin 16384) : Fin 4224 := ⟨128 + r.val % 4096, by omega⟩

def specO (i : (⟨2, ![16384, 1024]⟩ : Shape).Idx) : EReal :=
  nrm (sumAt z h w (ob (i 0)) (op (i 0))) (fun k => g (ix1 k)) (i 1)

end

end ProjO

end
-- ==== Proof.Stack.lean ====
module

public import proofs.«01_k».proof.Proof.Norm

@[expose] public section

noncomputable section

/-! Eight blocks of rows, one below the other. -/

namespace Proj

open Idealize.ShloMosaic Idealize.ShloMosaic.ValueIdx

variable {α : Type} {P : ℕ}

theorem block_lt (R : Fin (8 * P)) : R.val / P < 8 := Nat.div_lt_of_lt_mul (R.isLt.trans_eq (Nat.mul_comm 8 P))

theorem place_lt (R : Fin (8 * P)) : R.val % P < P := Nat.mod_lt _ (by have := R.isLt; omega)

/-- Row `R` of eight blocks of `P` rows. -/
def stack (y : Fin 8 → (⟨2, ![P, 1024]⟩ : Shape).Idx → α) (R : Fin (8 * P)) (d : Fin 1024) : α :=
  y ⟨R.val / P, block_lt R⟩ (ix2 (⟨R.val % P, place_lt R⟩ : Fin P) d)

variable (y0 y1 y2 y3 y4 y5 y6 y7 : (⟨2, ![P, 1024]⟩ : Shape).Idx → α)

/-- A value that every block has at the row's place, where the row lies in that block, is the row's. -/
theorem stack_eq {v : α} (R : Fin (8 * P)) (d : Fin 1024)
    (h0 : R.val / P = 0 → y0 (ix2 ⟨R.val % P, place_lt R⟩ d) = v) (h1 : R.val / P = 1 → y1 (ix2 ⟨R.val % P, place_lt R⟩ d) = v)
    (h2 : R.val / P = 2 → y2 (ix2 ⟨R.val % P, place_lt R⟩ d) = v) (h3 : R.val / P = 3 → y3 (ix2 ⟨R.val % P, place_lt R⟩ d) = v)
    (h4 : R.val / P = 4 → y4 (ix2 ⟨R.val % P, place_lt R⟩ d) = v) (h5 : R.val / P = 5 → y5 (ix2 ⟨R.val % P, place_lt R⟩ d) = v)
    (h6 : R.val / P = 6 → y6 (ix2 ⟨R.val % P, place_lt R⟩ d) = v) (h7 : R.val / P = 7 → y7 (ix2 ⟨R.val % P, place_lt R⟩ d) = v) :
    stack ![y0, y1, y2, y3, y4, y5, y6, y7] R d = v := by
  have key : ∀ k : Fin 8, R.val / P = k.val → (![y0, y1, y2, y3, y4, y5, y6, y7] : Fin 8 → (⟨2, ![P, 1024]⟩ : Shape).Idx → α) k (ix2 ⟨R.val % P, place_lt R⟩ d) = v := by
    intro k hk
    match k, hk with
    | ⟨0, _⟩, hk => exact h0 hk
    | ⟨1, _⟩, hk => exact h1 hk
    | ⟨2, _⟩, hk => exact h2 hk
    | ⟨3, _⟩, hk => exact h3 hk
    | ⟨4, _⟩, hk => exact h4 hk
    | ⟨5, _⟩, hk => exact h5 hk
    | ⟨6, _⟩, hk => exact h6 hk
    | ⟨7, _⟩, hk => exact h7 hk
  exact key ⟨R.val / P, block_lt R⟩ rfl

/-- The eight blocks joined along their rows. -/
theorem eight_blocks (R : Fin (8 * P)) (d : Fin 1024)
    (h : Shape.Concatenates (([⟨_, y0⟩, ⟨_, y1⟩, ⟨_, y2⟩, ⟨_, y3⟩, ⟨_, y4⟩, ⟨_, y5⟩, ⟨_, y6⟩, ⟨_, y7⟩] : List ((s : Shape) × (s.Idx → α))).map (·.1)) ⟨2, ![8 * P, 1024]⟩ 0) :
    concatenate ⟨2, ![8 * P, 1024]⟩ 0 [⟨_, y0⟩, ⟨_, y1⟩, ⟨_, y2⟩, ⟨_, y3⟩, ⟨_, y4⟩, ⟨_, y5⟩, ⟨_, y6⟩, ⟨_, y7⟩] h (ix2 R d) = stack ![y0, y1, y2, y3, y4, y5, y6, y7] R d := by
  have piece : ∀ (k pre : ℕ) (hk : k < 8) (x : (⟨2, ![P, 1024]⟩ : Shape).Idx → α)
      (_ : ([⟨_, y0⟩, ⟨_, y1⟩, ⟨_, y2⟩, ⟨_, y3⟩, ⟨_, y4⟩, ⟨_, y5⟩, ⟨_, y6⟩, ⟨_, y7⟩] : List ((s : Shape) × (s.Idx → α)))[k] = ⟨_, x⟩)
      (_ : (((([⟨_, y0⟩, ⟨_, y1⟩, ⟨_, y2⟩, ⟨_, y3⟩, ⟨_, y4⟩, ⟨_, y5⟩, ⟨_, y6⟩, ⟨_, y7⟩] : List ((s : Shape) × (s.Idx → α))).take k).map (·.1)).map fun s => if h : s.rank = 2 then s.size ((0 : Fin 2).cast h.symm) else 0).sum = pre)
      (_ : pre = k * P) (_ : R.val / P = k),
      x (ix2 ⟨R.val % P, place_lt R⟩ d)
        = concatenate ⟨2, ![8 * P, 1024]⟩ 0 [⟨_, y0⟩, ⟨_, y1⟩, ⟨_, y2⟩, ⟨_, y3⟩, ⟨_, y4⟩, ⟨_, y5⟩, ⟨_, y6⟩, ⟨_, y7⟩] h (ix2 R d) := by
    intro k pre hk x hx hp hq hR
    refine (concatenate_apply_piece (t := ⟨2, ![8 * P, 1024]⟩) (0 : Fin 2) _ h _ k hk ⟨2, ![P, 1024]⟩ x hx rfl pre hp _ ?_ ?_).symm
    · intro b hb
      match b with
      | ⟨0, _⟩ => exact absurd rfl hb
      | ⟨1, _⟩ => rfl
    · show pre + R.val % P = R.val
      rw [hq, ← hR]
      exact Nat.div_add_mod' R.val P
  refine (stack_eq y0 y1 y2 y3 y4 y5 y6 y7 R d ?_ ?_ ?_ ?_ ?_ ?_ ?_ ?_).symm
  · exact piece 0 0 (by omega) _ rfl rfl (by omega)
  · exact piece 1 (P + 0) (by omega) _ rfl rfl (by omega)
  · exact piece 2 (P + (P + 0)) (by omega) _ rfl rfl (by omega)
  · exact piece 3 (P + (P + (P + 0))) (by omega) _ rfl rfl (by omega)
  · exact piece 4 (P + (P + (P + (P + 0)))) (by omega) _ rfl rfl (by omega)
  · exact piece 5 (P + (P + (P + (P + (P + 0))))) (by omega) _ rfl rfl (by omega)
  · exact piece 6 (P + (P + (P + (P + (P + (P + 0)))))) (by omega) _ rfl rfl (by omega)
  · exact piece 7 (P + (P + (P + (P + (P + (P + (P + 0))))))) (by omega) _ rfl rfl (by omega)

end Proj

end
-- ==== Proof.OPay.lean ====
module

public import proofs.«01_k».proof.Proof.OSpec
public import proofs.«01_k».proof.Proof.Stack
public import proofs.«01_k».proof.Proof.Gen.RwkvOutIdeal.Frame

@[expose] public section

noncomputable section

/-! What the body of the output product computes from the blocks it reads. -/

namespace ProjO

open Proj Cert.RwkvOutIdeal Cert.RwkvOutIdeal.Gen Idealize.ShloMosaic Idealize.ShloMosaic.TcCoe Idealize.ShloMosaic.ValueIdx Idealize.SL.Sem

variable (x0 x1 x2 x3 x4 x5 x6 x7 x8 x9 x10 x11 x12 x13 x14 x15 : Vec Ideal S128x1024 .f32) (x16 : Vec Ideal S1024x1024 .bf16) (x17 : Vec Ideal S1x1024 .f32)

/-- Row `R` of the tile before the norm. -/
def tileSum (R : Fin 1024) (d : Fin 1024) : EReal :=
  (stack (P := 128) ![x8, x9, x10, x11, x12, x13, x14, x15] R d : EReal) + ∑ k : Fin 1024, (stack (P := 128) ![x0, x1, x2, x3, x4, x5, x6, x7] R k : EReal) * x16 (ix2 k d)

theorem pay2_apply (R : Fin 1024) (d : Fin 1024) : (k0_pay2 (F := Ideal) x0 x1 x2 x3 x4 x5 x6 x7 (ix2 R d) : EReal) = stack (P := 128) ![x0, x1, x2, x3, x4, x5, x6, x7] R d := by
  unfold k0_pay2
  rw [cast_same x0, cast_same x1, cast_same x2, cast_same x3, cast_same x4, cast_same x5, cast_same x6, cast_same x7]
  exact eight_blocks (P := 128) _ _ _ _ _ _ _ _ R d _

theorem pay1_apply (R : Fin 1024) (d : Fin 1024) :
    (k0_pay1 (F := Ideal) (k0_pay2 x0 x1 x2 x3 x4 x5 x6 x7) (k0_pay3 x8) (k0_pay4 x9) (k0_pay5 x10) (k0_pay6 x11) x12 x13 x14 x15 x16 x17 (ix2 R d) : EReal)
      = nrm (tileSum x0 x1 x2 x3 x4 x5 x6 x7 x8 x9 x10 x11 x12 x13 x14 x15 x16 R) (fun k => x17 (ix2 (0 : Fin 1) k)) d := by
  unfold k0_pay1 k0_pay3 k0_pay4 k0_pay5 k0_pay6
  dsimp only
  rw [cast_same x8, cast_same x9, cast_same x10, cast_same x11, cast_same x12, cast_same x13, cast_same x14, cast_same x15, cast_same x16, cast_same x17]
  refine (tile_norm (R := 1024) _ x17 _ _ _ _ _ _ R d).trans ?_
  refine congrArg (fun f => nrm f (fun k => x17 (ix2 (0 : Fin 1) k)) d) (funext fun e => ?_)
  unfold tileSum
  rw [addf_apply]
  refine congr (congrArg (fun a b : EReal => a + b) (eight_blocks (P := 128) _ _ _ _ _ _ _ _ R e _)) ?_
  refine (tile_dot (φ₁ := .bf16) (φ₂ := .bf16) (R := 1024) (K := 1024) (N := 1024) _ _ R e).trans (Finset.sum_congr rfl fun k _ => ?_)
  rw [pay2_apply]

theorem out18_apply (R : Fin 1024) (d : Fin 1024) :
    (out0_18 (F := Ideal) x0 x1 x2 x3 x4 x5 x6 x7 x8 x9 x10 x11 x12 x13 x14 x15 x16 x17 (ix2 R d) : EReal) = nrm (tileSum x0 x1 x2 x3 x4 x5 x6 x7 x8 x9 x10 x11 x12 x13 x14 x15 x16 R) (fun k => x17 (ix2 (0 : Fin 1) k)) d := by
  unfold out0_18
  rw [View.canon_unit_zero zeros2]
  rw [View.ld_unit_zero zeros2, View.ld_unit_zero zeros2, View.ld_unit_zero zeros2, View.ld_unit_zero zeros2, View.ld_unit_zero zeros2, View.ld_unit_zero zeros2, View.ld_unit_zero zeros2, View.ld_unit_zero zeros2, View.ld_unit_zero zeros2, View.ld_unit_zero zeros2, View.ld_unit_zero zeros2, View.ld_unit_zero zeros2, View.ld_unit_zero zeros2, View.ld_unit_zero zeros2, View.ld_unit_zero zeros2, View.ld_unit_zero zeros2, View.ld_unit_zero zeros2, View.ld_unit_zero zeros2]
  exact pay1_apply x0 x1 x2 x3 x4 x5 x6 x7 x8 x9 x10 x11 x12 x13 x14 x15 x16 x17 R d

end ProjO

end
-- ==== Proof.OKernel.lean ====
module

public import proofs.«01_k».proof.Proof.OPay
public import proofs.«01_k».proof.Proof.Gen.RwkvOutIdeal.Value
public import Idealize.ShloMosaic.Lib.StableHlo.RunRead

@[expose] public section

noncomputable section

/-! The array the output product leaves, from the arguments. -/

namespace ProjO

open Proj Cert.RwkvOutIdeal Cert.RwkvOutIdeal.Gen Idealize.ShloMosaic Idealize.ShloMosaic.TcCoe Idealize.ShloMosaic.ValueIdx Idealize.SL.Sem Idealize.ShloMosaic.StableHlo
open Idealize.ShloMosaic.Pipeline (Dat)

variable (m : (ℓ : Loc nD τ sig) → Buf (Elt Ideal) ℓ) (ρ : Dev nD → PrngReg)

theorem pt_lt (t : Fin cfg0.N) : t.val < 16 := lt_of_lt_of_eq t.isLt (show cfg0.N = 16 from N_0)

abbrev pt (t : ℕ) (h : t < 16) : Fin cfg0.N := ⟨t, lt_of_lt_of_eq h N_0.symm⟩

theorem z_host (c : Dev nD) : V m c main_v3 = shapeCast S16896x1024 (m ((c : Thread nD τ).loc main_arg0)) shapeCasts_S4x4224x1024_S16896x1024 := by
  unfold_abbrev_sides
  after_reads_simp
  rfl

theorem h_host (c : Dev nD) : V m c main_v4 = shapeCast S16896x1024 (m ((c : Thread nD τ).loc main_arg1)) shapeCasts_S4x4224x1024_S16896x1024 := by
  unfold_abbrev_sides
  after_reads_simp
  rfl

theorem gain_host (c : Dev nD) : V m c main_v2 = shapeCast S1x1024 (m ((c : Thread nD τ).loc main_arg3)) shapeCasts_S1024_S1x1024 := by
  unfold_abbrev_sides
  after_reads_simp
  rfl

theorem w_host (c : Dev nD) : V m c main_v1 = (truncf .bf16 (shapeCast S1024x1024 (m ((c : Thread nD τ).loc main_arg2)) shapeCasts_S1x1024x1024_S1024x1024 : FVec Ideal S1024x1024 .f32) bitsLt_bf16_f32 : FVec Ideal S1024x1024 .bf16) := by
  unfold_abbrev_sides
  after_reads_simp
  rfl

theorem z_at (c : Dev nD) (j : S16896x1024.Idx) (b : Fin 4) (p : Fin 4224) (d : Fin 1024) (h0 : (j 0).val = b.val * 4224 + p.val) (h1 : (j 1).val = d.val) :
    V m c main_v3 j = m ((c : Thread nD τ).loc main_arg0) (ix3 b p d) := by
  rw [z_host]
  exact shapeCast_apply _ _ _ (ix3 b p d) (by
    rw [Shape.rowMajor_val_three, Shape.rowMajor_val_two]
    show (b.val * 4224 + p.val) * 1024 + d.val = (j 0).val * 1024 + (j 1).val
    rw [h0, h1])

theorem h_at (c : Dev nD) (j : S16896x1024.Idx) (b : Fin 4) (p : Fin 4224) (d : Fin 1024) (h0 : (j 0).val = b.val * 4224 + p.val) (h1 : (j 1).val = d.val) :
    V m c main_v4 j = m ((c : Thread nD τ).loc main_arg1) (ix3 b p d) := by
  rw [h_host]
  exact shapeCast_apply _ _ _ (ix3 b p d) (by
    rw [Shape.rowMajor_val_three, Shape.rowMajor_val_two]
    show (b.val * 4224 + p.val) * 1024 + d.val = (j 0).val * 1024 + (j 1).val
    rw [h0, h1])

theorem index_0 : ∀ t : Fin cfg0.N, win0_0.index t (0 : Fin 2) = t.val / 4 * 33 + t.val % 4 * 8 + 1 ∧ win0_0.index t (1 : Fin 2) = 0 :=
  (by decide +kernel : ∀ t : Fin grid0.N, win0_0.index t (0 : Fin 2) = t.val / 4 * 33 + t.val % 4 * 8 + 1 ∧ win0_0.index t (1 : Fin 2) = 0)

theorem blk_0 (c : Dev nD) (t : Fin cfg0.N) (r : Fin 128) (d : Fin 1024) (b : Fin 4) (p : Fin 4224)
    (hp : (t.val / 4 * 33 + t.val % 4 * 8 + 1) * 128 + r.val = b.val * 4224 + p.val) :
    iblk m c 0 t (ix2 r d) = m ((c : Thread nD τ).loc main_arg0) (ix3 b p d) :=
  z_at m c _ b p d (by show win0_0.index t (0 : Fin 2) * 128 + 1 * r.val = _; rw [(index_0 t).1]; omega)
    (by show win0_0.index t (1 : Fin 2) * 1024 + 1 * d.val = _; rw [(index_0 t).2]; omega)

theorem index_1 : ∀ t : Fin cfg0.N, win0_1.index t (0 : Fin 2) = t.val / 4 * 33 + t.val % 4 * 8 + 2 ∧ win0_1.index t (1 : Fin 2) = 0 :=
  (by decide +kernel : ∀ t : Fin grid0.N, win0_1.index t (0 : Fin 2) = t.val / 4 * 33 + t.val % 4 * 8 + 2 ∧ win0_1.index t (1 : Fin 2) = 0)

theorem blk_1 (c : Dev nD) (t : Fin cfg0.N) (r : Fin 128) (d : Fin 1024) (b : Fin 4) (p : Fin 4224)
    (hp : (t.val / 4 * 33 + t.val % 4 * 8 + 2) * 128 + r.val = b.val * 4224 + p.val) :
    iblk m c 1 t (ix2 r d) = m ((c : Thread nD τ).loc main_arg0) (ix3 b p d) :=
  z_at m c _ b p d (by show win0_1.index t (0 : Fin 2) * 128 + 1 * r.val = _; rw [(index_1 t).1]; omega)
    (by show win0_1.index t (1 : Fin 2) * 1024 + 1 * d.val = _; rw [(index_1 t).2]; omega)

theorem index_2 : ∀ t : Fin cfg0.N, win0_2.index t (0 : Fin 2) = t.val / 4 * 33 + t.val % 4 * 8 + 3 ∧ win0_2.index t (1 : Fin 2) = 0 :=
  (by decide +kernel : ∀ t : Fin grid0.N, win0_2.index t (0 : Fin 2) = t.val / 4 * 33 + t.val % 4 * 8 + 3 ∧ win0_2.index t (1 : Fin 2) = 0)

theorem blk_2 (c : Dev nD) (t : Fin cfg0.N) (r : Fin 128) (d : Fin 1024) (b : Fin 4) (p : Fin 4224)
    (hp : (t.val / 4 * 33 + t.val % 4 * 8 + 3) * 128 + r.val = b.val * 4224 + p.val) :
    iblk m c 2 t (ix2 r d) = m ((c : Thread nD τ).loc main_arg0) (ix3 b p d) :=
  z_at m c _ b p d (by show win0_2.index t (0 : Fin 2) * 128 + 1 * r.val = _; rw [(index_2 t).1]; omega)
    (by show win0_2.index t (1 : Fin 2) * 1024 + 1 * d.val = _; rw [(index_2 t).2]; omega)

theorem index_3 : ∀ t : Fin cfg0.N, win0_3.index t (0 : Fin 2) = t.val / 4 * 33 + t.val % 4 * 8 + 4 ∧ win0_3.index t (1 : Fin 2) = 0 :=
  (by decide +kernel : ∀ t : Fin grid0.N, win0_3.index t (0 : Fin 2) = t.val / 4 * 33 + t.val % 4 * 8 + 4 ∧ win0_3.index t (1 : Fin 2) = 0)

theorem blk_3 (c : Dev nD) (t : Fin cfg0.N) (r : Fin 128) (d : Fin 1024) (b : Fin 4) (p : Fin 4224)
    (hp : (t.val / 4 * 33 + t.val % 4 * 8 + 4) * 128 + r.val = b.val * 4224 + p.val) :
    iblk m c 3 t (ix2 r d) = m ((c : Thread nD τ).loc main_arg0) (ix3 b p d) :=
  z_at m c _ b p d (by show win0_3.index t (0 : Fin 2) * 128 + 1 * r.val = _; rw [(index_3 t).1]; omega)
    (by show win0_3.index t (1 : Fin 2) * 1024 + 1 * d.val = _; rw [(index_3 t).2]; omega)

theorem index_4 : ∀ t : Fin cfg0.N, win0_4.index t (0 : Fin 2) = t.val / 4 * 33 + t.val % 4 * 8 + 5 ∧ win0_4.index t (1 : Fin 2) = 0 :=
  (by decide +kernel : ∀ t : Fin grid0.N, win0_4.index t (0 : Fin 2) = t.val / 4 * 33 + t.val % 4 * 8 + 5 ∧ win0_4.index t (1 : Fin 2) = 0)

theorem blk_4 (c : Dev nD) (t : Fin cfg0.N) (r : Fin 128) (d : Fin 1024) (b : Fin 4) (p : Fin 4224)
    (hp : (t.val / 4 * 33 + t.val % 4 * 8 + 5) * 128 + r.val = b.val * 4224 + p.val) :
    iblk m c 4 t (ix2 r d) = m ((c : Thread nD τ).loc main_arg0) (ix3 b p d) :=
  z_at m c _ b p d (by show win0_4.index t (0 : Fin 2) * 128 + 1 * r.val = _; rw [(index_4 t).1]; omega)
    (by show win0_4.index t (1 : Fin 2) * 1024 + 1 * d.val = _; rw [(index_4 t).2]; omega)

theorem index_5 : ∀ t : Fin cfg0.N, win0_5.index t (0 : Fin 2) = t.val / 4 * 33 + t.val % 4 * 8 + 6 ∧ win0_5.index t (1 : Fin 2) = 0 :=
  (by decide +kernel : ∀ t : Fin grid0.N, win0_5.index t (0 : Fin 2) = t.val / 4 * 33 + t.val % 4 * 8 + 6 ∧ win0_5.index t (1 : Fin 2) = 0)

theorem blk_5 (c : Dev nD) (t : Fin cfg0.N) (r : Fin 128) (d : Fin 1024) (b : Fin 4) (p : Fin 4224)
    (hp : (t.val / 4 * 33 + t.val % 4 * 8 + 6) * 128 + r.val = b.val * 4224 + p.val) :
    iblk m c 5 t (ix2 r d) = m ((c : Thread nD τ).loc main_arg0) (ix3 b p d) :=
  z_at m c _ b p d (by show win0_5.index t (0 : Fin 2) * 128 + 1 * r.val = _; rw [(index_5 t).1]; omega)
    (by show win0_5.index t (1 : Fin 2) * 1024 + 1 * d.val = _; rw [(index_5 t).2]; omega)

theorem index_6 : ∀ t : Fin cfg0.N, win0_6.index t (0 : Fin 2) = t.val / 4 * 33 + t.val % 4 * 8 + 7 ∧ win0_6.index t (1 : Fin 2) = 0 :=
  (by decide +kernel : ∀ t : Fin grid0.N, win0_6.index t (0 : Fin 2) = t.val / 4 * 33 + t.val % 4 * 8 + 7 ∧ win0_6.index t (1 : Fin 2) = 0)

theorem blk_6 (c : Dev nD) (t : Fin cfg0.N) (r : Fin 128) (d : Fin 1024) (b : Fin 4) (p : Fin 4224)
    (hp : (t.val / 4 * 33 + t.val % 4 * 8 + 7) * 128 + r.val = b.val * 4224 + p.val) :
    iblk m c 6 t (ix2 r d) = m ((c : Thread nD τ).loc main_arg0) (ix3 b p d) :=
  z_at m c _ b p d (by show win0_6.index t (0 : Fin 2) * 128 + 1 * r.val = _; rw [(index_6 t).1]; omega)
    (by show win0_6.index t (1 : Fin 2) * 1024 + 1 * d.val = _; rw [(index_6 t).2]; omega)

theorem index_7 : ∀ t : Fin cfg0.N, win0_7.index t (0 : Fin 2) = t.val / 4 * 33 + t.val % 4 * 8 + 8 ∧ win0_7.index t (1 : Fin 2) = 0 :=
  (by decide +kernel : ∀ t : Fin grid0.N, win0_7.index t (0 : Fin 2) = t.val / 4 * 33 + t.val % 4 * 8 + 8 ∧ win0_7.index t (1 : Fin 2) = 0)

theorem blk_7 (c : Dev nD) (t : Fin cfg0.N) (r : Fin 128) (d : Fin 1024) (b : Fin 4) (p : Fin 4224)
    (hp : (t.val / 4 * 33 + t.val % 4 * 8 + 8) * 128 + r.val = b.val * 4224 + p.val) :
    iblk m c 7 t (ix2 r d) = m ((c : Thread nD τ).loc main_arg0) (ix3 b p d) :=
  z_at m c _ b p d (by show win0_7.index t (0 : Fin 2) * 128 + 1 * r.val = _; rw [(index_7 t).1]; omega)
    (by show win0_7.index t (1 : Fin 2) * 1024 + 1 * d.val = _; rw [(index_7 t).2]; omega)

theorem index_8 : ∀ t : Fin cfg0.N, win0_8.index t (0 : Fin 2) = t.val / 4 * 33 + t.val % 4 * 8 + 1 ∧ win0_8.index t (1 : Fin 2) = 0 :=
  (by decide +kernel : ∀ t : Fin grid0.N, win0_8.index t (0 : Fin 2) = t.val / 4 * 33 + t.val % 4 * 8 + 1 ∧ win0_8.index t (1 : Fin 2) = 0)

theorem blk_8 (c : Dev nD) (t : Fin cfg0.N) (r : Fin 128) (d : Fin 1024) (b : Fin 4) (p : Fin 4224)
    (hp : (t.val / 4 * 33 + t.val % 4 * 8 + 1) * 128 + r.val = b.val * 4224 + p.val) :
    iblk m c 8 t (ix2 r d) = m ((c : Thread nD τ).loc main_arg1) (ix3 b p d) :=
  h_at m c _ b p d (by show win0_8.index t (0 : Fin 2) * 128 + 1 * r.val = _; rw [(index_8 t).1]; omega)
    (by show win0_8.index t (1 : Fin 2) * 1024 + 1 * d.val = _; rw [(index_8 t).2]; omega)

theorem index_9 : ∀ t : Fin cfg0.N, win0_9.index t (0 : Fin 2) = t.val / 4 * 33 + t.val % 4 * 8 + 2 ∧ win0_9.index t (1 : Fin 2) = 0 :=
  (by decide +kernel : ∀ t : Fin grid0.N, win0_9.index t (0 : Fin 2) = t.val / 4 * 33 + t.val % 4 * 8 + 2 ∧ win0_9.index t (1 : Fin 2) = 0)

theorem blk_9 (c : Dev nD) (t : Fin cfg0.N) (r : Fin 128) (d : Fin 1024) (b : Fin 4) (p : Fin 4224)
    (hp : (t.val / 4 * 33 + t.val % 4 * 8 + 2) * 128 + r.val = b.val * 4224 + p.val) :
    iblk m c 9 t (ix2 r d) = m ((c : Thread nD τ).loc main_arg1) (ix3 b p d) :=
  h_at m c _ b p d (by show win0_9.index t (0 : Fin 2) * 128 + 1 * r.val = _; rw [(index_9 t).1]; omega)
    (by show win0_9.index t (1 : Fin 2) * 1024 + 1 * d.val = _; rw [(index_9 t).2]; omega)

theorem index_10 : ∀ t : Fin cfg0.N, win0_10.index t (0 : Fin 2) = t.val / 4 * 33 + t.val % 4 * 8 + 3 ∧ win0_10.index t (1 : Fin 2) = 0 :=
  (by decide +kernel : ∀ t : Fin grid0.N, win0_10.index t (0 : Fin 2) = t.val / 4 * 33 + t.val % 4 * 8 + 3 ∧ win0_10.index t (1 : Fin 2) = 0)

theorem blk_10 (c : Dev nD) (t : Fin cfg0.N) (r : Fin 128) (d : Fin 1024) (b : Fin 4) (p : Fin 4224)
    (hp : (t.val / 4 * 33 + t.val % 4 * 8 + 3) * 128 + r.val = b.val * 4224 + p.val) :
    iblk m c 10 t (ix2 r d) = m ((c : Thread nD τ).loc main_arg1) (ix3 b p d) :=
  h_at m c _ b p d (by show win0_10.index t (0 : Fin 2) * 128 + 1 * r.val = _; rw [(index_10 t).1]; omega)
    (by show win0_10.index t (1 : Fin 2) * 1024 + 1 * d.val = _; rw [(index_10 t).2]; omega)

theorem index_11 : ∀ t : Fin cfg0.N, win0_11.index t (0 : Fin 2) = t.val / 4 * 33 + t.val % 4 * 8 + 4 ∧ win0_11.index t (1 : Fin 2) = 0 :=
  (by decide +kernel : ∀ t : Fin grid0.N, win0_11.index t (0 : Fin 2) = t.val / 4 * 33 + t.val % 4 * 8 + 4 ∧ win0_11.index t (1 : Fin 2) = 0)

theorem blk_11 (c : Dev nD) (t : Fin cfg0.N) (r : Fin 128) (d : Fin 1024) (b : Fin 4) (p : Fin 4224)
    (hp : (t.val / 4 * 33 + t.val % 4 * 8 + 4) * 128 + r.val = b.val * 4224 + p.val) :
    iblk m c 11 t (ix2 r d) = m ((c : Thread nD τ).loc main_arg1) (ix3 b p d) :=
  h_at m c _ b p d (by show win0_11.index t (0 : Fin 2) * 128 + 1 * r.val = _; rw [(index_11 t).1]; omega)
    (by show win0_11.index t (1 : Fin 2) * 1024 + 1 * d.val = _; rw [(index_11 t).2]; omega)

theorem index_12 : ∀ t : Fin cfg0.N, win0_12.index t (0 : Fin 2) = t.val / 4 * 33 + t.val % 4 * 8 + 5 ∧ win0_12.index t (1 : Fin 2) = 0 :=
  (by decide +kernel : ∀ t : Fin grid0.N, win0_12.index t (0 : Fin 2) = t.val / 4 * 33 + t.val % 4 * 8 + 5 ∧ win0_12.index t (1 : Fin 2) = 0)

theorem blk_12 (c : Dev nD) (t : Fin cfg0.N) (r : Fin 128) (d : Fin 1024) (b : Fin 4) (p : Fin 4224)
    (hp : (t.val / 4 * 33 + t.val % 4 * 8 + 5) * 128 + r.val = b.val * 4224 + p.val) :
    iblk m c 12 t (ix2 r d) = m ((c : Thread nD τ).loc main_arg1) (ix3 b p d) :=
  h_at m c _ b p d (by show win0_12.index t (0 : Fin 2) * 128 + 1 * r.val = _; rw [(index_12 t).1]; omega)
    (by show win0_12.index t (1 : Fin 2) * 1024 + 1 * d.val = _; rw [(index_12 t).2]; omega)

theorem index_13 : ∀ t : Fin cfg0.N, win0_13.index t (0 : Fin 2) = t.val / 4 * 33 + t.val % 4 * 8 + 6 ∧ win0_13.index t (1 : Fin 2) = 0 :=
  (by decide +kernel : ∀ t : Fin grid0.N, win0_13.index t (0 : Fin 2) = t.val / 4 * 33 + t.val % 4 * 8 + 6 ∧ win0_13.index t (1 : Fin 2) = 0)

theorem blk_13 (c : Dev nD) (t : Fin cfg0.N) (r : Fin 128) (d : Fin 1024) (b : Fin 4) (p : Fin 4224)
    (hp : (t.val / 4 * 33 + t.val % 4 * 8 + 6) * 128 + r.val = b.val * 4224 + p.val) :
    iblk m c 13 t (ix2 r d) = m ((c : Thread nD τ).loc main_arg1) (ix3 b p d) :=
  h_at m c _ b p d (by show win0_13.index t (0 : Fin 2) * 128 + 1 * r.val = _; rw [(index_13 t).1]; omega)
    (by show win0_13.index t (1 : Fin 2) * 1024 + 1 * d.val = _; rw [(index_13 t).2]; omega)

theorem index_14 : ∀ t : Fin cfg0.N, win0_14.index t (0 : Fin 2) = t.val / 4 * 33 + t.val % 4 * 8 + 7 ∧ win0_14.index t (1 : Fin 2) = 0 :=
  (by decide +kernel : ∀ t : Fin grid0.N, win0_14.index t (0 : Fin 2) = t.val / 4 * 33 + t.val % 4 * 8 + 7 ∧ win0_14.index t (1 : Fin 2) = 0)

theorem blk_14 (c : Dev nD) (t : Fin cfg0.N) (r : Fin 128) (d : Fin 1024) (b : Fin 4) (p : Fin 4224)
    (hp : (t.val / 4 * 33 + t.val % 4 * 8 + 7) * 128 + r.val = b.val * 4224 + p.val) :
    iblk m c 14 t (ix2 r d) = m ((c : Thread nD τ).loc main_arg1) (ix3 b p d) :=
  h_at m c _ b p d (by show win0_14.index t (0 : Fin 2) * 128 + 1 * r.val = _; rw [(index_14 t).1]; omega)
    (by show win0_14.index t (1 : Fin 2) * 1024 + 1 * d.val = _; rw [(index_14 t).2]; omega)

theorem index_15 : ∀ t : Fin cfg0.N, win0_15.index t (0 : Fin 2) = t.val / 4 * 33 + t.val % 4 * 8 + 8 ∧ win0_15.index t (1 : Fin 2) = 0 :=
  (by decide +kernel : ∀ t : Fin grid0.N, win0_15.index t (0 : Fin 2) = t.val / 4 * 33 + t.val % 4 * 8 + 8 ∧ win0_15.index t (1 : Fin 2) = 0)

theorem blk_15 (c : Dev nD) (t : Fin cfg0.N) (r : Fin 128) (d : Fin 1024) (b : Fin 4) (p : Fin 4224)
    (hp : (t.val / 4 * 33 + t.val % 4 * 8 + 8) * 128 + r.val = b.val * 4224 + p.val) :
    iblk m c 15 t (ix2 r d) = m ((c : Thread nD τ).loc main_arg1) (ix3 b p d) :=
  h_at m c _ b p d (by show win0_15.index t (0 : Fin 2) * 128 + 1 * r.val = _; rw [(index_15 t).1]; omega)
    (by show win0_15.index t (1 : Fin 2) * 1024 + 1 * d.val = _; rw [(index_15 t).2]; omega)

theorem index_16 : ∀ t : Fin cfg0.N, win0_16.index t (0 : Fin 2) = 0 ∧ win0_16.index t (1 : Fin 2) = 0 :=
  (by decide +kernel : ∀ t : Fin grid0.N, win0_16.index t (0 : Fin 2) = 0 ∧ win0_16.index t (1 : Fin 2) = 0)

theorem index_17 : ∀ t : Fin cfg0.N, win0_17.index t (0 : Fin 2) = 0 ∧ win0_17.index t (1 : Fin 2) = 0 :=
  (by decide +kernel : ∀ t : Fin grid0.N, win0_17.index t (0 : Fin 2) = 0 ∧ win0_17.index t (1 : Fin 2) = 0)

theorem index_18 : ∀ t : Fin cfg0.N, win0_18.index t (0 : Fin 2) = t.val ∧ win0_18.index t (1 : Fin 2) = 0 :=
  (by decide +kernel : ∀ t : Fin grid0.N, win0_18.index t (0 : Fin 2) = t.val ∧ win0_18.index t (1 : Fin 2) = 0)

theorem blk_16 (c : Dev nD) (t : Fin cfg0.N) (d : Fin 1024) (e : Fin 1024) :
    iblk m c 16 t (ix2 d e) = m ((c : Thread nD τ).loc main_arg2) (ix3 (0 : Fin 1) d e) := by
  obtain ⟨e0, e1⟩ := index_16 t
  have h0 : (((cfg0.win 16).blk t).view.emb (ix2 d e) 0).val = win0_16.index t (0 : Fin 2) * 1024 + 1 * (d).val := rfl
  have h1 : (((cfg0.win 16).blk t).view.emb (ix2 d e) 1).val = win0_16.index t (1 : Fin 2) * 1024 + 1 * (e).val := rfl
  rw [e0] at h0
  rw [e1] at h1
  show V m c main_v1 (((cfg0.win 16).blk t).view.emb (ix2 d e)) = _
  rw [w_host]
  exact shapeCast_apply _ _ _ (ix3 (0 : Fin 1) d e) (by
    rw [Shape.rowMajor_val_three, Shape.rowMajor_val_two]
    show (0 * 1024 + d.val) * 1024 + e.val = (((cfg0.win 16).blk t).view.emb (ix2 d e) 0).val * 1024 + (((cfg0.win 16).blk t).view.emb (ix2 d e) 1).val
    rw [h0, h1]; omega)

theorem blk_17 (c : Dev nD) (t : Fin cfg0.N) (d : Fin 1024) :
    iblk m c 17 t (ix2 (0 : Fin 1) d) = m ((c : Thread nD τ).loc main_arg3) (ix1 d) := by
  obtain ⟨e0, e1⟩ := index_17 t
  have h0 : (((cfg0.win 17).blk t).view.emb (ix2 (0 : Fin 1) d) 0).val = win0_17.index t (0 : Fin 2) * 1 + 1 * ((0 : Fin 1)).val := rfl
  have h1 : (((cfg0.win 17).blk t).view.emb (ix2 (0 : Fin 1) d) 1).val = win0_17.index t (1 : Fin 2) * 1024 + 1 * (d).val := rfl
  rw [e0] at h0
  rw [e1] at h1
  show V m c main_v2 (((cfg0.win 17).blk t).view.emb (ix2 (0 : Fin 1) d)) = _
  rw [gain_host]
  exact shapeCast_apply _ _ _ (ix1 d) (by
    rw [Shape.rowMajor_val_one, Shape.rowMajor_val_two]
    show d.val = (((cfg0.win 17).blk t).view.emb (ix2 (0 : Fin 1) d) 0).val * 1024 + (((cfg0.win 17).blk t).view.emb (ix2 (0 : Fin 1) d) 1).val
    rw [h0, h1]
    show d.val = (0 * 1 + 1 * 0) * 1024 + (0 * 1024 + 1 * d.val)
    omega)

theorem piece_row {a r q k : ℕ} (hp : (a + 1) * 128 + r = q) (hk : r / 128 = k) : (a + (1 + k)) * 128 + r % 128 = q := by omega

theorem z_row (c : Dev nD) (t : Fin cfg0.N) (R : Fin 1024) (b : Fin 4) (p : Fin 4224) (hp : (t.val / 4 * 33 + t.val % 4 * 8 + 1) * 128 + R.val = b.val * 4224 + p.val) (d : Fin 1024) :
    (stack (P := 128) (![iblk m c 0 t, iblk m c 1 t, iblk m c 2 t, iblk m c 3 t, iblk m c 4 t, iblk m c 5 t, iblk m c 6 t, iblk m c 7 t] : Fin 8 → S128x1024.Idx → Elt Ideal .f32) R d : EReal) = m ((c : Thread nD τ).loc main_arg0) (ix3 b p d) :=
  stack_eq (P := 128) _ _ _ _ _ _ _ _ R d
    (fun hk => blk_0 m c t _ d b p (piece_row hp hk))
    (fun hk => blk_1 m c t _ d b p (piece_row hp hk))
    (fun hk => blk_2 m c t _ d b p (piece_row hp hk))
    (fun hk => blk_3 m c t _ d b p (piece_row hp hk))
    (fun hk => blk_4 m c t _ d b p (piece_row hp hk))
    (fun hk => blk_5 m c t _ d b p (piece_row hp hk))
    (fun hk => blk_6 m c t _ d b p (piece_row hp hk))
    (fun hk => blk_7 m c t _ d b p (piece_row hp hk))

theorem h_row (c : Dev nD) (t : Fin cfg0.N) (R : Fin 1024) (b : Fin 4) (p : Fin 4224) (hp : (t.val / 4 * 33 + t.val % 4 * 8 + 1) * 128 + R.val = b.val * 4224 + p.val) (d : Fin 1024) :
    (stack (P := 128) (![iblk m c 8 t, iblk m c 9 t, iblk m c 10 t, iblk m c 11 t, iblk m c 12 t, iblk m c 13 t, iblk m c 14 t, iblk m c 15 t] : Fin 8 → S128x1024.Idx → Elt Ideal .f32) R d : EReal) = m ((c : Thread nD τ).loc main_arg1) (ix3 b p d) :=
  stack_eq (P := 128) _ _ _ _ _ _ _ _ R d
    (fun hk => blk_8 m c t _ d b p (piece_row hp hk))
    (fun hk => blk_9 m c t _ d b p (piece_row hp hk))
    (fun hk => blk_10 m c t _ d b p (piece_row hp hk))
    (fun hk => blk_11 m c t _ d b p (piece_row hp hk))
    (fun hk => blk_12 m c t _ d b p (piece_row hp hk))
    (fun hk => blk_13 m c t _ d b p (piece_row hp hk))
    (fun hk => blk_14 m c t _ d b p (piece_row hp hk))
    (fun hk => blk_15 m c t _ d b p (piece_row hp hk))

theorem tileSum_eq (c : Dev nD) (t : Fin cfg0.N) (R : Fin 1024) (b : Fin 4) (p : Fin 4224) (hp : (t.val / 4 * 33 + t.val % 4 * 8 + 1) * 128 + R.val = b.val * 4224 + p.val) (d : Fin 1024) :
    tileSum (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) R d = sumAt (m ((c : Thread nD τ).loc main_arg0)) (m ((c : Thread nD τ).loc main_arg1)) (m ((c : Thread nD τ).loc main_arg2)) b p d := by
  unfold tileSum sumAt
  refine congr (congrArg (fun a b : EReal => a + b) (h_row m c t R b p hp d)) (Finset.sum_congr rfl fun k _ => ?_)
  exact congr (congrArg (fun a b : EReal => a * b) (z_row m c t R b p hp k)) (blk_16 m c t k d)

theorem point_18 (c : Dev nD) (t : Fin cfg0.N) (R : Fin 1024) (C : Fin 1024) (i : S16384x1024.Idx) (h0 : (i 0).val = 1024 * t.val + R.val) (hC : C.val = (i 1).val) :
    out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (ix2 R C) = specO (m ((c : Thread nD τ).loc main_arg0)) (m ((c : Thread nD τ).loc main_arg1)) (m ((c : Thread nD τ).loc main_arg2)) (m ((c : Thread nD τ).loc main_arg3)) i := by
  have ht := pt_lt t
  have hrow : (t.val / 4 * 33 + t.val % 4 * 8 + 1) * 128 + R.val = (ob (i 0)).val * 4224 + (op (i 0)).val := by
    show _ = (i 0).val / 4096 * 4224 + (128 + (i 0).val % 4096)
    omega
  unfold specO
  refine (out18_apply _ _ _ _ _ _ _ _ _ _ _ _ _ _ _ _ _ _ R C).trans ?_
  rw [funext (tileSum_eq m c t R (ob (i 0)) (op (i 0)) hrow), funext (blk_17 m c t)]
  exact congrArg _ (Fin.ext hC)

theorem flush_18 (c : Dev nD) (t : Fin cfg0.N) :
    (dats m 0 c).flushed 18 t = ((cfg0.win 18).blk t).view.read (Elt Ideal) (specO (m ((c : Thread nD τ).loc main_arg0)) (m ((c : Thread nD τ).loc main_arg1)) (m ((c : Thread nD τ).loc main_arg2)) (m ((c : Thread nD τ).loc main_arg3)) : Buf (Elt Ideal) ((c : Thread nD τ).loc main_v5)) := by
  rw [Value.flushed18]
  obtain ⟨e0, e1⟩ := index_18 t
  funext y
  have h0 : (((cfg0.win 18).blk t).view.emb y 0).val = win0_18.index t (0 : Fin 2) * 1024 + 1 * (y 0).val := rfl
  have h1 : (((cfg0.win 18).blk t).view.emb y 1).val = win0_18.index t (1 : Fin 2) * 1024 + 1 * (y 1).val := rfl
  rw [e0] at h0
  rw [e1] at h1
  have ey : (cfg0.win 18).xinj (grid0.coords t) y = ix2 (⟨(y 0).val, (y 0).isLt⟩ : Fin 1024) (⟨(y 1).val, (y 1).isLt⟩ : Fin 1024) := by
    funext a; apply Fin.ext
    match a with
    | ⟨0, _⟩ => rfl
    | ⟨1, _⟩ => rfl
  show out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) ((cfg0.win 18).xinj (grid0.coords t) y)
    = specO (m ((c : Thread nD τ).loc main_arg0)) (m ((c : Thread nD τ).loc main_arg1)) (m ((c : Thread nD τ).loc main_arg2)) (m ((c : Thread nD τ).loc main_arg3)) (((cfg0.win 18).blk t).view.emb y)
  rw [ey]
  exact point_18 m c t _ _ _ (by rw [h0]; show _ = 1024 * t.val + (y 0).val; omega) (by rw [h1]; show (y 1).val = _; omega)

theorem mem_18 (t : Fin cfg0.N) (i : S16384x1024.Idx) (h : (i 0).val / 1024 = t.val) : i ∈ ((cfg0.win 18).blk t).view.set := by
  have h1 : (i 1).val < 1024 := (i 1).isLt
  obtain ⟨e0, e1⟩ := index_18 t
  show i ∈ ((View.whole main_v5).slice (win0_18.rect t)).set
  rw [View.set_slice_whole, Rect.mem_set_unit]
  intro a
  match a with
  | ⟨0, _⟩ =>
    show win0_18.index t (0 : Fin 2) * 1024 ≤ (i 0).val ∧ (i 0).val < win0_18.index t (0 : Fin 2) * 1024 + 1024
    rw [e0]; omega
  | ⟨1, _⟩ =>
    show win0_18.index t (1 : Fin 2) * 1024 ≤ (i 1).val ∧ (i 1).val < win0_18.index t (1 : Fin 2) * 1024 + 1024
    rw [e1]; omega

theorem covered_18 (i : S16384x1024.Idx) : ∃ t : Fin cfg0.N, (cfg0.win 18).flush t = true ∧ i ∈ ((cfg0.win 18).blk t).view.set := by
  have h0 : (i 0).val < 16384 := (i 0).isLt
  exact ⟨pt ((i 0).val / 1024) (by omega), flush0_18 _, mem_18 _ i rfl⟩

theorem arr_18 (c : Dev nD) : (dats m 0 c).arrAt 18 cfg0.N = (specO (m ((c : Thread nD τ).loc main_arg0)) (m ((c : Thread nD τ).loc main_arg1)) (m ((c : Thread nD τ).loc main_arg2)) (m ((c : Thread nD τ).loc main_arg3)) : Buf (Elt Ideal) ((c : Thread nD τ).loc main_v5)) :=
  (dats m 0 c).arrAt_eq_of_cover 18 _ (fun t _ => flush_18 m c t) covered_18

end ProjO

end
-- ==== Proof.ORef.lean ====
module

public import proofs.«01_k».proof.Proof.OSpec
public import proofs.«01_k».proof.Proof.Index
public import proofs.«01_k».proof.Proof.Gen.RwkvOutRefIdeal.Read

@[expose] public section

noncomputable section

/-! The reference of the output product, read value by value. -/

namespace ProjO

open Proj Cert.RwkvOutRefIdeal Cert.RwkvOutRefIdeal.Gen Cert.RwkvOutRefIdeal.Read Idealize.ShloMosaic Idealize.ShloMosaic.ValueIdx

variable (z h : FVec Ideal ⟨3, ![4, 4224, 1024]⟩ .f32) (w : FVec Ideal ⟨3, ![1, 1024, 1024]⟩ .f32) (g : FVec Ideal ⟨1, ![1024]⟩ .f32)

theorem ref_sum (b : Fin 4) (p : Fin 4224) (d : Fin 1024) : val_main_v2 (F := Ideal) z h w (ix3 b p d) = sumAt z h w b p d := by
  rw [val_main_v2_apply, val_main_v1_apply]
  unfold sumAt
  refine congrArg (fun y : EReal => h (ix3 b p d) + y) (Finset.sum_congr rfl fun k _ => ?_)
  rw [val_main_v0_apply, at3 (lidx_main_v1 (ix3 b p d) k) b p k rfl rfl rfl,
    at3 (idx_main_v0 (ridx_main_v1 (ix3 b p d) k)) (0 : Fin 1) k d rfl (by show (k.val * 1024 + d.val) / 1024 % 1024 = k.val; omega)
      (by show (k.val * 1024 + d.val) % 1024 = d.val; omega)]

theorem ref_scale (b : Fin 4) (p : Fin 4224) (j : S4x4224x1.Idx) (h0 : (j 0).val = b.val) (h1 : (j 1).val = p.val) :
    val_main_v10 (F := Ideal) z h w j = scale (sumAt z h w b p) := by
  rw [val_main_v10_apply, val_main_v9_apply, val_main_v7_apply, val_main_v8_apply, val_main_cst_1_apply, val_main_v6_apply, val_main_cst_0_apply, val_main_v5_apply, val_main_v4_apply,
    val_main_cst_apply]
  have e : ∀ k : Fin 1024, val_main_v3 (F := Ideal) z h w (idx_main_v4 (idx_main_v5 j) k) = sumAt z h w b p k * sumAt z h w b p k := fun k => by
    rw [val_main_v3_apply, at3 (idx_main_v4 (idx_main_v5 j) k) b p k h0 h1 rfl, ref_sum]
    rfl
  rw [Finset.sum_congr rfl fun k _ => e k]
  unfold scale
  show Ideal.rsqrt (Ideal.div (Ideal.ofBits .f32 0x00000000#32 + _) _ + _) = _
  rw [Ideal.ofBits_zero_f32, zero_add]
  rfl

theorem ref_nrm (b : Fin 4) (p : Fin 4224) (d : Fin 1024) : val_main_v15 (F := Ideal) z h w g (ix3 b p d) = nrm (sumAt z h w b p) (fun k => g (ix1 k)) d := by
  rw [val_main_v15_apply, val_main_v12_apply, val_main_v11_apply, ref_scale z h w b p _ rfl rfl, val_main_v14_apply, val_main_v13_apply, ref_sum,
    at1 (idx_main_v13 (idx_main_v14 (ix3 b p d))) d rfl]
  rfl

theorem ref_out (i : S16384x1024.Idx) : val_main_v17 (F := Ideal) z h w g i = specO z h w g i := by
  have i0 : (i 0).val < 16384 := (i 0).isLt
  have i1 : (i 1).val < 1024 := (i 1).isLt
  rw [val_main_v17_apply, val_main_v16_apply, at3 (idx_main_v16 (idx_main_v17 i)) (ob (i 0)) (op (i 0)) (i 1) (by show ((i 0).val * 1024 + (i 1).val) / 4194304 = (i 0).val / 4096; omega)
    (by show 128 + ((i 0).val * 1024 + (i 1).val) / 1024 % 4096 = 128 + (i 0).val % 4096; omega) (by show ((i 0).val * 1024 + (i 1).val) % 1024 = (i 1).val; omega)]
  exact ref_nrm z h w g (ob (i 0)) (op (i 0)) (i 1)

end ProjO

end
-- ==== Proof.OWhole.lean ====
module

public import proofs.«01_k».proof.Defs
public import proofs.«01_k».proof.Proof.OKernel
public import proofs.«01_k».proof.Proof.ORef
public import proofs.«01_k».proof.Proof.Gen.RwkvOutRefIdeal.Run

@[expose] public section

noncomputable section

/-! The two programs of the output product end with equal arrays. -/

namespace ProjO

open Idealize.ShloMosaic Idealize.ShloMosaic.ValueIdx Idealize.SL.Sem

theorem rwkv_out_whole : Cert.algebraic_RwkvOutIdeal_RwkvOutRefIdeal := by
  intro m g m' g' _ hagree
  refine ⟨fun c => (Cert.RwkvOutIdeal.Gen.dats m 0 c).arrAt 18 Cert.RwkvOutIdeal.cfg0.N,
    Cert.RwkvOutIdeal.Value.run_blocks m g, (θ_run _ _ _).mono (fun r h c => ⟨?_, (h c).2⟩) (Cert.RwkvOutRefIdeal.Value.run m' g')⟩
  obtain ⟨a0, a1, a2, a3⟩ := hagree c
  rw [(h c).1, Cert.RwkvOutRefIdeal.Read.val_main_v17_eq, a0, a1, a2, a3]
  exact (funext (ref_out _ _ _ _)).trans (arr_18 m c).symm

end ProjO

end
-- ==== Proof.SOut.lean ====
module

public import proofs.«01_k».proof.Proof.Stack
public import proofs.«01_k».proof.Proof.Gen.SampleOutIdeal.Value
public import Idealize.ShloMosaic.Lib.StableHlo.RunRead

@[expose] public section

noncomputable section

/-! The output product, the residual add and the final norm on the sample: what the call leaves, from the arguments. -/

namespace ProjS

open Proj Idealize.ShloMosaic Idealize.ShloMosaic.ValueIdx

section
variable (z h : FVec Ideal ⟨3, ![128, 4, 1024]⟩ .f32) (w : FVec Ideal ⟨3, ![1, 1024, 1024]⟩ .f32) (g : FVec Ideal ⟨1, ![1024]⟩ .f32)

/-- The row at place `p` of sequence `b`: the row added to, and the product. -/
def sumAt (b : Fin 128) (p : Fin 4) (d : Fin 1024) : EReal :=
  h (ix3 b p d) + ∑ k : Fin 1024, z (ix3 b p k) * w (ix3 (0 : Fin 1) k d)

/-- The sequence of a row of the result, and its place. -/
def sb (r : Fin 512) : Fin 128 := ⟨r.val / 4, by omega⟩

def sp (r : Fin 512) : Fin 4 := ⟨r.val % 4, by omega⟩

def specS (i : (⟨2, ![512, 1024]⟩ : Shape).Idx) : EReal :=
  nrm (sumAt z h w (sb (i 0)) (sp (i 0))) (fun k => g (ix1 k)) (i 1)

end

open Cert.SampleOutIdeal Cert.SampleOutIdeal.Gen Idealize.ShloMosaic.TcCoe Idealize.SL.Sem Idealize.ShloMosaic.StableHlo
open Idealize.ShloMosaic.Pipeline (Dat)

section
variable (x0 x1 x2 x3 x4 x5 x6 x7 x8 x9 x10 x11 x12 x13 x14 x15 : Vec Ideal S64x1024 .f32) (x16 : Vec Ideal S1024x1024 .bf16) (x17 : Vec Ideal S1x1024 .f32)

/-- Row `R` of the tile before the norm. -/
def tileSum (R : Fin 512) (d : Fin 1024) : EReal :=
  (stack (P := 64) ![x8, x9, x10, x11, x12, x13, x14, x15] R d : EReal) + ∑ k : Fin 1024, (stack (P := 64) ![x0, x1, x2, x3, x4, x5, x6, x7] R k : EReal) * x16 (ix2 k d)

theorem pay2_apply (R : Fin 512) (d : Fin 1024) : (k0_pay2 (F := Ideal) x0 x1 x2 x3 x4 x5 x6 x7 (ix2 R d) : EReal) = stack (P := 64) ![x0, x1, x2, x3, x4, x5, x6, x7] R d := by
  unfold k0_pay2
  rw [cast_same x0, cast_same x1, cast_same x2, cast_same x3, cast_same x4, cast_same x5, cast_same x6, cast_same x7]
  exact eight_blocks (P := 64) _ _ _ _ _ _ _ _ R d _

theorem out18_apply (R : Fin 512) (d : Fin 1024) :
    (out0_18 (F := Ideal) x0 x1 x2 x3 x4 x5 x6 x7 x8 x9 x10 x11 x12 x13 x14 x15 x16 x17 (ix2 R d) : EReal) = nrm (tileSum x0 x1 x2 x3 x4 x5 x6 x7 x8 x9 x10 x11 x12 x13 x14 x15 x16 R) (fun k => x17 (ix2 (0 : Fin 1) k)) d := by
  unfold out0_18
  rw [View.canon_unit_zero zeros2]
  rw [View.ld_unit_zero zeros2, View.ld_unit_zero zeros2, View.ld_unit_zero zeros2, View.ld_unit_zero zeros2, View.ld_unit_zero zeros2, View.ld_unit_zero zeros2, View.ld_unit_zero zeros2, View.ld_unit_zero zeros2, View.ld_unit_zero zeros2, View.ld_unit_zero zeros2, View.ld_unit_zero zeros2, View.ld_unit_zero zeros2, View.ld_unit_zero zeros2, View.ld_unit_zero zeros2, View.ld_unit_zero zeros2, View.ld_unit_zero zeros2, View.ld_unit_zero zeros2, View.ld_unit_zero zeros2]
  unfold k0_pay1 k0_pay3 k0_pay4 k0_pay5 k0_pay6
  dsimp only
  rw [cast_same x8, cast_same x9, cast_same x10, cast_same x11, cast_same x12, cast_same x13, cast_same x14, cast_same x15, cast_same x16, cast_same x17]
  refine (tile_norm (R := 512) _ x17 _ _ _ _ _ _ R d).trans ?_
  refine congrArg (fun f => nrm f (fun k => x17 (ix2 (0 : Fin 1) k)) d) (funext fun e => ?_)
  unfold tileSum
  rw [addf_apply]
  refine congr (congrArg (fun a b : EReal => a + b) (eight_blocks (P := 64) _ _ _ _ _ _ _ _ R e _)) ?_
  refine (tile_dot (φ₁ := .bf16) (φ₂ := .bf16) (R := 512) (K := 1024) (N := 1024) _ _ R e).trans (Finset.sum_congr rfl fun k _ => ?_)
  rw [pay2_apply]

end

variable (m : (ℓ : Loc nD τ sig) → Buf (Elt Ideal) ℓ) (c : Dev nD) (t : Fin cfg0.N)

/-- A row of the gated rows, where the host lays all rows below one another. -/
theorem z_at (j : S512x1024.Idx) (b : Fin 128) (p : Fin 4) (d : Fin 1024) (h0 : (j 0).val = b.val * 4 + p.val) (h1 : (j 1).val = d.val) :
    V m c main_v3 j = m ((c : Thread nD τ).loc main_arg0) (ix3 b p d) := by
  rw [show V m c main_v3 = shapeCast S512x1024 (m ((c : Thread nD τ).loc main_arg0)) shapeCasts_S128x4x1024_S512x1024 by
    unfold_abbrev_sides
    after_reads_simp
    rfl]
  exact shapeCast_apply _ _ _ (ix3 b p d) (by
    rw [Shape.rowMajor_val_three, Shape.rowMajor_val_two]
    show (b.val * 4 + p.val) * 1024 + d.val = (j 0).val * 1024 + (j 1).val
    rw [h0, h1])

theorem h_at (j : S512x1024.Idx) (b : Fin 128) (p : Fin 4) (d : Fin 1024) (h0 : (j 0).val = b.val * 4 + p.val) (h1 : (j 1).val = d.val) :
    V m c main_v4 j = m ((c : Thread nD τ).loc main_arg1) (ix3 b p d) := by
  rw [show V m c main_v4 = shapeCast S512x1024 (m ((c : Thread nD τ).loc main_arg1)) shapeCasts_S128x4x1024_S512x1024 by
    unfold_abbrev_sides
    after_reads_simp
    rfl]
  exact shapeCast_apply _ _ _ (ix3 b p d) (by
    rw [Shape.rowMajor_val_three, Shape.rowMajor_val_two]
    show (b.val * 4 + p.val) * 1024 + d.val = (j 0).val * 1024 + (j 1).val
    rw [h0, h1])

theorem index_0 : ∀ t : Fin cfg0.N, win0_0.index t (0 : Fin 2) = 0 ∧ win0_0.index t (1 : Fin 2) = 0 :=
  (by decide +kernel : ∀ t : Fin grid0.N, win0_0.index t (0 : Fin 2) = 0 ∧ win0_0.index t (1 : Fin 2) = 0)

theorem index_1 : ∀ t : Fin cfg0.N, win0_1.index t (0 : Fin 2) = 1 ∧ win0_1.index t (1 : Fin 2) = 0 :=
  (by decide +kernel : ∀ t : Fin grid0.N, win0_1.index t (0 : Fin 2) = 1 ∧ win0_1.index t (1 : Fin 2) = 0)

theorem index_2 : ∀ t : Fin cfg0.N, win0_2.index t (0 : Fin 2) = 2 ∧ win0_2.index t (1 : Fin 2) = 0 :=
  (by decide +kernel : ∀ t : Fin grid0.N, win0_2.index t (0 : Fin 2) = 2 ∧ win0_2.index t (1 : Fin 2) = 0)

theorem index_3 : ∀ t : Fin cfg0.N, win0_3.index t (0 : Fin 2) = 3 ∧ win0_3.index t (1 : Fin 2) = 0 :=
  (by decide +kernel : ∀ t : Fin grid0.N, win0_3.index t (0 : Fin 2) = 3 ∧ win0_3.index t (1 : Fin 2) = 0)

theorem index_4 : ∀ t : Fin cfg0.N, win0_4.index t (0 : Fin 2) = 4 ∧ win0_4.index t (1 : Fin 2) = 0 :=
  (by decide +kernel : ∀ t : Fin grid0.N, win0_4.index t (0 : Fin 2) = 4 ∧ win0_4.index t (1 : Fin 2) = 0)

theorem index_5 : ∀ t : Fin cfg0.N, win0_5.index t (0 : Fin 2) = 5 ∧ win0_5.index t (1 : Fin 2) = 0 :=
  (by decide +kernel : ∀ t : Fin grid0.N, win0_5.index t (0 : Fin 2) = 5 ∧ win0_5.index t (1 : Fin 2) = 0)

theorem index_6 : ∀ t : Fin cfg0.N, win0_6.index t (0 : Fin 2) = 6 ∧ win0_6.index t (1 : Fin 2) = 0 :=
  (by decide +kernel : ∀ t : Fin grid0.N, win0_6.index t (0 : Fin 2) = 6 ∧ win0_6.index t (1 : Fin 2) = 0)

theorem index_7 : ∀ t : Fin cfg0.N, win0_7.index t (0 : Fin 2) = 7 ∧ win0_7.index t (1 : Fin 2) = 0 :=
  (by decide +kernel : ∀ t : Fin grid0.N, win0_7.index t (0 : Fin 2) = 7 ∧ win0_7.index t (1 : Fin 2) = 0)

theorem index_8 : ∀ t : Fin cfg0.N, win0_8.index t (0 : Fin 2) = 0 ∧ win0_8.index t (1 : Fin 2) = 0 :=
  (by decide +kernel : ∀ t : Fin grid0.N, win0_8.index t (0 : Fin 2) = 0 ∧ win0_8.index t (1 : Fin 2) = 0)

theorem index_9 : ∀ t : Fin cfg0.N, win0_9.index t (0 : Fin 2) = 1 ∧ win0_9.index t (1 : Fin 2) = 0 :=
  (by decide +kernel : ∀ t : Fin grid0.N, win0_9.index t (0 : Fin 2) = 1 ∧ win0_9.index t (1 : Fin 2) = 0)

theorem index_10 : ∀ t : Fin cfg0.N, win0_10.index t (0 : Fin 2) = 2 ∧ win0_10.index t (1 : Fin 2) = 0 :=
  (by decide +kernel : ∀ t : Fin grid0.N, win0_10.index t (0 : Fin 2) = 2 ∧ win0_10.index t (1 : Fin 2) = 0)

theorem index_11 : ∀ t : Fin cfg0.N, win0_11.index t (0 : Fin 2) = 3 ∧ win0_11.index t (1 : Fin 2) = 0 :=
  (by decide +kernel : ∀ t : Fin grid0.N, win0_11.index t (0 : Fin 2) = 3 ∧ win0_11.index t (1 : Fin 2) = 0)

theorem index_12 : ∀ t : Fin cfg0.N, win0_12.index t (0 : Fin 2) = 4 ∧ win0_12.index t (1 : Fin 2) = 0 :=
  (by decide +kernel : ∀ t : Fin grid0.N, win0_12.index t (0 : Fin 2) = 4 ∧ win0_12.index t (1 : Fin 2) = 0)

theorem index_13 : ∀ t : Fin cfg0.N, win0_13.index t (0 : Fin 2) = 5 ∧ win0_13.index t (1 : Fin 2) = 0 :=
  (by decide +kernel : ∀ t : Fin grid0.N, win0_13.index t (0 : Fin 2) = 5 ∧ win0_13.index t (1 : Fin 2) = 0)

theorem index_14 : ∀ t : Fin cfg0.N, win0_14.index t (0 : Fin 2) = 6 ∧ win0_14.index t (1 : Fin 2) = 0 :=
  (by decide +kernel : ∀ t : Fin grid0.N, win0_14.index t (0 : Fin 2) = 6 ∧ win0_14.index t (1 : Fin 2) = 0)

theorem index_15 : ∀ t : Fin cfg0.N, win0_15.index t (0 : Fin 2) = 7 ∧ win0_15.index t (1 : Fin 2) = 0 :=
  (by decide +kernel : ∀ t : Fin grid0.N, win0_15.index t (0 : Fin 2) = 7 ∧ win0_15.index t (1 : Fin 2) = 0)

theorem index_16 : ∀ t : Fin cfg0.N, win0_16.index t (0 : Fin 2) = 0 ∧ win0_16.index t (1 : Fin 2) = 0 :=
  (by decide +kernel : ∀ t : Fin grid0.N, win0_16.index t (0 : Fin 2) = 0 ∧ win0_16.index t (1 : Fin 2) = 0)

theorem index_17 : ∀ t : Fin cfg0.N, win0_17.index t (0 : Fin 2) = 0 ∧ win0_17.index t (1 : Fin 2) = 0 :=
  (by decide +kernel : ∀ t : Fin grid0.N, win0_17.index t (0 : Fin 2) = 0 ∧ win0_17.index t (1 : Fin 2) = 0)

theorem index_18 : ∀ t : Fin cfg0.N, win0_18.index t (0 : Fin 2) = 0 ∧ win0_18.index t (1 : Fin 2) = 0 :=
  (by decide +kernel : ∀ t : Fin grid0.N, win0_18.index t (0 : Fin 2) = 0 ∧ win0_18.index t (1 : Fin 2) = 0)

theorem blk_16 (d e : Fin 1024) : iblk m c 16 t (ix2 d e) = m ((c : Thread nD τ).loc main_arg2) (ix3 (0 : Fin 1) d e) := by
  show V m c main_v1 (((cfg0.win 16).blk t).view.emb (ix2 d e)) = _
  rw [show V m c main_v1 = (truncf .bf16 (shapeCast S1024x1024 (m ((c : Thread nD τ).loc main_arg2)) shapeCasts_S1x1024x1024_S1024x1024 : FVec Ideal S1024x1024 .f32) bitsLt_bf16_f32 : FVec Ideal S1024x1024 .bf16) by
    unfold_abbrev_sides
    after_reads_simp
    rfl]
  exact shapeCast_apply _ _ _ (ix3 (0 : Fin 1) d e) (by
    rw [Shape.rowMajor_val_three, Shape.rowMajor_val_two]
    show (0 * 1024 + d.val) * 1024 + e.val = (win0_16.index t (0 : Fin 2) * 1024 + 1 * d.val) * 1024 + (win0_16.index t (1 : Fin 2) * 1024 + 1 * e.val)
    rw [(index_16 t).1, (index_16 t).2]; omega)

theorem blk_17 (d : Fin 1024) : iblk m c 17 t (ix2 (0 : Fin 1) d) = m ((c : Thread nD τ).loc main_arg3) (ix1 d) := by
  show V m c main_v2 (((cfg0.win 17).blk t).view.emb (ix2 (0 : Fin 1) d)) = _
  rw [show V m c main_v2 = shapeCast S1x1024 (m ((c : Thread nD τ).loc main_arg3)) shapeCasts_S1024_S1x1024 by
    unfold_abbrev_sides
    after_reads_simp
    rfl]
  exact shapeCast_apply _ _ _ (ix1 d) (by
    rw [Shape.rowMajor_val_one, Shape.rowMajor_val_two]
    show d.val = (win0_17.index t (0 : Fin 2) * 1 + 1 * 0) * 1024 + (win0_17.index t (1 : Fin 2) * 1024 + 1 * d.val)
    rw [(index_17 t).1, (index_17 t).2]; omega)

theorem z_row (R : Fin 512) (b : Fin 128) (p : Fin 4) (hp : R.val = b.val * 4 + p.val) (d : Fin 1024) :
    (stack (P := 64) (![iblk m c 0 t, iblk m c 1 t, iblk m c 2 t, iblk m c 3 t, iblk m c 4 t, iblk m c 5 t, iblk m c 6 t, iblk m c 7 t] : Fin 8 → S64x1024.Idx → Elt Ideal .f32) R d : EReal) = m ((c : Thread nD τ).loc main_arg0) (ix3 b p d) :=
  stack_eq (P := 64) _ _ _ _ _ _ _ _ R d
    (fun hk => z_at m c _ b p d (by show win0_0.index t (0 : Fin 2) * 64 + 1 * (R.val % 64) = _; rw [(index_0 t).1]; omega) (by show win0_0.index t (1 : Fin 2) * 1024 + 1 * d.val = _; rw [(index_0 t).2]; omega))
    (fun hk => z_at m c _ b p d (by show win0_1.index t (0 : Fin 2) * 64 + 1 * (R.val % 64) = _; rw [(index_1 t).1]; omega) (by show win0_1.index t (1 : Fin 2) * 1024 + 1 * d.val = _; rw [(index_1 t).2]; omega))
    (fun hk => z_at m c _ b p d (by show win0_2.index t (0 : Fin 2) * 64 + 1 * (R.val % 64) = _; rw [(index_2 t).1]; omega) (by show win0_2.index t (1 : Fin 2) * 1024 + 1 * d.val = _; rw [(index_2 t).2]; omega))
    (fun hk => z_at m c _ b p d (by show win0_3.index t (0 : Fin 2) * 64 + 1 * (R.val % 64) = _; rw [(index_3 t).1]; omega) (by show win0_3.index t (1 : Fin 2) * 1024 + 1 * d.val = _; rw [(index_3 t).2]; omega))
    (fun hk => z_at m c _ b p d (by show win0_4.index t (0 : Fin 2) * 64 + 1 * (R.val % 64) = _; rw [(index_4 t).1]; omega) (by show win0_4.index t (1 : Fin 2) * 1024 + 1 * d.val = _; rw [(index_4 t).2]; omega))
    (fun hk => z_at m c _ b p d (by show win0_5.index t (0 : Fin 2) * 64 + 1 * (R.val % 64) = _; rw [(index_5 t).1]; omega) (by show win0_5.index t (1 : Fin 2) * 1024 + 1 * d.val = _; rw [(index_5 t).2]; omega))
    (fun hk => z_at m c _ b p d (by show win0_6.index t (0 : Fin 2) * 64 + 1 * (R.val % 64) = _; rw [(index_6 t).1]; omega) (by show win0_6.index t (1 : Fin 2) * 1024 + 1 * d.val = _; rw [(index_6 t).2]; omega))
    (fun hk => z_at m c _ b p d (by show win0_7.index t (0 : Fin 2) * 64 + 1 * (R.val % 64) = _; rw [(index_7 t).1]; omega) (by show win0_7.index t (1 : Fin 2) * 1024 + 1 * d.val = _; rw [(index_7 t).2]; omega))

theorem h_row (R : Fin 512) (b : Fin 128) (p : Fin 4) (hp : R.val = b.val * 4 + p.val) (d : Fin 1024) :
    (stack (P := 64) (![iblk m c 8 t, iblk m c 9 t, iblk m c 10 t, iblk m c 11 t, iblk m c 12 t, iblk m c 13 t, iblk m c 14 t, iblk m c 15 t] : Fin 8 → S64x1024.Idx → Elt Ideal .f32) R d : EReal) = m ((c : Thread nD τ).loc main_arg1) (ix3 b p d) :=
  stack_eq (P := 64) _ _ _ _ _ _ _ _ R d
    (fun hk => h_at m c _ b p d (by show win0_8.index t (0 : Fin 2) * 64 + 1 * (R.val % 64) = _; rw [(index_8 t).1]; omega) (by show win0_8.index t (1 : Fin 2) * 1024 + 1 * d.val = _; rw [(index_8 t).2]; omega))
    (fun hk => h_at m c _ b p d (by show win0_9.index t (0 : Fin 2) * 64 + 1 * (R.val % 64) = _; rw [(index_9 t).1]; omega) (by show win0_9.index t (1 : Fin 2) * 1024 + 1 * d.val = _; rw [(index_9 t).2]; omega))
    (fun hk => h_at m c _ b p d (by show win0_10.index t (0 : Fin 2) * 64 + 1 * (R.val % 64) = _; rw [(index_10 t).1]; omega) (by show win0_10.index t (1 : Fin 2) * 1024 + 1 * d.val = _; rw [(index_10 t).2]; omega))
    (fun hk => h_at m c _ b p d (by show win0_11.index t (0 : Fin 2) * 64 + 1 * (R.val % 64) = _; rw [(index_11 t).1]; omega) (by show win0_11.index t (1 : Fin 2) * 1024 + 1 * d.val = _; rw [(index_11 t).2]; omega))
    (fun hk => h_at m c _ b p d (by show win0_12.index t (0 : Fin 2) * 64 + 1 * (R.val % 64) = _; rw [(index_12 t).1]; omega) (by show win0_12.index t (1 : Fin 2) * 1024 + 1 * d.val = _; rw [(index_12 t).2]; omega))
    (fun hk => h_at m c _ b p d (by show win0_13.index t (0 : Fin 2) * 64 + 1 * (R.val % 64) = _; rw [(index_13 t).1]; omega) (by show win0_13.index t (1 : Fin 2) * 1024 + 1 * d.val = _; rw [(index_13 t).2]; omega))
    (fun hk => h_at m c _ b p d (by show win0_14.index t (0 : Fin 2) * 64 + 1 * (R.val % 64) = _; rw [(index_14 t).1]; omega) (by show win0_14.index t (1 : Fin 2) * 1024 + 1 * d.val = _; rw [(index_14 t).2]; omega))
    (fun hk => h_at m c _ b p d (by show win0_15.index t (0 : Fin 2) * 64 + 1 * (R.val % 64) = _; rw [(index_15 t).1]; omega) (by show win0_15.index t (1 : Fin 2) * 1024 + 1 * d.val = _; rw [(index_15 t).2]; omega))

theorem point_18 (R : Fin 512) (C : Fin 1024) (i : S512x1024.Idx) (h0 : (i 0).val = R.val) (hC : C.val = (i 1).val) :
    out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (ix2 R C) = specS (m ((c : Thread nD τ).loc main_arg0)) (m ((c : Thread nD τ).loc main_arg1)) (m ((c : Thread nD τ).loc main_arg2)) (m ((c : Thread nD τ).loc main_arg3)) i := by
  have hrow : R.val = (sb (i 0)).val * 4 + (sp (i 0)).val := by
    show _ = (i 0).val / 4 * 4 + (i 0).val % 4
    omega
  have hs : ∀ d, tileSum (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) R d = sumAt (m ((c : Thread nD τ).loc main_arg0)) (m ((c : Thread nD τ).loc main_arg1)) (m ((c : Thread nD τ).loc main_arg2)) (sb (i 0)) (sp (i 0)) d := by
    intro d
    unfold tileSum sumAt
    refine congr (congrArg (fun a b : EReal => a + b) (h_row m c t R _ _ hrow d)) (Finset.sum_congr rfl fun k _ => ?_)
    exact congr (congrArg (fun a b : EReal => a * b) (z_row m c t R _ _ hrow k)) (blk_16 m c t k d)
  unfold specS
  refine (out18_apply _ _ _ _ _ _ _ _ _ _ _ _ _ _ _ _ _ _ R C).trans ?_
  rw [funext hs, funext (blk_17 m c t)]
  exact congrArg _ (Fin.ext hC)

theorem flush_18 :
    (dats m 0 c).flushed 18 t = ((cfg0.win 18).blk t).view.read (Elt Ideal) (specS (m ((c : Thread nD τ).loc main_arg0)) (m ((c : Thread nD τ).loc main_arg1)) (m ((c : Thread nD τ).loc main_arg2)) (m ((c : Thread nD τ).loc main_arg3)) : Buf (Elt Ideal) ((c : Thread nD τ).loc main_v5)) := by
  rw [Value.flushed18]
  funext y
  have ey : (cfg0.win 18).xinj (grid0.coords t) y = ix2 (⟨(y 0).val, (y 0).isLt⟩ : Fin 512) (⟨(y 1).val, (y 1).isLt⟩ : Fin 1024) := by
    funext a; apply Fin.ext
    match a with
    | ⟨0, _⟩ => rfl
    | ⟨1, _⟩ => rfl
  show out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) ((cfg0.win 18).xinj (grid0.coords t) y)
    = specS (m ((c : Thread nD τ).loc main_arg0)) (m ((c : Thread nD τ).loc main_arg1)) (m ((c : Thread nD τ).loc main_arg2)) (m ((c : Thread nD τ).loc main_arg3)) (((cfg0.win 18).blk t).view.emb y)
  rw [ey]
  exact point_18 m c t _ _ _ (by show win0_18.index t (0 : Fin 2) * 512 + 1 * (y 0).val = (y 0).val; rw [(index_18 t).1]; omega)
    (by show (y 1).val = win0_18.index t (1 : Fin 2) * 1024 + 1 * (y 1).val; rw [(index_18 t).2]; omega)

theorem covered_18 (i : S512x1024.Idx) : ∃ t : Fin cfg0.N, (cfg0.win 18).flush t = true ∧ i ∈ ((cfg0.win 18).blk t).view.set := by
  have h0 : (i 0).val < 512 := (i 0).isLt
  have h1 : (i 1).val < 1024 := (i 1).isLt
  refine ⟨t0_0, flush0_18 _, ?_⟩
  show i ∈ ((View.whole main_v5).slice (win0_18.rect t0_0)).set
  rw [View.set_slice_whole, Rect.mem_set_unit]
  intro a
  match a with
  | ⟨0, _⟩ =>
    show win0_18.index t0_0 (0 : Fin 2) * 512 ≤ (i 0).val ∧ (i 0).val < win0_18.index t0_0 (0 : Fin 2) * 512 + 512
    rw [(index_18 t0_0).1]; omega
  | ⟨1, _⟩ =>
    show win0_18.index t0_0 (1 : Fin 2) * 1024 ≤ (i 1).val ∧ (i 1).val < win0_18.index t0_0 (1 : Fin 2) * 1024 + 1024
    rw [(index_18 t0_0).2]; omega

theorem arr_18 : (dats m 0 c).arrAt 18 cfg0.N = (specS (m ((c : Thread nD τ).loc main_arg0)) (m ((c : Thread nD τ).loc main_arg1)) (m ((c : Thread nD τ).loc main_arg2)) (m ((c : Thread nD τ).loc main_arg3)) : Buf (Elt Ideal) ((c : Thread nD τ).loc main_v5)) :=
  (dats m 0 c).arrAt_eq_of_cover 18 _ (fun t _ => flush_18 m c t) covered_18

end ProjS

end
-- ==== Proof.SOutWhole.lean ====
module

public import proofs.«01_k».proof.Defs
public import proofs.«01_k».proof.Proof.SOut
public import proofs.«01_k».proof.Proof.Index
public import proofs.«01_k».proof.Proof.Gen.SampleOutRefIdeal.Read
public import proofs.«01_k».proof.Proof.Gen.SampleOutRefIdeal.Run

@[expose] public section

noncomputable section

/-! The reference of the output product on the sample, and the two programs' equal ends. -/

namespace ProjS

open Proj Idealize.ShloMosaic Idealize.ShloMosaic.ValueIdx Idealize.SL.Sem

section Reference

open Cert.SampleOutRefIdeal Cert.SampleOutRefIdeal.Gen Cert.SampleOutRefIdeal.Read

variable (z h : FVec Ideal ⟨3, ![128, 4, 1024]⟩ .f32) (w : FVec Ideal ⟨3, ![1, 1024, 1024]⟩ .f32) (g : FVec Ideal ⟨1, ![1024]⟩ .f32)

theorem ref_sum (b : Fin 128) (p : Fin 4) (d : Fin 1024) : val_main_v2 (F := Ideal) z h w (ix3 b p d) = sumAt z h w b p d := by
  rw [val_main_v2_apply, val_main_v1_apply]
  unfold sumAt
  refine congrArg (fun y : EReal => h (ix3 b p d) + y) (Finset.sum_congr rfl fun k _ => ?_)
  rw [val_main_v0_apply, at3 (lidx_main_v1 (ix3 b p d) k) b p k rfl rfl rfl,
    at3 (idx_main_v0 (ridx_main_v1 (ix3 b p d) k)) (0 : Fin 1) k d rfl (by show (k.val * 1024 + d.val) / 1024 % 1024 = k.val; omega)
      (by show (k.val * 1024 + d.val) % 1024 = d.val; omega)]

theorem ref_scale (b : Fin 128) (p : Fin 4) (j : S128x4x1.Idx) (h0 : (j 0).val = b.val) (h1 : (j 1).val = p.val) :
    val_main_v10 (F := Ideal) z h w j = scale (sumAt z h w b p) := by
  rw [val_main_v10_apply, val_main_v9_apply, val_main_v7_apply, val_main_v8_apply, val_main_cst_1_apply, val_main_v6_apply, val_main_cst_0_apply, val_main_v5_apply, val_main_v4_apply,
    val_main_cst_apply]
  have e : ∀ k : Fin 1024, val_main_v3 (F := Ideal) z h w (idx_main_v4 (idx_main_v5 j) k) = sumAt z h w b p k * sumAt z h w b p k := fun k => by
    rw [val_main_v3_apply, at3 (idx_main_v4 (idx_main_v5 j) k) b p k h0 h1 rfl, ref_sum]
    rfl
  rw [Finset.sum_congr rfl fun k _ => e k]
  unfold scale
  show Ideal.rsqrt (Ideal.div (Ideal.ofBits .f32 0x00000000#32 + _) _ + _) = _
  rw [Ideal.ofBits_zero_f32, zero_add]
  rfl

theorem ref_nrm (b : Fin 128) (p : Fin 4) (d : Fin 1024) : val_main_v15 (F := Ideal) z h w g (ix3 b p d) = nrm (sumAt z h w b p) (fun k => g (ix1 k)) d := by
  rw [val_main_v15_apply, val_main_v12_apply, val_main_v11_apply, ref_scale z h w b p _ rfl rfl, val_main_v14_apply, val_main_v13_apply, ref_sum,
    at1 (idx_main_v13 (idx_main_v14 (ix3 b p d))) d rfl]
  rfl

theorem ref_out (i : S512x1024.Idx) : val_main_v16 (F := Ideal) z h w g i = specS z h w g i := by
  have i0 : (i 0).val < 512 := (i 0).isLt
  have i1 : (i 1).val < 1024 := (i 1).isLt
  rw [val_main_v16_apply, at3 (idx_main_v16 i) (sb (i 0)) (sp (i 0)) (i 1) (by show ((i 0).val * 1024 + (i 1).val) / 4096 = (i 0).val / 4; omega)
    (by show ((i 0).val * 1024 + (i 1).val) / 1024 % 4 = (i 0).val % 4; omega) (by show ((i 0).val * 1024 + (i 1).val) % 1024 = (i 1).val; omega)]
  exact ref_nrm z h w g (sb (i 0)) (sp (i 0)) (i 1)

end Reference

theorem sample_out_whole : Cert.algebraic_SampleOutIdeal_SampleOutRefIdeal := by
  intro m g m' g' _ hagree
  refine ⟨fun c => (Cert.SampleOutIdeal.Gen.dats m 0 c).arrAt 18 Cert.SampleOutIdeal.cfg0.N,
    Cert.SampleOutIdeal.Value.run_blocks m g, (θ_run _ _ _).mono (fun r h c => ⟨?_, (h c).2⟩) (Cert.SampleOutRefIdeal.Value.run m' g')⟩
  obtain ⟨a0, a1, a2, a3⟩ := hagree c
  rw [(h c).1, Cert.SampleOutRefIdeal.Read.val_main_v16_eq, a0, a1, a2, a3]
  exact (funext (ref_out _ _ _ _)).trans (arr_18 m c).symm

end ProjS

end
-- ==== Proof.VPay.lean ====
module

public import proofs.«01_k».proof.Proof.WSpec
public import proofs.«01_k».proof.Proof.Index
public import proofs.«01_k».proof.Proof.Gen.SampleProjIdeal.Frame

@[expose] public section

noncomputable section

/-! The time mixing's projections on the sample: what the call leaves, and what its body computes from the blocks it reads. -/

namespace ProjV

open Proj Idealize.ShloMosaic Idealize.ShloMosaic.ValueIdx
open ProjW (mixed sg sg_sub lin logd rate)

section
variable (h : FVec Ideal ⟨3, ![128, 4, 1024]⟩ .f32) (s : FVec Ideal ⟨3, ![1, 128, 1024]⟩ .f32) (gn : FVec Ideal ⟨2, ![2, 1024]⟩ .f32) (mu : FVec Ideal ⟨3, ![1, 6, 1024]⟩ .f32)

/-- The sequence of a row of a result, and its place. -/
def vb (r : Fin 512) : Fin 128 := ⟨r.val / 4, by omega⟩

def vp (r : Fin 512) : Fin 4 := ⟨r.val % 4, by omega⟩

/-- The normed row at place `p` of sequence `b`. -/
def xnAt (b : Fin 128) (p : Fin 4) : Fin 1024 → EReal := nrm (fun k => h (ix3 b p k)) (fun k => gn (ix2 (1 : Fin 2) k))

/-- The row before it: the first row follows the sequence's own shift row. -/
def prevAt (b : Fin 128) (p : Fin 4) (d : Fin 1024) : EReal := if p.val = 0 then s (ix3 (0 : Fin 1) b d) else xnAt h gn b ⟨p.val - 1, by omega⟩ d

/-- Mix `c` at place `p`. -/
def mixAt (c : Fin 6) (b : Fin 128) (p : Fin 4) : Fin 1024 → EReal := mixed (xnAt h gn b p) (prevAt h s gn b p) (fun k => mu (ix3 (0 : Fin 1) c k))

/-- The projections of the first four mixes. -/
def specW (w : FVec Ideal ⟨4, ![1, 4, 1024, 1024]⟩ .f32) (c : Fin 4) (i : (⟨2, ![512, 1024]⟩ : Shape).Idx) : EReal :=
  lin (mixAt h s gn mu ⟨c.val, by omega⟩ (vb (i 0)) (vp (i 0))) (fun d e => w (ix4 (0 : Fin 1) c d e)) (i 1)

variable (w0 : FVec Ideal ⟨2, ![1, 1024]⟩ .f32) (w1 : FVec Ideal ⟨3, ![1, 1024, 64]⟩ .f32) (w2 : FVec Ideal ⟨3, ![1, 64, 1024]⟩ .f32)

def specD (i : (⟨2, ![512, 1024]⟩ : Shape).Idx) : EReal :=
  logd (mixAt h s gn mu 4 (vb (i 0)) (vp (i 0))) (fun e => w0 (ix2 (0 : Fin 1) e)) (fun d j => w1 (ix3 (0 : Fin 1) d j)) (fun j e => w2 (ix3 (0 : Fin 1) j e)) (i 1)

def specA (i : (⟨2, ![512, 1024]⟩ : Shape).Idx) : EReal :=
  rate (mixAt h s gn mu 5 (vb (i 0)) (vp (i 0))) (fun e => w0 (ix2 (0 : Fin 1) e)) (fun d j => w1 (ix3 (0 : Fin 1) d j)) (fun j e => w2 (ix3 (0 : Fin 1) j e)) (i 1)

/-- The normed rows. -/
def specX (i : (⟨2, ![512, 1024]⟩ : Shape).Idx) : EReal := xnAt h gn (vb (i 0)) (vp (i 0)) (i 1)

end

open Cert.SampleProjIdeal Cert.SampleProjIdeal.Gen Idealize.ShloMosaic.TcCoe Idealize.SL.Sem

/-- A tile's normed rows. -/
def tileX (v0 : Vec Ideal S256x1024 .f32) (v2 : Vec Ideal S1x1024 .f32) (r : Fin 256) : Fin 1024 → EReal :=
  nrm (fun k => v0 (ix2 r k)) (fun k => v2 (ix2 (0 : Fin 1) k))

/-- The rows before them: every fourth row follows a shift row. -/
def tileP (v0 : Vec Ideal S256x1024 .f32) (v2 : Vec Ideal S1x1024 .f32) (v36 : Vec Ideal S256x1024 .f32) (r : Fin 256) (d : Fin 1024) : EReal :=
  if r.val % 4 = 0 then v36 (ix2 r d) else tileX v0 v2 ⟨r.val - 1, by omega⟩ d

theorem pay3_apply (v0 : Vec Ideal S256x1024 .f32) (v2 : Vec Ideal S1x1024 .f32) (r : Fin 256) (d : Fin 1024) :
    k0_pay3 v0 v2 (ix2 r d) = tileX v0 v2 r d := by
  unfold k0_pay3
  dsimp only
  rw [cast_same v0, cast_same v2]
  exact tile_norm (R := 256) _ v2 _ _ _ _ _ _ r d

/-- The remainder of a row's number, taken by the sign rule of the body. -/
def rowMod (x : BitVec 32) : BitVec 32 :=
  Scalar.select (IntOp.andi (IntOp.xori (IntOp.cmpi .slt (IntOp.remsi .vector x (Scalar.select (Scalar.cmpi .eq 4#32 0#32) 1#32 4#32)) 0#32)
      (Scalar.cmpi .slt (Scalar.select (Scalar.cmpi .eq 4#32 0#32) 1#32 4#32) 0#32))
    (IntOp.cmpi .ne (IntOp.remsi .vector x (Scalar.select (Scalar.cmpi .eq 4#32 0#32) 1#32 4#32)) 0#32))
    (IntOp.addi (IntOp.remsi .vector x (Scalar.select (Scalar.cmpi .eq 4#32 0#32) 1#32 4#32)) (Scalar.select (Scalar.cmpi .eq 4#32 0#32) 1#32 4#32))
    (IntOp.remsi .vector x (Scalar.select (Scalar.cmpi .eq 4#32 0#32) 1#32 4#32))

theorem rowMod_eq : ∀ r : Fin 256, IntOp.cmpi .eq (rowMod (BitVec.ofNat 32 r.val)) 0#32 = BitVec.ofBool (decide (r.val % 4 = 0)) := by decide +kernel

theorem pay4_apply (v0 : Vec Ideal S256x1024 .f32) (v2 : Vec Ideal S1x1024 .f32) (v36 : Vec Ideal S256x1024 .f32) (r : Fin 256) (d : Fin 1024) :
    k0_pay4 v0 v2 v36 (ix2 r d) = tileP v0 v2 v36 r d := by
  unfold k0_pay4 tileP
  dsimp only
  rw [cast_same v36, cast_same]
  show Scalar.select (broadcastTo S256x1024 _ _ (ix2 r d)) (v36 (ix2 r d)) (dynamicRotate 0 1#32 none (k0_pay3 v0 v2) rotates_S256x1024_d0 (ix2 r d)) = _
  rw [broadcastTo_apply _ _ _ (ix2 r (0 : Fin 1)) (by intro a; match a with | ⟨0, _⟩ => rfl | ⟨1, _⟩ => rfl)]
  have e := rowMod_eq r
  rw [← iota_single_apply Kind.tc S256x1 32 0 iota_S256x1_d0_w32 (ix2 r (0 : Fin 1))] at e
  refine (congrArg (fun b => Scalar.select b (v36 (ix2 r d)) (dynamicRotate 0 1#32 none (k0_pay3 v0 v2) rotates_S256x1024_d0 (ix2 r d))) e).trans ?_
  rw [WordCmp.select_ofBool]
  simp only [decide_eq_true_eq]
  by_cases h0 : r.val % 4 = 0
  · rw [if_pos h0, if_pos h0]
  · rw [if_neg h0, if_neg h0, dynamicRotate_apply _ _ _ _ _ (ix2 (⟨r.val - 1, by omega⟩ : Fin 256) d) (by
      intro b
      match b with
      | ⟨0, _⟩ => show r.val - 1 = (r.val + 256 - 1 % 256) % 256; omega
      | ⟨1, _⟩ => rfl), pay3_apply]

/-- A mix's row. -/
theorem mix_row (x dx : FVec Ideal S256x1024 .f32) (mu : FVec Ideal S1x1024 .f32) (r : Fin 256) (d : Fin 1024) :
    (truncf .bf16 (addf x (mulf dx (broadcastTo S256x1024 (shapeCast S1x1024 mu shapeCasts_S1x1024_S1x1024) broadcasts_S1x1024_S256x1024))) bitsLt_bf16_f32 : FVec Ideal S256x1024 .bf16) (ix2 r d)
      = (x (ix2 r d) + dx (ix2 r d) * mu (ix2 (0 : Fin 1) d) : EReal) := by
  rw [cast_same]
  show (x (ix2 r d) + dx (ix2 r d) * broadcastTo S256x1024 mu broadcasts_S1x1024_S256x1024 (ix2 r d) : EReal) = _
  rw [broadcastTo_apply mu _ _ (ix2 (0 : Fin 1) d) (by intro a; match a with | ⟨0, _⟩ => rfl | ⟨1, _⟩ => rfl)]

section
variable (x p : FVec Ideal S256x1024 .f32) (mu : FVec Ideal S1x1024 .f32) (r : Fin 256) (e : Fin 1024)

/-- A mix times its matrix. -/
theorem mix_dot (w : FVec Ideal S1x1024x1024 .bf16) :
    k0_pay9 x (k0_pay5 x p) mu w (ix2 r e)
      = lin (mixed (fun k => x (ix2 r k)) (fun k => p (ix2 r k)) (fun k => mu (ix2 (0 : Fin 1) k))) (fun d e => w (ix3 (0 : Fin 1) d e)) e := by
  unfold k0_pay9 k0_pay5
  dsimp only
  refine (tile_dot (R := 256) (K := 1024) (N := 1024) _ _ r e).trans (Finset.sum_congr rfl fun d _ => ?_)
  rw [mix_row, shapeCast_apply _ _ _ (ix3 (0 : Fin 1) d e) (by rw [Shape.rowMajor_val_three, Shape.rowMajor_val_two]; show (0 * 1024 + d.val) * 1024 + e.val = d.val * 1024 + e.val; omega)]
  rfl

/-- A mix times a thin matrix. -/
theorem thin_dot (w : FVec Ideal S1024x64 .bf16) (j : Fin 64) :
    (matmul dot_S256x1024_S1024x64_S256x64_1_0_0_1_n_n none
      (truncf .bf16 (addf x (mulf (subf p x) (broadcastTo S256x1024 (shapeCast S1x1024 mu shapeCasts_S1x1024_S1x1024) broadcasts_S1x1024_S256x1024))) bitsLt_bf16_f32 : FVec Ideal S256x1024 .bf16)
      (shapeCast S1024x64 w shapeCasts_S1024x64_S1024x64) (constant S256x64 .f32 0x00000000#32) : FVec Ideal S256x64 .f32) (ix2 r j)
      = lin (mixed (fun k => x (ix2 r k)) (fun k => p (ix2 r k)) (fun k => mu (ix2 (0 : Fin 1) k))) (fun d j => w (ix2 d j)) j := by
  refine (tile_dot (R := 256) (K := 1024) (N := 64) _ _ r j).trans (Finset.sum_congr rfl fun d _ => ?_)
  rw [mix_row, cast_same]
  rfl

variable (w1 : FVec Ideal S1024x64 .bf16) (w0 : FVec Ideal S1x1024 .f32) (w2 : FVec Ideal S64x1024 .bf16)

theorem decay_apply :
    k0_pay1 (k0_pay10 x (k0_pay5 x p) mu w1 w0 w2) (Scalar.ofBits .f32 0xBF1B4598#32) (ix2 r e)
      = logd (mixed (fun k => x (ix2 r k)) (fun k => p (ix2 r k)) (fun k => mu (ix2 (0 : Fin 1) k))) (fun e => w0 (ix2 (0 : Fin 1) e)) (fun d j => w1 (ix2 d j)) (fun j e => w2 (ix2 j e)) e := by
  unfold k0_pay1 k0_pay10 k0_pay5 logd
  dsimp only
  rw [← sg_sub, cast_same w0, cast_same w2]
  refine congrArg (fun z : EReal => Ideal.ofBits .f32 0xBF1B4598#32 * Ideal.div (Ideal.ofBits .f32 0x3F800000#32) (Ideal.ofBits .f32 0x3F800000#32 + Ideal.exp (Ideal.ofBits .f32 0x00000000#32 - z))) ?_
  refine congrArg₂ (fun a b : EReal => a + b) (broadcastTo_apply w0 _ _ (ix2 (0 : Fin 1) e) (by intro a; match a with | ⟨0, _⟩ => rfl | ⟨1, _⟩ => rfl)) ?_
  refine (tile_dot (R := 256) (K := 64) (N := 1024) _ _ r e).trans (Finset.sum_congr rfl fun j _ => ?_)
  exact congrArg (fun z : EReal => Ideal.tanh z * w2 (ix2 j e)) (thin_dot x p mu r w1 j)

theorem rate_apply :
    k0_pay2 x (k0_pay5 x p) mu w1 w0 w2 (ix2 r e)
      = rate (mixed (fun k => x (ix2 r k)) (fun k => p (ix2 r k)) (fun k => mu (ix2 (0 : Fin 1) k))) (fun e => w0 (ix2 (0 : Fin 1) e)) (fun d j => w1 (ix2 d j)) (fun j e => w2 (ix2 j e)) e := by
  unfold k0_pay2 k0_pay5 rate
  dsimp only
  rw [← sg_sub, cast_same w0, cast_same w2]
  refine congrArg (fun z : EReal => Ideal.div (Ideal.ofBits .f32 0x3F800000#32) (Ideal.ofBits .f32 0x3F800000#32 + Ideal.exp (Ideal.ofBits .f32 0x00000000#32 - z))) ?_
  refine congrArg₂ (fun a b : EReal => a + b) (broadcastTo_apply w0 _ _ (ix2 (0 : Fin 1) e) (by intro a; match a with | ⟨0, _⟩ => rfl | ⟨1, _⟩ => rfl)) ?_
  refine (tile_dot (R := 256) (K := 64) (N := 1024) _ _ r e).trans (Finset.sum_congr rfl fun j _ => ?_)
  exact congrArg (fun z : EReal => z * w2 (ix2 j e)) (thin_dot x p mu r w1 j)

end

variable (x0 x1 : Vec Ideal S256x1024 .f32) (x2 : Vec Ideal S1x1024 .f32) (x3 : Vec Ideal S6x1024 .f32) (x4 : Vec Ideal S4x1024x1024 .bf16) (x5 : Vec Ideal S1x1024 .f32)
  (x6 : Vec Ideal S1024x64 .bf16) (x7 : Vec Ideal S64x1024 .bf16) (x8 : Vec Ideal S1x1024 .f32) (x9 : Vec Ideal S1024x64 .bf16) (x10 : Vec Ideal S64x1024 .bf16) (r : Fin 256) (e : Fin 1024)

/-- Mix `c` of a tile. -/
def tileM (c : Fin 6) : Fin 1024 → EReal := mixed (tileX x0 x2 r) (tileP x0 x2 x1 r) (fun k => x3 (ix2 c k))

/-- The mix, of the rows as the body has them. -/
theorem mix_eq (c : Fin 6) {y : FVec Ideal S1x1024 .f32} (hy : ∀ k, y (ix2 (0 : Fin 1) k) = x3 (ix2 c k)) :
    mixed (fun k => k0_pay3 x0 x2 (ix2 r k)) (fun k => k0_pay4 x0 x2 x1 (ix2 r k)) (fun k => y (ix2 (0 : Fin 1) k)) = tileM x0 x1 x2 x3 r c := by
  unfold tileM
  rw [funext fun k => pay3_apply x0 x2 r k, funext fun k => pay4_apply x0 x2 x1 r k, funext hy]

theorem mu_ld (c : Fin 6) (o : ℕ) (ho : o = c.val) (inb : ∀ k, (![o, 0] : Fin 2 → ℕ) k + S1x1024.size k ≤ S6x1024.size k) (k : Fin 1024) :
    View.ld x3 (Rect.unit (s := S6x1024) ![o, 0] S1x1024.size inb) (ix2 (0 : Fin 1) k) = x3 (ix2 c k) :=
  congrArg x3 (at2 _ c k (by show o + 1 * 0 = c.val; omega) (by show 0 + 1 * k.val = k.val; omega))

theorem w_ld (c : Fin 4) (o : ℕ) (ho : o = c.val) (inb : ∀ k, (![o, 0, 0] : Fin 3 → ℕ) k + S1x1024x1024.size k ≤ S4x1024x1024.size k) (d k : Fin 1024) :
    View.ld x4 (Rect.unit (s := S4x1024x1024) ![o, 0, 0] S1x1024x1024.size inb) (ix3 (0 : Fin 1) d k) = x4 (ix3 c d k) :=
  congrArg x4 (at3 _ c d k (by show o + 1 * 0 = c.val; omega) (by show 0 + 1 * d.val = d.val; omega) (by show 0 + 1 * k.val = k.val; omega))

theorem rows_eq : k0_pay11 (F := Ideal) x0 x1 x2 x3 x4 x5 x6 x7 x8 x9 x10 = k0_pay3 x0 x2 ∧ k0_pay12 (F := Ideal) x0 x1 x2 x3 x4 x5 x6 x7 x8 x9 x10 = k0_pay4 x0 x2 x1
    ∧ k0_pay13 (F := Ideal) x0 x1 x2 x3 x4 x5 x6 x7 x8 x9 x10 = k0_pay5 (k0_pay3 x0 x2) (k0_pay4 x0 x2 x1) := by
  have a : k0_pay11 (F := Ideal) x0 x1 x2 x3 x4 x5 x6 x7 x8 x9 x10 = k0_pay3 x0 x2 := by
    unfold k0_pay11
    rw [View.ld_unit_zero zeros2, View.ld_unit_zero zeros2]
  have b : k0_pay12 (F := Ideal) x0 x1 x2 x3 x4 x5 x6 x7 x8 x9 x10 = k0_pay4 x0 x2 x1 := by
    unfold k0_pay12
    rw [View.ld_unit_zero zeros2, View.ld_unit_zero zeros2, View.ld_unit_zero zeros2]
  refine ⟨a, b, ?_⟩
  unfold k0_pay13
  rw [a, b]

/-- A product's tile, however the body names it. -/
theorem lin_of (c : Fin 4) {y : FVec Ideal S1x1024 .f32} {w : FVec Ideal S1x1024x1024 .bf16} (hy : ∀ k, y (ix2 (0 : Fin 1) k) = x3 (ix2 (⟨c.val, by omega⟩ : Fin 6) k))
    (hw : ∀ d k, w (ix3 (0 : Fin 1) d k) = x4 (ix3 c d k)) :
    k0_pay9 (k0_pay3 x0 x2) (k0_pay5 (k0_pay3 x0 x2) (k0_pay4 x0 x2 x1)) y w (ix2 r e) = lin (tileM x0 x1 x2 x3 r ⟨c.val, by omega⟩) (fun d k => x4 (ix3 c d k)) e := by
  rw [mix_dot, mix_eq x0 x1 x2 x3 r ⟨c.val, by omega⟩ hy, funext fun d => funext fun k => hw d k]

theorem out11_apply : out0_11 (F := Ideal) x0 x1 x2 x3 x4 x5 x6 x7 x8 x9 x10 (ix2 r e) = lin (tileM x0 x1 x2 x3 r 0) (fun d k => x4 (ix3 (0 : Fin 4) d k)) e := by
  unfold out0_11
  rw [View.canon_unit_zero zeros2, (rows_eq x0 x1 x2 x3 x4 x5 x6 x7 x8 x9 x10).1, (rows_eq x0 x1 x2 x3 x4 x5 x6 x7 x8 x9 x10).2.1]
  exact lin_of x0 x1 x2 x3 x4 r e 0 (mu_ld x3 0 0 rfl _) (w_ld x4 0 0 rfl _)

theorem out12_apply : out0_12 (F := Ideal) x0 x1 x2 x3 x4 x5 x6 x7 x8 x9 x10 (ix2 r e) = lin (tileM x0 x1 x2 x3 r 1) (fun d k => x4 (ix3 (1 : Fin 4) d k)) e := by
  unfold out0_12
  rw [View.canon_unit_zero zeros2, (rows_eq x0 x1 x2 x3 x4 x5 x6 x7 x8 x9 x10).1, (rows_eq x0 x1 x2 x3 x4 x5 x6 x7 x8 x9 x10).2.1]
  exact lin_of x0 x1 x2 x3 x4 r e 1 (mu_ld x3 1 1 rfl _) (w_ld x4 1 1 rfl _)

theorem out13_apply : out0_13 (F := Ideal) x0 x1 x2 x3 x4 x5 x6 x7 x8 x9 x10 (ix2 r e) = lin (tileM x0 x1 x2 x3 r 2) (fun d k => x4 (ix3 (2 : Fin 4) d k)) e := by
  unfold out0_13
  rw [View.canon_unit_zero zeros2, (rows_eq x0 x1 x2 x3 x4 x5 x6 x7 x8 x9 x10).1, (rows_eq x0 x1 x2 x3 x4 x5 x6 x7 x8 x9 x10).2.1]
  exact lin_of x0 x1 x2 x3 x4 r e 2 (mu_ld x3 2 2 rfl _) (w_ld x4 2 2 rfl _)

theorem out14_apply : out0_14 (F := Ideal) x0 x1 x2 x3 x4 x5 x6 x7 x8 x9 x10 (ix2 r e) = lin (tileM x0 x1 x2 x3 r 3) (fun d k => x4 (ix3 (3 : Fin 4) d k)) e := by
  unfold out0_14
  rw [View.canon_unit_zero zeros2, (rows_eq x0 x1 x2 x3 x4 x5 x6 x7 x8 x9 x10).1, (rows_eq x0 x1 x2 x3 x4 x5 x6 x7 x8 x9 x10).2.2]
  exact lin_of x0 x1 x2 x3 x4 r e 3 (mu_ld x3 3 3 rfl _) (w_ld x4 3 3 rfl _)

theorem out15_apply : out0_15 (F := Ideal) x0 x1 x2 x3 x4 x5 x6 x7 x8 x9 x10 (ix2 r e)
    = logd (tileM x0 x1 x2 x3 r 4) (fun e => x5 (ix2 (0 : Fin 1) e)) (fun d j => x6 (ix2 d j)) (fun j e => x7 (ix2 j e)) e := by
  unfold out0_15
  rw [View.canon_unit_zero zeros2, (rows_eq x0 x1 x2 x3 x4 x5 x6 x7 x8 x9 x10).1, (rows_eq x0 x1 x2 x3 x4 x5 x6 x7 x8 x9 x10).2.2, View.ld_unit_zero (S := S1024x64) zeros2,
    View.ld_unit_zero (S := S1x1024) zeros2, View.ld_unit_zero (S := S64x1024) zeros2, decay_apply, mix_eq x0 x1 x2 x3 r 4 (mu_ld x3 4 4 rfl _)]

theorem out16_apply : out0_16 (F := Ideal) x0 x1 x2 x3 x4 x5 x6 x7 x8 x9 x10 (ix2 r e)
    = rate (tileM x0 x1 x2 x3 r 5) (fun e => x8 (ix2 (0 : Fin 1) e)) (fun d j => x9 (ix2 d j)) (fun j e => x10 (ix2 j e)) e := by
  unfold out0_16
  rw [View.canon_unit_zero zeros2, (rows_eq x0 x1 x2 x3 x4 x5 x6 x7 x8 x9 x10).1, (rows_eq x0 x1 x2 x3 x4 x5 x6 x7 x8 x9 x10).2.2, View.ld_unit_zero (S := S1024x64) zeros2,
    View.ld_unit_zero (S := S1x1024) zeros2, View.ld_unit_zero (S := S64x1024) zeros2, rate_apply, mix_eq x0 x1 x2 x3 r 5 (mu_ld x3 5 5 rfl _)]

theorem out17_apply : out0_17 (F := Ideal) x0 x1 x2 x3 x4 x5 x6 x7 x8 x9 x10 (ix2 r e) = tileX x0 x2 r e := by
  unfold out0_17
  rw [View.canon_unit_zero zeros2, (rows_eq x0 x1 x2 x3 x4 x5 x6 x7 x8 x9 x10).1, pay3_apply]

end ProjV

end
-- ==== Proof.VKernel.lean ====
module

public import proofs.«01_k».proof.Proof.VPay
public import proofs.«01_k».proof.Proof.Gen.SampleProjIdeal.Value
public import Idealize.ShloMosaic.Lib.StableHlo.RunRead

@[expose] public section

noncomputable section

/-! The arrays the time mixing's projections leave on the sample, from the arguments. -/

namespace ProjV

open Proj Cert.SampleProjIdeal Cert.SampleProjIdeal.Gen Idealize.ShloMosaic Idealize.ShloMosaic.TcCoe Idealize.ShloMosaic.ValueIdx Idealize.SL.Sem Idealize.ShloMosaic.StableHlo
open Idealize.ShloMosaic.Pipeline (Dat)
open ProjW (mixed lin logd rate)

theorem pt_lt (t : Fin cfg0.N) : t.val < 2 := lt_of_lt_of_eq t.isLt (show cfg0.N = 2 from N_0)

abbrev pt (t : ℕ) (h : t < 2) : Fin cfg0.N := ⟨t, lt_of_lt_of_eq h N_0.symm⟩

/-- A row taken apart and put back. -/
theorem row_cast (g : FVec Ideal S1x1024 .f32) (d : Fin 1024) : shapeCast S1x1024 (shapeCast S1024 g shapeCasts_S1x1024_S1024) shapeCasts_S1024_S1x1024 (ix2 (0 : Fin 1) d) = g (ix2 (0 : Fin 1) d) := by
  rw [shapeCast_apply _ _ _ (ix1 d) (by rw [Shape.rowMajor_val_one, Shape.rowMajor_val_two]; show d.val = 0 * 1024 + d.val; omega),
    shapeCast_apply _ _ _ (ix2 (0 : Fin 1) d) (by rw [Shape.rowMajor_val_one, Shape.rowMajor_val_two]; show 0 * 1024 + d.val = d.val; omega)]

/-- All rows below one another. -/
theorem rows_at (x : FVec Ideal S128x4x1024 .f32) (j : S512x1024.Idx) (b : Fin 128) (p : Fin 4) (d : Fin 1024) (h0 : (j 0).val = b.val * 4 + p.val) (h1 : (j 1).val = d.val) :
    shapeCast S512x1024 x shapeCasts_S128x4x1024_S512x1024 j = x (ix3 b p d) :=
  shapeCast_apply _ _ _ (ix3 b p d) (by
    rw [Shape.rowMajor_val_three, Shape.rowMajor_val_two]
    show (b.val * 4 + p.val) * 1024 + d.val = (j 0).val * 1024 + (j 1).val
    rw [h0, h1])

theorem index_0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)

theorem index_1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)

theorem index_2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)

theorem index_3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)

theorem index_4 : ∀ t : Fin cfg0.N, win0_4.index t (0 : Fin 3) = 0 ∧ win0_4.index t (1 : Fin 3) = 0 ∧ win0_4.index t (2 : Fin 3) = 0 :=
  (by decide +kernel : ∀ t : Fin grid0.N, win0_4.index t (0 : Fin 3) = 0 ∧ win0_4.index t (1 : Fin 3) = 0 ∧ win0_4.index t (2 : Fin 3) = 0)

theorem index_5 : ∀ t : Fin cfg0.N, win0_5.index t (0 : Fin 2) = 0 ∧ win0_5.index t (1 : Fin 2) = 0 :=
  (by decide +kernel : ∀ t : Fin grid0.N, win0_5.index t (0 : Fin 2) = 0 ∧ win0_5.index t (1 : Fin 2) = 0)

theorem index_6 : ∀ t : Fin cfg0.N, win0_6.index t (0 : Fin 2) = 0 ∧ win0_6.index t (1 : Fin 2) = 0 :=
  (by decide +kernel : ∀ t : Fin grid0.N, win0_6.index t (0 : Fin 2) = 0 ∧ win0_6.index t (1 : Fin 2) = 0)

theorem index_7 : ∀ t : Fin cfg0.N, win0_7.index t (0 : Fin 2) = 0 ∧ win0_7.index t (1 : Fin 2) = 0 :=
  (by decide +kernel : ∀ t : Fin grid0.N, win0_7.index t (0 : Fin 2) = 0 ∧ win0_7.index t (1 : Fin 2) = 0)

theorem index_8 : ∀ t : Fin cfg0.N, win0_8.index t (0 : Fin 2) = 0 ∧ win0_8.index t (1 : Fin 2) = 0 :=
  (by decide +kernel : ∀ t : Fin grid0.N, win0_8.index t (0 : Fin 2) = 0 ∧ win0_8.index t (1 : Fin 2) = 0)

theorem index_9 : ∀ t : Fin cfg0.N, win0_9.index t (0 : Fin 2) = 0 ∧ win0_9.index t (1 : Fin 2) = 0 :=
  (by decide +kernel : ∀ t : Fin grid0.N, win0_9.index t (0 : Fin 2) = 0 ∧ win0_9.index t (1 : Fin 2) = 0)

theorem index_10 : ∀ t : Fin cfg0.N, win0_10.index t (0 : Fin 2) = 0 ∧ win0_10.index t (1 : Fin 2) = 0 :=
  (by decide +kernel : ∀ t : Fin grid0.N, win0_10.index t (0 : Fin 2) = 0 ∧ win0_10.index t (1 : Fin 2) = 0)

theorem index_11 : ∀ t : Fin cfg0.N, win0_11.index t (0 : Fin 2) = t.val ∧ win0_11.index t (1 : Fin 2) = 0 :=
  (by decide +kernel : ∀ t : Fin grid0.N, win0_11.index t (0 : Fin 2) = t.val ∧ win0_11.index t (1 : Fin 2) = 0)

theorem index_12 : ∀ t : Fin cfg0.N, win0_12.index t (0 : Fin 2) = t.val ∧ win0_12.index t (1 : Fin 2) = 0 :=
  (by decide +kernel : ∀ t : Fin grid0.N, win0_12.index t (0 : Fin 2) = t.val ∧ win0_12.index t (1 : Fin 2) = 0)

theorem index_13 : ∀ t : Fin cfg0.N, win0_13.index t (0 : Fin 2) = t.val ∧ win0_13.index t (1 : Fin 2) = 0 :=
  (by decide +kernel : ∀ t : Fin grid0.N, win0_13.index t (0 : Fin 2) = t.val ∧ win0_13.index t (1 : Fin 2) = 0)

theorem index_14 : ∀ t : Fin cfg0.N, win0_14.index t (0 : Fin 2) = t.val ∧ win0_14.index t (1 : Fin 2) = 0 :=
  (by decide +kernel : ∀ t : Fin grid0.N, win0_14.index t (0 : Fin 2) = t.val ∧ win0_14.index t (1 : Fin 2) = 0)

theorem index_15 : ∀ t : Fin cfg0.N, win0_15.index t (0 : Fin 2) = t.val ∧ win0_15.index t (1 : Fin 2) = 0 :=
  (by decide +kernel : ∀ t : Fin grid0.N, win0_15.index t (0 : Fin 2) = t.val ∧ win0_15.index t (1 : Fin 2) = 0)

theorem index_16 : ∀ t : Fin cfg0.N, win0_16.index t (0 : Fin 2) = t.val ∧ win0_16.index t (1 : Fin 2) = 0 :=
  (by decide +kernel : ∀ t : Fin grid0.N, win0_16.index t (0 : Fin 2) = t.val ∧ win0_16.index t (1 : Fin 2) = 0)

theorem index_17 : ∀ t : Fin cfg0.N, win0_17.index t (0 : Fin 2) = t.val ∧ win0_17.index t (1 : Fin 2) = 0 :=
  (by decide +kernel : ∀ t : Fin grid0.N, win0_17.index t (0 : Fin 2) = t.val ∧ win0_17.index t (1 : Fin 2) = 0)

section
variable (m : (ℓ : Loc nD τ sig) → Buf (Elt Ideal) ℓ) (c : Dev nD) (t : Fin cfg0.N)

theorem blk_0 (r : Fin 256) (d : Fin 1024) (b : Fin 128) (p : Fin 4) (hp : 256 * t.val + r.val = b.val * 4 + p.val) : iblk m c 0 t (ix2 r d) = m ((c : Thread nD τ).loc main_arg0) (ix3 b p d) := by
  show V m c main_v21 (((cfg0.win 0).blk t).view.emb (ix2 r d)) = _
  rw [show V m c main_v21 = shapeCast S512x1024 (m ((c : Thread nD τ).loc main_arg0)) shapeCasts_S128x4x1024_S512x1024 by
    unfold_abbrev_sides
    after_reads_simp
    rfl]
  exact rows_at _ _ b p d (by show win0_0.index t (0 : Fin 2) * 256 + 1 * r.val = _; rw [(index_0 t).1]; omega) (by show win0_0.index t (1 : Fin 2) * 1024 + 1 * d.val = _; rw [(index_0 t).2]; omega)

theorem blk_1 (r : Fin 256) (d : Fin 1024) (b : Fin 128) (p : Fin 4) (hp : 256 * t.val + r.val = b.val * 4 + p.val) : iblk m c 1 t (ix2 r d) = m ((c : Thread nD τ).loc main_arg1) (ix3 (0 : Fin 1) b d) := by
  show V m c main_v20 (((cfg0.win 1).blk t).view.emb (ix2 r d)) = _
  rw [show V m c main_v20 = shapeCast S512x1024 (broadcastInDim S128x4x1024 ![0, 2] bcast_S128x1024_S128x4x1024_0_2 (shapeCast S128x1024 (m ((c : Thread nD τ).loc main_arg1)) shapeCasts_S1x128x1024_S128x1024)) shapeCasts_S128x4x1024_S512x1024 by
    unfold_abbrev_sides
    after_reads_simp
    rfl]
  refine (rows_at _ _ b p d (by show win0_1.index t (0 : Fin 2) * 256 + 1 * r.val = _; rw [(index_1 t).1]; omega) (by show win0_1.index t (1 : Fin 2) * 1024 + 1 * d.val = _; rw [(index_1 t).2]; omega)).trans ?_
  rw [broadcastInDim_apply _ _ _ _ (ix2 b d) (by
    intro a
    match a with
    | ⟨0, _⟩ => rfl
    | ⟨1, _⟩ => rfl)]
  exact shapeCast_apply _ _ _ (ix3 (0 : Fin 1) b d) (by
    rw [Shape.rowMajor_val_three, Shape.rowMajor_val_two]
    show (0 * 128 + b.val) * 1024 + d.val = b.val * 1024 + d.val
    omega)

theorem blk_2 (d : Fin 1024) : iblk m c 2 t (ix2 (0 : Fin 1) d) = m ((c : Thread nD τ).loc main_arg2) (ix2 (1 : Fin 2) d) := by
  show V m c main_v2 (((cfg0.win 2).blk t).view.emb (ix2 (0 : Fin 1) d)) = _
  rw [show V m c main_v2 = shapeCast S1x1024 (shapeCast S1024 (extractStridedSlice S1x1024 ![1, 0] (m ((c : Thread nD τ).loc main_arg2)) slices_S2x1024_S1x1024_1_0) shapeCasts_S1x1024_S1024) shapeCasts_S1024_S1x1024 by
    unfold_abbrev_sides
    after_reads_simp
    rfl, at2 (((cfg0.win 2).blk t).view.emb (ix2 (0 : Fin 1) d)) (0 : Fin 1) d (by show win0_2.index t (0 : Fin 2) * 1 + 1 * 0 = 0; rw [(index_2 t).1]) (by show win0_2.index t (1 : Fin 2) * 1024 + 1 * d.val = d.val; rw [(index_2 t).2]; omega)]
  refine (row_cast (extractStridedSlice S1x1024 ![1, 0] (m ((c : Thread nD τ).loc main_arg2)) slices_S2x1024_S1x1024_1_0) d).trans ?_
  refine extractStridedSlice_apply _ _ _ _ _ (fun a => ?_)
  match a with
  | ⟨0, _⟩ => rfl
  | ⟨1, _⟩ => exact (Nat.zero_add _).symm

theorem blk_3 (k : Fin 6) (d : Fin 1024) : iblk m c 3 t (ix2 k d) = m ((c : Thread nD τ).loc main_arg3) (ix3 (0 : Fin 1) k d) := by
  show V m c main_v3 (((cfg0.win 3).blk t).view.emb (ix2 k d)) = _
  rw [show V m c main_v3 = shapeCast S6x1024 (m ((c : Thread nD τ).loc main_arg3)) shapeCasts_S1x6x1024_S6x1024 by
    unfold_abbrev_sides
    after_reads_simp
    rfl]
  exact shapeCast_apply _ _ _ (ix3 (0 : Fin 1) k d) (by
    rw [Shape.rowMajor_val_three, Shape.rowMajor_val_two]
    show (0 * 6 + k.val) * 1024 + d.val = (win0_3.index t (0 : Fin 2) * 6 + 1 * k.val) * 1024 + (win0_3.index t (1 : Fin 2) * 1024 + 1 * d.val)
    rw [(index_3 t).1, (index_3 t).2]; omega)

theorem blk_4 (k : Fin 4) (d e : Fin 1024) : iblk m c 4 t (ix3 k d e) = m ((c : Thread nD τ).loc main_arg4) (ix4 (0 : Fin 1) k d e) := by
  show V m c main_v5 (((cfg0.win 4).blk t).view.emb (ix3 k d e)) = _
  rw [show V m c main_v5 = (truncf .bf16 (shapeCast S4x1024x1024 (m ((c : Thread nD τ).loc main_arg4)) shapeCasts_S1x4x1024x1024_S4x1024x1024 : FVec Ideal S4x1024x1024 .f32) bitsLt_bf16_f32 : FVec Ideal S4x1024x1024 .bf16) by
    unfold_abbrev_sides
    after_reads_simp
    rfl]
  exact shapeCast_apply _ _ _ (ix4 (0 : Fin 1) k d e) (by
    rw [Shape.rowMajor_val_four, Shape.rowMajor_val_three]
    show ((0 * 4 + k.val) * 1024 + d.val) * 1024 + e.val = ((win0_4.index t (0 : Fin 3) * 4 + 1 * k.val) * 1024 + (win0_4.index t (1 : Fin 3) * 1024 + 1 * d.val)) * 1024 + (win0_4.index t (2 : Fin 3) * 1024 + 1 * e.val)
    rw [(index_4 t).1, (index_4 t).2.1, (index_4 t).2.2]; omega)

theorem blk_5 (d : Fin 1024) : iblk m c 5 t (ix2 (0 : Fin 1) d) = m ((c : Thread nD τ).loc main_arg5) (ix2 (0 : Fin 1) d) := by
  show V m c main_v7 (((cfg0.win 5).blk t).view.emb (ix2 (0 : Fin 1) d)) = _
  rw [show V m c main_v7 = shapeCast S1x1024 (shapeCast S1024 (m ((c : Thread nD τ).loc main_arg5)) shapeCasts_S1x1024_S1024) shapeCasts_S1024_S1x1024 by
    unfold_abbrev_sides
    after_reads_simp
    rfl, at2 (((cfg0.win 5).blk t).view.emb (ix2 (0 : Fin 1) d)) (0 : Fin 1) d (by show win0_5.index t (0 : Fin 2) * 1 + 1 * 0 = 0; rw [(index_5 t).1]) (by show win0_5.index t (1 : Fin 2) * 1024 + 1 * d.val = d.val; rw [(index_5 t).2]; omega)]
  exact row_cast _ d

theorem blk_8 (d : Fin 1024) : iblk m c 8 t (ix2 (0 : Fin 1) d) = m ((c : Thread nD τ).loc main_arg8) (ix2 (0 : Fin 1) d) := by
  show V m c main_v13 (((cfg0.win 8).blk t).view.emb (ix2 (0 : Fin 1) d)) = _
  rw [show V m c main_v13 = shapeCast S1x1024 (shapeCast S1024 (m ((c : Thread nD τ).loc main_arg8)) shapeCasts_S1x1024_S1024) shapeCasts_S1024_S1x1024 by
    unfold_abbrev_sides
    after_reads_simp
    rfl, at2 (((cfg0.win 8).blk t).view.emb (ix2 (0 : Fin 1) d)) (0 : Fin 1) d (by show win0_8.index t (0 : Fin 2) * 1 + 1 * 0 = 0; rw [(index_8 t).1]) (by show win0_8.index t (1 : Fin 2) * 1024 + 1 * d.val = d.val; rw [(index_8 t).2]; omega)]
  exact row_cast _ d

theorem blk_6 (d : Fin 1024) (j : Fin 64) : iblk m c 6 t (ix2 d j) = m ((c : Thread nD τ).loc main_arg6) (ix3 (0 : Fin 1) d j) := by
  show V m c main_v9 (((cfg0.win 6).blk t).view.emb (ix2 d j)) = _
  rw [show V m c main_v9 = (truncf .bf16 (shapeCast S1024x64 (m ((c : Thread nD τ).loc main_arg6)) shapeCasts_S1x1024x64_S1024x64 : FVec Ideal S1024x64 .f32) bitsLt_bf16_f32 : FVec Ideal S1024x64 .bf16) by
    unfold_abbrev_sides
    after_reads_simp
    rfl]
  exact shapeCast_apply _ _ _ (ix3 (0 : Fin 1) d j) (by
    rw [Shape.rowMajor_val_three, Shape.rowMajor_val_two]
    show (0 * 1024 + d.val) * 64 + j.val = (win0_6.index t (0 : Fin 2) * 1024 + 1 * d.val) * 64 + (win0_6.index t (1 : Fin 2) * 64 + 1 * j.val)
    rw [(index_6 t).1, (index_6 t).2]; omega)

theorem blk_7 (d : Fin 64) (j : Fin 1024) : iblk m c 7 t (ix2 d j) = m ((c : Thread nD τ).loc main_arg7) (ix3 (0 : Fin 1) d j) := by
  show V m c main_v11 (((cfg0.win 7).blk t).view.emb (ix2 d j)) = _
  rw [show V m c main_v11 = (truncf .bf16 (shapeCast S64x1024 (m ((c : Thread nD τ).loc main_arg7)) shapeCasts_S1x64x1024_S64x1024 : FVec Ideal S64x1024 .f32) bitsLt_bf16_f32 : FVec Ideal S64x1024 .bf16) by
    unfold_abbrev_sides
    after_reads_simp
    rfl]
  exact shapeCast_apply _ _ _ (ix3 (0 : Fin 1) d j) (by
    rw [Shape.rowMajor_val_three, Shape.rowMajor_val_two]
    show (0 * 64 + d.val) * 1024 + j.val = (win0_7.index t (0 : Fin 2) * 64 + 1 * d.val) * 1024 + (win0_7.index t (1 : Fin 2) * 1024 + 1 * j.val)
    rw [(index_7 t).1, (index_7 t).2]; omega)

theorem blk_9 (d : Fin 1024) (j : Fin 64) : iblk m c 9 t (ix2 d j) = m ((c : Thread nD τ).loc main_arg9) (ix3 (0 : Fin 1) d j) := by
  show V m c main_v15 (((cfg0.win 9).blk t).view.emb (ix2 d j)) = _
  rw [show V m c main_v15 = (truncf .bf16 (shapeCast S1024x64 (m ((c : Thread nD τ).loc main_arg9)) shapeCasts_S1x1024x64_S1024x64 : FVec Ideal S1024x64 .f32) bitsLt_bf16_f32 : FVec Ideal S1024x64 .bf16) by
    unfold_abbrev_sides
    after_reads_simp
    rfl]
  exact shapeCast_apply _ _ _ (ix3 (0 : Fin 1) d j) (by
    rw [Shape.rowMajor_val_three, Shape.rowMajor_val_two]
    show (0 * 1024 + d.val) * 64 + j.val = (win0_9.index t (0 : Fin 2) * 1024 + 1 * d.val) * 64 + (win0_9.index t (1 : Fin 2) * 64 + 1 * j.val)
    rw [(index_9 t).1, (index_9 t).2]; omega)

theorem blk_10 (d : Fin 64) (j : Fin 1024) : iblk m c 10 t (ix2 d j) = m ((c : Thread nD τ).loc main_arg10) (ix3 (0 : Fin 1) d j) := by
  show V m c main_v17 (((cfg0.win 10).blk t).view.emb (ix2 d j)) = _
  rw [show V m c main_v17 = (truncf .bf16 (shapeCast S64x1024 (m ((c : Thread nD τ).loc main_arg10)) shapeCasts_S1x64x1024_S64x1024 : FVec Ideal S64x1024 .f32) bitsLt_bf16_f32 : FVec Ideal S64x1024 .bf16) by
    unfold_abbrev_sides
    after_reads_simp
    rfl]
  exact shapeCast_apply _ _ _ (ix3 (0 : Fin 1) d j) (by
    rw [Shape.rowMajor_val_three, Shape.rowMajor_val_two]
    show (0 * 64 + d.val) * 1024 + j.val = (win0_10.index t (0 : Fin 2) * 64 + 1 * d.val) * 1024 + (win0_10.index t (1 : Fin 2) * 1024 + 1 * j.val)
    rw [(index_10 t).1, (index_10 t).2]; omega)

/-- A tile's rows are the rows of the sequences it holds. -/
theorem tileX_eq (r : Fin 256) (b : Fin 128) (p : Fin 4) (hp : 256 * t.val + r.val = b.val * 4 + p.val) :
    tileX (iblk m c 0 t) (iblk m c 2 t) r = xnAt (m ((c : Thread nD τ).loc main_arg0)) (m ((c : Thread nD τ).loc main_arg2)) b p := by
  unfold tileX xnAt
  rw [funext fun k => blk_0 m c t r k b p hp, funext (blk_2 m c t)]

theorem tileP_eq (r : Fin 256) (b : Fin 128) (p : Fin 4) (hp : 256 * t.val + r.val = b.val * 4 + p.val) :
    tileP (iblk m c 0 t) (iblk m c 2 t) (iblk m c 1 t) r = prevAt (m ((c : Thread nD τ).loc main_arg0)) (m ((c : Thread nD τ).loc main_arg1)) (m ((c : Thread nD τ).loc main_arg2)) b p := by
  funext d
  unfold tileP prevAt
  by_cases h0 : p.val = 0
  · rw [if_pos h0, if_pos (by omega)]
    exact blk_1 m c t r d b p hp
  · rw [if_neg h0, if_neg (by omega)]
    exact congrFun (tileX_eq m c t _ b ⟨p.val - 1, by omega⟩ (by show 256 * t.val + (r.val - 1) = b.val * 4 + (p.val - 1); omega)) d

theorem tileM_eq (k : Fin 6) (r : Fin 256) (i : S512x1024.Idx) (hr : (i 0).val = 256 * t.val + r.val) :
    tileM (iblk m c 0 t) (iblk m c 1 t) (iblk m c 2 t) (iblk m c 3 t) r k = mixAt (m ((c : Thread nD τ).loc main_arg0)) (m ((c : Thread nD τ).loc main_arg1)) (m ((c : Thread nD τ).loc main_arg2)) (m ((c : Thread nD τ).loc main_arg3)) k (vb (i 0)) (vp (i 0)) := by
  have hp : 256 * t.val + r.val = (vb (i 0)).val * 4 + (vp (i 0)).val := by
    show _ = (i 0).val / 4 * 4 + (i 0).val % 4
    omega
  unfold tileM mixAt
  rw [tileX_eq m c t r _ _ hp, tileP_eq m c t r _ _ hp, funext fun d => blk_3 m c t k d]

end

variable (m : (ℓ : Loc nD τ sig) → Buf (Elt Ideal) ℓ) (c : Dev nD)

/-- The projections of the first four mixes, from the arguments. -/
abbrev endW (q : Fin 4) : S512x1024.Idx → EReal :=
  specW (m ((c : Thread nD τ).loc main_arg0)) (m ((c : Thread nD τ).loc main_arg1)) (m ((c : Thread nD τ).loc main_arg2)) (m ((c : Thread nD τ).loc main_arg3)) (m ((c : Thread nD τ).loc main_arg4)) q

abbrev endD : S512x1024.Idx → EReal :=
  specD (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7))

abbrev endA : S512x1024.Idx → EReal :=
  specA (m ((c : Thread nD τ).loc main_arg0)) (m ((c : Thread nD τ).loc main_arg1)) (m ((c : Thread nD τ).loc main_arg2)) (m ((c : Thread nD τ).loc main_arg3)) (m ((c : Thread nD τ).loc main_arg8)) (m ((c : Thread nD τ).loc main_arg9)) (m ((c : Thread nD τ).loc main_arg10))

abbrev endX : S512x1024.Idx → EReal := specX (m ((c : Thread nD τ).loc main_arg0)) (m ((c : Thread nD τ).loc main_arg2))

section
variable (t : Fin cfg0.N) (r : Fin 256) (d : Fin 1024) (i : S512x1024.Idx) (h0 : (i 0).val = 256 * t.val + r.val) (h1 : (i 1).val = d.val)
include h0 h1

theorem lin_point (q : Fin 4) :
    lin (tileM (iblk m c 0 t) (iblk m c 1 t) (iblk m c 2 t) (iblk m c 3 t) r ⟨q.val, by omega⟩) (fun d k => iblk m c 4 t (ix3 q d k)) d = endW m c q i := by
  rw [tileM_eq m c t _ r i h0, funext fun d => funext fun k => blk_4 m c t q d k, (Fin.ext h1 : i 1 = d).symm]
  rfl

theorem decay_point :
    logd (tileM (iblk m c 0 t) (iblk m c 1 t) (iblk m c 2 t) (iblk m c 3 t) r 4) (fun e => iblk m c 5 t (ix2 (0 : Fin 1) e)) (fun d j => iblk m c 6 t (ix2 d j)) (fun j e => iblk m c 7 t (ix2 j e)) d = endD m c i := by
  rw [tileM_eq m c t _ r i h0, funext (blk_5 m c t), funext fun d => funext fun j => blk_6 m c t d j, funext fun j => funext fun e => blk_7 m c t j e, (Fin.ext h1 : i 1 = d).symm]
  rfl

theorem rate_point :
    rate (tileM (iblk m c 0 t) (iblk m c 1 t) (iblk m c 2 t) (iblk m c 3 t) r 5) (fun e => iblk m c 8 t (ix2 (0 : Fin 1) e)) (fun d j => iblk m c 9 t (ix2 d j)) (fun j e => iblk m c 10 t (ix2 j e)) d = endA m c i := by
  rw [tileM_eq m c t _ r i h0, funext (blk_8 m c t), funext fun d => funext fun j => blk_9 m c t d j, funext fun j => funext fun e => blk_10 m c t j e, (Fin.ext h1 : i 1 = d).symm]
  rfl

theorem norm_point : tileX (iblk m c 0 t) (iblk m c 2 t) r d = endX m c i := by
  rw [tileX_eq m c t r (vb (i 0)) (vp (i 0)) (by show _ = (i 0).val / 4 * 4 + (i 0).val % 4; omega), (Fin.ext h1 : i 1 = d).symm]
  rfl

end

/-- A row lies in the tile it is counted to. -/
theorem in_tile (x y a b n : ℕ) (ha : a = n) (hb : b = 0) (hx : x / 256 = n) (hy : y < 1024) : (a * 256 ≤ x ∧ x < a * 256 + 256) ∧ (b * 1024 ≤ y ∧ y < b * 1024 + 1024) := by
  subst ha hb
  omega

theorem arr_11 : (dats m 0 c).arrAt 11 cfg0.N = (endW m c 0 : Buf (Elt Ideal) ((c : Thread nD τ).loc main_v22_0)) := by
  refine (dats m 0 c).arrAt_eq_of_cover 11 _ (fun t _ => ?_) (fun (i : S512x1024.Idx) => ?_)
  · rw [Value.flushed11]
    funext y
    show out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t) ((cfg0.win 11).xinj (grid0.coords t) y) = (endW m c 0) (((cfg0.win 11).blk t).view.emb y)
    rw [at2 ((cfg0.win 11).xinj (grid0.coords t) y) (⟨(y 0).val, (y 0).isLt⟩ : Fin 256) (⟨(y 1).val, (y 1).isLt⟩ : Fin 1024) rfl rfl]
    refine (out11_apply _ _ _ _ _ _ _ _ _ _ _ _ _).trans (lin_point m c t _ _ _ ?_ ?_ 0)
    · show win0_11.index t (0 : Fin 2) * 256 + 1 * (y 0).val = 256 * t.val + (y 0).val
      rw [(index_11 t).1]; omega
    · show win0_11.index t (1 : Fin 2) * 1024 + 1 * (y 1).val = (y 1).val
      rw [(index_11 t).2]; omega
  · have h0 : (i 0).val < 512 := (i 0).isLt
    have ht : (i 0).val / 256 < 2 := by omega
    refine ⟨pt ((i 0).val / 256) ht, flush0_11 _, ?_⟩
    show i ∈ ((View.whole main_v22_0).slice (win0_11.rect (pt ((i 0).val / 256) ht))).set
    rw [View.set_slice_whole, Rect.mem_set_unit]
    exact Fin.forall_fin_two.2 (in_tile (i 0).val (i 1).val (win0_11.index _ (0 : Fin 2)) (win0_11.index _ (1 : Fin 2)) _ (index_11 _).1 (index_11 _).2 rfl (i 1).isLt)

theorem arr_12 : (dats m 0 c).arrAt 12 cfg0.N = (endW m c 1 : Buf (Elt Ideal) ((c : Thread nD τ).loc main_v22_1)) := by
  refine (dats m 0 c).arrAt_eq_of_cover 12 _ (fun t _ => ?_) (fun (i : S512x1024.Idx) => ?_)
  · rw [Value.flushed12]
    funext y
    show out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) ((cfg0.win 12).xinj (grid0.coords t) y) = (endW m c 1) (((cfg0.win 12).blk t).view.emb y)
    rw [at2 ((cfg0.win 12).xinj (grid0.coords t) y) (⟨(y 0).val, (y 0).isLt⟩ : Fin 256) (⟨(y 1).val, (y 1).isLt⟩ : Fin 1024) rfl rfl]
    refine (out12_apply _ _ _ _ _ _ _ _ _ _ _ _ _).trans (lin_point m c t _ _ _ ?_ ?_ 1)
    · show win0_12.index t (0 : Fin 2) * 256 + 1 * (y 0).val = 256 * t.val + (y 0).val
      rw [(index_12 t).1]; omega
    · show win0_12.index t (1 : Fin 2) * 1024 + 1 * (y 1).val = (y 1).val
      rw [(index_12 t).2]; omega
  · have h0 : (i 0).val < 512 := (i 0).isLt
    have ht : (i 0).val / 256 < 2 := by omega
    refine ⟨pt ((i 0).val / 256) ht, flush0_12 _, ?_⟩
    show i ∈ ((View.whole main_v22_1).slice (win0_12.rect (pt ((i 0).val / 256) ht))).set
    rw [View.set_slice_whole, Rect.mem_set_unit]
    exact Fin.forall_fin_two.2 (in_tile (i 0).val (i 1).val (win0_12.index _ (0 : Fin 2)) (win0_12.index _ (1 : Fin 2)) _ (index_12 _).1 (index_12 _).2 rfl (i 1).isLt)

theorem arr_13 : (dats m 0 c).arrAt 13 cfg0.N = (endW m c 2 : Buf (Elt Ideal) ((c : Thread nD τ).loc main_v22_2)) := by
  refine (dats m 0 c).arrAt_eq_of_cover 13 _ (fun t _ => ?_) (fun (i : S512x1024.Idx) => ?_)
  · rw [Value.flushed13]
    funext y
    show out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) ((cfg0.win 13).xinj (grid0.coords t) y) = (endW m c 2) (((cfg0.win 13).blk t).view.emb y)
    rw [at2 ((cfg0.win 13).xinj (grid0.coords t) y) (⟨(y 0).val, (y 0).isLt⟩ : Fin 256) (⟨(y 1).val, (y 1).isLt⟩ : Fin 1024) rfl rfl]
    refine (out13_apply _ _ _ _ _ _ _ _ _ _ _ _ _).trans (lin_point m c t _ _ _ ?_ ?_ 2)
    · show win0_13.index t (0 : Fin 2) * 256 + 1 * (y 0).val = 256 * t.val + (y 0).val
      rw [(index_13 t).1]; omega
    · show win0_13.index t (1 : Fin 2) * 1024 + 1 * (y 1).val = (y 1).val
      rw [(index_13 t).2]; omega
  · have h0 : (i 0).val < 512 := (i 0).isLt
    have ht : (i 0).val / 256 < 2 := by omega
    refine ⟨pt ((i 0).val / 256) ht, flush0_13 _, ?_⟩
    show i ∈ ((View.whole main_v22_2).slice (win0_13.rect (pt ((i 0).val / 256) ht))).set
    rw [View.set_slice_whole, Rect.mem_set_unit]
    exact Fin.forall_fin_two.2 (in_tile (i 0).val (i 1).val (win0_13.index _ (0 : Fin 2)) (win0_13.index _ (1 : Fin 2)) _ (index_13 _).1 (index_13 _).2 rfl (i 1).isLt)

theorem arr_14 : (dats m 0 c).arrAt 14 cfg0.N = (endW m c 3 : Buf (Elt Ideal) ((c : Thread nD τ).loc main_v22_3)) := by
  refine (dats m 0 c).arrAt_eq_of_cover 14 _ (fun t _ => ?_) (fun (i : S512x1024.Idx) => ?_)
  · rw [Value.flushed14]
    funext y
    show out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) ((cfg0.win 14).xinj (grid0.coords t) y) = (endW m c 3) (((cfg0.win 14).blk t).view.emb y)
    rw [at2 ((cfg0.win 14).xinj (grid0.coords t) y) (⟨(y 0).val, (y 0).isLt⟩ : Fin 256) (⟨(y 1).val, (y 1).isLt⟩ : Fin 1024) rfl rfl]
    refine (out14_apply _ _ _ _ _ _ _ _ _ _ _ _ _).trans (lin_point m c t _ _ _ ?_ ?_ 3)
    · show win0_14.index t (0 : Fin 2) * 256 + 1 * (y 0).val = 256 * t.val + (y 0).val
      rw [(index_14 t).1]; omega
    · show win0_14.index t (1 : Fin 2) * 1024 + 1 * (y 1).val = (y 1).val
      rw [(index_14 t).2]; omega
  · have h0 : (i 0).val < 512 := (i 0).isLt
    have ht : (i 0).val / 256 < 2 := by omega
    refine ⟨pt ((i 0).val / 256) ht, flush0_14 _, ?_⟩
    show i ∈ ((View.whole main_v22_3).slice (win0_14.rect (pt ((i 0).val / 256) ht))).set
    rw [View.set_slice_whole, Rect.mem_set_unit]
    exact Fin.forall_fin_two.2 (in_tile (i 0).val (i 1).val (win0_14.index _ (0 : Fin 2)) (win0_14.index _ (1 : Fin 2)) _ (index_14 _).1 (index_14 _).2 rfl (i 1).isLt)

theorem arr_15 : (dats m 0 c).arrAt 15 cfg0.N = (endD m c : Buf (Elt Ideal) ((c : Thread nD τ).loc main_v22_4)) := by
  refine (dats m 0 c).arrAt_eq_of_cover 15 _ (fun t _ => ?_) (fun (i : S512x1024.Idx) => ?_)
  · rw [Value.flushed15]
    funext y
    show out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) ((cfg0.win 15).xinj (grid0.coords t) y) = (endD m c) (((cfg0.win 15).blk t).view.emb y)
    rw [at2 ((cfg0.win 15).xinj (grid0.coords t) y) (⟨(y 0).val, (y 0).isLt⟩ : Fin 256) (⟨(y 1).val, (y 1).isLt⟩ : Fin 1024) rfl rfl]
    refine (out15_apply _ _ _ _ _ _ _ _ _ _ _ _ _).trans (decay_point m c t _ _ _ ?_ ?_)
    · show win0_15.index t (0 : Fin 2) * 256 + 1 * (y 0).val = 256 * t.val + (y 0).val
      rw [(index_15 t).1]; omega
    · show win0_15.index t (1 : Fin 2) * 1024 + 1 * (y 1).val = (y 1).val
      rw [(index_15 t).2]; omega
  · have h0 : (i 0).val < 512 := (i 0).isLt
    have ht : (i 0).val / 256 < 2 := by omega
    refine ⟨pt ((i 0).val / 256) ht, flush0_15 _, ?_⟩
    show i ∈ ((View.whole main_v22_4).slice (win0_15.rect (pt ((i 0).val / 256) ht))).set
    rw [View.set_slice_whole, Rect.mem_set_unit]
    exact Fin.forall_fin_two.2 (in_tile (i 0).val (i 1).val (win0_15.index _ (0 : Fin 2)) (win0_15.index _ (1 : Fin 2)) _ (index_15 _).1 (index_15 _).2 rfl (i 1).isLt)

theorem arr_16 : (dats m 0 c).arrAt 16 cfg0.N = (endA m c : Buf (Elt Ideal) ((c : Thread nD τ).loc main_v22_5)) := by
  refine (dats m 0 c).arrAt_eq_of_cover 16 _ (fun t _ => ?_) (fun (i : S512x1024.Idx) => ?_)
  · rw [Value.flushed16]
    funext y
    show out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) ((cfg0.win 16).xinj (grid0.coords t) y) = (endA m c) (((cfg0.win 16).blk t).view.emb y)
    rw [at2 ((cfg0.win 16).xinj (grid0.coords t) y) (⟨(y 0).val, (y 0).isLt⟩ : Fin 256) (⟨(y 1).val, (y 1).isLt⟩ : Fin 1024) rfl rfl]
    refine (out16_apply _ _ _ _ _ _ _ _ _ _ _ _ _).trans (rate_point m c t _ _ _ ?_ ?_)
    · show win0_16.index t (0 : Fin 2) * 256 + 1 * (y 0).val = 256 * t.val + (y 0).val
      rw [(index_16 t).1]; omega
    · show win0_16.index t (1 : Fin 2) * 1024 + 1 * (y 1).val = (y 1).val
      rw [(index_16 t).2]; omega
  · have h0 : (i 0).val < 512 := (i 0).isLt
    have ht : (i 0).val / 256 < 2 := by omega
    refine ⟨pt ((i 0).val / 256) ht, flush0_16 _, ?_⟩
    show i ∈ ((View.whole main_v22_5).slice (win0_16.rect (pt ((i 0).val / 256) ht))).set
    rw [View.set_slice_whole, Rect.mem_set_unit]
    exact Fin.forall_fin_two.2 (in_tile (i 0).val (i 1).val (win0_16.index _ (0 : Fin 2)) (win0_16.index _ (1 : Fin 2)) _ (index_16 _).1 (index_16 _).2 rfl (i 1).isLt)

theorem arr_17 : (dats m 0 c).arrAt 17 cfg0.N = (endX m c : Buf (Elt Ideal) ((c : Thread nD τ).loc main_v22_6)) := by
  refine (dats m 0 c).arrAt_eq_of_cover 17 _ (fun t _ => ?_) (fun (i : S512x1024.Idx) => ?_)
  · rw [Value.flushed17]
    funext y
    show out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) ((cfg0.win 17).xinj (grid0.coords t) y) = (endX m c) (((cfg0.win 17).blk t).view.emb y)
    rw [at2 ((cfg0.win 17).xinj (grid0.coords t) y) (⟨(y 0).val, (y 0).isLt⟩ : Fin 256) (⟨(y 1).val, (y 1).isLt⟩ : Fin 1024) rfl rfl]
    refine (out17_apply _ _ _ _ _ _ _ _ _ _ _ _ _).trans (norm_point m c t _ _ _ ?_ ?_)
    · show win0_17.index t (0 : Fin 2) * 256 + 1 * (y 0).val = 256 * t.val + (y 0).val
      rw [(index_17 t).1]; omega
    · show win0_17.index t (1 : Fin 2) * 1024 + 1 * (y 1).val = (y 1).val
      rw [(index_17 t).2]; omega
  · have h0 : (i 0).val < 512 := (i 0).isLt
    have ht : (i 0).val / 256 < 2 := by omega
    refine ⟨pt ((i 0).val / 256) ht, flush0_17 _, ?_⟩
    show i ∈ ((View.whole main_v22_6).slice (win0_17.rect (pt ((i 0).val / 256) ht))).set
    rw [View.set_slice_whole, Rect.mem_set_unit]
    exact Fin.forall_fin_two.2 (in_tile (i 0).val (i 1).val (win0_17.index _ (0 : Fin 2)) (win0_17.index _ (1 : Fin 2)) _ (index_17 _).1 (index_17 _).2 rfl (i 1).isLt)

end ProjV

end
-- ==== Proof.VRef.lean ====
module

public import proofs.«01_k».proof.Proof.VPay
public import proofs.«01_k».proof.Proof.Gen.SampleProjRefIdeal.Read

@[expose] public section

noncomputable section

/-! The reference of the time mixing's projections on the sample, read value by value. -/

namespace ProjV

open Proj Cert.SampleProjRefIdeal Cert.SampleProjRefIdeal.Gen Cert.SampleProjRefIdeal.Read Idealize.ShloMosaic Idealize.ShloMosaic.ValueIdx
open ProjW (mixed sg lin logd rate)

/-- Row `i` of all rows is a place of a sequence. -/
theorem flat_at (z : S128x4x1024.Idx) (i : S512x1024.Idx) (h0 : (z 0).val = ((i 0).val * 1024 + (i 1).val) / 4096)
    (h1 : (z 1).val = ((i 0).val * 1024 + (i 1).val) / 1024 % 4) (h2 : (z 2).val = ((i 0).val * 1024 + (i 1).val) % 1024) : z = ix3 (vb (i 0)) (vp (i 0)) (i 1) := by
  have i1 : (i 1).val < 1024 := (i 1).isLt
  exact at3 z (vb (i 0)) (vp (i 0)) (i 1) (by rw [h0]; show _ = (i 0).val / 4; omega) (by rw [h1]; show _ = (i 0).val % 4; omega) (by rw [h2]; omega)

/-- A stack of arrays taken apart. -/
theorem part_at {n : ℕ} (z : (⟨4, ![n, 128, 4, 1024]⟩ : Shape).Idx) (c : Fin n) (b : Fin 128) (p : Fin 4) (d : Fin 1024) (h0 : (z 0).val = c.val)
    (h1 : (z 1).val = ((b.val * 4 + p.val) * 1024 + d.val) / 4096 % 128) (h2 : (z 2).val = ((b.val * 4 + p.val) * 1024 + d.val) / 1024 % 4)
    (h3 : (z 3).val = ((b.val * 4 + p.val) * 1024 + d.val) % 1024) : z = ix4 c b p d :=
  at4 z c b p d h0 (by rw [h1]; omega) (by rw [h2]; omega) (by rw [h3]; omega)

/-- A single matrix taken out of its stack. -/
theorem mat_at {A B : ℕ} (z : (⟨3, ![1, A, B]⟩ : Shape).Idx) (a : Fin A) (b : Fin B) (h1 : (z 1).val = (a.val * B + b.val) / B % A) (h2 : (z 2).val = (a.val * B + b.val) % B) : z = ix3 (0 : Fin 1) a b := by
  have hB : 0 < B := Nat.zero_lt_of_lt b.isLt
  refine at3 z (0 : Fin 1) a b ?_ ?_ ?_
  · have h := (z 0).isLt
    exact Nat.lt_one_iff.1 h
  · rw [h1, Nat.mul_comm, Nat.mul_add_div hB, Nat.div_eq_of_lt b.isLt, Nat.add_zero, Nat.mod_eq_of_lt a.isLt]
  · rw [h2, Nat.mul_comm, Nat.mul_add_mod, Nat.mod_eq_of_lt b.isLt]

variable (h : FVec Ideal ⟨3, ![128, 4, 1024]⟩ .f32) (s : FVec Ideal ⟨3, ![1, 128, 1024]⟩ .f32) (gn : FVec Ideal ⟨2, ![2, 1024]⟩ .f32) (mu : FVec Ideal ⟨3, ![1, 6, 1024]⟩ .f32)
  (w : FVec Ideal ⟨4, ![1, 4, 1024, 1024]⟩ .f32)
  (w0 : FVec Ideal ⟨2, ![1, 1024]⟩ .f32) (w1 : FVec Ideal ⟨3, ![1, 1024, 64]⟩ .f32) (w2 : FVec Ideal ⟨3, ![1, 64, 1024]⟩ .f32)

theorem ref_scale (b : Fin 128) (p : Fin 4) (z : S128x4x1.Idx) (h0 : (z 0).val = b.val) (h1 : (z 1).val = p.val) :
    val_main_v9 (F := Ideal) h z = scale (fun k => h (ix3 b p k)) := by
  rw [val_main_v9_apply, val_main_v8_apply, val_main_v6_apply, val_main_v7_apply, val_main_cst_1_apply, val_main_v5_apply, val_main_cst_0_apply, val_main_v4_apply, val_main_v3_apply,
    val_main_cst_apply]
  have e : ∀ k : Fin 1024, val_main_v2 (F := Ideal) h (idx_main_v3 (idx_main_v4 z) k) = h (ix3 b p k) * h (ix3 b p k) := fun k => by
    rw [val_main_v2_apply, at3 (idx_main_v3 (idx_main_v4 z) k) b p k h0 h1 rfl]
    rfl
  rw [Finset.sum_congr rfl fun k _ => e k]
  unfold scale
  show Ideal.rsqrt (Ideal.div (Ideal.ofBits .f32 0x00000000#32 + _) _ + _) = _
  rw [Ideal.ofBits_zero_f32, zero_add]
  rfl

theorem ref_xn (b : Fin 128) (p : Fin 4) (d : Fin 1024) : val_main_v14 (F := Ideal) h gn (ix3 b p d) = xnAt h gn b p d := by
  rw [val_main_v14_apply, val_main_v11_apply, val_main_v10_apply, ref_scale h b p _ rfl rfl, val_main_v13_apply, val_main_v12_apply, val_main_v1_apply, val_main_v0_apply]
  unfold xnAt nrm
  refine congrArg (fun y : EReal => h (ix3 b p d) * scale (fun k => h (ix3 b p k)) * y) (congrArg gn (at2 _ (1 : Fin 2) d rfl ?_))
  show d.val % 1024 = d.val
  omega

theorem ref_prev (b : Fin 128) (p : Fin 4) (d : Fin 1024) : val_main_v20 (F := Ideal) h s gn (ix3 b p d) = prevAt h s gn b p d := by
  unfold val_main_v20 prevAt
  by_cases hp : p.val = 0
  · rw [if_pos hp]
    refine (concatenate_pair_apply_left (t := S128x4x1024) (1 : Fin 3) _ _ concatenates_S128x1x1024_S128x3x1024_S128x4x1024_d1 _ rfl (ix3 b (0 : Fin 1) d) ?_).trans ?_
    · intro a
      match a with
      | ⟨0, _⟩ => rfl
      | ⟨1, _⟩ => exact hp.symm
      | ⟨2, _⟩ => rfl
    · rw [val_main_v18_apply, val_main_v17_apply]
      exact congrArg s (mat_at _ b d rfl rfl)
  · rw [if_neg hp]
    refine (concatenate_pair_apply_right (t := S128x4x1024) (1 : Fin 3) _ _ concatenates_S128x1x1024_S128x3x1024_S128x4x1024_d1 _ rfl rfl
      (ix3 b (⟨p.val - 1, by omega⟩ : Fin 3) d) ?_ ?_).trans ?_
    · intro a ha
      match a with
      | ⟨0, _⟩ => rfl
      | ⟨1, _⟩ => exact absurd rfl ha
      | ⟨2, _⟩ => rfl
    · show (p.val - 1) + 1 = p.val; omega
    · rw [val_main_v19_apply, at3 (idx_main_v19 (ix3 b (⟨p.val - 1, by omega⟩ : Fin 3) d)) b (⟨p.val - 1, by omega⟩ : Fin 4) d rfl rfl rfl]
      exact ref_xn h gn b _ d

theorem ref_mix (c : Fin 6) (b : Fin 128) (p : Fin 4) (d : Fin 1024) : val_main_v29 (F := Ideal) h s gn mu (ix4 c b p d) = mixAt h s gn mu c b p d := by
  rw [val_main_v29_apply, val_main_v28_apply, val_main_v21_apply, val_main_v27_apply, val_main_v25_apply, val_main_v23_apply, val_main_v22_apply, val_main_v26_apply,
    val_main_v24_apply, val_main_v15_apply]
  rw [at3 (idx_main_v21 (idx_main_v28 (ix4 c b p d))) b p d rfl rfl rfl, at3 (idx_main_v23 (idx_main_v25 (ix4 c b p d))) b p d rfl rfl rfl,
    mat_at (idx_main_v15 (idx_main_v24 (idx_main_v26 (ix4 c b p d)))) c d rfl rfl, ref_xn, ref_prev]
  rfl

theorem ref_lin (c : Fin 4) (b : Fin 128) (p : Fin 4) (e : Fin 1024) :
    val_main_v31 (F := Ideal) h s gn mu w (ix4 c b p e) = lin (mixAt h s gn mu ⟨c.val, by omega⟩ b p) (fun d e => w (ix4 (0 : Fin 1) c d e)) e := by
  rw [val_main_v31_apply]
  unfold lin
  refine Finset.sum_congr rfl fun d _ => ?_
  rw [val_main_v30_apply, val_main_v16_apply, at4 (idx_main_v30 (lidx_main_v31 (ix4 c b p e) d)) (⟨c.val, by omega⟩ : Fin 6) b p d rfl rfl rfl rfl, ref_mix,
    at4 (idx_main_v16 (ridx_main_v31 (ix4 c b p e) d)) (0 : Fin 1) c d e rfl (by show ((c.val * 1024 + d.val) * 1024 + e.val) / 1048576 % 4 = c.val; omega)
      (by show ((c.val * 1024 + d.val) * 1024 + e.val) / 1024 % 1024 = d.val; omega) (by show ((c.val * 1024 + d.val) * 1024 + e.val) % 1024 = e.val; omega)]

theorem ref_lin0 (b : Fin 128) (p : Fin 4) (d : Fin 1024) : val_main_v33 (F := Ideal) h s gn mu w (ix3 b p d) = lin (mixAt h s gn mu 0 b p) (fun d e => w (ix4 (0 : Fin 1) 0 d e)) d := by
  rw [val_main_v33_apply, val_main_v32_apply, part_at (idx_main_v32 (idx_main_v33 (ix3 b p d))) (0 : Fin 4) b p d rfl rfl rfl rfl]
  exact ref_lin h s gn mu w 0 b p d

theorem ref_out0 (i : S512x1024.Idx) : val_main_v75 (F := Ideal) h s gn mu w i = specW h s gn mu w 0 i := by
  rw [val_main_v75_apply, flat_at (idx_main_v75 i) i rfl rfl rfl]
  exact ref_lin0 h s gn mu w (vb (i 0)) (vp (i 0)) (i 1)

theorem ref_lin1 (b : Fin 128) (p : Fin 4) (d : Fin 1024) : val_main_v35 (F := Ideal) h s gn mu w (ix3 b p d) = lin (mixAt h s gn mu 1 b p) (fun d e => w (ix4 (0 : Fin 1) 1 d e)) d := by
  rw [val_main_v35_apply, val_main_v34_apply, part_at (idx_main_v34 (idx_main_v35 (ix3 b p d))) (1 : Fin 4) b p d rfl rfl rfl rfl]
  exact ref_lin h s gn mu w 1 b p d

theorem ref_out1 (i : S512x1024.Idx) : val_main_v76 (F := Ideal) h s gn mu w i = specW h s gn mu w 1 i := by
  rw [val_main_v76_apply, flat_at (idx_main_v76 i) i rfl rfl rfl]
  exact ref_lin1 h s gn mu w (vb (i 0)) (vp (i 0)) (i 1)

theorem ref_lin2 (b : Fin 128) (p : Fin 4) (d : Fin 1024) : val_main_v37 (F := Ideal) h s gn mu w (ix3 b p d) = lin (mixAt h s gn mu 2 b p) (fun d e => w (ix4 (0 : Fin 1) 2 d e)) d := by
  rw [val_main_v37_apply, val_main_v36_apply, part_at (idx_main_v36 (idx_main_v37 (ix3 b p d))) (2 : Fin 4) b p d rfl rfl rfl rfl]
  exact ref_lin h s gn mu w 2 b p d

theorem ref_out2 (i : S512x1024.Idx) : val_main_v77 (F := Ideal) h s gn mu w i = specW h s gn mu w 2 i := by
  rw [val_main_v77_apply, flat_at (idx_main_v77 i) i rfl rfl rfl]
  exact ref_lin2 h s gn mu w (vb (i 0)) (vp (i 0)) (i 1)

theorem ref_lin3 (b : Fin 128) (p : Fin 4) (d : Fin 1024) : val_main_v39 (F := Ideal) h s gn mu w (ix3 b p d) = lin (mixAt h s gn mu 3 b p) (fun d e => w (ix4 (0 : Fin 1) 3 d e)) d := by
  rw [val_main_v39_apply, val_main_v38_apply, part_at (idx_main_v38 (idx_main_v39 (ix3 b p d))) (3 : Fin 4) b p d rfl rfl rfl rfl]
  exact ref_lin h s gn mu w 3 b p d

theorem ref_out3 (i : S512x1024.Idx) : val_main_v78 (F := Ideal) h s gn mu w i = specW h s gn mu w 3 i := by
  rw [val_main_v78_apply, flat_at (idx_main_v78 i) i rfl rfl rfl]
  exact ref_lin3 h s gn mu w (vb (i 0)) (vp (i 0)) (i 1)

theorem ref_mld (b : Fin 128) (p : Fin 4) (d : Fin 1024) : val_main_v41 (F := Ideal) h s gn mu (ix3 b p d) = mixAt h s gn mu 4 b p d := by
  rw [val_main_v41_apply, val_main_v40_apply, part_at (idx_main_v40 (idx_main_v41 (ix3 b p d))) (4 : Fin 6) b p d rfl rfl rfl rfl]
  exact ref_mix h s gn mu 4 b p d

theorem ref_tld (b : Fin 128) (p : Fin 4) (j : Fin 64) :
    val_main_v46 (F := Ideal) h s gn mu w1 (ix3 b p j) = lin (mixAt h s gn mu 4 b p) (fun d j => w1 (ix3 (0 : Fin 1) d j)) j := by
  rw [val_main_v46_apply]
  unfold lin
  refine Finset.sum_congr rfl fun d _ => ?_
  rw [val_main_v45_apply, at3 (lidx_main_v46 (ix3 b p j) d) b p d rfl rfl rfl, ref_mld, mat_at (idx_main_v45 (ridx_main_v46 (ix3 b p j) d)) d j rfl rfl]

theorem ref_sld (b : Fin 128) (p : Fin 4) (e : Fin 1024) :
    val_main_v52 (F := Ideal) h s gn mu w0 w1 w2 (ix3 b p e) = w0 (ix2 (0 : Fin 1) e) + ∑ j : Fin 64, Ideal.tanh (lin (mixAt h s gn mu 4 b p) (fun d j => w1 (ix3 (0 : Fin 1) d j)) j) * w2 (ix3 (0 : Fin 1) j e) := by
  rw [val_main_v52_apply, val_main_v51_apply, val_main_v50_apply, val_main_v44_apply, val_main_v49_apply,
    at2 (idx_main_v44 (idx_main_v50 (idx_main_v51 (ix3 b p e)))) (0 : Fin 1) e rfl (by show e.val % 1024 = e.val; omega)]
  refine congrArg (fun y : EReal => w0 (ix2 (0 : Fin 1) e) + y) (Finset.sum_congr rfl fun j _ => ?_)
  rw [val_main_v47_apply, at3 (lidx_main_v49 (ix3 b p e) j) b p j rfl rfl rfl, ref_tld, val_main_v48_apply, mat_at (idx_main_v48 (ridx_main_v49 (ix3 b p e) j)) j e rfl rfl]
  rfl

theorem ref_decay (b : Fin 128) (p : Fin 4) (e : Fin 1024) :
    val_main_v60 (F := Ideal) h s gn mu w0 w1 w2 (ix3 b p e) = logd (mixAt h s gn mu 4 b p) (fun e => w0 (ix2 (0 : Fin 1) e)) (fun d j => w1 (ix3 (0 : Fin 1) d j)) (fun j e => w2 (ix3 (0 : Fin 1) j e)) e := by
  rw [val_main_v60_apply, val_main_v59_apply, val_main_cst_4_apply, val_main_v58_apply, val_main_v57_apply, val_main_cst_3_apply, val_main_v56_apply, val_main_v55_apply, val_main_cst_2_apply, val_main_v54_apply, val_main_v53_apply]
  exact congrArg (fun z : EReal => Ideal.ofBits .f32 0xBF1B4598#32 * sg z) (ref_sld h s gn mu w0 w1 w2 b p e)

theorem ref_out4 (i : S512x1024.Idx) : val_main_v79 (F := Ideal) h s gn mu w0 w1 w2 i = specD h s gn mu w0 w1 w2 i := by
  rw [val_main_v79_apply, flat_at (idx_main_v79 i) i rfl rfl rfl]
  exact ref_decay h s gn mu w0 w1 w2 (vb (i 0)) (vp (i 0)) (i 1)

theorem ref_ma (b : Fin 128) (p : Fin 4) (d : Fin 1024) : val_main_v43 (F := Ideal) h s gn mu (ix3 b p d) = mixAt h s gn mu 5 b p d := by
  rw [val_main_v43_apply, val_main_v42_apply, part_at (idx_main_v42 (idx_main_v43 (ix3 b p d))) (5 : Fin 6) b p d rfl rfl rfl rfl]
  exact ref_mix h s gn mu 5 b p d

theorem ref_ta (b : Fin 128) (p : Fin 4) (j : Fin 64) :
    val_main_v63 (F := Ideal) h s gn mu w1 (ix3 b p j) = lin (mixAt h s gn mu 5 b p) (fun d j => w1 (ix3 (0 : Fin 1) d j)) j := by
  rw [val_main_v63_apply]
  unfold lin
  refine Finset.sum_congr rfl fun d _ => ?_
  rw [val_main_v62_apply, at3 (lidx_main_v63 (ix3 b p j) d) b p d rfl rfl rfl, ref_ma, mat_at (idx_main_v62 (ridx_main_v63 (ix3 b p j) d)) d j rfl rfl]

theorem ref_sa (b : Fin 128) (p : Fin 4) (e : Fin 1024) :
    val_main_v68 (F := Ideal) h s gn mu w0 w1 w2 (ix3 b p e) = w0 (ix2 (0 : Fin 1) e) + ∑ j : Fin 64, lin (mixAt h s gn mu 5 b p) (fun d j => w1 (ix3 (0 : Fin 1) d j)) j * w2 (ix3 (0 : Fin 1) j e) := by
  rw [val_main_v68_apply, val_main_v67_apply, val_main_v66_apply, val_main_v61_apply, val_main_v65_apply,
    at2 (idx_main_v61 (idx_main_v66 (idx_main_v67 (ix3 b p e)))) (0 : Fin 1) e rfl (by show e.val % 1024 = e.val; omega)]
  refine congrArg (fun y : EReal => w0 (ix2 (0 : Fin 1) e) + y) (Finset.sum_congr rfl fun j _ => ?_)
  rw [at3 (lidx_main_v65 (ix3 b p e) j) b p j rfl rfl rfl, ref_ta, val_main_v64_apply, mat_at (idx_main_v64 (ridx_main_v65 (ix3 b p e) j)) j e rfl rfl]

theorem ref_rate (b : Fin 128) (p : Fin 4) (e : Fin 1024) :
    val_main_v74 (F := Ideal) h s gn mu w0 w1 w2 (ix3 b p e) = rate (mixAt h s gn mu 5 b p) (fun e => w0 (ix2 (0 : Fin 1) e)) (fun d j => w1 (ix3 (0 : Fin 1) d j)) (fun j e => w2 (ix3 (0 : Fin 1) j e)) e := by
  rw [val_main_v74_apply, val_main_v73_apply, val_main_cst_6_apply, val_main_v72_apply, val_main_v71_apply, val_main_cst_5_apply, val_main_v70_apply, val_main_v69_apply]
  exact congrArg (fun z : EReal => sg z) (ref_sa h s gn mu w0 w1 w2 b p e)

theorem ref_out5 (i : S512x1024.Idx) : val_main_v80 (F := Ideal) h s gn mu w0 w1 w2 i = specA h s gn mu w0 w1 w2 i := by
  rw [val_main_v80_apply, flat_at (idx_main_v80 i) i rfl rfl rfl]
  exact ref_rate h s gn mu w0 w1 w2 (vb (i 0)) (vp (i 0)) (i 1)

theorem ref_out6 (i : S512x1024.Idx) : val_main_v81 (F := Ideal) h gn i = specX h gn i := by
  rw [val_main_v81_apply, flat_at (idx_main_v81 i) i rfl rfl rfl]
  exact ref_xn h gn (vb (i 0)) (vp (i 0)) (i 1)

end ProjV

end
-- ==== Proof.VWhole.lean ====
module

public import proofs.«01_k».proof.Defs
public import proofs.«01_k».proof.Proof.VKernel
public import proofs.«01_k».proof.Proof.VRef
public import proofs.«01_k».proof.Proof.Gen.SampleProjRefIdeal.Run

@[expose] public section

noncomputable section

/-! The two programs of the time mixing's projections on the sample end with equal arrays. -/

namespace ProjV

open Idealize.ShloMosaic Idealize.ShloMosaic.ValueIdx Idealize.SL.Sem

theorem ref_end4 {h h' : FVec Ideal ⟨3, ![128, 4, 1024]⟩ .f32} {s s' : FVec Ideal ⟨3, ![1, 128, 1024]⟩ .f32} {gn gn' : FVec Ideal ⟨2, ![2, 1024]⟩ .f32} {mu mu' : FVec Ideal ⟨3, ![1, 6, 1024]⟩ .f32}
    {w0 w0' : FVec Ideal ⟨2, ![1, 1024]⟩ .f32} {w1 w1' : FVec Ideal ⟨3, ![1, 1024, 64]⟩ .f32} {w2 w2' : FVec Ideal ⟨3, ![1, 64, 1024]⟩ .f32}
    (e0 : h = h') (e1 : s = s') (e2 : gn = gn') (e3 : mu = mu') (e4 : w0 = w0') (e5 : w1 = w1') (e6 : w2 = w2') :
    Cert.SampleProjRefIdeal.Read.val_main_v79 (F := Ideal) h s gn mu w0 w1 w2 = specD h' s' gn' mu' w0' w1' w2' := by
  subst e0 e1 e2 e3 e4 e5 e6
  exact funext (ref_out4 h s gn mu w0 w1 w2)

theorem ref_end5 {h h' : FVec Ideal ⟨3, ![128, 4, 1024]⟩ .f32} {s s' : FVec Ideal ⟨3, ![1, 128, 1024]⟩ .f32} {gn gn' : FVec Ideal ⟨2, ![2, 1024]⟩ .f32} {mu mu' : FVec Ideal ⟨3, ![1, 6, 1024]⟩ .f32}
    {w0 w0' : FVec Ideal ⟨2, ![1, 1024]⟩ .f32} {w1 w1' : FVec Ideal ⟨3, ![1, 1024, 64]⟩ .f32} {w2 w2' : FVec Ideal ⟨3, ![1, 64, 1024]⟩ .f32}
    (e0 : h = h') (e1 : s = s') (e2 : gn = gn') (e3 : mu = mu') (e4 : w0 = w0') (e5 : w1 = w1') (e6 : w2 = w2') :
    Cert.SampleProjRefIdeal.Read.val_main_v80 (F := Ideal) h s gn mu w0 w1 w2 = specA h' s' gn' mu' w0' w1' w2' := by
  subst e0 e1 e2 e3 e4 e5 e6
  exact funext (ref_out5 h s gn mu w0 w1 w2)

set_option maxHeartbeats 4000000 in
theorem sample_proj_whole : Cert.algebraic_SampleProjIdeal_SampleProjRefIdeal := by
  intro m g m' g' _ hagree
  refine ⟨fun c => (Cert.SampleProjIdeal.Gen.dats m 0 c).arrAt 11 Cert.SampleProjIdeal.cfg0.N,
    fun c => (Cert.SampleProjIdeal.Gen.dats m 0 c).arrAt 12 Cert.SampleProjIdeal.cfg0.N,
    fun c => (Cert.SampleProjIdeal.Gen.dats m 0 c).arrAt 13 Cert.SampleProjIdeal.cfg0.N,
    fun c => (Cert.SampleProjIdeal.Gen.dats m 0 c).arrAt 14 Cert.SampleProjIdeal.cfg0.N,
    fun c => (Cert.SampleProjIdeal.Gen.dats m 0 c).arrAt 15 Cert.SampleProjIdeal.cfg0.N,
    fun c => (Cert.SampleProjIdeal.Gen.dats m 0 c).arrAt 16 Cert.SampleProjIdeal.cfg0.N,
    fun c => (Cert.SampleProjIdeal.Gen.dats m 0 c).arrAt 17 Cert.SampleProjIdeal.cfg0.N,
    Cert.SampleProjIdeal.Value.run_blocks m g, (θ_run _ _ _).mono (fun r h c => ⟨?_, ?_, ?_, ?_, ?_, ?_, ?_, (h c).2.2.2.2.2.2.2⟩) (Cert.SampleProjRefIdeal.Value.run m' g')⟩
  · obtain ⟨a0, a1, a2, a3, a4, a5, a6, a7, a8, a9, a10⟩ := hagree c
    rw [(h c).1, Cert.SampleProjRefIdeal.Read.val_main_v75_eq, a0, a1, a2, a3, a4]
    exact (funext (ref_out0 _ _ _ _ _)).trans (arr_11 m c).symm
  · obtain ⟨a0, a1, a2, a3, a4, a5, a6, a7, a8, a9, a10⟩ := hagree c
    rw [(h c).2.1, Cert.SampleProjRefIdeal.Read.val_main_v76_eq, a0, a1, a2, a3, a4]
    exact (funext (ref_out1 _ _ _ _ _)).trans (arr_12 m c).symm
  · obtain ⟨a0, a1, a2, a3, a4, a5, a6, a7, a8, a9, a10⟩ := hagree c
    rw [(h c).2.2.1, Cert.SampleProjRefIdeal.Read.val_main_v77_eq, a0, a1, a2, a3, a4]
    exact (funext (ref_out2 _ _ _ _ _)).trans (arr_13 m c).symm
  · obtain ⟨a0, a1, a2, a3, a4, a5, a6, a7, a8, a9, a10⟩ := hagree c
    rw [(h c).2.2.2.1, Cert.SampleProjRefIdeal.Read.val_main_v78_eq, a0, a1, a2, a3, a4]
    exact (funext (ref_out3 _ _ _ _ _)).trans (arr_14 m c).symm
  · obtain ⟨a0, a1, a2, a3, a4, a5, a6, a7, a8, a9, a10⟩ := hagree c
    exact ((h c).2.2.2.2.1.trans (Cert.SampleProjRefIdeal.Read.val_main_v79_eq m' c)).trans ((ref_end4 a0 a1 a2 a3 a5 a6 a7).trans (arr_15 m c).symm)
  · obtain ⟨a0, a1, a2, a3, a4, a5, a6, a7, a8, a9, a10⟩ := hagree c
    exact ((h c).2.2.2.2.2.1.trans (Cert.SampleProjRefIdeal.Read.val_main_v80_eq m' c)).trans ((ref_end5 a0 a1 a2 a3 a8 a9 a10).trans (arr_16 m c).symm)
  · obtain ⟨a0, a1, a2, a3, a4, a5, a6, a7, a8, a9, a10⟩ := hagree c
    rw [(h c).2.2.2.2.2.2.1, Cert.SampleProjRefIdeal.Read.val_main_v81_eq, a0, a2]
    exact (funext (ref_out6 _ _)).trans (arr_17 m c).symm

end ProjV

end
-- ==== Proof.lean ====
module

public import proofs.«01_k».proof.Defs
public import proofs.«01_k».proof.Proof.Gen.Kernel.Frame
public import proofs.«01_k».proof.Proof.Gen.KernelIdeal.Frame
public import proofs.«01_k».proof.Proof.Whole
public import proofs.«01_k».proof.Proof.AWhole
public import proofs.«01_k».proof.Proof.WWhole
public import proofs.«01_k».proof.Proof.OWhole
public import proofs.«01_k».proof.Proof.SOutWhole
public import proofs.«01_k».proof.Proof.VWhole
public import proofs.«01_k».proof.Proof.Gen.AttnProj.Frame
public import proofs.«01_k».proof.Proof.Gen.AttnProjIdeal.Frame
public import proofs.«01_k».proof.Proof.Gen.AttnProjIdeal.Value
public import proofs.«01_k».proof.Proof.Gen.AttnProjRefIdeal.Read
public import proofs.«01_k».proof.Proof.Gen.AttnProjRefIdeal.Run
public import proofs.«01_k».proof.Proof.Gen.RwkvProj.Frame
public import proofs.«01_k».proof.Proof.Gen.RwkvProjIdeal.Frame
public import proofs.«01_k».proof.Proof.Gen.RwkvProjIdeal.Value
public import proofs.«01_k».proof.Proof.Gen.RwkvProjRefIdeal.Read
public import proofs.«01_k».proof.Proof.Gen.RwkvProjRefIdeal.Run
public import proofs.«01_k».proof.Proof.Gen.RwkvOut.Frame
public import proofs.«01_k».proof.Proof.Gen.RwkvOutIdeal.Frame
public import proofs.«01_k».proof.Proof.Gen.RwkvOutIdeal.Value
public import proofs.«01_k».proof.Proof.Gen.RwkvOutRefIdeal.Read
public import proofs.«01_k».proof.Proof.Gen.RwkvOutRefIdeal.Run
public import proofs.«01_k».proof.Proof.Gen.SampleOut.Frame
public import proofs.«01_k».proof.Proof.Gen.SampleOutIdeal.Frame
public import proofs.«01_k».proof.Proof.Gen.SampleOutIdeal.Value
public import proofs.«01_k».proof.Proof.Gen.SampleOutRefIdeal.Read
public import proofs.«01_k».proof.Proof.Gen.SampleOutRefIdeal.Run
public import proofs.«01_k».proof.Proof.Gen.SampleProj.Frame
public import proofs.«01_k».proof.Proof.Gen.SampleProjIdeal.Frame
public import proofs.«01_k».proof.Proof.Gen.SampleProjIdeal.Value
public import proofs.«01_k».proof.Proof.Gen.SampleProjRefIdeal.Read
public import proofs.«01_k».proof.Proof.Gen.SampleProjRefIdeal.Run

@[expose] public section

noncomputable section

/-! The claims together: the frames of the programs, the value of the mask, the equality of the results of each of the six calls. -/

namespace Cert.Proof

open Idealize.ShloMosaic Idealize.SL.Sem

/-- The reference has no semaphore, and its run keeps the arguments. -/
theorem frame_reference : Cert.quiescent_ReferenceIdeal := fun m g _ =>
  (θ_run Cert.ReferenceIdeal.defs _ _).mono (fun r h => ⟨fun c => (h c).2, sem_eq_zero_of_no_sems (by decide) r.2⟩) (Cert.ReferenceIdeal.Value.run m g)

/-- The same of the reference of the attention projections. -/
theorem frame_AttnProj : Cert.quiescent_AttnProjRefIdeal := fun m g _ =>
  (θ_run Cert.AttnProjRefIdeal.defs _ _).mono (fun r h => ⟨fun c => (h c).2.2.2.2, sem_eq_zero_of_no_sems (by decide) r.2⟩) (Cert.AttnProjRefIdeal.Value.run m g)

/-- The same of the reference of the time mixing's projections. -/
theorem frame_RwkvProj : Cert.quiescent_RwkvProjRefIdeal := fun m g _ =>
  (θ_run Cert.RwkvProjRefIdeal.defs _ _).mono (fun r h => ⟨fun c => (h c).2.2.2.2.2.2.2, sem_eq_zero_of_no_sems (by decide) r.2⟩) (Cert.RwkvProjRefIdeal.Value.run m g)

/-- The same of the reference of the output product. -/
theorem frame_RwkvOut : Cert.quiescent_RwkvOutRefIdeal := fun m g _ =>
  (θ_run Cert.RwkvOutRefIdeal.defs _ _).mono (fun r h => ⟨fun c => (h c).2, sem_eq_zero_of_no_sems (by decide) r.2⟩) (Cert.RwkvOutRefIdeal.Value.run m g)

/-- The same of the reference of the output product on the sample. -/
theorem frame_SampleOut : Cert.quiescent_SampleOutRefIdeal := fun m g _ =>
  (θ_run Cert.SampleOutRefIdeal.defs _ _).mono (fun r h => ⟨fun c => (h c).2, sem_eq_zero_of_no_sems (by decide) r.2⟩) (Cert.SampleOutRefIdeal.Value.run m g)

/-- The same of the reference of the time mixing's projections on the sample. -/
theorem frame_SampleProj : Cert.quiescent_SampleProjRefIdeal := fun m g _ =>
  (θ_run Cert.SampleProjRefIdeal.defs _ _).mono (fun r h => ⟨fun c => (h c).2.2.2.2.2.2.2, sem_eq_zero_of_no_sems (by decide) r.2⟩) (Cert.SampleProjRefIdeal.Value.run m g)

theorem claim : Cert.Claim :=
  ⟨Cert.Kernel.Gen.facts,
    Cert.KernelIdeal.Gen.facts,
    Cert.ReferenceIdeal.Gen.facts,
    Cert.AttnProj.Gen.facts,
    Cert.AttnProjIdeal.Gen.facts,
    Cert.AttnProjRefIdeal.Gen.facts,
    Cert.RwkvProj.Gen.facts,
    Cert.RwkvProjIdeal.Gen.facts,
    Cert.RwkvProjRefIdeal.Gen.facts,
    Cert.RwkvOut.Gen.facts,
    Cert.RwkvOutIdeal.Gen.facts,
    Cert.RwkvOutRefIdeal.Gen.facts,
    Cert.SampleOut.Gen.facts,
    Cert.SampleOutIdeal.Gen.facts,
    Cert.SampleOutRefIdeal.Gen.facts,
    Cert.SampleProj.Gen.facts,
    Cert.SampleProjIdeal.Gen.facts,
    Cert.SampleProjRefIdeal.Gen.facts,
    Cert.Pre_finite.Gen.facts,
    fun m g _ => Cert.Kernel.Gen.frame m g,
    fun m g _ => Cert.KernelIdeal.Gen.frame m g,
    fun m g _ => Cert.KernelIdeal.Gen.frame m g,
    frame_reference,
    fun m g _ => frame_reference m g trivial,
    fun m g _ => Cert.AttnProj.Gen.frame m g,
    fun m g _ => Cert.AttnProjIdeal.Gen.frame m g,
    frame_AttnProj,
    fun m g _ => Cert.RwkvProj.Gen.frame m g,
    fun m g _ => Cert.RwkvProjIdeal.Gen.frame m g,
    frame_RwkvProj,
    fun m g _ => Cert.RwkvOut.Gen.frame m g,
    fun m g _ => Cert.RwkvOutIdeal.Gen.frame m g,
    frame_RwkvOut,
    fun m g _ => Cert.SampleOut.Gen.frame m g,
    fun m g _ => Cert.SampleOutIdeal.Gen.frame m g,
    frame_SampleOut,
    fun m g _ => Cert.SampleProj.Gen.frame m g,
    fun m g _ => Cert.SampleProjIdeal.Gen.frame m g,
    frame_SampleProj,
    IdealRules.named_const.statement Cert.KernelIdeal.κ "mask" .f32 0xF149F2CA#32 ⊥ rfl,
    Attn.whole,
    Proj.attn_proj_whole,
    ProjW.rwkv_proj_whole,
    ProjO.rwkv_out_whole,
    ProjS.sample_out_whole,
    ProjV.sample_proj_whole⟩

end Cert.Proof

end
